-- ==== Defs.lean ====
def Pre_Kernel [hPre_sorted_offsets : Cert.Pre_sorted_offsets.Facts] (m : (ℓ : Loc Cert.Kernel.nD Cert.Kernel.τ Cert.Kernel.sig) → Buf (Elt Bits) ℓ) : Prop :=
  ∀ c : Dev Cert.Kernel.nD,
    (Cert.Pre_sorted_offsets.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_sorted_offsets : Cert.Pre_sorted_offsets.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_sorted_offsets : Cert.Pre_sorted_offsets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_sorted_offsets : Cert.Pre_sorted_offsets.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_sorted_offsets : Cert.Pre_sorted_offsets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_sorted_offsets : Cert.Pre_sorted_offsets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_offsets : Cert.Pre_sorted_offsets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_offsets : Cert.Pre_sorted_offsets.Facts),
    quiescent_Kernel (hKernel := hKernel) (hPre_sorted_offsets := hPre_sorted_offsets)
    ∧ quiescent_KernelIdeal (hKernelIdeal := hKernelIdeal) (hPre_sorted_offsets := hPre_sorted_offsets)
    ∧ quiescent_ReferenceIdeal (hReferenceIdeal := hReferenceIdeal) (hPre_sorted_offsets := hPre_sorted_offsets)
    ∧ preserves_Kernel_KernelIdeal
    ∧ algebraic_KernelIdeal_ReferenceIdeal (hKernelIdeal := hKernelIdeal) (hReferenceIdeal := hReferenceIdeal) (hPre_sorted_offsets := hPre_sorted_offsets)
-- ==== Pre_sorted_offsets.lean ====
abbrev S32768x1024 : Shape := ⟨2, ![32768, 1024]⟩
abbrev S32768x16 : Shape := ⟨2, ![32768, 16]⟩
abbrev S65 : Shape := ⟨1, ![65]⟩
abbrev S1 : Shape := ⟨1, ![1]⟩
abbrev S_ : Shape := ⟨0, ![]⟩
abbrev S64 : Shape := ⟨1, ![64]⟩

class Facts : Prop where
  slices_S65_S1_0 : S65.Slices ![0] S1
  shapeCasts_S1_S_ : S1.ShapeCasts S_
  slices_S65_S64_1 : S65.Slices ![1] S64
  slices_S65_S64_0 : S65.Slices ![0] S64
  reducesTo_S64_S_d0 : S64.ReducesTo [0] S_
  h_S_ : 0 < S_.numel
  slices_S65_S1_64 : S65.Slices ![64] S1

variable [Facts]

def fn {F : FTy → Type} [FloatOps F] (main_arg0 : FVec F S32768x1024 .fp8e4m3) (main_arg1 : FVec F S32768x16 .f32) (main_arg2 : IVec S65 32) : IVec S_ 1 :=
  let main_v0 : IVec S1 32 := (extractStridedSlice S1 ![0] · slices_S65_S1_0) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S64 32 := (extractStridedSlice S64 ![1] · slices_S65_S64_1) main_arg2
  let main_v4 : IVec S64 32 := (extractStridedSlice S64 ![0] · slices_S65_S64_0) main_arg2
  let main_v5 : IVec S64 1 := cmpi .sge main_v3 main_v4
  let main_c_0 : IVec S_ 1 := constantI S_ 1 1#1
  let main_v6 : IVec S_ 1 := (fun x v => Host.reduce IntOp.andi x v reducesTo_S64_S_d0 h_S_) main_v5 main_c_0
  let main_v7 : IVec S_ 1 := andi main_v2 main_v6
  let main_v8 : IVec S1 32 := (extractStridedSlice S1 ![64] · slices_S65_S1_64) main_arg2
  let main_v9 : IVec S_ 32 := shapeCast S_ main_v8 shapeCasts_S1_S_
  let main_c_1 : IVec S_ 32 := constantI S_ 32 32768#32
  let main_v10 : IVec S_ 1 := cmpi .sle main_v9 main_c_1
  let main_v11 : IVec S_ 1 := andi main_v7 main_v10
  main_v11
-- ==== Kernel.lean ====
abbrev S32768x1024 : Shape := ⟨2, ![32768, 1024]⟩
abbrev S32768x16 : Shape := ⟨2, ![32768, 16]⟩
abbrev S65 : Shape := ⟨1, ![65]⟩
abbrev S16x32768 : Shape := ⟨2, ![16, 32768]⟩
abbrev S64x1024x1024 : Shape := ⟨3, ![64, 1024, 1024]⟩
abbrev S64 : Shape := ⟨1, ![64]⟩
abbrev S8x256x1024 : Shape := ⟨3, ![8, 256, 1024]⟩
abbrev S8x16x256 : Shape := ⟨3, ![8, 16, 256]⟩
abbrev S1024x256 : Shape := ⟨2, ![1024, 256]⟩
abbrev S11x1024x1024 : Shape := ⟨3, ![11, 1024, 1024]⟩
abbrev S256x1024 : Shape := ⟨2, ![256, 1024]⟩
abbrev S8 : Shape := ⟨1, ![8]⟩
abbrev S11 : Shape := ⟨1, ![11]⟩
abbrev S_ : Shape := ⟨0, ![]⟩
abbrev S3 : Shape := ⟨1, ![3]⟩
abbrev S1 : Shape := ⟨1, ![1]⟩
abbrev S1x256x1024 : Shape := ⟨3, ![1, 256, 1024]⟩
abbrev S1x16x256 : Shape := ⟨3, ![1, 16, 256]⟩
abbrev S16x256 : Shape := ⟨2, ![16, 256]⟩
abbrev S1x1024x1024 : Shape := ⟨3, ![1, 1024, 1024]⟩
abbrev S1024x1024 : Shape := ⟨2, ![1024, 1024]⟩
abbrev S1x256 : Shape := ⟨2, ![1, 256]⟩
abbrev S64x256 : Shape := ⟨2, ![64, 256]⟩
abbrev S4x16x256 : Shape := ⟨3, ![4, 16, 256]⟩
abbrev S256x256 : Shape := ⟨2, ![256, 256]⟩
abbrev S1x256x256 : Shape := ⟨3, ![1, 256, 256]⟩
abbrev S512x256 : Shape := ⟨2, ![512, 256]⟩
abbrev S1x512x256 : Shape := ⟨3, ![1, 512, 256]⟩
abbrev S768x256 : Shape := ⟨2, ![768, 256]⟩
abbrev S1x768x256 : Shape := ⟨3, ![1, 768, 256]⟩
abbrev S1x1024x256 : Shape := ⟨3, ![1, 1024, 256]⟩

abbrev nBuf : Space → Nat
  | .hbm => 6
  | .vmem => 5
  | .smem => 3
  | _ => 0

abbrev bufTy : (tb : Table) → Fin (tcTables nBuf tb) → BufTy
  | .hbm, ⟨0, _⟩ => ⟨S32768x1024, .fp8e4m3⟩
  | .hbm, ⟨1, _⟩ => ⟨S32768x16, .f32⟩
  | .hbm, ⟨2, _⟩ => ⟨S65, .i32⟩
  | .hbm, ⟨3, _⟩ => ⟨S16x32768, .f32⟩
  | .hbm, ⟨4, _⟩ => ⟨S64x1024x1024, .f32⟩
  | .hbm, ⟨5, _⟩ => ⟨S64, .i32⟩
  | .local _ .vmem, ⟨0, _⟩ => ⟨S8x256x1024, .fp8e4m3⟩
  | .local _ .vmem, ⟨1, _⟩ => ⟨S8x16x256, .f32⟩
  | .local _ .vmem, ⟨2, _⟩ => ⟨S1024x256, .bf16⟩
  | .local _ .vmem, ⟨3, _⟩ => ⟨S11x1024x1024, .f32⟩
  | .local _ .vmem, ⟨4, _⟩ => ⟨S256x1024, .f32⟩
  | .local _ .smem, ⟨0, _⟩ => ⟨S65, .i32⟩
  | .local _ .smem, ⟨1, _⟩ => ⟨S64, .i32⟩
  | .local _ .smem, ⟨2, _⟩ => ⟨S3, .i32⟩
  | _, _ => ⟨S32768x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_scratch9 : Ref sig .tc := ⟨.smem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c64_i32 : BitVec 32 := 64#32
  let v0 : BitVec 32 := Scalar.addi c0_i32_0 c64_i32
  let c1_i32 : BitVec 32 := 1#32
  ⟨c0_i32_0, v0, c1_i32⟩
def k0_off1 (arg16 : BitVec 32) : Fin 1 → Nat :=
  let c63_i32 : BitVec 32 := 63#32
  let v58 : BitVec 32 := Scalar.minsi arg16 c63_i32
  let v59 : Index := Scalar.indexCast v58
  ![v59.toNat]

def k0_off2 (arg16 : BitVec 32) : Fin 1 → Nat :=
  let c63_i32 : BitVec 32 := 63#32
  let v58 : BitVec 32 := Scalar.minsi arg16 c63_i32
  let c1_i32_48 : BitVec 32 := 1#32
  let v61 : BitVec 32 := Scalar.addi v58 c1_i32_48
  let v62 : Index := Scalar.indexCast v61
  ![v62.toNat]

def k0_chk1 (arg16 : BitVec 32) : Prop :=
  (∀ a, (k0_off1 arg16) a + S1.size a ≤ S65.size a) ∧
  (∀ a, (k0_off2 arg16) a + S1.size a ≤ S65.size a)
theorem k0_off1_inb : ∀ (arg16 : BitVec 32) (k0_hw1 : k0_chk1 arg16), ∀ a, (k0_off1 arg16) a + S1.size a ≤ S65.size a := fun arg16 k0_hw1 => k0_hw1.1
theorem k0_off2_inb : ∀ (arg16 : BitVec 32) (k0_hw1 : k0_chk1 arg16), ∀ a, (k0_off2 arg16) a + S1.size a ≤ S65.size a := fun arg16 k0_hw1 => k0_hw1.2

def k0_off3 (v5 : BitVec 32) : Fin 1 → Nat :=
  let v59 : Index := Scalar.indexCast v5
  ![v59.toNat]
def k0_cond1 (v5 : BitVec 32) : BitVec 1 :=
  let c64_i32_4 : BitVec 32 := 64#32
  let v6 : BitVec 1 := Scalar.cmpi .slt v5 c64_i32_4
  let v7 : BitVec 32 := Scalar.extui v6
  let c0_i32_5 : BitVec 32 := 0#32
  let v8 : BitVec 1 := Scalar.cmpi .ne v7 c0_i32_5
  v8

def k0_mult1 (v57 : BitVec 32) (v60 : BitVec 32) : BitVec 32 :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  v81

def k0_off4 (v58 : BitVec 32) : Fin 1 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  ![v91.toNat]

def k0_off5 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_61 : BitVec 32 := 0#32
  let c0_i32_62 : BitVec 32 := 0#32
  ![v91.toNat, 0, 0]
def k0_off6 (v57 : BitVec 32) (v60 : BitVec 32) : Fin 2 → Nat :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  let c0_i32_63 : BitVec 32 := 0#32
  ![v92.toNat, 0]
def k0_off7 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_64 : BitVec 32 := 0#32
  let c0_i32_65 : BitVec 32 := 0#32
  ![v91.toNat, 0, 0]

def k0_chk4 (v5 : BitVec 32) (v58 : BitVec 32) : Prop :=
  (∀ (k0_h1 : k0_cond1 v5 = 1#1), ∀ a, (k0_off4 v58) a + S1.size a ≤ S8.size a) ∧
  (∀ (k0_h1 : k0_cond1 v5 = 1#1), ∀ a, (k0_off5 v58) a + S1x256x1024.size a ≤ S8x256x1024.size a) ∧
  (∀ (k0_h1 : k0_cond1 v5 = 1#1), ∀ (hinb : ∀ a, (k0_off5 v58) a + S1x256x1024.size a ≤ S8x256x1024.size a), (Rect.unit (s := S8x256x1024) (k0_off5 v58) S1x256x1024.size hinb).WholeWords (EltTy.packing .fp8e4m3)) ∧
  (∀ (k0_h1 : k0_cond1 v5 = 1#1), ∀ a, (k0_off7 v58) a + S1x16x256.size a ≤ S8x16x256.size a)
theorem k0_off4_inb : ∀ (v5 : BitVec 32) (v58 : BitVec 32) (k0_hw4 : k0_chk4 v5 v58), ∀ (k0_h1 : k0_cond1 v5 = 1#1), ∀ a, (k0_off4 v58) a + S1.size a ≤ S8.size a := fun v5 v58 k0_hw4 k0_h1 => k0_hw4.1 k0_h1
theorem k0_off5_inb : ∀ (v5 : BitVec 32) (v58 : BitVec 32) (k0_hw4 : k0_chk4 v5 v58), ∀ (k0_h1 : k0_cond1 v5 = 1#1), ∀ a, (k0_off5 v58) a + S1x256x1024.size a ≤ S8x256x1024.size a := fun v5 v58 k0_hw4 k0_h1 => k0_hw4.2.1 k0_h1
theorem k0_off5_wordsfp8e4m3 : ∀ (v5 : BitVec 32) (v58 : BitVec 32) (k0_hw4 : k0_chk4 v5 v58), ∀ (k0_h1 : k0_cond1 v5 = 1#1), (Rect.unit (s := S8x256x1024) (k0_off5 v58) S1x256x1024.size (k0_off5_inb v5 v58 k0_hw4 k0_h1)).WholeWords (EltTy.packing .fp8e4m3) := fun v5 v58 k0_hw4 k0_h1 => k0_hw4.2.2.1 k0_h1 (k0_off5_inb v5 v58 k0_hw4 k0_h1)
theorem k0_off7_inb : ∀ (v5 : BitVec 32) (v58 : BitVec 32) (k0_hw4 : k0_chk4 v5 v58), ∀ (k0_h1 : k0_cond1 v5 = 1#1), ∀ a, (k0_off7 v58) a + S1x16x256.size a ≤ S8x16x256.size a := fun v5 v58 k0_hw4 k0_h1 => k0_hw4.2.2.2 k0_h1

def k0_off8 (v57 : BitVec 32) (v60 : BitVec 32) : Fin 2 → Nat :=
  let c0_i32_66 : BitVec 32 := 0#32
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  ![0, v92.toNat]

def k0_chk3 (v5 : BitVec 32) (v57 : BitVec 32) (v60 : BitVec 32) : Prop :=
  (∀ (k0_h1 : k0_cond1 v5 = 1#1), 128 ∣ (k0_mult1 v57 v60).toNat) ∧
  (∀ (k0_h1 : k0_cond1 v5 = 1#1), ∀ a, (k0_off6 v57 v60) a + S256x1024.size a ≤ S32768x1024.size a) ∧
  (∀ (k0_h1 : k0_cond1 v5 = 1#1), ∀ (hinb : ∀ a, (k0_off6 v57 v60) a + S256x1024.size a ≤ S32768x1024.size a), (Rect.unit (s := S32768x1024) (k0_off6 v57 v60) S256x1024.size hinb).WholeWords (EltTy.packing .fp8e4m3)) ∧
  (∀ (k0_h1 : k0_cond1 v5 = 1#1), ∀ a, (k0_off8 v57 v60) a + S16x256.size a ≤ S16x32768.size a)
theorem k0_mult1_dvd : ∀ (v5 : BitVec 32) (v57 : BitVec 32) (v60 : BitVec 32) (k0_hw3 : k0_chk3 v5 v57 v60), ∀ (k0_h1 : k0_cond1 v5 = 1#1), 128 ∣ (k0_mult1 v57 v60).toNat := fun v5 v57 v60 k0_hw3 k0_h1 => k0_hw3.1 k0_h1
theorem k0_off6_inb : ∀ (v5 : BitVec 32) (v57 : BitVec 32) (v60 : BitVec 32) (k0_hw3 : k0_chk3 v5 v57 v60), ∀ (k0_h1 : k0_cond1 v5 = 1#1), ∀ a, (k0_off6 v57 v60) a + S256x1024.size a ≤ S32768x1024.size a := fun v5 v57 v60 k0_hw3 k0_h1 => k0_hw3.2.1 k0_h1
theorem k0_off6_wordsfp8e4m3 : ∀ (v5 : BitVec 32) (v57 : BitVec 32) (v60 : BitVec 32) (k0_hw3 : k0_chk3 v5 v57 v60), ∀ (k0_h1 : k0_cond1 v5 = 1#1), (Rect.unit (s := S32768x1024) (k0_off6 v57 v60) S256x1024.size (k0_off6_inb v5 v57 v60 k0_hw3 k0_h1)).WholeWords (EltTy.packing .fp8e4m3) := fun v5 v57 v60 k0_hw3 k0_h1 => k0_hw3.2.2.1 k0_h1 (k0_off6_inb v5 v57 v60 k0_hw3 k0_h1)
theorem k0_off8_inb : ∀ (v5 : BitVec 32) (v57 : BitVec 32) (v60 : BitVec 32) (k0_hw3 : k0_chk3 v5 v57 v60), ∀ (k0_h1 : k0_cond1 v5 = 1#1), ∀ a, (k0_off8 v57 v60) a + S16x256.size a ≤ S16x32768.size a := fun v5 v57 v60 k0_hw3 k0_h1 => k0_hw3.2.2.2 k0_h1

def k0_off9 (v5 : BitVec 32) : Fin 1 → Nat :=
  let v106 : Index := Scalar.indexCast v5
  ![v106.toNat]
def k0_off10 (v5 : BitVec 32) : Fin 1 → Nat :=
  let c1_i32_70 : BitVec 32 := 1#32
  let v108 : BitVec 32 := Scalar.addi v5 c1_i32_70
  let v109 : Index := Scalar.indexCast v108
  ![v109.toNat]

def k0_chk2 (v5 : BitVec 32) : Prop :=
  (∀ (k0_h1 : k0_cond1 v5 = 1#1), ∀ a, (k0_off3 v5) a + S1.size a ≤ S65.size a) ∧
  (∀ (k0_h1 : k0_cond1 v5 = 1#1), ∀ a, (k0_off9 v5) a + S1.size a ≤ S65.size a) ∧
  (∀ (k0_h1 : k0_cond1 v5 = 1#1), ∀ a, (k0_off10 v5) a + S1.size a ≤ S65.size a)
theorem k0_off3_inb : ∀ (v5 : BitVec 32) (k0_hw2 : k0_chk2 v5), ∀ (k0_h1 : k0_cond1 v5 = 1#1), ∀ a, (k0_off3 v5) a + S1.size a ≤ S65.size a := fun v5 k0_hw2 k0_h1 => k0_hw2.1 k0_h1
theorem k0_off9_inb : ∀ (v5 : BitVec 32) (k0_hw2 : k0_chk2 v5), ∀ (k0_h1 : k0_cond1 v5 = 1#1), ∀ a, (k0_off9 v5) a + S1.size a ≤ S65.size a := fun v5 k0_hw2 k0_h1 => k0_hw2.2.1 k0_h1
theorem k0_off10_inb : ∀ (v5 : BitVec 32) (k0_hw2 : k0_chk2 v5), ∀ (k0_h1 : k0_cond1 v5 = 1#1), ∀ a, (k0_off10 v5) a + S1.size a ≤ S65.size a := fun v5 k0_hw2 k0_h1 => k0_hw2.2.2 k0_h1

@[reducible] def k0_t2_loop : Scf.Loop 32 :=
  let c0_i32_94 : BitVec 32 := 0#32
  let c64_i32_95 : BitVec 32 := 64#32
  let v158 : BitVec 32 := Scalar.addi c0_i32_94 c64_i32_95
  let c1_i32_96 : BitVec 32 := 1#32
  ⟨c0_i32_94, v158, c1_i32_96⟩
def k0_off11 (arg16 : BitVec 32) : Fin 1 → Nat :=
  let c63_i32 : BitVec 32 := 63#32
  let v162 : BitVec 32 := Scalar.minsi arg16 c63_i32
  let v163 : Index := Scalar.indexCast v162
  ![v163.toNat]
def k0_cond2 (v57 : BitVec 32) (v107 : BitVec 32) (v110 : BitVec 32) : BitVec 1 :=
  let c1_i32_69 : BitVec 32 := 1#32
  let v105 : BitVec 32 := Scalar.addi v57 c1_i32_69
  let v129 : BitVec 1 := Scalar.cmpi .sgt v110 v107
  let c0_i32_72 : BitVec 32 := 0#32
  let v112 : BitVec 1 := Scalar.cmpi .sgt v107 c0_i32_72
  let v113 : BitVec 32 := Scalar.extui v112
  let c0_i32_73 : BitVec 32 := 0#32
  let v114 : BitVec 1 := Scalar.cmpi .slt v107 c0_i32_73
  let v115 : BitVec 32 := Scalar.extui v114
  let v116 : BitVec 32 := Scalar.subi v113 v115
  let c128_i32_71 : BitVec 32 := 128#32
  let c0_i32_74 : BitVec 32 := 0#32
  let v117 : BitVec 1 := Scalar.cmpi .sgt c128_i32_71 c0_i32_74
  let v118 : BitVec 32 := Scalar.extui v117
  let c0_i32_75 : BitVec 32 := 0#32
  let v119 : BitVec 1 := Scalar.cmpi .slt c128_i32_71 c0_i32_75
  let v120 : BitVec 32 := Scalar.extui v119
  let v121 : BitVec 32 := Scalar.subi v118 v120
  let v122 : BitVec 1 := Scalar.cmpi .ne v116 v121
  let v123 : BitVec 32 := Scalar.remsi v107 c128_i32_71
  let c0_i32_76 : BitVec 32 := 0#32
  let v124 : BitVec 1 := Scalar.cmpi .ne v123 c0_i32_76
  let v125 : BitVec 1 := Scalar.andi v122 v124
  let v111 : BitVec 32 := Scalar.divsi v107 c128_i32_71
  let c1_i32_77 : BitVec 32 := 1#32
  let v126 : BitVec 32 := Scalar.subi v111 c1_i32_77
  let v127 : BitVec 32 := Scalar.select v125 v126 v111
  let c128_i32_78 : BitVec 32 := 128#32
  let v128 : BitVec 32 := Scalar.muli v127 c128_i32_78
  let v130 : BitVec 32 := Scalar.subi v110 v128
  let c256_i32_79 : BitVec 32 := 256#32
  let v131 : BitVec 32 := Scalar.addi v130 c256_i32_79
  let c1_i32_80 : BitVec 32 := 1#32
  let v132 : BitVec 32 := Scalar.subi v131 c1_i32_80
  let c0_i32_82 : BitVec 32 := 0#32
  let v134 : BitVec 1 := Scalar.cmpi .sgt v132 c0_i32_82
  let v135 : BitVec 32 := Scalar.extui v134
  let c0_i32_83 : BitVec 32 := 0#32
  let v136 : BitVec 1 := Scalar.cmpi .slt v132 c0_i32_83
  let v137 : BitVec 32 := Scalar.extui v136
  let v138 : BitVec 32 := Scalar.subi v135 v137
  let c256_i32_81 : BitVec 32 := 256#32
  let c0_i32_84 : BitVec 32 := 0#32
  let v139 : BitVec 1 := Scalar.cmpi .sgt c256_i32_81 c0_i32_84
  let v140 : BitVec 32 := Scalar.extui v139
  let c0_i32_85 : BitVec 32 := 0#32
  let v141 : BitVec 1 := Scalar.cmpi .slt c256_i32_81 c0_i32_85
  let v142 : BitVec 32 := Scalar.extui v141
  let v143 : BitVec 32 := Scalar.subi v140 v142
  let v144 : BitVec 1 := Scalar.cmpi .ne v138 v143
  let v145 : BitVec 32 := Scalar.remsi v132 c256_i32_81
  let c0_i32_86 : BitVec 32 := 0#32
  let v146 : BitVec 1 := Scalar.cmpi .ne v145 c0_i32_86
  let v147 : BitVec 1 := Scalar.andi v144 v146
  let v133 : BitVec 32 := Scalar.divsi v132 c256_i32_81
  let c1_i32_87 : BitVec 32 := 1#32
  let v148 : BitVec 32 := Scalar.subi v133 c1_i32_87
  let v149 : BitVec 32 := Scalar.select v147 v148 v133
  let c0_i32_88 : BitVec 32 := 0#32
  let v150 : BitVec 32 := Scalar.select v129 v149 c0_i32_88
  let v151 : BitVec 1 := Scalar.cmpi .sge v105 v150
  let v155 : BitVec 32 := Scalar.extui v151
  let c0_i32_92 : BitVec 32 := 0#32
  let v156 : BitVec 1 := Scalar.cmpi .ne v155 c0_i32_92
  v156

def k0_off12 (arg16 : BitVec 32) : Fin 1 → Nat :=
  let c63_i32 : BitVec 32 := 63#32
  let v162 : BitVec 32 := Scalar.minsi arg16 c63_i32
  let c1_i32_99 : BitVec 32 := 1#32
  let v165 : BitVec 32 := Scalar.addi v162 c1_i32_99
  let v166 : Index := Scalar.indexCast v165
  ![v166.toNat]

def k0_chk5 (v5 : BitVec 32) (v57 : BitVec 32) (v107 : BitVec 32) (v110 : BitVec 32) (arg16 : BitVec 32) : Prop :=
  (∀ (k0_h1 : k0_cond1 v5 = 1#1), ∀ (k0_h2 : k0_cond2 v57 v107 v110 = 1#1), ∀ a, (k0_off11 arg16) a + S1.size a ≤ S65.size a) ∧
  (∀ (k0_h1 : k0_cond1 v5 = 1#1), ∀ (k0_h2 : k0_cond2 v57 v107 v110 = 1#1), ∀ a, (k0_off12 arg16) a + S1.size a ≤ S65.size a)
theorem k0_off11_inb : ∀ (v5 : BitVec 32) (v57 : BitVec 32) (v107 : BitVec 32) (v110 : BitVec 32) (arg16 : BitVec 32) (k0_hw5 : k0_chk5 v5 v57 v107 v110 arg16), ∀ (k0_h1 : k0_cond1 v5 = 1#1), ∀ (k0_h2 : k0_cond2 v57 v107 v110 = 1#1), ∀ a, (k0_off11 arg16) a + S1.size a ≤ S65.size a := fun v5 v57 v107 v110 arg16 k0_hw5 k0_h1 k0_h2 => k0_hw5.1 k0_h1 k0_h2
theorem k0_off12_inb : ∀ (v5 : BitVec 32) (v57 : BitVec 32) (v107 : BitVec 32) (v110 : BitVec 32) (arg16 : BitVec 32) (k0_hw5 : k0_chk5 v5 v57 v107 v110 arg16), ∀ (k0_h1 : k0_cond1 v5 = 1#1), ∀ (k0_h2 : k0_cond2 v57 v107 v110 = 1#1), ∀ a, (k0_off12 arg16) a + S1.size a ≤ S65.size a := fun v5 v57 v107 v110 arg16 k0_hw5 k0_h1 k0_h2 => k0_hw5.2 k0_h1 k0_h2

def k0_off13 (v9 : BitVec 32) : Fin 1 → Nat :=
  let v59 : Index := Scalar.indexCast v9
  ![v59.toNat]
def k0_cond3 (v9 : BitVec 32) : BitVec 1 :=
  let c64_i32_7 : BitVec 32 := 64#32
  let v10 : BitVec 1 := Scalar.cmpi .slt v9 c64_i32_7
  let v11 : BitVec 32 := Scalar.extui v10
  let c0_i32_8 : BitVec 32 := 0#32
  let v12 : BitVec 1 := Scalar.cmpi .ne v11 c0_i32_8
  v12

def k0_mult2 (v57 : BitVec 32) (v60 : BitVec 32) : BitVec 32 :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  v81

def k0_off14 (v58 : BitVec 32) : Fin 1 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  ![v91.toNat]

def k0_off15 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_61 : BitVec 32 := 0#32
  let c0_i32_62 : BitVec 32 := 0#32
  ![v91.toNat, 0, 0]
def k0_off16 (v57 : BitVec 32) (v60 : BitVec 32) : Fin 2 → Nat :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  let c0_i32_63 : BitVec 32 := 0#32
  ![v92.toNat, 0]
def k0_off17 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_64 : BitVec 32 := 0#32
  let c0_i32_65 : BitVec 32 := 0#32
  ![v91.toNat, 0, 0]

def k0_chk8 (v9 : BitVec 32) (v58 : BitVec 32) : Prop :=
  (∀ (k0_h3 : k0_cond3 v9 = 1#1), ∀ a, (k0_off14 v58) a + S1.size a ≤ S8.size a) ∧
  (∀ (k0_h3 : k0_cond3 v9 = 1#1), ∀ a, (k0_off15 v58) a + S1x256x1024.size a ≤ S8x256x1024.size a) ∧
  (∀ (k0_h3 : k0_cond3 v9 = 1#1), ∀ (hinb : ∀ a, (k0_off15 v58) a + S1x256x1024.size a ≤ S8x256x1024.size a), (Rect.unit (s := S8x256x1024) (k0_off15 v58) S1x256x1024.size hinb).WholeWords (EltTy.packing .fp8e4m3)) ∧
  (∀ (k0_h3 : k0_cond3 v9 = 1#1), ∀ a, (k0_off17 v58) a + S1x16x256.size a ≤ S8x16x256.size a)
theorem k0_off14_inb : ∀ (v9 : BitVec 32) (v58 : BitVec 32) (k0_hw8 : k0_chk8 v9 v58), ∀ (k0_h3 : k0_cond3 v9 = 1#1), ∀ a, (k0_off14 v58) a + S1.size a ≤ S8.size a := fun v9 v58 k0_hw8 k0_h3 => k0_hw8.1 k0_h3
theorem k0_off15_inb : ∀ (v9 : BitVec 32) (v58 : BitVec 32) (k0_hw8 : k0_chk8 v9 v58), ∀ (k0_h3 : k0_cond3 v9 = 1#1), ∀ a, (k0_off15 v58) a + S1x256x1024.size a ≤ S8x256x1024.size a := fun v9 v58 k0_hw8 k0_h3 => k0_hw8.2.1 k0_h3
theorem k0_off15_wordsfp8e4m3 : ∀ (v9 : BitVec 32) (v58 : BitVec 32) (k0_hw8 : k0_chk8 v9 v58), ∀ (k0_h3 : k0_cond3 v9 = 1#1), (Rect.unit (s := S8x256x1024) (k0_off15 v58) S1x256x1024.size (k0_off15_inb v9 v58 k0_hw8 k0_h3)).WholeWords (EltTy.packing .fp8e4m3) := fun v9 v58 k0_hw8 k0_h3 => k0_hw8.2.2.1 k0_h3 (k0_off15_inb v9 v58 k0_hw8 k0_h3)
theorem k0_off17_inb : ∀ (v9 : BitVec 32) (v58 : BitVec 32) (k0_hw8 : k0_chk8 v9 v58), ∀ (k0_h3 : k0_cond3 v9 = 1#1), ∀ a, (k0_off17 v58) a + S1x16x256.size a ≤ S8x16x256.size a := fun v9 v58 k0_hw8 k0_h3 => k0_hw8.2.2.2 k0_h3

def k0_off18 (v57 : BitVec 32) (v60 : BitVec 32) : Fin 2 → Nat :=
  let c0_i32_66 : BitVec 32 := 0#32
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  ![0, v92.toNat]

def k0_chk7 (v9 : BitVec 32) (v57 : BitVec 32) (v60 : BitVec 32) : Prop :=
  (∀ (k0_h3 : k0_cond3 v9 = 1#1), 128 ∣ (k0_mult2 v57 v60).toNat) ∧
  (∀ (k0_h3 : k0_cond3 v9 = 1#1), ∀ a, (k0_off16 v57 v60) a + S256x1024.size a ≤ S32768x1024.size a) ∧
  (∀ (k0_h3 : k0_cond3 v9 = 1#1), ∀ (hinb : ∀ a, (k0_off16 v57 v60) a + S256x1024.size a ≤ S32768x1024.size a), (Rect.unit (s := S32768x1024) (k0_off16 v57 v60) S256x1024.size hinb).WholeWords (EltTy.packing .fp8e4m3)) ∧
  (∀ (k0_h3 : k0_cond3 v9 = 1#1), ∀ a, (k0_off18 v57 v60) a + S16x256.size a ≤ S16x32768.size a)
theorem k0_mult2_dvd : ∀ (v9 : BitVec 32) (v57 : BitVec 32) (v60 : BitVec 32) (k0_hw7 : k0_chk7 v9 v57 v60), ∀ (k0_h3 : k0_cond3 v9 = 1#1), 128 ∣ (k0_mult2 v57 v60).toNat := fun v9 v57 v60 k0_hw7 k0_h3 => k0_hw7.1 k0_h3
theorem k0_off16_inb : ∀ (v9 : BitVec 32) (v57 : BitVec 32) (v60 : BitVec 32) (k0_hw7 : k0_chk7 v9 v57 v60), ∀ (k0_h3 : k0_cond3 v9 = 1#1), ∀ a, (k0_off16 v57 v60) a + S256x1024.size a ≤ S32768x1024.size a := fun v9 v57 v60 k0_hw7 k0_h3 => k0_hw7.2.1 k0_h3
theorem k0_off16_wordsfp8e4m3 : ∀ (v9 : BitVec 32) (v57 : BitVec 32) (v60 : BitVec 32) (k0_hw7 : k0_chk7 v9 v57 v60), ∀ (k0_h3 : k0_cond3 v9 = 1#1), (Rect.unit (s := S32768x1024) (k0_off16 v57 v60) S256x1024.size (k0_off16_inb v9 v57 v60 k0_hw7 k0_h3)).WholeWords (EltTy.packing .fp8e4m3) := fun v9 v57 v60 k0_hw7 k0_h3 => k0_hw7.2.2.1 k0_h3 (k0_off16_inb v9 v57 v60 k0_hw7 k0_h3)
theorem k0_off18_inb : ∀ (v9 : BitVec 32) (v57 : BitVec 32) (v60 : BitVec 32) (k0_hw7 : k0_chk7 v9 v57 v60), ∀ (k0_h3 : k0_cond3 v9 = 1#1), ∀ a, (k0_off18 v57 v60) a + S16x256.size a ≤ S16x32768.size a := fun v9 v57 v60 k0_hw7 k0_h3 => k0_hw7.2.2.2 k0_h3

def k0_off19 (v9 : BitVec 32) : Fin 1 → Nat :=
  let v106 : Index := Scalar.indexCast v9
  ![v106.toNat]
def k0_off20 (v9 : BitVec 32) : Fin 1 → Nat :=
  let c1_i32_70 : BitVec 32 := 1#32
  let v108 : BitVec 32 := Scalar.addi v9 c1_i32_70
  let v109 : Index := Scalar.indexCast v108
  ![v109.toNat]

def k0_chk6 (v9 : BitVec 32) : Prop :=
  (∀ (k0_h3 : k0_cond3 v9 = 1#1), ∀ a, (k0_off13 v9) a + S1.size a ≤ S65.size a) ∧
  (∀ (k0_h3 : k0_cond3 v9 = 1#1), ∀ a, (k0_off19 v9) a + S1.size a ≤ S65.size a) ∧
  (∀ (k0_h3 : k0_cond3 v9 = 1#1), ∀ a, (k0_off20 v9) a + S1.size a ≤ S65.size a)
theorem k0_off13_inb : ∀ (v9 : BitVec 32) (k0_hw6 : k0_chk6 v9), ∀ (k0_h3 : k0_cond3 v9 = 1#1), ∀ a, (k0_off13 v9) a + S1.size a ≤ S65.size a := fun v9 k0_hw6 k0_h3 => k0_hw6.1 k0_h3
theorem k0_off19_inb : ∀ (v9 : BitVec 32) (k0_hw6 : k0_chk6 v9), ∀ (k0_h3 : k0_cond3 v9 = 1#1), ∀ a, (k0_off19 v9) a + S1.size a ≤ S65.size a := fun v9 k0_hw6 k0_h3 => k0_hw6.2.1 k0_h3
theorem k0_off20_inb : ∀ (v9 : BitVec 32) (k0_hw6 : k0_chk6 v9), ∀ (k0_h3 : k0_cond3 v9 = 1#1), ∀ a, (k0_off20 v9) a + S1.size a ≤ S65.size a := fun v9 k0_hw6 k0_h3 => k0_hw6.2.2 k0_h3

@[reducible] def k0_t3_loop : Scf.Loop 32 :=
  let c0_i32_94 : BitVec 32 := 0#32
  let c64_i32_95 : BitVec 32 := 64#32
  let v158 : BitVec 32 := Scalar.addi c0_i32_94 c64_i32_95
  let c1_i32_96 : BitVec 32 := 1#32
  ⟨c0_i32_94, v158, c1_i32_96⟩
def k0_off21 (arg16 : BitVec 32) : Fin 1 → Nat :=
  let c63_i32 : BitVec 32 := 63#32
  let v162 : BitVec 32 := Scalar.minsi arg16 c63_i32
  let v163 : Index := Scalar.indexCast v162
  ![v163.toNat]
def k0_cond4 (v57 : BitVec 32) (v107 : BitVec 32) (v110 : BitVec 32) : BitVec 1 :=
  let c1_i32_69 : BitVec 32 := 1#32
  let v105 : BitVec 32 := Scalar.addi v57 c1_i32_69
  let v129 : BitVec 1 := Scalar.cmpi .sgt v110 v107
  let c0_i32_72 : BitVec 32 := 0#32
  let v112 : BitVec 1 := Scalar.cmpi .sgt v107 c0_i32_72
  let v113 : BitVec 32 := Scalar.extui v112
  let c0_i32_73 : BitVec 32 := 0#32
  let v114 : BitVec 1 := Scalar.cmpi .slt v107 c0_i32_73
  let v115 : BitVec 32 := Scalar.extui v114
  let v116 : BitVec 32 := Scalar.subi v113 v115
  let c128_i32_71 : BitVec 32 := 128#32
  let c0_i32_74 : BitVec 32 := 0#32
  let v117 : BitVec 1 := Scalar.cmpi .sgt c128_i32_71 c0_i32_74
  let v118 : BitVec 32 := Scalar.extui v117
  let c0_i32_75 : BitVec 32 := 0#32
  let v119 : BitVec 1 := Scalar.cmpi .slt c128_i32_71 c0_i32_75
  let v120 : BitVec 32 := Scalar.extui v119
  let v121 : BitVec 32 := Scalar.subi v118 v120
  let v122 : BitVec 1 := Scalar.cmpi .ne v116 v121
  let v123 : BitVec 32 := Scalar.remsi v107 c128_i32_71
  let c0_i32_76 : BitVec 32 := 0#32
  let v124 : BitVec 1 := Scalar.cmpi .ne v123 c0_i32_76
  let v125 : BitVec 1 := Scalar.andi v122 v124
  let v111 : BitVec 32 := Scalar.divsi v107 c128_i32_71
  let c1_i32_77 : BitVec 32 := 1#32
  let v126 : BitVec 32 := Scalar.subi v111 c1_i32_77
  let v127 : BitVec 32 := Scalar.select v125 v126 v111
  let c128_i32_78 : BitVec 32 := 128#32
  let v128 : BitVec 32 := Scalar.muli v127 c128_i32_78
  let v130 : BitVec 32 := Scalar.subi v110 v128
  let c256_i32_79 : BitVec 32 := 256#32
  let v131 : BitVec 32 := Scalar.addi v130 c256_i32_79
  let c1_i32_80 : BitVec 32 := 1#32
  let v132 : BitVec 32 := Scalar.subi v131 c1_i32_80
  let c0_i32_82 : BitVec 32 := 0#32
  let v134 : BitVec 1 := Scalar.cmpi .sgt v132 c0_i32_82
  let v135 : BitVec 32 := Scalar.extui v134
  let c0_i32_83 : BitVec 32 := 0#32
  let v136 : BitVec 1 := Scalar.cmpi .slt v132 c0_i32_83
  let v137 : BitVec 32 := Scalar.extui v136
  let v138 : BitVec 32 := Scalar.subi v135 v137
  let c256_i32_81 : BitVec 32 := 256#32
  let c0_i32_84 : BitVec 32 := 0#32
  let v139 : BitVec 1 := Scalar.cmpi .sgt c256_i32_81 c0_i32_84
  let v140 : BitVec 32 := Scalar.extui v139
  let c0_i32_85 : BitVec 32 := 0#32
  let v141 : BitVec 1 := Scalar.cmpi .slt c256_i32_81 c0_i32_85
  let v142 : BitVec 32 := Scalar.extui v141
  let v143 : BitVec 32 := Scalar.subi v140 v142
  let v144 : BitVec 1 := Scalar.cmpi .ne v138 v143
  let v145 : BitVec 32 := Scalar.remsi v132 c256_i32_81
  let c0_i32_86 : BitVec 32 := 0#32
  let v146 : BitVec 1 := Scalar.cmpi .ne v145 c0_i32_86
  let v147 : BitVec 1 := Scalar.andi v144 v146
  let v133 : BitVec 32 := Scalar.divsi v132 c256_i32_81
  let c1_i32_87 : BitVec 32 := 1#32
  let v148 : BitVec 32 := Scalar.subi v133 c1_i32_87
  let v149 : BitVec 32 := Scalar.select v147 v148 v133
  let c0_i32_88 : BitVec 32 := 0#32
  let v150 : BitVec 32 := Scalar.select v129 v149 c0_i32_88
  let v151 : BitVec 1 := Scalar.cmpi .sge v105 v150
  let v155 : BitVec 32 := Scalar.extui v151
  let c0_i32_92 : BitVec 32 := 0#32
  let v156 : BitVec 1 := Scalar.cmpi .ne v155 c0_i32_92
  v156

def k0_off22 (arg16 : BitVec 32) : Fin 1 → Nat :=
  let c63_i32 : BitVec 32 := 63#32
  let v162 : BitVec 32 := Scalar.minsi arg16 c63_i32
  let c1_i32_99 : BitVec 32 := 1#32
  let v165 : BitVec 32 := Scalar.addi v162 c1_i32_99
  let v166 : Index := Scalar.indexCast v165
  ![v166.toNat]

def k0_chk9 (v9 : BitVec 32) (v57 : BitVec 32) (v107 : BitVec 32) (v110 : BitVec 32) (arg16 : BitVec 32) : Prop :=
  (∀ (k0_h3 : k0_cond3 v9 = 1#1), ∀ (k0_h4 : k0_cond4 v57 v107 v110 = 1#1), ∀ a, (k0_off21 arg16) a + S1.size a ≤ S65.size a) ∧
  (∀ (k0_h3 : k0_cond3 v9 = 1#1), ∀ (k0_h4 : k0_cond4 v57 v107 v110 = 1#1), ∀ a, (k0_off22 arg16) a + S1.size a ≤ S65.size a)
theorem k0_off21_inb : ∀ (v9 : BitVec 32) (v57 : BitVec 32) (v107 : BitVec 32) (v110 : BitVec 32) (arg16 : BitVec 32) (k0_hw9 : k0_chk9 v9 v57 v107 v110 arg16), ∀ (k0_h3 : k0_cond3 v9 = 1#1), ∀ (k0_h4 : k0_cond4 v57 v107 v110 = 1#1), ∀ a, (k0_off21 arg16) a + S1.size a ≤ S65.size a := fun v9 v57 v107 v110 arg16 k0_hw9 k0_h3 k0_h4 => k0_hw9.1 k0_h3 k0_h4
theorem k0_off22_inb : ∀ (v9 : BitVec 32) (v57 : BitVec 32) (v107 : BitVec 32) (v110 : BitVec 32) (arg16 : BitVec 32) (k0_hw9 : k0_chk9 v9 v57 v107 v110 arg16), ∀ (k0_h3 : k0_cond3 v9 = 1#1), ∀ (k0_h4 : k0_cond4 v57 v107 v110 = 1#1), ∀ a, (k0_off22 arg16) a + S1.size a ≤ S65.size a := fun v9 v57 v107 v110 arg16 k0_hw9 k0_h3 k0_h4 => k0_hw9.2 k0_h3 k0_h4

def k0_off23 (v13 : BitVec 32) : Fin 1 → Nat :=
  let v59 : Index := Scalar.indexCast v13
  ![v59.toNat]
def k0_cond5 (v13 : BitVec 32) : BitVec 1 :=
  let c64_i32_10 : BitVec 32 := 64#32
  let v14 : BitVec 1 := Scalar.cmpi .slt v13 c64_i32_10
  let v15 : BitVec 32 := Scalar.extui v14
  let c0_i32_11 : BitVec 32 := 0#32
  let v16 : BitVec 1 := Scalar.cmpi .ne v15 c0_i32_11
  v16

def k0_mult3 (v57 : BitVec 32) (v60 : BitVec 32) : BitVec 32 :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  v81

def k0_off24 (v58 : BitVec 32) : Fin 1 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  ![v91.toNat]

def k0_off25 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_61 : BitVec 32 := 0#32
  let c0_i32_62 : BitVec 32 := 0#32
  ![v91.toNat, 0, 0]
def k0_off26 (v57 : BitVec 32) (v60 : BitVec 32) : Fin 2 → Nat :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  let c0_i32_63 : BitVec 32 := 0#32
  ![v92.toNat, 0]
def k0_off27 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_64 : BitVec 32 := 0#32
  let c0_i32_65 : BitVec 32 := 0#32
  ![v91.toNat, 0, 0]

def k0_chk12 (v13 : BitVec 32) (v58 : BitVec 32) : Prop :=
  (∀ (k0_h5 : k0_cond5 v13 = 1#1), ∀ a, (k0_off24 v58) a + S1.size a ≤ S8.size a) ∧
  (∀ (k0_h5 : k0_cond5 v13 = 1#1), ∀ a, (k0_off25 v58) a + S1x256x1024.size a ≤ S8x256x1024.size a) ∧
  (∀ (k0_h5 : k0_cond5 v13 = 1#1), ∀ (hinb : ∀ a, (k0_off25 v58) a + S1x256x1024.size a ≤ S8x256x1024.size a), (Rect.unit (s := S8x256x1024) (k0_off25 v58) S1x256x1024.size hinb).WholeWords (EltTy.packing .fp8e4m3)) ∧
  (∀ (k0_h5 : k0_cond5 v13 = 1#1), ∀ a, (k0_off27 v58) a + S1x16x256.size a ≤ S8x16x256.size a)
theorem k0_off24_inb : ∀ (v13 : BitVec 32) (v58 : BitVec 32) (k0_hw12 : k0_chk12 v13 v58), ∀ (k0_h5 : k0_cond5 v13 = 1#1), ∀ a, (k0_off24 v58) a + S1.size a ≤ S8.size a := fun v13 v58 k0_hw12 k0_h5 => k0_hw12.1 k0_h5
theorem k0_off25_inb : ∀ (v13 : BitVec 32) (v58 : BitVec 32) (k0_hw12 : k0_chk12 v13 v58), ∀ (k0_h5 : k0_cond5 v13 = 1#1), ∀ a, (k0_off25 v58) a + S1x256x1024.size a ≤ S8x256x1024.size a := fun v13 v58 k0_hw12 k0_h5 => k0_hw12.2.1 k0_h5
theorem k0_off25_wordsfp8e4m3 : ∀ (v13 : BitVec 32) (v58 : BitVec 32) (k0_hw12 : k0_chk12 v13 v58), ∀ (k0_h5 : k0_cond5 v13 = 1#1), (Rect.unit (s := S8x256x1024) (k0_off25 v58) S1x256x1024.size (k0_off25_inb v13 v58 k0_hw12 k0_h5)).WholeWords (EltTy.packing .fp8e4m3) := fun v13 v58 k0_hw12 k0_h5 => k0_hw12.2.2.1 k0_h5 (k0_off25_inb v13 v58 k0_hw12 k0_h5)
theorem k0_off27_inb : ∀ (v13 : BitVec 32) (v58 : BitVec 32) (k0_hw12 : k0_chk12 v13 v58), ∀ (k0_h5 : k0_cond5 v13 = 1#1), ∀ a, (k0_off27 v58) a + S1x16x256.size a ≤ S8x16x256.size a := fun v13 v58 k0_hw12 k0_h5 => k0_hw12.2.2.2 k0_h5

def k0_off28 (v57 : BitVec 32) (v60 : BitVec 32) : Fin 2 → Nat :=
  let c0_i32_66 : BitVec 32 := 0#32
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  ![0, v92.toNat]

def k0_chk11 (v13 : BitVec 32) (v57 : BitVec 32) (v60 : BitVec 32) : Prop :=
  (∀ (k0_h5 : k0_cond5 v13 = 1#1), 128 ∣ (k0_mult3 v57 v60).toNat) ∧
  (∀ (k0_h5 : k0_cond5 v13 = 1#1), ∀ a, (k0_off26 v57 v60) a + S256x1024.size a ≤ S32768x1024.size a) ∧
  (∀ (k0_h5 : k0_cond5 v13 = 1#1), ∀ (hinb : ∀ a, (k0_off26 v57 v60) a + S256x1024.size a ≤ S32768x1024.size a), (Rect.unit (s := S32768x1024) (k0_off26 v57 v60) S256x1024.size hinb).WholeWords (EltTy.packing .fp8e4m3)) ∧
  (∀ (k0_h5 : k0_cond5 v13 = 1#1), ∀ a, (k0_off28 v57 v60) a + S16x256.size a ≤ S16x32768.size a)
theorem k0_mult3_dvd : ∀ (v13 : BitVec 32) (v57 : BitVec 32) (v60 : BitVec 32) (k0_hw11 : k0_chk11 v13 v57 v60), ∀ (k0_h5 : k0_cond5 v13 = 1#1), 128 ∣ (k0_mult3 v57 v60).toNat := fun v13 v57 v60 k0_hw11 k0_h5 => k0_hw11.1 k0_h5
theorem k0_off26_inb : ∀ (v13 : BitVec 32) (v57 : BitVec 32) (v60 : BitVec 32) (k0_hw11 : k0_chk11 v13 v57 v60), ∀ (k0_h5 : k0_cond5 v13 = 1#1), ∀ a, (k0_off26 v57 v60) a + S256x1024.size a ≤ S32768x1024.size a := fun v13 v57 v60 k0_hw11 k0_h5 => k0_hw11.2.1 k0_h5
theorem k0_off26_wordsfp8e4m3 : ∀ (v13 : BitVec 32) (v57 : BitVec 32) (v60 : BitVec 32) (k0_hw11 : k0_chk11 v13 v57 v60), ∀ (k0_h5 : k0_cond5 v13 = 1#1), (Rect.unit (s := S32768x1024) (k0_off26 v57 v60) S256x1024.size (k0_off26_inb v13 v57 v60 k0_hw11 k0_h5)).WholeWords (EltTy.packing .fp8e4m3) := fun v13 v57 v60 k0_hw11 k0_h5 => k0_hw11.2.2.1 k0_h5 (k0_off26_inb v13 v57 v60 k0_hw11 k0_h5)
theorem k0_off28_inb : ∀ (v13 : BitVec 32) (v57 : BitVec 32) (v60 : BitVec 32) (k0_hw11 : k0_chk11 v13 v57 v60), ∀ (k0_h5 : k0_cond5 v13 = 1#1), ∀ a, (k0_off28 v57 v60) a + S16x256.size a ≤ S16x32768.size a := fun v13 v57 v60 k0_hw11 k0_h5 => k0_hw11.2.2.2 k0_h5

def k0_off29 (v13 : BitVec 32) : Fin 1 → Nat :=
  let v106 : Index := Scalar.indexCast v13
  ![v106.toNat]
def k0_off30 (v13 : BitVec 32) : Fin 1 → Nat :=
  let c1_i32_70 : BitVec 32 := 1#32
  let v108 : BitVec 32 := Scalar.addi v13 c1_i32_70
  let v109 : Index := Scalar.indexCast v108
  ![v109.toNat]

def k0_chk10 (v13 : BitVec 32) : Prop :=
  (∀ (k0_h5 : k0_cond5 v13 = 1#1), ∀ a, (k0_off23 v13) a + S1.size a ≤ S65.size a) ∧
  (∀ (k0_h5 : k0_cond5 v13 = 1#1), ∀ a, (k0_off29 v13) a + S1.size a ≤ S65.size a) ∧
  (∀ (k0_h5 : k0_cond5 v13 = 1#1), ∀ a, (k0_off30 v13) a + S1.size a ≤ S65.size a)
theorem k0_off23_inb : ∀ (v13 : BitVec 32) (k0_hw10 : k0_chk10 v13), ∀ (k0_h5 : k0_cond5 v13 = 1#1), ∀ a, (k0_off23 v13) a + S1.size a ≤ S65.size a := fun v13 k0_hw10 k0_h5 => k0_hw10.1 k0_h5
theorem k0_off29_inb : ∀ (v13 : BitVec 32) (k0_hw10 : k0_chk10 v13), ∀ (k0_h5 : k0_cond5 v13 = 1#1), ∀ a, (k0_off29 v13) a + S1.size a ≤ S65.size a := fun v13 k0_hw10 k0_h5 => k0_hw10.2.1 k0_h5
theorem k0_off30_inb : ∀ (v13 : BitVec 32) (k0_hw10 : k0_chk10 v13), ∀ (k0_h5 : k0_cond5 v13 = 1#1), ∀ a, (k0_off30 v13) a + S1.size a ≤ S65.size a := fun v13 k0_hw10 k0_h5 => k0_hw10.2.2 k0_h5

@[reducible] def k0_t4_loop : Scf.Loop 32 :=
  let c0_i32_94 : BitVec 32 := 0#32
  let c64_i32_95 : BitVec 32 := 64#32
  let v158 : BitVec 32 := Scalar.addi c0_i32_94 c64_i32_95
  let c1_i32_96 : BitVec 32 := 1#32
  ⟨c0_i32_94, v158, c1_i32_96⟩
def k0_off31 (arg16 : BitVec 32) : Fin 1 → Nat :=
  let c63_i32 : BitVec 32 := 63#32
  let v162 : BitVec 32 := Scalar.minsi arg16 c63_i32
  let v163 : Index := Scalar.indexCast v162
  ![v163.toNat]
def k0_cond6 (v57 : BitVec 32) (v107 : BitVec 32) (v110 : BitVec 32) : BitVec 1 :=
  let c1_i32_69 : BitVec 32 := 1#32
  let v105 : BitVec 32 := Scalar.addi v57 c1_i32_69
  let v129 : BitVec 1 := Scalar.cmpi .sgt v110 v107
  let c0_i32_72 : BitVec 32 := 0#32
  let v112 : BitVec 1 := Scalar.cmpi .sgt v107 c0_i32_72
  let v113 : BitVec 32 := Scalar.extui v112
  let c0_i32_73 : BitVec 32 := 0#32
  let v114 : BitVec 1 := Scalar.cmpi .slt v107 c0_i32_73
  let v115 : BitVec 32 := Scalar.extui v114
  let v116 : BitVec 32 := Scalar.subi v113 v115
  let c128_i32_71 : BitVec 32 := 128#32
  let c0_i32_74 : BitVec 32 := 0#32
  let v117 : BitVec 1 := Scalar.cmpi .sgt c128_i32_71 c0_i32_74
  let v118 : BitVec 32 := Scalar.extui v117
  let c0_i32_75 : BitVec 32 := 0#32
  let v119 : BitVec 1 := Scalar.cmpi .slt c128_i32_71 c0_i32_75
  let v120 : BitVec 32 := Scalar.extui v119
  let v121 : BitVec 32 := Scalar.subi v118 v120
  let v122 : BitVec 1 := Scalar.cmpi .ne v116 v121
  let v123 : BitVec 32 := Scalar.remsi v107 c128_i32_71
  let c0_i32_76 : BitVec 32 := 0#32
  let v124 : BitVec 1 := Scalar.cmpi .ne v123 c0_i32_76
  let v125 : BitVec 1 := Scalar.andi v122 v124
  let v111 : BitVec 32 := Scalar.divsi v107 c128_i32_71
  let c1_i32_77 : BitVec 32 := 1#32
  let v126 : BitVec 32 := Scalar.subi v111 c1_i32_77
  let v127 : BitVec 32 := Scalar.select v125 v126 v111
  let c128_i32_78 : BitVec 32 := 128#32
  let v128 : BitVec 32 := Scalar.muli v127 c128_i32_78
  let v130 : BitVec 32 := Scalar.subi v110 v128
  let c256_i32_79 : BitVec 32 := 256#32
  let v131 : BitVec 32 := Scalar.addi v130 c256_i32_79
  let c1_i32_80 : BitVec 32 := 1#32
  let v132 : BitVec 32 := Scalar.subi v131 c1_i32_80
  let c0_i32_82 : BitVec 32 := 0#32
  let v134 : BitVec 1 := Scalar.cmpi .sgt v132 c0_i32_82
  let v135 : BitVec 32 := Scalar.extui v134
  let c0_i32_83 : BitVec 32 := 0#32
  let v136 : BitVec 1 := Scalar.cmpi .slt v132 c0_i32_83
  let v137 : BitVec 32 := Scalar.extui v136
  let v138 : BitVec 32 := Scalar.subi v135 v137
  let c256_i32_81 : BitVec 32 := 256#32
  let c0_i32_84 : BitVec 32 := 0#32
  let v139 : BitVec 1 := Scalar.cmpi .sgt c256_i32_81 c0_i32_84
  let v140 : BitVec 32 := Scalar.extui v139
  let c0_i32_85 : BitVec 32 := 0#32
  let v141 : BitVec 1 := Scalar.cmpi .slt c256_i32_81 c0_i32_85
  let v142 : BitVec 32 := Scalar.extui v141
  let v143 : BitVec 32 := Scalar.subi v140 v142
  let v144 : BitVec 1 := Scalar.cmpi .ne v138 v143
  let v145 : BitVec 32 := Scalar.remsi v132 c256_i32_81
  let c0_i32_86 : BitVec 32 := 0#32
  let v146 : BitVec 1 := Scalar.cmpi .ne v145 c0_i32_86
  let v147 : BitVec 1 := Scalar.andi v144 v146
  let v133 : BitVec 32 := Scalar.divsi v132 c256_i32_81
  let c1_i32_87 : BitVec 32 := 1#32
  let v148 : BitVec 32 := Scalar.subi v133 c1_i32_87
  let v149 : BitVec 32 := Scalar.select v147 v148 v133
  let c0_i32_88 : BitVec 32 := 0#32
  let v150 : BitVec 32 := Scalar.select v129 v149 c0_i32_88
  let v151 : BitVec 1 := Scalar.cmpi .sge v105 v150
  let v155 : BitVec 32 := Scalar.extui v151
  let c0_i32_92 : BitVec 32 := 0#32
  let v156 : BitVec 1 := Scalar.cmpi .ne v155 c0_i32_92
  v156

def k0_off32 (arg16 : BitVec 32) : Fin 1 → Nat :=
  let c63_i32 : BitVec 32 := 63#32
  let v162 : BitVec 32 := Scalar.minsi arg16 c63_i32
  let c1_i32_99 : BitVec 32 := 1#32
  let v165 : BitVec 32 := Scalar.addi v162 c1_i32_99
  let v166 : Index := Scalar.indexCast v165
  ![v166.toNat]

def k0_chk13 (v13 : BitVec 32) (v57 : BitVec 32) (v107 : BitVec 32) (v110 : BitVec 32) (arg16 : BitVec 32) : Prop :=
  (∀ (k0_h5 : k0_cond5 v13 = 1#1), ∀ (k0_h6 : k0_cond6 v57 v107 v110 = 1#1), ∀ a, (k0_off31 arg16) a + S1.size a ≤ S65.size a) ∧
  (∀ (k0_h5 : k0_cond5 v13 = 1#1), ∀ (k0_h6 : k0_cond6 v57 v107 v110 = 1#1), ∀ a, (k0_off32 arg16) a + S1.size a ≤ S65.size a)
theorem k0_off31_inb : ∀ (v13 : BitVec 32) (v57 : BitVec 32) (v107 : BitVec 32) (v110 : BitVec 32) (arg16 : BitVec 32) (k0_hw13 : k0_chk13 v13 v57 v107 v110 arg16), ∀ (k0_h5 : k0_cond5 v13 = 1#1), ∀ (k0_h6 : k0_cond6 v57 v107 v110 = 1#1), ∀ a, (k0_off31 arg16) a + S1.size a ≤ S65.size a := fun v13 v57 v107 v110 arg16 k0_hw13 k0_h5 k0_h6 => k0_hw13.1 k0_h5 k0_h6
theorem k0_off32_inb : ∀ (v13 : BitVec 32) (v57 : BitVec 32) (v107 : BitVec 32) (v110 : BitVec 32) (arg16 : BitVec 32) (k0_hw13 : k0_chk13 v13 v57 v107 v110 arg16), ∀ (k0_h5 : k0_cond5 v13 = 1#1), ∀ (k0_h6 : k0_cond6 v57 v107 v110 = 1#1), ∀ a, (k0_off32 arg16) a + S1.size a ≤ S65.size a := fun v13 v57 v107 v110 arg16 k0_hw13 k0_h5 k0_h6 => k0_hw13.2 k0_h5 k0_h6

def k0_off33 (v17 : BitVec 32) : Fin 1 → Nat :=
  let v59 : Index := Scalar.indexCast v17
  ![v59.toNat]
def k0_cond7 (v17 : BitVec 32) : BitVec 1 :=
  let c64_i32_13 : BitVec 32 := 64#32
  let v18 : BitVec 1 := Scalar.cmpi .slt v17 c64_i32_13
  let v19 : BitVec 32 := Scalar.extui v18
  let c0_i32_14 : BitVec 32 := 0#32
  let v20 : BitVec 1 := Scalar.cmpi .ne v19 c0_i32_14
  v20

def k0_mult4 (v57 : BitVec 32) (v60 : BitVec 32) : BitVec 32 :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  v81

def k0_off34 (v58 : BitVec 32) : Fin 1 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  ![v91.toNat]

def k0_off35 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_61 : BitVec 32 := 0#32
  let c0_i32_62 : BitVec 32 := 0#32
  ![v91.toNat, 0, 0]
def k0_off36 (v57 : BitVec 32) (v60 : BitVec 32) : Fin 2 → Nat :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  let c0_i32_63 : BitVec 32 := 0#32
  ![v92.toNat, 0]
def k0_off37 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_64 : BitVec 32 := 0#32
  let c0_i32_65 : BitVec 32 := 0#32
  ![v91.toNat, 0, 0]

def k0_chk16 (v17 : BitVec 32) (v58 : BitVec 32) : Prop :=
  (∀ (k0_h7 : k0_cond7 v17 = 1#1), ∀ a, (k0_off34 v58) a + S1.size a ≤ S8.size a) ∧
  (∀ (k0_h7 : k0_cond7 v17 = 1#1), ∀ a, (k0_off35 v58) a + S1x256x1024.size a ≤ S8x256x1024.size a) ∧
  (∀ (k0_h7 : k0_cond7 v17 = 1#1), ∀ (hinb : ∀ a, (k0_off35 v58) a + S1x256x1024.size a ≤ S8x256x1024.size a), (Rect.unit (s := S8x256x1024) (k0_off35 v58) S1x256x1024.size hinb).WholeWords (EltTy.packing .fp8e4m3)) ∧
  (∀ (k0_h7 : k0_cond7 v17 = 1#1), ∀ a, (k0_off37 v58) a + S1x16x256.size a ≤ S8x16x256.size a)
theorem k0_off34_inb : ∀ (v17 : BitVec 32) (v58 : BitVec 32) (k0_hw16 : k0_chk16 v17 v58), ∀ (k0_h7 : k0_cond7 v17 = 1#1), ∀ a, (k0_off34 v58) a + S1.size a ≤ S8.size a := fun v17 v58 k0_hw16 k0_h7 => k0_hw16.1 k0_h7
theorem k0_off35_inb : ∀ (v17 : BitVec 32) (v58 : BitVec 32) (k0_hw16 : k0_chk16 v17 v58), ∀ (k0_h7 : k0_cond7 v17 = 1#1), ∀ a, (k0_off35 v58) a + S1x256x1024.size a ≤ S8x256x1024.size a := fun v17 v58 k0_hw16 k0_h7 => k0_hw16.2.1 k0_h7
theorem k0_off35_wordsfp8e4m3 : ∀ (v17 : BitVec 32) (v58 : BitVec 32) (k0_hw16 : k0_chk16 v17 v58), ∀ (k0_h7 : k0_cond7 v17 = 1#1), (Rect.unit (s := S8x256x1024) (k0_off35 v58) S1x256x1024.size (k0_off35_inb v17 v58 k0_hw16 k0_h7)).WholeWords (EltTy.packing .fp8e4m3) := fun v17 v58 k0_hw16 k0_h7 => k0_hw16.2.2.1 k0_h7 (k0_off35_inb v17 v58 k0_hw16 k0_h7)
theorem k0_off37_inb : ∀ (v17 : BitVec 32) (v58 : BitVec 32) (k0_hw16 : k0_chk16 v17 v58), ∀ (k0_h7 : k0_cond7 v17 = 1#1), ∀ a, (k0_off37 v58) a + S1x16x256.size a ≤ S8x16x256.size a := fun v17 v58 k0_hw16 k0_h7 => k0_hw16.2.2.2 k0_h7

def k0_off38 (v57 : BitVec 32) (v60 : BitVec 32) : Fin 2 → Nat :=
  let c0_i32_66 : BitVec 32 := 0#32
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  ![0, v92.toNat]

def k0_chk15 (v17 : BitVec 32) (v57 : BitVec 32) (v60 : BitVec 32) : Prop :=
  (∀ (k0_h7 : k0_cond7 v17 = 1#1), 128 ∣ (k0_mult4 v57 v60).toNat) ∧
  (∀ (k0_h7 : k0_cond7 v17 = 1#1), ∀ a, (k0_off36 v57 v60) a + S256x1024.size a ≤ S32768x1024.size a) ∧
  (∀ (k0_h7 : k0_cond7 v17 = 1#1), ∀ (hinb : ∀ a, (k0_off36 v57 v60) a + S256x1024.size a ≤ S32768x1024.size a), (Rect.unit (s := S32768x1024) (k0_off36 v57 v60) S256x1024.size hinb).WholeWords (EltTy.packing .fp8e4m3)) ∧
  (∀ (k0_h7 : k0_cond7 v17 = 1#1), ∀ a, (k0_off38 v57 v60) a + S16x256.size a ≤ S16x32768.size a)
theorem k0_mult4_dvd : ∀ (v17 : BitVec 32) (v57 : BitVec 32) (v60 : BitVec 32) (k0_hw15 : k0_chk15 v17 v57 v60), ∀ (k0_h7 : k0_cond7 v17 = 1#1), 128 ∣ (k0_mult4 v57 v60).toNat := fun v17 v57 v60 k0_hw15 k0_h7 => k0_hw15.1 k0_h7
theorem k0_off36_inb : ∀ (v17 : BitVec 32) (v57 : BitVec 32) (v60 : BitVec 32) (k0_hw15 : k0_chk15 v17 v57 v60), ∀ (k0_h7 : k0_cond7 v17 = 1#1), ∀ a, (k0_off36 v57 v60) a + S256x1024.size a ≤ S32768x1024.size a := fun v17 v57 v60 k0_hw15 k0_h7 => k0_hw15.2.1 k0_h7
theorem k0_off36_wordsfp8e4m3 : ∀ (v17 : BitVec 32) (v57 : BitVec 32) (v60 : BitVec 32) (k0_hw15 : k0_chk15 v17 v57 v60), ∀ (k0_h7 : k0_cond7 v17 = 1#1), (Rect.unit (s := S32768x1024) (k0_off36 v57 v60) S256x1024.size (k0_off36_inb v17 v57 v60 k0_hw15 k0_h7)).WholeWords (EltTy.packing .fp8e4m3) := fun v17 v57 v60 k0_hw15 k0_h7 => k0_hw15.2.2.1 k0_h7 (k0_off36_inb v17 v57 v60 k0_hw15 k0_h7)
theorem k0_off38_inb : ∀ (v17 : BitVec 32) (v57 : BitVec 32) (v60 : BitVec 32) (k0_hw15 : k0_chk15 v17 v57 v60), ∀ (k0_h7 : k0_cond7 v17 = 1#1), ∀ a, (k0_off38 v57 v60) a + S16x256.size a ≤ S16x32768.size a := fun v17 v57 v60 k0_hw15 k0_h7 => k0_hw15.2.2.2 k0_h7

def k0_off39 (v17 : BitVec 32) : Fin 1 → Nat :=
  let v106 : Index := Scalar.indexCast v17
  ![v106.toNat]
def k0_off40 (v17 : BitVec 32) : Fin 1 → Nat :=
  let c1_i32_70 : BitVec 32 := 1#32
  let v108 : BitVec 32 := Scalar.addi v17 c1_i32_70
  let v109 : Index := Scalar.indexCast v108
  ![v109.toNat]

def k0_chk14 (v17 : BitVec 32) : Prop :=
  (∀ (k0_h7 : k0_cond7 v17 = 1#1), ∀ a, (k0_off33 v17) a + S1.size a ≤ S65.size a) ∧
  (∀ (k0_h7 : k0_cond7 v17 = 1#1), ∀ a, (k0_off39 v17) a + S1.size a ≤ S65.size a) ∧
  (∀ (k0_h7 : k0_cond7 v17 = 1#1), ∀ a, (k0_off40 v17) a + S1.size a ≤ S65.size a)
theorem k0_off33_inb : ∀ (v17 : BitVec 32) (k0_hw14 : k0_chk14 v17), ∀ (k0_h7 : k0_cond7 v17 = 1#1), ∀ a, (k0_off33 v17) a + S1.size a ≤ S65.size a := fun v17 k0_hw14 k0_h7 => k0_hw14.1 k0_h7
theorem k0_off39_inb : ∀ (v17 : BitVec 32) (k0_hw14 : k0_chk14 v17), ∀ (k0_h7 : k0_cond7 v17 = 1#1), ∀ a, (k0_off39 v17) a + S1.size a ≤ S65.size a := fun v17 k0_hw14 k0_h7 => k0_hw14.2.1 k0_h7
theorem k0_off40_inb : ∀ (v17 : BitVec 32) (k0_hw14 : k0_chk14 v17), ∀ (k0_h7 : k0_cond7 v17 = 1#1), ∀ a, (k0_off40 v17) a + S1.size a ≤ S65.size a := fun v17 k0_hw14 k0_h7 => k0_hw14.2.2 k0_h7

@[reducible] def k0_t5_loop : Scf.Loop 32 :=
  let c0_i32_94 : BitVec 32 := 0#32
  let c64_i32_95 : BitVec 32 := 64#32
  let v158 : BitVec 32 := Scalar.addi c0_i32_94 c64_i32_95
  let c1_i32_96 : BitVec 32 := 1#32
  ⟨c0_i32_94, v158, c1_i32_96⟩
def k0_off41 (arg16 : BitVec 32) : Fin 1 → Nat :=
  let c63_i32 : BitVec 32 := 63#32
  let v162 : BitVec 32 := Scalar.minsi arg16 c63_i32
  let v163 : Index := Scalar.indexCast v162
  ![v163.toNat]
def k0_cond8 (v57 : BitVec 32) (v107 : BitVec 32) (v110 : BitVec 32) : BitVec 1 :=
  let c1_i32_69 : BitVec 32 := 1#32
  let v105 : BitVec 32 := Scalar.addi v57 c1_i32_69
  let v129 : BitVec 1 := Scalar.cmpi .sgt v110 v107
  let c0_i32_72 : BitVec 32 := 0#32
  let v112 : BitVec 1 := Scalar.cmpi .sgt v107 c0_i32_72
  let v113 : BitVec 32 := Scalar.extui v112
  let c0_i32_73 : BitVec 32 := 0#32
  let v114 : BitVec 1 := Scalar.cmpi .slt v107 c0_i32_73
  let v115 : BitVec 32 := Scalar.extui v114
  let v116 : BitVec 32 := Scalar.subi v113 v115
  let c128_i32_71 : BitVec 32 := 128#32
  let c0_i32_74 : BitVec 32 := 0#32
  let v117 : BitVec 1 := Scalar.cmpi .sgt c128_i32_71 c0_i32_74
  let v118 : BitVec 32 := Scalar.extui v117
  let c0_i32_75 : BitVec 32 := 0#32
  let v119 : BitVec 1 := Scalar.cmpi .slt c128_i32_71 c0_i32_75
  let v120 : BitVec 32 := Scalar.extui v119
  let v121 : BitVec 32 := Scalar.subi v118 v120
  let v122 : BitVec 1 := Scalar.cmpi .ne v116 v121
  let v123 : BitVec 32 := Scalar.remsi v107 c128_i32_71
  let c0_i32_76 : BitVec 32 := 0#32
  let v124 : BitVec 1 := Scalar.cmpi .ne v123 c0_i32_76
  let v125 : BitVec 1 := Scalar.andi v122 v124
  let v111 : BitVec 32 := Scalar.divsi v107 c128_i32_71
  let c1_i32_77 : BitVec 32 := 1#32
  let v126 : BitVec 32 := Scalar.subi v111 c1_i32_77
  let v127 : BitVec 32 := Scalar.select v125 v126 v111
  let c128_i32_78 : BitVec 32 := 128#32
  let v128 : BitVec 32 := Scalar.muli v127 c128_i32_78
  let v130 : BitVec 32 := Scalar.subi v110 v128
  let c256_i32_79 : BitVec 32 := 256#32
  let v131 : BitVec 32 := Scalar.addi v130 c256_i32_79
  let c1_i32_80 : BitVec 32 := 1#32
  let v132 : BitVec 32 := Scalar.subi v131 c1_i32_80
  let c0_i32_82 : BitVec 32 := 0#32
  let v134 : BitVec 1 := Scalar.cmpi .sgt v132 c0_i32_82
  let v135 : BitVec 32 := Scalar.extui v134
  let c0_i32_83 : BitVec 32 := 0#32
  let v136 : BitVec 1 := Scalar.cmpi .slt v132 c0_i32_83
  let v137 : BitVec 32 := Scalar.extui v136
  let v138 : BitVec 32 := Scalar.subi v135 v137
  let c256_i32_81 : BitVec 32 := 256#32
  let c0_i32_84 : BitVec 32 := 0#32
  let v139 : BitVec 1 := Scalar.cmpi .sgt c256_i32_81 c0_i32_84
  let v140 : BitVec 32 := Scalar.extui v139
  let c0_i32_85 : BitVec 32 := 0#32
  let v141 : BitVec 1 := Scalar.cmpi .slt c256_i32_81 c0_i32_85
  let v142 : BitVec 32 := Scalar.extui v141
  let v143 : BitVec 32 := Scalar.subi v140 v142
  let v144 : BitVec 1 := Scalar.cmpi .ne v138 v143
  let v145 : BitVec 32 := Scalar.remsi v132 c256_i32_81
  let c0_i32_86 : BitVec 32 := 0#32
  let v146 : BitVec 1 := Scalar.cmpi .ne v145 c0_i32_86
  let v147 : BitVec 1 := Scalar.andi v144 v146
  let v133 : BitVec 32 := Scalar.divsi v132 c256_i32_81
  let c1_i32_87 : BitVec 32 := 1#32
  let v148 : BitVec 32 := Scalar.subi v133 c1_i32_87
  let v149 : BitVec 32 := Scalar.select v147 v148 v133
  let c0_i32_88 : BitVec 32 := 0#32
  let v150 : BitVec 32 := Scalar.select v129 v149 c0_i32_88
  let v151 : BitVec 1 := Scalar.cmpi .sge v105 v150
  let v155 : BitVec 32 := Scalar.extui v151
  let c0_i32_92 : BitVec 32 := 0#32
  let v156 : BitVec 1 := Scalar.cmpi .ne v155 c0_i32_92
  v156

def k0_off42 (arg16 : BitVec 32) : Fin 1 → Nat :=
  let c63_i32 : BitVec 32 := 63#32
  let v162 : BitVec 32 := Scalar.minsi arg16 c63_i32
  let c1_i32_99 : BitVec 32 := 1#32
  let v165 : BitVec 32 := Scalar.addi v162 c1_i32_99
  let v166 : Index := Scalar.indexCast v165
  ![v166.toNat]

def k0_chk17 (v17 : BitVec 32) (v57 : BitVec 32) (v107 : BitVec 32) (v110 : BitVec 32) (arg16 : BitVec 32) : Prop :=
  (∀ (k0_h7 : k0_cond7 v17 = 1#1), ∀ (k0_h8 : k0_cond8 v57 v107 v110 = 1#1), ∀ a, (k0_off41 arg16) a + S1.size a ≤ S65.size a) ∧
  (∀ (k0_h7 : k0_cond7 v17 = 1#1), ∀ (k0_h8 : k0_cond8 v57 v107 v110 = 1#1), ∀ a, (k0_off42 arg16) a + S1.size a ≤ S65.size a)
theorem k0_off41_inb : ∀ (v17 : BitVec 32) (v57 : BitVec 32) (v107 : BitVec 32) (v110 : BitVec 32) (arg16 : BitVec 32) (k0_hw17 : k0_chk17 v17 v57 v107 v110 arg16), ∀ (k0_h7 : k0_cond7 v17 = 1#1), ∀ (k0_h8 : k0_cond8 v57 v107 v110 = 1#1), ∀ a, (k0_off41 arg16) a + S1.size a ≤ S65.size a := fun v17 v57 v107 v110 arg16 k0_hw17 k0_h7 k0_h8 => k0_hw17.1 k0_h7 k0_h8
theorem k0_off42_inb : ∀ (v17 : BitVec 32) (v57 : BitVec 32) (v107 : BitVec 32) (v110 : BitVec 32) (arg16 : BitVec 32) (k0_hw17 : k0_chk17 v17 v57 v107 v110 arg16), ∀ (k0_h7 : k0_cond7 v17 = 1#1), ∀ (k0_h8 : k0_cond8 v57 v107 v110 = 1#1), ∀ a, (k0_off42 arg16) a + S1.size a ≤ S65.size a := fun v17 v57 v107 v110 arg16 k0_hw17 k0_h7 k0_h8 => k0_hw17.2 k0_h7 k0_h8

def k0_off43 (v21 : BitVec 32) : Fin 1 → Nat :=
  let v59 : Index := Scalar.indexCast v21
  ![v59.toNat]
def k0_cond9 (v21 : BitVec 32) : BitVec 1 :=
  let c64_i32_16 : BitVec 32 := 64#32
  let v22 : BitVec 1 := Scalar.cmpi .slt v21 c64_i32_16
  let v23 : BitVec 32 := Scalar.extui v22
  let c0_i32_17 : BitVec 32 := 0#32
  let v24 : BitVec 1 := Scalar.cmpi .ne v23 c0_i32_17
  v24

def k0_mult5 (v57 : BitVec 32) (v60 : BitVec 32) : BitVec 32 :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  v81

def k0_off44 (v58 : BitVec 32) : Fin 1 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  ![v91.toNat]

def k0_off45 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_61 : BitVec 32 := 0#32
  let c0_i32_62 : BitVec 32 := 0#32
  ![v91.toNat, 0, 0]
def k0_off46 (v57 : BitVec 32) (v60 : BitVec 32) : Fin 2 → Nat :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  let c0_i32_63 : BitVec 32 := 0#32
  ![v92.toNat, 0]
def k0_off47 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_64 : BitVec 32 := 0#32
  let c0_i32_65 : BitVec 32 := 0#32
  ![v91.toNat, 0, 0]

def k0_chk20 (v21 : BitVec 32) (v58 : BitVec 32) : Prop :=
  (∀ (k0_h9 : k0_cond9 v21 = 1#1), ∀ a, (k0_off44 v58) a + S1.size a ≤ S8.size a) ∧
  (∀ (k0_h9 : k0_cond9 v21 = 1#1), ∀ a, (k0_off45 v58) a + S1x256x1024.size a ≤ S8x256x1024.size a) ∧
  (∀ (k0_h9 : k0_cond9 v21 = 1#1), ∀ (hinb : ∀ a, (k0_off45 v58) a + S1x256x1024.size a ≤ S8x256x1024.size a), (Rect.unit (s := S8x256x1024) (k0_off45 v58) S1x256x1024.size hinb).WholeWords (EltTy.packing .fp8e4m3)) ∧
  (∀ (k0_h9 : k0_cond9 v21 = 1#1), ∀ a, (k0_off47 v58) a + S1x16x256.size a ≤ S8x16x256.size a)
theorem k0_off44_inb : ∀ (v21 : BitVec 32) (v58 : BitVec 32) (k0_hw20 : k0_chk20 v21 v58), ∀ (k0_h9 : k0_cond9 v21 = 1#1), ∀ a, (k0_off44 v58) a + S1.size a ≤ S8.size a := fun v21 v58 k0_hw20 k0_h9 => k0_hw20.1 k0_h9
theorem k0_off45_inb : ∀ (v21 : BitVec 32) (v58 : BitVec 32) (k0_hw20 : k0_chk20 v21 v58), ∀ (k0_h9 : k0_cond9 v21 = 1#1), ∀ a, (k0_off45 v58) a + S1x256x1024.size a ≤ S8x256x1024.size a := fun v21 v58 k0_hw20 k0_h9 => k0_hw20.2.1 k0_h9
theorem k0_off45_wordsfp8e4m3 : ∀ (v21 : BitVec 32) (v58 : BitVec 32) (k0_hw20 : k0_chk20 v21 v58), ∀ (k0_h9 : k0_cond9 v21 = 1#1), (Rect.unit (s := S8x256x1024) (k0_off45 v58) S1x256x1024.size (k0_off45_inb v21 v58 k0_hw20 k0_h9)).WholeWords (EltTy.packing .fp8e4m3) := fun v21 v58 k0_hw20 k0_h9 => k0_hw20.2.2.1 k0_h9 (k0_off45_inb v21 v58 k0_hw20 k0_h9)
theorem k0_off47_inb : ∀ (v21 : BitVec 32) (v58 : BitVec 32) (k0_hw20 : k0_chk20 v21 v58), ∀ (k0_h9 : k0_cond9 v21 = 1#1), ∀ a, (k0_off47 v58) a + S1x16x256.size a ≤ S8x16x256.size a := fun v21 v58 k0_hw20 k0_h9 => k0_hw20.2.2.2 k0_h9

def k0_off48 (v57 : BitVec 32) (v60 : BitVec 32) : Fin 2 → Nat :=
  let c0_i32_66 : BitVec 32 := 0#32
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  ![0, v92.toNat]

def k0_chk19 (v21 : BitVec 32) (v57 : BitVec 32) (v60 : BitVec 32) : Prop :=
  (∀ (k0_h9 : k0_cond9 v21 = 1#1), 128 ∣ (k0_mult5 v57 v60).toNat) ∧
  (∀ (k0_h9 : k0_cond9 v21 = 1#1), ∀ a, (k0_off46 v57 v60) a + S256x1024.size a ≤ S32768x1024.size a) ∧
  (∀ (k0_h9 : k0_cond9 v21 = 1#1), ∀ (hinb : ∀ a, (k0_off46 v57 v60) a + S256x1024.size a ≤ S32768x1024.size a), (Rect.unit (s := S32768x1024) (k0_off46 v57 v60) S256x1024.size hinb).WholeWords (EltTy.packing .fp8e4m3)) ∧
  (∀ (k0_h9 : k0_cond9 v21 = 1#1), ∀ a, (k0_off48 v57 v60) a + S16x256.size a ≤ S16x32768.size a)
theorem k0_mult5_dvd : ∀ (v21 : BitVec 32) (v57 : BitVec 32) (v60 : BitVec 32) (k0_hw19 : k0_chk19 v21 v57 v60), ∀ (k0_h9 : k0_cond9 v21 = 1#1), 128 ∣ (k0_mult5 v57 v60).toNat := fun v21 v57 v60 k0_hw19 k0_h9 => k0_hw19.1 k0_h9
theorem k0_off46_inb : ∀ (v21 : BitVec 32) (v57 : BitVec 32) (v60 : BitVec 32) (k0_hw19 : k0_chk19 v21 v57 v60), ∀ (k0_h9 : k0_cond9 v21 = 1#1), ∀ a, (k0_off46 v57 v60) a + S256x1024.size a ≤ S32768x1024.size a := fun v21 v57 v60 k0_hw19 k0_h9 => k0_hw19.2.1 k0_h9
theorem k0_off46_wordsfp8e4m3 : ∀ (v21 : BitVec 32) (v57 : BitVec 32) (v60 : BitVec 32) (k0_hw19 : k0_chk19 v21 v57 v60), ∀ (k0_h9 : k0_cond9 v21 = 1#1), (Rect.unit (s := S32768x1024) (k0_off46 v57 v60) S256x1024.size (k0_off46_inb v21 v57 v60 k0_hw19 k0_h9)).WholeWords (EltTy.packing .fp8e4m3) := fun v21 v57 v60 k0_hw19 k0_h9 => k0_hw19.2.2.1 k0_h9 (k0_off46_inb v21 v57 v60 k0_hw19 k0_h9)
theorem k0_off48_inb : ∀ (v21 : BitVec 32) (v57 : BitVec 32) (v60 : BitVec 32) (k0_hw19 : k0_chk19 v21 v57 v60), ∀ (k0_h9 : k0_cond9 v21 = 1#1), ∀ a, (k0_off48 v57 v60) a + S16x256.size a ≤ S16x32768.size a := fun v21 v57 v60 k0_hw19 k0_h9 => k0_hw19.2.2.2 k0_h9

def k0_off49 (v21 : BitVec 32) : Fin 1 → Nat :=
  let v106 : Index := Scalar.indexCast v21
  ![v106.toNat]
def k0_off50 (v21 : BitVec 32) : Fin 1 → Nat :=
  let c1_i32_70 : BitVec 32 := 1#32
  let v108 : BitVec 32 := Scalar.addi v21 c1_i32_70
  let v109 : Index := Scalar.indexCast v108
  ![v109.toNat]

def k0_chk18 (v21 : BitVec 32) : Prop :=
  (∀ (k0_h9 : k0_cond9 v21 = 1#1), ∀ a, (k0_off43 v21) a + S1.size a ≤ S65.size a) ∧
  (∀ (k0_h9 : k0_cond9 v21 = 1#1), ∀ a, (k0_off49 v21) a + S1.size a ≤ S65.size a) ∧
  (∀ (k0_h9 : k0_cond9 v21 = 1#1), ∀ a, (k0_off50 v21) a + S1.size a ≤ S65.size a)
theorem k0_off43_inb : ∀ (v21 : BitVec 32) (k0_hw18 : k0_chk18 v21), ∀ (k0_h9 : k0_cond9 v21 = 1#1), ∀ a, (k0_off43 v21) a + S1.size a ≤ S65.size a := fun v21 k0_hw18 k0_h9 => k0_hw18.1 k0_h9
theorem k0_off49_inb : ∀ (v21 : BitVec 32) (k0_hw18 : k0_chk18 v21), ∀ (k0_h9 : k0_cond9 v21 = 1#1), ∀ a, (k0_off49 v21) a + S1.size a ≤ S65.size a := fun v21 k0_hw18 k0_h9 => k0_hw18.2.1 k0_h9
theorem k0_off50_inb : ∀ (v21 : BitVec 32) (k0_hw18 : k0_chk18 v21), ∀ (k0_h9 : k0_cond9 v21 = 1#1), ∀ a, (k0_off50 v21) a + S1.size a ≤ S65.size a := fun v21 k0_hw18 k0_h9 => k0_hw18.2.2 k0_h9

@[reducible] def k0_t6_loop : Scf.Loop 32 :=
  let c0_i32_94 : BitVec 32 := 0#32
  let c64_i32_95 : BitVec 32 := 64#32
  let v158 : BitVec 32 := Scalar.addi c0_i32_94 c64_i32_95
  let c1_i32_96 : BitVec 32 := 1#32
  ⟨c0_i32_94, v158, c1_i32_96⟩
def k0_off51 (arg16 : BitVec 32) : Fin 1 → Nat :=
  let c63_i32 : BitVec 32 := 63#32
  let v162 : BitVec 32 := Scalar.minsi arg16 c63_i32
  let v163 : Index := Scalar.indexCast v162
  ![v163.toNat]
def k0_cond10 (v57 : BitVec 32) (v107 : BitVec 32) (v110 : BitVec 32) : BitVec 1 :=
  let c1_i32_69 : BitVec 32 := 1#32
  let v105 : BitVec 32 := Scalar.addi v57 c1_i32_69
  let v129 : BitVec 1 := Scalar.cmpi .sgt v110 v107
  let c0_i32_72 : BitVec 32 := 0#32
  let v112 : BitVec 1 := Scalar.cmpi .sgt v107 c0_i32_72
  let v113 : BitVec 32 := Scalar.extui v112
  let c0_i32_73 : BitVec 32 := 0#32
  let v114 : BitVec 1 := Scalar.cmpi .slt v107 c0_i32_73
  let v115 : BitVec 32 := Scalar.extui v114
  let v116 : BitVec 32 := Scalar.subi v113 v115
  let c128_i32_71 : BitVec 32 := 128#32
  let c0_i32_74 : BitVec 32 := 0#32
  let v117 : BitVec 1 := Scalar.cmpi .sgt c128_i32_71 c0_i32_74
  let v118 : BitVec 32 := Scalar.extui v117
  let c0_i32_75 : BitVec 32 := 0#32
  let v119 : BitVec 1 := Scalar.cmpi .slt c128_i32_71 c0_i32_75
  let v120 : BitVec 32 := Scalar.extui v119
  let v121 : BitVec 32 := Scalar.subi v118 v120
  let v122 : BitVec 1 := Scalar.cmpi .ne v116 v121
  let v123 : BitVec 32 := Scalar.remsi v107 c128_i32_71
  let c0_i32_76 : BitVec 32 := 0#32
  let v124 : BitVec 1 := Scalar.cmpi .ne v123 c0_i32_76
  let v125 : BitVec 1 := Scalar.andi v122 v124
  let v111 : BitVec 32 := Scalar.divsi v107 c128_i32_71
  let c1_i32_77 : BitVec 32 := 1#32
  let v126 : BitVec 32 := Scalar.subi v111 c1_i32_77
  let v127 : BitVec 32 := Scalar.select v125 v126 v111
  let c128_i32_78 : BitVec 32 := 128#32
  let v128 : BitVec 32 := Scalar.muli v127 c128_i32_78
  let v130 : BitVec 32 := Scalar.subi v110 v128
  let c256_i32_79 : BitVec 32 := 256#32
  let v131 : BitVec 32 := Scalar.addi v130 c256_i32_79
  let c1_i32_80 : BitVec 32 := 1#32
  let v132 : BitVec 32 := Scalar.subi v131 c1_i32_80
  let c0_i32_82 : BitVec 32 := 0#32
  let v134 : BitVec 1 := Scalar.cmpi .sgt v132 c0_i32_82
  let v135 : BitVec 32 := Scalar.extui v134
  let c0_i32_83 : BitVec 32 := 0#32
  let v136 : BitVec 1 := Scalar.cmpi .slt v132 c0_i32_83
  let v137 : BitVec 32 := Scalar.extui v136
  let v138 : BitVec 32 := Scalar.subi v135 v137
  let c256_i32_81 : BitVec 32 := 256#32
  let c0_i32_84 : BitVec 32 := 0#32
  let v139 : BitVec 1 := Scalar.cmpi .sgt c256_i32_81 c0_i32_84
  let v140 : BitVec 32 := Scalar.extui v139
  let c0_i32_85 : BitVec 32 := 0#32
  let v141 : BitVec 1 := Scalar.cmpi .slt c256_i32_81 c0_i32_85
  let v142 : BitVec 32 := Scalar.extui v141
  let v143 : BitVec 32 := Scalar.subi v140 v142
  let v144 : BitVec 1 := Scalar.cmpi .ne v138 v143
  let v145 : BitVec 32 := Scalar.remsi v132 c256_i32_81
  let c0_i32_86 : BitVec 32 := 0#32
  let v146 : BitVec 1 := Scalar.cmpi .ne v145 c0_i32_86
  let v147 : BitVec 1 := Scalar.andi v144 v146
  let v133 : BitVec 32 := Scalar.divsi v132 c256_i32_81
  let c1_i32_87 : BitVec 32 := 1#32
  let v148 : BitVec 32 := Scalar.subi v133 c1_i32_87
  let v149 : BitVec 32 := Scalar.select v147 v148 v133
  let c0_i32_88 : BitVec 32 := 0#32
  let v150 : BitVec 32 := Scalar.select v129 v149 c0_i32_88
  let v151 : BitVec 1 := Scalar.cmpi .sge v105 v150
  let v155 : BitVec 32 := Scalar.extui v151
  let c0_i32_92 : BitVec 32 := 0#32
  let v156 : BitVec 1 := Scalar.cmpi .ne v155 c0_i32_92
  v156

def k0_off52 (arg16 : BitVec 32) : Fin 1 → Nat :=
  let c63_i32 : BitVec 32 := 63#32
  let v162 : BitVec 32 := Scalar.minsi arg16 c63_i32
  let c1_i32_99 : BitVec 32 := 1#32
  let v165 : BitVec 32 := Scalar.addi v162 c1_i32_99
  let v166 : Index := Scalar.indexCast v165
  ![v166.toNat]

def k0_chk21 (v21 : BitVec 32) (v57 : BitVec 32) (v107 : BitVec 32) (v110 : BitVec 32) (arg16 : BitVec 32) : Prop :=
  (∀ (k0_h9 : k0_cond9 v21 = 1#1), ∀ (k0_h10 : k0_cond10 v57 v107 v110 = 1#1), ∀ a, (k0_off51 arg16) a + S1.size a ≤ S65.size a) ∧
  (∀ (k0_h9 : k0_cond9 v21 = 1#1), ∀ (k0_h10 : k0_cond10 v57 v107 v110 = 1#1), ∀ a, (k0_off52 arg16) a + S1.size a ≤ S65.size a)
theorem k0_off51_inb : ∀ (v21 : BitVec 32) (v57 : BitVec 32) (v107 : BitVec 32) (v110 : BitVec 32) (arg16 : BitVec 32) (k0_hw21 : k0_chk21 v21 v57 v107 v110 arg16), ∀ (k0_h9 : k0_cond9 v21 = 1#1), ∀ (k0_h10 : k0_cond10 v57 v107 v110 = 1#1), ∀ a, (k0_off51 arg16) a + S1.size a ≤ S65.size a := fun v21 v57 v107 v110 arg16 k0_hw21 k0_h9 k0_h10 => k0_hw21.1 k0_h9 k0_h10
theorem k0_off52_inb : ∀ (v21 : BitVec 32) (v57 : BitVec 32) (v107 : BitVec 32) (v110 : BitVec 32) (arg16 : BitVec 32) (k0_hw21 : k0_chk21 v21 v57 v107 v110 arg16), ∀ (k0_h9 : k0_cond9 v21 = 1#1), ∀ (k0_h10 : k0_cond10 v57 v107 v110 = 1#1), ∀ a, (k0_off52 arg16) a + S1.size a ≤ S65.size a := fun v21 v57 v107 v110 arg16 k0_hw21 k0_h9 k0_h10 => k0_hw21.2 k0_h9 k0_h10

def k0_off53 (v25 : BitVec 32) : Fin 1 → Nat :=
  let v59 : Index := Scalar.indexCast v25
  ![v59.toNat]
def k0_cond11 (v25 : BitVec 32) : BitVec 1 :=
  let c64_i32_19 : BitVec 32 := 64#32
  let v26 : BitVec 1 := Scalar.cmpi .slt v25 c64_i32_19
  let v27 : BitVec 32 := Scalar.extui v26
  let c0_i32_20 : BitVec 32 := 0#32
  let v28 : BitVec 1 := Scalar.cmpi .ne v27 c0_i32_20
  v28

def k0_mult6 (v57 : BitVec 32) (v60 : BitVec 32) : BitVec 32 :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  v81

def k0_off54 (v58 : BitVec 32) : Fin 1 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  ![v91.toNat]

def k0_off55 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_61 : BitVec 32 := 0#32
  let c0_i32_62 : BitVec 32 := 0#32
  ![v91.toNat, 0, 0]
def k0_off56 (v57 : BitVec 32) (v60 : BitVec 32) : Fin 2 → Nat :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  let c0_i32_63 : BitVec 32 := 0#32
  ![v92.toNat, 0]
def k0_off57 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_64 : BitVec 32 := 0#32
  let c0_i32_65 : BitVec 32 := 0#32
  ![v91.toNat, 0, 0]

def k0_chk24 (v25 : BitVec 32) (v58 : BitVec 32) : Prop :=
  (∀ (k0_h11 : k0_cond11 v25 = 1#1), ∀ a, (k0_off54 v58) a + S1.size a ≤ S8.size a) ∧
  (∀ (k0_h11 : k0_cond11 v25 = 1#1), ∀ a, (k0_off55 v58) a + S1x256x1024.size a ≤ S8x256x1024.size a) ∧
  (∀ (k0_h11 : k0_cond11 v25 = 1#1), ∀ (hinb : ∀ a, (k0_off55 v58) a + S1x256x1024.size a ≤ S8x256x1024.size a), (Rect.unit (s := S8x256x1024) (k0_off55 v58) S1x256x1024.size hinb).WholeWords (EltTy.packing .fp8e4m3)) ∧
  (∀ (k0_h11 : k0_cond11 v25 = 1#1), ∀ a, (k0_off57 v58) a + S1x16x256.size a ≤ S8x16x256.size a)
theorem k0_off54_inb : ∀ (v25 : BitVec 32) (v58 : BitVec 32) (k0_hw24 : k0_chk24 v25 v58), ∀ (k0_h11 : k0_cond11 v25 = 1#1), ∀ a, (k0_off54 v58) a + S1.size a ≤ S8.size a := fun v25 v58 k0_hw24 k0_h11 => k0_hw24.1 k0_h11
theorem k0_off55_inb : ∀ (v25 : BitVec 32) (v58 : BitVec 32) (k0_hw24 : k0_chk24 v25 v58), ∀ (k0_h11 : k0_cond11 v25 = 1#1), ∀ a, (k0_off55 v58) a + S1x256x1024.size a ≤ S8x256x1024.size a := fun v25 v58 k0_hw24 k0_h11 => k0_hw24.2.1 k0_h11
theorem k0_off55_wordsfp8e4m3 : ∀ (v25 : BitVec 32) (v58 : BitVec 32) (k0_hw24 : k0_chk24 v25 v58), ∀ (k0_h11 : k0_cond11 v25 = 1#1), (Rect.unit (s := S8x256x1024) (k0_off55 v58) S1x256x1024.size (k0_off55_inb v25 v58 k0_hw24 k0_h11)).WholeWords (EltTy.packing .fp8e4m3) := fun v25 v58 k0_hw24 k0_h11 => k0_hw24.2.2.1 k0_h11 (k0_off55_inb v25 v58 k0_hw24 k0_h11)
theorem k0_off57_inb : ∀ (v25 : BitVec 32) (v58 : BitVec 32) (k0_hw24 : k0_chk24 v25 v58), ∀ (k0_h11 : k0_cond11 v25 = 1#1), ∀ a, (k0_off57 v58) a + S1x16x256.size a ≤ S8x16x256.size a := fun v25 v58 k0_hw24 k0_h11 => k0_hw24.2.2.2 k0_h11

def k0_off58 (v57 : BitVec 32) (v60 : BitVec 32) : Fin 2 → Nat :=
  let c0_i32_66 : BitVec 32 := 0#32
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  ![0, v92.toNat]

def k0_chk23 (v25 : BitVec 32) (v57 : BitVec 32) (v60 : BitVec 32) : Prop :=
  (∀ (k0_h11 : k0_cond11 v25 = 1#1), 128 ∣ (k0_mult6 v57 v60).toNat) ∧
  (∀ (k0_h11 : k0_cond11 v25 = 1#1), ∀ a, (k0_off56 v57 v60) a + S256x1024.size a ≤ S32768x1024.size a) ∧
  (∀ (k0_h11 : k0_cond11 v25 = 1#1), ∀ (hinb : ∀ a, (k0_off56 v57 v60) a + S256x1024.size a ≤ S32768x1024.size a), (Rect.unit (s := S32768x1024) (k0_off56 v57 v60) S256x1024.size hinb).WholeWords (EltTy.packing .fp8e4m3)) ∧
  (∀ (k0_h11 : k0_cond11 v25 = 1#1), ∀ a, (k0_off58 v57 v60) a + S16x256.size a ≤ S16x32768.size a)
theorem k0_mult6_dvd : ∀ (v25 : BitVec 32) (v57 : BitVec 32) (v60 : BitVec 32) (k0_hw23 : k0_chk23 v25 v57 v60), ∀ (k0_h11 : k0_cond11 v25 = 1#1), 128 ∣ (k0_mult6 v57 v60).toNat := fun v25 v57 v60 k0_hw23 k0_h11 => k0_hw23.1 k0_h11
theorem k0_off56_inb : ∀ (v25 : BitVec 32) (v57 : BitVec 32) (v60 : BitVec 32) (k0_hw23 : k0_chk23 v25 v57 v60), ∀ (k0_h11 : k0_cond11 v25 = 1#1), ∀ a, (k0_off56 v57 v60) a + S256x1024.size a ≤ S32768x1024.size a := fun v25 v57 v60 k0_hw23 k0_h11 => k0_hw23.2.1 k0_h11
theorem k0_off56_wordsfp8e4m3 : ∀ (v25 : BitVec 32) (v57 : BitVec 32) (v60 : BitVec 32) (k0_hw23 : k0_chk23 v25 v57 v60), ∀ (k0_h11 : k0_cond11 v25 = 1#1), (Rect.unit (s := S32768x1024) (k0_off56 v57 v60) S256x1024.size (k0_off56_inb v25 v57 v60 k0_hw23 k0_h11)).WholeWords (EltTy.packing .fp8e4m3) := fun v25 v57 v60 k0_hw23 k0_h11 => k0_hw23.2.2.1 k0_h11 (k0_off56_inb v25 v57 v60 k0_hw23 k0_h11)
theorem k0_off58_inb : ∀ (v25 : BitVec 32) (v57 : BitVec 32) (v60 : BitVec 32) (k0_hw23 : k0_chk23 v25 v57 v60), ∀ (k0_h11 : k0_cond11 v25 = 1#1), ∀ a, (k0_off58 v57 v60) a + S16x256.size a ≤ S16x32768.size a := fun v25 v57 v60 k0_hw23 k0_h11 => k0_hw23.2.2.2 k0_h11

def k0_off59 (v25 : BitVec 32) : Fin 1 → Nat :=
  let v106 : Index := Scalar.indexCast v25
  ![v106.toNat]
def k0_off60 (v25 : BitVec 32) : Fin 1 → Nat :=
  let c1_i32_70 : BitVec 32 := 1#32
  let v108 : BitVec 32 := Scalar.addi v25 c1_i32_70
  let v109 : Index := Scalar.indexCast v108
  ![v109.toNat]

def k0_chk22 (v25 : BitVec 32) : Prop :=
  (∀ (k0_h11 : k0_cond11 v25 = 1#1), ∀ a, (k0_off53 v25) a + S1.size a ≤ S65.size a) ∧
  (∀ (k0_h11 : k0_cond11 v25 = 1#1), ∀ a, (k0_off59 v25) a + S1.size a ≤ S65.size a) ∧
  (∀ (k0_h11 : k0_cond11 v25 = 1#1), ∀ a, (k0_off60 v25) a + S1.size a ≤ S65.size a)
theorem k0_off53_inb : ∀ (v25 : BitVec 32) (k0_hw22 : k0_chk22 v25), ∀ (k0_h11 : k0_cond11 v25 = 1#1), ∀ a, (k0_off53 v25) a + S1.size a ≤ S65.size a := fun v25 k0_hw22 k0_h11 => k0_hw22.1 k0_h11
theorem k0_off59_inb : ∀ (v25 : BitVec 32) (k0_hw22 : k0_chk22 v25), ∀ (k0_h11 : k0_cond11 v25 = 1#1), ∀ a, (k0_off59 v25) a + S1.size a ≤ S65.size a := fun v25 k0_hw22 k0_h11 => k0_hw22.2.1 k0_h11
theorem k0_off60_inb : ∀ (v25 : BitVec 32) (k0_hw22 : k0_chk22 v25), ∀ (k0_h11 : k0_cond11 v25 = 1#1), ∀ a, (k0_off60 v25) a + S1.size a ≤ S65.size a := fun v25 k0_hw22 k0_h11 => k0_hw22.2.2 k0_h11

@[reducible] def k0_t7_loop : Scf.Loop 32 :=
  let c0_i32_94 : BitVec 32 := 0#32
  let c64_i32_95 : BitVec 32 := 64#32
  let v158 : BitVec 32 := Scalar.addi c0_i32_94 c64_i32_95
  let c1_i32_96 : BitVec 32 := 1#32
  ⟨c0_i32_94, v158, c1_i32_96⟩
def k0_off61 (arg16 : BitVec 32) : Fin 1 → Nat :=
  let c63_i32 : BitVec 32 := 63#32
  let v162 : BitVec 32 := Scalar.minsi arg16 c63_i32
  let v163 : Index := Scalar.indexCast v162
  ![v163.toNat]
def k0_cond12 (v57 : BitVec 32) (v107 : BitVec 32) (v110 : BitVec 32) : BitVec 1 :=
  let c1_i32_69 : BitVec 32 := 1#32
  let v105 : BitVec 32 := Scalar.addi v57 c1_i32_69
  let v129 : BitVec 1 := Scalar.cmpi .sgt v110 v107
  let c0_i32_72 : BitVec 32 := 0#32
  let v112 : BitVec 1 := Scalar.cmpi .sgt v107 c0_i32_72
  let v113 : BitVec 32 := Scalar.extui v112
  let c0_i32_73 : BitVec 32 := 0#32
  let v114 : BitVec 1 := Scalar.cmpi .slt v107 c0_i32_73
  let v115 : BitVec 32 := Scalar.extui v114
  let v116 : BitVec 32 := Scalar.subi v113 v115
  let c128_i32_71 : BitVec 32 := 128#32
  let c0_i32_74 : BitVec 32 := 0#32
  let v117 : BitVec 1 := Scalar.cmpi .sgt c128_i32_71 c0_i32_74
  let v118 : BitVec 32 := Scalar.extui v117
  let c0_i32_75 : BitVec 32 := 0#32
  let v119 : BitVec 1 := Scalar.cmpi .slt c128_i32_71 c0_i32_75
  let v120 : BitVec 32 := Scalar.extui v119
  let v121 : BitVec 32 := Scalar.subi v118 v120
  let v122 : BitVec 1 := Scalar.cmpi .ne v116 v121
  let v123 : BitVec 32 := Scalar.remsi v107 c128_i32_71
  let c0_i32_76 : BitVec 32 := 0#32
  let v124 : BitVec 1 := Scalar.cmpi .ne v123 c0_i32_76
  let v125 : BitVec 1 := Scalar.andi v122 v124
  let v111 : BitVec 32 := Scalar.divsi v107 c128_i32_71
  let c1_i32_77 : BitVec 32 := 1#32
  let v126 : BitVec 32 := Scalar.subi v111 c1_i32_77
  let v127 : BitVec 32 := Scalar.select v125 v126 v111
  let c128_i32_78 : BitVec 32 := 128#32
  let v128 : BitVec 32 := Scalar.muli v127 c128_i32_78
  let v130 : BitVec 32 := Scalar.subi v110 v128
  let c256_i32_79 : BitVec 32 := 256#32
  let v131 : BitVec 32 := Scalar.addi v130 c256_i32_79
  let c1_i32_80 : BitVec 32 := 1#32
  let v132 : BitVec 32 := Scalar.subi v131 c1_i32_80
  let c0_i32_82 : BitVec 32 := 0#32
  let v134 : BitVec 1 := Scalar.cmpi .sgt v132 c0_i32_82
  let v135 : BitVec 32 := Scalar.extui v134
  let c0_i32_83 : BitVec 32 := 0#32
  let v136 : BitVec 1 := Scalar.cmpi .slt v132 c0_i32_83
  let v137 : BitVec 32 := Scalar.extui v136
  let v138 : BitVec 32 := Scalar.subi v135 v137
  let c256_i32_81 : BitVec 32 := 256#32
  let c0_i32_84 : BitVec 32 := 0#32
  let v139 : BitVec 1 := Scalar.cmpi .sgt c256_i32_81 c0_i32_84
  let v140 : BitVec 32 := Scalar.extui v139
  let c0_i32_85 : BitVec 32 := 0#32
  let v141 : BitVec 1 := Scalar.cmpi .slt c256_i32_81 c0_i32_85
  let v142 : BitVec 32 := Scalar.extui v141
  let v143 : BitVec 32 := Scalar.subi v140 v142
  let v144 : BitVec 1 := Scalar.cmpi .ne v138 v143
  let v145 : BitVec 32 := Scalar.remsi v132 c256_i32_81
  let c0_i32_86 : BitVec 32 := 0#32
  let v146 : BitVec 1 := Scalar.cmpi .ne v145 c0_i32_86
  let v147 : BitVec 1 := Scalar.andi v144 v146
  let v133 : BitVec 32 := Scalar.divsi v132 c256_i32_81
  let c1_i32_87 : BitVec 32 := 1#32
  let v148 : BitVec 32 := Scalar.subi v133 c1_i32_87
  let v149 : BitVec 32 := Scalar.select v147 v148 v133
  let c0_i32_88 : BitVec 32 := 0#32
  let v150 : BitVec 32 := Scalar.select v129 v149 c0_i32_88
  let v151 : BitVec 1 := Scalar.cmpi .sge v105 v150
  let v155 : BitVec 32 := Scalar.extui v151
  let c0_i32_92 : BitVec 32 := 0#32
  let v156 : BitVec 1 := Scalar.cmpi .ne v155 c0_i32_92
  v156

def k0_off62 (arg16 : BitVec 32) : Fin 1 → Nat :=
  let c63_i32 : BitVec 32 := 63#32
  let v162 : BitVec 32 := Scalar.minsi arg16 c63_i32
  let c1_i32_99 : BitVec 32 := 1#32
  let v165 : BitVec 32 := Scalar.addi v162 c1_i32_99
  let v166 : Index := Scalar.indexCast v165
  ![v166.toNat]

def k0_chk25 (v25 : BitVec 32) (v57 : BitVec 32) (v107 : BitVec 32) (v110 : BitVec 32) (arg16 : BitVec 32) : Prop :=
  (∀ (k0_h11 : k0_cond11 v25 = 1#1), ∀ (k0_h12 : k0_cond12 v57 v107 v110 = 1#1), ∀ a, (k0_off61 arg16) a + S1.size a ≤ S65.size a) ∧
  (∀ (k0_h11 : k0_cond11 v25 = 1#1), ∀ (k0_h12 : k0_cond12 v57 v107 v110 = 1#1), ∀ a, (k0_off62 arg16) a + S1.size a ≤ S65.size a)
theorem k0_off61_inb : ∀ (v25 : BitVec 32) (v57 : BitVec 32) (v107 : BitVec 32) (v110 : BitVec 32) (arg16 : BitVec 32) (k0_hw25 : k0_chk25 v25 v57 v107 v110 arg16), ∀ (k0_h11 : k0_cond11 v25 = 1#1), ∀ (k0_h12 : k0_cond12 v57 v107 v110 = 1#1), ∀ a, (k0_off61 arg16) a + S1.size a ≤ S65.size a := fun v25 v57 v107 v110 arg16 k0_hw25 k0_h11 k0_h12 => k0_hw25.1 k0_h11 k0_h12
theorem k0_off62_inb : ∀ (v25 : BitVec 32) (v57 : BitVec 32) (v107 : BitVec 32) (v110 : BitVec 32) (arg16 : BitVec 32) (k0_hw25 : k0_chk25 v25 v57 v107 v110 arg16), ∀ (k0_h11 : k0_cond11 v25 = 1#1), ∀ (k0_h12 : k0_cond12 v57 v107 v110 = 1#1), ∀ a, (k0_off62 arg16) a + S1.size a ≤ S65.size a := fun v25 v57 v107 v110 arg16 k0_hw25 k0_h11 k0_h12 => k0_hw25.2 k0_h11 k0_h12

def k0_off63 (v29 : BitVec 32) : Fin 1 → Nat :=
  let v59 : Index := Scalar.indexCast v29
  ![v59.toNat]
def k0_cond13 (v29 : BitVec 32) : BitVec 1 :=
  let c64_i32_22 : BitVec 32 := 64#32
  let v30 : BitVec 1 := Scalar.cmpi .slt v29 c64_i32_22
  let v31 : BitVec 32 := Scalar.extui v30
  let c0_i32_23 : BitVec 32 := 0#32
  let v32 : BitVec 1 := Scalar.cmpi .ne v31 c0_i32_23
  v32

def k0_mult7 (v57 : BitVec 32) (v60 : BitVec 32) : BitVec 32 :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  v81

def k0_off64 (v58 : BitVec 32) : Fin 1 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  ![v91.toNat]

def k0_off65 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_61 : BitVec 32 := 0#32
  let c0_i32_62 : BitVec 32 := 0#32
  ![v91.toNat, 0, 0]
def k0_off66 (v57 : BitVec 32) (v60 : BitVec 32) : Fin 2 → Nat :=
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  let c0_i32_63 : BitVec 32 := 0#32
  ![v92.toNat, 0]
def k0_off67 (v58 : BitVec 32) : Fin 3 → Nat :=
  let c8_i32 : BitVec 32 := 8#32
  let c0_i32_56 : BitVec 32 := 0#32
  let v82 : BitVec 1 := Scalar.cmpi .eq c8_i32 c0_i32_56
  let c1_i32_57 : BitVec 32 := 1#32
  let v83 : BitVec 32 := Scalar.select v82 c1_i32_57 c8_i32
  let v84 : BitVec 32 := Scalar.remsi v58 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c0_i32_64 : BitVec 32 := 0#32
  let c0_i32_65 : BitVec 32 := 0#32
  ![v91.toNat, 0, 0]

def k0_chk28 (v29 : BitVec 32) (v58 : BitVec 32) : Prop :=
  (∀ (k0_h13 : k0_cond13 v29 = 1#1), ∀ a, (k0_off64 v58) a + S1.size a ≤ S8.size a) ∧
  (∀ (k0_h13 : k0_cond13 v29 = 1#1), ∀ a, (k0_off65 v58) a + S1x256x1024.size a ≤ S8x256x1024.size a) ∧
  (∀ (k0_h13 : k0_cond13 v29 = 1#1), ∀ (hinb : ∀ a, (k0_off65 v58) a + S1x256x1024.size a ≤ S8x256x1024.size a), (Rect.unit (s := S8x256x1024) (k0_off65 v58) S1x256x1024.size hinb).WholeWords (EltTy.packing .fp8e4m3)) ∧
  (∀ (k0_h13 : k0_cond13 v29 = 1#1), ∀ a, (k0_off67 v58) a + S1x16x256.size a ≤ S8x16x256.size a)
theorem k0_off64_inb : ∀ (v29 : BitVec 32) (v58 : BitVec 32) (k0_hw28 : k0_chk28 v29 v58), ∀ (k0_h13 : k0_cond13 v29 = 1#1), ∀ a, (k0_off64 v58) a + S1.size a ≤ S8.size a := fun v29 v58 k0_hw28 k0_h13 => k0_hw28.1 k0_h13
theorem k0_off65_inb : ∀ (v29 : BitVec 32) (v58 : BitVec 32) (k0_hw28 : k0_chk28 v29 v58), ∀ (k0_h13 : k0_cond13 v29 = 1#1), ∀ a, (k0_off65 v58) a + S1x256x1024.size a ≤ S8x256x1024.size a := fun v29 v58 k0_hw28 k0_h13 => k0_hw28.2.1 k0_h13
theorem k0_off65_wordsfp8e4m3 : ∀ (v29 : BitVec 32) (v58 : BitVec 32) (k0_hw28 : k0_chk28 v29 v58), ∀ (k0_h13 : k0_cond13 v29 = 1#1), (Rect.unit (s := S8x256x1024) (k0_off65 v58) S1x256x1024.size (k0_off65_inb v29 v58 k0_hw28 k0_h13)).WholeWords (EltTy.packing .fp8e4m3) := fun v29 v58 k0_hw28 k0_h13 => k0_hw28.2.2.1 k0_h13 (k0_off65_inb v29 v58 k0_hw28 k0_h13)
theorem k0_off67_inb : ∀ (v29 : BitVec 32) (v58 : BitVec 32) (k0_hw28 : k0_chk28 v29 v58), ∀ (k0_h13 : k0_cond13 v29 = 1#1), ∀ a, (k0_off67 v58) a + S1x16x256.size a ≤ S8x16x256.size a := fun v29 v58 k0_hw28 k0_h13 => k0_hw28.2.2.2 k0_h13

def k0_off68 (v57 : BitVec 32) (v60 : BitVec 32) : Fin 2 → Nat :=
  let c0_i32_66 : BitVec 32 := 0#32
  let c0_i32_49 : BitVec 32 := 0#32
  let v62 : BitVec 1 := Scalar.cmpi .sgt v60 c0_i32_49
  let v63 : BitVec 32 := Scalar.extui v62
  let c0_i32_50 : BitVec 32 := 0#32
  let v64 : BitVec 1 := Scalar.cmpi .slt v60 c0_i32_50
  let v65 : BitVec 32 := Scalar.extui v64
  let v66 : BitVec 32 := Scalar.subi v63 v65
  let c128_i32 : BitVec 32 := 128#32
  let c0_i32_51 : BitVec 32 := 0#32
  let v67 : BitVec 1 := Scalar.cmpi .sgt c128_i32 c0_i32_51
  let v68 : BitVec 32 := Scalar.extui v67
  let c0_i32_52 : BitVec 32 := 0#32
  let v69 : BitVec 1 := Scalar.cmpi .slt c128_i32 c0_i32_52
  let v70 : BitVec 32 := Scalar.extui v69
  let v71 : BitVec 32 := Scalar.subi v68 v70
  let v72 : BitVec 1 := Scalar.cmpi .ne v66 v71
  let v73 : BitVec 32 := Scalar.remsi v60 c128_i32
  let c0_i32_53 : BitVec 32 := 0#32
  let v74 : BitVec 1 := Scalar.cmpi .ne v73 c0_i32_53
  let v75 : BitVec 1 := Scalar.andi v72 v74
  let v61 : BitVec 32 := Scalar.divsi v60 c128_i32
  let c1_i32_54 : BitVec 32 := 1#32
  let v76 : BitVec 32 := Scalar.subi v61 c1_i32_54
  let v77 : BitVec 32 := Scalar.select v75 v76 v61
  let c128_i32_55 : BitVec 32 := 128#32
  let v78 : BitVec 32 := Scalar.muli v77 c128_i32_55
  let c256_i32 : BitVec 32 := 256#32
  let v79 : BitVec 32 := Scalar.muli v57 c256_i32
  let v80 : BitVec 32 := Scalar.addi v78 v79
  let c32512_i32 : BitVec 32 := 32512#32
  let v81 : BitVec 32 := Scalar.minsi v80 c32512_i32
  let v92 : BitVec 32 := v81
  ![0, v92.toNat]

def k0_chk27 (v29 : BitVec 32) (v57 : BitVec 32) (v60 : BitVec 32) : Prop :=
  (∀ (k0_h13 : k0_cond13 v29 = 1#1), 128 ∣ (k0_mult7 v57 v60).toNat) ∧
  (∀ (k0_h13 : k0_cond13 v29 = 1#1), ∀ a, (k0_off66 v57 v60) a + S256x1024.size a ≤ S32768x1024.size a) ∧
  (∀ (k0_h13 : k0_cond13 v29 = 1#1), ∀ (hinb : ∀ a, (k0_off66 v57 v60) a + S256x1024.size a ≤ S32768x1024.size a), (Rect.unit (s := S32768x1024) (k0_off66 v57 v60) S256x1024.size hinb).WholeWords (EltTy.packing .fp8e4m3)) ∧
  (∀ (k0_h13 : k0_cond13 v29 = 1#1), ∀ a, (k0_off68 v57 v60) a + S16x256.size a ≤ S16x32768.size a)
theorem k0_mult7_dvd : ∀ (v29 : BitVec 32) (v57 : BitVec 32) (v60 : BitVec 32) (k0_hw27 : k0_chk27 v29 v57 v60), ∀ (k0_h13 : k0_cond13 v29 = 1#1), 128 ∣ (k0_mult7 v57 v60).toNat := fun v29 v57 v60 k0_hw27 k0_h13 => k0_hw27.1 k0_h13
theorem k0_off66_inb : ∀ (v29 : BitVec 32) (v57 : BitVec 32) (v60 : BitVec 32) (k0_hw27 : k0_chk27 v29 v57 v60), ∀ (k0_h13 : k0_cond13 v29 = 1#1), ∀ a, (k0_off66 v57 v60) a + S256x1024.size a ≤ S32768x1024.size a := fun v29 v57 v60 k0_hw27 k0_h13 => k0_hw27.2.1 k0_h13
theorem k0_off66_wordsfp8e4m3 : ∀ (v29 : BitVec 32) (v57 : BitVec 32) (v60 : BitVec 32) (k0_hw27 : k0_chk27 v29 v57 v60), ∀ (k0_h13 : k0_cond13 v29 = 1#1), (Rect.unit (s := S32768x1024) (k0_off66 v57 v60) S256x1024.size (k0_off66_inb v29 v57 v60 k0_hw27 k0_h13)).WholeWords (EltTy.packing .fp8e4m3) := fun v29 v57 v60 k0_hw27 k0_h13 => k0_hw27.2.2.1 k0_h13 (k0_off66_inb v29 v57 v60 k0_hw27 k0_h13)
theorem k0_off68_inb : ∀ (v29 : BitVec 32) (v57 : BitVec 32) (v60 : BitVec 32) (k0_hw27 : k0_chk27 v29 v57 v60), ∀ (k0_h13 : k0_cond13 v29 = 1#1), ∀ a, (k0_off68 v57 v60) a + S16x256.size a ≤ S16x32768.size a := fun v29 v57 v60 k0_hw27 k0_h13 => k0_hw27.2.2.2 k0_h13

def k0_off69 (v29 : BitVec 32) : Fin 1 → Nat :=
  let v106 : Index := Scalar.indexCast v29
  ![v106.toNat]
def k0_off70 (v29 : BitVec 32) : Fin 1 → Nat :=
  let c1_i32_70 : BitVec 32 := 1#32
  let v108 : BitVec 32 := Scalar.addi v29 c1_i32_70
  let v109 : Index := Scalar.indexCast v108
  ![v109.toNat]

def k0_chk26 (v29 : BitVec 32) : Prop :=
  (∀ (k0_h13 : k0_cond13 v29 = 1#1), ∀ a, (k0_off63 v29) a + S1.size a ≤ S65.size a) ∧
  (∀ (k0_h13 : k0_cond13 v29 = 1#1), ∀ a, (k0_off69 v29) a + S1.size a ≤ S65.size a) ∧
  (∀ (k0_h13 : k0_cond13 v29 = 1#1), ∀ a, (k0_off70 v29) a + S1.size a ≤ S65.size a)
theorem k0_off63_inb : ∀ (v29 : BitVec 32) (k0_hw26 : k0_chk26 v29), ∀ (k0_h13 : k0_cond13 v29 = 1#1), ∀ a, (k0_off63 v29) a + S1.size a ≤ S65.size a := fun v29 k0_hw26 k0_h13 => k0_hw26.1 k0_h13
theorem k0_off69_inb : ∀ (v29 : BitVec 32) (k0_hw26 : k0_chk26 v29), ∀ (k0_h13 : k0_cond13 v29 = 1#1), ∀ a, (k0_off69 v29) a + S1.size a ≤ S65.size a := fun v29 k0_hw26 k0_h13 => k0_hw26.2.1 k0_h13
theorem k0_off70_inb : ∀ (v29 : BitVec 32) (k0_hw26 : k0_chk26 v29), ∀ (k0_h13 : k0_cond13 v29 = 1#1), ∀ a, (k0_off70 v29) a + S1.size a ≤ S65.size a := fun v29 k0_hw26 k0_h13 => k0_hw26.2.2 k0_h13

@[reducible] def k0_t8_loop : Scf.Loop 32 :=
  let c0_i32_94 : BitVec 32 := 0#32
  let c64_i32_95 : BitVec 32 := 64#32
  let v158 : BitVec 32 := Scalar.addi c0_i32_94 c64_i32_95
  let c1_i32_96 : BitVec 32 := 1#32
  ⟨c0_i32_94, v158, c1_i32_96⟩
def k0_off71 (arg16 : BitVec 32) : Fin 1 → Nat :=
  let c63_i32 : BitVec 32 := 63#32
  let v162 : BitVec 32 := Scalar.minsi arg16 c63_i32
  let v163 : Index := Scalar.indexCast v162
  ![v163.toNat]
def k0_cond14 (v57 : BitVec 32) (v107 : BitVec 32) (v110 : BitVec 32) : BitVec 1 :=
  let c1_i32_69 : BitVec 32 := 1#32
  let v105 : BitVec 32 := Scalar.addi v57 c1_i32_69
  let v129 : BitVec 1 := Scalar.cmpi .sgt v110 v107
  let c0_i32_72 : BitVec 32 := 0#32
  let v112 : BitVec 1 := Scalar.cmpi .sgt v107 c0_i32_72
  let v113 : BitVec 32 := Scalar.extui v112
  let c0_i32_73 : BitVec 32 := 0#32
  let v114 : BitVec 1 := Scalar.cmpi .slt v107 c0_i32_73
  let v115 : BitVec 32 := Scalar.extui v114
  let v116 : BitVec 32 := Scalar.subi v113 v115
  let c128_i32_71 : BitVec 32 := 128#32
  let c0_i32_74 : BitVec 32 := 0#32
  let v117 : BitVec 1 := Scalar.cmpi .sgt c128_i32_71 c0_i32_74
  let v118 : BitVec 32 := Scalar.extui v117
  let c0_i32_75 : BitVec 32 := 0#32
  let v119 : BitVec 1 := Scalar.cmpi .slt c128_i32_71 c0_i32_75
  let v120 : BitVec 32 := Scalar.extui v119
  let v121 : BitVec 32 := Scalar.subi v118 v120
  let v122 : BitVec 1 := Scalar.cmpi .ne v116 v121
  let v123 : BitVec 32 := Scalar.remsi v107 c128_i32_71
  let c0_i32_76 : BitVec 32 := 0#32
  let v124 : BitVec 1 := Scalar.cmpi .ne v123 c0_i32_76
  let v125 : BitVec 1 := Scalar.andi v122 v124
  let v111 : BitVec 32 := Scalar.divsi v107 c128_i32_71
  let c1_i32_77 : BitVec 32 := 1#32
  let v126 : BitVec 32 := Scalar.subi v111 c1_i32_77
  let v127 : BitVec 32 := Scalar.select v125 v126 v111
  let c128_i32_78 : BitVec 32 := 128#32
  let v128 : BitVec 32 := Scalar.muli v127 c128_i32_78
  let v130 : BitVec 32 := Scalar.subi v110 v128
  let c256_i32_79 : BitVec 32 := 256#32
  let v131 : BitVec 32 := Scalar.addi v130 c256_i32_79
  let c1_i32_80 : BitVec 32 := 1#32
  let v132 : BitVec 32 := Scalar.subi v131 c1_i32_80
  let c0_i32_82 : BitVec 32 := 0#32
  let v134 : BitVec 1 := Scalar.cmpi .sgt v132 c0_i32_82
  let v135 : BitVec 32 := Scalar.extui v134
  let c0_i32_83 : BitVec 32 := 0#32
  let v136 : BitVec 1 := Scalar.cmpi .slt v132 c0_i32_83
  let v137 : BitVec 32 := Scalar.extui v136
  let v138 : BitVec 32 := Scalar.subi v135 v137
  let c256_i32_81 : BitVec 32 := 256#32
  let c0_i32_84 : BitVec 32 := 0#32
  let v139 : BitVec 1 := Scalar.cmpi .sgt c256_i32_81 c0_i32_84
  let v140 : BitVec 32 := Scalar.extui v139
  let c0_i32_85 : BitVec 32 := 0#32
  let v141 : BitVec 1 := Scalar.cmpi .slt c256_i32_81 c0_i32_85
  let v142 : BitVec 32 := Scalar.extui v141
  let v143 : BitVec 32 := Scalar.subi v140 v142
  let v144 : BitVec 1 := Scalar.cmpi .ne v138 v143
  let v145 : BitVec 32 := Scalar.remsi v132 c256_i32_81
  let c0_i32_86 : BitVec 32 := 0#32
  let v146 : BitVec 1 := Scalar.cmpi .ne v145 c0_i32_86
  let v147 : BitVec 1 := Scalar.andi v144 v146
  let v133 : BitVec 32 := Scalar.divsi v132 c256_i32_81
  let c1_i32_87 : BitVec 32 := 1#32
  let v148 : BitVec 32 := Scalar.subi v133 c1_i32_87
  let v149 : BitVec 32 := Scalar.select v147 v148 v133
  let c0_i32_88 : BitVec 32 := 0#32
  let v150 : BitVec 32 := Scalar.select v129 v149 c0_i32_88
  let v151 : BitVec 1 := Scalar.cmpi .sge v105 v150
  let v155 : BitVec 32 := Scalar.extui v151
  let c0_i32_92 : BitVec 32 := 0#32
  let v156 : BitVec 1 := Scalar.cmpi .ne v155 c0_i32_92
  v156

def k0_off72 (arg16 : BitVec 32) : Fin 1 → Nat :=
  let c63_i32 : BitVec 32 := 63#32
  let v162 : BitVec 32 := Scalar.minsi arg16 c63_i32
  let c1_i32_99 : BitVec 32 := 1#32
  let v165 : BitVec 32 := Scalar.addi v162 c1_i32_99
  let v166 : Index := Scalar.indexCast v165
  ![v166.toNat]

def k0_chk29 (v29 : BitVec 32) (v57 : BitVec 32) (v107 : BitVec 32) (v110 : BitVec 32) (arg16 : BitVec 32) : Prop :=
  (∀ (k0_h13 : k0_cond13 v29 = 1#1), ∀ (k0_h14 : k0_cond14 v57 v107 v110 = 1#1), ∀ a, (k0_off71 arg16) a + S1.size a ≤ S65.size a) ∧
  (∀ (k0_h13 : k0_cond13 v29 = 1#1), ∀ (k0_h14 : k0_cond14 v57 v107 v110 = 1#1), ∀ a, (k0_off72 arg16) a + S1.size a ≤ S65.size a)
theorem k0_off71_inb : ∀ (v29 : BitVec 32) (v57 : BitVec 32) (v107 : BitVec 32) (v110 : BitVec 32) (arg16 : BitVec 32) (k0_hw29 : k0_chk29 v29 v57 v107 v110 arg16), ∀ (k0_h13 : k0_cond13 v29 = 1#1), ∀ (k0_h14 : k0_cond14 v57 v107 v110 = 1#1), ∀ a, (k0_off71 arg16) a + S1.size a ≤ S65.size a := fun v29 v57 v107 v110 arg16 k0_hw29 k0_h13 k0_h14 => k0_hw29.1 k0_h13 k0_h14
theorem k0_off72_inb : ∀ (v29 : BitVec 32) (v57 : BitVec 32) (v107 : BitVec 32) (v110 : BitVec 32) (arg16 : BitVec 32) (k0_hw29 : k0_chk29 v29 v57 v107 v110 arg16), ∀ (k0_h13 : k0_cond13 v29 = 1#1), ∀ (k0_h14 : k0_cond14 v57 v107 v110 = 1#1), ∀ a, (k0_off72 arg16) a + S1.size a ≤ S65.size a := fun v29 v57 v107 v110 arg16 k0_hw29 k0_h13 k0_h14 => k0_hw29.2 k0_h13 k0_h14

@[reducible] def k0_t9_loop : Scf.Loop 32 :=
  let c0_i32_27 : BitVec 32 := 0#32
  let c64_i32_28 : BitVec 32 := 64#32
  let v37 : BitVec 32 := Scalar.addi c0_i32_27 c64_i32_28
  let c1_i32_29 : BitVec 32 := 1#32
  ⟨c0_i32_27, v37, c1_i32_29⟩
def k0_off73 (k0_t9 : Fin k0_t9_loop.trips) : Fin 1 → Nat :=
  let c0_i32_27 : BitVec 32 := 0#32
  let c1_i32_29 : BitVec 32 := 1#32
  let arg15 : BitVec 32 := Scf.iv c0_i32_27 c1_i32_29 k0_t9
  let v57 : Index := Scalar.indexCast arg15
  ![v57.toNat]
def k0_off74 (k0_t9 : Fin k0_t9_loop.trips) : Fin 1 → Nat :=
  let c0_i32_27 : BitVec 32 := 0#32
  let c1_i32_29 : BitVec 32 := 1#32
  let arg15 : BitVec 32 := Scf.iv c0_i32_27 c1_i32_29 k0_t9
  let c1_i32_47 : BitVec 32 := 1#32
  let v59 : BitVec 32 := Scalar.addi arg15 c1_i32_47
  let v60 : Index := Scalar.indexCast v59
  ![v60.toNat]
def k0_off75 (k0_t9 : Fin k0_t9_loop.trips) : Fin 1 → Nat :=
  let c0_i32_27 : BitVec 32 := 0#32
  let c1_i32_29 : BitVec 32 := 1#32
  let arg15 : BitVec 32 := Scf.iv c0_i32_27 c1_i32_29 k0_t9
  let v63 : Index := Scalar.indexCast arg15
  ![v63.toNat]
def k0_off76 (k0_t9 : Fin k0_t9_loop.trips) : Fin 3 → Nat :=
  let c0_i32_27 : BitVec 32 := 0#32
  let c1_i32_29 : BitVec 32 := 1#32
  let arg15 : BitVec 32 := Scf.iv c0_i32_27 c1_i32_29 k0_t9
  let c0_i32_51 : BitVec 32 := 0#32
  let c0_i32_52 : BitVec 32 := 0#32
  ![arg15.toNat, 0, 0]
def k0_off77 (k0_t9 : Fin k0_t9_loop.trips) : Fin 3 → Nat :=
  let c0_i32_27 : BitVec 32 := 0#32
  let c1_i32_29 : BitVec 32 := 1#32
  let arg15 : BitVec 32 := Scf.iv c0_i32_27 c1_i32_29 k0_t9
  let c256_i32 : BitVec 32 := 256#32
  let c0_i32_53 : BitVec 32 := 0#32
  ![arg15.toNat, 256, 0]
def k0_off78 (k0_t9 : Fin k0_t9_loop.trips) : Fin 3 → Nat :=
  let c0_i32_27 : BitVec 32 := 0#32
  let c1_i32_29 : BitVec 32 := 1#32
  let arg15 : BitVec 32 := Scf.iv c0_i32_27 c1_i32_29 k0_t9
  let c512_i32 : BitVec 32 := 512#32
  let c0_i32_54 : BitVec 32 := 0#32
  ![arg15.toNat, 512, 0]
def k0_off79 (k0_t9 : Fin k0_t9_loop.trips) : Fin 3 → Nat :=
  let c0_i32_27 : BitVec 32 := 0#32
  let c1_i32_29 : BitVec 32 := 1#32
  let arg15 : BitVec 32 := Scf.iv c0_i32_27 c1_i32_29 k0_t9
  let c768_i32 : BitVec 32 := 768#32
  let c0_i32_55 : BitVec 32 := 0#32
  ![arg15.toNat, 768, 0]
@[reducible] def k0_t10_loop : Scf.Loop 32 :=
  let c0_i32_33 : BitVec 32 := 0#32
  let c64_i32_34 : BitVec 32 := 64#32
  let v39 : BitVec 32 := Scalar.addi c0_i32_33 c64_i32_34
  let c1_i32_35 : BitVec 32 := 1#32
  ⟨c0_i32_33, v39, c1_i32_35⟩
def k0_off80 (k0_t10 : Fin k0_t10_loop.trips) : Fin 1 → Nat :=
  let c0_i32_33 : BitVec 32 := 0#32
  let c1_i32_35 : BitVec 32 := 1#32
  let arg15 : BitVec 32 := Scf.iv c0_i32_33 c1_i32_35 k0_t10
  let v57 : Index := Scalar.indexCast arg15
  ![v57.toNat]
def k0_off81 (k0_t10 : Fin k0_t10_loop.trips) : Fin 1 → Nat :=
  let c0_i32_33 : BitVec 32 := 0#32
  let c1_i32_35 : BitVec 32 := 1#32
  let arg15 : BitVec 32 := Scf.iv c0_i32_33 c1_i32_35 k0_t10
  let c1_i32_47 : BitVec 32 := 1#32
  let v59 : BitVec 32 := Scalar.addi arg15 c1_i32_47
  let v60 : Index := Scalar.indexCast v59
  ![v60.toNat]
def k0_off82 (arg16 : BitVec 32) : Fin 1 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  ![v111.toNat]
def k0_cond16 (v58 : BitVec 32) (v61 : BitVec 32) : BitVec 1 :=
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let c0_i32_70 : BitVec 32 := 0#32
  let v112 : BitVec 1 := Scalar.cmpi .sgt v101 c0_i32_70
  let v113 : BitVec 32 := Scalar.extui v112
  let c0_i32_71 : BitVec 32 := 0#32
  let v114 : BitVec 1 := Scalar.cmpi .ne v113 c0_i32_71
  v114

def k0_cond17 (arg16 : BitVec 32) : BitVec 1 :=
  let c11_i32_75 : BitVec 32 := 11#32
  let v119 : BitVec 1 := Scalar.cmpi .sge arg16 c11_i32_75
  let v120 : BitVec 32 := Scalar.extui v119
  let c0_i32_76 : BitVec 32 := 0#32
  let v121 : BitVec 1 := Scalar.cmpi .ne v120 c0_i32_76
  v121

def k0_off83 (k0_t10 : Fin k0_t10_loop.trips) : Fin 3 → Nat :=
  let c0_i32_33 : BitVec 32 := 0#32
  let c1_i32_35 : BitVec 32 := 1#32
  let arg15 : BitVec 32 := Scf.iv c0_i32_33 c1_i32_35 k0_t10
  let c0_i32_107 : BitVec 32 := 0#32
  let c0_i32_108 : BitVec 32 := 0#32
  ![arg15.toNat, 0, 0]
def k0_off84 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let c0_i32_109 : BitVec 32 := 0#32
  let c0_i32_110 : BitVec 32 := 0#32
  ![v111.toNat, 0, 0]
@[reducible] def k0_t11_loop (v58 : BitVec 32) (v61 : BitVec 32) : Scf.Loop 32 :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_80 : BitVec 32 := 1#32
  ⟨c0_i32_77, v126, c1_i32_80⟩
def k0_off85 (v194 : BitVec 32) : Fin 1 → Nat :=
  let v540 : Index := Scalar.indexCast v194
  ![v540.toNat]
def k0_cond18 (v194 : BitVec 32) : BitVec 1 :=
  let c64_i32_113 : BitVec 32 := 64#32
  let v195 : BitVec 1 := Scalar.cmpi .slt v194 c64_i32_113
  let v196 : BitVec 32 := Scalar.extui v195
  let c0_i32_114 : BitVec 32 := 0#32
  let v197 : BitVec 1 := Scalar.cmpi .ne v196 c0_i32_114
  v197

def k0_off86 (v194 : BitVec 32) : Fin 1 → Nat :=
  let c1_i32_206 : BitVec 32 := 1#32
  let v542 : BitVec 32 := Scalar.addi v194 c1_i32_206
  let v543 : Index := Scalar.indexCast v542
  ![v543.toNat]
def k0_mult8 (v538 : BitVec 32) (v541 : BitVec 32) : BitVec 32 :=
  let c0_i32_208 : BitVec 32 := 0#32
  let v546 : BitVec 1 := Scalar.cmpi .sgt v541 c0_i32_208
  let v547 : BitVec 32 := Scalar.extui v546
  let c0_i32_209 : BitVec 32 := 0#32
  let v548 : BitVec 1 := Scalar.cmpi .slt v541 c0_i32_209
  let v549 : BitVec 32 := Scalar.extui v548
  let v550 : BitVec 32 := Scalar.subi v547 v549
  let c128_i32_207 : BitVec 32 := 128#32
  let c0_i32_210 : BitVec 32 := 0#32
  let v551 : BitVec 1 := Scalar.cmpi .sgt c128_i32_207 c0_i32_210
  let v552 : BitVec 32 := Scalar.extui v551
  let c0_i32_211 : BitVec 32 := 0#32
  let v553 : BitVec 1 := Scalar.cmpi .slt c128_i32_207 c0_i32_211
  let v554 : BitVec 32 := Scalar.extui v553
  let v555 : BitVec 32 := Scalar.subi v552 v554
  let v556 : BitVec 1 := Scalar.cmpi .ne v550 v555
  let v557 : BitVec 32 := Scalar.remsi v541 c128_i32_207
  let c0_i32_212 : BitVec 32 := 0#32
  let v558 : BitVec 1 := Scalar.cmpi .ne v557 c0_i32_212
  let v559 : BitVec 1 := Scalar.andi v556 v558
  let v545 : BitVec 32 := Scalar.divsi v541 c128_i32_207
  let c1_i32_213 : BitVec 32 := 1#32
  let v560 : BitVec 32 := Scalar.subi v545 c1_i32_213
  let v561 : BitVec 32 := Scalar.select v559 v560 v545
  let c128_i32_214 : BitVec 32 := 128#32
  let v562 : BitVec 32 := Scalar.muli v561 c128_i32_214
  let c256_i32_215 : BitVec 32 := 256#32
  let v563 : BitVec 32 := Scalar.muli v538 c256_i32_215
  let v564 : BitVec 32 := Scalar.addi v562 v563
  let c32512_i32_216 : BitVec 32 := 32512#32
  let v565 : BitVec 32 := Scalar.minsi v564 c32512_i32_216
  v565

def k0_off87 (v539 : BitVec 32) : Fin 1 → Nat :=
  let c8_i32_217 : BitVec 32 := 8#32
  let c0_i32_218 : BitVec 32 := 0#32
  let v566 : BitVec 1 := Scalar.cmpi .eq c8_i32_217 c0_i32_218
  let c1_i32_219 : BitVec 32 := 1#32
  let v567 : BitVec 32 := Scalar.select v566 c1_i32_219 c8_i32_217
  let v568 : BitVec 32 := Scalar.remsi v539 v567
  let c0_i32_221 : BitVec 32 := 0#32
  let v570 : BitVec 1 := Scalar.cmpi .slt v568 c0_i32_221
  let c0_i32_222 : BitVec 32 := 0#32
  let v571 : BitVec 1 := Scalar.cmpi .slt v567 c0_i32_222
  let v572 : BitVec 1 := Scalar.xori v570 v571
  let c0_i32_220 : BitVec 32 := 0#32
  let v569 : BitVec 1 := Scalar.cmpi .ne v568 c0_i32_220
  let v573 : BitVec 1 := Scalar.andi v572 v569
  let v574 : BitVec 32 := Scalar.addi v568 v567
  let v575 : BitVec 32 := Scalar.select v573 v574 v568
  ![v575.toNat]

def k0_off88 (v539 : BitVec 32) : Fin 3 → Nat :=
  let c8_i32_217 : BitVec 32 := 8#32
  let c0_i32_218 : BitVec 32 := 0#32
  let v566 : BitVec 1 := Scalar.cmpi .eq c8_i32_217 c0_i32_218
  let c1_i32_219 : BitVec 32 := 1#32
  let v567 : BitVec 32 := Scalar.select v566 c1_i32_219 c8_i32_217
  let v568 : BitVec 32 := Scalar.remsi v539 v567
  let c0_i32_221 : BitVec 32 := 0#32
  let v570 : BitVec 1 := Scalar.cmpi .slt v568 c0_i32_221
  let c0_i32_222 : BitVec 32 := 0#32
  let v571 : BitVec 1 := Scalar.cmpi .slt v567 c0_i32_222
  let v572 : BitVec 1 := Scalar.xori v570 v571
  let c0_i32_220 : BitVec 32 := 0#32
  let v569 : BitVec 1 := Scalar.cmpi .ne v568 c0_i32_220
  let v573 : BitVec 1 := Scalar.andi v572 v569
  let v574 : BitVec 32 := Scalar.addi v568 v567
  let v575 : BitVec 32 := Scalar.select v573 v574 v568
  let c0_i32_223 : BitVec 32 := 0#32
  let c0_i32_224 : BitVec 32 := 0#32
  ![v575.toNat, 0, 0]
def k0_off89 (v538 : BitVec 32) (v541 : BitVec 32) : Fin 2 → Nat :=
  let c0_i32_208 : BitVec 32 := 0#32
  let v546 : BitVec 1 := Scalar.cmpi .sgt v541 c0_i32_208
  let v547 : BitVec 32 := Scalar.extui v546
  let c0_i32_209 : BitVec 32 := 0#32
  let v548 : BitVec 1 := Scalar.cmpi .slt v541 c0_i32_209
  let v549 : BitVec 32 := Scalar.extui v548
  let v550 : BitVec 32 := Scalar.subi v547 v549
  let c128_i32_207 : BitVec 32 := 128#32
  let c0_i32_210 : BitVec 32 := 0#32
  let v551 : BitVec 1 := Scalar.cmpi .sgt c128_i32_207 c0_i32_210
  let v552 : BitVec 32 := Scalar.extui v551
  let c0_i32_211 : BitVec 32 := 0#32
  let v553 : BitVec 1 := Scalar.cmpi .slt c128_i32_207 c0_i32_211
  let v554 : BitVec 32 := Scalar.extui v553
  let v555 : BitVec 32 := Scalar.subi v552 v554
  let v556 : BitVec 1 := Scalar.cmpi .ne v550 v555
  let v557 : BitVec 32 := Scalar.remsi v541 c128_i32_207
  let c0_i32_212 : BitVec 32 := 0#32
  let v558 : BitVec 1 := Scalar.cmpi .ne v557 c0_i32_212
  let v559 : BitVec 1 := Scalar.andi v556 v558
  let v545 : BitVec 32 := Scalar.divsi v541 c128_i32_207
  let c1_i32_213 : BitVec 32 := 1#32
  let v560 : BitVec 32 := Scalar.subi v545 c1_i32_213
  let v561 : BitVec 32 := Scalar.select v559 v560 v545
  let c128_i32_214 : BitVec 32 := 128#32
  let v562 : BitVec 32 := Scalar.muli v561 c128_i32_214
  let c256_i32_215 : BitVec 32 := 256#32
  let v563 : BitVec 32 := Scalar.muli v538 c256_i32_215
  let v564 : BitVec 32 := Scalar.addi v562 v563
  let c32512_i32_216 : BitVec 32 := 32512#32
  let v565 : BitVec 32 := Scalar.minsi v564 c32512_i32_216
  let v576 : BitVec 32 := v565
  let c0_i32_225 : BitVec 32 := 0#32
  ![v576.toNat, 0]
def k0_off90 (v539 : BitVec 32) : Fin 3 → Nat :=
  let c8_i32_217 : BitVec 32 := 8#32
  let c0_i32_218 : BitVec 32 := 0#32
  let v566 : BitVec 1 := Scalar.cmpi .eq c8_i32_217 c0_i32_218
  let c1_i32_219 : BitVec 32 := 1#32
  let v567 : BitVec 32 := Scalar.select v566 c1_i32_219 c8_i32_217
  let v568 : BitVec 32 := Scalar.remsi v539 v567
  let c0_i32_221 : BitVec 32 := 0#32
  let v570 : BitVec 1 := Scalar.cmpi .slt v568 c0_i32_221
  let c0_i32_222 : BitVec 32 := 0#32
  let v571 : BitVec 1 := Scalar.cmpi .slt v567 c0_i32_222
  let v572 : BitVec 1 := Scalar.xori v570 v571
  let c0_i32_220 : BitVec 32 := 0#32
  let v569 : BitVec 1 := Scalar.cmpi .ne v568 c0_i32_220
  let v573 : BitVec 1 := Scalar.andi v572 v569
  let v574 : BitVec 32 := Scalar.addi v568 v567
  let v575 : BitVec 32 := Scalar.select v573 v574 v568
  let c0_i32_226 : BitVec 32 := 0#32
  let c0_i32_227 : BitVec 32 := 0#32
  ![v575.toNat, 0, 0]

def k0_chk33 (v58 : BitVec 32) (v61 : BitVec 32) (v194 : BitVec 32) (v539 : BitVec 32) : Prop :=
  (∀ (k0_h16 : k0_cond16 v58 v61 = 1#1), ∀ (k0_h18 : k0_cond18 v194 = 1#1), ∀ a, (k0_off87 v539) a + S1.size a ≤ S8.size a) ∧
  (∀ (k0_h16 : k0_cond16 v58 v61 = 1#1), ∀ (k0_h18 : k0_cond18 v194 = 1#1), ∀ a, (k0_off88 v539) a + S1x256x1024.size a ≤ S8x256x1024.size a) ∧
  (∀ (k0_h16 : k0_cond16 v58 v61 = 1#1), ∀ (k0_h18 : k0_cond18 v194 = 1#1), ∀ (hinb : ∀ a, (k0_off88 v539) a + S1x256x1024.size a ≤ S8x256x1024.size a), (Rect.unit (s := S8x256x1024) (k0_off88 v539) S1x256x1024.size hinb).WholeWords (EltTy.packing .fp8e4m3)) ∧
  (∀ (k0_h16 : k0_cond16 v58 v61 = 1#1), ∀ (k0_h18 : k0_cond18 v194 = 1#1), ∀ a, (k0_off90 v539) a + S1x16x256.size a ≤ S8x16x256.size a)
theorem k0_off87_inb : ∀ (v58 : BitVec 32) (v61 : BitVec 32) (v194 : BitVec 32) (v539 : BitVec 32) (k0_hw33 : k0_chk33 v58 v61 v194 v539), ∀ (k0_h16 : k0_cond16 v58 v61 = 1#1), ∀ (k0_h18 : k0_cond18 v194 = 1#1), ∀ a, (k0_off87 v539) a + S1.size a ≤ S8.size a := fun v58 v61 v194 v539 k0_hw33 k0_h16 k0_h18 => k0_hw33.1 k0_h16 k0_h18
theorem k0_off88_inb : ∀ (v58 : BitVec 32) (v61 : BitVec 32) (v194 : BitVec 32) (v539 : BitVec 32) (k0_hw33 : k0_chk33 v58 v61 v194 v539), ∀ (k0_h16 : k0_cond16 v58 v61 = 1#1), ∀ (k0_h18 : k0_cond18 v194 = 1#1), ∀ a, (k0_off88 v539) a + S1x256x1024.size a ≤ S8x256x1024.size a := fun v58 v61 v194 v539 k0_hw33 k0_h16 k0_h18 => k0_hw33.2.1 k0_h16 k0_h18
theorem k0_off88_wordsfp8e4m3 : ∀ (v58 : BitVec 32) (v61 : BitVec 32) (v194 : BitVec 32) (v539 : BitVec 32) (k0_hw33 : k0_chk33 v58 v61 v194 v539), ∀ (k0_h16 : k0_cond16 v58 v61 = 1#1), ∀ (k0_h18 : k0_cond18 v194 = 1#1), (Rect.unit (s := S8x256x1024) (k0_off88 v539) S1x256x1024.size (k0_off88_inb v58 v61 v194 v539 k0_hw33 k0_h16 k0_h18)).WholeWords (EltTy.packing .fp8e4m3) := fun v58 v61 v194 v539 k0_hw33 k0_h16 k0_h18 => k0_hw33.2.2.1 k0_h16 k0_h18 (k0_off88_inb v58 v61 v194 v539 k0_hw33 k0_h16 k0_h18)
theorem k0_off90_inb : ∀ (v58 : BitVec 32) (v61 : BitVec 32) (v194 : BitVec 32) (v539 : BitVec 32) (k0_hw33 : k0_chk33 v58 v61 v194 v539), ∀ (k0_h16 : k0_cond16 v58 v61 = 1#1), ∀ (k0_h18 : k0_cond18 v194 = 1#1), ∀ a, (k0_off90 v539) a + S1x16x256.size a ≤ S8x16x256.size a := fun v58 v61 v194 v539 k0_hw33 k0_h16 k0_h18 => k0_hw33.2.2.2 k0_h16 k0_h18

def k0_off91 (v538 : BitVec 32) (v541 : BitVec 32) : Fin 2 → Nat :=
  let c0_i32_228 : BitVec 32 := 0#32
  let c0_i32_208 : BitVec 32 := 0#32
  let v546 : BitVec 1 := Scalar.cmpi .sgt v541 c0_i32_208
  let v547 : BitVec 32 := Scalar.extui v546
  let c0_i32_209 : BitVec 32 := 0#32
  let v548 : BitVec 1 := Scalar.cmpi .slt v541 c0_i32_209
  let v549 : BitVec 32 := Scalar.extui v548
  let v550 : BitVec 32 := Scalar.subi v547 v549
  let c128_i32_207 : BitVec 32 := 128#32
  let c0_i32_210 : BitVec 32 := 0#32
  let v551 : BitVec 1 := Scalar.cmpi .sgt c128_i32_207 c0_i32_210
  let v552 : BitVec 32 := Scalar.extui v551
  let c0_i32_211 : BitVec 32 := 0#32
  let v553 : BitVec 1 := Scalar.cmpi .slt c128_i32_207 c0_i32_211
  let v554 : BitVec 32 := Scalar.extui v553
  let v555 : BitVec 32 := Scalar.subi v552 v554
  let v556 : BitVec 1 := Scalar.cmpi .ne v550 v555
  let v557 : BitVec 32 := Scalar.remsi v541 c128_i32_207
  let c0_i32_212 : BitVec 32 := 0#32
  let v558 : BitVec 1 := Scalar.cmpi .ne v557 c0_i32_212
  let v559 : BitVec 1 := Scalar.andi v556 v558
  let v545 : BitVec 32 := Scalar.divsi v541 c128_i32_207
  let c1_i32_213 : BitVec 32 := 1#32
  let v560 : BitVec 32 := Scalar.subi v545 c1_i32_213
  let v561 : BitVec 32 := Scalar.select v559 v560 v545
  let c128_i32_214 : BitVec 32 := 128#32
  let v562 : BitVec 32 := Scalar.muli v561 c128_i32_214
  let c256_i32_215 : BitVec 32 := 256#32
  let v563 : BitVec 32 := Scalar.muli v538 c256_i32_215
  let v564 : BitVec 32 := Scalar.addi v562 v563
  let c32512_i32_216 : BitVec 32 := 32512#32
  let v565 : BitVec 32 := Scalar.minsi v564 c32512_i32_216
  let v576 : BitVec 32 := v565
  ![0, v576.toNat]

def k0_chk32 (v58 : BitVec 32) (v61 : BitVec 32) (v194 : BitVec 32) (v538 : BitVec 32) (v541 : BitVec 32) : Prop :=
  (∀ (k0_h16 : k0_cond16 v58 v61 = 1#1), ∀ (k0_h18 : k0_cond18 v194 = 1#1), 128 ∣ (k0_mult8 v538 v541).toNat) ∧
  (∀ (k0_h16 : k0_cond16 v58 v61 = 1#1), ∀ (k0_h18 : k0_cond18 v194 = 1#1), ∀ a, (k0_off89 v538 v541) a + S256x1024.size a ≤ S32768x1024.size a) ∧
  (∀ (k0_h16 : k0_cond16 v58 v61 = 1#1), ∀ (k0_h18 : k0_cond18 v194 = 1#1), ∀ (hinb : ∀ a, (k0_off89 v538 v541) a + S256x1024.size a ≤ S32768x1024.size a), (Rect.unit (s := S32768x1024) (k0_off89 v538 v541) S256x1024.size hinb).WholeWords (EltTy.packing .fp8e4m3)) ∧
  (∀ (k0_h16 : k0_cond16 v58 v61 = 1#1), ∀ (k0_h18 : k0_cond18 v194 = 1#1), ∀ a, (k0_off91 v538 v541) a + S16x256.size a ≤ S16x32768.size a)
theorem k0_mult8_dvd : ∀ (v58 : BitVec 32) (v61 : BitVec 32) (v194 : BitVec 32) (v538 : BitVec 32) (v541 : BitVec 32) (k0_hw32 : k0_chk32 v58 v61 v194 v538 v541), ∀ (k0_h16 : k0_cond16 v58 v61 = 1#1), ∀ (k0_h18 : k0_cond18 v194 = 1#1), 128 ∣ (k0_mult8 v538 v541).toNat := fun v58 v61 v194 v538 v541 k0_hw32 k0_h16 k0_h18 => k0_hw32.1 k0_h16 k0_h18
theorem k0_off89_inb : ∀ (v58 : BitVec 32) (v61 : BitVec 32) (v194 : BitVec 32) (v538 : BitVec 32) (v541 : BitVec 32) (k0_hw32 : k0_chk32 v58 v61 v194 v538 v541), ∀ (k0_h16 : k0_cond16 v58 v61 = 1#1), ∀ (k0_h18 : k0_cond18 v194 = 1#1), ∀ a, (k0_off89 v538 v541) a + S256x1024.size a ≤ S32768x1024.size a := fun v58 v61 v194 v538 v541 k0_hw32 k0_h16 k0_h18 => k0_hw32.2.1 k0_h16 k0_h18
theorem k0_off89_wordsfp8e4m3 : ∀ (v58 : BitVec 32) (v61 : BitVec 32) (v194 : BitVec 32) (v538 : BitVec 32) (v541 : BitVec 32) (k0_hw32 : k0_chk32 v58 v61 v194 v538 v541), ∀ (k0_h16 : k0_cond16 v58 v61 = 1#1), ∀ (k0_h18 : k0_cond18 v194 = 1#1), (Rect.unit (s := S32768x1024) (k0_off89 v538 v541) S256x1024.size (k0_off89_inb v58 v61 v194 v538 v541 k0_hw32 k0_h16 k0_h18)).WholeWords (EltTy.packing .fp8e4m3) := fun v58 v61 v194 v538 v541 k0_hw32 k0_h16 k0_h18 => k0_hw32.2.2.1 k0_h16 k0_h18 (k0_off89_inb v58 v61 v194 v538 v541 k0_hw32 k0_h16 k0_h18)
theorem k0_off91_inb : ∀ (v58 : BitVec 32) (v61 : BitVec 32) (v194 : BitVec 32) (v538 : BitVec 32) (v541 : BitVec 32) (k0_hw32 : k0_chk32 v58 v61 v194 v538 v541), ∀ (k0_h16 : k0_cond16 v58 v61 = 1#1), ∀ (k0_h18 : k0_cond18 v194 = 1#1), ∀ a, (k0_off91 v538 v541) a + S16x256.size a ≤ S16x32768.size a := fun v58 v61 v194 v538 v541 k0_hw32 k0_h16 k0_h18 => k0_hw32.2.2.2 k0_h16 k0_h18

def k0_off92 (v194 : BitVec 32) : Fin 1 → Nat :=
  let v590 : Index := Scalar.indexCast v194
  ![v590.toNat]
def k0_off93 (v194 : BitVec 32) : Fin 1 → Nat :=
  let c1_i32_232 : BitVec 32 := 1#32
  let v592 : BitVec 32 := Scalar.addi v194 c1_i32_232
  let v593 : Index := Scalar.indexCast v592
  ![v593.toNat]

def k0_chk31 (v58 : BitVec 32) (v61 : BitVec 32) (v194 : BitVec 32) : Prop :=
  (∀ (k0_h16 : k0_cond16 v58 v61 = 1#1), ∀ (k0_h18 : k0_cond18 v194 = 1#1), ∀ a, (k0_off85 v194) a + S1.size a ≤ S65.size a) ∧
  (∀ (k0_h16 : k0_cond16 v58 v61 = 1#1), ∀ (k0_h18 : k0_cond18 v194 = 1#1), ∀ a, (k0_off86 v194) a + S1.size a ≤ S65.size a) ∧
  (∀ (k0_h16 : k0_cond16 v58 v61 = 1#1), ∀ (k0_h18 : k0_cond18 v194 = 1#1), ∀ a, (k0_off92 v194) a + S1.size a ≤ S65.size a) ∧
  (∀ (k0_h16 : k0_cond16 v58 v61 = 1#1), ∀ (k0_h18 : k0_cond18 v194 = 1#1), ∀ a, (k0_off93 v194) a + S1.size a ≤ S65.size a)
theorem k0_off85_inb : ∀ (v58 : BitVec 32) (v61 : BitVec 32) (v194 : BitVec 32) (k0_hw31 : k0_chk31 v58 v61 v194), ∀ (k0_h16 : k0_cond16 v58 v61 = 1#1), ∀ (k0_h18 : k0_cond18 v194 = 1#1), ∀ a, (k0_off85 v194) a + S1.size a ≤ S65.size a := fun v58 v61 v194 k0_hw31 k0_h16 k0_h18 => k0_hw31.1 k0_h16 k0_h18
theorem k0_off86_inb : ∀ (v58 : BitVec 32) (v61 : BitVec 32) (v194 : BitVec 32) (k0_hw31 : k0_chk31 v58 v61 v194), ∀ (k0_h16 : k0_cond16 v58 v61 = 1#1), ∀ (k0_h18 : k0_cond18 v194 = 1#1), ∀ a, (k0_off86 v194) a + S1.size a ≤ S65.size a := fun v58 v61 v194 k0_hw31 k0_h16 k0_h18 => k0_hw31.2.1 k0_h16 k0_h18
theorem k0_off92_inb : ∀ (v58 : BitVec 32) (v61 : BitVec 32) (v194 : BitVec 32) (k0_hw31 : k0_chk31 v58 v61 v194), ∀ (k0_h16 : k0_cond16 v58 v61 = 1#1), ∀ (k0_h18 : k0_cond18 v194 = 1#1), ∀ a, (k0_off92 v194) a + S1.size a ≤ S65.size a := fun v58 v61 v194 k0_hw31 k0_h16 k0_h18 => k0_hw31.2.2.1 k0_h16 k0_h18
theorem k0_off93_inb : ∀ (v58 : BitVec 32) (v61 : BitVec 32) (v194 : BitVec 32) (k0_hw31 : k0_chk31 v58 v61 v194), ∀ (k0_h16 : k0_cond16 v58 v61 = 1#1), ∀ (k0_h18 : k0_cond18 v194 = 1#1), ∀ a, (k0_off93 v194) a + S1.size a ≤ S65.size a := fun v58 v61 v194 k0_hw31 k0_h16 k0_h18 => k0_hw31.2.2.2 k0_h16 k0_h18

@[reducible] def k0_t12_loop : Scf.Loop 32 :=
  let c0_i32_256 : BitVec 32 := 0#32
  let c64_i32_257 : BitVec 32 := 64#32
  let v642 : BitVec 32 := Scalar.addi c0_i32_256 c64_i32_257
  let c1_i32_258 : BitVec 32 := 1#32
  ⟨c0_i32_256, v642, c1_i32_258⟩
def k0_off94 (arg21 : BitVec 32) : Fin 1 → Nat :=
  let c63_i32 : BitVec 32 := 63#32
  let v646 : BitVec 32 := Scalar.minsi arg21 c63_i32
  let v647 : Index := Scalar.indexCast v646
  ![v647.toNat]
def k0_cond19 (v538 : BitVec 32) (v591 : BitVec 32) (v594 : BitVec 32) : BitVec 1 :=
  let c1_i32_231 : BitVec 32 := 1#32
  let v589 : BitVec 32 := Scalar.addi v538 c1_i32_231
  let v613 : BitVec 1 := Scalar.cmpi .sgt v594 v591
  let c0_i32_234 : BitVec 32 := 0#32
  let v596 : BitVec 1 := Scalar.cmpi .sgt v591 c0_i32_234
  let v597 : BitVec 32 := Scalar.extui v596
  let c0_i32_235 : BitVec 32 := 0#32
  let v598 : BitVec 1 := Scalar.cmpi .slt v591 c0_i32_235
  let v599 : BitVec 32 := Scalar.extui v598
  let v600 : BitVec 32 := Scalar.subi v597 v599
  let c128_i32_233 : BitVec 32 := 128#32
  let c0_i32_236 : BitVec 32 := 0#32
  let v601 : BitVec 1 := Scalar.cmpi .sgt c128_i32_233 c0_i32_236
  let v602 : BitVec 32 := Scalar.extui v601
  let c0_i32_237 : BitVec 32 := 0#32
  let v603 : BitVec 1 := Scalar.cmpi .slt c128_i32_233 c0_i32_237
  let v604 : BitVec 32 := Scalar.extui v603
  let v605 : BitVec 32 := Scalar.subi v602 v604
  let v606 : BitVec 1 := Scalar.cmpi .ne v600 v605
  let v607 : BitVec 32 := Scalar.remsi v591 c128_i32_233
  let c0_i32_238 : BitVec 32 := 0#32
  let v608 : BitVec 1 := Scalar.cmpi .ne v607 c0_i32_238
  let v609 : BitVec 1 := Scalar.andi v606 v608
  let v595 : BitVec 32 := Scalar.divsi v591 c128_i32_233
  let c1_i32_239 : BitVec 32 := 1#32
  let v610 : BitVec 32 := Scalar.subi v595 c1_i32_239
  let v611 : BitVec 32 := Scalar.select v609 v610 v595
  let c128_i32_240 : BitVec 32 := 128#32
  let v612 : BitVec 32 := Scalar.muli v611 c128_i32_240
  let v614 : BitVec 32 := Scalar.subi v594 v612
  let c256_i32_241 : BitVec 32 := 256#32
  let v615 : BitVec 32 := Scalar.addi v614 c256_i32_241
  let c1_i32_242 : BitVec 32 := 1#32
  let v616 : BitVec 32 := Scalar.subi v615 c1_i32_242
  let c0_i32_244 : BitVec 32 := 0#32
  let v618 : BitVec 1 := Scalar.cmpi .sgt v616 c0_i32_244
  let v619 : BitVec 32 := Scalar.extui v618
  let c0_i32_245 : BitVec 32 := 0#32
  let v620 : BitVec 1 := Scalar.cmpi .slt v616 c0_i32_245
  let v621 : BitVec 32 := Scalar.extui v620
  let v622 : BitVec 32 := Scalar.subi v619 v621
  let c256_i32_243 : BitVec 32 := 256#32
  let c0_i32_246 : BitVec 32 := 0#32
  let v623 : BitVec 1 := Scalar.cmpi .sgt c256_i32_243 c0_i32_246
  let v624 : BitVec 32 := Scalar.extui v623
  let c0_i32_247 : BitVec 32 := 0#32
  let v625 : BitVec 1 := Scalar.cmpi .slt c256_i32_243 c0_i32_247
  let v626 : BitVec 32 := Scalar.extui v625
  let v627 : BitVec 32 := Scalar.subi v624 v626
  let v628 : BitVec 1 := Scalar.cmpi .ne v622 v627
  let v629 : BitVec 32 := Scalar.remsi v616 c256_i32_243
  let c0_i32_248 : BitVec 32 := 0#32
  let v630 : BitVec 1 := Scalar.cmpi .ne v629 c0_i32_248
  let v631 : BitVec 1 := Scalar.andi v628 v630
  let v617 : BitVec 32 := Scalar.divsi v616 c256_i32_243
  let c1_i32_249 : BitVec 32 := 1#32
  let v632 : BitVec 32 := Scalar.subi v617 c1_i32_249
  let v633 : BitVec 32 := Scalar.select v631 v632 v617
  let c0_i32_250 : BitVec 32 := 0#32
  let v634 : BitVec 32 := Scalar.select v613 v633 c0_i32_250
  let v635 : BitVec 1 := Scalar.cmpi .sge v589 v634
  let v639 : BitVec 32 := Scalar.extui v635
  let c0_i32_254 : BitVec 32 := 0#32
  let v640 : BitVec 1 := Scalar.cmpi .ne v639 c0_i32_254
  v640

def k0_off95 (arg21 : BitVec 32) : Fin 1 → Nat :=
  let c63_i32 : BitVec 32 := 63#32
  let v646 : BitVec 32 := Scalar.minsi arg21 c63_i32
  let c1_i32_262 : BitVec 32 := 1#32
  let v649 : BitVec 32 := Scalar.addi v646 c1_i32_262
  let v650 : Index := Scalar.indexCast v649
  ![v650.toNat]

def k0_chk34 (v58 : BitVec 32) (v61 : BitVec 32) (v194 : BitVec 32) (v538 : BitVec 32) (v591 : BitVec 32) (v594 : BitVec 32) (arg21 : BitVec 32) : Prop :=
  (∀ (k0_h16 : k0_cond16 v58 v61 = 1#1), ∀ (k0_h18 : k0_cond18 v194 = 1#1), ∀ (k0_h19 : k0_cond19 v538 v591 v594 = 1#1), ∀ a, (k0_off94 arg21) a + S1.size a ≤ S65.size a) ∧
  (∀ (k0_h16 : k0_cond16 v58 v61 = 1#1), ∀ (k0_h18 : k0_cond18 v194 = 1#1), ∀ (k0_h19 : k0_cond19 v538 v591 v594 = 1#1), ∀ a, (k0_off95 arg21) a + S1.size a ≤ S65.size a)
theorem k0_off94_inb : ∀ (v58 : BitVec 32) (v61 : BitVec 32) (v194 : BitVec 32) (v538 : BitVec 32) (v591 : BitVec 32) (v594 : BitVec 32) (arg21 : BitVec 32) (k0_hw34 : k0_chk34 v58 v61 v194 v538 v591 v594 arg21), ∀ (k0_h16 : k0_cond16 v58 v61 = 1#1), ∀ (k0_h18 : k0_cond18 v194 = 1#1), ∀ (k0_h19 : k0_cond19 v538 v591 v594 = 1#1), ∀ a, (k0_off94 arg21) a + S1.size a ≤ S65.size a := fun v58 v61 v194 v538 v591 v594 arg21 k0_hw34 k0_h16 k0_h18 k0_h19 => k0_hw34.1 k0_h16 k0_h18 k0_h19
theorem k0_off95_inb : ∀ (v58 : BitVec 32) (v61 : BitVec 32) (v194 : BitVec 32) (v538 : BitVec 32) (v591 : BitVec 32) (v594 : BitVec 32) (arg21 : BitVec 32) (k0_hw34 : k0_chk34 v58 v61 v194 v538 v591 v594 arg21), ∀ (k0_h16 : k0_cond16 v58 v61 = 1#1), ∀ (k0_h18 : k0_cond18 v194 = 1#1), ∀ (k0_h19 : k0_cond19 v538 v591 v594 = 1#1), ∀ a, (k0_off95 arg21) a + S1.size a ≤ S65.size a := fun v58 v61 v194 v538 v591 v594 arg21 k0_hw34 k0_h16 k0_h18 k0_h19 => k0_hw34.2 k0_h16 k0_h18 k0_h19

def k0_mult9 : BitVec 32 :=
  let c0_i32_115 : BitVec 32 := 0#32
  c0_i32_115
def k0_off96 (arg17 : BitVec 32) (v58 : BitVec 32) (v61 : BitVec 32) (k0_t11 : Fin (k0_t11_loop v58 v61).trips) : Fin 1 → Nat :=
  let c0_i32_77 : BitVec 32 := 0#32
  let c1_i32_80 : BitVec 32 := 1#32
  let arg18 : BitVec 32 := Scf.iv c0_i32_77 c1_i32_80 k0_t11
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let c0_i32_109 : BitVec 32 := 0#32
  let v187 : BitVec 1 := Scalar.cmpi .ne v186 c0_i32_109
  let v191 : BitVec 1 := Scalar.andi v190 v187
  let v192 : BitVec 32 := Scalar.addi v186 v185
  let v193 : BitVec 32 := Scalar.select v191 v192 v186
  ![v193.toNat]
def k0_off97 (arg17 : BitVec 32) (v58 : BitVec 32) (v61 : BitVec 32) (k0_t11 : Fin (k0_t11_loop v58 v61).trips) : Fin 3 → Nat :=
  let c0_i32_77 : BitVec 32 := 0#32
  let c1_i32_80 : BitVec 32 := 1#32
  let arg18 : BitVec 32 := Scf.iv c0_i32_77 c1_i32_80 k0_t11
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let c0_i32_109 : BitVec 32 := 0#32
  let v187 : BitVec 1 := Scalar.cmpi .ne v186 c0_i32_109
  let v191 : BitVec 1 := Scalar.andi v190 v187
  let v192 : BitVec 32 := Scalar.addi v186 v185
  let v193 : BitVec 32 := Scalar.select v191 v192 v186
  let c0_i32_116 : BitVec 32 := 0#32
  let c0_i32_117 : BitVec 32 := 0#32
  ![v193.toNat, 0, 0]
def k0_off98 (arg17 : BitVec 32) (v58 : BitVec 32) (v61 : BitVec 32) (k0_t11 : Fin (k0_t11_loop v58 v61).trips) : Fin 3 → Nat :=
  let c0_i32_77 : BitVec 32 := 0#32
  let c1_i32_80 : BitVec 32 := 1#32
  let arg18 : BitVec 32 := Scf.iv c0_i32_77 c1_i32_80 k0_t11
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let c0_i32_109 : BitVec 32 := 0#32
  let v187 : BitVec 1 := Scalar.cmpi .ne v186 c0_i32_109
  let v191 : BitVec 1 := Scalar.andi v190 v187
  let v192 : BitVec 32 := Scalar.addi v186 v185
  let v193 : BitVec 32 := Scalar.select v191 v192 v186
  let c0_i32_119 : BitVec 32 := 0#32
  let c0_i32_120 : BitVec 32 := 0#32
  ![v193.toNat, 0, 0]
def k0_off99 (k0_t10 : Fin k0_t10_loop.trips) : Fin 1 → Nat :=
  let c0_i32_33 : BitVec 32 := 0#32
  let c1_i32_35 : BitVec 32 := 1#32
  let arg15 : BitVec 32 := Scf.iv c0_i32_33 c1_i32_35 k0_t10
  let v209 : Index := Scalar.indexCast arg15
  ![v209.toNat]
def k0_off100 (k0_t10 : Fin k0_t10_loop.trips) : Fin 1 → Nat :=
  let c0_i32_33 : BitVec 32 := 0#32
  let c1_i32_35 : BitVec 32 := 1#32
  let arg15 : BitVec 32 := Scf.iv c0_i32_33 c1_i32_35 k0_t10
  let c1_i32_122 : BitVec 32 := 1#32
  let v211 : BitVec 32 := Scalar.addi arg15 c1_i32_122
  let v212 : Index := Scalar.indexCast v211
  ![v212.toNat]
def k0_off101 (arg17 : BitVec 32) (v58 : BitVec 32) (v61 : BitVec 32) (k0_t11 : Fin (k0_t11_loop v58 v61).trips) : Fin 3 → Nat :=
  let c0_i32_77 : BitVec 32 := 0#32
  let c1_i32_80 : BitVec 32 := 1#32
  let arg18 : BitVec 32 := Scf.iv c0_i32_77 c1_i32_80 k0_t11
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let c0_i32_109 : BitVec 32 := 0#32
  let v187 : BitVec 1 := Scalar.cmpi .ne v186 c0_i32_109
  let v191 : BitVec 1 := Scalar.andi v190 v187
  let v192 : BitVec 32 := Scalar.addi v186 v185
  let v193 : BitVec 32 := Scalar.select v191 v192 v186
  let v269 : Index := Scalar.indexCast v193
  let c0_142 : Index := 0#32
  let c0_143 : Index := 0#32
  ![v269.toNat, 0, 0]
def k0_off102 (arg17 : BitVec 32) (v58 : BitVec 32) (v61 : BitVec 32) (k0_t11 : Fin (k0_t11_loop v58 v61).trips) : Fin 3 → Nat :=
  let c0_i32_77 : BitVec 32 := 0#32
  let c1_i32_80 : BitVec 32 := 1#32
  let arg18 : BitVec 32 := Scf.iv c0_i32_77 c1_i32_80 k0_t11
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let c0_i32_109 : BitVec 32 := 0#32
  let v187 : BitVec 1 := Scalar.cmpi .ne v186 c0_i32_109
  let v191 : BitVec 1 := Scalar.andi v190 v187
  let v192 : BitVec 32 := Scalar.addi v186 v185
  let v193 : BitVec 32 := Scalar.select v191 v192 v186
  let v274 : Index := Scalar.indexCast v193
  let c0_145 : Index := 0#32
  let c0_146 : Index := 0#32
  ![v274.toNat, 0, 0]
def k0_cond20 (v58 : BitVec 32) (v61 : BitVec 32) (k0_t11 : Fin (k0_t11_loop v58 v61).trips) : BitVec 1 :=
  let c0_i32_77 : BitVec 32 := 0#32
  let c1_i32_80 : BitVec 32 := 1#32
  let arg18 : BitVec 32 := Scf.iv c0_i32_77 c1_i32_80 k0_t11
  let c0_i32_172 : BitVec 32 := 0#32
  let v505 : BitVec 1 := Scalar.cmpi .eq arg18 c0_i32_172
  let v506 : BitVec 32 := Scalar.extui v505
  let c0_i32_173 : BitVec 32 := 0#32
  let v507 : BitVec 1 := Scalar.cmpi .ne v506 c0_i32_173
  v507

def k0_off103 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c0_205 : Index := 0#32
  ![v538.toNat, 0, 0]
def k0_cond21 (v58 : BitVec 32) (v61 : BitVec 32) (k0_t11 : Fin (k0_t11_loop v58 v61).trips) : BitVec 1 :=
  let c0_i32_77 : BitVec 32 := 0#32
  let c1_i32_80 : BitVec 32 := 1#32
  let arg18 : BitVec 32 := Scf.iv c0_i32_77 c1_i32_80 k0_t11
  let c0_i32_174 : BitVec 32 := 0#32
  let v508 : BitVec 1 := Scalar.cmpi .sgt arg18 c0_i32_174
  let v509 : BitVec 32 := Scalar.extui v508
  let c0_i32_175 : BitVec 32 := 0#32
  let v510 : BitVec 1 := Scalar.cmpi .ne v509 c0_i32_175
  v510

def k0_off104 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c0_205 : Index := 0#32
  ![v538.toNat, 0, 0]
def k0_cond22 (v58 : BitVec 32) (v61 : BitVec 32) (k0_t11 : Fin (k0_t11_loop v58 v61).trips) : BitVec 1 :=
  let c0_i32_77 : BitVec 32 := 0#32
  let c1_i32_80 : BitVec 32 := 1#32
  let arg18 : BitVec 32 := Scf.iv c0_i32_77 c1_i32_80 k0_t11
  let c0_i32_181 : BitVec 32 := 0#32
  let v514 : BitVec 1 := Scalar.cmpi .eq arg18 c0_i32_181
  let v515 : BitVec 32 := Scalar.extui v514
  let c0_i32_182 : BitVec 32 := 0#32
  let v516 : BitVec 1 := Scalar.cmpi .ne v515 c0_i32_182
  v516

def k0_off105 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c256_205 : Index := 256#32
  ![v538.toNat, 0, 256]
def k0_cond23 (v58 : BitVec 32) (v61 : BitVec 32) (k0_t11 : Fin (k0_t11_loop v58 v61).trips) : BitVec 1 :=
  let c0_i32_77 : BitVec 32 := 0#32
  let c1_i32_80 : BitVec 32 := 1#32
  let arg18 : BitVec 32 := Scf.iv c0_i32_77 c1_i32_80 k0_t11
  let c0_i32_183 : BitVec 32 := 0#32
  let v517 : BitVec 1 := Scalar.cmpi .sgt arg18 c0_i32_183
  let v518 : BitVec 32 := Scalar.extui v517
  let c0_i32_184 : BitVec 32 := 0#32
  let v519 : BitVec 1 := Scalar.cmpi .ne v518 c0_i32_184
  v519

def k0_off106 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c256_205 : Index := 256#32
  ![v538.toNat, 0, 256]
def k0_cond24 (v58 : BitVec 32) (v61 : BitVec 32) (k0_t11 : Fin (k0_t11_loop v58 v61).trips) : BitVec 1 :=
  let c0_i32_77 : BitVec 32 := 0#32
  let c1_i32_80 : BitVec 32 := 1#32
  let arg18 : BitVec 32 := Scf.iv c0_i32_77 c1_i32_80 k0_t11
  let c0_i32_190 : BitVec 32 := 0#32
  let v523 : BitVec 1 := Scalar.cmpi .eq arg18 c0_i32_190
  let v524 : BitVec 32 := Scalar.extui v523
  let c0_i32_191 : BitVec 32 := 0#32
  let v525 : BitVec 1 := Scalar.cmpi .ne v524 c0_i32_191
  v525

def k0_off107 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c512_205 : Index := 512#32
  ![v538.toNat, 0, 512]
def k0_cond25 (v58 : BitVec 32) (v61 : BitVec 32) (k0_t11 : Fin (k0_t11_loop v58 v61).trips) : BitVec 1 :=
  let c0_i32_77 : BitVec 32 := 0#32
  let c1_i32_80 : BitVec 32 := 1#32
  let arg18 : BitVec 32 := Scf.iv c0_i32_77 c1_i32_80 k0_t11
  let c0_i32_192 : BitVec 32 := 0#32
  let v526 : BitVec 1 := Scalar.cmpi .sgt arg18 c0_i32_192
  let v527 : BitVec 32 := Scalar.extui v526
  let c0_i32_193 : BitVec 32 := 0#32
  let v528 : BitVec 1 := Scalar.cmpi .ne v527 c0_i32_193
  v528

def k0_off108 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c512_205 : Index := 512#32
  ![v538.toNat, 0, 512]
def k0_cond26 (v58 : BitVec 32) (v61 : BitVec 32) (k0_t11 : Fin (k0_t11_loop v58 v61).trips) : BitVec 1 :=
  let c0_i32_77 : BitVec 32 := 0#32
  let c1_i32_80 : BitVec 32 := 1#32
  let arg18 : BitVec 32 := Scf.iv c0_i32_77 c1_i32_80 k0_t11
  let c0_i32_199 : BitVec 32 := 0#32
  let v532 : BitVec 1 := Scalar.cmpi .eq arg18 c0_i32_199
  let v533 : BitVec 32 := Scalar.extui v532
  let c0_i32_200 : BitVec 32 := 0#32
  let v534 : BitVec 1 := Scalar.cmpi .ne v533 c0_i32_200
  v534

def k0_off109 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c768_205 : Index := 768#32
  ![v538.toNat, 0, 768]
def k0_cond27 (v58 : BitVec 32) (v61 : BitVec 32) (k0_t11 : Fin (k0_t11_loop v58 v61).trips) : BitVec 1 :=
  let c0_i32_77 : BitVec 32 := 0#32
  let c1_i32_80 : BitVec 32 := 1#32
  let arg18 : BitVec 32 := Scf.iv c0_i32_77 c1_i32_80 k0_t11
  let c0_i32_201 : BitVec 32 := 0#32
  let v535 : BitVec 1 := Scalar.cmpi .sgt arg18 c0_i32_201
  let v536 : BitVec 32 := Scalar.extui v535
  let c0_i32_202 : BitVec 32 := 0#32
  let v537 : BitVec 1 := Scalar.cmpi .ne v536 c0_i32_202
  v537

def k0_off110 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c768_205 : Index := 768#32
  ![v538.toNat, 0, 768]
@[reducible] def k0_t13_loop (v58 : BitVec 32) (v61 : BitVec 32) : Scf.Loop 32 :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let v123 : BitVec 32 := Scalar.addi c0_i32_77 v122
  let c1_i32_81 : BitVec 32 := 1#32
  ⟨v126, v123, c1_i32_81⟩
def k0_off111 (v194 : BitVec 32) : Fin 1 → Nat :=
  let v540 : Index := Scalar.indexCast v194
  ![v540.toNat]
def k0_cond28 (v194 : BitVec 32) : BitVec 1 :=
  let c64_i32_113 : BitVec 32 := 64#32
  let v195 : BitVec 1 := Scalar.cmpi .slt v194 c64_i32_113
  let v196 : BitVec 32 := Scalar.extui v195
  let c0_i32_114 : BitVec 32 := 0#32
  let v197 : BitVec 1 := Scalar.cmpi .ne v196 c0_i32_114
  v197

def k0_off112 (v194 : BitVec 32) : Fin 1 → Nat :=
  let c1_i32_206 : BitVec 32 := 1#32
  let v542 : BitVec 32 := Scalar.addi v194 c1_i32_206
  let v543 : Index := Scalar.indexCast v542
  ![v543.toNat]
def k0_mult10 (v538 : BitVec 32) (v541 : BitVec 32) : BitVec 32 :=
  let c0_i32_208 : BitVec 32 := 0#32
  let v546 : BitVec 1 := Scalar.cmpi .sgt v541 c0_i32_208
  let v547 : BitVec 32 := Scalar.extui v546
  let c0_i32_209 : BitVec 32 := 0#32
  let v548 : BitVec 1 := Scalar.cmpi .slt v541 c0_i32_209
  let v549 : BitVec 32 := Scalar.extui v548
  let v550 : BitVec 32 := Scalar.subi v547 v549
  let c128_i32_207 : BitVec 32 := 128#32
  let c0_i32_210 : BitVec 32 := 0#32
  let v551 : BitVec 1 := Scalar.cmpi .sgt c128_i32_207 c0_i32_210
  let v552 : BitVec 32 := Scalar.extui v551
  let c0_i32_211 : BitVec 32 := 0#32
  let v553 : BitVec 1 := Scalar.cmpi .slt c128_i32_207 c0_i32_211
  let v554 : BitVec 32 := Scalar.extui v553
  let v555 : BitVec 32 := Scalar.subi v552 v554
  let v556 : BitVec 1 := Scalar.cmpi .ne v550 v555
  let v557 : BitVec 32 := Scalar.remsi v541 c128_i32_207
  let c0_i32_212 : BitVec 32 := 0#32
  let v558 : BitVec 1 := Scalar.cmpi .ne v557 c0_i32_212
  let v559 : BitVec 1 := Scalar.andi v556 v558
  let v545 : BitVec 32 := Scalar.divsi v541 c128_i32_207
  let c1_i32_213 : BitVec 32 := 1#32
  let v560 : BitVec 32 := Scalar.subi v545 c1_i32_213
  let v561 : BitVec 32 := Scalar.select v559 v560 v545
  let c128_i32_214 : BitVec 32 := 128#32
  let v562 : BitVec 32 := Scalar.muli v561 c128_i32_214
  let c256_i32_215 : BitVec 32 := 256#32
  let v563 : BitVec 32 := Scalar.muli v538 c256_i32_215
  let v564 : BitVec 32 := Scalar.addi v562 v563
  let c32512_i32_216 : BitVec 32 := 32512#32
  let v565 : BitVec 32 := Scalar.minsi v564 c32512_i32_216
  v565

def k0_off113 (v539 : BitVec 32) : Fin 1 → Nat :=
  let c8_i32_217 : BitVec 32 := 8#32
  let c0_i32_218 : BitVec 32 := 0#32
  let v566 : BitVec 1 := Scalar.cmpi .eq c8_i32_217 c0_i32_218
  let c1_i32_219 : BitVec 32 := 1#32
  let v567 : BitVec 32 := Scalar.select v566 c1_i32_219 c8_i32_217
  let v568 : BitVec 32 := Scalar.remsi v539 v567
  let c0_i32_221 : BitVec 32 := 0#32
  let v570 : BitVec 1 := Scalar.cmpi .slt v568 c0_i32_221
  let c0_i32_222 : BitVec 32 := 0#32
  let v571 : BitVec 1 := Scalar.cmpi .slt v567 c0_i32_222
  let v572 : BitVec 1 := Scalar.xori v570 v571
  let c0_i32_220 : BitVec 32 := 0#32
  let v569 : BitVec 1 := Scalar.cmpi .ne v568 c0_i32_220
  let v573 : BitVec 1 := Scalar.andi v572 v569
  let v574 : BitVec 32 := Scalar.addi v568 v567
  let v575 : BitVec 32 := Scalar.select v573 v574 v568
  ![v575.toNat]

def k0_off114 (v539 : BitVec 32) : Fin 3 → Nat :=
  let c8_i32_217 : BitVec 32 := 8#32
  let c0_i32_218 : BitVec 32 := 0#32
  let v566 : BitVec 1 := Scalar.cmpi .eq c8_i32_217 c0_i32_218
  let c1_i32_219 : BitVec 32 := 1#32
  let v567 : BitVec 32 := Scalar.select v566 c1_i32_219 c8_i32_217
  let v568 : BitVec 32 := Scalar.remsi v539 v567
  let c0_i32_221 : BitVec 32 := 0#32
  let v570 : BitVec 1 := Scalar.cmpi .slt v568 c0_i32_221
  let c0_i32_222 : BitVec 32 := 0#32
  let v571 : BitVec 1 := Scalar.cmpi .slt v567 c0_i32_222
  let v572 : BitVec 1 := Scalar.xori v570 v571
  let c0_i32_220 : BitVec 32 := 0#32
  let v569 : BitVec 1 := Scalar.cmpi .ne v568 c0_i32_220
  let v573 : BitVec 1 := Scalar.andi v572 v569
  let v574 : BitVec 32 := Scalar.addi v568 v567
  let v575 : BitVec 32 := Scalar.select v573 v574 v568
  let c0_i32_223 : BitVec 32 := 0#32
  let c0_i32_224 : BitVec 32 := 0#32
  ![v575.toNat, 0, 0]
def k0_off115 (v538 : BitVec 32) (v541 : BitVec 32) : Fin 2 → Nat :=
  let c0_i32_208 : BitVec 32 := 0#32
  let v546 : BitVec 1 := Scalar.cmpi .sgt v541 c0_i32_208
  let v547 : BitVec 32 := Scalar.extui v546
  let c0_i32_209 : BitVec 32 := 0#32
  let v548 : BitVec 1 := Scalar.cmpi .slt v541 c0_i32_209
  let v549 : BitVec 32 := Scalar.extui v548
  let v550 : BitVec 32 := Scalar.subi v547 v549
  let c128_i32_207 : BitVec 32 := 128#32
  let c0_i32_210 : BitVec 32 := 0#32
  let v551 : BitVec 1 := Scalar.cmpi .sgt c128_i32_207 c0_i32_210
  let v552 : BitVec 32 := Scalar.extui v551
  let c0_i32_211 : BitVec 32 := 0#32
  let v553 : BitVec 1 := Scalar.cmpi .slt c128_i32_207 c0_i32_211
  let v554 : BitVec 32 := Scalar.extui v553
  let v555 : BitVec 32 := Scalar.subi v552 v554
  let v556 : BitVec 1 := Scalar.cmpi .ne v550 v555
  let v557 : BitVec 32 := Scalar.remsi v541 c128_i32_207
  let c0_i32_212 : BitVec 32 := 0#32
  let v558 : BitVec 1 := Scalar.cmpi .ne v557 c0_i32_212
  let v559 : BitVec 1 := Scalar.andi v556 v558
  let v545 : BitVec 32 := Scalar.divsi v541 c128_i32_207
  let c1_i32_213 : BitVec 32 := 1#32
  let v560 : BitVec 32 := Scalar.subi v545 c1_i32_213
  let v561 : BitVec 32 := Scalar.select v559 v560 v545
  let c128_i32_214 : BitVec 32 := 128#32
  let v562 : BitVec 32 := Scalar.muli v561 c128_i32_214
  let c256_i32_215 : BitVec 32 := 256#32
  let v563 : BitVec 32 := Scalar.muli v538 c256_i32_215
  let v564 : BitVec 32 := Scalar.addi v562 v563
  let c32512_i32_216 : BitVec 32 := 32512#32
  let v565 : BitVec 32 := Scalar.minsi v564 c32512_i32_216
  let v576 : BitVec 32 := v565
  let c0_i32_225 : BitVec 32 := 0#32
  ![v576.toNat, 0]
def k0_off116 (v539 : BitVec 32) : Fin 3 → Nat :=
  let c8_i32_217 : BitVec 32 := 8#32
  let c0_i32_218 : BitVec 32 := 0#32
  let v566 : BitVec 1 := Scalar.cmpi .eq c8_i32_217 c0_i32_218
  let c1_i32_219 : BitVec 32 := 1#32
  let v567 : BitVec 32 := Scalar.select v566 c1_i32_219 c8_i32_217
  let v568 : BitVec 32 := Scalar.remsi v539 v567
  let c0_i32_221 : BitVec 32 := 0#32
  let v570 : BitVec 1 := Scalar.cmpi .slt v568 c0_i32_221
  let c0_i32_222 : BitVec 32 := 0#32
  let v571 : BitVec 1 := Scalar.cmpi .slt v567 c0_i32_222
  let v572 : BitVec 1 := Scalar.xori v570 v571
  let c0_i32_220 : BitVec 32 := 0#32
  let v569 : BitVec 1 := Scalar.cmpi .ne v568 c0_i32_220
  let v573 : BitVec 1 := Scalar.andi v572 v569
  let v574 : BitVec 32 := Scalar.addi v568 v567
  let v575 : BitVec 32 := Scalar.select v573 v574 v568
  let c0_i32_226 : BitVec 32 := 0#32
  let c0_i32_227 : BitVec 32 := 0#32
  ![v575.toNat, 0, 0]

def k0_chk37 (v58 : BitVec 32) (v61 : BitVec 32) (v194 : BitVec 32) (v539 : BitVec 32) : Prop :=
  (∀ (k0_h16 : k0_cond16 v58 v61 = 1#1), ∀ (k0_h28 : k0_cond28 v194 = 1#1), ∀ a, (k0_off113 v539) a + S1.size a ≤ S8.size a) ∧
  (∀ (k0_h16 : k0_cond16 v58 v61 = 1#1), ∀ (k0_h28 : k0_cond28 v194 = 1#1), ∀ a, (k0_off114 v539) a + S1x256x1024.size a ≤ S8x256x1024.size a) ∧
  (∀ (k0_h16 : k0_cond16 v58 v61 = 1#1), ∀ (k0_h28 : k0_cond28 v194 = 1#1), ∀ (hinb : ∀ a, (k0_off114 v539) a + S1x256x1024.size a ≤ S8x256x1024.size a), (Rect.unit (s := S8x256x1024) (k0_off114 v539) S1x256x1024.size hinb).WholeWords (EltTy.packing .fp8e4m3)) ∧
  (∀ (k0_h16 : k0_cond16 v58 v61 = 1#1), ∀ (k0_h28 : k0_cond28 v194 = 1#1), ∀ a, (k0_off116 v539) a + S1x16x256.size a ≤ S8x16x256.size a)
theorem k0_off113_inb : ∀ (v58 : BitVec 32) (v61 : BitVec 32) (v194 : BitVec 32) (v539 : BitVec 32) (k0_hw37 : k0_chk37 v58 v61 v194 v539), ∀ (k0_h16 : k0_cond16 v58 v61 = 1#1), ∀ (k0_h28 : k0_cond28 v194 = 1#1), ∀ a, (k0_off113 v539) a + S1.size a ≤ S8.size a := fun v58 v61 v194 v539 k0_hw37 k0_h16 k0_h28 => k0_hw37.1 k0_h16 k0_h28
theorem k0_off114_inb : ∀ (v58 : BitVec 32) (v61 : BitVec 32) (v194 : BitVec 32) (v539 : BitVec 32) (k0_hw37 : k0_chk37 v58 v61 v194 v539), ∀ (k0_h16 : k0_cond16 v58 v61 = 1#1), ∀ (k0_h28 : k0_cond28 v194 = 1#1), ∀ a, (k0_off114 v539) a + S1x256x1024.size a ≤ S8x256x1024.size a := fun v58 v61 v194 v539 k0_hw37 k0_h16 k0_h28 => k0_hw37.2.1 k0_h16 k0_h28
theorem k0_off114_wordsfp8e4m3 : ∀ (v58 : BitVec 32) (v61 : BitVec 32) (v194 : BitVec 32) (v539 : BitVec 32) (k0_hw37 : k0_chk37 v58 v61 v194 v539), ∀ (k0_h16 : k0_cond16 v58 v61 = 1#1), ∀ (k0_h28 : k0_cond28 v194 = 1#1), (Rect.unit (s := S8x256x1024) (k0_off114 v539) S1x256x1024.size (k0_off114_inb v58 v61 v194 v539 k0_hw37 k0_h16 k0_h28)).WholeWords (EltTy.packing .fp8e4m3) := fun v58 v61 v194 v539 k0_hw37 k0_h16 k0_h28 => k0_hw37.2.2.1 k0_h16 k0_h28 (k0_off114_inb v58 v61 v194 v539 k0_hw37 k0_h16 k0_h28)
theorem k0_off116_inb : ∀ (v58 : BitVec 32) (v61 : BitVec 32) (v194 : BitVec 32) (v539 : BitVec 32) (k0_hw37 : k0_chk37 v58 v61 v194 v539), ∀ (k0_h16 : k0_cond16 v58 v61 = 1#1), ∀ (k0_h28 : k0_cond28 v194 = 1#1), ∀ a, (k0_off116 v539) a + S1x16x256.size a ≤ S8x16x256.size a := fun v58 v61 v194 v539 k0_hw37 k0_h16 k0_h28 => k0_hw37.2.2.2 k0_h16 k0_h28

def k0_off117 (v538 : BitVec 32) (v541 : BitVec 32) : Fin 2 → Nat :=
  let c0_i32_228 : BitVec 32 := 0#32
  let c0_i32_208 : BitVec 32 := 0#32
  let v546 : BitVec 1 := Scalar.cmpi .sgt v541 c0_i32_208
  let v547 : BitVec 32 := Scalar.extui v546
  let c0_i32_209 : BitVec 32 := 0#32
  let v548 : BitVec 1 := Scalar.cmpi .slt v541 c0_i32_209
  let v549 : BitVec 32 := Scalar.extui v548
  let v550 : BitVec 32 := Scalar.subi v547 v549
  let c128_i32_207 : BitVec 32 := 128#32
  let c0_i32_210 : BitVec 32 := 0#32
  let v551 : BitVec 1 := Scalar.cmpi .sgt c128_i32_207 c0_i32_210
  let v552 : BitVec 32 := Scalar.extui v551
  let c0_i32_211 : BitVec 32 := 0#32
  let v553 : BitVec 1 := Scalar.cmpi .slt c128_i32_207 c0_i32_211
  let v554 : BitVec 32 := Scalar.extui v553
  let v555 : BitVec 32 := Scalar.subi v552 v554
  let v556 : BitVec 1 := Scalar.cmpi .ne v550 v555
  let v557 : BitVec 32 := Scalar.remsi v541 c128_i32_207
  let c0_i32_212 : BitVec 32 := 0#32
  let v558 : BitVec 1 := Scalar.cmpi .ne v557 c0_i32_212
  let v559 : BitVec 1 := Scalar.andi v556 v558
  let v545 : BitVec 32 := Scalar.divsi v541 c128_i32_207
  let c1_i32_213 : BitVec 32 := 1#32
  let v560 : BitVec 32 := Scalar.subi v545 c1_i32_213
  let v561 : BitVec 32 := Scalar.select v559 v560 v545
  let c128_i32_214 : BitVec 32 := 128#32
  let v562 : BitVec 32 := Scalar.muli v561 c128_i32_214
  let c256_i32_215 : BitVec 32 := 256#32
  let v563 : BitVec 32 := Scalar.muli v538 c256_i32_215
  let v564 : BitVec 32 := Scalar.addi v562 v563
  let c32512_i32_216 : BitVec 32 := 32512#32
  let v565 : BitVec 32 := Scalar.minsi v564 c32512_i32_216
  let v576 : BitVec 32 := v565
  ![0, v576.toNat]

def k0_chk36 (v58 : BitVec 32) (v61 : BitVec 32) (v194 : BitVec 32) (v538 : BitVec 32) (v541 : BitVec 32) : Prop :=
  (∀ (k0_h16 : k0_cond16 v58 v61 = 1#1), ∀ (k0_h28 : k0_cond28 v194 = 1#1), 128 ∣ (k0_mult10 v538 v541).toNat) ∧
  (∀ (k0_h16 : k0_cond16 v58 v61 = 1#1), ∀ (k0_h28 : k0_cond28 v194 = 1#1), ∀ a, (k0_off115 v538 v541) a + S256x1024.size a ≤ S32768x1024.size a) ∧
  (∀ (k0_h16 : k0_cond16 v58 v61 = 1#1), ∀ (k0_h28 : k0_cond28 v194 = 1#1), ∀ (hinb : ∀ a, (k0_off115 v538 v541) a + S256x1024.size a ≤ S32768x1024.size a), (Rect.unit (s := S32768x1024) (k0_off115 v538 v541) S256x1024.size hinb).WholeWords (EltTy.packing .fp8e4m3)) ∧
  (∀ (k0_h16 : k0_cond16 v58 v61 = 1#1), ∀ (k0_h28 : k0_cond28 v194 = 1#1), ∀ a, (k0_off117 v538 v541) a + S16x256.size a ≤ S16x32768.size a)
theorem k0_mult10_dvd : ∀ (v58 : BitVec 32) (v61 : BitVec 32) (v194 : BitVec 32) (v538 : BitVec 32) (v541 : BitVec 32) (k0_hw36 : k0_chk36 v58 v61 v194 v538 v541), ∀ (k0_h16 : k0_cond16 v58 v61 = 1#1), ∀ (k0_h28 : k0_cond28 v194 = 1#1), 128 ∣ (k0_mult10 v538 v541).toNat := fun v58 v61 v194 v538 v541 k0_hw36 k0_h16 k0_h28 => k0_hw36.1 k0_h16 k0_h28
theorem k0_off115_inb : ∀ (v58 : BitVec 32) (v61 : BitVec 32) (v194 : BitVec 32) (v538 : BitVec 32) (v541 : BitVec 32) (k0_hw36 : k0_chk36 v58 v61 v194 v538 v541), ∀ (k0_h16 : k0_cond16 v58 v61 = 1#1), ∀ (k0_h28 : k0_cond28 v194 = 1#1), ∀ a, (k0_off115 v538 v541) a + S256x1024.size a ≤ S32768x1024.size a := fun v58 v61 v194 v538 v541 k0_hw36 k0_h16 k0_h28 => k0_hw36.2.1 k0_h16 k0_h28
theorem k0_off115_wordsfp8e4m3 : ∀ (v58 : BitVec 32) (v61 : BitVec 32) (v194 : BitVec 32) (v538 : BitVec 32) (v541 : BitVec 32) (k0_hw36 : k0_chk36 v58 v61 v194 v538 v541), ∀ (k0_h16 : k0_cond16 v58 v61 = 1#1), ∀ (k0_h28 : k0_cond28 v194 = 1#1), (Rect.unit (s := S32768x1024) (k0_off115 v538 v541) S256x1024.size (k0_off115_inb v58 v61 v194 v538 v541 k0_hw36 k0_h16 k0_h28)).WholeWords (EltTy.packing .fp8e4m3) := fun v58 v61 v194 v538 v541 k0_hw36 k0_h16 k0_h28 => k0_hw36.2.2.1 k0_h16 k0_h28 (k0_off115_inb v58 v61 v194 v538 v541 k0_hw36 k0_h16 k0_h28)
theorem k0_off117_inb : ∀ (v58 : BitVec 32) (v61 : BitVec 32) (v194 : BitVec 32) (v538 : BitVec 32) (v541 : BitVec 32) (k0_hw36 : k0_chk36 v58 v61 v194 v538 v541), ∀ (k0_h16 : k0_cond16 v58 v61 = 1#1), ∀ (k0_h28 : k0_cond28 v194 = 1#1), ∀ a, (k0_off117 v538 v541) a + S16x256.size a ≤ S16x32768.size a := fun v58 v61 v194 v538 v541 k0_hw36 k0_h16 k0_h28 => k0_hw36.2.2.2 k0_h16 k0_h28

def k0_off118 (v194 : BitVec 32) : Fin 1 → Nat :=
  let v590 : Index := Scalar.indexCast v194
  ![v590.toNat]
def k0_off119 (v194 : BitVec 32) : Fin 1 → Nat :=
  let c1_i32_232 : BitVec 32 := 1#32
  let v592 : BitVec 32 := Scalar.addi v194 c1_i32_232
  let v593 : Index := Scalar.indexCast v592
  ![v593.toNat]

def k0_chk35 (v58 : BitVec 32) (v61 : BitVec 32) (v194 : BitVec 32) : Prop :=
  (∀ (k0_h16 : k0_cond16 v58 v61 = 1#1), ∀ (k0_h28 : k0_cond28 v194 = 1#1), ∀ a, (k0_off111 v194) a + S1.size a ≤ S65.size a) ∧
  (∀ (k0_h16 : k0_cond16 v58 v61 = 1#1), ∀ (k0_h28 : k0_cond28 v194 = 1#1), ∀ a, (k0_off112 v194) a + S1.size a ≤ S65.size a) ∧
  (∀ (k0_h16 : k0_cond16 v58 v61 = 1#1), ∀ (k0_h28 : k0_cond28 v194 = 1#1), ∀ a, (k0_off118 v194) a + S1.size a ≤ S65.size a) ∧
  (∀ (k0_h16 : k0_cond16 v58 v61 = 1#1), ∀ (k0_h28 : k0_cond28 v194 = 1#1), ∀ a, (k0_off119 v194) a + S1.size a ≤ S65.size a)
theorem k0_off111_inb : ∀ (v58 : BitVec 32) (v61 : BitVec 32) (v194 : BitVec 32) (k0_hw35 : k0_chk35 v58 v61 v194), ∀ (k0_h16 : k0_cond16 v58 v61 = 1#1), ∀ (k0_h28 : k0_cond28 v194 = 1#1), ∀ a, (k0_off111 v194) a + S1.size a ≤ S65.size a := fun v58 v61 v194 k0_hw35 k0_h16 k0_h28 => k0_hw35.1 k0_h16 k0_h28
theorem k0_off112_inb : ∀ (v58 : BitVec 32) (v61 : BitVec 32) (v194 : BitVec 32) (k0_hw35 : k0_chk35 v58 v61 v194), ∀ (k0_h16 : k0_cond16 v58 v61 = 1#1), ∀ (k0_h28 : k0_cond28 v194 = 1#1), ∀ a, (k0_off112 v194) a + S1.size a ≤ S65.size a := fun v58 v61 v194 k0_hw35 k0_h16 k0_h28 => k0_hw35.2.1 k0_h16 k0_h28
theorem k0_off118_inb : ∀ (v58 : BitVec 32) (v61 : BitVec 32) (v194 : BitVec 32) (k0_hw35 : k0_chk35 v58 v61 v194), ∀ (k0_h16 : k0_cond16 v58 v61 = 1#1), ∀ (k0_h28 : k0_cond28 v194 = 1#1), ∀ a, (k0_off118 v194) a + S1.size a ≤ S65.size a := fun v58 v61 v194 k0_hw35 k0_h16 k0_h28 => k0_hw35.2.2.1 k0_h16 k0_h28
theorem k0_off119_inb : ∀ (v58 : BitVec 32) (v61 : BitVec 32) (v194 : BitVec 32) (k0_hw35 : k0_chk35 v58 v61 v194), ∀ (k0_h16 : k0_cond16 v58 v61 = 1#1), ∀ (k0_h28 : k0_cond28 v194 = 1#1), ∀ a, (k0_off119 v194) a + S1.size a ≤ S65.size a := fun v58 v61 v194 k0_hw35 k0_h16 k0_h28 => k0_hw35.2.2.2 k0_h16 k0_h28

@[reducible] def k0_t14_loop : Scf.Loop 32 :=
  let c0_i32_256 : BitVec 32 := 0#32
  let c64_i32_257 : BitVec 32 := 64#32
  let v642 : BitVec 32 := Scalar.addi c0_i32_256 c64_i32_257
  let c1_i32_258 : BitVec 32 := 1#32
  ⟨c0_i32_256, v642, c1_i32_258⟩
def k0_off120 (arg21 : BitVec 32) : Fin 1 → Nat :=
  let c63_i32 : BitVec 32 := 63#32
  let v646 : BitVec 32 := Scalar.minsi arg21 c63_i32
  let v647 : Index := Scalar.indexCast v646
  ![v647.toNat]
def k0_cond29 (v538 : BitVec 32) (v591 : BitVec 32) (v594 : BitVec 32) : BitVec 1 :=
  let c1_i32_231 : BitVec 32 := 1#32
  let v589 : BitVec 32 := Scalar.addi v538 c1_i32_231
  let v613 : BitVec 1 := Scalar.cmpi .sgt v594 v591
  let c0_i32_234 : BitVec 32 := 0#32
  let v596 : BitVec 1 := Scalar.cmpi .sgt v591 c0_i32_234
  let v597 : BitVec 32 := Scalar.extui v596
  let c0_i32_235 : BitVec 32 := 0#32
  let v598 : BitVec 1 := Scalar.cmpi .slt v591 c0_i32_235
  let v599 : BitVec 32 := Scalar.extui v598
  let v600 : BitVec 32 := Scalar.subi v597 v599
  let c128_i32_233 : BitVec 32 := 128#32
  let c0_i32_236 : BitVec 32 := 0#32
  let v601 : BitVec 1 := Scalar.cmpi .sgt c128_i32_233 c0_i32_236
  let v602 : BitVec 32 := Scalar.extui v601
  let c0_i32_237 : BitVec 32 := 0#32
  let v603 : BitVec 1 := Scalar.cmpi .slt c128_i32_233 c0_i32_237
  let v604 : BitVec 32 := Scalar.extui v603
  let v605 : BitVec 32 := Scalar.subi v602 v604
  let v606 : BitVec 1 := Scalar.cmpi .ne v600 v605
  let v607 : BitVec 32 := Scalar.remsi v591 c128_i32_233
  let c0_i32_238 : BitVec 32 := 0#32
  let v608 : BitVec 1 := Scalar.cmpi .ne v607 c0_i32_238
  let v609 : BitVec 1 := Scalar.andi v606 v608
  let v595 : BitVec 32 := Scalar.divsi v591 c128_i32_233
  let c1_i32_239 : BitVec 32 := 1#32
  let v610 : BitVec 32 := Scalar.subi v595 c1_i32_239
  let v611 : BitVec 32 := Scalar.select v609 v610 v595
  let c128_i32_240 : BitVec 32 := 128#32
  let v612 : BitVec 32 := Scalar.muli v611 c128_i32_240
  let v614 : BitVec 32 := Scalar.subi v594 v612
  let c256_i32_241 : BitVec 32 := 256#32
  let v615 : BitVec 32 := Scalar.addi v614 c256_i32_241
  let c1_i32_242 : BitVec 32 := 1#32
  let v616 : BitVec 32 := Scalar.subi v615 c1_i32_242
  let c0_i32_244 : BitVec 32 := 0#32
  let v618 : BitVec 1 := Scalar.cmpi .sgt v616 c0_i32_244
  let v619 : BitVec 32 := Scalar.extui v618
  let c0_i32_245 : BitVec 32 := 0#32
  let v620 : BitVec 1 := Scalar.cmpi .slt v616 c0_i32_245
  let v621 : BitVec 32 := Scalar.extui v620
  let v622 : BitVec 32 := Scalar.subi v619 v621
  let c256_i32_243 : BitVec 32 := 256#32
  let c0_i32_246 : BitVec 32 := 0#32
  let v623 : BitVec 1 := Scalar.cmpi .sgt c256_i32_243 c0_i32_246
  let v624 : BitVec 32 := Scalar.extui v623
  let c0_i32_247 : BitVec 32 := 0#32
  let v625 : BitVec 1 := Scalar.cmpi .slt c256_i32_243 c0_i32_247
  let v626 : BitVec 32 := Scalar.extui v625
  let v627 : BitVec 32 := Scalar.subi v624 v626
  let v628 : BitVec 1 := Scalar.cmpi .ne v622 v627
  let v629 : BitVec 32 := Scalar.remsi v616 c256_i32_243
  let c0_i32_248 : BitVec 32 := 0#32
  let v630 : BitVec 1 := Scalar.cmpi .ne v629 c0_i32_248
  let v631 : BitVec 1 := Scalar.andi v628 v630
  let v617 : BitVec 32 := Scalar.divsi v616 c256_i32_243
  let c1_i32_249 : BitVec 32 := 1#32
  let v632 : BitVec 32 := Scalar.subi v617 c1_i32_249
  let v633 : BitVec 32 := Scalar.select v631 v632 v617
  let c0_i32_250 : BitVec 32 := 0#32
  let v634 : BitVec 32 := Scalar.select v613 v633 c0_i32_250
  let v635 : BitVec 1 := Scalar.cmpi .sge v589 v634
  let v639 : BitVec 32 := Scalar.extui v635
  let c0_i32_254 : BitVec 32 := 0#32
  let v640 : BitVec 1 := Scalar.cmpi .ne v639 c0_i32_254
  v640

def k0_off121 (arg21 : BitVec 32) : Fin 1 → Nat :=
  let c63_i32 : BitVec 32 := 63#32
  let v646 : BitVec 32 := Scalar.minsi arg21 c63_i32
  let c1_i32_262 : BitVec 32 := 1#32
  let v649 : BitVec 32 := Scalar.addi v646 c1_i32_262
  let v650 : Index := Scalar.indexCast v649
  ![v650.toNat]

def k0_chk38 (v58 : BitVec 32) (v61 : BitVec 32) (v194 : BitVec 32) (v538 : BitVec 32) (v591 : BitVec 32) (v594 : BitVec 32) (arg21 : BitVec 32) : Prop :=
  (∀ (k0_h16 : k0_cond16 v58 v61 = 1#1), ∀ (k0_h28 : k0_cond28 v194 = 1#1), ∀ (k0_h29 : k0_cond29 v538 v591 v594 = 1#1), ∀ a, (k0_off120 arg21) a + S1.size a ≤ S65.size a) ∧
  (∀ (k0_h16 : k0_cond16 v58 v61 = 1#1), ∀ (k0_h28 : k0_cond28 v194 = 1#1), ∀ (k0_h29 : k0_cond29 v538 v591 v594 = 1#1), ∀ a, (k0_off121 arg21) a + S1.size a ≤ S65.size a)
theorem k0_off120_inb : ∀ (v58 : BitVec 32) (v61 : BitVec 32) (v194 : BitVec 32) (v538 : BitVec 32) (v591 : BitVec 32) (v594 : BitVec 32) (arg21 : BitVec 32) (k0_hw38 : k0_chk38 v58 v61 v194 v538 v591 v594 arg21), ∀ (k0_h16 : k0_cond16 v58 v61 = 1#1), ∀ (k0_h28 : k0_cond28 v194 = 1#1), ∀ (k0_h29 : k0_cond29 v538 v591 v594 = 1#1), ∀ a, (k0_off120 arg21) a + S1.size a ≤ S65.size a := fun v58 v61 v194 v538 v591 v594 arg21 k0_hw38 k0_h16 k0_h28 k0_h29 => k0_hw38.1 k0_h16 k0_h28 k0_h29
theorem k0_off121_inb : ∀ (v58 : BitVec 32) (v61 : BitVec 32) (v194 : BitVec 32) (v538 : BitVec 32) (v591 : BitVec 32) (v594 : BitVec 32) (arg21 : BitVec 32) (k0_hw38 : k0_chk38 v58 v61 v194 v538 v591 v594 arg21), ∀ (k0_h16 : k0_cond16 v58 v61 = 1#1), ∀ (k0_h28 : k0_cond28 v194 = 1#1), ∀ (k0_h29 : k0_cond29 v538 v591 v594 = 1#1), ∀ a, (k0_off121 arg21) a + S1.size a ≤ S65.size a := fun v58 v61 v194 v538 v591 v594 arg21 k0_hw38 k0_h16 k0_h28 k0_h29 => k0_hw38.2 k0_h16 k0_h28 k0_h29

def k0_mult11 : BitVec 32 :=
  let c0_i32_115 : BitVec 32 := 0#32
  c0_i32_115
def k0_off122 (arg17 : BitVec 32) (v58 : BitVec 32) (v61 : BitVec 32) (k0_t13 : Fin (k0_t13_loop v58 v61).trips) : Fin 1 → Nat :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let c0_i32_109 : BitVec 32 := 0#32
  let v187 : BitVec 1 := Scalar.cmpi .ne v186 c0_i32_109
  let v191 : BitVec 1 := Scalar.andi v190 v187
  let v192 : BitVec 32 := Scalar.addi v186 v185
  let v193 : BitVec 32 := Scalar.select v191 v192 v186
  ![v193.toNat]
def k0_off123 (arg17 : BitVec 32) (v58 : BitVec 32) (v61 : BitVec 32) (k0_t13 : Fin (k0_t13_loop v58 v61).trips) : Fin 3 → Nat :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let c0_i32_109 : BitVec 32 := 0#32
  let v187 : BitVec 1 := Scalar.cmpi .ne v186 c0_i32_109
  let v191 : BitVec 1 := Scalar.andi v190 v187
  let v192 : BitVec 32 := Scalar.addi v186 v185
  let v193 : BitVec 32 := Scalar.select v191 v192 v186
  let c0_i32_116 : BitVec 32 := 0#32
  let c0_i32_117 : BitVec 32 := 0#32
  ![v193.toNat, 0, 0]
def k0_off124 (arg17 : BitVec 32) (v58 : BitVec 32) (v61 : BitVec 32) (k0_t13 : Fin (k0_t13_loop v58 v61).trips) : Fin 3 → Nat :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let c0_i32_109 : BitVec 32 := 0#32
  let v187 : BitVec 1 := Scalar.cmpi .ne v186 c0_i32_109
  let v191 : BitVec 1 := Scalar.andi v190 v187
  let v192 : BitVec 32 := Scalar.addi v186 v185
  let v193 : BitVec 32 := Scalar.select v191 v192 v186
  let c0_i32_119 : BitVec 32 := 0#32
  let c0_i32_120 : BitVec 32 := 0#32
  ![v193.toNat, 0, 0]
def k0_off125 (k0_t10 : Fin k0_t10_loop.trips) : Fin 1 → Nat :=
  let c0_i32_33 : BitVec 32 := 0#32
  let c1_i32_35 : BitVec 32 := 1#32
  let arg15 : BitVec 32 := Scf.iv c0_i32_33 c1_i32_35 k0_t10
  let v209 : Index := Scalar.indexCast arg15
  ![v209.toNat]
def k0_off126 (k0_t10 : Fin k0_t10_loop.trips) : Fin 1 → Nat :=
  let c0_i32_33 : BitVec 32 := 0#32
  let c1_i32_35 : BitVec 32 := 1#32
  let arg15 : BitVec 32 := Scf.iv c0_i32_33 c1_i32_35 k0_t10
  let c1_i32_122 : BitVec 32 := 1#32
  let v211 : BitVec 32 := Scalar.addi arg15 c1_i32_122
  let v212 : Index := Scalar.indexCast v211
  ![v212.toNat]
def k0_off127 (arg17 : BitVec 32) (v58 : BitVec 32) (v61 : BitVec 32) (k0_t13 : Fin (k0_t13_loop v58 v61).trips) : Fin 3 → Nat :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let c0_i32_109 : BitVec 32 := 0#32
  let v187 : BitVec 1 := Scalar.cmpi .ne v186 c0_i32_109
  let v191 : BitVec 1 := Scalar.andi v190 v187
  let v192 : BitVec 32 := Scalar.addi v186 v185
  let v193 : BitVec 32 := Scalar.select v191 v192 v186
  let v269 : Index := Scalar.indexCast v193
  let c0_142 : Index := 0#32
  let c0_143 : Index := 0#32
  ![v269.toNat, 0, 0]
def k0_off128 (arg17 : BitVec 32) (v58 : BitVec 32) (v61 : BitVec 32) (k0_t13 : Fin (k0_t13_loop v58 v61).trips) : Fin 3 → Nat :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let c0_i32_109 : BitVec 32 := 0#32
  let v187 : BitVec 1 := Scalar.cmpi .ne v186 c0_i32_109
  let v191 : BitVec 1 := Scalar.andi v190 v187
  let v192 : BitVec 32 := Scalar.addi v186 v185
  let v193 : BitVec 32 := Scalar.select v191 v192 v186
  let v274 : Index := Scalar.indexCast v193
  let c0_145 : Index := 0#32
  let c0_146 : Index := 0#32
  ![v274.toNat, 0, 0]
def k0_off129 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c0_205 : Index := 0#32
  ![v538.toNat, 0, 0]
def k0_cond30 (v58 : BitVec 32) (v61 : BitVec 32) (k0_t13 : Fin (k0_t13_loop v58 v61).trips) : BitVec 1 :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let c0_i32_172 : BitVec 32 := 0#32
  let v505 : BitVec 1 := Scalar.cmpi .eq arg18 c0_i32_172
  let v506 : BitVec 32 := Scalar.extui v505
  let c0_i32_173 : BitVec 32 := 0#32
  let v507 : BitVec 1 := Scalar.cmpi .ne v506 c0_i32_173
  v507

def k0_off130 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c0_205 : Index := 0#32
  ![v538.toNat, 0, 0]
def k0_cond31 (v58 : BitVec 32) (v61 : BitVec 32) (k0_t13 : Fin (k0_t13_loop v58 v61).trips) : BitVec 1 :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let c0_i32_174 : BitVec 32 := 0#32
  let v508 : BitVec 1 := Scalar.cmpi .sgt arg18 c0_i32_174
  let v509 : BitVec 32 := Scalar.extui v508
  let c0_i32_175 : BitVec 32 := 0#32
  let v510 : BitVec 1 := Scalar.cmpi .ne v509 c0_i32_175
  v510

def k0_off131 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c256_205 : Index := 256#32
  ![v538.toNat, 0, 256]
def k0_cond32 (v58 : BitVec 32) (v61 : BitVec 32) (k0_t13 : Fin (k0_t13_loop v58 v61).trips) : BitVec 1 :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let c0_i32_181 : BitVec 32 := 0#32
  let v514 : BitVec 1 := Scalar.cmpi .eq arg18 c0_i32_181
  let v515 : BitVec 32 := Scalar.extui v514
  let c0_i32_182 : BitVec 32 := 0#32
  let v516 : BitVec 1 := Scalar.cmpi .ne v515 c0_i32_182
  v516

def k0_off132 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c256_205 : Index := 256#32
  ![v538.toNat, 0, 256]
def k0_cond33 (v58 : BitVec 32) (v61 : BitVec 32) (k0_t13 : Fin (k0_t13_loop v58 v61).trips) : BitVec 1 :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let c0_i32_183 : BitVec 32 := 0#32
  let v517 : BitVec 1 := Scalar.cmpi .sgt arg18 c0_i32_183
  let v518 : BitVec 32 := Scalar.extui v517
  let c0_i32_184 : BitVec 32 := 0#32
  let v519 : BitVec 1 := Scalar.cmpi .ne v518 c0_i32_184
  v519

def k0_off133 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c512_205 : Index := 512#32
  ![v538.toNat, 0, 512]
def k0_cond34 (v58 : BitVec 32) (v61 : BitVec 32) (k0_t13 : Fin (k0_t13_loop v58 v61).trips) : BitVec 1 :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let c0_i32_190 : BitVec 32 := 0#32
  let v523 : BitVec 1 := Scalar.cmpi .eq arg18 c0_i32_190
  let v524 : BitVec 32 := Scalar.extui v523
  let c0_i32_191 : BitVec 32 := 0#32
  let v525 : BitVec 1 := Scalar.cmpi .ne v524 c0_i32_191
  v525

def k0_off134 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c512_205 : Index := 512#32
  ![v538.toNat, 0, 512]
def k0_cond35 (v58 : BitVec 32) (v61 : BitVec 32) (k0_t13 : Fin (k0_t13_loop v58 v61).trips) : BitVec 1 :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let c0_i32_192 : BitVec 32 := 0#32
  let v526 : BitVec 1 := Scalar.cmpi .sgt arg18 c0_i32_192
  let v527 : BitVec 32 := Scalar.extui v526
  let c0_i32_193 : BitVec 32 := 0#32
  let v528 : BitVec 1 := Scalar.cmpi .ne v527 c0_i32_193
  v528

def k0_off135 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c768_205 : Index := 768#32
  ![v538.toNat, 0, 768]
def k0_cond36 (v58 : BitVec 32) (v61 : BitVec 32) (k0_t13 : Fin (k0_t13_loop v58 v61).trips) : BitVec 1 :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let c0_i32_199 : BitVec 32 := 0#32
  let v532 : BitVec 1 := Scalar.cmpi .eq arg18 c0_i32_199
  let v533 : BitVec 32 := Scalar.extui v532
  let c0_i32_200 : BitVec 32 := 0#32
  let v534 : BitVec 1 := Scalar.cmpi .ne v533 c0_i32_200
  v534

def k0_off136 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v538 : Index := Scalar.indexCast v111
  let c0_204 : Index := 0#32
  let c768_205 : Index := 768#32
  ![v538.toNat, 0, 768]
def k0_cond37 (v58 : BitVec 32) (v61 : BitVec 32) (k0_t13 : Fin (k0_t13_loop v58 v61).trips) : BitVec 1 :=
  let c0_i32_77 : BitVec 32 := 0#32
  let v80 : BitVec 1 := Scalar.cmpi .sgt v61 v58
  let c0_i32_48 : BitVec 32 := 0#32
  let v63 : BitVec 1 := Scalar.cmpi .sgt v58 c0_i32_48
  let v64 : BitVec 32 := Scalar.extui v63
  let c0_i32_49 : BitVec 32 := 0#32
  let v65 : BitVec 1 := Scalar.cmpi .slt v58 c0_i32_49
  let v66 : BitVec 32 := Scalar.extui v65
  let v67 : BitVec 32 := Scalar.subi v64 v66
  let c128_i32 : BitVec 32 := 128#32
  let c0_i32_50 : BitVec 32 := 0#32
  let v68 : BitVec 1 := Scalar.cmpi .sgt c128_i32 c0_i32_50
  let v69 : BitVec 32 := Scalar.extui v68
  let c0_i32_51 : BitVec 32 := 0#32
  let v70 : BitVec 1 := Scalar.cmpi .slt c128_i32 c0_i32_51
  let v71 : BitVec 32 := Scalar.extui v70
  let v72 : BitVec 32 := Scalar.subi v69 v71
  let v73 : BitVec 1 := Scalar.cmpi .ne v67 v72
  let v74 : BitVec 32 := Scalar.remsi v58 c128_i32
  let c0_i32_52 : BitVec 32 := 0#32
  let v75 : BitVec 1 := Scalar.cmpi .ne v74 c0_i32_52
  let v76 : BitVec 1 := Scalar.andi v73 v75
  let v62 : BitVec 32 := Scalar.divsi v58 c128_i32
  let c1_i32_53 : BitVec 32 := 1#32
  let v77 : BitVec 32 := Scalar.subi v62 c1_i32_53
  let v78 : BitVec 32 := Scalar.select v76 v77 v62
  let c128_i32_54 : BitVec 32 := 128#32
  let v79 : BitVec 32 := Scalar.muli v78 c128_i32_54
  let v81 : BitVec 32 := Scalar.subi v61 v79
  let c256_i32 : BitVec 32 := 256#32
  let v82 : BitVec 32 := Scalar.addi v81 c256_i32
  let c1_i32_55 : BitVec 32 := 1#32
  let v83 : BitVec 32 := Scalar.subi v82 c1_i32_55
  let c0_i32_57 : BitVec 32 := 0#32
  let v85 : BitVec 1 := Scalar.cmpi .sgt v83 c0_i32_57
  let v86 : BitVec 32 := Scalar.extui v85
  let c0_i32_58 : BitVec 32 := 0#32
  let v87 : BitVec 1 := Scalar.cmpi .slt v83 c0_i32_58
  let v88 : BitVec 32 := Scalar.extui v87
  let v89 : BitVec 32 := Scalar.subi v86 v88
  let c256_i32_56 : BitVec 32 := 256#32
  let c0_i32_59 : BitVec 32 := 0#32
  let v90 : BitVec 1 := Scalar.cmpi .sgt c256_i32_56 c0_i32_59
  let v91 : BitVec 32 := Scalar.extui v90
  let c0_i32_60 : BitVec 32 := 0#32
  let v92 : BitVec 1 := Scalar.cmpi .slt c256_i32_56 c0_i32_60
  let v93 : BitVec 32 := Scalar.extui v92
  let v94 : BitVec 32 := Scalar.subi v91 v93
  let v95 : BitVec 1 := Scalar.cmpi .ne v89 v94
  let v96 : BitVec 32 := Scalar.remsi v83 c256_i32_56
  let c0_i32_61 : BitVec 32 := 0#32
  let v97 : BitVec 1 := Scalar.cmpi .ne v96 c0_i32_61
  let v98 : BitVec 1 := Scalar.andi v95 v97
  let v84 : BitVec 32 := Scalar.divsi v83 c256_i32_56
  let c1_i32_62 : BitVec 32 := 1#32
  let v99 : BitVec 32 := Scalar.subi v84 c1_i32_62
  let v100 : BitVec 32 := Scalar.select v98 v99 v84
  let c0_i32_63 : BitVec 32 := 0#32
  let v101 : BitVec 32 := Scalar.select v80 v100 c0_i32_63
  let v122 : BitVec 32 := Scalar.subi v101 c0_i32_77
  let c1_i32_79 : BitVec 32 := 1#32
  let v124 : BitVec 32 := Scalar.divsi v122 c1_i32_79
  let v125 : BitVec 32 := Scalar.muli v124 c1_i32_79
  let v126 : BitVec 32 := Scalar.addi c0_i32_77 v125
  let c1_i32_81 : BitVec 32 := 1#32
  let arg18 : BitVec 32 := Scf.iv v126 c1_i32_81 k0_t13
  let c0_i32_201 : BitVec 32 := 0#32
  let v535 : BitVec 1 := Scalar.cmpi .sgt arg18 c0_i32_201
  let v536 : BitVec 32 := Scalar.extui v535
  let c0_i32_202 : BitVec 32 := 0#32
  let v537 : BitVec 1 := Scalar.cmpi .ne v536 c0_i32_202
  v537

def k0_off137 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v129 : Index := Scalar.indexCast v111
  let c0_82 : Index := 0#32
  let c256 : Index := 256#32
  ![v129.toNat, 0, 256]
def k0_off138 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v133 : Index := Scalar.indexCast v111
  let c256_83 : Index := 256#32
  let c0_84 : Index := 0#32
  ![v133.toNat, 256, 0]
def k0_off139 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v137 : Index := Scalar.indexCast v111
  let c0_85 : Index := 0#32
  let c512 : Index := 512#32
  ![v137.toNat, 0, 512]
def k0_off140 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v141 : Index := Scalar.indexCast v111
  let c512_86 : Index := 512#32
  let c0_87 : Index := 0#32
  ![v141.toNat, 512, 0]
def k0_off141 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v145 : Index := Scalar.indexCast v111
  let c0_88 : Index := 0#32
  let c768 : Index := 768#32
  ![v145.toNat, 0, 768]
def k0_off142 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v149 : Index := Scalar.indexCast v111
  let c768_89 : Index := 768#32
  let c0_90 : Index := 0#32
  ![v149.toNat, 768, 0]
def k0_off143 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v153 : Index := Scalar.indexCast v111
  let c256_91 : Index := 256#32
  let c512_92 : Index := 512#32
  ![v153.toNat, 256, 512]
def k0_off144 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v157 : Index := Scalar.indexCast v111
  let c512_93 : Index := 512#32
  let c256_94 : Index := 256#32
  ![v157.toNat, 512, 256]
def k0_off145 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v161 : Index := Scalar.indexCast v111
  let c256_95 : Index := 256#32
  let c768_96 : Index := 768#32
  ![v161.toNat, 256, 768]
def k0_off146 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v165 : Index := Scalar.indexCast v111
  let c768_97 : Index := 768#32
  let c256_98 : Index := 256#32
  ![v165.toNat, 768, 256]
def k0_off147 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v169 : Index := Scalar.indexCast v111
  let c512_99 : Index := 512#32
  let c768_100 : Index := 768#32
  ![v169.toNat, 512, 768]
def k0_off148 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let v173 : Index := Scalar.indexCast v111
  let c768_101 : Index := 768#32
  let c512_102 : Index := 512#32
  ![v173.toNat, 768, 512]
def k0_off149 (arg16 : BitVec 32) : Fin 1 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  ![v111.toNat]
def k0_off150 (k0_t10 : Fin k0_t10_loop.trips) : Fin 3 → Nat :=
  let c0_i32_33 : BitVec 32 := 0#32
  let c1_i32_35 : BitVec 32 := 1#32
  let arg15 : BitVec 32 := Scf.iv c0_i32_33 c1_i32_35 k0_t10
  let c0_i32_103 : BitVec 32 := 0#32
  let c0_i32_104 : BitVec 32 := 0#32
  ![arg15.toNat, 0, 0]
def k0_off151 (arg16 : BitVec 32) : Fin 3 → Nat :=
  let c11_i32_64 : BitVec 32 := 11#32
  let c0_i32_65 : BitVec 32 := 0#32
  let v102 : BitVec 1 := Scalar.cmpi .eq c11_i32_64 c0_i32_65
  let c1_i32_66 : BitVec 32 := 1#32
  let v103 : BitVec 32 := Scalar.select v102 c1_i32_66 c11_i32_64
  let v104 : BitVec 32 := Scalar.remsi arg16 v103
  let c0_i32_68 : BitVec 32 := 0#32
  let v106 : BitVec 1 := Scalar.cmpi .slt v104 c0_i32_68
  let c0_i32_69 : BitVec 32 := 0#32
  let v107 : BitVec 1 := Scalar.cmpi .slt v103 c0_i32_69
  let v108 : BitVec 1 := Scalar.xori v106 v107
  let c0_i32_67 : BitVec 32 := 0#32
  let v105 : BitVec 1 := Scalar.cmpi .ne v104 c0_i32_67
  let v109 : BitVec 1 := Scalar.andi v108 v105
  let v110 : BitVec 32 := Scalar.addi v104 v103
  let v111 : BitVec 32 := Scalar.select v109 v110 v104
  let c0_i32_105 : BitVec 32 := 0#32
  let c0_i32_106 : BitVec 32 := 0#32
  ![v111.toNat, 0, 0]

def k0_chk30_0 (arg16 : BitVec 32) (arg17 : BitVec 32) (v58 : BitVec 32) (v61 : BitVec 32) : Prop :=
  (∀ (k0_h16 : k0_cond16 v58 v61 = 1#1), ∀ (k0_h17 : k0_cond17 arg16 = 1#1), ∀ a, (k0_off82 arg16) a + S1.size a ≤ S11.size a) ∧
  (∀ (k0_h16 : k0_cond16 v58 v61 = 1#1), ∀ (k0_h17 : k0_cond17 arg16 = 1#1), ∀ a, (k0_off84 arg16) a + S1x1024x1024.size a ≤ S11x1024x1024.size a) ∧
  (∀ (k0_h16 : k0_cond16 v58 v61 = 1#1), (k0_t11_loop v58 v61).OK) ∧
  (∀ k0_t11 : Fin (k0_t11_loop v58 v61).trips, ∀ (k0_h16 : k0_cond16 v58 v61 = 1#1), ∀ a, (k0_off96 arg17 v58 v61 k0_t11) a + S1.size a ≤ S8.size a) ∧
  (∀ k0_t11 : Fin (k0_t11_loop v58 v61).trips, ∀ (k0_h16 : k0_cond16 v58 v61 = 1#1), ∀ a, (k0_off97 arg17 v58 v61 k0_t11) a + S1x256x1024.size a ≤ S8x256x1024.size a) ∧
  (∀ k0_t11 : Fin (k0_t11_loop v58 v61).trips, ∀ (k0_h16 : k0_cond16 v58 v61 = 1#1), ∀ (hinb : ∀ a, (k0_off97 arg17 v58 v61 k0_t11) a + S1x256x1024.size a ≤ S8x256x1024.size a), (Rect.unit (s := S8x256x1024) (k0_off97 arg17 v58 v61 k0_t11) S1x256x1024.size hinb).WholeWords (EltTy.packing .fp8e4m3)) ∧
  (∀ k0_t11 : Fin (k0_t11_loop v58 v61).trips, ∀ (k0_h16 : k0_cond16 v58 v61 = 1#1), ∀ a, (k0_off98 arg17 v58 v61 k0_t11) a + S1x16x256.size a ≤ S8x16x256.size a) ∧
  (∀ k0_t11 : Fin (k0_t11_loop v58 v61).trips, ∀ (k0_h16 : k0_cond16 v58 v61 = 1#1), ∀ a, (k0_off101 arg17 v58 v61 k0_t11) a + S1x16x256.size a ≤ S8x16x256.size a) ∧
  (∀ k0_t11 : Fin (k0_t11_loop v58 v61).trips, ∀ (k0_h16 : k0_cond16 v58 v61 = 1#1), ∀ a, (k0_off102 arg17 v58 v61 k0_t11) a + S1x256x1024.size a ≤ S8x256x1024.size a) ∧
  (∀ k0_t11 : Fin (k0_t11_loop v58 v61).trips, ∀ (k0_h16 : k0_cond16 v58 v61 = 1#1), ∀ (k0_h20 : k0_cond20 v58 v61 k0_t11 = 1#1), ∀ a, (k0_off103 arg16) a + S1x256x256.size a ≤ S11x1024x1024.size a) ∧
  (∀ k0_t11 : Fin (k0_t11_loop v58 v61).trips, ∀ (k0_h16 : k0_cond16 v58 v61 = 1#1), ∀ (k0_h21 : k0_cond21 v58 v61 k0_t11 = 1#1), ∀ a, (k0_off104 arg16) a + S1x256x256.size a ≤ S11x1024x1024.size a) ∧
  (∀ k0_t11 : Fin (k0_t11_loop v58 v61).trips, ∀ (k0_h16 : k0_cond16 v58 v61 = 1#1), ∀ (k0_h22 : k0_cond22 v58 v61 k0_t11 = 1#1), ∀ a, (k0_off105 arg16) a + S1x512x256.size a ≤ S11x1024x1024.size a) ∧
  (∀ k0_t11 : Fin (k0_t11_loop v58 v61).trips, ∀ (k0_h16 : k0_cond16 v58 v61 = 1#1), ∀ (k0_h23 : k0_cond23 v58 v61 k0_t11 = 1#1), ∀ a, (k0_off106 arg16) a + S1x512x256.size a ≤ S11x1024x1024.size a) ∧
  (∀ k0_t11 : Fin (k0_t11_loop v58 v61).trips, ∀ (k0_h16 : k0_cond16 v58 v61 = 1#1), ∀ (k0_h24 : k0_cond24 v58 v61 k0_t11 = 1#1), ∀ a, (k0_off107 arg16) a + S1x768x256.size a ≤ S11x1024x1024.size a) ∧
  (∀ k0_t11 : Fin (k0_t11_loop v58 v61).trips, ∀ (k0_h16 : k0_cond16 v58 v61 = 1#1), ∀ (k0_h25 : k0_cond25 v58 v61 k0_t11 = 1#1), ∀ a, (k0_off108 arg16) a + S1x768x256.size a ≤ S11x1024x1024.size a) ∧
  (∀ k0_t11 : Fin (k0_t11_loop v58 v61).trips, ∀ (k0_h16 : k0_cond16 v58 v61 = 1#1), ∀ (k0_h26 : k0_cond26 v58 v61 k0_t11 = 1#1), ∀ a, (k0_off109 arg16) a + S1x1024x256.size a ≤ S11x1024x1024.size a) ∧
  (∀ k0_t11 : Fin (k0_t11_loop v58 v61).trips, ∀ (k0_h16 : k0_cond16 v58 v61 = 1#1), ∀ (k0_h27 : k0_cond27 v58 v61 k0_t11 = 1#1), ∀ a, (k0_off110 arg16) a + S1x1024x256.size a ≤ S11x1024x1024.size a) ∧
  (∀ (k0_h16 : k0_cond16 v58 v61 = 1#1), (k0_t13_loop v58 v61).OK) ∧
  (∀ k0_t13 : Fin (k0_t13_loop v58 v61).trips, ∀ (k0_h16 : k0_cond16 v58 v61 = 1#1), ∀ a, (k0_off122 arg17 v58 v61 k0_t13) a + S1.size a ≤ S8.size a) ∧
  (∀ k0_t13 : Fin (k0_t13_loop v58 v61).trips, ∀ (k0_h16 : k0_cond16 v58 v61 = 1#1), ∀ a, (k0_off123 arg17 v58 v61 k0_t13) a + S1x256x1024.size a ≤ S8x256x1024.size a) ∧
  (∀ k0_t13 : Fin (k0_t13_loop v58 v61).trips, ∀ (k0_h16 : k0_cond16 v58 v61 = 1#1), ∀ (hinb : ∀ a, (k0_off123 arg17 v58 v61 k0_t13) a + S1x256x1024.size a ≤ S8x256x1024.size a), (Rect.unit (s := S8x256x1024) (k0_off123 arg17 v58 v61 k0_t13) S1x256x1024.size hinb).WholeWords (EltTy.packing .fp8e4m3)) ∧
  (∀ k0_t13 : Fin (k0_t13_loop v58 v61).trips, ∀ (k0_h16 : k0_cond16 v58 v61 = 1#1), ∀ a, (k0_off124 arg17 v58 v61 k0_t13) a + S1x16x256.size a ≤ S8x16x256.size a) ∧
  (∀ k0_t13 : Fin (k0_t13_loop v58 v61).trips, ∀ (k0_h16 : k0_cond16 v58 v61 = 1#1), ∀ a, (k0_off127 arg17 v58 v61 k0_t13) a + S1x16x256.size a ≤ S8x16x256.size a) ∧
  (∀ k0_t13 : Fin (k0_t13_loop v58 v61).trips, ∀ (k0_h16 : k0_cond16 v58 v61 = 1#1), ∀ a, (k0_off128 arg17 v58 v61 k0_t13) a + S1x256x1024.size a ≤ S8x256x1024.size a) ∧
  (∀ k0_t13 : Fin (k0_t13_loop v58 v61).trips, ∀ (k0_h16 : k0_cond16 v58 v61 = 1#1), ∀ (k0_h30 : k0_cond30 v58 v61 k0_t13 = 1#1), ∀ a, (k0_off129 arg16) a + S1x256x256.size a ≤ S11x1024x1024.size a) ∧
  (∀ k0_t13 : Fin (k0_t13_loop v58 v61).trips, ∀ (k0_h16 : k0_cond16 v58 v61 = 1#1), ∀ (k0_h31 : k0_cond31 v58 v61 k0_t13 = 1#1), ∀ a, (k0_off130 arg16) a + S1x256x256.size a ≤ S11x1024x1024.size a) ∧
  (∀ k0_t13 : Fin (k0_t13_loop v58 v61).trips, ∀ (k0_h16 : k0_cond16 v58 v61 = 1#1), ∀ (k0_h32 : k0_cond32 v58 v61 k0_t13 = 1#1), ∀ a, (k0_off131 arg16) a + S1x512x256.size a ≤ S11x1024x1024.size a) ∧
  (∀ k0_t13 : Fin (k0_t13_loop v58 v61).trips, ∀ (k0_h16 : k0_cond16 v58 v61 = 1#1), ∀ (k0_h33 : k0_cond33 v58 v61 k0_t13 = 1#1), ∀ a, (k0_off132 arg16) a + S1x512x256.size a ≤ S11x1024x1024.size a) ∧
  (∀ k0_t13 : Fin (k0_t13_loop v58 v61).trips, ∀ (k0_h16 : k0_cond16 v58 v61 = 1#1), ∀ (k0_h34 : k0_cond34 v58 v61 k0_t13 = 1#1), ∀ a, (k0_off133 arg16) a + S1x768x256.size a ≤ S11x1024x1024.size a) ∧
  (∀ k0_t13 : Fin (k0_t13_loop v58 v61).trips, ∀ (k0_h16 : k0_cond16 v58 v61 = 1#1), ∀ (k0_h35 : k0_cond35 v58 v61 k0_t13 = 1#1), ∀ a, (k0_off134 arg16) a + S1x768x256.size a ≤ S11x1024x1024.size a) ∧
  (∀ k0_t13 : Fin (k0_t13_loop v58 v61).trips, ∀ (k0_h16 : k0_cond16 v58 v61 = 1#1), ∀ (k0_h36 : k0_cond36 v58 v61 k0_t13 = 1#1), ∀ a, (k0_off135 arg16) a + S1x1024x256.size a ≤ S11x1024x1024.size a) ∧
  (∀ k0_t13 : Fin (k0_t13_loop v58 v61).trips, ∀ (k0_h16 : k0_cond16 v58 v61 = 1#1), ∀ (k0_h37 : k0_cond37 v58 v61 k0_t13 = 1#1), ∀ a, (k0_off136 arg16) a + S1x1024x256.size a ≤ S11x1024x1024.size a)
def k0_chk30_1 (arg16 : BitVec 32) (arg17 : BitVec 32) (v58 : BitVec 32) (v61 : BitVec 32) : Prop :=
  (∀ (k0_h16 : k0_cond16 v58 v61 = 1#1), ∀ a, (k0_off137 arg16) a + S1x256x256.size a ≤ S11x1024x1024.size a) ∧
  (∀ (k0_h16 : k0_cond16 v58 v61 = 1#1), ∀ a, (k0_off138 arg16) a + S1x256x256.size a ≤ S11x1024x1024.size a) ∧
  (∀ (k0_h16 : k0_cond16 v58 v61 = 1#1), ∀ a, (k0_off139 arg16) a + S1x256x256.size a ≤ S11x1024x1024.size a) ∧
  (∀ (k0_h16 : k0_cond16 v58 v61 = 1#1), ∀ a, (k0_off140 arg16) a + S1x256x256.size a ≤ S11x1024x1024.size a) ∧
  (∀ (k0_h16 : k0_cond16 v58 v61 = 1#1), ∀ a, (k0_off141 arg16) a + S1x256x256.size a ≤ S11x1024x1024.size a) ∧
  (∀ (k0_h16 : k0_cond16 v58 v61 = 1#1), ∀ a, (k0_off142 arg16) a + S1x256x256.size a ≤ S11x1024x1024.size a) ∧
  (∀ (k0_h16 : k0_cond16 v58 v61 = 1#1), ∀ a, (k0_off143 arg16) a + S1x256x256.size a ≤ S11x1024x1024.size a) ∧
  (∀ (k0_h16 : k0_cond16 v58 v61 = 1#1), ∀ a, (k0_off144 arg16) a + S1x256x256.size a ≤ S11x1024x1024.size a) ∧
  (∀ (k0_h16 : k0_cond16 v58 v61 = 1#1), ∀ a, (k0_off145 arg16) a + S1x256x256.size a ≤ S11x1024x1024.size a) ∧
  (∀ (k0_h16 : k0_cond16 v58 v61 = 1#1), ∀ a, (k0_off146 arg16) a + S1x256x256.size a ≤ S11x1024x1024.size a) ∧
  (∀ (k0_h16 : k0_cond16 v58 v61 = 1#1), ∀ a, (k0_off147 arg16) a + S1x256x256.size a ≤ S11x1024x1024.size a) ∧
  (∀ (k0_h16 : k0_cond16 v58 v61 = 1#1), ∀ a, (k0_off148 arg16) a + S1x256x256.size a ≤ S11x1024x1024.size a) ∧
  (∀ (k0_h16 : k0_cond16 v58 v61 = 1#1), ∀ a, (k0_off149 arg16) a + S1.size a ≤ S11.size a) ∧
  (∀ (k0_h16 : k0_cond16 v58 v61 = 1#1), ∀ a, (k0_off151 arg16) a + S1x1024x1024.size a ≤ S11x1024x1024.size a)
def k0_chk30 (arg16 : BitVec 32) (arg17 : BitVec 32) (v58 : BitVec 32) (v61 : BitVec 32) : Prop :=
  k0_chk30_0 arg16 arg17 v58 v61 ∧
  k0_chk30_1 arg16 arg17 v58 v61
theorem k0_off82_inb : ∀ (arg16 : BitVec 32) (arg17 : BitVec 32) (v58 : BitVec 32) (v61 : BitVec 32) (k0_hw30 : k0_chk30 arg16 arg17 v58 v61), ∀ (k0_h16 : k0_cond16 v58 v61 = 1#1), ∀ (k0_h17 : k0_cond17 arg16 = 1#1), ∀ a, (k0_off82 arg16) a + S1.size a ≤ S11.size a := fun arg16 arg17 v58 v61 k0_hw30 k0_h16 k0_h17 => k0_hw30.1.1 k0_h16 k0_h17
theorem k0_off84_inb : ∀ (arg16 : BitVec 32) (arg17 : BitVec 32) (v58 : BitVec 32) (v61 : BitVec 32) (k0_hw30 : k0_chk30 arg16 arg17 v58 v61), ∀ (k0_h16 : k0_cond16 v58 v61 = 1#1), ∀ (k0_h17 : k0_cond17 arg16 = 1#1), ∀ a, (k0_off84 arg16) a + S1x1024x1024.size a ≤ S11x1024x1024.size a := fun arg16 arg17 v58 v61 k0_hw30 k0_h16 k0_h17 => k0_hw30.1.2.1 k0_h16 k0_h17
theorem k0_t11_ok : ∀ (arg16 : BitVec 32) (arg17 : BitVec 32) (v58 : BitVec 32) (v61 : BitVec 32) (k0_hw30 : k0_chk30 arg16 arg17 v58 v61), ∀ (k0_h16 : k0_cond16 v58 v61 = 1#1), (k0_t11_loop v58 v61).OK := fun arg16 arg17 v58 v61 k0_hw30 k0_h16 => k0_hw30.1.2.2.1 k0_h16
theorem k0_off96_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ a, (k0_off96 arg17 v58 v61 k0_t11) a + S1.size a ≤ S8.size a := fun arg16 arg17 v58 v61 k0_hw30 k0_t11 k0_h16 => k0_hw30.1.2.2.2.1 k0_t11 k0_h16
theorem k0_off97_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ a, (k0_off97 arg17 v58 v61 k0_t11) a + S1x256x1024.size a ≤ S8x256x1024.size a := fun arg16 arg17 v58 v61 k0_hw30 k0_t11 k0_h16 => k0_hw30.1.2.2.2.2.1 k0_t11 k0_h16
theorem k0_off97_wordsfp8e4m3 : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), (Rect.unit (s := S8x256x1024) (k0_off97 arg17 v58 v61 k0_t11) S1x256x1024.size (k0_off97_inb arg16 arg17 v58 v61 k0_hw30 k0_t11 k0_h16)).WholeWords (EltTy.packing .fp8e4m3) := fun arg16 arg17 v58 v61 k0_hw30 k0_t11 k0_h16 => k0_hw30.1.2.2.2.2.2.1 k0_t11 k0_h16 (k0_off97_inb arg16 arg17 v58 v61 k0_hw30 k0_t11 k0_h16)
theorem k0_off98_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ a, (k0_off98 arg17 v58 v61 k0_t11) a + S1x16x256.size a ≤ S8x16x256.size a := fun arg16 arg17 v58 v61 k0_hw30 k0_t11 k0_h16 => k0_hw30.1.2.2.2.2.2.2.1 k0_t11 k0_h16
theorem k0_off101_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ a, (k0_off101 arg17 v58 v61 k0_t11) a + S1x16x256.size a ≤ S8x16x256.size a := fun arg16 arg17 v58 v61 k0_hw30 k0_t11 k0_h16 => k0_hw30.1.2.2.2.2.2.2.2.1 k0_t11 k0_h16
theorem k0_off102_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ a, (k0_off102 arg17 v58 v61 k0_t11) a + S1x256x1024.size a ≤ S8x256x1024.size a := fun arg16 arg17 v58 v61 k0_hw30 k0_t11 k0_h16 => k0_hw30.1.2.2.2.2.2.2.2.2.1 k0_t11 k0_h16
theorem k0_off103_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ (k0_h20 : k0_cond20 v58 v61 k0_t11 = 1#1), ∀ a, (k0_off103 arg16) a + S1x256x256.size a ≤ S11x1024x1024.size a := fun arg16 arg17 v58 v61 k0_hw30 k0_t11 k0_h16 k0_h20 => k0_hw30.1.2.2.2.2.2.2.2.2.2.1 k0_t11 k0_h16 k0_h20
theorem k0_off104_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ (k0_h21 : k0_cond21 v58 v61 k0_t11 = 1#1), ∀ a, (k0_off104 arg16) a + S1x256x256.size a ≤ S11x1024x1024.size a := fun arg16 arg17 v58 v61 k0_hw30 k0_t11 k0_h16 k0_h21 => k0_hw30.1.2.2.2.2.2.2.2.2.2.2.1 k0_t11 k0_h16 k0_h21
theorem k0_off105_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ (k0_h22 : k0_cond22 v58 v61 k0_t11 = 1#1), ∀ a, (k0_off105 arg16) a + S1x512x256.size a ≤ S11x1024x1024.size a := fun arg16 arg17 v58 v61 k0_hw30 k0_t11 k0_h16 k0_h22 => k0_hw30.1.2.2.2.2.2.2.2.2.2.2.2.1 k0_t11 k0_h16 k0_h22
theorem k0_off106_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ (k0_h23 : k0_cond23 v58 v61 k0_t11 = 1#1), ∀ a, (k0_off106 arg16) a + S1x512x256.size a ≤ S11x1024x1024.size a := fun arg16 arg17 v58 v61 k0_hw30 k0_t11 k0_h16 k0_h23 => k0_hw30.1.2.2.2.2.2.2.2.2.2.2.2.2.1 k0_t11 k0_h16 k0_h23
theorem k0_off107_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ (k0_h24 : k0_cond24 v58 v61 k0_t11 = 1#1), ∀ a, (k0_off107 arg16) a + S1x768x256.size a ≤ S11x1024x1024.size a := fun arg16 arg17 v58 v61 k0_hw30 k0_t11 k0_h16 k0_h24 => k0_hw30.1.2.2.2.2.2.2.2.2.2.2.2.2.2.1 k0_t11 k0_h16 k0_h24
theorem k0_off108_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ (k0_h25 : k0_cond25 v58 v61 k0_t11 = 1#1), ∀ a, (k0_off108 arg16) a + S1x768x256.size a ≤ S11x1024x1024.size a := fun arg16 arg17 v58 v61 k0_hw30 k0_t11 k0_h16 k0_h25 => k0_hw30.1.2.2.2.2.2.2.2.2.2.2.2.2.2.2.1 k0_t11 k0_h16 k0_h25
theorem k0_off109_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ (k0_h26 : k0_cond26 v58 v61 k0_t11 = 1#1), ∀ a, (k0_off109 arg16) a + S1x1024x256.size a ≤ S11x1024x1024.size a := fun arg16 arg17 v58 v61 k0_hw30 k0_t11 k0_h16 k0_h26 => k0_hw30.1.2.2.2.2.2.2.2.2.2.2.2.2.2.2.2.1 k0_t11 k0_h16 k0_h26
theorem k0_off110_inb : ∀ (arg16 : BitVec 32) (arg17 : BitVec 32) (v58 : BitVec 32) (v61 : BitVec 32) (k0_hw30 : k0_chk30 arg16 arg17 v58 v61) (k0_t11 : Fin (k0_t11_loop v58 v61).trips), ∀ (k0_h16 : k0_cond16 v58 v61 = 1#1), ∀ (k0_h27 : k0_cond27 v58 v61 k0_t11 = 1#1), ∀ a, (k0_off110 arg16) a + S1x1024x256.size a ≤ S11x1024x1024.size a := fun arg16 arg17 v58 v61 k0_hw30 k0_t11 k0_h16 k0_h27 => k0_hw30.1.2.2.2.2.2.2.2.2.2.2.2.2.2.2.2.2.1 k0_t11 k0_h16 k0_h27
theorem k0_t13_ok : ∀ (arg16 : BitVec 32) (arg17 : BitVec 32) (v58 : BitVec 32) (v61 : BitVec 32) (k0_hw30 : k0_chk30 arg16 arg17 v58 v61), ∀ (k0_h16 : k0_cond16 v58 v61 = 1#1), (k0_t13_loop v58 v61).OK := fun arg16 arg17 v58 v61 k0_hw30 k0_h16 => k0_hw30.1.2.2.2.2.2.2.2.2.2.2.2.2.2.2.2.2.2.1 k0_h16
theorem k0_off122_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ a, (k0_off122 arg17 v58 v61 k0_t13) a + S1.size a ≤ S8.size a := fun arg16 arg17 v58 v61 k0_hw30 k0_t13 k0_h16 => k0_hw30.1.2.2.2.2.2.2.2.2.2.2.2.2.2.2.2.2.2.2.1 k0_t13 k0_h16
theorem k0_off123_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ a, (k0_off123 arg17 v58 v61 k0_t13) a + S1x256x1024.size a ≤ S8x256x1024.size a := fun arg16 arg17 v58 v61 k0_hw30 k0_t13 k0_h16 => k0_hw30.1.2.2.2.2.2.2.2.2.2.2.2.2.2.2.2.2.2.2.2.1 k0_t13 k0_h16
theorem k0_off123_wordsfp8e4m3 : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), (Rect.unit (s := S8x256x1024) (k0_off123 arg17 v58 v61 k0_t13) S1x256x1024.size (k0_off123_inb arg16 arg17 v58 v61 k0_hw30 k0_t13 k0_h16)).WholeWords (EltTy.packing .fp8e4m3) := fun arg16 arg17 v58 v61 k0_hw30 k0_t13 k0_h16 => k0_hw30.1.2.2.2.2.2.2.2.2.2.2.2.2.2.2.2.2.2.2.2.2.1 k0_t13 k0_h16 (k0_off123_inb arg16 arg17 v58 v61 k0_hw30 k0_t13 k0_h16)
theorem k0_off124_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ a, (k0_off124 arg17 v58 v61 k0_t13) a + S1x16x256.size a ≤ S8x16x256.size a := fun arg16 arg17 v58 v61 k0_hw30 k0_t13 k0_h16 => k0_hw30.1.2.2.2.2.2.2.2.2.2.2.2.2.2.2.2.2.2.2.2.2.2.1 k0_t13 k0_h16
theorem k0_off127_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ a, (k0_off127 arg17 v58 v61 k0_t13) a + S1x16x256.size a ≤ S8x16x256.size a := fun arg16 arg17 v58 v61 k0_hw30 k0_t13 k0_h16 => k0_hw30.1.2.2.2.2.2.2.2.2.2.2.2.2.2.2.2.2.2.2.2.2.2.2.1 k0_t13 k0_h16
theorem k0_off128_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ a, (k0_off128 arg17 v58 v61 k0_t13) a + S1x256x1024.size a ≤ S8x256x1024.size a := fun arg16 arg17 v58 v61 k0_hw30 k0_t13 k0_h16 => k0_hw30.1.2.2.2.2.2.2.2.2.2.2.2.2.2.2.2.2.2.2.2.2.2.2.2.1 k0_t13 k0_h16
theorem k0_off129_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ (k0_h30 : k0_cond30 v58 v61 k0_t13 = 1#1), ∀ a, (k0_off129 arg16) a + S1x256x256.size a ≤ S11x1024x1024.size a := fun arg16 arg17 v58 v61 k0_hw30 k0_t13 k0_h16 k0_h30 => k0_hw30.1.2.2.2.2.2.2.2.2.2.2.2.2.2.2.2.2.2.2.2.2.2.2.2.2.1 k0_t13 k0_h16 k0_h30
theorem k0_off130_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ (k0_h31 : k0_cond31 v58 v61 k0_t13 = 1#1), ∀ a, (k0_off130 arg16) a + S1x256x256.size a ≤ S11x1024x1024.size a := fun arg16 arg17 v58 v61 k0_hw30 k0_t13 k0_h16 k0_h31 => k0_hw30.1.2.2.2.2.2.2.2.2.2.2.2.2.2.2.2.2.2.2.2.2.2.2.2.2.2.1 k0_t13 k0_h16 k0_h31
theorem k0_off131_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ (k0_h32 : k0_cond32 v58 v61 k0_t13 = 1#1), ∀ a, (k0_off131 arg16) a + S1x512x256.size a ≤ S11x1024x1024.size a := fun arg16 arg17 v58 v61 k0_hw30 k0_t13 k0_h16 k0_h32 => k0_hw30.1.2.2.2.2.2.2.2.2.2.2.2.2.2.2.2.2.2.2.2.2.2.2.2.2.2.2.1 k0_t13 k0_h16 k0_h32
theorem k0_off132_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ (k0_h33 : k0_cond33 v58 v61 k0_t13 = 1#1), ∀ a, (k0_off132 arg16) a + S1x512x256.size a ≤ S11x1024x1024.size a := fun arg16 arg17 v58 v61 k0_hw30 k0_t13 k0_h16 k0_h33 => k0_hw30.1.2.2.2.2.2.2.2.2.2.2.2.2.2.2.2.2.2.2.2.2.2.2.2.2.2.2.2.1 k0_t13 k0_h16 k0_h33
theorem k0_off133_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ (k0_h34 : k0_cond34 v58 v61 k0_t13 = 1#1), ∀ a, (k0_off133 arg16) a + S1x768x256.size a ≤ S11x1024x1024.size a := fun arg16 arg17 v58 v61 k0_hw30 k0_t13 k0_h16 k0_h34 => k0_hw30.1.2.2.2.2.2.2.2.2.2.2.2.2.2.2.2.2.2.2.2.2.2.2.2.2.2.2.2.2.1 k0_t13 k0_h16 k0_h34
theorem k0_off134_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ (k0_h35 : k0_cond35 v58 v61 k0_t13 = 1#1), ∀ a, (k0_off134 arg16) a + S1x768x256.size a ≤ S11x1024x1024.size a := fun arg16 arg17 v58 v61 k0_hw30 k0_t13 k0_h16 k0_h35 => k0_hw30.1.2.2.2.2.2.2.2.2.2.2.2.2.2.2.2.2.2.2.2.2.2.2.2.2.2.2.2.2.2.1 k0_t13 k0_h16 k0_h35
theorem k0_off135_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ (k0_h36 : k0_cond36 v58 v61 k0_t13 = 1#1), ∀ a, (k0_off135 arg16) a + S1x1024x256.size a ≤ S11x1024x1024.size a := fun arg16 arg17 v58 v61 k0_hw30 k0_t13 k0_h16 k0_h36 => k0_hw30.1.2.2.2.2.2.2.2.2.2.2.2.2.2.2.2.2.2.2.2.2.2.2.2.2.2.2.2.2.2.2.1 k0_t13 k0_h16 k0_h36
theorem k0_off136_inb : ∀ (arg16 : BitVec 32) (arg17 : BitVec 32) (v58 : BitVec 32) (v61 : BitVec 32) (k0_hw30 : k0_chk30 arg16 arg17 v58 v61) (k0_t13 : Fin (k0_t13_loop v58 v61).trips), ∀ (k0_h16 : k0_cond16 v58 v61 = 1#1), ∀ (k0_h37 : k0_cond37 v58 v61 k0_t13 = 1#1), ∀ a, (k0_off136 arg16) a + S1x1024x256.size a ≤ S11x1024x1024.size a := fun arg16 arg17 v58 v61 k0_hw30 k0_t13 k0_h16 k0_h37 => k0_hw30.1.2.2.2.2.2.2.2.2.2.2.2.2.2.2.2.2.2.2.2.2.2.2.2.2.2.2.2.2.2.2.2 k0_t13 k0_h16 k0_h37
theorem k0_off137_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off137 arg16) a + S1x256x256.size a ≤ S11x1024x1024.size a := fun arg16 arg17 v58 v61 k0_hw30 k0_h16 => k0_hw30.2.1 k0_h16
theorem k0_off138_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off138 arg16) a + S1x256x256.size a ≤ S11x1024x1024.size a := fun arg16 arg17 v58 v61 k0_hw30 k0_h16 => k0_hw30.2.2.1 k0_h16
theorem k0_off139_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off139 arg16) a + S1x256x256.size a ≤ S11x1024x1024.size a := fun arg16 arg17 v58 v61 k0_hw30 k0_h16 => k0_hw30.2.2.2.1 k0_h16
theorem k0_off140_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off140 arg16) a + S1x256x256.size a ≤ S11x1024x1024.size a := fun arg16 arg17 v58 v61 k0_hw30 k0_h16 => k0_hw30.2.2.2.2.1 k0_h16
theorem k0_off141_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off141 arg16) a + S1x256x256.size a ≤ S11x1024x1024.size a := fun arg16 arg17 v58 v61 k0_hw30 k0_h16 => k0_hw30.2.2.2.2.2.1 k0_h16
theorem k0_off142_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off142 arg16) a + S1x256x256.size a ≤ S11x1024x1024.size a := fun arg16 arg17 v58 v61 k0_hw30 k0_h16 => k0_hw30.2.2.2.2.2.2.1 k0_h16
theorem k0_off143_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off143 arg16) a + S1x256x256.size a ≤ S11x1024x1024.size a := fun arg16 arg17 v58 v61 k0_hw30 k0_h16 => k0_hw30.2.2.2.2.2.2.2.1 k0_h16
theorem k0_off144_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off144 arg16) a + S1x256x256.size a ≤ S11x1024x1024.size a := fun arg16 arg17 v58 v61 k0_hw30 k0_h16 => k0_hw30.2.2.2.2.2.2.2.2.1 k0_h16
theorem k0_off145_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off145 arg16) a + S1x256x256.size a ≤ S11x1024x1024.size a := fun arg16 arg17 v58 v61 k0_hw30 k0_h16 => k0_hw30.2.2.2.2.2.2.2.2.2.1 k0_h16
theorem k0_off146_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off146 arg16) a + S1x256x256.size a ≤ S11x1024x1024.size a := fun arg16 arg17 v58 v61 k0_hw30 k0_h16 => k0_hw30.2.2.2.2.2.2.2.2.2.2.1 k0_h16
theorem k0_off147_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off147 arg16) a + S1x256x256.size a ≤ S11x1024x1024.size a := fun arg16 arg17 v58 v61 k0_hw30 k0_h16 => k0_hw30.2.2.2.2.2.2.2.2.2.2.2.1 k0_h16
theorem k0_off148_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off148 arg16) a + S1x256x256.size a ≤ S11x1024x1024.size a := fun arg16 arg17 v58 v61 k0_hw30 k0_h16 => k0_hw30.2.2.2.2.2.2.2.2.2.2.2.2.1 k0_h16
theorem k0_off149_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off149 arg16) a + S1.size a ≤ S11.size a := fun arg16 arg17 v58 v61 k0_hw30 k0_h16 => k0_hw30.2.2.2.2.2.2.2.2.2.2.2.2.2.1 k0_h16
theorem k0_off151_inb : ∀ (arg16 : BitVec 32) (arg17 : BitVec 32) (v58 : BitVec 32) (v61 : BitVec 32) (k0_hw30 : k0_chk30 arg16 arg17 v58 v61), ∀ (k0_h16 : k0_cond16 v58 v61 = 1#1), ∀ a, (k0_off151 arg16) a + S1x1024x1024.size a ≤ S11x1024x1024.size a := fun arg16 arg17 v58 v61 k0_hw30 k0_h16 => k0_hw30.2.2.2.2.2.2.2.2.2.2.2.2.2.2 k0_h16

@[reducible] def k0_t15_loop (v40_0 : BitVec 32) : Scf.Loop 32 :=
  let c0_i32_37 : BitVec 32 := 0#32
  let c11_i32 : BitVec 32 := 11#32
  let v41 : BitVec 32 := Scalar.minsi v40_0 c11_i32
  let v42 : BitVec 32 := Scalar.subi v41 c0_i32_37
  let c1_i32_39 : BitVec 32 := 1#32
  let v44 : BitVec 32 := Scalar.divsi v42 c1_i32_39
  let v45 : BitVec 32 := Scalar.muli v44 c1_i32_39
  let v46 : BitVec 32 := Scalar.addi c0_i32_37 v45
  let c1_i32_40 : BitVec 32 := 1#32
  ⟨c0_i32_37, v46, c1_i32_40⟩

def k0_off152 (v40_0 : BitVec 32) (k0_t15 : Fin (k0_t15_loop v40_0).trips) : Fin 1 → Nat :=
  let c1_i32_47 : BitVec 32 := 1#32
  let v57 : BitVec 32 := Scalar.subi v40_0 c1_i32_47
  let c0_i32_37 : BitVec 32 := 0#32
  let c1_i32_40 : BitVec 32 := 1#32
  let arg15 : BitVec 32 := Scf.iv c0_i32_37 c1_i32_40 k0_t15
  let v58 : BitVec 32 := Scalar.subi v57 arg15
  let c11_i32_48 : BitVec 32 := 11#32
  let c0_i32_49 : BitVec 32 := 0#32
  let v59 : BitVec 1 := Scalar.cmpi .eq c11_i32_48 c0_i32_49
  let c1_i32_50 : BitVec 32 := 1#32
  let v60 : BitVec 32 := Scalar.select v59 c1_i32_50 c11_i32_48
  let v61 : BitVec 32 := Scalar.remsi v58 v60
  let c0_i32_52 : BitVec 32 := 0#32
  let v63 : BitVec 1 := Scalar.cmpi .slt v61 c0_i32_52
  let c0_i32_53 : BitVec 32 := 0#32
  let v64 : BitVec 1 := Scalar.cmpi .slt v60 c0_i32_53
  let v65 : BitVec 1 := Scalar.xori v63 v64
  let c0_i32_51 : BitVec 32 := 0#32
  let v62 : BitVec 1 := Scalar.cmpi .ne v61 c0_i32_51
  let v66 : BitVec 1 := Scalar.andi v65 v62
  let v67 : BitVec 32 := Scalar.addi v61 v60
  let v68 : BitVec 32 := Scalar.select v66 v67 v61
  ![v68.toNat]
def k0_off153 (v40_0 : BitVec 32) (k0_t15 : Fin (k0_t15_loop v40_0).trips) : Fin 3 → Nat :=
  let c1_i32_47 : BitVec 32 := 1#32
  let v57 : BitVec 32 := Scalar.subi v40_0 c1_i32_47
  let c0_i32_37 : BitVec 32 := 0#32
  let c1_i32_40 : BitVec 32 := 1#32
  let arg15 : BitVec 32 := Scf.iv c0_i32_37 c1_i32_40 k0_t15
  let v58 : BitVec 32 := Scalar.subi v57 arg15
  let c11_i32_48 : BitVec 32 := 11#32
  let c0_i32_49 : BitVec 32 := 0#32
  let v59 : BitVec 1 := Scalar.cmpi .eq c11_i32_48 c0_i32_49
  let c1_i32_50 : BitVec 32 := 1#32
  let v60 : BitVec 32 := Scalar.select v59 c1_i32_50 c11_i32_48
  let v61 : BitVec 32 := Scalar.remsi v58 v60
  let c0_i32_52 : BitVec 32 := 0#32
  let v63 : BitVec 1 := Scalar.cmpi .slt v61 c0_i32_52
  let c0_i32_53 : BitVec 32 := 0#32
  let v64 : BitVec 1 := Scalar.cmpi .slt v60 c0_i32_53
  let v65 : BitVec 1 := Scalar.xori v63 v64
  let c0_i32_51 : BitVec 32 := 0#32
  let v62 : BitVec 1 := Scalar.cmpi .ne v61 c0_i32_51
  let v66 : BitVec 1 := Scalar.andi v65 v62
  let v67 : BitVec 32 := Scalar.addi v61 v60
  let v68 : BitVec 32 := Scalar.select v66 v67 v61
  let c0_i32_57 : BitVec 32 := 0#32
  let c0_i32_58 : BitVec 32 := 0#32
  ![v68.toNat, 0, 0]
@[reducible] def k0_t16_loop (v40_0 : BitVec 32) : Scf.Loop 32 :=
  let c0_i32_37 : BitVec 32 := 0#32
  let c11_i32 : BitVec 32 := 11#32
  let v41 : BitVec 32 := Scalar.minsi v40_0 c11_i32
  let v42 : BitVec 32 := Scalar.subi v41 c0_i32_37
  let c1_i32_39 : BitVec 32 := 1#32
  let v44 : BitVec 32 := Scalar.divsi v42 c1_i32_39
  let v45 : BitVec 32 := Scalar.muli v44 c1_i32_39
  let v46 : BitVec 32 := Scalar.addi c0_i32_37 v45
  let v43 : BitVec 32 := Scalar.addi c0_i32_37 v42
  let c1_i32_41 : BitVec 32 := 1#32
  ⟨v46, v43, c1_i32_41⟩
def k0_off154 (v40_0 : BitVec 32) (k0_t16 : Fin (k0_t16_loop v40_0).trips) : Fin 1 → Nat :=
  let c1_i32_47 : BitVec 32 := 1#32
  let v57 : BitVec 32 := Scalar.subi v40_0 c1_i32_47
  let c0_i32_37 : BitVec 32 := 0#32
  let c11_i32 : BitVec 32 := 11#32
  let v41 : BitVec 32 := Scalar.minsi v40_0 c11_i32
  let v42 : BitVec 32 := Scalar.subi v41 c0_i32_37
  let c1_i32_39 : BitVec 32 := 1#32
  let v44 : BitVec 32 := Scalar.divsi v42 c1_i32_39
  let v45 : BitVec 32 := Scalar.muli v44 c1_i32_39
  let v46 : BitVec 32 := Scalar.addi c0_i32_37 v45
  let c1_i32_41 : BitVec 32 := 1#32
  let arg15 : BitVec 32 := Scf.iv v46 c1_i32_41 k0_t16
  let v58 : BitVec 32 := Scalar.subi v57 arg15
  let c11_i32_48 : BitVec 32 := 11#32
  let c0_i32_49 : BitVec 32 := 0#32
  let v59 : BitVec 1 := Scalar.cmpi .eq c11_i32_48 c0_i32_49
  let c1_i32_50 : BitVec 32 := 1#32
  let v60 : BitVec 32 := Scalar.select v59 c1_i32_50 c11_i32_48
  let v61 : BitVec 32 := Scalar.remsi v58 v60
  let c0_i32_52 : BitVec 32 := 0#32
  let v63 : BitVec 1 := Scalar.cmpi .slt v61 c0_i32_52
  let c0_i32_53 : BitVec 32 := 0#32
  let v64 : BitVec 1 := Scalar.cmpi .slt v60 c0_i32_53
  let v65 : BitVec 1 := Scalar.xori v63 v64
  let c0_i32_51 : BitVec 32 := 0#32
  let v62 : BitVec 1 := Scalar.cmpi .ne v61 c0_i32_51
  let v66 : BitVec 1 := Scalar.andi v65 v62
  let v67 : BitVec 32 := Scalar.addi v61 v60
  let v68 : BitVec 32 := Scalar.select v66 v67 v61
  ![v68.toNat]
def k0_off155 (v40_0 : BitVec 32) (k0_t16 : Fin (k0_t16_loop v40_0).trips) : Fin 3 → Nat :=
  let c1_i32_47 : BitVec 32 := 1#32
  let v57 : BitVec 32 := Scalar.subi v40_0 c1_i32_47
  let c0_i32_37 : BitVec 32 := 0#32
  let c11_i32 : BitVec 32 := 11#32
  let v41 : BitVec 32 := Scalar.minsi v40_0 c11_i32
  let v42 : BitVec 32 := Scalar.subi v41 c0_i32_37
  let c1_i32_39 : BitVec 32 := 1#32
  let v44 : BitVec 32 := Scalar.divsi v42 c1_i32_39
  let v45 : BitVec 32 := Scalar.muli v44 c1_i32_39
  let v46 : BitVec 32 := Scalar.addi c0_i32_37 v45
  let c1_i32_41 : BitVec 32 := 1#32
  let arg15 : BitVec 32 := Scf.iv v46 c1_i32_41 k0_t16
  let v58 : BitVec 32 := Scalar.subi v57 arg15
  let c11_i32_48 : BitVec 32 := 11#32
  let c0_i32_49 : BitVec 32 := 0#32
  let v59 : BitVec 1 := Scalar.cmpi .eq c11_i32_48 c0_i32_49
  let c1_i32_50 : BitVec 32 := 1#32
  let v60 : BitVec 32 := Scalar.select v59 c1_i32_50 c11_i32_48
  let v61 : BitVec 32 := Scalar.remsi v58 v60
  let c0_i32_52 : BitVec 32 := 0#32
  let v63 : BitVec 1 := Scalar.cmpi .slt v61 c0_i32_52
  let c0_i32_53 : BitVec 32 := 0#32
  let v64 : BitVec 1 := Scalar.cmpi .slt v60 c0_i32_53
  let v65 : BitVec 1 := Scalar.xori v63 v64
  let c0_i32_51 : BitVec 32 := 0#32
  let v62 : BitVec 1 := Scalar.cmpi .ne v61 c0_i32_51
  let v66 : BitVec 1 := Scalar.andi v65 v62
  let v67 : BitVec 32 := Scalar.addi v61 v60
  let v68 : BitVec 32 := Scalar.select v66 v67 v61
  let c0_i32_57 : BitVec 32 := 0#32
  let c0_i32_58 : BitVec 32 := 0#32
  ![v68.toNat, 0, 0]

def k0_chk39 (v40_0 : BitVec 32) : Prop :=
  ((k0_t15_loop v40_0).OK) ∧
  (∀ k0_t15 : Fin (k0_t15_loop v40_0).trips, ∀ a, (k0_off152 v40_0 k0_t15) a + S1.size a ≤ S11.size a) ∧
  (∀ k0_t15 : Fin (k0_t15_loop v40_0).trips, ∀ a, (k0_off153 v40_0 k0_t15) a + S1x1024x1024.size a ≤ S11x1024x1024.size a) ∧
  ((k0_t16_loop v40_0).OK) ∧
  (∀ k0_t16 : Fin (k0_t16_loop v40_0).trips, ∀ a, (k0_off154 v40_0 k0_t16) a + S1.size a ≤ S11.size a) ∧
  (∀ k0_t16 : Fin (k0_t16_loop v40_0).trips, ∀ a, (k0_off155 v40_0 k0_t16) a + S1x1024x1024.size a ≤ S11x1024x1024.size a)
theorem k0_t15_ok : ∀ (v40_0 : BitVec 32) (k0_hw39 : k0_chk39 v40_0), (k0_t15_loop v40_0).OK := fun v40_0 k0_hw39 => k0_hw39.1
theorem k0_off152_inb : ∀ (v40_0 : BitVec 32) (k0_hw39 : k0_chk39 v40_0) (k0_t15 : Fin (k0_t15_loop v40_0).trips), ∀ a, (k0_off152 v40_0 k0_t15) a + S1.size a ≤ S11.size a := fun v40_0 k0_hw39 k0_t15 => k0_hw39.2.1 k0_t15
theorem k0_off153_inb : ∀ (v40_0 : BitVec 32) (k0_hw39 : k0_chk39 v40_0) (k0_t15 : Fin (k0_t15_loop v40_0).trips), ∀ a, (k0_off153 v40_0 k0_t15) a + S1x1024x1024.size a ≤ S11x1024x1024.size a := fun v40_0 k0_hw39 k0_t15 => k0_hw39.2.2.1 k0_t15
theorem k0_t16_ok : ∀ (v40_0 : BitVec 32) (k0_hw39 : k0_chk39 v40_0), (k0_t16_loop v40_0).OK := fun v40_0 k0_hw39 => k0_hw39.2.2.2.1
theorem k0_off154_inb : ∀ (v40_0 : BitVec 32) (k0_hw39 : k0_chk39 v40_0) (k0_t16 : Fin (k0_t16_loop v40_0).trips), ∀ a, (k0_off154 v40_0 k0_t16) a + S1.size a ≤ S11.size a := fun v40_0 k0_hw39 k0_t16 => k0_hw39.2.2.2.2.1 k0_t16
theorem k0_off155_inb : ∀ (v40_0 : BitVec 32) (k0_hw39 : k0_chk39 v40_0) (k0_t16 : Fin (k0_t16_loop v40_0).trips), ∀ a, (k0_off155 v40_0 k0_t16) a + S1x1024x1024.size a ≤ S11x1024x1024.size a := fun v40_0 k0_hw39 k0_t16 => k0_hw39.2.2.2.2.2 k0_t16

@[reducible] def k0_t17_loop (v38 : BitVec 32) : Scf.Loop 32 :=
  let c0_i32_42 : BitVec 32 := 0#32
  let c4_i32 : BitVec 32 := 4#32
  let v49 : BitVec 32 := Scalar.muli v38 c4_i32
  let v50 : BitVec 32 := Scalar.subi v49 c0_i32_42
  let c1_i32_44 : BitVec 32 := 1#32
  let v52 : BitVec 32 := Scalar.divsi v50 c1_i32_44
  let v53 : BitVec 32 := Scalar.muli v52 c1_i32_44
  let v54 : BitVec 32 := Scalar.addi c0_i32_42 v53
  let c1_i32_45 : BitVec 32 := 1#32
  ⟨c0_i32_42, v54, c1_i32_45⟩

@[reducible] def k0_t18_loop (v38 : BitVec 32) : Scf.Loop 32 :=
  let c0_i32_42 : BitVec 32 := 0#32
  let c4_i32 : BitVec 32 := 4#32
  let v49 : BitVec 32 := Scalar.muli v38 c4_i32
  let v50 : BitVec 32 := Scalar.subi v49 c0_i32_42
  let c1_i32_44 : BitVec 32 := 1#32
  let v52 : BitVec 32 := Scalar.divsi v50 c1_i32_44
  let v53 : BitVec 32 := Scalar.muli v52 c1_i32_44
  let v54 : BitVec 32 := Scalar.addi c0_i32_42 v53
  let v51 : BitVec 32 := Scalar.addi c0_i32_42 v50
  let c1_i32_46 : BitVec 32 := 1#32
  ⟨v54, v51, c1_i32_46⟩

def k0_chk40 (v38 : BitVec 32) : Prop :=
  ((k0_t17_loop v38).OK) ∧
  ((k0_t18_loop v38).OK)
theorem k0_t17_ok : ∀ (v38 : BitVec 32) (k0_hw40 : k0_chk40 v38), (k0_t17_loop v38).OK := fun v38 k0_hw40 => k0_hw40.1
theorem k0_t18_ok : ∀ (v38 : BitVec 32) (k0_hw40 : k0_chk40 v38), (k0_t18_loop v38).OK := fun v38 k0_hw40 => k0_hw40.2

abbrev stage0_0 : Fin 1 → Memref sig .tc .smem S65 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S32768x16 : Shape := ⟨2, ![32768, 16]⟩
abbrev S65 : Shape := ⟨1, ![65]⟩
abbrev S32768x16x64 : Shape := ⟨3, ![32768, 16, 64]⟩
abbrev S32768x16x1 : Shape := ⟨3, ![32768, 16, 1]⟩
abbrev S32768 : Shape := ⟨1, ![32768]⟩
abbrev S1x32768 : Shape := ⟨2, ![1, 32768]⟩
abbrev S64 : Shape := ⟨1, ![64]⟩
abbrev S64x1 : Shape := ⟨2, ![64, 1]⟩
abbrev S64x32768 : Shape := ⟨2, ![64, 32768]⟩
abbrev S64x32768x1 : Shape := ⟨3, ![64, 32768, 1]⟩
abbrev S1x32768x1024 : Shape := ⟨3, ![1, 32768, 1024]⟩
abbrev S_ : Shape := ⟨0, ![]⟩
abbrev S64x32768x1024 : Shape := ⟨3, ![64, 32768, 1024]⟩
abbrev S64x1024x1024 : Shape := ⟨3, ![64, 1024, 1024]⟩

abbrev nBuf : Space → Nat
  | .hbm => 35
  | .vmem => 2
  | .smem => 0
  | _ => 0

abbrev bufTy : (tb : Table) → Fin (tcTables nBuf tb) → BufTy
  | .hbm, ⟨0, _⟩ => ⟨S32768x1024, .fp8e4m3⟩
  | .hbm, ⟨1, _⟩ => ⟨S32768x16, .f32⟩
  | .hbm, ⟨2, _⟩ => ⟨S65, .i32⟩
  | .hbm, ⟨3, _⟩ => ⟨S32768x1024, .bf16⟩
  | .hbm, ⟨4, _⟩ => ⟨S32768x16x64, .bf16⟩
  | .hbm, ⟨5, _⟩ => ⟨S32768x16, .bf16⟩
  | .hbm, ⟨6, _⟩ => ⟨S32768x16x1, .bf16⟩
  | .hbm, ⟨7, _⟩ => ⟨S32768x16x64, .bf16⟩
  | .hbm, ⟨8, _⟩ => ⟨S32768x16x64, .bf16⟩
  | .hbm, ⟨9, _⟩ => ⟨S32768x1024, .bf16⟩
  | .hbm, ⟨10, _⟩ => ⟨S32768, .i32⟩
  | .hbm, ⟨11, _⟩ => ⟨S1x32768, .i32⟩
  | .hbm, ⟨12, _⟩ => ⟨S64, .i32⟩
  | .hbm, ⟨13, _⟩ => ⟨S64x1, .i32⟩
  | .hbm, ⟨14, _⟩ => ⟨S64x32768, .i32⟩
  | .hbm, ⟨15, _⟩ => ⟨S64x32768, .i32⟩
  | .hbm, ⟨16, _⟩ => ⟨S64x32768, .i1⟩
  | .hbm, ⟨17, _⟩ => ⟨S1x32768, .i32⟩
  | .hbm, ⟨18, _⟩ => ⟨S64, .i32⟩
  | .hbm, ⟨19, _⟩ => ⟨S64x1, .i32⟩
  | .hbm, ⟨20, _⟩ => ⟨S64x32768, .i32⟩
  | .hbm, ⟨21, _⟩ => ⟨S64x32768, .i32⟩
  | .hbm, ⟨22, _⟩ => ⟨S64x32768, .i1⟩
  | .hbm, ⟨23, _⟩ => ⟨S64x32768, .i1⟩
  | .hbm, ⟨24, _⟩ => ⟨S64x32768x1, .i1⟩
  | .hbm, ⟨25, _⟩ => ⟨S1x32768x1024, .bf16⟩
  | .hbm, ⟨26, _⟩ => ⟨S_, .bf16⟩
  | .hbm, ⟨27, _⟩ => ⟨S64x32768x1024, .i1⟩
  | .hbm, ⟨28, _⟩ => ⟨S64x32768x1024, .bf16⟩
  | .hbm, ⟨29, _⟩ => ⟨S64x32768x1024, .bf16⟩
  | .hbm, ⟨30, _⟩ => ⟨S64x32768x1024, .bf16⟩
  | .hbm, ⟨31, _⟩ => ⟨S64x1024x1024, .f32⟩
  | .hbm, ⟨32, _⟩ => ⟨S64, .i32⟩
  | .hbm, ⟨33, _⟩ => ⟨S64, .i32⟩
  | .hbm, ⟨34, _⟩ => ⟨S64, .i32⟩
  | .local _ .vmem, ⟨0, _⟩ => ⟨S32768x1024, .fp8e4m3⟩
  | .local _ .vmem, ⟨1, _⟩ => ⟨S32768x1024, .bf16⟩
  | _, _ => ⟨S32768x1024, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S32768x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.SameBody.lean ====
/-
  The body of the printed kernel and that of its ideal form are one program, whatever the floats are.
-/
module
public import proofs.«01_k».proof.Defs

@[expose] public section
noncomputable section
namespace Cert.Same
open Idealize.ShloMosaic Idealize.SL.Sem
variable {F : FTy → Type} [FloatOps F] [Cert.Kernel.Facts] [Cert.KernelIdeal.Facts]

theorem main_eq : Cert.Kernel.main (F := F) = Cert.KernelIdeal.main (F := F) := rfl

set_option maxHeartbeats 20000000 in
theorem hess_eq : @Cert.Kernel.cc0_hess F _ _ = @Cert.KernelIdeal.cc0_hess F _ _ := rfl

end Cert.Same
end
-- ==== Proof.Ideal.Base.lean ====
module
public import proofs.«01_k».proof.Proof.Gen.KernelIdeal.Launch
public import proofs.«01_k».proof.Proof.Gen.KernelIdeal.Points
public import Idealize.ShloMosaic.Lib.Pipeline.FrameValue
public import Idealize.ShloMosaic.Lib.Batch
public import Idealize.ShloMosaic.Lib.Ring
public import Idealize.ShloMosaic.Lib.Tactic
public import Idealize.ShloMosaic.Lib.WordCmp
public import Idealize.ShloMosaic.Lib.LoopRemainder

/-! The kernel's memrefs under short names. -/

@[expose] public section
noncomputable section
namespace Cert.KernelIdeal.Hand
open Cert.KernelIdeal Cert.KernelIdeal.Gen
open Idealize.ShloMosaic Idealize.ShloMosaic.TcCoe Idealize.ShloMosaic.Tactic

/-- The offsets, in scalar memory. -/
abbrev M0 : Memref sig .tc .smem S65 .i32 := Memref.whole cc0_stg0_0
/-- The codes. -/
abbrev M1 : Memref sig .tc .hbm S32768x1024 .fp8e4m3 := Memref.whole main_arg0
/-- The transposed scales. -/
abbrev M2 : Memref sig .tc .hbm S16x32768 .f32 := Memref.whole main_v0
/-- The matrices, the first result. -/
abbrev M3 : Memref sig .tc .hbm S64x1024x1024 .f32 := Memref.whole main_v1_0
/-- The counts, in scalar memory. -/
abbrev M4 : Memref sig .tc .smem S64 .i32 := Memref.whole cc0_stg1_0
/-- The ring of code tiles. -/
abbrev M5 : Memref sig .tc .vmem S8x256x1024 .fp8e4m3 := Memref.whole cc0_scratch0
/-- The ring of scale tiles. -/
abbrev M6 : Memref sig .tc .vmem S8x16x256 .f32 := Memref.whole cc0_scratch1
/-- The dequantized tile. -/
abbrev M7 : Memref sig .tc .vmem S1024x256 .bf16 := Memref.whole cc0_scratch2
/-- The output slots. -/
abbrev M8 : Memref sig .tc .vmem S11x1024x1024 .f32 := Memref.whole cc0_scratch3
/-- The zeros. -/
abbrev M9 : Memref sig .tc .vmem S256x1024 .f32 := Memref.whole cc0_scratch4
/-- The cursor. -/
abbrev M14 : Memref sig .tc .smem S3 .i32 := Memref.whole cc0_scratch9

end Cert.KernelIdeal.Hand
end
-- ==== Proof.Sched.lean ====
module
public import Mathlib.Algebra.BigOperators.Intervals
public import Mathlib.Algebra.Order.BigOperators.Group.Finset
public import Mathlib.Tactic.Linarith

/-! The tile schedule over the natural numbers: an expert's rows are read in tiles of 256 rows, the
    first at the multiple of 128 at or below its first row, the last held back to end inside the
    array; the tiles of all experts are numbered in one sequence. -/

@[expose] public section
namespace Cert.Sched

/-- Sorted offsets within the array. -/
structure Ok (o : ℕ → ℕ) : Prop where
  mono : ∀ e, e < 64 → o e ≤ o (e + 1)
  top : o 64 ≤ 32768

/-- The number of tiles of expert `e`. -/
def nu (o : ℕ → ℕ) (e : ℕ) : ℕ := if o e < o (e + 1) then (o (e + 1) - o e / 128 * 128 + 255) / 256 else 0
/-- The first row of tile `u` of expert `e`. -/
def st (o : ℕ → ℕ) (e u : ℕ) : ℕ := min (o e / 128 * 128 + u * 256) 32512
/-- The number of tiles before expert `e`. -/
def base (o : ℕ → ℕ) (e : ℕ) : ℕ := ∑ i ∈ Finset.range e, nu o i
/-- The number of experts with rows before expert `e`. -/
def full (o : ℕ → ℕ) (e : ℕ) : ℕ := ∑ i ∈ Finset.range e, if o i < o (i + 1) then 1 else 0

variable {o : ℕ → ℕ}

theorem Ok.le (h : Ok o) {a b : ℕ} (hab : a ≤ b) (hb : b ≤ 64) : o a ≤ o b := by
  induction b with
  | zero => obtain rfl : a = 0 := by omega
            exact le_refl _
  | succ b ih =>
    rcases Nat.lt_or_ge b a with h' | h'
    · obtain rfl : a = b + 1 := by omega
      exact le_refl _
    · exact (ih h' (by omega)).trans (h.mono b (by omega))

theorem Ok.bound (h : Ok o) {a : ℕ} (ha : a ≤ 64) : o a ≤ 32768 := (h.le ha le_rfl).trans h.top

theorem nu_le (h : Ok o) {e : ℕ} (he : e < 64) : nu o e ≤ 128 := by
  have := h.bound (a := e + 1) (by omega)
  unfold nu; split <;> omega

theorem nu_pos {e : ℕ} : 0 < nu o e ↔ o e < o (e + 1) := by
  unfold nu; split <;> constructor <;> intro <;> omega

theorem base_succ (e : ℕ) : base o (e + 1) = base o e + nu o e := Finset.sum_range_succ ..
theorem base_zero : base o 0 = 0 := rfl
theorem full_succ (e : ℕ) : full o (e + 1) = full o e + if o e < o (e + 1) then 1 else 0 := Finset.sum_range_succ ..
theorem full_zero : full o 0 = 0 := rfl

theorem full_le (e : ℕ) : full o e ≤ e := by
  induction e with
  | zero => exact le_refl _
  | succ e ih => rw [full_succ]; split <;> omega

theorem base_mono {a b : ℕ} (hab : a ≤ b) : base o a ≤ base o b :=
  Finset.sum_le_sum_of_subset (Finset.range_mono hab)

theorem base_le (h : Ok o) {e : ℕ} (he : e ≤ 64) : base o e ≤ 128 * e := by
  induction e with
  | zero => exact le_refl _
  | succ e ih => rw [base_succ]; have := ih (by omega); have := nu_le h (e := e) (by omega); omega

/-- The expert of tile `g`. -/
def ue (o : ℕ → ℕ) (g : ℕ) : ℕ := ((Finset.range 64).filter fun e => base o (e + 1) ≤ g).card
/-- The place of tile `g` among its expert's tiles. -/
def uu (o : ℕ → ℕ) (g : ℕ) : ℕ := g - base o (ue o g)
/-- The first row of tile `g`. -/
def gst (o : ℕ → ℕ) (g : ℕ) : ℕ := st o (ue o g) (uu o g)

theorem ue_eq {e u : ℕ} (he : e < 64) (hu : u < nu o e) : ue o (base o e + u) = e := by
  unfold ue
  have : ((Finset.range 64).filter fun i => base o (i + 1) ≤ base o e + u) = Finset.range e := by
    ext i
    simp only [Finset.mem_filter, Finset.mem_range]
    constructor
    · rintro ⟨_, h⟩
      by_contra hc
      have := base_mono (o := o) (a := e + 1) (b := i + 1) (by omega)
      rw [base_succ] at this; omega
    · intro h
      have := base_mono (o := o) (a := i + 1) (b := e) (by omega)
      omega
  rw [this, Finset.card_range]

theorem uu_eq {e u : ℕ} (he : e < 64) (hu : u < nu o e) : uu o (base o e + u) = u := by
  unfold uu; rw [ue_eq he hu]; omega

theorem gst_eq {e u : ℕ} (he : e < 64) (hu : u < nu o e) : gst o (base o e + u) = st o e u := by
  unfold gst; rw [ue_eq he hu, uu_eq he hu]

theorem st_le (e u : ℕ) : st o e u ≤ 32512 := Nat.min_le_right ..
theorem st_dvd (e u : ℕ) : 128 ∣ st o e u := by
  unfold st; rcases Nat.le_total (o e / 128 * 128 + u * 256) 32512 with h | h
  · rw [Nat.min_eq_left h]; omega
  · rw [Nat.min_eq_right h]; decide
theorem gst_le (g : ℕ) : gst o g ≤ 32512 := st_le _ _

/-- The fetch cursor after `g` tiles: expert `fe`, tile `fu` of it is the next. -/
def Cur (o : ℕ → ℕ) (g fe fu : ℕ) : Prop :=
  (fe < 64 ∧ fu < nu o fe ∧ base o fe + fu = g) ∨ (fe = 64 ∧ fu = 0 ∧ g = base o 64)

theorem Cur.of_skip {g fe : ℕ} (h1 : fe ≤ 64) (h2 : fe = 64 ∨ nu o fe ≠ 0) (h3 : base o fe = g) : Cur o g fe 0 := by
  rcases h2 with h | h
  · right; subst h; exact ⟨rfl, rfl, h3.symm⟩
  · rcases Nat.lt_or_ge fe 64 with h' | h'
    · left; exact ⟨h', by omega, by omega⟩
    · right; obtain rfl : fe = 64 := by omega
      exact ⟨rfl, rfl, h3.symm⟩

theorem Cur.le {g fe fu : ℕ} (h : Cur o g fe fu) : g ≤ base o 64 := by
  rcases h with ⟨h1, h2, h3⟩ | ⟨_, _, h⟩
  · have := base_mono (o := o) (a := fe + 1) (b := 64) (by omega)
    rw [base_succ] at this; omega
  · omega
theorem Cur.lt_iff {g fe fu : ℕ} (h : Cur o g fe fu) : fe < 64 ↔ g < base o 64 := by
  rcases h with ⟨h1, h2, h3⟩ | ⟨h1, _, h⟩
  · have := base_mono (o := o) (a := fe + 1) (b := 64) (by omega)
    rw [base_succ] at this; omega
  · omega
theorem Cur.gst {g fe fu : ℕ} (h : Cur o g fe fu) (hf : fe < 64) : Cert.Sched.gst o g = st o fe fu := by
  rcases h with ⟨h1, h2, h3⟩ | ⟨h1, _, h⟩
  · rw [← h3, gst_eq h1 h2]
  · omega

/-- One step of the search for the next expert with rows. -/
def skipStep (o : ℕ → ℕ) (e : ℕ) : ℕ := if e < 64 ∧ nu o e = 0 then e + 1 else e
/-- What the search keeps: from `e₀`, after `k` steps at `e`. -/
def Skip (o : ℕ → ℕ) (e₀ k e : ℕ) : Prop := e ≤ 64 ∧ base o e = base o e₀ ∧ (e = 64 ∨ nu o e ≠ 0 ∨ k ≤ e)
theorem Skip.zero {e₀ : ℕ} (h : e₀ ≤ 64) : Skip o e₀ 0 e₀ := ⟨h, rfl, .inr (.inr (Nat.zero_le _))⟩
theorem Skip.step {e₀ k e : ℕ} (h : Skip o e₀ k e) : Skip o e₀ (k + 1) (skipStep o e) := by
  obtain ⟨h1, h2, h3⟩ := h
  unfold skipStep
  split
  · rename_i hc
    refine ⟨by omega, by rw [base_succ]; omega, ?_⟩
    right; right; omega
  · refine ⟨h1, h2, ?_⟩
    by_cases h0 : nu o e = 0
    · left; omega
    · right; left; exact h0
theorem Skip.done {e₀ e : ℕ} (h : Skip o e₀ 64 e) : Cur o (base o e₀) e 0 := by
  obtain ⟨h1, h2, h3⟩ := h
  exact Cur.of_skip h1 (by omega) h2

/-- The cursor's expert and tile after one fetch when tiles of the expert are left. -/
theorem Cur.next {g fe fu : ℕ} (h : Cur o g fe fu) (hf : fe < 64) (hl : fu + 1 < nu o fe) : Cur o (g + 1) fe (fu + 1) := by
  rcases h with ⟨h1, h2, h3⟩ | ⟨h1, _, h⟩
  · left; exact ⟨h1, hl, by omega⟩
  · omega
theorem Cur.last {g fe fu : ℕ} (h : Cur o g fe fu) (hf : fe < 64) (hl : ¬ fu + 1 < nu o fe) : base o (fe + 1) = g + 1 := by
  rcases h with ⟨h1, h2, h3⟩ | ⟨h1, _, h⟩
  · rw [base_succ]; omega
  · omega

end Cert.Sched
end
-- ==== Proof.Words.lean ====
module
public import Idealize.ShloMosaic.Lib.WordCmp
public import proofs.«01_k».proof.Proof.Sched

/-! The kernel's word arithmetic on small non-negative words, as arithmetic of natural numbers. -/

@[expose] public section
namespace Cert.Words
open Idealize.ShloMosaic Idealize.ShloMosaic.WordCmp

/-- The sign of a word. -/
def sgnW (x : BitVec 32) : BitVec 32 := Scalar.subi (Scalar.extui (Scalar.cmpi .sgt x 0#32)) (Scalar.extui (Scalar.cmpi .slt x 0#32))
/-- Floor division, as the kernel computes it. -/
def fdivW (x d : BitVec 32) : BitVec 32 :=
  Scalar.select (Scalar.andi (Scalar.cmpi .ne (sgnW x) (sgnW d)) (Scalar.cmpi .ne (Scalar.remsi x d) 0#32))
    (Scalar.subi (Scalar.divsi x d) 1#32) (Scalar.divsi x d)
/-- Floor remainder, as the kernel computes it. -/
def modW (x d : BitVec 32) : BitVec 32 :=
  Scalar.select (Scalar.andi (Scalar.xori (Scalar.cmpi .slt (Scalar.remsi x d) 0#32) (Scalar.cmpi .slt d 0#32)) (Scalar.cmpi .ne (Scalar.remsi x d) 0#32))
    (Scalar.addi (Scalar.remsi x d) d) (Scalar.remsi x d)
/-- The number of tiles between two offsets. -/
def nuW (lo hi : BitVec 32) : BitVec 32 :=
  Scalar.select (Scalar.cmpi .sgt hi lo)
    (fdivW (Scalar.subi (Scalar.addi (Scalar.subi hi (Scalar.muli (fdivW lo 128#32) 128#32)) 256#32) 1#32) 256#32) 0#32
/-- One step of the search for the next expert with rows. -/
def skipW (lo hi e : BitVec 32) : BitVec 32 :=
  Scalar.select (Scalar.andi (Scalar.cmpi .slt e 64#32) (Scalar.cmpi .eq (nuW lo hi) 0#32)) (Scalar.addi e 1#32) e
/-- The first row of a tile. -/
def stW (lo u : BitVec 32) : BitVec 32 :=
  Scalar.minsi (Scalar.addi (Scalar.muli (fdivW lo 128#32) 128#32) (Scalar.muli u 256#32)) 32512#32

variable {x y d : BitVec 32}

theorem toInt_of_lt (h : x.toNat < 2 ^ 31) : x.toInt = x.toNat := toInt_eq_toNat_of_lt_half (by simpa using h)

theorem addi_toNat (h : x.toNat + y.toNat < 2 ^ 32) : (Scalar.addi x y).toNat = x.toNat + y.toNat := by
  show (x + y).toNat = _
  rw [BitVec.toNat_add, Nat.mod_eq_of_lt h]
theorem subi_toNat (h : y.toNat ≤ x.toNat) : (Scalar.subi x y).toNat = x.toNat - y.toNat := by
  show (x - y).toNat = _
  rw [BitVec.toNat_sub_of_le (by simpa [BitVec.le_def] using h)]
theorem muli_toNat (h : x.toNat * y.toNat < 2 ^ 32) : (Scalar.muli x y).toNat = x.toNat * y.toNat := by
  show (x * y).toNat = _
  rw [BitVec.toNat_mul, Nat.mod_eq_of_lt h]

theorem msb_of_lt (h : x.toNat < 2 ^ 31) : x.msb = false := by
  rw [BitVec.msb_eq_false_iff_two_mul_lt]; omega

theorem divsi_toNat (hx : x.toNat < 2 ^ 31) (hd : d.toNat < 2 ^ 31) (h0 : 0 < d.toNat) :
    (Scalar.divsi x d).toNat = x.toNat / d.toNat := by
  have hd0 : d ≠ 0#32 := by rintro rfl; simp at h0
  have hc : ¬ IntOp.SDivCorner x d := by
    unfold IntOp.SDivCorner
    rintro (h | ⟨h, h'⟩)
    · exact hd0 h
    · subst h'; simp at hd
  show (IntOp.divsi .scalar x d).toNat = _
  unfold IntOp.divsi
  rw [if_neg hc, BitVec.sdiv_eq, msb_of_lt hx, msb_of_lt hd]
  simp
theorem remsi_toNat (hx : x.toNat < 2 ^ 31) (hd : d.toNat < 2 ^ 31) (h0 : 0 < d.toNat) :
    (Scalar.remsi x d).toNat = x.toNat % d.toNat := by
  have hd0 : d ≠ 0#32 := by rintro rfl; simp at h0
  have hc : ¬ IntOp.SDivCorner x d := by
    unfold IntOp.SDivCorner
    rintro (h | ⟨h, h'⟩)
    · exact hd0 h
    · subst h'; simp at hd
  show (IntOp.remsi .scalar x d).toNat = _
  unfold IntOp.remsi
  rw [if_neg hc, BitVec.srem_eq, msb_of_lt hx, msb_of_lt hd]
  simp

theorem cmpi_slt (hx : x.toNat < 2 ^ 31) (hy : y.toNat < 2 ^ 31) :
    Scalar.cmpi .slt x y = if x.toNat < y.toNat then 1#1 else 0#1 := by
  show IntOp.cmpi .slt x y = _
  rw [cmpi_slt_eq, ofBool_decide_eq_ite, toInt_of_lt hx, toInt_of_lt hy]; simp
theorem cmpi_sgt (hx : x.toNat < 2 ^ 31) (hy : y.toNat < 2 ^ 31) :
    Scalar.cmpi .sgt x y = if y.toNat < x.toNat then 1#1 else 0#1 := by
  show IntOp.cmpi .sgt x y = _
  rw [cmpi_sgt_eq, ofBool_decide_eq_ite, toInt_of_lt hx, toInt_of_lt hy]; simp
theorem cmpi_sge (hx : x.toNat < 2 ^ 31) (hy : y.toNat < 2 ^ 31) :
    Scalar.cmpi .sge x y = if y.toNat ≤ x.toNat then 1#1 else 0#1 := by
  show IntOp.cmpi .sge x y = _
  rw [cmpi_sge_eq, ofBool_decide_eq_ite, toInt_of_lt hx, toInt_of_lt hy]; simp
theorem cmpi_eq : Scalar.cmpi .eq x y = if x.toNat = y.toNat then 1#1 else 0#1 := by
  show IntOp.cmpi .eq x y = _
  rw [cmpi_eq_eq, ofBool_decide_eq_ite]; simp [BitVec.toNat_inj]
theorem cmpi_ne : Scalar.cmpi .ne x y = if x.toNat = y.toNat then 0#1 else 1#1 := by
  show IntOp.cmpi .ne x y = _
  rw [cmpi_ne_eq, ofBool_decide_eq_ite]; simp [← BitVec.toNat_inj]

theorem minsi_toNat (hx : x.toNat < 2 ^ 31) (hy : y.toNat < 2 ^ 31) : (Scalar.minsi x y).toNat = min x.toNat y.toNat := by
  show (IntOp.minsi x y).toNat = _
  unfold IntOp.minsi
  rw [BitVec.slt_eq_decide, toInt_of_lt hx, toInt_of_lt hy]
  by_cases h : x.toNat < y.toNat
  · rw [if_pos (by simpa using h)]; omega
  · rw [if_neg (by simpa using h)]; omega
theorem maxsi_toNat (hx : x.toNat < 2 ^ 31) (hy : y.toNat < 2 ^ 31) : (Scalar.maxsi x y).toNat = max x.toNat y.toNat := by
  show (IntOp.maxsi x y).toNat = _
  unfold IntOp.maxsi
  rw [BitVec.slt_eq_decide, toInt_of_lt hx, toInt_of_lt hy]
  by_cases h : y.toNat < x.toNat
  · rw [if_pos (by simpa using h)]; omega
  · rw [if_neg (by simpa using h)]; omega

theorem sgnW_pos (h : 0 < x.toNat) (hx : x.toNat < 2 ^ 31) : sgnW x = 1#32 := by
  unfold sgnW
  rw [cmpi_sgt hx (by decide), cmpi_slt hx (by decide), if_pos (by simpa using h), if_neg (by simp)]; decide

theorem fdivW_toNat (hx : x.toNat < 2 ^ 31) (hd : d.toNat < 2 ^ 31) (h0 : 0 < d.toNat) : (fdivW x d).toNat = x.toNat / d.toNat := by
  unfold fdivW
  have : Scalar.andi (Scalar.cmpi .ne (sgnW x) (sgnW d)) (Scalar.cmpi .ne (Scalar.remsi x d) 0#32) = 0#1 := by
    rcases Nat.eq_zero_or_pos x.toNat with h | h
    · rw [cmpi_ne (x := Scalar.remsi x d), remsi_toNat hx hd h0, h, if_pos (by simp)]
      show _ &&& 0#1 = 0#1
      simp
    · rw [sgnW_pos h hx, sgnW_pos h0 hd, cmpi_ne, if_pos rfl]
      show 0#1 &&& _ = 0#1
      simp
  rw [this, select_of_eq_zero rfl, divsi_toNat hx hd h0]

theorem modW_toNat (hx : x.toNat < 2 ^ 31) (hd : d.toNat < 2 ^ 31) (h0 : 0 < d.toNat) : (modW x d).toNat = x.toNat % d.toNat := by
  unfold modW
  have hr := remsi_toNat hx hd h0
  have hlt : (Scalar.remsi x d).toNat < 2 ^ 31 := by rw [hr]; exact (Nat.mod_lt _ h0).trans hd
  rw [cmpi_slt hlt (by decide), cmpi_slt hd (by decide), if_neg (by simp), if_neg (by simp)]
  rw [show Scalar.xori 0#1 0#1 = 0#1 from by decide]
  rw [show ∀ z : BitVec 1, Scalar.andi 0#1 z = 0#1 from by decide, select_of_eq_zero rfl, hr]

theorem nuW_toNat {lo hi : BitVec 32} (hl : lo.toNat ≤ 32768) (hh : hi.toNat ≤ 32768) :
    (nuW lo hi).toNat = if lo.toNat < hi.toNat then (hi.toNat - lo.toNat / 128 * 128 + 255) / 256 else 0 := by
  unfold nuW
  rw [cmpi_sgt (by omega) (by omega)]
  split
  · rename_i h
    rw [select_of_eq_one rfl]
    have e1 : (fdivW lo 128#32).toNat = lo.toNat / 128 := fdivW_toNat (by omega) (by decide) (by decide)
    have e2 : (Scalar.muli (fdivW lo 128#32) 128#32).toNat = lo.toNat / 128 * 128 := by
      rw [muli_toNat, e1]; · rfl
      rw [e1]; show lo.toNat / 128 * 128 < _; omega
    have e3 := subi_toNat (x := hi) (y := Scalar.muli (fdivW lo 128#32) 128#32) (by omega)
    rw [e2] at e3
    have e4 : (Scalar.addi (Scalar.subi hi (Scalar.muli (fdivW lo 128#32) 128#32)) 256#32).toNat = hi.toNat - lo.toNat / 128 * 128 + 256 := by
      rw [addi_toNat, e3]; · rfl
      rw [e3]; show _ + 256 < _; omega
    have e5 : (Scalar.subi (Scalar.addi (Scalar.subi hi (Scalar.muli (fdivW lo 128#32) 128#32)) 256#32) 1#32).toNat = hi.toNat - lo.toNat / 128 * 128 + 255 := by
      rw [subi_toNat, e4]; · rfl
      rw [e4]; show 1 ≤ _; omega
    rw [fdivW_toNat (by omega) (by decide) (by decide), e5]; rfl
  · rw [select_of_eq_zero rfl]; rfl

theorem skipW_toNat {lo hi e : BitVec 32} (hl : lo.toNat ≤ 32768) (hh : hi.toNat ≤ 32768) (he : e.toNat ≤ 64) :
    (skipW lo hi e).toNat = if e.toNat < 64 ∧ (nuW lo hi).toNat = 0 then e.toNat + 1 else e.toNat := by
  unfold skipW
  rw [cmpi_slt (by omega) (by decide), cmpi_eq]
  rw [show (64#32).toNat = 64 from rfl, show (0#32).toNat = 0 from rfl]
  by_cases h1 : e.toNat < 64 <;> by_cases h2 : (nuW lo hi).toNat = 0
  · rw [if_pos h1, if_pos h2, if_pos ⟨h1, h2⟩, select_of_eq_one (by decide), addi_toNat]; · rfl
    show _ + 1 < _; omega
  all_goals rw [if_neg (by omega : ¬ (e.toNat < 64 ∧ _)), select_of_eq_zero]; simp only [h1, h2]; decide

theorem stW_toNat {lo u : BitVec 32} (hl : lo.toNat ≤ 32768) (hu : u.toNat ≤ 65536) :
    (stW lo u).toNat = min (lo.toNat / 128 * 128 + u.toNat * 256) 32512 := by
  unfold stW
  have e1 : (fdivW lo 128#32).toNat = lo.toNat / 128 := fdivW_toNat (by omega) (by decide) (by decide)
  have e2 : (Scalar.muli (fdivW lo 128#32) 128#32).toNat = lo.toNat / 128 * 128 := by
    rw [muli_toNat, e1]; · rfl
    rw [e1]; show lo.toNat / 128 * 128 < _; omega
  have e3 : (Scalar.muli u 256#32).toNat = u.toNat * 256 := by
    rw [muli_toNat]; · rfl
    show _ * 256 < _; omega
  have e4 := addi_toNat (x := Scalar.muli (fdivW lo 128#32) 128#32) (y := Scalar.muli u 256#32) (by rw [e2, e3]; omega)
  rw [e2, e3] at e4
  rw [minsi_toNat (by omega) (by decide), e4]; rfl

end Cert.Words
end
-- ==== Proof.Ideal.Skip.lean ====
module
public import proofs.«01_k».proof.Proof.Ideal.Base
public import proofs.«01_k».proof.Proof.Words
public import proofs.«01_k».proof.Proof.Gen.KernelIdeal.Loops

/-! The search for the next expert with rows: the kernel's loop over the offsets, trip by trip. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
/-- Entry `e` of the offsets. -/
def i65 (e : ℕ) (h : e < 65) : S65.Idx := fun a => ⟨e, by fin_cases a; exact h⟩
/-- The offsets as natural numbers. -/
def offN (o : S65.Idx → BitVec 32) (e : ℕ) : ℕ := if h : e < 65 then (o (i65 e h)).toNat else 0
theorem offN_of {o : S65.Idx → BitVec 32} {e : ℕ} (h : e < 65) : offN o e = (o (i65 e h)).toNat := dif_pos h

theorem read0 (o : S65.Idx → BitVec 32) (off : Fin 1 → ℕ) (h : ∀ a, off a + S1.size a ≤ S65.size a) (p) (e : ℕ) (he : off 0 = e) (hlt : e < 65) :
    View.readAt (Val := Elt F) M0.view (Rect.unit (s := S65) off S1.size h).toLoadRect o (Shape.Idx.first p) = o (i65 e hlt) := by
  show o _ = o _
  congr 1
  funext a
  fin_cases a
  apply Fin.ext
  have h0 : (Shape.Idx.first p 0).val < 1 := (Shape.Idx.first p 0).isLt
  have h1 : (Shape.Idx.first p 0).val = 0 := by omega
  show off 0 + 1 * (Shape.Idx.first p 0).val = e
  omega

theorem off1_eq {e : BitVec 32} (h : e.toNat ≤ 64) : k0_off1 e = ![min e.toNat 63] := by
  unfold k0_off1
  show ![(Scalar.minsi e 63#32).toNat] = _
  rw [minsi_toNat (by omega) (by decide)]; rfl
theorem off2_eq {e : BitVec 32} (h : e.toNat ≤ 64) : k0_off2 e = ![min e.toNat 63 + 1] := by
  unfold k0_off2
  show ![(Scalar.addi (Scalar.minsi e 63#32) 1#32).toNat] = _
  have := minsi_toNat (x := e) (y := 63#32) (by omega) (by decide)
  rw [addi_toNat, this]; · rfl
  rw [this]; show min _ 63 + 1 < _; omega
theorem chk1_of {e : BitVec 32} (h : e.toNat ≤ 64) : k0_chk1 e := by
  unfold k0_chk1
  rw [off1_eq h, off2_eq h]
  constructor <;> intro a <;> fin_cases a <;> simp <;> omega

/-- One step of the search over the offsets' words is one step over their numbers. -/
theorem skipW_offN {o : S65.Idx → BitVec 32} (hO : Ok (offN o)) {e : BitVec 32} (he : e.toNat ≤ 64) :
    (skipW (o (i65 (min e.toNat 63) (by omega))) (o (i65 (min e.toNat 63 + 1) (by omega))) e).toNat = skipStep (offN o) e.toNat := by
  have h1 := hO.bound (a := min e.toNat 63) (by omega)
  have h2 := hO.bound (a := min e.toNat 63 + 1) (by omega)
  rw [offN_of (by omega)] at h1 h2
  rw [skipW_toNat h1 h2 he, nuW_toNat h1 h2, ← offN_of (by omega), ← offN_of (by omega)]
  unfold skipStep nu
  by_cases h : e.toNat < 64
  · have h3 : min e.toNat 63 = e.toNat := by omega
    rw [h3]
  · rw [if_neg (by omega), if_neg (by omega)]

theorem skip1_trip (c : Dev nD) (o : S65.Idx → BitVec 32) (e : BitVec 32) (k : Fin k0_t1_loop.trips) (he : e.toNat ≤ 64) (Q : _ → sProp 𝕄) :
   iprop((M0.view.loc (c : Thread nD τ) ↦{fullShare} o) ∗ ((M0.view.loc (c : Thread nD τ) ↦{fullShare} o) -∗ Q (skipW (o (i65 (min e.toNat 63) (by omega))) (o (i65 (min e.toNat 63 + 1) (by omega))) e))) ⊢ wp frame (wpE (defs₀ (F := F)) Variants.none (c : Thread nD τ) none) Set.univ (k0_t1_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k e) Q := by
  have hw := chk1_of he
  iintro ⟨H0, HK⟩
  unfold k0_t1_body
  sl_exec
  sl_step
  have hr : skip1_trip.sl.v107 o e hw = skipW (o (i65 (min e.toNat 63) (by omega))) (o (i65 (min e.toNat 63 + 1) (by omega))) e :=
    congrArg₂ (fun a b => skipW a b e) (read0 (F := F) o _ hw.1 _ _ (by rw [off1_eq he]; rfl) _) (read0 (F := F) o _ hw.2 _ _ (by rw [off2_eq he]; rfl) _)
  rw [hr]
  iapply HK $$ H0

theorem trips1 : k0_t1_loop.trips = 64 := by decide

@[instance_reducible, sl_loop] def loopInv_k0_t1 (c : Dev nD) (o : S65.Idx → BitVec 32) (hO : Ok (offN o)) (init : BitVec 32) :
    LoopInvTy_k0_t1 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) init where
  inv := fun k acc => iprop((M0.view.loc (c : Thread nD τ) ↦{fullShare} o) ∗ ⌜Skip (offN o) init.toNat k acc.toNat⌝)
  step := fun k acc => by
    iintro ⟨H0, %h⟩
    iapply (skip1_trip c o acc k h.1)
    isplitl [H0]
    · iexact H0
    iintro H0
    isplitl [H0]
    · iexact H0
    · ipureintro
      rw [skipW_offN hO h.1]
      exact h.step

theorem off11_eq {e : BitVec 32} (h : e.toNat ≤ 64) : k0_off11 e = ![min e.toNat 63] := off1_eq h
theorem off12_eq {e : BitVec 32} (h : e.toNat ≤ 64) : k0_off12 e = ![min e.toNat 63 + 1] := off2_eq h
theorem chk5_of (v5 v57 v107 v110 : BitVec 32) {e : BitVec 32} (h : e.toNat ≤ 64) : k0_chk5 v5 v57 v107 v110 e := by
  unfold k0_chk5
  rw [off11_eq h, off12_eq h]
  constructor <;> intro _ _ a <;> fin_cases a <;> simp <;> omega

theorem skip2_trip (c : Dev nD) (o : S65.Idx → BitVec 32) (e : BitVec 32) (k : Fin k0_t2_loop.trips) (he : e.toNat ≤ 64)
    (v5 v57 v107 v110 : BitVec 32) (h1 : k0_cond1 v5 = 1#1) (h2 : k0_cond2 v57 v107 v110 = 1#1) (Q : _ → sProp 𝕄) :
   iprop((M0.view.loc (c : Thread nD τ) ↦{fullShare} o) ∗ ((M0.view.loc (c : Thread nD τ) ↦{fullShare} o) -∗ Q (skipW (o (i65 (min e.toNat 63) (by omega))) (o (i65 (min e.toNat 63 + 1) (by omega))) e))) ⊢ wp frame (wpE (defs₀ (F := F)) Variants.none (c : Thread nD τ) none) Set.univ (k0_t2_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v5 h1 v57 v107 v110 h2 k e) Q := by
  have hw := chk5_of v5 v57 v107 v110 he
  iintro ⟨H0, HK⟩
  unfold k0_t2_body
  sl_exec
  sl_step
  have hr : skip2_trip.sl.v211 o e v5 v57 v107 v110 h1 h2 hw = skipW (o (i65 (min e.toNat 63) (by omega))) (o (i65 (min e.toNat 63 + 1) (by omega))) e :=
    congrArg₂ (fun a b => skipW a b e) (read0 (F := F) o _ (hw.1 h1 h2) _ _ (by rw [off11_eq he]; rfl) _) (read0 (F := F) o _ (hw.2 h1 h2) _ _ (by rw [off12_eq he]; rfl) _)
  rw [hr]
  iapply HK $$ H0

@[instance_reducible, sl_loop] def loopInv_k0_t2 (c : Dev nD) (o : S65.Idx → BitVec 32) (hO : Ok (offN o)) (v5 v57 v107 v110 : BitVec 32) (h1 : k0_cond1 v5 = 1#1) (h2 : k0_cond2 v57 v107 v110 = 1#1) (init : BitVec 32) :
    LoopInvTy_k0_t2 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v5 h1 v57 v107 v110 h2 init where
  inv := fun k acc => iprop((M0.view.loc (c : Thread nD τ) ↦{fullShare} o) ∗ ⌜Skip (offN o) init.toNat k acc.toNat⌝)
  step := fun k acc => by
    iintro ⟨H0, %h⟩
    iapply (skip2_trip c o acc k h.1 v5 v57 v107 v110 h1 h2)
    isplitl [H0]
    · iexact H0
    iintro H0
    isplitl [H0]
    · iexact H0
    · ipureintro
      rw [skipW_offN hO h.1]
      exact h.step

end Cert.KernelIdeal.Hand
end
-- ==== Proof.Ideal.RingFam.lean ====
module
public import proofs.«01_k».proof.Proof.Ideal.Base

/-! A ring of eight cells as a separating conjunction: cell `b` holds the transfer of the one tile `g ≡ b (mod 8)`
    among the next eight, if that tile has been fetched, and is free otherwise. -/

@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The tile of cell `b` among `gc, …, gc + 7`. -/
def gAt (gc : ℕ) (b : Fin 8) : ℕ := gc + (b.val + 8 - gc % 8) % 8
/-- The cell of tile `g`. -/
def cellOf8 (g : ℕ) : Fin 8 := ⟨g % 8, Nat.mod_lt _ (by decide)⟩

def RingFam {F : FTy → Type} (fly : Fin 8 → ℕ → sProp (MT nD τ sig Unit (Elt F) ℕ (Pipeline.UD sig nD τ) ℕ)) (free : Fin 8 → sProp (MT nD τ sig Unit (Elt F) ℕ (Pipeline.UD sig nD τ) ℕ)) (gc gf : ℕ) : sProp (MT nD τ sig Unit (Elt F) ℕ (Pipeline.UD sig nD τ) ℕ) :=
  BI.bigSep (Finset.univ : Finset (Fin 8)) fun b : Fin 8 => if gAt gc b < gf then fly b (gAt gc b) else free b

theorem ring_take {F : FTy → Type} (fly : Fin 8 → ℕ → sProp (MT nD τ sig Unit (Elt F) ℕ (Pipeline.UD sig nD τ) ℕ)) (free : Fin 8 → sProp (MT nD τ sig Unit (Elt F) ℕ (Pipeline.UD sig nD τ) ℕ)) {gc gf : ℕ} (h1 : gc ≤ gf) (h2 : gf < gc + 8) :
    RingFam fly free gc gf ⊢ iprop(free (cellOf8 gf) ∗ (fly (cellOf8 gf) gf -∗ RingFam fly free gc (gf + 1))) := by
  have e1 : gAt gc (cellOf8 gf) = gf := by unfold gAt cellOf8; simp only; omega
  have hs : ∀ g' : ℕ, RingFam fly free gc g' = iprop((if gAt gc (cellOf8 gf) < g' then fly (cellOf8 gf) (gAt gc (cellOf8 gf)) else free (cellOf8 gf)) ∗ BI.bigSep ((Finset.univ : Finset (Fin 8)).erase (cellOf8 gf)) fun b : Fin 8 => if gAt gc b < g' then fly b (gAt gc b) else free b) := by
    intro g'; exact BI.bigSep_erase (Finset.mem_univ _)
  have hc : (BI.bigSep ((Finset.univ : Finset (Fin 8)).erase (cellOf8 gf)) fun b : Fin 8 => if gAt gc b < gf then fly b (gAt gc b) else free b)
      = (BI.bigSep ((Finset.univ : Finset (Fin 8)).erase (cellOf8 gf)) fun b : Fin 8 => if gAt gc b < gf + 1 then fly b (gAt gc b) else free b) := by
    refine BI.bigSep_congr fun b hb => ?_
    have hne : b.val ≠ gf % 8 := fun h => (Finset.mem_erase.mp hb).1 (Fin.ext h)
    have : gAt gc b ≠ gf := by unfold gAt; intro h; have := b.isLt; omega
    by_cases hlt : gAt gc b < gf
    · rw [if_pos hlt, if_pos (by omega)]
    · rw [if_neg hlt, if_neg (by omega)]
  rw [hs gf, hs (gf + 1), hc, e1, if_neg (lt_irrefl _), if_pos (Nat.lt_succ_self _)]
  iintro ⟨H1, H2⟩
  isplitl [H1]; · iexact H1
  iintro H
  isplitl [H]; · iexact H
  iexact H2

theorem ring_pop {F : FTy → Type} (fly : Fin 8 → ℕ → sProp (MT nD τ sig Unit (Elt F) ℕ (Pipeline.UD sig nD τ) ℕ)) (free : Fin 8 → sProp (MT nD τ sig Unit (Elt F) ℕ (Pipeline.UD sig nD τ) ℕ)) {gc gf : ℕ} (h1 : gc < gf) (h2 : gf ≤ gc + 8) :
    RingFam fly free gc gf ⊢ iprop(fly (cellOf8 gc) gc ∗ (free (cellOf8 gc) -∗ RingFam fly free (gc + 1) gf)) := by
  have e1 : gAt gc (cellOf8 gc) = gc := by unfold gAt cellOf8; simp only; omega
  have e2 : gAt (gc + 1) (cellOf8 gc) = gc + 8 := by unfold gAt cellOf8; simp only; omega
  have hs : ∀ g' : ℕ, RingFam fly free g' gf = iprop((if gAt g' (cellOf8 gc) < gf then fly (cellOf8 gc) (gAt g' (cellOf8 gc)) else free (cellOf8 gc)) ∗ BI.bigSep ((Finset.univ : Finset (Fin 8)).erase (cellOf8 gc)) fun b : Fin 8 => if gAt g' b < gf then fly b (gAt g' b) else free b) := by
    intro g'; exact BI.bigSep_erase (Finset.mem_univ _)
  have hc : (BI.bigSep ((Finset.univ : Finset (Fin 8)).erase (cellOf8 gc)) fun b : Fin 8 => if gAt gc b < gf then fly b (gAt gc b) else free b)
      = (BI.bigSep ((Finset.univ : Finset (Fin 8)).erase (cellOf8 gc)) fun b : Fin 8 => if gAt (gc + 1) b < gf then fly b (gAt (gc + 1) b) else free b) := by
    refine BI.bigSep_congr fun b hb => ?_
    have hne : b.val ≠ gc % 8 := fun h => (Finset.mem_erase.mp hb).1 (Fin.ext h)
    have : gAt gc b = gAt (gc + 1) b := by unfold gAt; have := b.isLt; omega
    rw [this]
  rw [hs gc, hs (gc + 1), hc, e1, e2, if_pos h1, if_neg (by omega)]
  iintro ⟨H1, H2⟩
  isplitl [H1]; · iexact H1
  iintro H
  isplitl [H]; · iexact H
  iexact H2

theorem ring_none {F : FTy → Type} (fly : Fin 8 → ℕ → sProp (MT nD τ sig Unit (Elt F) ℕ (Pipeline.UD sig nD τ) ℕ)) (free : Fin 8 → sProp (MT nD τ sig Unit (Elt F) ℕ (Pipeline.UD sig nD τ) ℕ)) {gc gf : ℕ} (h : gf ≤ gc) : RingFam fly free gc gf = BI.bigSep Finset.univ free := by
  unfold RingFam
  refine BI.bigSep_congr fun b _ => ?_
  rw [if_neg (by unfold gAt; omega)]

end Cert.KernelIdeal.Hand
end
-- ==== Proof.Ideal.Ring.lean ====
module
public import proofs.«01_k».proof.Proof.Ideal.RingFam
public import proofs.«01_k».proof.Proof.Sched

/-! The two rings of fetched tiles: the slots, their cells, what a fetch in flight delivers. -/

@[expose] public section
noncomputable section
namespace Cert.KernelIdeal.Hand
open Cert.KernelIdeal Cert.KernelIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

theorem inb5 (b : Fin 8) : ∀ a, (![b.val, 0, 0] : Fin 3 → ℕ) a + S1x256x1024.size a ≤ S8x256x1024.size a := by
  intro a; have := b.isLt; fin_cases a
  · show b.val + 1 ≤ 8; omega
  · show 0 + 256 ≤ 256; omega
  · show 0 + 1024 ≤ 1024; omega
theorem inb6 (b : Fin 8) : ∀ a, (![b.val, 0, 0] : Fin 3 → ℕ) a + S1x16x256.size a ≤ S8x16x256.size a := by
  intro a; have := b.isLt; fin_cases a
  · show b.val + 1 ≤ 8; omega
  · show 0 + 16 ≤ 16; omega
  · show 0 + 256 ≤ 256; omega
theorem inbS8 (b : Fin 8) : ∀ a, (![b.val] : Fin 1 → ℕ) a + S1.size a ≤ S8.size a := by
  intro a; have := b.isLt; fin_cases a
  show b.val + 1 ≤ 8; omega
theorem inb1 (r : Fin 32513) : ∀ a, (![r.val, 0] : Fin 2 → ℕ) a + S256x1024.size a ≤ S32768x1024.size a := by
  intro a; have := r.isLt; fin_cases a
  · show r.val + 256 ≤ 32768; omega
  · show 0 + 1024 ≤ 1024; omega
theorem inb2 (r : Fin 32513) : ∀ a, (![0, r.val] : Fin 2 → ℕ) a + S16x256.size a ≤ S16x32768.size a := by
  intro a; have := r.isLt; fin_cases a
  · show 0 + 16 ≤ 16; omega
  · show r.val + 256 ≤ 32768; omega

/-- Slot `b` of the codes' ring and of the scales' ring. -/
abbrev slotC (b : Fin 8) : Memref sig .tc .vmem S256x1024 .fp8e4m3 :=
  (M5.slice (Rect.unit (s := S8x256x1024) ![b.val, 0, 0] S1x256x1024.size (inb5 b)) (fun _ => rfl)).squeeze S256x1024 squeezes_S1x256x1024_S256x1024
abbrev slotS (b : Fin 8) : Memref sig .tc .vmem S16x256 .f32 :=
  (M6.slice (Rect.unit (s := S8x16x256) ![b.val, 0, 0] S1x16x256.size (inb6 b)) (fun _ => rfl)).squeeze S16x256 squeezes_S1x16x256_S16x256
/-- Their cells. -/
abbrev semC (b : Fin 8) : DmaSem sig := ((SemArray.slice cc0_scratch5 (Rect.unit (s := S8) ![b.val] S1.size (inbS8 b))).squeeze S_ squeezes_S1_S_).sem
abbrev semS (b : Fin 8) : DmaSem sig := ((SemArray.slice cc0_scratch6 (Rect.unit (s := S8) ![b.val] S1.size (inbS8 b))).squeeze S_ squeezes_S1_S_).sem
/-- The codes and the scales of the 256 rows from row `r`. -/
abbrev tileC (r : Fin 32513) : Memref sig .tc .hbm S256x1024 .fp8e4m3 :=
  M1.slice (Rect.unit (s := S32768x1024) ![r.val, 0] S256x1024.size (inb1 r)) (fun _ => rfl)
abbrev tileS (r : Fin 32513) : Memref sig .tc .hbm S16x256 .f32 :=
  M2.slice (Rect.unit (s := S16x32768) ![0, r.val] S16x256.size (inb2 r)) (fun _ => rfl)
/-- The first row of tile `g`. -/
def row (o : ℕ → ℕ) (g : ℕ) : Fin 32513 := ⟨gst o g, by have := gst_le (o := o) g; omega⟩

abbrev NC : ℕ := (slotC 0).view.dmaCredit
abbrev NS : ℕ := (slotS 0).view.dmaCredit
theorem NC_pos : 0 < NC := View.dmaCredit_pos _ (by decide)
theorem NS_pos : 0 < NS := View.dmaCredit_pos _ (by decide)

variable (c : Dev nD) (X : Buf (Elt F) (M1.view.loc (c : Thread nD τ))) (Y : Buf (Elt F) (M2.view.loc (c : Thread nD τ)))

abbrev tokC (b : Fin 8) (S : Finset (Idx (M1.view.loc (c : Thread nD τ)))) : sProp 𝕄 := M1.view.loc (c : Thread nD τ) ↦[S]{Transfers.shareTok fullShare 8 b} X
abbrev tokS (b : Fin 8) (S : Finset (Idx (M2.view.loc (c : Thread nD τ)))) : sProp 𝕄 := M2.view.loc (c : Thread nD τ) ↦[S]{Transfers.shareTok fullShare 8 b} Y

/-- Slot `b` holding the tile of codes from row `r`. -/
abbrev gotC (b : Fin 8) (r : Fin 32513) (f : Buf (Elt F) ((slotC b).view.loc (c : Thread nD τ))) : sProp 𝕄 :=
  (slotC b).view.loc (c : Thread nD τ) ↦[(slotC b).view.set]{fullShare} ((slotC b).view.write (Elt F) f (ReadAs.same.apply ((tileC r).view.read (Elt F) X)) Finset.univ)
abbrev gotS (b : Fin 8) (r : Fin 32513) (f : Buf (Elt F) ((slotS b).view.loc (c : Thread nD τ))) : sProp 𝕄 :=
  (slotS b).view.loc (c : Thread nD τ) ↦[(slotS b).view.set]{fullShare} ((slotS b).view.write (Elt F) f (ReadAs.same.apply ((tileS r).view.read (Elt F) Y)) Finset.univ)

def flyC (b : Fin 8) (r : Fin 32513) : sProp 𝕄 :=
  iprop((∃ f, Transfers.Flight (countersEmb (U := Pipeline.UD sig nD τ)) (c : Thread nD τ) (.dma (semC b)) () NC
      iprop(gotC c X b r f ∗ tokC c X b (tileC r).view.set)) ∗ tokC c X b (Finset.univ \ (tileC r).view.set))
def freeC (b : Fin 8) : sProp 𝕄 :=
  iprop(semVal ((c : Thread nD τ), SemLoc.dma (semC b)) 0 ∗ (∃ f, (slotC b).view.loc (c : Thread nD τ) ↦[(slotC b).view.set]{fullShare} f) ∗ tokC c X b Finset.univ)
def flyS (b : Fin 8) (r : Fin 32513) : sProp 𝕄 :=
  iprop((∃ f, Transfers.Flight (countersEmb (U := Pipeline.UD sig nD τ)) (c : Thread nD τ) (.dma (semS b)) () NS
      iprop(gotS c Y b r f ∗ tokS c Y b (tileS r).view.set)) ∗ tokS c Y b (Finset.univ \ (tileS r).view.set))
def freeS (b : Fin 8) : sProp 𝕄 :=
  iprop(semVal ((c : Thread nD τ), SemLoc.dma (semS b)) 0 ∗ (∃ f, (slotS b).view.loc (c : Thread nD τ) ↦[(slotS b).view.set]{fullShare} f) ∗ tokS c Y b Finset.univ)

/-- The two rings: tiles below `gf` have been fetched, tiles below `gc` consumed. -/
def Ring (o : ℕ → ℕ) (gc gf : ℕ) : sProp 𝕄 :=
  RingFam (fun b g => iprop(flyC c X b (row o g) ∗ flyS c Y b (row o g))) (fun b => iprop(freeC c X b ∗ freeS c Y b)) gc gf

/-- Starting a fetch of codes at offsets equal to the canonical ones. -/
theorem enq_codes (b : Fin 8) (r : Fin 32513) {off5 : Fin 3 → ℕ} {off4 : Fin 1 → ℕ} {off6 : Fin 2 → ℕ}
    (e5 : off5 = ![b.val, 0, 0]) (e4 : off4 = ![b.val]) (e6 : off6 = ![r.val, 0])
    {h5 : ∀ a, off5 a + S1x256x1024.size a ≤ S8x256x1024.size a} {h4 : ∀ a, off4 a + S1.size a ≤ S8.size a}
    {h6 : ∀ a, off6 a + S256x1024.size a ≤ S32768x1024.size a} {hs5 hs6} {hsrc hdst hsem}
    {α : Type} {k : PUnit → Prog (TpuEff nD τ sig (Elt F) Λ₀ .tc) α} {Q : α → sProp 𝕄} :
    freeC c X b ⊢ iprop((flyC c X b r -∗ wp frame (wpE (defs₀ (F := F)) Variants.none (c : Thread nD τ) none) Set.univ (k ⟨⟩) Q) -∗
      wp frame (wpE (defs₀ (F := F)) Variants.none (c : Thread nD τ) none) Set.univ (.op (.enqueueDma (M1.slice (Rect.unit (s := S32768x1024) off6 S256x1024.size h6) hs6)
        (.here ((M5.slice (Rect.unit (s := S8x256x1024) off5 S1x256x1024.size h5) hs5).squeeze S256x1024 squeezes_S1x256x1024_S256x1024))
        (.dma ((SemArray.slice cc0_scratch5 (Rect.unit (s := S8) off4 S1.size h4)).squeeze S_ squeezes_S1_S_).sem) hsrc hdst hsem) k) Q) := by
  subst e5 e4 e6
  unfold freeC
  iintro ⟨Hv, ⟨%f, Hd⟩, Ht⟩ HK
  ihave ⟨Ht1, Ht2⟩ := (pointsTo_split_subset (Finset.subset_univ (tileC r).view.set)).1 $$ Ht
  iapply (Transfers.wp_dmaLocal (countersEmb (U := Pipeline.UD sig nD τ)) Variants.none (c : Thread nD τ) none () NC rfl NC_pos (Finset.Subset.refl _)) $$ [Ht1 Hd Hv]
  · isplitl [Ht1]; · iexact Ht1
    isplitl [Hd]; · iexact Hd
    iexact Hv
  iintro HF
  iapply HK
  unfold flyC
  isplitl [HF]
  · iexists f; iexact HF
  · iexact Ht2

/-- Starting a fetch of scales. -/
theorem enq_scales (b : Fin 8) (r : Fin 32513) {off5 : Fin 3 → ℕ} {off4 : Fin 1 → ℕ} {off6 : Fin 2 → ℕ}
    (e5 : off5 = ![b.val, 0, 0]) (e4 : off4 = ![b.val]) (e6 : off6 = ![0, r.val])
    {h5 : ∀ a, off5 a + S1x16x256.size a ≤ S8x16x256.size a} {h4 : ∀ a, off4 a + S1.size a ≤ S8.size a}
    {h6 : ∀ a, off6 a + S16x256.size a ≤ S16x32768.size a} {hs5 hs6} {hsrc hdst hsem}
    {α : Type} {k : PUnit → Prog (TpuEff nD τ sig (Elt F) Λ₀ .tc) α} {Q : α → sProp 𝕄} :
    freeS c Y b ⊢ iprop((flyS c Y b r -∗ wp frame (wpE (defs₀ (F := F)) Variants.none (c : Thread nD τ) none) Set.univ (k ⟨⟩) Q) -∗
      wp frame (wpE (defs₀ (F := F)) Variants.none (c : Thread nD τ) none) Set.univ (.op (.enqueueDma (M2.slice (Rect.unit (s := S16x32768) off6 S16x256.size h6) hs6)
        (.here ((M6.slice (Rect.unit (s := S8x16x256) off5 S1x16x256.size h5) hs5).squeeze S16x256 squeezes_S1x16x256_S16x256))
        (.dma ((SemArray.slice cc0_scratch6 (Rect.unit (s := S8) off4 S1.size h4)).squeeze S_ squeezes_S1_S_).sem) hsrc hdst hsem) k) Q) := by
  subst e5 e4 e6
  unfold freeS
  iintro ⟨Hv, ⟨%f, Hd⟩, Ht⟩ HK
  ihave ⟨Ht1, Ht2⟩ := (pointsTo_split_subset (Finset.subset_univ (tileS r).view.set)).1 $$ Ht
  iapply (Transfers.wp_dmaLocal (countersEmb (U := Pipeline.UD sig nD τ)) Variants.none (c : Thread nD τ) none () NS rfl NS_pos (Finset.Subset.refl _)) $$ [Ht1 Hd Hv]
  · isplitl [Ht1]; · iexact Ht1
    isplitl [Hd]; · iexact Hd
    iexact Hv
  iintro HF
  iapply HK
  unfold flyS
  isplitl [HF]
  · iexists f; iexact HF
  · iexact Ht2

end Cert.KernelIdeal.Hand
end
-- ==== Proof.Ideal.FetchWords.lean ====
module
public import proofs.«01_k».proof.Proof.Ideal.Skip
public import proofs.«01_k».proof.Proof.Ideal.Ring

/-! The words of one fetch: its offsets and the side conditions on them. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic

theorem cond1_iff {e : BitVec 32} (h : e.toNat ≤ 64) : k0_cond1 e = 1#1 ↔ e.toNat < 64 := by
  unfold k0_cond1
  show Scalar.cmpi .ne (Scalar.extui (Scalar.cmpi .slt e 64#32)) 0#32 = 1#1 ↔ _
  rw [cmpi_slt (by omega) (by decide)]
  show Scalar.cmpi .ne (Scalar.extui (if e.toNat < 64 then 1#1 else 0#1)) 0#32 = 1#1 ↔ _
  by_cases h' : e.toNat < 64
  · rw [if_pos h']; exact ⟨fun _ => h', fun _ => by decide⟩
  · rw [if_neg h']; exact ⟨fun h => absurd h (by decide), fun h => absurd h h'⟩

theorem off3_eq (v5 : BitVec 32) : k0_off3 v5 = ![v5.toNat] := rfl
theorem off9_eq (v5 : BitVec 32) : k0_off9 v5 = ![v5.toNat] := rfl
theorem off10_eq {v5 : BitVec 32} (h : v5.toNat ≤ 64) : k0_off10 v5 = ![v5.toNat + 1] := by
  show ![(Scalar.addi v5 1#32).toNat] = _
  rw [addi_toNat (by show _ + 1 < _; omega)]; rfl
theorem chk2_of {v5 : BitVec 32} (h : v5.toNat ≤ 64) : k0_chk2 v5 := by
  unfold k0_chk2
  rw [off10_eq h]
  refine ⟨fun h1 a => ?_, fun h1 a => ?_, fun h1 a => ?_⟩ <;> have := (cond1_iff h).1 h1 <;> fin_cases a
  · show v5.toNat + 1 ≤ 65; omega
  · show v5.toNat + 1 ≤ 65; omega
  · show v5.toNat + 1 + 1 ≤ 65; omega

theorem off4_eq {w : BitVec 32} (h : w.toNat < 2 ^ 31) : k0_off4 w = ![w.toNat % 8] := by
  show ![(modW w 8#32).toNat] = _
  rw [modW_toNat h (by decide) (by decide)]; rfl
theorem off5_eq {w : BitVec 32} (h : w.toNat < 2 ^ 31) : k0_off5 w = ![w.toNat % 8, 0, 0] := by
  show ![(modW w 8#32).toNat, 0, 0] = _
  rw [modW_toNat h (by decide) (by decide)]; rfl
theorem off7_eq {w : BitVec 32} (h : w.toNat < 2 ^ 31) : k0_off7 w = ![w.toNat % 8, 0, 0] := by
  show ![(modW w 8#32).toNat, 0, 0] = _
  rw [modW_toNat h (by decide) (by decide)]; rfl
theorem chk4_of (v5 : BitVec 32) {w : BitVec 32} (h : w.toNat < 2 ^ 31) : k0_chk4 v5 w := by
  unfold k0_chk4
  refine ⟨fun _ => ?_, fun _ => ?_, fun _ hinb => ?_, fun _ => ?_⟩
  · rw [off4_eq h]; exact inbS8 ⟨_, Nat.mod_lt _ (by decide)⟩
  · rw [off5_eq h]; exact inb5 ⟨_, Nat.mod_lt _ (by decide)⟩
  · have h0 : k0_off5 w 1 = 0 := congrFun (off5_eq h) 1
    have h2 : 2 ≤ S8x256x1024.rank := by decide
    have ax : S8x256x1024.rowAx h2 = (1 : Fin 3) := rfl
    refine Or.inr ⟨h2, rfl, ?_, ?_⟩
    · rw [ax]; exact h0
    · rw [ax]; rfl
  · rw [off7_eq h]; exact inb6 ⟨_, Nat.mod_lt _ (by decide)⟩

theorem st_of {lo u : BitVec 32} {o : ℕ → ℕ} {e : ℕ} (hlo : lo.toNat = o e) (hl : lo.toNat ≤ 32768) (hu : u.toNat ≤ 65536) :
    (stW lo u).toNat = st o e u.toNat := by
  rw [stW_toNat hl hu, hlo]; rfl
theorem off6_eq {lo u : BitVec 32} : k0_off6 u lo = ![(stW lo u).toNat, 0] := rfl
theorem off8_eq {lo u : BitVec 32} : k0_off8 u lo = ![0, (stW lo u).toNat] := rfl
theorem chk3_of (v5 : BitVec 32) {lo u : BitVec 32} {o : ℕ → ℕ} {e : ℕ} (hlo : lo.toNat = o e) (hl : lo.toNat ≤ 32768) (hu : u.toNat ≤ 65536) :
    k0_chk3 v5 u lo := by
  have hs := st_of hlo hl hu
  have h1 := st_le (o := o) e u.toNat
  have h2 := st_dvd (o := o) e u.toNat
  unfold k0_chk3
  refine ⟨fun _ => ?_, fun _ => ?_, fun _ hinb => ?_, fun _ => ?_⟩
  · show 128 ∣ (stW lo u).toNat
    rw [hs]; exact h2
  · rw [off6_eq, hs]; exact inb1 ⟨_, by omega⟩
  · have h2' : 2 ≤ S32768x1024.rank := by decide
    have ax : S32768x1024.rowAx h2' = (0 : Fin 2) := rfl
    refine .inl (.inr ⟨h2', rfl, .inl ⟨?_, ?_⟩⟩)
    · rw [ax]; show 4 ∣ (stW lo u).toNat
      rw [hs]; omega
    · rw [ax]; show 4 ∣ 256; decide
  · rw [off8_eq, hs]; exact inb2 ⟨_, by omega⟩

/-- Whether a fetched tile was its expert's last. -/
def lastW (u lo hi : BitVec 32) : BitVec 1 := Scalar.cmpi .sge (Scalar.addi u 1#32) (nuW lo hi)
theorem lastW_eq {u lo hi : BitVec 32} {o : ℕ → ℕ} {e : ℕ} (hlo : lo.toNat = o e) (hhi : hi.toNat = o (e + 1)) (hl : lo.toNat ≤ 32768) (hh : hi.toNat ≤ 32768)
    (hu : u.toNat ≤ 65536) : lastW u lo hi = if nu o e ≤ u.toNat + 1 then 1#1 else 0#1 := by
  have hn : (nuW lo hi).toNat = nu o e := by rw [nuW_toNat hl hh, hlo, hhi]; rfl
  have hn' : nu o e ≤ 32768 := by
    have : nu o e ≤ 300 := by unfold nu; split <;> omega
    omega
  have ha : (Scalar.addi u 1#32).toNat = u.toNat + 1 := addi_toNat (by show _ + 1 < _; omega)
  unfold lastW
  rw [cmpi_sge (by omega) (by omega), ha, hn]
theorem cond2_eq (u lo hi : BitVec 32) : k0_cond2 u lo hi = Scalar.cmpi .ne (Scalar.extui (lastW u lo hi)) 0#32 := rfl

end Cert.KernelIdeal.Hand
end
-- ==== Proof.Ideal.Fetch.lean ====
module
public import proofs.«01_k».proof.Proof.Ideal.FetchWords
public import proofs.«01_k».proof.Proof.Gen.KernelIdeal.Loops

/-! One fetch, as a program before its continuation. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-- The guarded part of one fetch, before `k`. -/
def fetchGoK {α : Type} (v5 : BitVec 32) (k0_hw2 : k0_chk2 v5) (k : Prog (TpuEff nD τ sig (Elt F) Λ₀ .tc) α) : Prog (TpuEff nD τ sig (Elt F) Λ₀ .tc) α := do
  if k0_h1 : k0_cond1 v5 = 1#1 then do
    let ⟨v57, v58, k0_hw4, v60, k0_hw3⟩ : Σ' (v57 : Elt F .i32) (v58 : Elt F .i32) (k0_hw4 : k0_chk4 v5 v58) (v60 : Elt F .i32), k0_chk3 v5 v57 v60 ← k0_part3 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v5 k0_hw2 k0_h1
    let ⟨v105, v107, v110, v129, v132, c256_i32_81⟩ : Σ' (v105 : BitVec 32) (v107 : Elt F .i32) (v110 : Elt F .i32) (v129 : BitVec 1) (v132 : BitVec 32), BitVec 32 ← k0_part4 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v5 k0_hw2 k0_h1 v57 v58 k0_hw4 v60 k0_hw3
    let v133 : BitVec 32 := Scalar.divsi v132 c256_i32_81
    let c0_i32_82 : BitVec 32 := 0#32
    let v134 : BitVec 1 := Scalar.cmpi .sgt v132 c0_i32_82
    let v135 : BitVec 32 := Scalar.extui v134
    let c0_i32_83 : BitVec 32 := 0#32
    let v136 : BitVec 1 := Scalar.cmpi .slt v132 c0_i32_83
    let v137 : BitVec 32 := Scalar.extui v136
    let v138 : BitVec 32 := Scalar.subi v135 v137
    let c0_i32_84 : BitVec 32 := 0#32
    let v139 : BitVec 1 := Scalar.cmpi .sgt c256_i32_81 c0_i32_84
    let v140 : BitVec 32 := Scalar.extui v139
    let c0_i32_85 : BitVec 32 := 0#32
    let v141 : BitVec 1 := Scalar.cmpi .slt c256_i32_81 c0_i32_85
    let v142 : BitVec 32 := Scalar.extui v141
    let v143 : BitVec 32 := Scalar.subi v140 v142
    let v144 : BitVec 1 := Scalar.cmpi .ne v138 v143
    let v145 : BitVec 32 := Scalar.remsi v132 c256_i32_81
    let c0_i32_86 : BitVec 32 := 0#32
    let v146 : BitVec 1 := Scalar.cmpi .ne v145 c0_i32_86
    let v147 : BitVec 1 := Scalar.andi v144 v146
    let c1_i32_87 : BitVec 32 := 1#32
    let v148 : BitVec 32 := Scalar.subi v133 c1_i32_87
    let v149 : BitVec 32 := Scalar.select v147 v148 v133
    let c0_i32_88 : BitVec 32 := 0#32
    let v150 : BitVec 32 := Scalar.select v129 v149 c0_i32_88
    let v151 : BitVec 1 := Scalar.cmpi .sge v105 v150
    let c1_i32_89 : BitVec 32 := 1#32
    let v152 : BitVec 32 := Scalar.addi v57 c1_i32_89
    let c0_i32_90 : BitVec 32 := 0#32
    let v153 : BitVec 32 := Scalar.select v151 c0_i32_90 v152
    let c1_91 : Index := 1#32
    let v154 : Elt F .i32 ← smemLoad M14 (Rect.unit (s := S3) ![1] S1.size inb_S3_S1_1) numel1_S1 rfl
    Prog.lift (.store M14 (Rect.unit (s := S3) ![1] S1.size inb_S3_S1_1) (fun _ => v153) Finset.univ (View.stores_smem_one rfl numel1_S1) (.inl rfl))
    let v155 : BitVec 32 := Scalar.extui v151
    let c0_i32_92 : BitVec 32 := 0#32
    let v156 : BitVec 1 := Scalar.cmpi .ne v155 c0_i32_92
    if k0_h2 : k0_cond2 v57 v107 v110 = 1#1 then do
      let c1_i32_93 : BitVec 32 := 1#32
      let v157 : BitVec 32 := Scalar.addi v5 c1_i32_93
      let c0_i32_94 : BitVec 32 := 0#32
      let c64_i32_95 : BitVec 32 := 64#32
      let v158 : BitVec 32 := Scalar.addi c0_i32_94 c64_i32_95
      let c1_i32_96 : BitVec 32 := 1#32
      let v159 : BitVec 32 ← Scf.Loop.for k0_t2_loop k0_t2_ok v157 fun k0_t2 arg16 => do
        let ⟨v161, v186, v189, c256_i32_110, v190, v195, v200⟩ : Σ' (v161 : BitVec 1) (v186 : BitVec 1) (v189 : BitVec 32) (c256_i32_110 : BitVec 32) (v190 : BitVec 32) (v195 : BitVec 32), BitVec 32 ← k0_part2 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v5 k0_h1 v57 v107 v110 k0_h2 c0_i32_94 c1_i32_96 k0_t2 arg16
        let v201 : BitVec 1 := Scalar.cmpi .ne v195 v200
        let v202 : BitVec 32 := Scalar.remsi v189 c256_i32_110
        let c0_i32_115 : BitVec 32 := 0#32
        let v203 : BitVec 1 := Scalar.cmpi .ne v202 c0_i32_115
        let v204 : BitVec 1 := Scalar.andi v201 v203
        let c1_i32_116 : BitVec 32 := 1#32
        let v205 : BitVec 32 := Scalar.subi v190 c1_i32_116
        let v206 : BitVec 32 := Scalar.select v204 v205 v190
        let c0_i32_117 : BitVec 32 := 0#32
        let v207 : BitVec 32 := Scalar.select v186 v206 c0_i32_117
        let c0_i32_118 : BitVec 32 := 0#32
        let v208 : BitVec 1 := Scalar.cmpi .eq v207 c0_i32_118
        let v209 : BitVec 1 := Scalar.andi v161 v208
        let c1_i32_119 : BitVec 32 := 1#32
        let v210 : BitVec 32 := Scalar.addi arg16 c1_i32_119
        let v211 : BitVec 32 := Scalar.select v209 v210 arg16
        pure v211
      let c0_97 : Index := 0#32
      let v160 : Elt F .i32 ← smemLoad M14 (Rect.unit (s := S3) ![0] S1.size inb_S3_S1_0) numel1_S1 rfl
      Prog.lift (.store M14 (Rect.unit (s := S3) ![0] S1.size inb_S3_S1_0) (fun _ => v159) Finset.univ (View.stores_smem_one rfl numel1_S1) (.inl rfl))
      pure ⟨⟩
    else do
      pure ⟨⟩
    pure ⟨⟩
  else do
    pure ⟨⟩
  k

/-- One fetch, before `k`. -/
def fetchK {α : Type} (k : Prog (TpuEff nD τ sig (Elt F) Λ₀ .tc) α) : Prog (TpuEff nD τ sig (Elt F) Λ₀ .tc) α := do
  let v5 : Elt F .i32 ← smemLoad M14 (Rect.unit (s := S3) ![0] S1.size inb_S3_S1_0) numel1_S1 rfl
  have k0_hw2 : k0_chk2 v5 := (← Prog.lift (TpuEff.assume (k0_chk2 v5) (k0_chk2.dec v5))).down
  fetchGoK v5 k0_hw2 k

/-- The first search and the cursor's start, before `k`. -/
def headK {α : Type} (k : Prog (TpuEff nD τ sig (Elt F) Λ₀ .tc) α) : Prog (TpuEff nD τ sig (Elt F) Λ₀ .tc) α := do
  let c0_i32 : BitVec 32 := 0#32
  let c0_i32_0 : BitVec 32 := 0#32
  let c64_i32 : BitVec 32 := 64#32
  let v0 : BitVec 32 := Scalar.addi c0_i32_0 c64_i32
  let c1_i32 : BitVec 32 := 1#32
  let v1 : BitVec 32 ← Scf.Loop.for k0_t1_loop k0_t1_ok c0_i32 fun k0_t1 arg16 => do
    let ⟨v57, v82, v85, c256_i32_57, v86, v91, v96⟩ : Σ' (v57 : BitVec 1) (v82 : BitVec 1) (v85 : BitVec 32) (c256_i32_57 : BitVec 32) (v86 : BitVec 32) (v91 : BitVec 32), BitVec 32 ← k0_part1 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) c0_i32_0 c1_i32 k0_t1 arg16
    let v97 : BitVec 1 := Scalar.cmpi .ne v91 v96
    let v98 : BitVec 32 := Scalar.remsi v85 c256_i32_57
    let c0_i32_62 : BitVec 32 := 0#32
    let v99 : BitVec 1 := Scalar.cmpi .ne v98 c0_i32_62
    let v100 : BitVec 1 := Scalar.andi v97 v99
    let c1_i32_63 : BitVec 32 := 1#32
    let v101 : BitVec 32 := Scalar.subi v86 c1_i32_63
    let v102 : BitVec 32 := Scalar.select v100 v101 v86
    let c0_i32_64 : BitVec 32 := 0#32
    let v103 : BitVec 32 := Scalar.select v82 v102 c0_i32_64
    let c0_i32_65 : BitVec 32 := 0#32
    let v104 : BitVec 1 := Scalar.cmpi .eq v103 c0_i32_65
    let v105 : BitVec 1 := Scalar.andi v57 v104
    let c1_i32_66 : BitVec 32 := 1#32
    let v106 : BitVec 32 := Scalar.addi arg16 c1_i32_66
    let v107 : BitVec 32 := Scalar.select v105 v106 arg16
    pure v107
  let c0 : Index := 0#32
  let v2 : Elt F .i32 ← smemLoad M14 (Rect.unit (s := S3) ![0] S1.size inb_S3_S1_0) numel1_S1 rfl
  Prog.lift (.store M14 (Rect.unit (s := S3) ![0] S1.size inb_S3_S1_0) (fun _ => v1) Finset.univ (View.stores_smem_one rfl numel1_S1) (.inl rfl))
  let c0_i32_1 : BitVec 32 := 0#32
  let c1 : Index := 1#32
  let v3 : Elt F .i32 ← smemLoad M14 (Rect.unit (s := S3) ![1] S1.size inb_S3_S1_1) numel1_S1 rfl
  Prog.lift (.store M14 (Rect.unit (s := S3) ![1] S1.size inb_S3_S1_1) (fun _ => c0_i32_1) Finset.univ (View.stores_smem_one rfl numel1_S1) (.inl rfl))
  let c0_i32_2 : BitVec 32 := 0#32
  let c2 : Index := 2#32
  let v4 : Elt F .i32 ← smemLoad M14 (Rect.unit (s := S3) ![2] S1.size inb_S3_S1_2) numel1_S1 rfl
  Prog.lift (.store M14 (Rect.unit (s := S3) ![2] S1.size inb_S3_S1_2) (fun _ => c0_i32_2) Finset.univ (View.stores_smem_one rfl numel1_S1) (.inl rfl))
  k

set_option maxHeartbeats 2000000 in
theorem part47_eq : k0_part47 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) =
    headK (fetchK (fetchK (fetchK (fetchK (do
      let v5 : Elt F .i32 ← smemLoad M14 (Rect.unit (s := S3) ![0] S1.size inb_S3_S1_0) numel1_S1 rfl
      have k0_hw2 : k0_chk18 v5 := (← Prog.lift (TpuEff.assume (k0_chk18 v5) (k0_chk18.dec v5))).down
      pure ⟨v5, k0_hw2, Scalar.extui (Scalar.cmpi .slt v5 64#32), 0#32⟩))))) := rfl

end Cert.KernelIdeal.Hand
end
-- ==== Proof.Ideal.FetchSpec.lean ====
module
public import proofs.«01_k».proof.Proof.Ideal.Fetch
public import Idealize.ShloMosaic.Lib.CellWrites

/-! What one fetch does to the cursor and the rings. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-- Word `k` of the cursor. -/
def i3 (k : Fin 3) : S3.Idx := fun a => ⟨k.val, by fin_cases a; exact k.isLt⟩
theorem read14 (cu : S3.Idx → BitVec 32) (k : Fin 3) (off : Fin 1 → ℕ) (h : ∀ a, off a + S1.size a ≤ S3.size a) (p) (he : off 0 = k.val) :
    View.readAt (Val := Elt F) M14.view (Rect.unit (s := S3) off S1.size h).toLoadRect cu (Shape.Idx.first p) = cu (i3 k) := by
  show cu _ = cu _
  congr 1
  funext a
  fin_cases a
  apply Fin.ext
  have h0 : (Shape.Idx.first p 0).val < 1 := (Shape.Idx.first p 0).isLt
  show off 0 + 1 * (Shape.Idx.first p 0).val = k.val
  omega

theorem w14 (cu : S3.Idx → BitVec 32) (off : Fin 1 → ℕ) (h : ∀ a, off a + S1.size a ≤ S3.size a) (x : BitVec 32) (L) (k : Fin 3) :
    M14.view.writes (Elt F) cu (⟨Rect.unit (s := S3) off S1.size h, fun _ => x⟩ :: L) (i3 k)
      = if k.val = off 0 then x else M14.view.writes (Elt F) cu L (i3 k) :=
  View.read_writes_cons_cell (Val := Elt F) M14.view cu h x L (i3 k)

/-- The cursor's words after `g` tiles. -/
def CurW (o : ℕ → ℕ) (cu : S3.Idx → BitVec 32) (g : ℕ) : Prop :=
  Cur o g (cu (i3 0)).toNat (cu (i3 1)).toNat ∧ (cu (i3 2)).toNat = g

theorem Cur.fe_le {o : ℕ → ℕ} {g fe fu : ℕ} (h : Cur o g fe fu) : fe ≤ 64 := by
  rcases h with ⟨h, _, _⟩ | ⟨h, _, _⟩ <;> omega
theorem Cur.fu_le {o : ℕ → ℕ} {g fe fu : ℕ} (hO : Ok o) (h : Cur o g fe fu) : fu ≤ 128 := by
  rcases h with ⟨h, h2, _⟩ | ⟨_, h, _⟩
  · have := nu_le hO h; omega
  · omega

variable (c : Dev nD) (X : Buf (Elt F) (M1.view.loc (c : Thread nD τ))) (Y : Buf (Elt F) (M2.view.loc (c : Thread nD τ)))

/-- The cursor after `g` tiles. -/
def CurAt (o : S65.Idx → BitVec 32) (g : ℕ) : sProp 𝕄 :=
  iprop(∃ cu : S3.Idx → BitVec 32, (M14.view.loc (c : Thread nD τ) ↦{fullShare} cu) ∗ ⌜CurW (offN o) cu g⌝)

theorem fetchGo_spec (o : S65.Idx → BitVec 32) (hO : Ok (offN o)) (v5 : BitVec 32) (hw2 : k0_chk2 v5) (cu : S3.Idx → BitVec 32) (hv : cu (i3 0) = v5) (gc gf : ℕ)
    (h1 : gc ≤ gf) (h2 : gf < gc + 8) (hcu : CurW (offN o) cu gf) {α : Type} (k : Prog (TpuEff nD τ sig (Elt F) Λ₀ .tc) α) (Q : α → sProp 𝕄) :
    iprop((M0.view.loc (c : Thread nD τ) ↦{fullShare} o) ∗ (M14.view.loc (c : Thread nD τ) ↦{fullShare} cu) ∗ Ring c X Y (offN o) gc gf
        ∗ ((M0.view.loc (c : Thread nD τ) ↦{fullShare} o) -∗ CurAt c o (min (gf + 1) (base (offN o) 64)) -∗ Ring c X Y (offN o) gc (min (gf + 1) (base (offN o) 64)) -∗ wp frame (wpE (defs₀ (F := F)) Variants.none (c : Thread nD τ) none) Set.univ k Q))
      ⊢ wp frame (wpE (defs₀ (F := F)) Variants.none (c : Thread nD τ) none) Set.univ (fetchGoK v5 hw2 k) Q := by
  obtain ⟨hc1, hc2⟩ := hcu
  rw [hv] at hc1
  have hfe := Cur.fe_le hc1
  have hfu := Cur.fu_le hO hc1
  have hg := hc1.le
  have hb := base_le hO (e := 64) le_rfl
  by_cases hlt : v5.toNat < 64
  · have hc : k0_cond1 v5 = 1#1 := (cond1_iff hfe).2 hlt
    have hgl := hc1.lt_iff.1 hlt
    have ho1 := hO.bound (a := v5.toNat) (by omega)
    have ho2 := hO.bound (a := v5.toNat + 1) (by omega)
    have a4 : k0_chk4 v5 (cu (i3 2)) := chk4_of v5 (by omega)
    have a3 : k0_chk3 v5 (cu (i3 1)) (o (i65 v5.toNat (by omega))) :=
      chk3_of v5 (o := offN o) (e := v5.toNat) (offN_of _).symm (by rw [← offN_of]; exact ho1) (by omega)
    iintro ⟨H0, H14, HR, HK⟩
    unfold fetchGoK
    sl_exec
    have e0 : fetchGo_spec.sl.r (F := F) cu = cu (i3 1) := read14 (F := F) cu 1 _ _ _ rfl
    have e1 : fetchGo_spec.sl.r_1 (F := F) cu = cu (i3 2) := read14 (F := F) cu 2 _ _ _ rfl
    rw [← e1] at a4
    rw [← e0] at a3
    sl_exec
    have e2 : fetchGo_spec.sl.r_2 (F := F) o v5 hw2 hc = o (i65 v5.toNat (by omega)) := read0 (F := F) o _ _ _ v5.toNat rfl _
    rw [← e2] at a3
    sl_exec
    have x4 : k0_off4 (fetchGo_spec.sl.r_1 (F := F) cu) = ![(cellOf8 gf).val] := by rw [e1, off4_eq (by omega), hc2]; rfl
    have x5 : k0_off5 (fetchGo_spec.sl.r_1 (F := F) cu) = ![(cellOf8 gf).val, 0, 0] := by rw [e1, off5_eq (by omega), hc2]; rfl
    have x7 : k0_off7 (fetchGo_spec.sl.r_1 (F := F) cu) = ![(cellOf8 gf).val, 0, 0] := by rw [e1, off7_eq (by omega), hc2]; rfl
    have hst : (stW (o (i65 v5.toNat (by omega))) (cu (i3 1))).toNat = (row (offN o) gf).val := by
      rw [st_of (o := offN o) (e := v5.toNat) (offN_of _).symm (by rw [← offN_of]; exact ho1) (by omega), ← hc1.gst hlt]; rfl
    have x6 : k0_off6 (fetchGo_spec.sl.r (F := F) cu) (fetchGo_spec.sl.r_2 (F := F) o v5 hw2 hc) = ![(row (offN o) gf).val, 0] := by rw [e0, e2, off6_eq, hst]
    have x8 : k0_off8 (fetchGo_spec.sl.r (F := F) cu) (fetchGo_spec.sl.r_2 (F := F) o v5 hw2 hc) = ![0, (row (offN o) gf).val] := by rw [e0, e2, off8_eq, hst]
    unfold Ring
    ihave ⟨⟨HC, HS⟩, HR⟩ := (ring_take _ _ h1 h2) $$ HR
    iapply (enq_codes c X (cellOf8 gf) (row (offN o) gf) x5 x4 x6) $$ HC
    iintro HC
    sl_exec
    iapply (enq_scales c Y (cellOf8 gf) (row (offN o) gf) x7 x4 x8) $$ HS
    iintro HS
    ihave HR := HR $$ [HC HS]
    · isplitl [HC]; · iexact HC
      iexact HS
    sl_exec
    have e4 : fetchGo_spec.sl.r_4 (F := F) o v5 hw2 hc = o (i65 v5.toNat (by omega)) := read0 (F := F) o _ _ _ v5.toNat rfl _
    have e5 : fetchGo_spec.sl.r_5 (F := F) o v5 hw2 hc = o (i65 (v5.toNat + 1) (by omega)) := read0 (F := F) o _ _ _ (v5.toNat + 1) (congrFun (off10_eq hfe) 0) _
    have hlw : lastW (fetchGo_spec.sl.r (F := F) cu) (fetchGo_spec.sl.r_4 (F := F) o v5 hw2 hc) (fetchGo_spec.sl.r_5 (F := F) o v5 hw2 hc) = if nu (offN o) v5.toNat ≤ (cu (i3 1)).toNat + 1 then 1#1 else 0#1 := by
      rw [e0, e4, e5]
      exact lastW_eq (o := offN o) (offN_of _).symm (offN_of _).symm (by rw [← offN_of]; exact ho1) (by rw [← offN_of]; exact ho2) (by omega)
    have hcd := cond2_eq (fetchGo_spec.sl.r (F := F) cu) (fetchGo_spec.sl.r_4 (F := F) o v5 hw2 hc) (fetchGo_spec.sl.r_5 (F := F) o v5 hw2 hc)
    rw [hlw] at hcd
    have hmin : min (gf + 1) (base (offN o) 64) = gf + 1 := by omega
    rw [hmin]
    by_cases hlast : nu (offN o) v5.toNat ≤ (cu (i3 1)).toNat + 1
    · rw [if_pos hlast] at hcd hlw
      have hcd' : k0_cond2 (fetchGo_spec.sl.r (F := F) cu) (fetchGo_spec.sl.r_4 (F := F) o v5 hw2 hc) (fetchGo_spec.sl.r_5 (F := F) o v5 hw2 hc) = 1#1 := by rw [hcd]; decide
      have hsk : Skip (offN o) (Scalar.addi v5 1#32).toNat 0 (Scalar.addi v5 1#32).toNat :=
        Skip.zero (by rw [addi_toNat (by show _ + 1 < _; omega)]; show _ + 1 ≤ _; omega)
      have li := @loopInv_k0_t2 F _ c o hO
      sl_exec
      iapply HK $$ H0 [H14] HR
      unfold CurAt
      iexists _
      isplitl [H14]
      · iexact H14
      · ipureintro
        have hd := hL1.done
        have h5 : (Scalar.addi v5 1#32).toNat = v5.toNat + 1 := addi_toNat (by show _ + 1 < _; omega)
        have hb5 : base (offN o) (Scalar.addi v5 1#32).toNat = gf + 1 := by rw [h5]; exact hc1.last hlt (by omega)
        change Cur (offN o) (base (offN o) (Scalar.addi v5 1#32).toNat) _ 0 at hd
        rw [hb5] at hd
        refine ⟨?_, ?_⟩
        · rw [w14, if_pos (by decide), w14, if_neg (by decide), w14, if_pos (by decide), show fetchGo_spec.sl.v153 (F := F) o v5 hw2 cu hc = 0#32 from ?_]
          · exact hd
          · show Scalar.select (lastW _ _ _) 0#32 _ = _
            rw [hlw]; rfl
        · rw [w14, if_neg (by decide), w14, if_neg (by decide), w14, if_pos (by decide)]
          show (Scalar.addi (fetchGo_spec.sl.r_1 (F := F) cu) 1#32).toNat = _
          rw [e1, addi_toNat (by show _ + 1 < _; omega), hc2]; rfl
    · rw [if_neg hlast] at hcd hlw
      have hcd' : ¬ k0_cond2 (fetchGo_spec.sl.r (F := F) cu) (fetchGo_spec.sl.r_4 (F := F) o v5 hw2 hc) (fetchGo_spec.sl.r_5 (F := F) o v5 hw2 hc) = 1#1 := by rw [hcd]; decide
      rw [dif_neg hcd']
      iapply HK $$ H0 [H14] HR
      unfold CurAt
      iexists _
      isplitl [H14]
      · iexact H14
      · ipureintro
        have hn := hc1.next hlt (by omega)
        refine ⟨?_, ?_⟩
        · rw [w14, if_neg (by decide), w14, if_neg (by decide), w14, if_pos (by decide), show fetchGo_spec.sl.v153 (F := F) o v5 hw2 cu hc = Scalar.addi (cu (i3 1)) 1#32 from ?_]
          · rw [addi_toNat (by show _ + 1 < _; omega)]
            show Cur _ _ (cu (i3 0)).toNat _
            rw [hv]; exact hn
          · show Scalar.select (lastW _ _ _) 0#32 _ = _
            rw [hlw, ← e0]; rfl
        · rw [w14, if_neg (by decide), w14, if_pos (by decide)]
          show (Scalar.addi (fetchGo_spec.sl.r_1 (F := F) cu) 1#32).toNat = _
          rw [e1, addi_toNat (by show _ + 1 < _; omega), hc2]; rfl
  · have hc : ¬ k0_cond1 v5 = 1#1 := fun h => hlt ((cond1_iff hfe).1 h)
    have hge : min (gf + 1) (base (offN o) 64) = gf := by
      have := mt hc1.lt_iff.2 hlt; omega
    rw [hge]
    iintro ⟨H0, H14, HR, HK⟩
    unfold fetchGoK
    rw [dif_neg hc]
    iapply HK $$ H0 [H14] HR
    unfold CurAt
    iexists cu
    isplitl [H14]
    · iexact H14
    · ipureintro; exact ⟨by rw [hv]; exact hc1, hc2⟩

theorem fetch_spec (o : S65.Idx → BitVec 32) (hO : Ok (offN o)) (gc gf : ℕ)
    (h1 : gc ≤ gf) (h2 : gf < gc + 8) {α : Type} (k : Prog (TpuEff nD τ sig (Elt F) Λ₀ .tc) α) (Q : α → sProp 𝕄) :
    iprop((M0.view.loc (c : Thread nD τ) ↦{fullShare} o) ∗ CurAt c o gf ∗ Ring c X Y (offN o) gc gf
        ∗ ((M0.view.loc (c : Thread nD τ) ↦{fullShare} o) -∗ CurAt c o (min (gf + 1) (base (offN o) 64)) -∗ Ring c X Y (offN o) gc (min (gf + 1) (base (offN o) 64)) -∗ wp frame (wpE (defs₀ (F := F)) Variants.none (c : Thread nD τ) none) Set.univ k Q))
      ⊢ wp frame (wpE (defs₀ (F := F)) Variants.none (c : Thread nD τ) none) Set.univ (fetchK k) Q := by
  unfold CurAt
  iintro ⟨H0, ⟨%cu, H14, %hcu⟩, HR, HK⟩
  unfold fetchK
  sl_exec
  have e : fetch_spec.sl.r (F := F) cu = cu (i3 0) := read14 (F := F) cu 0 _ _ _ rfl
  have hw : k0_chk2 (fetch_spec.sl.r (F := F) cu) := by rw [e]; exact chk2_of (Cur.fe_le hcu.1)
  sl_exec
  iapply fetchGo_spec c X Y o hO _ _ cu e.symm gc gf h1 h2 hcu k Q
  isplitl [H0]
  · iexact H0
  isplitl [H14]
  · iexact H14
  isplitl [HR]
  · iexact HR
  · unfold CurAt
    iexact HK

end Cert.KernelIdeal.Hand
end
-- ==== Proof.Ideal.ExpertWords.lean ====
module
public import proofs.«01_k».proof.Proof.Ideal.FetchSpec
public import Idealize.ShloMosaic.Lib.LoopRemainder

/-! The words, offsets and checks of the loop over the experts, as numbers. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
/-- The word of the output slot that the `p`-th filled expert uses. -/
theorem slot_toNat {p : BitVec 32} (hp : p.toNat < 2 ^ 31) : (modW p 11#32).toNat = p.toNat % 11 := by
  rw [modW_toNat hp (by decide) (by decide)]; rfl
theorem pos_of {lo hi : BitVec 32} (hl : lo.toNat ≤ 32768) (hh : hi.toNat ≤ 32768) : k0_cond16 lo hi = 1#1 ↔ lo.toNat < hi.toNat := by
  have e : k0_cond16 lo hi = Scalar.cmpi .ne (Scalar.extui (Scalar.cmpi .sgt (nuW lo hi) 0#32) : BitVec 32) 0#32 := rfl
  have hn := nuW_toNat hl hh
  have hb : (nuW lo hi).toNat < 2 ^ 31 := by rw [hn]; split <;> omega
  rw [e, cmpi_sgt hb (by decide)]
  have h0 : (0#32 : BitVec 32).toNat = 0 := rfl
  rw [h0]
  by_cases h : lo.toNat < hi.toNat
  · rw [if_pos h] at hn
    rw [if_pos (by omega)]; exact ⟨fun _ => h, fun _ => by decide⟩
  · rw [if_neg h] at hn
    rw [if_neg (by omega)]; exact ⟨fun k => absurd k (by decide), fun k => absurd k h⟩
theorem cond17_iff {p : BitVec 32} (hp : p.toNat < 2 ^ 31) : k0_cond17 p = 1#1 ↔ 11 ≤ p.toNat := by
  have e : k0_cond17 p = Scalar.cmpi .ne (Scalar.extui (Scalar.cmpi .sge p 11#32) : BitVec 32) 0#32 := rfl
  rw [e, cmpi_sge hp (by decide)]
  have h0 : (11#32 : BitVec 32).toNat = 11 := rfl
  rw [h0]
  by_cases h : 11 ≤ p.toNat
  · rw [if_pos h]; exact ⟨fun _ => h, fun _ => by decide⟩
  · rw [if_neg h]; exact ⟨fun k => absurd k (by decide), fun k => absurd k h⟩
theorem iv01 {n : ℕ} (h : n < 2 ^ 31) : (Scf.iv 0#32 1#32 n).toNat = n := by
  unfold Scf.iv
  rw [BitVec.toNat_add, BitVec.toNat_mul]
  have h0 : (0#32 : BitVec 32).toNat = 0 := rfl
  have h1 : (1#32 : BitVec 32).toNat = 1 := rfl
  have h2 : (BitVec.ofNat 32 n).toNat = n := by rw [BitVec.toNat_ofNat]; omega
  rw [h0, h1, h2]; omega
theorem t11_ub (lo hi : BitVec 32) : (k0_t11_loop lo hi).ub = nuW lo hi := by
  have e : (k0_t11_loop lo hi).ub = Scalar.addi 0#32 (Scalar.muli (Scalar.divsi (Scalar.subi (nuW lo hi) 0#32) 1#32) 1#32) := rfl
  rw [e, Scalar.muli_divsi_one]
  unfold Scalar.addi Scalar.subi IntOp.addi IntOp.subi
  simp
/-- The unit loop of an expert makes one trip a unit. -/
theorem t11_trips {lo hi : BitVec 32} (hl : lo.toNat ≤ 32768) (hh : hi.toNat ≤ 32768) : (k0_t11_loop lo hi).trips = (nuW lo hi).toNat := by
  have hn := nuW_toNat hl hh
  have hb : (nuW lo hi).toNat < 2 ^ 31 := by rw [hn]; split <;> omega
  show Scf.trips (k0_t11_loop lo hi).lb (k0_t11_loop lo hi).ub (k0_t11_loop lo hi).st = _
  rw [t11_ub]
  have e : Scf.trips (k0_t11_loop lo hi).lb (nuW lo hi) (k0_t11_loop lo hi).st = Scf.trips 0#32 (nuW lo hi) 1#32 := rfl
  rw [e]; unfold Scf.trips
  rw [BitVec.toInt_eq_toNat_of_lt (x := nuW lo hi) (by omega)]
  have h0 : (0#32 : BitVec 32).toInt = 0 := by decide
  have h1 : (1#32 : BitVec 32).toInt = 1 := by decide
  rw [h0, h1]; omega
theorem t11_le {lo hi : BitVec 32} (hl : lo.toNat ≤ 32768) (hh : hi.toNat ≤ 32768) (k : Fin (k0_t11_loop lo hi).trips) : k.1 < 257 := by
  have h := lt_of_lt_of_eq k.isLt (t11_trips hl hh)
  have hn := nuW_toNat hl hh
  rw [hn] at h; split at h <;> omega
theorem t11_OK {lo hi : BitVec 32} (hl : lo.toNat ≤ 32768) (hh : hi.toNat ≤ 32768) : (k0_t11_loop lo hi).OK := by
  have ht := t11_trips hl hh
  have hn := nuW_toNat hl hh
  have hb : (nuW lo hi).toNat < 258 := by rw [hn]; split <;> omega
  have h0 : (k0_t11_loop lo hi).lb.toInt = 0 := by show (0#32 : BitVec 32).toInt = 0; decide
  have h1 : (k0_t11_loop lo hi).st.toInt = 1 := by show (1#32 : BitVec 32).toInt = 1; decide
  refine ⟨by rw [h1]; decide, ?_⟩
  have e : Scf.trips (k0_t11_loop lo hi).lb (k0_t11_loop lo hi).ub (k0_t11_loop lo hi).st = (nuW lo hi).toNat := ht
  rw [h0, h1, e]; norm_num; omega
theorem t13_no {lo hi : BitVec 32} (k : Fin (k0_t13_loop lo hi).trips) : False :=
  Scf.rem_no_trip 0#32 (Scalar.subi (nuW lo hi) 0#32) k
theorem t13_OK (lo hi : BitVec 32) : (k0_t13_loop lo hi).OK :=
  Scf.rem_ok 0#32 (Scalar.subi (nuW lo hi) 0#32)
/-- The ring slot of unit `g + u`. -/
theorem off96_eq {g lo hi : BitVec 32} (hg : g.toNat < 2 ^ 30) (hl : lo.toNat ≤ 32768) (hh : hi.toNat ≤ 32768) (k : Fin (k0_t11_loop lo hi).trips) :
    (modW (Scalar.addi g (Scf.iv 0#32 1#32 k.1)) 8#32).toNat = (g.toNat + k.1) % 8 := by
  have hk := t11_le hl hh k
  have hi' : (Scf.iv 0#32 1#32 k.1).toNat = k.1 := iv01 (by omega)
  have ha : (Scalar.addi g (Scf.iv 0#32 1#32 k.1)).toNat = g.toNat + k.1 := by
    rw [addi_toNat (by rw [hi']; omega), hi']
  rw [modW_toNat (by omega) (by decide) (by decide), ha]; rfl
theorem inb5' {n : ℕ} (h : n < 8) : ∀ a, (![n, 0, 0] : Fin 3 → ℕ) a + S1x256x1024.size a ≤ S8x256x1024.size a := inb5 ⟨n, h⟩
theorem inb6' {n : ℕ} (h : n < 8) : ∀ a, (![n, 0, 0] : Fin 3 → ℕ) a + S1x16x256.size a ≤ S8x16x256.size a := inb6 ⟨n, h⟩
theorem inbS8' {n : ℕ} (h : n < 8) : ∀ a, (![n] : Fin 1 → ℕ) a + S1.size a ≤ S8.size a := inbS8 ⟨n, h⟩
theorem inbS11' {n : ℕ} (h : n < 11) : ∀ a, (![n] : Fin 1 → ℕ) a + S1.size a ≤ S11.size a := by
  intro a; fin_cases a; show n + 1 ≤ 11; omega
theorem inbF' {n : ℕ} (h : n < 11) : ∀ a, (![n, 0, 0] : Fin 3 → ℕ) a + S1x1024x1024.size a ≤ S11x1024x1024.size a := by
  intro a; fin_cases a
  · show n + 1 ≤ 11; omega
  · show 0 + 1024 ≤ 1024; omega
  · show 0 + 1024 ≤ 1024; omega
theorem inbB' {n x y : ℕ} (h : n < 11) (hx : x + 256 ≤ 1024) (hy : y + 256 ≤ 1024) :
    ∀ a, (![n, x, y] : Fin 3 → ℕ) a + S1x256x256.size a ≤ S11x1024x1024.size a := by
  intro a; fin_cases a
  · show n + 1 ≤ 11; omega
  · show x + 256 ≤ 1024; omega
  · show y + 256 ≤ 1024; omega

theorem inbC512 {n y : ℕ} (h : n < 11) (hy : y + 256 ≤ 1024) :
    ∀ a, (![n, 0, y] : Fin 3 → ℕ) a + S1x512x256.size a ≤ S11x1024x1024.size a := by
  intro a; fin_cases a
  · show n + 1 ≤ 11; omega
  · show 0 + 512 ≤ 1024; omega
  · show y + 256 ≤ 1024; omega

theorem inbC768 {n y : ℕ} (h : n < 11) (hy : y + 256 ≤ 1024) :
    ∀ a, (![n, 0, y] : Fin 3 → ℕ) a + S1x768x256.size a ≤ S11x1024x1024.size a := by
  intro a; fin_cases a
  · show n + 1 ≤ 11; omega
  · show 0 + 768 ≤ 1024; omega
  · show y + 256 ≤ 1024; omega

theorem inbC1024 {n y : ℕ} (h : n < 11) (hy : y + 256 ≤ 1024) :
    ∀ a, (![n, 0, y] : Fin 3 → ℕ) a + S1x1024x256.size a ≤ S11x1024x1024.size a := by
  intro a; fin_cases a
  · show n + 1 ≤ 11; omega
  · show 0 + 1024 ≤ 1024; omega
  · show y + 256 ≤ 1024; omega

theorem off84_eq {p : BitVec 32} (hp : p.toNat < 2 ^ 31) : k0_off84 p = ![p.toNat % 11, 0, 0] := by
  rw [← slot_toNat hp]; rfl

theorem off103_eq {p : BitVec 32} (hp : p.toNat < 2 ^ 31) : k0_off103 p = ![p.toNat % 11, 0, 0] := by
  rw [← slot_toNat hp]; rfl

theorem off104_eq {p : BitVec 32} (hp : p.toNat < 2 ^ 31) : k0_off104 p = ![p.toNat % 11, 0, 0] := by
  rw [← slot_toNat hp]; rfl

theorem off105_eq {p : BitVec 32} (hp : p.toNat < 2 ^ 31) : k0_off105 p = ![p.toNat % 11, 0, 256] := by
  rw [← slot_toNat hp]; rfl

theorem off106_eq {p : BitVec 32} (hp : p.toNat < 2 ^ 31) : k0_off106 p = ![p.toNat % 11, 0, 256] := by
  rw [← slot_toNat hp]; rfl

theorem off107_eq {p : BitVec 32} (hp : p.toNat < 2 ^ 31) : k0_off107 p = ![p.toNat % 11, 0, 512] := by
  rw [← slot_toNat hp]; rfl

theorem off108_eq {p : BitVec 32} (hp : p.toNat < 2 ^ 31) : k0_off108 p = ![p.toNat % 11, 0, 512] := by
  rw [← slot_toNat hp]; rfl

theorem off109_eq {p : BitVec 32} (hp : p.toNat < 2 ^ 31) : k0_off109 p = ![p.toNat % 11, 0, 768] := by
  rw [← slot_toNat hp]; rfl

theorem off110_eq {p : BitVec 32} (hp : p.toNat < 2 ^ 31) : k0_off110 p = ![p.toNat % 11, 0, 768] := by
  rw [← slot_toNat hp]; rfl

theorem off137_eq {p : BitVec 32} (hp : p.toNat < 2 ^ 31) : k0_off137 p = ![p.toNat % 11, 0, 256] := by
  rw [← slot_toNat hp]; rfl

theorem off138_eq {p : BitVec 32} (hp : p.toNat < 2 ^ 31) : k0_off138 p = ![p.toNat % 11, 256, 0] := by
  rw [← slot_toNat hp]; rfl

theorem off139_eq {p : BitVec 32} (hp : p.toNat < 2 ^ 31) : k0_off139 p = ![p.toNat % 11, 0, 512] := by
  rw [← slot_toNat hp]; rfl

theorem off140_eq {p : BitVec 32} (hp : p.toNat < 2 ^ 31) : k0_off140 p = ![p.toNat % 11, 512, 0] := by
  rw [← slot_toNat hp]; rfl

theorem off141_eq {p : BitVec 32} (hp : p.toNat < 2 ^ 31) : k0_off141 p = ![p.toNat % 11, 0, 768] := by
  rw [← slot_toNat hp]; rfl

theorem off142_eq {p : BitVec 32} (hp : p.toNat < 2 ^ 31) : k0_off142 p = ![p.toNat % 11, 768, 0] := by
  rw [← slot_toNat hp]; rfl

theorem off143_eq {p : BitVec 32} (hp : p.toNat < 2 ^ 31) : k0_off143 p = ![p.toNat % 11, 256, 512] := by
  rw [← slot_toNat hp]; rfl

theorem off144_eq {p : BitVec 32} (hp : p.toNat < 2 ^ 31) : k0_off144 p = ![p.toNat % 11, 512, 256] := by
  rw [← slot_toNat hp]; rfl

theorem off145_eq {p : BitVec 32} (hp : p.toNat < 2 ^ 31) : k0_off145 p = ![p.toNat % 11, 256, 768] := by
  rw [← slot_toNat hp]; rfl

theorem off146_eq {p : BitVec 32} (hp : p.toNat < 2 ^ 31) : k0_off146 p = ![p.toNat % 11, 768, 256] := by
  rw [← slot_toNat hp]; rfl

theorem off147_eq {p : BitVec 32} (hp : p.toNat < 2 ^ 31) : k0_off147 p = ![p.toNat % 11, 512, 768] := by
  rw [← slot_toNat hp]; rfl

theorem off148_eq {p : BitVec 32} (hp : p.toNat < 2 ^ 31) : k0_off148 p = ![p.toNat % 11, 768, 512] := by
  rw [← slot_toNat hp]; rfl

theorem off151_eq {p : BitVec 32} (hp : p.toNat < 2 ^ 31) : k0_off151 p = ![p.toNat % 11, 0, 0] := by
  rw [← slot_toNat hp]; rfl

theorem off82_eq {p : BitVec 32} (hp : p.toNat < 2 ^ 31) : k0_off82 p = ![p.toNat % 11] := by
  rw [← slot_toNat hp]; rfl

theorem off149_eq {p : BitVec 32} (hp : p.toNat < 2 ^ 31) : k0_off149 p = ![p.toNat % 11] := by
  rw [← slot_toNat hp]; rfl

theorem off96_eq' {g lo hi : BitVec 32} (hg : g.toNat < 2 ^ 30) (hl : lo.toNat ≤ 32768) (hh : hi.toNat ≤ 32768) (k : Fin (k0_t11_loop lo hi).trips) :
    k0_off96 g lo hi k = ![(g.toNat + k.1) % 8] := by
  rw [← off96_eq hg hl hh k]; rfl

theorem off97_eq' {g lo hi : BitVec 32} (hg : g.toNat < 2 ^ 30) (hl : lo.toNat ≤ 32768) (hh : hi.toNat ≤ 32768) (k : Fin (k0_t11_loop lo hi).trips) :
    k0_off97 g lo hi k = ![(g.toNat + k.1) % 8, 0, 0] := by
  rw [← off96_eq hg hl hh k]; rfl

theorem off98_eq' {g lo hi : BitVec 32} (hg : g.toNat < 2 ^ 30) (hl : lo.toNat ≤ 32768) (hh : hi.toNat ≤ 32768) (k : Fin (k0_t11_loop lo hi).trips) :
    k0_off98 g lo hi k = ![(g.toNat + k.1) % 8, 0, 0] := by
  rw [← off96_eq hg hl hh k]; rfl

theorem off101_eq' {g lo hi : BitVec 32} (hg : g.toNat < 2 ^ 30) (hl : lo.toNat ≤ 32768) (hh : hi.toNat ≤ 32768) (k : Fin (k0_t11_loop lo hi).trips) :
    k0_off101 g lo hi k = ![(g.toNat + k.1) % 8, 0, 0] := by
  rw [← off96_eq hg hl hh k]; rfl

theorem off102_eq' {g lo hi : BitVec 32} (hg : g.toNat < 2 ^ 30) (hl : lo.toNat ≤ 32768) (hh : hi.toNat ≤ 32768) (k : Fin (k0_t11_loop lo hi).trips) :
    k0_off102 g lo hi k = ![(g.toNat + k.1) % 8, 0, 0] := by
  rw [← off96_eq hg hl hh k]; rfl

theorem off83_eq (k : Fin k0_t10_loop.trips) : k0_off83 k = ![k.1, 0, 0] := by
  revert k; decide

theorem off150_eq (k : Fin k0_t10_loop.trips) : k0_off150 k = ![k.1, 0, 0] := by
  revert k; decide

theorem trips10 : k0_t10_loop.trips = 64 := by decide

theorem cond20_iff {lo hi : BitVec 32} (hl : lo.toNat ≤ 32768) (hh : hi.toNat ≤ 32768) (k : Fin (k0_t11_loop lo hi).trips) : k0_cond20 lo hi k = 1#1 ↔ k.1 = 0 := by
  have hk := t11_le hl hh k
  have hi' : (Scf.iv 0#32 1#32 k.1).toNat = k.1 := iv01 (by omega)
  have e : k0_cond20 lo hi k = Scalar.cmpi .ne (Scalar.extui (Scalar.cmpi .eq (Scf.iv 0#32 1#32 k.1) 0#32) : BitVec 32) 0#32 := rfl
  have h0 : (0#32 : BitVec 32).toNat = 0 := rfl
  rw [e, cmpi_eq (x := Scf.iv 0#32 1#32 k.1), hi', h0]
  by_cases h : k.1 = 0
  · rw [if_pos h]; exact ⟨fun _ => h, fun _ => by decide⟩
  · rw [if_neg h]; exact ⟨fun k => absurd k (by decide), fun k => absurd k h⟩

theorem cond22_iff {lo hi : BitVec 32} (hl : lo.toNat ≤ 32768) (hh : hi.toNat ≤ 32768) (k : Fin (k0_t11_loop lo hi).trips) : k0_cond22 lo hi k = 1#1 ↔ k.1 = 0 := by
  have hk := t11_le hl hh k
  have hi' : (Scf.iv 0#32 1#32 k.1).toNat = k.1 := iv01 (by omega)
  have e : k0_cond22 lo hi k = Scalar.cmpi .ne (Scalar.extui (Scalar.cmpi .eq (Scf.iv 0#32 1#32 k.1) 0#32) : BitVec 32) 0#32 := rfl
  have h0 : (0#32 : BitVec 32).toNat = 0 := rfl
  rw [e, cmpi_eq (x := Scf.iv 0#32 1#32 k.1), hi', h0]
  by_cases h : k.1 = 0
  · rw [if_pos h]; exact ⟨fun _ => h, fun _ => by decide⟩
  · rw [if_neg h]; exact ⟨fun k => absurd k (by decide), fun k => absurd k h⟩

theorem cond24_iff {lo hi : BitVec 32} (hl : lo.toNat ≤ 32768) (hh : hi.toNat ≤ 32768) (k : Fin (k0_t11_loop lo hi).trips) : k0_cond24 lo hi k = 1#1 ↔ k.1 = 0 := by
  have hk := t11_le hl hh k
  have hi' : (Scf.iv 0#32 1#32 k.1).toNat = k.1 := iv01 (by omega)
  have e : k0_cond24 lo hi k = Scalar.cmpi .ne (Scalar.extui (Scalar.cmpi .eq (Scf.iv 0#32 1#32 k.1) 0#32) : BitVec 32) 0#32 := rfl
  have h0 : (0#32 : BitVec 32).toNat = 0 := rfl
  rw [e, cmpi_eq (x := Scf.iv 0#32 1#32 k.1), hi', h0]
  by_cases h : k.1 = 0
  · rw [if_pos h]; exact ⟨fun _ => h, fun _ => by decide⟩
  · rw [if_neg h]; exact ⟨fun k => absurd k (by decide), fun k => absurd k h⟩

theorem cond26_iff {lo hi : BitVec 32} (hl : lo.toNat ≤ 32768) (hh : hi.toNat ≤ 32768) (k : Fin (k0_t11_loop lo hi).trips) : k0_cond26 lo hi k = 1#1 ↔ k.1 = 0 := by
  have hk := t11_le hl hh k
  have hi' : (Scf.iv 0#32 1#32 k.1).toNat = k.1 := iv01 (by omega)
  have e : k0_cond26 lo hi k = Scalar.cmpi .ne (Scalar.extui (Scalar.cmpi .eq (Scf.iv 0#32 1#32 k.1) 0#32) : BitVec 32) 0#32 := rfl
  have h0 : (0#32 : BitVec 32).toNat = 0 := rfl
  rw [e, cmpi_eq (x := Scf.iv 0#32 1#32 k.1), hi', h0]
  by_cases h : k.1 = 0
  · rw [if_pos h]; exact ⟨fun _ => h, fun _ => by decide⟩
  · rw [if_neg h]; exact ⟨fun k => absurd k (by decide), fun k => absurd k h⟩

theorem cond21_iff {lo hi : BitVec 32} (hl : lo.toNat ≤ 32768) (hh : hi.toNat ≤ 32768) (k : Fin (k0_t11_loop lo hi).trips) : k0_cond21 lo hi k = 1#1 ↔ 0 < k.1 := by
  have hk := t11_le hl hh k
  have hi' : (Scf.iv 0#32 1#32 k.1).toNat = k.1 := iv01 (by omega)
  have e : k0_cond21 lo hi k = Scalar.cmpi .ne (Scalar.extui (Scalar.cmpi .sgt (Scf.iv 0#32 1#32 k.1) 0#32) : BitVec 32) 0#32 := rfl
  have h0 : (0#32 : BitVec 32).toNat = 0 := rfl
  rw [e, cmpi_sgt (by omega) (by decide), hi', h0]
  by_cases h : 0 < k.1
  · rw [if_pos h]; exact ⟨fun _ => h, fun _ => by decide⟩
  · rw [if_neg h]; exact ⟨fun k => absurd k (by decide), fun k => absurd k h⟩

theorem cond23_iff {lo hi : BitVec 32} (hl : lo.toNat ≤ 32768) (hh : hi.toNat ≤ 32768) (k : Fin (k0_t11_loop lo hi).trips) : k0_cond23 lo hi k = 1#1 ↔ 0 < k.1 := by
  have hk := t11_le hl hh k
  have hi' : (Scf.iv 0#32 1#32 k.1).toNat = k.1 := iv01 (by omega)
  have e : k0_cond23 lo hi k = Scalar.cmpi .ne (Scalar.extui (Scalar.cmpi .sgt (Scf.iv 0#32 1#32 k.1) 0#32) : BitVec 32) 0#32 := rfl
  have h0 : (0#32 : BitVec 32).toNat = 0 := rfl
  rw [e, cmpi_sgt (by omega) (by decide), hi', h0]
  by_cases h : 0 < k.1
  · rw [if_pos h]; exact ⟨fun _ => h, fun _ => by decide⟩
  · rw [if_neg h]; exact ⟨fun k => absurd k (by decide), fun k => absurd k h⟩

theorem cond25_iff {lo hi : BitVec 32} (hl : lo.toNat ≤ 32768) (hh : hi.toNat ≤ 32768) (k : Fin (k0_t11_loop lo hi).trips) : k0_cond25 lo hi k = 1#1 ↔ 0 < k.1 := by
  have hk := t11_le hl hh k
  have hi' : (Scf.iv 0#32 1#32 k.1).toNat = k.1 := iv01 (by omega)
  have e : k0_cond25 lo hi k = Scalar.cmpi .ne (Scalar.extui (Scalar.cmpi .sgt (Scf.iv 0#32 1#32 k.1) 0#32) : BitVec 32) 0#32 := rfl
  have h0 : (0#32 : BitVec 32).toNat = 0 := rfl
  rw [e, cmpi_sgt (by omega) (by decide), hi', h0]
  by_cases h : 0 < k.1
  · rw [if_pos h]; exact ⟨fun _ => h, fun _ => by decide⟩
  · rw [if_neg h]; exact ⟨fun k => absurd k (by decide), fun k => absurd k h⟩

theorem cond27_iff {lo hi : BitVec 32} (hl : lo.toNat ≤ 32768) (hh : hi.toNat ≤ 32768) (k : Fin (k0_t11_loop lo hi).trips) : k0_cond27 lo hi k = 1#1 ↔ 0 < k.1 := by
  have hk := t11_le hl hh k
  have hi' : (Scf.iv 0#32 1#32 k.1).toNat = k.1 := iv01 (by omega)
  have e : k0_cond27 lo hi k = Scalar.cmpi .ne (Scalar.extui (Scalar.cmpi .sgt (Scf.iv 0#32 1#32 k.1) 0#32) : BitVec 32) 0#32 := rfl
  have h0 : (0#32 : BitVec 32).toNat = 0 := rfl
  rw [e, cmpi_sgt (by omega) (by decide), hi', h0]
  by_cases h : 0 < k.1
  · rw [if_pos h]; exact ⟨fun _ => h, fun _ => by decide⟩
  · rw [if_neg h]; exact ⟨fun k => absurd k (by decide), fun k => absurd k h⟩

theorem chk30_of {p g lo hi : BitVec 32} (hp : p.toNat < 2 ^ 31) (hg : g.toNat < 2 ^ 30) (hl : lo.toNat ≤ 32768) (hh : hi.toNat ≤ 32768) :
    k0_chk30 p g lo hi := by
  have m8 : ∀ n : ℕ, n % 8 < 8 := fun n => Nat.mod_lt _ (by decide)
  have m11 : p.toNat % 11 < 11 := Nat.mod_lt _ (by decide)
  refine ⟨⟨fun _ _ => ?_, fun _ _ => ?_, fun _ => t11_OK hl hh, fun k _ => ?_, fun k _ => ?_, fun k _ hinb => ?_, fun k _ => ?_, fun k _ => ?_, fun k _ => ?_,
    fun k _ _ => ?_, fun k _ _ => ?_, fun k _ _ => ?_, fun k _ _ => ?_, fun k _ _ => ?_, fun k _ _ => ?_, fun k _ _ => ?_, fun k _ _ => ?_, fun _ => t13_OK lo hi,
    fun k => (t13_no k).elim, fun k => (t13_no k).elim, fun k => (t13_no k).elim, fun k => (t13_no k).elim, fun k => (t13_no k).elim, fun k => (t13_no k).elim,
    fun k => (t13_no k).elim, fun k => (t13_no k).elim, fun k => (t13_no k).elim, fun k => (t13_no k).elim, fun k => (t13_no k).elim, fun k => (t13_no k).elim,
    fun k => (t13_no k).elim, fun k => (t13_no k).elim⟩,
    fun _ => ?_, fun _ => ?_, fun _ => ?_, fun _ => ?_, fun _ => ?_, fun _ => ?_, fun _ => ?_, fun _ => ?_, fun _ => ?_, fun _ => ?_, fun _ => ?_, fun _ => ?_, fun _ => ?_, fun _ => ?_⟩
  · rw [off82_eq hp]; exact inbS11' m11
  · rw [off84_eq hp]; exact inbF' m11
  · rw [off96_eq' hg hl hh]; exact inbS8' (m8 _)
  · rw [off97_eq' hg hl hh]; exact inb5' (m8 _)
  · have h0 : k0_off97 g lo hi k 1 = 0 := congrFun (off97_eq' hg hl hh k) 1
    have h2 : 2 ≤ S8x256x1024.rank := by decide
    have ax : S8x256x1024.rowAx h2 = (1 : Fin 3) := rfl
    refine Or.inr ⟨h2, rfl, ?_, ?_⟩
    · rw [ax]; exact h0
    · rw [ax]; rfl
  · rw [off98_eq' hg hl hh]; exact inb6' (m8 _)
  · rw [off101_eq' hg hl hh]; exact inb6' (m8 _)
  · rw [off102_eq' hg hl hh]; exact inb5' (m8 _)
  · rw [off103_eq hp]; exact inbB' m11 (by decide) (by decide)
  · rw [off104_eq hp]; exact inbB' m11 (by decide) (by decide)
  · rw [off105_eq hp]; exact inbC512 m11 (by decide)
  · rw [off106_eq hp]; exact inbC512 m11 (by decide)
  · rw [off107_eq hp]; exact inbC768 m11 (by decide)
  · rw [off108_eq hp]; exact inbC768 m11 (by decide)
  · rw [off109_eq hp]; exact inbC1024 m11 (by decide)
  · rw [off110_eq hp]; exact inbC1024 m11 (by decide)
  · rw [off137_eq hp]; exact inbB' m11 (by decide) (by decide)
  · rw [off138_eq hp]; exact inbB' m11 (by decide) (by decide)
  · rw [off139_eq hp]; exact inbB' m11 (by decide) (by decide)
  · rw [off140_eq hp]; exact inbB' m11 (by decide) (by decide)
  · rw [off141_eq hp]; exact inbB' m11 (by decide) (by decide)
  · rw [off142_eq hp]; exact inbB' m11 (by decide) (by decide)
  · rw [off143_eq hp]; exact inbB' m11 (by decide) (by decide)
  · rw [off144_eq hp]; exact inbB' m11 (by decide) (by decide)
  · rw [off145_eq hp]; exact inbB' m11 (by decide) (by decide)
  · rw [off146_eq hp]; exact inbB' m11 (by decide) (by decide)
  · rw [off147_eq hp]; exact inbB' m11 (by decide) (by decide)
  · rw [off148_eq hp]; exact inbB' m11 (by decide) (by decide)
  · rw [off149_eq hp]; exact inbS11' m11
  · rw [off151_eq hp]; exact inbF' m11

end Cert.KernelIdeal.Hand
-- ==== Proof.Ideal.UFetch.lean ====
module
public import proofs.«01_k».proof.Proof.Ideal.FetchSpec

/-! The fetch inside the loop over an expert's tiles: the same statements as the prologue's, printed with their own checks. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

theorem chk31_of (v58 v61 : BitVec 32) {w : BitVec 32} (h : w.toNat ≤ 64) : k0_chk31 v58 v61 w :=
  ⟨fun _ h1 => (chk2_of h).1 h1, fun _ h1 => (chk2_of h).2.2 h1, fun _ h1 => (chk2_of h).2.1 h1, fun _ h1 => (chk2_of h).2.2 h1⟩
theorem chk33_of (v58 v61 v5 : BitVec 32) {w : BitVec 32} (h : w.toNat < 2 ^ 31) : k0_chk33 v58 v61 v5 w :=
  ⟨fun _ h1 => (chk4_of v5 h).1 h1, fun _ h1 => (chk4_of v5 h).2.1 h1, fun _ h1 => (chk4_of v5 h).2.2.1 h1, fun _ h1 => (chk4_of v5 h).2.2.2 h1⟩
theorem chk32_of (v58 v61 v5 : BitVec 32) {lo u : BitVec 32} {o : ℕ → ℕ} {e : ℕ} (hlo : lo.toNat = o e) (hl : lo.toNat ≤ 32768) (hu : u.toNat ≤ 65536) :
    k0_chk32 v58 v61 v5 u lo :=
  ⟨fun _ h1 => (chk3_of v5 hlo hl hu).1 h1, fun _ h1 => (chk3_of v5 hlo hl hu).2.1 h1, fun _ h1 => (chk3_of v5 hlo hl hu).2.2.1 h1, fun _ h1 => (chk3_of v5 hlo hl hu).2.2.2 h1⟩
theorem chk34_of (v58 v61 v5 v57 v107 v110 : BitVec 32) {e : BitVec 32} (h : e.toNat ≤ 64) : k0_chk34 v58 v61 v5 v57 v107 v110 e :=
  ⟨fun _ h1 h2 => (chk5_of v5 v57 v107 v110 h).1 h1 h2, fun _ h1 h2 => (chk5_of v5 v57 v107 v110 h).2 h1 h2⟩

section
variable (k0_t10 : Fin k0_t10_loop.trips) (arg16 : BitVec 32) (arg17 : BitVec 32) (arg15 : BitVec 32) (v58 : Elt F .i32) (v61 : Elt F .i32) (k0_hw30 : k0_chk30 arg16 arg17 v58 v61) (k0_h16 : k0_cond16 v58 v61 = 1#1) (c0_i32_77 : BitVec 32) (c1_i32_80 : BitVec 32) (k0_t11 : Fin (k0_t11_loop v58 v61).trips)

theorem skip12_trip (c : Dev nD) (o : S65.Idx → BitVec 32) (e : BitVec 32) (k : Fin k0_t12_loop.trips) (he : e.toNat ≤ 64)
    (v5 v57 v107 v110 : BitVec 32) (h1 : k0_cond18 v5 = 1#1) (h2 : k0_cond19 v57 v107 v110 = 1#1) (Q : _ → sProp 𝕄) :
   iprop((M0.view.loc (c : Thread nD τ) ↦{fullShare} o) ∗ ((M0.view.loc (c : Thread nD τ) ↦{fullShare} o) -∗ Q (skipW (o (i65 (min e.toNat 63) (by omega))) (o (i65 (min e.toNat 63 + 1) (by omega))) e)))
     ⊢ wp frame (wpE (defs₀ (F := F)) Variants.none (c : Thread nD τ) none) Set.univ (k0_t12_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k0_t10 arg16 arg17 arg15 v58 v61 k0_hw30 k0_h16 c0_i32_77 c1_i32_80 k0_t11 v5 h1 v57 v107 v110 h2 k e) Q := by
  have hw := chk34_of v58 v61 v5 v57 v107 v110 he
  iintro ⟨H0, HK⟩
  unfold k0_t12_body
  sl_exec
  sl_step
  have hr : skip12_trip.sl.v695 v58 v61 k0_h16 o e v5 v57 v107 v110 h1 h2 hw = skipW (o (i65 (min e.toNat 63) (by omega))) (o (i65 (min e.toNat 63 + 1) (by omega))) e :=
    congrArg₂ (fun a b => skipW a b e) (read0 (F := F) o _ (hw.1 k0_h16 h1 h2) _ _ (by show k0_off11 e 0 = _; rw [off11_eq he]; rfl) _) (read0 (F := F) o _ (hw.2 k0_h16 h1 h2) _ _ (by show k0_off12 e 0 = _; rw [off12_eq he]; rfl) _)
  rw [hr]
  iapply HK $$ H0

@[instance_reducible, sl_loop] def loopInv_k0_t12 (c : Dev nD) (o : S65.Idx → BitVec 32) (hO : Ok (offN o)) (v5 : BitVec 32) (h1 : k0_cond18 v5 = 1#1) (v57 v107 v110 : BitVec 32) (h2 : k0_cond19 v57 v107 v110 = 1#1) (init : BitVec 32) :
    LoopInvTy_k0_t12 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k0_t10 arg16 arg17 arg15 v58 v61 k0_hw30 k0_h16 c0_i32_77 c1_i32_80 k0_t11 v5 h1 v57 v107 v110 h2 init where
  inv := fun k acc => iprop((M0.view.loc (c : Thread nD τ) ↦{fullShare} o) ∗ ⌜Skip (offN o) init.toNat k acc.toNat⌝)
  step := fun k acc => by
    iintro ⟨H0, %h⟩
    iapply (skip12_trip k0_t10 arg16 arg17 arg15 v58 v61 k0_hw30 k0_h16 c0_i32_77 c1_i32_80 k0_t11 c o acc k h.1 v5 v57 v107 v110 h1 h2)
    isplitl [H0]
    · iexact H0
    iintro H0
    isplitl [H0]
    · iexact H0
    · ipureintro
      rw [skipW_offN hO h.1]
      exact h.step
end

/-- The guarded part of the fetch, before `k`. -/
def fetchUGoK {α : Type} (k0_t10 : Fin k0_t10_loop.trips) (arg16 : BitVec 32) (arg17 : BitVec 32) (arg15 : BitVec 32) (v58 : BitVec 32) (v61 : BitVec 32) (k0_hw30 : k0_chk30 arg16 arg17 v58 v61) (k0_h16 : k0_cond16 v58 v61 = 1#1) (v194 : BitVec 32) (k0_hw31 : k0_chk31 v58 v61 v194) (k : Prog (TpuEff nD τ sig (Elt F) Λ₀ .tc) α) : Prog (TpuEff nD τ sig (Elt F) Λ₀ .tc) α := do
  if k0_h18 : k0_cond18 v194 = 1#1 then do
    let ⟨v538, v539, k0_hw33, v541, k0_hw32⟩ : Σ' (v538 : Elt F .i32) (v539 : Elt F .i32) (k0_hw33 : k0_chk33 v58 v61 v194 v539) (v541 : Elt F .i32), k0_chk32 v58 v61 v194 v538 v541 ← k0_part24 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v58 v61 k0_h16 v194 k0_hw31 k0_h18
    let ⟨v589, v591, v594, v613, v614, c256_i32_241⟩ : Σ' (v589 : BitVec 32) (v591 : Elt F .i32) (v594 : Elt F .i32) (v613 : BitVec 1) (v614 : BitVec 32), BitVec 32 ← k0_part25 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v58 v61 k0_h16 v194 k0_hw31 k0_h18 v538 v539 k0_hw33 v541 k0_hw32
    let v615 : BitVec 32 := Scalar.addi v614 c256_i32_241
    let c1_i32_242 : BitVec 32 := 1#32
    let v616 : BitVec 32 := Scalar.subi v615 c1_i32_242
    let c256_i32_243 : BitVec 32 := 256#32
    let v617 : BitVec 32 := Scalar.divsi v616 c256_i32_243
    let c0_i32_244 : BitVec 32 := 0#32
    let v618 : BitVec 1 := Scalar.cmpi .sgt v616 c0_i32_244
    let v619 : BitVec 32 := Scalar.extui v618
    let c0_i32_245 : BitVec 32 := 0#32
    let v620 : BitVec 1 := Scalar.cmpi .slt v616 c0_i32_245
    let v621 : BitVec 32 := Scalar.extui v620
    let v622 : BitVec 32 := Scalar.subi v619 v621
    let c0_i32_246 : BitVec 32 := 0#32
    let v623 : BitVec 1 := Scalar.cmpi .sgt c256_i32_243 c0_i32_246
    let v624 : BitVec 32 := Scalar.extui v623
    let c0_i32_247 : BitVec 32 := 0#32
    let v625 : BitVec 1 := Scalar.cmpi .slt c256_i32_243 c0_i32_247
    let v626 : BitVec 32 := Scalar.extui v625
    let v627 : BitVec 32 := Scalar.subi v624 v626
    let v628 : BitVec 1 := Scalar.cmpi .ne v622 v627
    let v629 : BitVec 32 := Scalar.remsi v616 c256_i32_243
    let c0_i32_248 : BitVec 32 := 0#32
    let v630 : BitVec 1 := Scalar.cmpi .ne v629 c0_i32_248
    let v631 : BitVec 1 := Scalar.andi v628 v630
    let c1_i32_249 : BitVec 32 := 1#32
    let v632 : BitVec 32 := Scalar.subi v617 c1_i32_249
    let v633 : BitVec 32 := Scalar.select v631 v632 v617
    let c0_i32_250 : BitVec 32 := 0#32
    let v634 : BitVec 32 := Scalar.select v613 v633 c0_i32_250
    let v635 : BitVec 1 := Scalar.cmpi .sge v589 v634
    let c1_i32_251 : BitVec 32 := 1#32
    let v636 : BitVec 32 := Scalar.addi v538 c1_i32_251
    let c0_i32_252 : BitVec 32 := 0#32
    let v637 : BitVec 32 := Scalar.select v635 c0_i32_252 v636
    let c1_253 : Index := 1#32
    let v638 : Elt F .i32 ← smemLoad M14 (Rect.unit (s := S3) ![1] S1.size inb_S3_S1_1) numel1_S1 rfl
    Prog.lift (.store M14 (Rect.unit (s := S3) ![1] S1.size inb_S3_S1_1) (fun _ => v637) Finset.univ (View.stores_smem_one rfl numel1_S1) (.inl rfl))
    let v639 : BitVec 32 := Scalar.extui v635
    let c0_i32_254 : BitVec 32 := 0#32
    let v640 : BitVec 1 := Scalar.cmpi .ne v639 c0_i32_254
    if k0_h19 : k0_cond19 v538 v591 v594 = 1#1 then do
      let c1_i32_255 : BitVec 32 := 1#32
      let v641 : BitVec 32 := Scalar.addi v194 c1_i32_255
      let c0_i32_256 : BitVec 32 := 0#32
      let c64_i32_257 : BitVec 32 := 64#32
      let v642 : BitVec 32 := Scalar.addi c0_i32_256 c64_i32_257
      let c1_i32_258 : BitVec 32 := 1#32
      let v643 : BitVec 32 ← Scf.Loop.for k0_t12_loop k0_t12_ok v641 fun k0_t12 arg21 => do
        let ⟨v645, v670, v673, c256_i32_273, v674, v679, v684⟩ : Σ' (v645 : BitVec 1) (v670 : BitVec 1) (v673 : BitVec 32) (c256_i32_273 : BitVec 32) (v674 : BitVec 32) (v679 : BitVec 32), BitVec 32 ← k0_part23 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v58 v61 k0_h16 v194 k0_h18 v538 v591 v594 k0_h19 c0_i32_256 c1_i32_258 k0_t12 arg21
        let v685 : BitVec 1 := Scalar.cmpi .ne v679 v684
        let v686 : BitVec 32 := Scalar.remsi v673 c256_i32_273
        let c0_i32_278 : BitVec 32 := 0#32
        let v687 : BitVec 1 := Scalar.cmpi .ne v686 c0_i32_278
        let v688 : BitVec 1 := Scalar.andi v685 v687
        let c1_i32_279 : BitVec 32 := 1#32
        let v689 : BitVec 32 := Scalar.subi v674 c1_i32_279
        let v690 : BitVec 32 := Scalar.select v688 v689 v674
        let c0_i32_280 : BitVec 32 := 0#32
        let v691 : BitVec 32 := Scalar.select v670 v690 c0_i32_280
        let c0_i32_281 : BitVec 32 := 0#32
        let v692 : BitVec 1 := Scalar.cmpi .eq v691 c0_i32_281
        let v693 : BitVec 1 := Scalar.andi v645 v692
        let c1_i32_282 : BitVec 32 := 1#32
        let v694 : BitVec 32 := Scalar.addi arg21 c1_i32_282
        let v695 : BitVec 32 := Scalar.select v693 v694 arg21
        pure v695
      let c64_i32_259 : BitVec 32 := 64#32
      let c0_260 : Index := 0#32
      let v644 : Elt F .i32 ← smemLoad M14 (Rect.unit (s := S3) ![0] S1.size inb_S3_S1_0) numel1_S1 rfl
      Prog.lift (.store M14 (Rect.unit (s := S3) ![0] S1.size inb_S3_S1_0) (fun _ => v643) Finset.univ (View.stores_smem_one rfl numel1_S1) (.inl rfl))
      pure ⟨⟩
    else do
      pure ⟨⟩
    pure ⟨⟩
  else do
    pure ⟨⟩
  k

/-- The fetch, before `k`. -/
def fetchUK {α : Type} (k0_t10 : Fin k0_t10_loop.trips) (arg16 : BitVec 32) (arg17 : BitVec 32) (arg15 : BitVec 32) (v58 : BitVec 32) (v61 : BitVec 32) (k0_hw30 : k0_chk30 arg16 arg17 v58 v61) (k0_h16 : k0_cond16 v58 v61 = 1#1) (k : Prog (TpuEff nD τ sig (Elt F) Λ₀ .tc) α) : Prog (TpuEff nD τ sig (Elt F) Λ₀ .tc) α := do
  let v194 : Elt F .i32 ← smemLoad M14 (Rect.unit (s := S3) ![0] S1.size inb_S3_S1_0) numel1_S1 rfl
  have k0_hw31 : k0_chk31 v58 v61 v194 := (← Prog.lift (TpuEff.assume (k0_chk31 v58 v61 v194) (k0_chk31.dec v58 v61 v194))).down
  fetchUGoK k0_t10 arg16 arg17 arg15 v58 v61 k0_hw30 k0_h16 v194 k0_hw31 k

/-- The two waits for the tile and the words after them. -/
def wait26 (k0_t10 : Fin k0_t10_loop.trips) (arg16 : BitVec 32) (arg17 : BitVec 32) (arg15 : BitVec 32) (v58 : Elt F .i32) (v61 : Elt F .i32) (k0_hw30 : k0_chk30 arg16 arg17 v58 v61) (k0_h16 : k0_cond16 v58 v61 = 1#1) (c0_i32_77 : BitVec 32) (c1_i32_80 : BitVec 32) (k0_t11 : Fin (k0_t11_loop v58 v61).trips) :
    Prog (TpuEff nD τ sig (Elt F) Λ₀ .tc) (Σ' (arg18 : BitVec 32) (v193 : BitVec 32) (v210 : Elt F .i32) (v213 : Elt F .i32) (c128_i32_123 : BitVec 32) (v214 : BitVec 32) (v216 : BitVec 32), BitVec 1) := do
  let arg18 : BitVec 32 := Scf.iv c0_i32_77 c1_i32_80 k0_t11
  let v183 : BitVec 32 := Scalar.addi arg17 arg18
  let c8_i32 : BitVec 32 := 8#32
  let c0_i32_107 : BitVec 32 := 0#32
  let v184 : BitVec 1 := Scalar.cmpi .eq c8_i32 c0_i32_107
  let c1_i32_108 : BitVec 32 := 1#32
  let v185 : BitVec 32 := Scalar.select v184 c1_i32_108 c8_i32
  let v186 : BitVec 32 := Scalar.remsi v183 v185
  let c0_i32_109 : BitVec 32 := 0#32
  let v187 : BitVec 1 := Scalar.cmpi .ne v186 c0_i32_109
  let c0_i32_110 : BitVec 32 := 0#32
  let v188 : BitVec 1 := Scalar.cmpi .slt v186 c0_i32_110
  let c0_i32_111 : BitVec 32 := 0#32
  let v189 : BitVec 1 := Scalar.cmpi .slt v185 c0_i32_111
  let v190 : BitVec 1 := Scalar.xori v188 v189
  let v191 : BitVec 1 := Scalar.andi v190 v187
  let v192 : BitVec 32 := Scalar.addi v186 v185
  let v193 : BitVec 32 := Scalar.select v191 v192 v186
  let c0_112 : Index := 0#32
  let c0_i32_115 : BitVec 32 := 0#32
  let v198 : BitVec 32 := c0_i32_115
  let v199 : DmaSems sig S1 := cc0_scratch5.slice (Rect.unit (s := S8) (k0_off96 arg17 v58 v61 k0_t11) S1.size (k0_off96_inb arg16 arg17 v58 v61 k0_hw30 k0_t11 k0_h16))
  let v200 : DmaSems sig S_ := v199.squeeze S_ squeezes_S1_S_
  let c0_i32_116 : BitVec 32 := 0#32
  let c0_i32_117 : BitVec 32 := 0#32
  let v201 : Memref sig .tc .vmem S1x256x1024 .fp8e4m3 := M5.slice (Rect.unit (s := S8x256x1024) (k0_off97 arg17 v58 v61 k0_t11) S1x256x1024.size (k0_off97_inb arg16 arg17 v58 v61 k0_hw30 k0_t11 k0_h16)) (fun _ => rfl)
  let v202 : Memref sig .tc .vmem S256x1024 .fp8e4m3 := v201.squeeze S256x1024 squeezes_S1x256x1024_S256x1024
  let c0_i32_118 : BitVec 32 := 0#32
  let v203 : Memref sig .tc .hbm S256x1024 .fp8e4m3 := M1.slice (Rect.unit (s := S32768x1024) ![0, 0] S256x1024.size inb_S32768x1024_S256x1024_0_0) (fun _ => rfl)
  Prog.lift (.waitDma2 v200.sem v203 v202 ((Memref.isWhole_whole _).wordExact_slice rfl _ wordsfp8e4m3_S32768x1024_S256x1024_0_0) (((Memref.isWhole_whole _).wordExact_slice rfl _ (k0_off97_wordsfp8e4m3 arg16 arg17 v58 v61 k0_hw30 k0_t11 k0_h16)).reshape _ _))
  let v204 : DmaSems sig S1 := cc0_scratch6.slice (Rect.unit (s := S8) (k0_off96 arg17 v58 v61 k0_t11) S1.size (k0_off96_inb arg16 arg17 v58 v61 k0_hw30 k0_t11 k0_h16))
  let v205 : DmaSems sig S_ := v204.squeeze S_ squeezes_S1_S_
  let c0_i32_119 : BitVec 32 := 0#32
  let c0_i32_120 : BitVec 32 := 0#32
  let v206 : Memref sig .tc .vmem S1x16x256 .f32 := M6.slice (Rect.unit (s := S8x16x256) (k0_off98 arg17 v58 v61 k0_t11) S1x16x256.size (k0_off98_inb arg16 arg17 v58 v61 k0_hw30 k0_t11 k0_h16)) (fun _ => rfl)
  let v207 : Memref sig .tc .vmem S16x256 .f32 := v206.squeeze S16x256 squeezes_S1x16x256_S16x256
  let c0_i32_121 : BitVec 32 := 0#32
  let v208 : Memref sig .tc .hbm S16x256 .f32 := M2.slice (Rect.unit (s := S16x32768) ![0, 0] S16x256.size inb_S16x32768_S16x256_0_0) (fun _ => rfl)
  Prog.lift (.waitDma2 v205.sem v208 v207 (View.wordExact_bits rfl) ((View.wordExact_bits rfl).reshape _ _))
  let v209 : Index := Scalar.indexCast arg15
  let v210 : Elt F .i32 ← smemLoad M0 (Rect.unit (s := S65) (k0_off99 k0_t10) S1.size (k0_off99_inb k0_t10)) numel1_S1 rfl
  let c1_i32_122 : BitVec 32 := 1#32
  let v211 : BitVec 32 := Scalar.addi arg15 c1_i32_122
  let v212 : Index := Scalar.indexCast v211
  let v213 : Elt F .i32 ← smemLoad M0 (Rect.unit (s := S65) (k0_off100 k0_t10) S1.size (k0_off100_inb k0_t10)) numel1_S1 rfl
  let c128_i32_123 : BitVec 32 := 128#32
  let v214 : BitVec 32 := Scalar.divsi v210 c128_i32_123
  let c0_i32_124 : BitVec 32 := 0#32
  let v215 : BitVec 1 := Scalar.cmpi .sgt v210 c0_i32_124
  let v216 : BitVec 32 := Scalar.extui v215
  let c0_i32_125 : BitVec 32 := 0#32
  let v217 : BitVec 1 := Scalar.cmpi .slt v210 c0_i32_125
  pure ⟨arg18, v193, v210, v213, c128_i32_123, v214, v216, v217⟩

set_option maxHeartbeats 2000000 in
theorem part26_eq (k0_t10 : Fin k0_t10_loop.trips) (arg16 : BitVec 32) (arg17 : BitVec 32) (arg15 : BitVec 32) (v58 : Elt F .i32) (v61 : Elt F .i32) (k0_hw30 : k0_chk30 arg16 arg17 v58 v61) (k0_h16 : k0_cond16 v58 v61 = 1#1) (c0_i32_77 : BitVec 32) (c1_i32_80 : BitVec 32) (k0_t11 : Fin (k0_t11_loop v58 v61).trips) :
    k0_part26 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k0_t10 arg16 arg17 arg15 v58 v61 k0_hw30 k0_h16 c0_i32_77 c1_i32_80 k0_t11
      = fetchUK k0_t10 arg16 arg17 arg15 v58 v61 k0_hw30 k0_h16 (wait26 k0_t10 arg16 arg17 arg15 v58 v61 k0_hw30 k0_h16 c0_i32_77 c1_i32_80 k0_t11) := rfl

end Cert.KernelIdeal.Hand
end
-- ==== Proof.Ideal.UFetchSpec.lean ====
module
public import proofs.«01_k».proof.Proof.Ideal.UFetch

/-! What the fetch inside the loop over an expert's tiles does to the cursor and to the ring. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
theorem cond19_eq (u lo hi : BitVec 32) : k0_cond19 u lo hi = Scalar.cmpi .ne (Scalar.extui (lastW u lo hi)) 0#32 := rfl

variable (k0_t10 : Fin k0_t10_loop.trips) (arg16 : BitVec 32) (arg17 : BitVec 32) (arg15 : BitVec 32) (v58 : BitVec 32) (v61 : BitVec 32) (k0_hw30 : k0_chk30 arg16 arg17 v58 v61) (k0_h16 : k0_cond16 v58 v61 = 1#1) (k0_t11 : Fin (k0_t11_loop v58 v61).trips)
variable (c : Dev nD) (X : Buf (Elt F) (M1.view.loc (c : Thread nD τ))) (Y : Buf (Elt F) (M2.view.loc (c : Thread nD τ)))

include k0_t11 in
theorem fetchUGo_spec (o : S65.Idx → BitVec 32) (hO : Ok (offN o)) (v5 : BitVec 32) (hw2 : k0_chk31 v58 v61 v5) (cu : S3.Idx → BitVec 32) (hv : cu (i3 0) = v5) (gc gf : ℕ)
    (h1 : gc ≤ gf) (h2 : gf < gc + 8) (hcu : CurW (offN o) cu gf) {α : Type} (k : Prog (TpuEff nD τ sig (Elt F) Λ₀ .tc) α) (Q : α → sProp 𝕄) :
    iprop((M0.view.loc (c : Thread nD τ) ↦{fullShare} o) ∗ (M14.view.loc (c : Thread nD τ) ↦{fullShare} cu) ∗ Ring c X Y (offN o) gc gf
        ∗ ((M0.view.loc (c : Thread nD τ) ↦{fullShare} o) -∗ CurAt c o (min (gf + 1) (base (offN o) 64)) -∗ Ring c X Y (offN o) gc (min (gf + 1) (base (offN o) 64)) -∗ wp frame (wpE (defs₀ (F := F)) Variants.none (c : Thread nD τ) none) Set.univ k Q))
      ⊢ wp frame (wpE (defs₀ (F := F)) Variants.none (c : Thread nD τ) none) Set.univ (fetchUGoK k0_t10 arg16 arg17 arg15 v58 v61 k0_hw30 k0_h16 v5 hw2 k) Q := by
  obtain ⟨hc1, hc2⟩ := hcu
  rw [hv] at hc1
  have hfe := Cur.fe_le hc1
  have hfu := Cur.fu_le hO hc1
  have hg := hc1.le
  have hb := base_le hO (e := 64) le_rfl
  by_cases hlt : v5.toNat < 64
  · have hc : k0_cond18 v5 = 1#1 := (cond1_iff hfe).2 hlt
    have hgl := hc1.lt_iff.1 hlt
    have ho1 := hO.bound (a := v5.toNat) (by omega)
    have ho2 := hO.bound (a := v5.toNat + 1) (by omega)
    have a4 : k0_chk33 v58 v61 v5 (cu (i3 2)) := chk33_of v58 v61 v5 (by omega)
    have a3 : k0_chk32 v58 v61 v5 (cu (i3 1)) (o (i65 v5.toNat (by omega))) :=
      chk32_of v58 v61 v5 (o := offN o) (e := v5.toNat) (offN_of _).symm (by rw [← offN_of]; exact ho1) (by omega)
    iintro ⟨H0, H14, HR, HK⟩
    unfold fetchUGoK
    sl_exec
    have e0 : fetchUGo_spec.sl.r (F := F) cu = cu (i3 1) := read14 (F := F) cu 1 _ _ _ rfl
    have e1 : fetchUGo_spec.sl.r_1 (F := F) cu = cu (i3 2) := read14 (F := F) cu 2 _ _ _ rfl
    rw [← e1] at a4
    rw [← e0] at a3
    sl_exec
    have e2 : fetchUGo_spec.sl.r_2 (F := F) v58 v61 k0_h16 o v5 hw2 hc = o (i65 v5.toNat (by omega)) := read0 (F := F) o _ _ _ v5.toNat rfl _
    rw [← e2] at a3
    sl_exec
    have x4 : k0_off87 (fetchUGo_spec.sl.r_1 (F := F) cu) = ![(cellOf8 gf).val] := by rw [e1]; show k0_off4 _ = _; rw [off4_eq (by omega), hc2]; rfl
    have x5 : k0_off88 (fetchUGo_spec.sl.r_1 (F := F) cu) = ![(cellOf8 gf).val, 0, 0] := by rw [e1]; show k0_off5 _ = _; rw [off5_eq (by omega), hc2]; rfl
    have x7 : k0_off90 (fetchUGo_spec.sl.r_1 (F := F) cu) = ![(cellOf8 gf).val, 0, 0] := by rw [e1]; show k0_off7 _ = _; rw [off7_eq (by omega), hc2]; rfl
    have hst : (stW (o (i65 v5.toNat (by omega))) (cu (i3 1))).toNat = (row (offN o) gf).val := by
      rw [st_of (o := offN o) (e := v5.toNat) (offN_of _).symm (by rw [← offN_of]; exact ho1) (by omega), ← hc1.gst hlt]; rfl
    have x6 : k0_off89 (fetchUGo_spec.sl.r (F := F) cu) (fetchUGo_spec.sl.r_2 (F := F) v58 v61 k0_h16 o v5 hw2 hc) = ![(row (offN o) gf).val, 0] := by rw [e0, e2]; show k0_off6 _ _ = _; rw [off6_eq, hst]
    have x8 : k0_off91 (fetchUGo_spec.sl.r (F := F) cu) (fetchUGo_spec.sl.r_2 (F := F) v58 v61 k0_h16 o v5 hw2 hc) = ![0, (row (offN o) gf).val] := by rw [e0, e2]; show k0_off8 _ _ = _; rw [off8_eq, hst]
    unfold Ring
    ihave ⟨⟨HC, HS⟩, HR⟩ := (ring_take _ _ h1 h2) $$ HR
    iapply (enq_codes c X (cellOf8 gf) (row (offN o) gf) x5 x4 x6) $$ HC
    iintro HC
    sl_exec
    iapply (enq_scales c Y (cellOf8 gf) (row (offN o) gf) x7 x4 x8) $$ HS
    iintro HS
    ihave HR := HR $$ [HC HS]
    · isplitl [HC]; · iexact HC
      iexact HS
    sl_exec
    have e4 : fetchUGo_spec.sl.r_5 (F := F) v58 v61 k0_h16 o v5 hw2 hc = o (i65 v5.toNat (by omega)) := read0 (F := F) o _ _ _ v5.toNat rfl _
    have e5 : fetchUGo_spec.sl.r_6 (F := F) v58 v61 k0_h16 o v5 hw2 hc = o (i65 (v5.toNat + 1) (by omega)) := read0 (F := F) o _ _ _ (v5.toNat + 1) (congrFun (off10_eq hfe) 0) _
    have hlw : lastW (fetchUGo_spec.sl.r (F := F) cu) (fetchUGo_spec.sl.r_5 (F := F) v58 v61 k0_h16 o v5 hw2 hc) (fetchUGo_spec.sl.r_6 (F := F) v58 v61 k0_h16 o v5 hw2 hc) = if nu (offN o) v5.toNat ≤ (cu (i3 1)).toNat + 1 then 1#1 else 0#1 := by
      rw [e0, e4, e5]
      exact lastW_eq (o := offN o) (offN_of _).symm (offN_of _).symm (by rw [← offN_of]; exact ho1) (by rw [← offN_of]; exact ho2) (by omega)
    have hcd := cond19_eq (fetchUGo_spec.sl.r (F := F) cu) (fetchUGo_spec.sl.r_5 (F := F) v58 v61 k0_h16 o v5 hw2 hc) (fetchUGo_spec.sl.r_6 (F := F) v58 v61 k0_h16 o v5 hw2 hc)
    rw [hlw] at hcd
    have hmin : min (gf + 1) (base (offN o) 64) = gf + 1 := by omega
    rw [hmin]
    by_cases hlast : nu (offN o) v5.toNat ≤ (cu (i3 1)).toNat + 1
    · rw [if_pos hlast] at hcd hlw
      have hcd' : k0_cond19 (fetchUGo_spec.sl.r (F := F) cu) (fetchUGo_spec.sl.r_5 (F := F) v58 v61 k0_h16 o v5 hw2 hc) (fetchUGo_spec.sl.r_6 (F := F) v58 v61 k0_h16 o v5 hw2 hc) = 1#1 := by rw [hcd]; decide
      have hsk : Skip (offN o) (Scalar.addi v5 1#32).toNat 0 (Scalar.addi v5 1#32).toNat :=
        Skip.zero (by rw [addi_toNat (by show _ + 1 < _; omega)]; show _ + 1 ≤ _; omega)
      let li := @loopInv_k0_t12 F _ k0_t10 arg16 arg17 arg15 v58 v61 k0_hw30 k0_h16 0#32 1#32 k0_t11 c o hO v5 hc (fetchUGo_spec.sl.r (F := F) cu) (fetchUGo_spec.sl.r_5 (F := F) v58 v61 k0_h16 o v5 hw2 hc) (fetchUGo_spec.sl.r_6 (F := F) v58 v61 k0_h16 o v5 hw2 hc) hcd' (Scalar.addi v5 1#32)
      sl_exec
      iapply HK $$ H0 [H14] HR
      unfold CurAt
      iexists _
      isplitl [H14]
      · iexact H14
      · ipureintro
        have hd := hL1.done
        have h5 : (Scalar.addi v5 1#32).toNat = v5.toNat + 1 := addi_toNat (by show _ + 1 < _; omega)
        have hb5 : base (offN o) (Scalar.addi v5 1#32).toNat = gf + 1 := by rw [h5]; exact hc1.last hlt (by omega)
        change Cur (offN o) (base (offN o) (Scalar.addi v5 1#32).toNat) _ 0 at hd
        rw [hb5] at hd
        refine ⟨?_, ?_⟩
        · rw [w14, if_pos (by decide), w14, if_neg (by decide), w14, if_pos (by decide), show fetchUGo_spec.sl.v637 (F := F) v58 v61 k0_h16 o v5 hw2 cu hc = 0#32 from ?_]
          · exact hd
          · show Scalar.select (lastW _ _ _) 0#32 _ = _
            rw [hlw]; rfl
        · rw [w14, if_neg (by decide), w14, if_neg (by decide), w14, if_pos (by decide)]
          show (Scalar.addi (fetchUGo_spec.sl.r_1 (F := F) cu) 1#32).toNat = _
          rw [e1, addi_toNat (by show _ + 1 < _; omega), hc2]; rfl
    · rw [if_neg hlast] at hcd hlw
      have hcd' : ¬ k0_cond19 (fetchUGo_spec.sl.r (F := F) cu) (fetchUGo_spec.sl.r_5 (F := F) v58 v61 k0_h16 o v5 hw2 hc) (fetchUGo_spec.sl.r_6 (F := F) v58 v61 k0_h16 o v5 hw2 hc) = 1#1 := by rw [hcd]; decide
      rw [dif_neg hcd']
      iapply HK $$ H0 [H14] HR
      unfold CurAt
      iexists _
      isplitl [H14]
      · iexact H14
      · ipureintro
        have hn := hc1.next hlt (by omega)
        refine ⟨?_, ?_⟩
        · rw [w14, if_neg (by decide), w14, if_neg (by decide), w14, if_pos (by decide), show fetchUGo_spec.sl.v637 (F := F) v58 v61 k0_h16 o v5 hw2 cu hc = Scalar.addi (cu (i3 1)) 1#32 from ?_]
          · rw [addi_toNat (by show _ + 1 < _; omega)]
            show Cur _ _ (cu (i3 0)).toNat _
            rw [hv]; exact hn
          · show Scalar.select (lastW _ _ _) 0#32 _ = _
            rw [hlw, ← e0]; rfl
        · rw [w14, if_neg (by decide), w14, if_pos (by decide)]
          show (Scalar.addi (fetchUGo_spec.sl.r_1 (F := F) cu) 1#32).toNat = _
          rw [e1, addi_toNat (by show _ + 1 < _; omega), hc2]; rfl
  · have hc : ¬ k0_cond18 v5 = 1#1 := fun h => hlt ((cond1_iff hfe).1 h)
    have hge : min (gf + 1) (base (offN o) 64) = gf := by
      have := mt hc1.lt_iff.2 hlt; omega
    rw [hge]
    iintro ⟨H0, H14, HR, HK⟩
    unfold fetchUGoK
    rw [dif_neg hc]
    iapply HK $$ H0 [H14] HR
    unfold CurAt
    iexists cu
    isplitl [H14]
    · iexact H14
    · ipureintro; exact ⟨by rw [hv]; exact hc1, hc2⟩

include k0_t11 in
theorem fetchU_spec (o : S65.Idx → BitVec 32) (hO : Ok (offN o)) (gc gf : ℕ)
    (h1 : gc ≤ gf) (h2 : gf < gc + 8) {α : Type} (k : Prog (TpuEff nD τ sig (Elt F) Λ₀ .tc) α) (Q : α → sProp 𝕄) :
    iprop((M0.view.loc (c : Thread nD τ) ↦{fullShare} o) ∗ CurAt c o gf ∗ Ring c X Y (offN o) gc gf
        ∗ ((M0.view.loc (c : Thread nD τ) ↦{fullShare} o) -∗ CurAt c o (min (gf + 1) (base (offN o) 64)) -∗ Ring c X Y (offN o) gc (min (gf + 1) (base (offN o) 64)) -∗ wp frame (wpE (defs₀ (F := F)) Variants.none (c : Thread nD τ) none) Set.univ k Q))
      ⊢ wp frame (wpE (defs₀ (F := F)) Variants.none (c : Thread nD τ) none) Set.univ (fetchUK k0_t10 arg16 arg17 arg15 v58 v61 k0_hw30 k0_h16 k) Q := by
  unfold CurAt
  iintro ⟨H0, ⟨%cu, H14, %hcu⟩, HR, HK⟩
  unfold fetchUK
  sl_exec
  have e : fetchU_spec.sl.r (F := F) cu = cu (i3 0) := read14 (F := F) cu 0 _ _ _ rfl
  have hw : k0_chk31 v58 v61 (fetchU_spec.sl.r (F := F) cu) := by rw [e]; exact chk31_of v58 v61 (Cur.fe_le hcu.1)
  sl_exec
  iapply fetchUGo_spec k0_t10 arg16 arg17 arg15 v58 v61 k0_hw30 k0_h16 k0_t11 c X Y o hO _ _ cu e.symm gc gf h1 h2 hcu k Q
  isplitl [H0]
  · iexact H0
  isplitl [H14]
  · iexact H14
  isplitl [HR]
  · iexact HR
  · unfold CurAt
    iexact HK

end Cert.KernelIdeal.Hand
end
-- ==== Proof.Ideal.Unit1.lean ====
module
public import proofs.«01_k».proof.Proof.Ideal.ExpertWords
public import proofs.«01_k».proof.Proof.Ideal.UFetchSpec
public import Idealize.ShloMosaic.Lib.Pipeline.FrameBody

/-! One tile of an expert: its slots, the masked scales, the scaled codes. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
abbrev slotRS (b : Fin 8) : Rect S8x16x256 := Rect.unit (s := S8x16x256) ![b.val, 0, 0] S1x16x256.size (inb6 b)
abbrev slotRC (b : Fin 8) : Rect S8x256x1024 := Rect.unit (s := S8x256x1024) ![b.val, 0, 0] S1x256x1024.size (inb5 b)
variable (c : Dev nD)
/-- What a load of slot `b` of a ring reads. -/
def rdS (b : Fin 8) (f : Buf (Elt F) ((slotS b).view.loc (c : Thread nD τ))) : S1x16x256.Idx → F .f32 := (M6.access (slotRS b)).read (Elt F) f
def rdC (b : Fin 8) (f : Buf (Elt F) ((slotC b).view.loc (c : Thread nD τ))) : S1x256x1024.Idx → F .fp8e4m3 := (M5.access (slotRC b)).read (Elt F) f
theorem wp_rb {α β : Type} (x : α) (k : α → Prog (TpuEff nD τ sig (Elt F) Λ₀ .tc) β) (Q : β → sProp 𝕄) : wp frame (wpE (defs₀ (F := F)) Variants.none (c : Thread nD τ) none) Set.univ (k x) Q ⊢ wp frame (wpE (defs₀ (F := F)) Variants.none (c : Thread nD τ) none) Set.univ ((Prog.ret x).bind k) Q := .rfl
theorem ld6 (b : Fin 8) {off : Fin 3 → ℕ} (e : off = ![b.val, 0, 0]) {h : ∀ a, off a + S1x16x256.size a ≤ S8x16x256.size a} {hl}
    {f : Buf (Elt F) ((slotS b).view.loc (c : Thread nD τ))} {α : Type} {k : (S1x16x256.Idx → Elt F (.f32 : EltTy)) → Prog (TpuEff nD τ sig (Elt F) Λ₀ .tc) α} {Q : α → sProp 𝕄} :
    ((slotS b).view.loc (c : Thread nD τ) ↦[(slotS b).view.set]{fullShare} f) ⊢ iprop((((slotS b).view.loc (c : Thread nD τ) ↦[(slotS b).view.set]{fullShare} f) -∗
      wp frame (wpE (defs₀ (F := F)) Variants.none (c : Thread nD τ) none) Set.univ (k (rdS c b f)) Q) -∗ wp frame (wpE (defs₀ (F := F)) Variants.none (c : Thread nD τ) none) Set.univ (.op (.load M6 (Rect.unit (s := S8x16x256) off S1x16x256.size h).toLoadRect hl) k) Q) := by
  subst e
  have hs : (slotS b).view.set = (M6.access (slotRS b)).set := View.set_reshape _ _
  exact wp_load_rect (defs := defs₀ (F := F)) Variants.none (c : Thread nD τ) none Set.univ (m := M6) (r := slotRS b) (hl := hl) (k := k) (by rw [← hs])
theorem ld5 (b : Fin 8) {off : Fin 3 → ℕ} (e : off = ![b.val, 0, 0]) {h : ∀ a, off a + S1x256x1024.size a ≤ S8x256x1024.size a} {hl}
    {f : Buf (Elt F) ((slotC b).view.loc (c : Thread nD τ))} {α : Type} {k : (S1x256x1024.Idx → Elt F (.fp8e4m3 : EltTy)) → Prog (TpuEff nD τ sig (Elt F) Λ₀ .tc) α} {Q : α → sProp 𝕄} :
    ((slotC b).view.loc (c : Thread nD τ) ↦[(slotC b).view.set]{fullShare} f) ⊢ iprop((((slotC b).view.loc (c : Thread nD τ) ↦[(slotC b).view.set]{fullShare} f) -∗
      wp frame (wpE (defs₀ (F := F)) Variants.none (c : Thread nD τ) none) Set.univ (k (rdC c b f)) Q) -∗ wp frame (wpE (defs₀ (F := F)) Variants.none (c : Thread nD τ) none) Set.univ (.op (.load M5 (Rect.unit (s := S8x256x1024) off S1x256x1024.size h).toLoadRect hl) k) Q) := by
  subst e
  have hs : (slotC b).view.set = (M5.access (slotRC b)).set := View.set_reshape _ _
  exact wp_load_rect (defs := defs₀ (F := F)) Variants.none (c : Thread nD τ) none Set.univ (m := M5) (r := slotRC b) (hl := hl) (k := k) (by rw [← hs])

/-- The scaled codes of one tile, computed into the scratch, then the rest `k`. -/
def deqK (k0_t10 : Fin k0_t10_loop.trips) (arg16 : BitVec 32) (arg17 : BitVec 32) (arg15 : BitVec 32) (v58 : Elt F .i32) (v61 : Elt F .i32) (k0_hw30 : k0_chk30 arg16 arg17 v58 v61) (v101 v111 : BitVec 32) (k0_h16 : k0_cond16 v58 v61 = 1#1) (k0_t11 : Fin (k0_t11_loop v58 v61).trips) (arg18 : BitVec 32) (v193 : BitVec 32) (v210 : Elt F .i32) (v213 : Elt F .i32) (c128_i32_123 : BitVec 32) (v214 : BitVec 32) (v216 : BitVec 32) (v217 : BitVec 1)
    {α : Type} (k : Vec F S256x256 .bf16 → Vec F S256x256 .bf16 → Prog (TpuEff nD τ sig (Elt F) Λ₀ .tc) α) : Prog (TpuEff nD τ sig (Elt F) Λ₀ .tc) α := do
    let ⟨v233, v259, v260⟩ : Σ' (v233 : BitVec 32) (v259 : BitVec 32), IVec S16x256 32 ← k0_part27 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k0_t10 arg15 arg18 v210 c128_i32_123 v214 v216 v217
    let ⟨v273, v277, v309⟩ : Σ' (v273 : FVec F S16x256 .f32) (v277 : FVec F S1024x256 .fp8e4m3), FVec F S16x256 .bf16 ← k0_part28 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) arg16 arg17 v58 v61 k0_hw30 k0_h16 k0_t11 v193 v210 v213 v233 v259 v260
    let v358 : FVec F S64x256 .bf16 ← k0_part29 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v273 v277 v309
    let ⟨v407, v408⟩ : Σ' (v407 : FVec F S16x256 .bf16), FVec F S64x256 .fp8e4m3 ← k0_part30 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v273 v277 v358
    let ⟨v456, v457⟩ : Σ' (v456 : FVec F S64x256 .bf16), Vec F S64x256 .bf16 ← k0_part31 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v273 v277 v407 v408
    let ⟨v502, v503⟩ : Σ' (v502 : Vec F S256x256 .bf16), Vec F S256x256 .bf16 ← k0_part32 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v273 v277 v456 v457
    k v502 v503
/-- The four column blocks of the tile's product, stored or added into the output slot. -/
def dotsK (k0_t10 : Fin k0_t10_loop.trips) (arg16 : BitVec 32) (arg17 : BitVec 32) (arg15 : BitVec 32) (v58 : Elt F .i32) (v61 : Elt F .i32) (k0_hw30 : k0_chk30 arg16 arg17 v58 v61) (v101 v111 : BitVec 32) (k0_h16 : k0_cond16 v58 v61 = 1#1) (k0_t11 : Fin (k0_t11_loop v58 v61).trips) (arg18 : BitVec 32) (v502 v503 : Vec F S256x256 .bf16) : Prog (TpuEff nD τ sig (Elt F) Λ₀ .tc) (BitVec 32) := do
    let ⟨v529, v530⟩ : Σ' (v529 : Vec F S1024x256 .bf16), Vec F S256x256 .bf16 ← k0_part33 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) arg16 arg17 v58 v61 k0_hw30 v111 k0_h16 k0_t11 arg18 v502 v503
    have cst_198 : FVec F S1024x256 .f32 := constant S1024x256 .f32 0x00000000#32
    have v531 : FVec F S1024x256 .f32 := matmul dot_S1024x256_S256x256_S1024x256_1_1_0_0_n_n none v529 v530 cst_198
    let c0_i32_199 : BitVec 32 := 0#32
    let v532 : BitVec 1 := Scalar.cmpi .eq arg18 c0_i32_199
    let v533 : BitVec 32 := Scalar.extui v532
    let c0_i32_200 : BitVec 32 := 0#32
    let v534 : BitVec 1 := Scalar.cmpi .ne v533 c0_i32_200
    if k0_h26 : k0_cond26 v58 v61 k0_t11 = 1#1 then do
      let v538 : Index := Scalar.indexCast v111
      let c0_204 : Index := 0#32
      let c768_205 : Index := 768#32
      let v539 : Vec F S1x1024x256 .f32 ← Prog.lift (.load M8 (Rect.unit (s := S11x1024x1024) (k0_off109 arg16) S1x1024x256.size (k0_off109_inb arg16 arg17 v58 v61 k0_hw30 k0_t11 k0_h16 k0_h26)).toLoadRect (View.loadsAt_vmem h_S1x1024x256))
      have v540 : FVec F S1024x256 .f32 := shapeCast S1024x256 v539 shapeCasts_S1x1024x256_S1024x256
      have v541 : FVec F S1x1024x256 .f32 := shapeCast S1x1024x256 v531 shapeCasts_S1024x256_S1x1024x256
      Prog.lift (.store M8 (Rect.unit (s := S11x1024x1024) (k0_off109 arg16) S1x1024x256.size (k0_off109_inb arg16 arg17 v58 v61 k0_hw30 k0_t11 k0_h16 k0_h26)) v541 Finset.univ (View.stores_vmem_bits_univ h_S1x1024x256 rfl) (.inl rfl))
      pure ⟨⟩
    else do
      pure ⟨⟩
    let c0_i32_201 : BitVec 32 := 0#32
    let v535 : BitVec 1 := Scalar.cmpi .sgt arg18 c0_i32_201
    let v536 : BitVec 32 := Scalar.extui v535
    let c0_i32_202 : BitVec 32 := 0#32
    let v537 : BitVec 1 := Scalar.cmpi .ne v536 c0_i32_202
    if k0_h27 : k0_cond27 v58 v61 k0_t11 = 1#1 then do
      let v538 : Index := Scalar.indexCast v111
      let c0_204 : Index := 0#32
      let c768_205 : Index := 768#32
      let v539 : Vec F S1x1024x256 .f32 ← Prog.lift (.load M8 (Rect.unit (s := S11x1024x1024) (k0_off110 arg16) S1x1024x256.size (k0_off110_inb arg16 arg17 v58 v61 k0_hw30 k0_t11 k0_h16 k0_h27)).toLoadRect (View.loadsAt_vmem h_S1x1024x256))
      have v540 : FVec F S1024x256 .f32 := shapeCast S1024x256 v539 shapeCasts_S1x1024x256_S1024x256
      have v541 : FVec F S1024x256 .f32 := addf v540 v531
      let v542 : Index := Scalar.indexCast v111
      let c0_206 : Index := 0#32
      let c768_207 : Index := 768#32
      let v543 : Vec F S1x1024x256 .f32 ← Prog.lift (.load M8 (Rect.unit (s := S11x1024x1024) (k0_off110 arg16) S1x1024x256.size (k0_off110_inb arg16 arg17 v58 v61 k0_hw30 k0_t11 k0_h16 k0_h27)).toLoadRect (View.loadsAt_vmem h_S1x1024x256))
      have v544 : FVec F S1024x256 .f32 := shapeCast S1024x256 v543 shapeCasts_S1x1024x256_S1024x256
      have v545 : FVec F S1x1024x256 .f32 := shapeCast S1x1024x256 v541 shapeCasts_S1024x256_S1x1024x256
      Prog.lift (.store M8 (Rect.unit (s := S11x1024x1024) (k0_off110 arg16) S1x1024x256.size (k0_off110_inb arg16 arg17 v58 v61 k0_hw30 k0_t11 k0_h16 k0_h27)) v545 Finset.univ (View.stores_vmem_bits_univ h_S1x1024x256 rfl) (.inl rfl))
      pure ⟨⟩
    else do
      pure ⟨⟩
    let c0_i32_203 : BitVec 32 := 0#32
    pure c0_i32_203
theorem t11_body_eq (k0_t10 : Fin k0_t10_loop.trips) (arg16 : BitVec 32) (arg17 : BitVec 32) (arg15 : BitVec 32) (v58 : Elt F .i32) (v61 : Elt F .i32) (k0_hw30 : k0_chk30 arg16 arg17 v58 v61) (v101 v111 : BitVec 32) (k0_h16 : k0_cond16 v58 v61 = 1#1) (k0_t11 : Fin (k0_t11_loop v58 v61).trips) (acc : BitVec 32) :
    k0_t11_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k0_t10 arg16 arg17 arg15 v58 v61 k0_hw30 v101 v111 k0_h16 k0_t11 acc
      = k0_part26 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k0_t10 arg16 arg17 arg15 v58 v61 k0_hw30 k0_h16 0#32 1#32 k0_t11 >>= fun (r : (Σ' (arg18 : BitVec 32) (v193 : BitVec 32) (v210 : Elt F .i32) (v213 : Elt F .i32) (c128_i32_123 : BitVec 32) (v214 : BitVec 32) (v216 : BitVec 32), BitVec 1)) =>
        deqK k0_t10 arg16 arg17 arg15 v58 v61 k0_hw30 v101 v111 k0_h16 k0_t11 r.1 r.2.1 r.2.2.1 r.2.2.2.1 r.2.2.2.2.1 r.2.2.2.2.2.1 r.2.2.2.2.2.2.1 r.2.2.2.2.2.2.2 (fun v502 v503 => dotsK k0_t10 arg16 arg17 arg15 v58 v61 k0_hw30 v101 v111 k0_h16 k0_t11 r.1 v502 v503) := rfl
/-- The first row of tile `u` of an expert whose rows begin at `lo`, before it is moved back to fit. -/
def nomW (lo u : BitVec 32) : BitVec 32 := Scalar.addi (Scalar.muli (fdivW lo 128#32) 128#32) (Scalar.muli u 256#32)
/-- The sixteen blocks of scaled codes, newest first. -/
def aL (lo hi n s : BitVec 32) (S : S1x16x256.Idx → F .f32) (C : S1x256x1024.Idx → F .fp8e4m3) : List (View.Piece (Elt F) S1024x256 .bf16) :=
  [⟨Rect.unit ![960, 0] S64x256.size inb_S1024x256_S64x256_960_0, k0_pay23 (k0_pay1 lo hi n s (iota .tc S16x256 32 [1] iota_S16x256_d1_w32) S) (k0_pay2 C)⟩,
    ⟨Rect.unit ![896, 0] S64x256.size inb_S1024x256_S64x256_896_0, k0_pay22 (k0_pay1 lo hi n s (iota .tc S16x256 32 [1] iota_S16x256_d1_w32) S) (k0_pay2 C)⟩,
    ⟨Rect.unit ![832, 0] S64x256.size inb_S1024x256_S64x256_832_0, k0_pay21 (k0_pay1 lo hi n s (iota .tc S16x256 32 [1] iota_S16x256_d1_w32) S) (k0_pay2 C)⟩,
    ⟨Rect.unit ![768, 0] S64x256.size inb_S1024x256_S64x256_768_0, k0_pay20 (k0_pay19 (k0_pay1 lo hi n s (iota .tc S16x256 32 [1] iota_S16x256_d1_w32) S) (k0_pay2 C))⟩,
    ⟨Rect.unit ![704, 0] S64x256.size inb_S1024x256_S64x256_704_0, k0_pay18 (k0_pay1 lo hi n s (iota .tc S16x256 32 [1] iota_S16x256_d1_w32) S) (k0_pay2 C)⟩,
    ⟨Rect.unit ![640, 0] S64x256.size inb_S1024x256_S64x256_640_0, k0_pay17 (k0_pay1 lo hi n s (iota .tc S16x256 32 [1] iota_S16x256_d1_w32) S) (k0_pay2 C)⟩,
    ⟨Rect.unit ![576, 0] S64x256.size inb_S1024x256_S64x256_576_0, k0_pay16 (k0_pay14 (k0_pay1 lo hi n s (iota .tc S16x256 32 [1] iota_S16x256_d1_w32) S)) (k0_pay15 (k0_pay2 C))⟩,
    ⟨Rect.unit ![512, 0] S64x256.size inb_S1024x256_S64x256_512_0, k0_pay13 (k0_pay1 lo hi n s (iota .tc S16x256 32 [1] iota_S16x256_d1_w32) S) (k0_pay2 C)⟩,
    ⟨Rect.unit ![448, 0] S64x256.size inb_S1024x256_S64x256_448_0, k0_pay12 (k0_pay1 lo hi n s (iota .tc S16x256 32 [1] iota_S16x256_d1_w32) S) (k0_pay2 C)⟩,
    ⟨Rect.unit ![384, 0] S64x256.size inb_S1024x256_S64x256_384_0, k0_pay11 (k0_pay1 lo hi n s (iota .tc S16x256 32 [1] iota_S16x256_d1_w32) S) (k0_pay2 C)⟩,
    ⟨Rect.unit ![320, 0] S64x256.size inb_S1024x256_S64x256_320_0, k0_pay10 (k0_pay9 (k0_pay1 lo hi n s (iota .tc S16x256 32 [1] iota_S16x256_d1_w32) S) (k0_pay2 C))⟩,
    ⟨Rect.unit ![256, 0] S64x256.size inb_S1024x256_S64x256_256_0, k0_pay8 (k0_pay1 lo hi n s (iota .tc S16x256 32 [1] iota_S16x256_d1_w32) S) (k0_pay2 C)⟩,
    ⟨Rect.unit ![192, 0] S64x256.size inb_S1024x256_S64x256_192_0, k0_pay7 (k0_pay1 lo hi n s (iota .tc S16x256 32 [1] iota_S16x256_d1_w32) S) (k0_pay2 C)⟩,
    ⟨Rect.unit ![128, 0] S64x256.size inb_S1024x256_S64x256_128_0, k0_pay6 (k0_pay2 C) (k0_pay5 lo hi n s (iota .tc S16x256 32 [1] iota_S16x256_d1_w32) S)⟩,
    ⟨Rect.unit ![64, 0] S64x256.size inb_S1024x256_S64x256_64_0, k0_pay4 lo hi n s (iota .tc S16x256 32 [1] iota_S16x256_d1_w32) S C⟩,
    ⟨Rect.unit ![0, 0] S64x256.size inb_S1024x256_S64x256_0_0, k0_pay3 lo hi n s (iota .tc S16x256 32 [1] iota_S16x256_d1_w32) S C⟩]
/-- The scaled codes of one tile, one column a row. -/
def aA (lo hi n s : BitVec 32) (S : S1x16x256.Idx → F .f32) (C : S1x256x1024.Idx → F .fp8e4m3) : S1024x256.Idx → F .bf16 := View.canon (aL lo hi n s S C)
theorem aL_cover (lo hi n s : BitVec 32) (S : S1x16x256.Idx → F .f32) (C : S1x256x1024.Idx → F .fp8e4m3) : ∀ y, ∃ p ∈ aL lo hi n s S C, y ∈ p.1.set :=
  View.cover_of_tiledL _ ![64, 256] rfl
/-- A block of rows of the scaled codes. -/
def ldA (A : S1024x256.Idx → F .bf16) (r : Rect S1024x256) : r.shape.Idx → F .bf16 := fun j => A (r.toLoadRect.idx j)
abbrev r256 : Rect S1024x256 := Rect.unit ![0, 0] S256x256.size inb_S1024x256_S256x256_0_0
theorem off99_eq (k : Fin k0_t10_loop.trips) : k0_off99 k = ![k.1] := by revert k; decide
theorem off100_eq (k : Fin k0_t10_loop.trips) : k0_off100 k = ![k.1 + 1] := by revert k; decide
theorem m7_writes (f7 : Buf (Elt F) (M7.view.loc (c : Thread nD τ))) (L : List (View.Piece (Elt F) S1024x256 .bf16)) (h : ∀ y, ∃ p ∈ L, y ∈ p.1.set) :
    M7.view.writes (Elt F) f7 L = View.canon L := View.read_writes_eq_canon M7.view f7 L h
theorem m7_cov (L : List (View.Piece (Elt F) S1024x256 .bf16)) : M7.view.readCov L r256.toLoadRect = ldA (View.canon L) r256 :=
  View.readCov_eq_canon' M7.view L _
theorem deq_spec (k0_t10 : Fin k0_t10_loop.trips) (arg16 arg17 arg15 v58 v61 : BitVec 32) (k0_hw30 : k0_chk30 arg16 arg17 v58 v61) (v101 v111 : BitVec 32) (k0_h16 : k0_cond16 v58 v61 = 1#1) (k0_t11 : Fin (k0_t11_loop v58 v61).trips) (arg18 v193 lo hi : BitVec 32)
    (o : S65.Idx → BitVec 32) (h65 : k0_t10.1 < 65) (hlo : o (i65 k0_t10.1 h65) = lo)
    (b : Fin 8) (e1 : k0_off101 arg17 v58 v61 k0_t11 = ![b.val, 0, 0]) (e2 : k0_off102 arg17 v58 v61 k0_t11 = ![b.val, 0, 0]) (f5 : Buf (Elt F) ((slotC b).view.loc (c : Thread nD τ))) (f6 : Buf (Elt F) ((slotS b).view.loc (c : Thread nD τ)))
    (f7 : Buf (Elt F) (M7.view.loc (c : Thread nD τ))) {α : Type} (k : Vec F S256x256 .bf16 → Vec F S256x256 .bf16 → Prog (TpuEff nD τ sig (Elt F) Λ₀ .tc) α) (Q : α → sProp 𝕄) :
    iprop((M0.view.loc (c : Thread nD τ) ↦{fullShare} o) ∗ ((slotC b).view.loc (c : Thread nD τ) ↦[(slotC b).view.set]{fullShare} f5) ∗ ((slotS b).view.loc (c : Thread nD τ) ↦[(slotS b).view.set]{fullShare} f6) ∗ (M7.view.loc (c : Thread nD τ) ↦{fullShare} f7)
        ∗ ((M0.view.loc (c : Thread nD τ) ↦{fullShare} o) -∗ ((slotC b).view.loc (c : Thread nD τ) ↦[(slotC b).view.set]{fullShare} f5) -∗ ((slotS b).view.loc (c : Thread nD τ) ↦[(slotS b).view.set]{fullShare} f6)
          -∗ (M7.view.loc (c : Thread nD τ) ↦{fullShare} (aA lo hi (nomW lo arg18) (stW lo arg18) (rdS c b f6) (rdC c b f5)))
          -∗ wp frame (wpE (defs₀ (F := F)) Variants.none (c : Thread nD τ) none) Set.univ (k (ldA (aA lo hi (nomW lo arg18) (stW lo arg18) (rdS c b f6) (rdC c b f5)) r256) (ldA (aA lo hi (nomW lo arg18) (stW lo arg18) (rdS c b f6) (rdC c b f5)) r256)) Q))
      ⊢ wp frame (wpE (defs₀ (F := F)) Variants.none (c : Thread nD τ) none) Set.univ (deqK (F := F) k0_t10 arg16 arg17 arg15 v58 v61 k0_hw30 v101 v111 k0_h16 k0_t11 arg18 v193 lo hi 128#32 (Scalar.divsi lo 128#32) (Scalar.extui (Scalar.cmpi .sgt lo 0#32)) (Scalar.cmpi .slt lo 0#32) k) Q := by
  iintro ⟨H0, H5, H6, H7, HK⟩
  unfold deqK
  sl_exec
  iapply ld6 c b e1 $$ H6
  iintro H6
  iapply ld5 c b e2 $$ H5
  iintro H5
  iapply wp_rb c
  sl_exec
  have er : deq_spec.sl.r (F := F) k0_t10 o = lo := (read0 (F := F) o _ _ _ k0_t10.1 (congrFun (off99_eq k0_t10) 0) h65).trans hlo
  have e259 : deq_spec.sl.v259 (F := F) k0_t10 arg18 o = stW lo arg18 := by
    have : deq_spec.sl.v259 (F := F) k0_t10 arg18 o = stW (deq_spec.sl.r (F := F) k0_t10 o) arg18 := rfl
    rw [this, er]
  have eL : deq_spec.sl.H7_16 (F := F) c k0_t10 arg18 lo hi o b f5 f6 = aL lo hi (nomW lo arg18) (stW lo arg18) (rdS c b f6) (rdC c b f5) := by
    have : deq_spec.sl.H7_16 (F := F) c k0_t10 arg18 lo hi o b f5 f6 = aL lo hi (nomW lo arg18) (deq_spec.sl.v259 (F := F) k0_t10 arg18 o) (rdS c b f6) (rdC c b f5) := rfl
    rw [this, e259]
  have eW : M7.view.writes (Elt F) f7 (deq_spec.sl.H7_16 (F := F) c k0_t10 arg18 lo hi o b f5 f6) = aA lo hi (nomW lo arg18) (stW lo arg18) (rdS c b f6) (rdC c b f5) := by
    rw [eL, m7_writes c f7 _ (aL_cover lo hi _ _ _ _)]; rfl
  have eV : deq_spec.sl.v502 (F := F) c k0_t10 arg18 lo hi o b f5 f6 = ldA (aA lo hi (nomW lo arg18) (stW lo arg18) (rdS c b f6) (rdC c b f5)) r256 := by
    have : deq_spec.sl.v502 (F := F) c k0_t10 arg18 lo hi o b f5 f6 = M7.view.readCov (deq_spec.sl.H7_16 (F := F) c k0_t10 arg18 lo hi o b f5 f6) r256.toLoadRect := rfl
    rw [this, eL, m7_cov]; rfl
  ihave H7 := (Entails.of_eq (congrArg (fun w => (M7.view.loc (c : Thread nD τ) ↦{fullShare} w)) eW)) $$ H7
  ihave HK := HK $$ H0 H5 H6 H7
  ihave HK := (Entails.of_eq (congrArg (fun w => wp frame (wpE (defs₀ (F := F)) Variants.none (c : Thread nD τ) none) Set.univ (k w w) Q) eV.symm)) $$ HK
  iexact HK

end Cert.KernelIdeal.Hand
-- ==== Proof.Ideal.Unit2.lean ====
module
public import proofs.«01_k».proof.Proof.Ideal.Unit1

/-! One tile of an expert: the output slots and the accesses to them. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
variable (c : Dev nD)
theorem inbF (s : Fin 11) : ∀ a, (![s.val, 0, 0] : Fin 3 → ℕ) a + S1x1024x1024.size a ≤ S11x1024x1024.size a := inbF' s.isLt
/-- Slot `s` of the output buffer. -/
abbrev slotO (s : Fin 11) : Memref sig .tc .vmem S1024x1024 .f32 :=
  (M8.slice (Rect.unit (s := S11x1024x1024) ![s.val, 0, 0] S1x1024x1024.size (inbF s)) (fun _ => rfl)).squeeze S1024x1024 squeezes_S1x1024x1024_S1024x1024
theorem slotO_set (s : Fin 11) : (slotO s).view.set = (Rect.unit (s := S11x1024x1024) ![s.val, 0, 0] S1x1024x1024.size (inbF s)).set := by
  refine (View.set_reshape _ _).trans ?_
  exact View.set_slice_whole _ _
theorem mem_slotO (s : Fin 11) (i : S11x1024x1024.Idx) : i ∈ (slotO s).view.set ↔ (i 0).val = s.val := by
  rw [slotO_set, Rect.mem_set_unit, Fin.forall_fin_succ, Fin.forall_fin_succ, Fin.forall_fin_one]
  have h1 : (i 1).val < 1024 := (i 1).isLt
  have h2 : (i 2).val < 1024 := (i 2).isLt
  show (s.val ≤ (i 0).val ∧ (i 0).val < s.val + 1) ∧ (0 ≤ (i 1).val ∧ (i 1).val < 0 + 1024) ∧ (0 ≤ (i 2).val ∧ (i 2).val < 0 + 1024) ↔ _
  omega
/-- What an output slot's buffer holds. -/
abbrev BufO (F : FTy → Type) (c : Dev nD) : Type := Buf (Elt F) (M8.view.loc (c : Thread nD τ))
abbrev ownO (s : Fin 11) (f : BufO F c) : sProp 𝕄 := M8.view.loc (c : Thread nD τ) ↦[(slotO s).view.set]{fullShare} f
theorem sub256 (s : Fin 11) (x y : ℕ) (h : ∀ a, (![s.val, x, y] : Fin 3 → ℕ) a + S1x256x256.size a ≤ S11x1024x1024.size a) :
    (M8.access (Rect.unit (s := S11x1024x1024) ![s.val, x, y] S1x256x256.size h)).set ⊆ (slotO s).view.set := by
  have e : (M8.access (Rect.unit (s := S11x1024x1024) ![s.val, x, y] S1x256x256.size h)).set = (Rect.unit (s := S11x1024x1024) ![s.val, x, y] S1x256x256.size h).set := View.set_slice_whole _ _
  rw [e]
  intro i hi
  rw [mem_slotO]
  have h0 := (Rect.mem_set_unit.mp hi) 0
  have h1 : s.val ≤ (i 0).val ∧ (i 0).val < s.val + 1 := h0
  omega
/-- What a load of a rectangle of slot `s` reads. -/
def rdO256 (s : Fin 11) (x y : ℕ) (h : ∀ a, (![s.val, x, y] : Fin 3 → ℕ) a + S1x256x256.size a ≤ S11x1024x1024.size a) (f : BufO F c) : S1x256x256.Idx → F .f32 :=
  (M8.access (Rect.unit (s := S11x1024x1024) ![s.val, x, y] S1x256x256.size h)).read (Elt F) f
/-- Slot `s` after a store into a rectangle of it. -/
def stO256 (s : Fin 11) (x y : ℕ) (h : ∀ a, (![s.val, x, y] : Fin 3 → ℕ) a + S1x256x256.size a ≤ S11x1024x1024.size a) (f : BufO F c) (w : S1x256x256.Idx → F .f32) : BufO F c :=
  (M8.access (Rect.unit (s := S11x1024x1024) ![s.val, x, y] S1x256x256.size h)).write (Elt F) f w Finset.univ
theorem ld8_256 (s : Fin 11) (x y : ℕ) (h' : ∀ a, (![s.val, x, y] : Fin 3 → ℕ) a + S1x256x256.size a ≤ S11x1024x1024.size a) {off : Fin 3 → ℕ} (e : off = ![s.val, x, y]) {h : ∀ a, off a + S1x256x256.size a ≤ S11x1024x1024.size a} {hl}
    {f : BufO F c} {α : Type} {k : (S1x256x256.Idx → Elt F (.f32 : EltTy)) → Prog (TpuEff nD τ sig (Elt F) Λ₀ .tc) α} {Q : α → sProp 𝕄} :
    (ownO c s f) ⊢ iprop((ownO c s f -∗ wp frame (wpE (defs₀ (F := F)) Variants.none (c : Thread nD τ) none) Set.univ (k (rdO256 c s x y h' f)) Q) -∗ wp frame (wpE (defs₀ (F := F)) Variants.none (c : Thread nD τ) none) Set.univ (.op (.load M8 (Rect.unit (s := S11x1024x1024) off S1x256x256.size h).toLoadRect hl) k) Q) := by
  subst e
  exact wp_load_rect (defs := defs₀ (F := F)) Variants.none (c : Thread nD τ) none Set.univ (m := M8) (r := Rect.unit (s := S11x1024x1024) ![s.val, x, y] S1x256x256.size h') (hl := hl) (k := k) (sub256 s x y h')
theorem st8_256 (s : Fin 11) (x y : ℕ) (h' : ∀ a, (![s.val, x, y] : Fin 3 → ℕ) a + S1x256x256.size a ≤ S11x1024x1024.size a) {off : Fin 3 → ℕ} (e : off = ![s.val, x, y]) {h : ∀ a, off a + S1x256x256.size a ≤ S11x1024x1024.size a}
    {w : S1x256x256.Idx → Elt F (.f32 : EltTy)} {hx hm}
    {f : BufO F c} {α : Type} {k : PUnit → Prog (TpuEff nD τ sig (Elt F) Λ₀ .tc) α} {Q : α → sProp 𝕄} :
    (ownO c s f) ⊢ iprop((ownO c s (stO256 c s x y h' f w) -∗ wp frame (wpE (defs₀ (F := F)) Variants.none (c : Thread nD τ) none) Set.univ (k ⟨⟩) Q) -∗ wp frame (wpE (defs₀ (F := F)) Variants.none (c : Thread nD τ) none) Set.univ (.op (.store M8 (Rect.unit (s := S11x1024x1024) off S1x256x256.size h) w Finset.univ hx hm) k) Q) := by
  subst e
  exact wp_store (defs := defs₀ (F := F)) Variants.none (c : Thread nD τ) none Set.univ (m := M8) (r := Rect.unit (s := S11x1024x1024) ![s.val, x, y] S1x256x256.size h') (hx := hx) (hm := hm) (k := k) (sub256 s x y h')
theorem sub512 (s : Fin 11) (x y : ℕ) (h : ∀ a, (![s.val, x, y] : Fin 3 → ℕ) a + S1x512x256.size a ≤ S11x1024x1024.size a) :
    (M8.access (Rect.unit (s := S11x1024x1024) ![s.val, x, y] S1x512x256.size h)).set ⊆ (slotO s).view.set := by
  have e : (M8.access (Rect.unit (s := S11x1024x1024) ![s.val, x, y] S1x512x256.size h)).set = (Rect.unit (s := S11x1024x1024) ![s.val, x, y] S1x512x256.size h).set := View.set_slice_whole _ _
  rw [e]
  intro i hi
  rw [mem_slotO]
  have h0 := (Rect.mem_set_unit.mp hi) 0
  have h1 : s.val ≤ (i 0).val ∧ (i 0).val < s.val + 1 := h0
  omega
/-- What a load of a rectangle of slot `s` reads. -/
def rdO512 (s : Fin 11) (x y : ℕ) (h : ∀ a, (![s.val, x, y] : Fin 3 → ℕ) a + S1x512x256.size a ≤ S11x1024x1024.size a) (f : BufO F c) : S1x512x256.Idx → F .f32 :=
  (M8.access (Rect.unit (s := S11x1024x1024) ![s.val, x, y] S1x512x256.size h)).read (Elt F) f
/-- Slot `s` after a store into a rectangle of it. -/
def stO512 (s : Fin 11) (x y : ℕ) (h : ∀ a, (![s.val, x, y] : Fin 3 → ℕ) a + S1x512x256.size a ≤ S11x1024x1024.size a) (f : BufO F c) (w : S1x512x256.Idx → F .f32) : BufO F c :=
  (M8.access (Rect.unit (s := S11x1024x1024) ![s.val, x, y] S1x512x256.size h)).write (Elt F) f w Finset.univ
theorem ld8_512 (s : Fin 11) (x y : ℕ) (h' : ∀ a, (![s.val, x, y] : Fin 3 → ℕ) a + S1x512x256.size a ≤ S11x1024x1024.size a) {off : Fin 3 → ℕ} (e : off = ![s.val, x, y]) {h : ∀ a, off a + S1x512x256.size a ≤ S11x1024x1024.size a} {hl}
    {f : BufO F c} {α : Type} {k : (S1x512x256.Idx → Elt F (.f32 : EltTy)) → Prog (TpuEff nD τ sig (Elt F) Λ₀ .tc) α} {Q : α → sProp 𝕄} :
    (ownO c s f) ⊢ iprop((ownO c s f -∗ wp frame (wpE (defs₀ (F := F)) Variants.none (c : Thread nD τ) none) Set.univ (k (rdO512 c s x y h' f)) Q) -∗ wp frame (wpE (defs₀ (F := F)) Variants.none (c : Thread nD τ) none) Set.univ (.op (.load M8 (Rect.unit (s := S11x1024x1024) off S1x512x256.size h).toLoadRect hl) k) Q) := by
  subst e
  exact wp_load_rect (defs := defs₀ (F := F)) Variants.none (c : Thread nD τ) none Set.univ (m := M8) (r := Rect.unit (s := S11x1024x1024) ![s.val, x, y] S1x512x256.size h') (hl := hl) (k := k) (sub512 s x y h')
theorem st8_512 (s : Fin 11) (x y : ℕ) (h' : ∀ a, (![s.val, x, y] : Fin 3 → ℕ) a + S1x512x256.size a ≤ S11x1024x1024.size a) {off : Fin 3 → ℕ} (e : off = ![s.val, x, y]) {h : ∀ a, off a + S1x512x256.size a ≤ S11x1024x1024.size a}
    {w : S1x512x256.Idx → Elt F (.f32 : EltTy)} {hx hm}
    {f : BufO F c} {α : Type} {k : PUnit → Prog (TpuEff nD τ sig (Elt F) Λ₀ .tc) α} {Q : α → sProp 𝕄} :
    (ownO c s f) ⊢ iprop((ownO c s (stO512 c s x y h' f w) -∗ wp frame (wpE (defs₀ (F := F)) Variants.none (c : Thread nD τ) none) Set.univ (k ⟨⟩) Q) -∗ wp frame (wpE (defs₀ (F := F)) Variants.none (c : Thread nD τ) none) Set.univ (.op (.store M8 (Rect.unit (s := S11x1024x1024) off S1x512x256.size h) w Finset.univ hx hm) k) Q) := by
  subst e
  exact wp_store (defs := defs₀ (F := F)) Variants.none (c : Thread nD τ) none Set.univ (m := M8) (r := Rect.unit (s := S11x1024x1024) ![s.val, x, y] S1x512x256.size h') (hx := hx) (hm := hm) (k := k) (sub512 s x y h')
theorem sub768 (s : Fin 11) (x y : ℕ) (h : ∀ a, (![s.val, x, y] : Fin 3 → ℕ) a + S1x768x256.size a ≤ S11x1024x1024.size a) :
    (M8.access (Rect.unit (s := S11x1024x1024) ![s.val, x, y] S1x768x256.size h)).set ⊆ (slotO s).view.set := by
  have e : (M8.access (Rect.unit (s := S11x1024x1024) ![s.val, x, y] S1x768x256.size h)).set = (Rect.unit (s := S11x1024x1024) ![s.val, x, y] S1x768x256.size h).set := View.set_slice_whole _ _
  rw [e]
  intro i hi
  rw [mem_slotO]
  have h0 := (Rect.mem_set_unit.mp hi) 0
  have h1 : s.val ≤ (i 0).val ∧ (i 0).val < s.val + 1 := h0
  omega
/-- What a load of a rectangle of slot `s` reads. -/
def rdO768 (s : Fin 11) (x y : ℕ) (h : ∀ a, (![s.val, x, y] : Fin 3 → ℕ) a + S1x768x256.size a ≤ S11x1024x1024.size a) (f : BufO F c) : S1x768x256.Idx → F .f32 :=
  (M8.access (Rect.unit (s := S11x1024x1024) ![s.val, x, y] S1x768x256.size h)).read (Elt F) f
/-- Slot `s` after a store into a rectangle of it. -/
def stO768 (s : Fin 11) (x y : ℕ) (h : ∀ a, (![s.val, x, y] : Fin 3 → ℕ) a + S1x768x256.size a ≤ S11x1024x1024.size a) (f : BufO F c) (w : S1x768x256.Idx → F .f32) : BufO F c :=
  (M8.access (Rect.unit (s := S11x1024x1024) ![s.val, x, y] S1x768x256.size h)).write (Elt F) f w Finset.univ
theorem ld8_768 (s : Fin 11) (x y : ℕ) (h' : ∀ a, (![s.val, x, y] : Fin 3 → ℕ) a + S1x768x256.size a ≤ S11x1024x1024.size a) {off : Fin 3 → ℕ} (e : off = ![s.val, x, y]) {h : ∀ a, off a + S1x768x256.size a ≤ S11x1024x1024.size a} {hl}
    {f : BufO F c} {α : Type} {k : (S1x768x256.Idx → Elt F (.f32 : EltTy)) → Prog (TpuEff nD τ sig (Elt F) Λ₀ .tc) α} {Q : α → sProp 𝕄} :
    (ownO c s f) ⊢ iprop((ownO c s f -∗ wp frame (wpE (defs₀ (F := F)) Variants.none (c : Thread nD τ) none) Set.univ (k (rdO768 c s x y h' f)) Q) -∗ wp frame (wpE (defs₀ (F := F)) Variants.none (c : Thread nD τ) none) Set.univ (.op (.load M8 (Rect.unit (s := S11x1024x1024) off S1x768x256.size h).toLoadRect hl) k) Q) := by
  subst e
  exact wp_load_rect (defs := defs₀ (F := F)) Variants.none (c : Thread nD τ) none Set.univ (m := M8) (r := Rect.unit (s := S11x1024x1024) ![s.val, x, y] S1x768x256.size h') (hl := hl) (k := k) (sub768 s x y h')
theorem st8_768 (s : Fin 11) (x y : ℕ) (h' : ∀ a, (![s.val, x, y] : Fin 3 → ℕ) a + S1x768x256.size a ≤ S11x1024x1024.size a) {off : Fin 3 → ℕ} (e : off = ![s.val, x, y]) {h : ∀ a, off a + S1x768x256.size a ≤ S11x1024x1024.size a}
    {w : S1x768x256.Idx → Elt F (.f32 : EltTy)} {hx hm}
    {f : BufO F c} {α : Type} {k : PUnit → Prog (TpuEff nD τ sig (Elt F) Λ₀ .tc) α} {Q : α → sProp 𝕄} :
    (ownO c s f) ⊢ iprop((ownO c s (stO768 c s x y h' f w) -∗ wp frame (wpE (defs₀ (F := F)) Variants.none (c : Thread nD τ) none) Set.univ (k ⟨⟩) Q) -∗ wp frame (wpE (defs₀ (F := F)) Variants.none (c : Thread nD τ) none) Set.univ (.op (.store M8 (Rect.unit (s := S11x1024x1024) off S1x768x256.size h) w Finset.univ hx hm) k) Q) := by
  subst e
  exact wp_store (defs := defs₀ (F := F)) Variants.none (c : Thread nD τ) none Set.univ (m := M8) (r := Rect.unit (s := S11x1024x1024) ![s.val, x, y] S1x768x256.size h') (hx := hx) (hm := hm) (k := k) (sub768 s x y h')
theorem sub1024 (s : Fin 11) (x y : ℕ) (h : ∀ a, (![s.val, x, y] : Fin 3 → ℕ) a + S1x1024x256.size a ≤ S11x1024x1024.size a) :
    (M8.access (Rect.unit (s := S11x1024x1024) ![s.val, x, y] S1x1024x256.size h)).set ⊆ (slotO s).view.set := by
  have e : (M8.access (Rect.unit (s := S11x1024x1024) ![s.val, x, y] S1x1024x256.size h)).set = (Rect.unit (s := S11x1024x1024) ![s.val, x, y] S1x1024x256.size h).set := View.set_slice_whole _ _
  rw [e]
  intro i hi
  rw [mem_slotO]
  have h0 := (Rect.mem_set_unit.mp hi) 0
  have h1 : s.val ≤ (i 0).val ∧ (i 0).val < s.val + 1 := h0
  omega
/-- What a load of a rectangle of slot `s` reads. -/
def rdO1024 (s : Fin 11) (x y : ℕ) (h : ∀ a, (![s.val, x, y] : Fin 3 → ℕ) a + S1x1024x256.size a ≤ S11x1024x1024.size a) (f : BufO F c) : S1x1024x256.Idx → F .f32 :=
  (M8.access (Rect.unit (s := S11x1024x1024) ![s.val, x, y] S1x1024x256.size h)).read (Elt F) f
/-- Slot `s` after a store into a rectangle of it. -/
def stO1024 (s : Fin 11) (x y : ℕ) (h : ∀ a, (![s.val, x, y] : Fin 3 → ℕ) a + S1x1024x256.size a ≤ S11x1024x1024.size a) (f : BufO F c) (w : S1x1024x256.Idx → F .f32) : BufO F c :=
  (M8.access (Rect.unit (s := S11x1024x1024) ![s.val, x, y] S1x1024x256.size h)).write (Elt F) f w Finset.univ
theorem ld8_1024 (s : Fin 11) (x y : ℕ) (h' : ∀ a, (![s.val, x, y] : Fin 3 → ℕ) a + S1x1024x256.size a ≤ S11x1024x1024.size a) {off : Fin 3 → ℕ} (e : off = ![s.val, x, y]) {h : ∀ a, off a + S1x1024x256.size a ≤ S11x1024x1024.size a} {hl}
    {f : BufO F c} {α : Type} {k : (S1x1024x256.Idx → Elt F (.f32 : EltTy)) → Prog (TpuEff nD τ sig (Elt F) Λ₀ .tc) α} {Q : α → sProp 𝕄} :
    (ownO c s f) ⊢ iprop((ownO c s f -∗ wp frame (wpE (defs₀ (F := F)) Variants.none (c : Thread nD τ) none) Set.univ (k (rdO1024 c s x y h' f)) Q) -∗ wp frame (wpE (defs₀ (F := F)) Variants.none (c : Thread nD τ) none) Set.univ (.op (.load M8 (Rect.unit (s := S11x1024x1024) off S1x1024x256.size h).toLoadRect hl) k) Q) := by
  subst e
  exact wp_load_rect (defs := defs₀ (F := F)) Variants.none (c : Thread nD τ) none Set.univ (m := M8) (r := Rect.unit (s := S11x1024x1024) ![s.val, x, y] S1x1024x256.size h') (hl := hl) (k := k) (sub1024 s x y h')
theorem st8_1024 (s : Fin 11) (x y : ℕ) (h' : ∀ a, (![s.val, x, y] : Fin 3 → ℕ) a + S1x1024x256.size a ≤ S11x1024x1024.size a) {off : Fin 3 → ℕ} (e : off = ![s.val, x, y]) {h : ∀ a, off a + S1x1024x256.size a ≤ S11x1024x1024.size a}
    {w : S1x1024x256.Idx → Elt F (.f32 : EltTy)} {hx hm}
    {f : BufO F c} {α : Type} {k : PUnit → Prog (TpuEff nD τ sig (Elt F) Λ₀ .tc) α} {Q : α → sProp 𝕄} :
    (ownO c s f) ⊢ iprop((ownO c s (stO1024 c s x y h' f w) -∗ wp frame (wpE (defs₀ (F := F)) Variants.none (c : Thread nD τ) none) Set.univ (k ⟨⟩) Q) -∗ wp frame (wpE (defs₀ (F := F)) Variants.none (c : Thread nD τ) none) Set.univ (.op (.store M8 (Rect.unit (s := S11x1024x1024) off S1x1024x256.size h) w Finset.univ hx hm) k) Q) := by
  subst e
  exact wp_store (defs := defs₀ (F := F)) Variants.none (c : Thread nD τ) none Set.univ (m := M8) (r := Rect.unit (s := S11x1024x1024) ![s.val, x, y] S1x1024x256.size h') (hx := hx) (hm := hm) (k := k) (sub1024 s x y h')

end Cert.KernelIdeal.Hand
-- ==== Proof.Ideal.Unit3.lean ====
module
public import proofs.«01_k».proof.Proof.Ideal.Unit2

/-! One tile of an expert: the column blocks of its product, stored or added into the output slot. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
variable (c : Dev nD)
theorem inb256s (s : Fin 11) : ∀ a, (![s.val, 0, 0] : Fin 3 → ℕ) a + S1x256x256.size a ≤ S11x1024x1024.size a := inbB' s.isLt (by decide) (by decide)
theorem inb512s (s : Fin 11) : ∀ a, (![s.val, 0, 256] : Fin 3 → ℕ) a + S1x512x256.size a ≤ S11x1024x1024.size a := inbC512 s.isLt (by decide)
theorem inb768s (s : Fin 11) : ∀ a, (![s.val, 0, 512] : Fin 3 → ℕ) a + S1x768x256.size a ≤ S11x1024x1024.size a := inbC768 s.isLt (by decide)
theorem inb1024s (s : Fin 11) : ∀ a, (![s.val, 0, 768] : Fin 3 → ℕ) a + S1x1024x256.size a ≤ S11x1024x1024.size a := inbC1024 s.isLt (by decide)
/-- What a load of a rectangle of the tile buffer reads. -/
def rd7 (A : S1024x256.Idx → F .bf16) (r : Rect S1024x256) : r.shape.Idx → F .bf16 := View.readAt (Elt F) M7.view r.toLoadRect A
abbrev q512 : Rect S1024x256 := Rect.unit ![0, 0] S512x256.size inb_S1024x256_S512x256_0_0
abbrev q768 : Rect S1024x256 := Rect.unit ![0, 0] S768x256.size inb_S1024x256_S768x256_0_0
abbrev q1024 : Rect S1024x256 := Rect.unit ![0, 0] S1024x256.size inb_S1024x256_S1024x256_0_0
abbrev b256 : Rect S1024x256 := Rect.unit ![256, 0] S256x256.size inb_S1024x256_S256x256_256_0
abbrev b512 : Rect S1024x256 := Rect.unit ![512, 0] S256x256.size inb_S1024x256_S256x256_512_0
abbrev b768 : Rect S1024x256 := Rect.unit ![768, 0] S256x256.size inb_S1024x256_S256x256_768_0
/-- The last column block of a product. -/
def dot3 (v529 : Vec F S1024x256 .bf16) (v530 : Vec F S256x256 .bf16) : FVec F S1024x256 .f32 :=
  matmul dot_S1024x256_S256x256_S1024x256_1_1_0_0_n_n none v529 v530 (constant S1024x256 .f32 0x00000000#32)
def pay3s (v529 : Vec F S1024x256 .bf16) (v530 : Vec F S256x256 .bf16) : FVec F S1x1024x256 .f32 :=
  shapeCast S1x1024x256 (dot3 v529 v530) shapeCasts_S1024x256_S1x1024x256
def pay3a (v529 : Vec F S1024x256 .bf16) (v530 : Vec F S256x256 .bf16) (v539 : Vec F S1x1024x256 .f32) : FVec F S1x1024x256 .f32 :=
  shapeCast S1x1024x256 (addf (shapeCast S1024x256 v539 shapeCasts_S1x1024x256_S1024x256) (dot3 v529 v530)) shapeCasts_S1024x256_S1x1024x256
/-- Slot `s` after the first tile: its column blocks are stored. -/
def dots0 (s : Fin 11) (A : S1024x256.Idx → F .bf16) (f : BufO F c) : BufO F c :=
  stO1024 c s 0 768 (inb1024s s) (stO768 c s 0 512 (inb768s s) (stO512 c s 0 256 (inb512s s) (stO256 c s 0 0 (inb256s s) f
    (k0_pay25 (ldA A r256) (ldA A r256))) (k0_pay28 (rd7 A q512) (rd7 A b256))) (k0_pay31 (rd7 A q768) (rd7 A b512))) (pay3s (rd7 A q1024) (rd7 A b768))
def acc0 (s : Fin 11) (A : S1024x256.Idx → F .bf16) (f : BufO F c) : BufO F c :=
  stO256 c s 0 0 (inb256s s) f (k0_pay26 (ldA A r256) (ldA A r256) (rdO256 c s 0 0 (inb256s s) f))
def acc1 (s : Fin 11) (A : S1024x256.Idx → F .bf16) (f : BufO F c) : BufO F c :=
  stO512 c s 0 256 (inb512s s) f (k0_pay29 (rd7 A q512) (rd7 A b256) (rdO512 c s 0 256 (inb512s s) f))
def acc2 (s : Fin 11) (A : S1024x256.Idx → F .bf16) (f : BufO F c) : BufO F c :=
  stO768 c s 0 512 (inb768s s) f (k0_pay32 (rd7 A q768) (rd7 A b512) (rdO768 c s 0 512 (inb768s s) f))
def acc3 (s : Fin 11) (A : S1024x256.Idx → F .bf16) (f : BufO F c) : BufO F c :=
  stO1024 c s 0 768 (inb1024s s) f (pay3a (rd7 A q1024) (rd7 A b768) (rdO1024 c s 0 768 (inb1024s s) f))
/-- Slot `s` after a later tile: its column blocks are added. -/
def dotsS (s : Fin 11) (A : S1024x256.Idx → F .bf16) (f : BufO F c) : BufO F c := acc3 c s A (acc2 c s A (acc1 c s A (acc0 c s A f)))
theorem dots_first (k0_t10 : Fin k0_t10_loop.trips) (arg16 arg17 arg15 v58 v61 : BitVec 32) (k0_hw30 : k0_chk30 arg16 arg17 v58 v61) (v101 v111 : BitVec 32) (k0_h16 : k0_cond16 v58 v61 = 1#1) (k0_t11 : Fin (k0_t11_loop v58 v61).trips) (arg18 : BitVec 32)
    (A : S1024x256.Idx → F .bf16) (s : Fin 11) (f : BufO F c) (hs : arg16.toNat % 11 = s.val) (hp : arg16.toNat < 2 ^ 31)
    (hl : v58.toNat ≤ 32768) (hh : v61.toNat ≤ 32768) (hk : k0_t11.1 = 0) (Q : BitVec 32 → sProp 𝕄) :
    iprop((M7.view.loc (c : Thread nD τ) ↦{fullShare} A) ∗ ownO c s f ∗ ((M7.view.loc (c : Thread nD τ) ↦{fullShare} A) -∗ ownO c s (dots0 c s A f) -∗ Q 0#32))
      ⊢ wp frame (wpE (defs₀ (F := F)) Variants.none (c : Thread nD τ) none) Set.univ (dotsK (F := F) k0_t10 arg16 arg17 arg15 v58 v61 k0_hw30 v101 v111 k0_h16 k0_t11 arg18 (ldA A r256) (ldA A r256)) Q := by
  have h20 := (cond20_iff hl hh k0_t11).2 hk
  have h22 := (cond22_iff hl hh k0_t11).2 hk
  have h24 := (cond24_iff hl hh k0_t11).2 hk
  have h26 := (cond26_iff hl hh k0_t11).2 hk
  have h21 : ¬ k0_cond21 v58 v61 k0_t11 = 1#1 := fun h => by have := (cond21_iff hl hh k0_t11).1 h; omega
  have h23 : ¬ k0_cond23 v58 v61 k0_t11 = 1#1 := fun h => by have := (cond23_iff hl hh k0_t11).1 h; omega
  have h25 : ¬ k0_cond25 v58 v61 k0_t11 = 1#1 := fun h => by have := (cond25_iff hl hh k0_t11).1 h; omega
  have h27 : ¬ k0_cond27 v58 v61 k0_t11 = 1#1 := fun h => by have := (cond27_iff hl hh k0_t11).1 h; omega
  iintro ⟨H7, HO, HK⟩
  unfold dotsK
  sl_exec
  iapply ld8_256 c s 0 0 (inb256s s) ((off103_eq hp).trans (by rw [hs])) $$ HO
  iintro HO
  iapply st8_256 c s 0 0 (inb256s s) ((off103_eq hp).trans (by rw [hs])) $$ HO
  iintro HO
  iapply wp_rb c
  sl_exec
  try (rw [dif_neg h21]; sl_exec)
  iapply ld8_512 c s 0 256 (inb512s s) ((off105_eq hp).trans (by rw [hs])) $$ HO
  iintro HO
  iapply st8_512 c s 0 256 (inb512s s) ((off105_eq hp).trans (by rw [hs])) $$ HO
  iintro HO
  iapply wp_rb c
  sl_exec
  try (rw [dif_neg h23]; sl_exec)
  iapply ld8_768 c s 0 512 (inb768s s) ((off107_eq hp).trans (by rw [hs])) $$ HO
  iintro HO
  iapply st8_768 c s 0 512 (inb768s s) ((off107_eq hp).trans (by rw [hs])) $$ HO
  iintro HO
  iapply wp_rb c
  sl_exec
  try (rw [dif_neg h25]; sl_exec)
  iapply ld8_1024 c s 0 768 (inb1024s s) ((off109_eq hp).trans (by rw [hs])) $$ HO
  iintro HO
  iapply st8_1024 c s 0 768 (inb1024s s) ((off109_eq hp).trans (by rw [hs])) $$ HO
  iintro HO
  iapply wp_rb c
  sl_exec
  try (rw [dif_neg h27]; sl_exec)
  ihave HK := HK $$ H7
  sl_step
  iapply HK
  iexact HO
theorem dots_next (k0_t10 : Fin k0_t10_loop.trips) (arg16 arg17 arg15 v58 v61 : BitVec 32) (k0_hw30 : k0_chk30 arg16 arg17 v58 v61) (v101 v111 : BitVec 32) (k0_h16 : k0_cond16 v58 v61 = 1#1) (k0_t11 : Fin (k0_t11_loop v58 v61).trips) (arg18 : BitVec 32)
    (A : S1024x256.Idx → F .bf16) (s : Fin 11) (f : BufO F c) (hs : arg16.toNat % 11 = s.val) (hp : arg16.toNat < 2 ^ 31)
    (hl : v58.toNat ≤ 32768) (hh : v61.toNat ≤ 32768) (hk : 0 < k0_t11.1) (Q : BitVec 32 → sProp 𝕄) :
    iprop((M7.view.loc (c : Thread nD τ) ↦{fullShare} A) ∗ ownO c s f ∗ ((M7.view.loc (c : Thread nD τ) ↦{fullShare} A) -∗ ownO c s (dotsS c s A f) -∗ Q 0#32))
      ⊢ wp frame (wpE (defs₀ (F := F)) Variants.none (c : Thread nD τ) none) Set.univ (dotsK (F := F) k0_t10 arg16 arg17 arg15 v58 v61 k0_hw30 v101 v111 k0_h16 k0_t11 arg18 (ldA A r256) (ldA A r256)) Q := by
  have h21 := (cond21_iff hl hh k0_t11).2 hk
  have h23 := (cond23_iff hl hh k0_t11).2 hk
  have h25 := (cond25_iff hl hh k0_t11).2 hk
  have h27 := (cond27_iff hl hh k0_t11).2 hk
  have h20 : ¬ k0_cond20 v58 v61 k0_t11 = 1#1 := fun h => by have := (cond20_iff hl hh k0_t11).1 h; omega
  have h22 : ¬ k0_cond22 v58 v61 k0_t11 = 1#1 := fun h => by have := (cond22_iff hl hh k0_t11).1 h; omega
  have h24 : ¬ k0_cond24 v58 v61 k0_t11 = 1#1 := fun h => by have := (cond24_iff hl hh k0_t11).1 h; omega
  have h26 : ¬ k0_cond26 v58 v61 k0_t11 = 1#1 := fun h => by have := (cond26_iff hl hh k0_t11).1 h; omega
  iintro ⟨H7, HO, HK⟩
  unfold dotsK
  sl_exec
  try (rw [dif_neg h20]; sl_exec)
  iapply ld8_256 c s 0 0 (inb256s s) ((off104_eq hp).trans (by rw [hs])) $$ HO
  iintro HO
  try sl_exec
  iapply ld8_256 c s 0 0 (inb256s s) ((off104_eq hp).trans (by rw [hs])) $$ HO
  iintro HO
  iapply st8_256 c s 0 0 (inb256s s) ((off104_eq hp).trans (by rw [hs])) $$ HO
  iintro HO
  iapply wp_rb c
  sl_exec
  try (rw [dif_neg h22]; sl_exec)
  iapply ld8_512 c s 0 256 (inb512s s) ((off106_eq hp).trans (by rw [hs])) $$ HO
  iintro HO
  try sl_exec
  iapply ld8_512 c s 0 256 (inb512s s) ((off106_eq hp).trans (by rw [hs])) $$ HO
  iintro HO
  iapply st8_512 c s 0 256 (inb512s s) ((off106_eq hp).trans (by rw [hs])) $$ HO
  iintro HO
  iapply wp_rb c
  sl_exec
  try (rw [dif_neg h24]; sl_exec)
  iapply ld8_768 c s 0 512 (inb768s s) ((off108_eq hp).trans (by rw [hs])) $$ HO
  iintro HO
  try sl_exec
  iapply ld8_768 c s 0 512 (inb768s s) ((off108_eq hp).trans (by rw [hs])) $$ HO
  iintro HO
  iapply st8_768 c s 0 512 (inb768s s) ((off108_eq hp).trans (by rw [hs])) $$ HO
  iintro HO
  iapply wp_rb c
  sl_exec
  try (rw [dif_neg h26]; sl_exec)
  iapply ld8_1024 c s 0 768 (inb1024s s) ((off110_eq hp).trans (by rw [hs])) $$ HO
  iintro HO
  try sl_exec
  iapply ld8_1024 c s 0 768 (inb1024s s) ((off110_eq hp).trans (by rw [hs])) $$ HO
  iintro HO
  iapply st8_1024 c s 0 768 (inb1024s s) ((off110_eq hp).trans (by rw [hs])) $$ HO
  iintro HO
  iapply wp_rb c
  sl_exec
  ihave HK := HK $$ H7
  sl_step
  iapply HK
  iexact HO

end Cert.KernelIdeal.Hand
-- ==== Proof.Ideal.Unit4.lean ====
module
public import proofs.«01_k».proof.Proof.Ideal.Unit3

/-! Waiting for the codes and the scales of one tile. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
variable (c : Dev nD) (X : Buf (Elt F) (M1.view.loc (c : Thread nD τ))) (Y : Buf (Elt F) (M2.view.loc (c : Thread nD τ)))
/-- The core owes nothing, whatever it has waited for. -/
def OW : sProp 𝕄 := iprop(∃ W : Waits sig Unit, owes (c : Thread nD τ) 0 W)

/-- Waiting for a tile of codes. -/
theorem wait_codes (b : Fin 8) (r : Fin 32513) {off5 : Fin 3 → ℕ} {off4 : Fin 1 → ℕ}
    (e5 : off5 = ![b.val, 0, 0]) (e4 : off4 = ![b.val])
    {h5 : ∀ a, off5 a + S1x256x1024.size a ≤ S8x256x1024.size a} {h4 : ∀ a, off4 a + S1.size a ≤ S8.size a}
    {hs5} {srcw : Memref sig .tc .hbm S256x1024 .fp8e4m3} {hsrc hdst}
    {α : Type} {k : PUnit → Prog (TpuEff nD τ sig (Elt F) Λ₀ .tc) α} {Q : α → sProp 𝕄} :
    iprop(flyC c X b r ∗ OW c) ⊢ iprop((iprop(semVal ((c : Thread nD τ), SemLoc.dma (semC b)) 0 ∗ (∃ f, gotC c X b r f) ∗ tokC c X b Finset.univ ∗ OW c) -∗ wp frame (wpE (defs₀ (F := F)) Variants.none (c : Thread nD τ) none) Set.univ (k ⟨⟩) Q) -∗
      wp frame (wpE (defs₀ (F := F)) Variants.none (c : Thread nD τ) none) Set.univ (.op (.waitDma2 ((SemArray.slice cc0_scratch5 (Rect.unit (s := S8) off4 S1.size h4)).squeeze S_ squeezes_S1_S_).sem srcw
        ((M5.slice (Rect.unit (s := S8x256x1024) off5 S1x256x1024.size h5) hs5).squeeze S256x1024 squeezes_S1x256x1024_S256x1024) hsrc hdst) k) Q) := by
  subst e5 e4
  unfold flyC OW
  iintro ⟨⟨⟨%f, HF⟩, Ht2⟩, ⟨%W, HW⟩⟩ HK
  iapply (Transfers.wp_waitLocal (countersEmb (U := Pipeline.UD sig nD τ)) Variants.none (c : Thread nD τ) none (hsrc := hsrc) (hdst := hdst) () (N := NC) rfl) $$ [HF HW]
  · isplitl [HF]; · iexact HF
    iexact HW
  iintro ⟨⟨Hg, Ht1⟩, Hv, HW⟩
  iapply HK
  isplitl [Hv]; · iexact Hv
  isplitl [Hg]
  · iexists f; iexact Hg
  isplitl [Ht1 Ht2]
  · iapply (pointsTo_split_subset (Finset.subset_univ (tileC r).view.set)).2
    isplitl [Ht1]; · iexact Ht1
    iexact Ht2
  · iexists _; iexact HW

/-- Waiting for a tile of scales. -/
theorem wait_scales (b : Fin 8) (r : Fin 32513) {off5 : Fin 3 → ℕ} {off4 : Fin 1 → ℕ}
    (e5 : off5 = ![b.val, 0, 0]) (e4 : off4 = ![b.val])
    {h5 : ∀ a, off5 a + S1x16x256.size a ≤ S8x16x256.size a} {h4 : ∀ a, off4 a + S1.size a ≤ S8.size a}
    {hs5} {srcw : Memref sig .tc .hbm S16x256 .f32} {hsrc hdst}
    {α : Type} {k : PUnit → Prog (TpuEff nD τ sig (Elt F) Λ₀ .tc) α} {Q : α → sProp 𝕄} :
    iprop(flyS c Y b r ∗ OW c) ⊢ iprop((iprop(semVal ((c : Thread nD τ), SemLoc.dma (semS b)) 0 ∗ (∃ f, gotS c Y b r f) ∗ tokS c Y b Finset.univ ∗ OW c) -∗ wp frame (wpE (defs₀ (F := F)) Variants.none (c : Thread nD τ) none) Set.univ (k ⟨⟩) Q) -∗
      wp frame (wpE (defs₀ (F := F)) Variants.none (c : Thread nD τ) none) Set.univ (.op (.waitDma2 ((SemArray.slice cc0_scratch6 (Rect.unit (s := S8) off4 S1.size h4)).squeeze S_ squeezes_S1_S_).sem srcw
        ((M6.slice (Rect.unit (s := S8x16x256) off5 S1x16x256.size h5) hs5).squeeze S16x256 squeezes_S1x16x256_S16x256) hsrc hdst) k) Q) := by
  subst e5 e4
  unfold flyS OW
  iintro ⟨⟨⟨%f, HF⟩, Ht2⟩, ⟨%W, HW⟩⟩ HK
  iapply (Transfers.wp_waitLocal (countersEmb (U := Pipeline.UD sig nD τ)) Variants.none (c : Thread nD τ) none (hsrc := hsrc) (hdst := hdst) () (N := NS) rfl) $$ [HF HW]
  · isplitl [HF]; · iexact HF
    iexact HW
  iintro ⟨⟨Hg, Ht1⟩, Hv, HW⟩
  iapply HK
  isplitl [Hv]; · iexact Hv
  isplitl [Hg]
  · iexists f; iexact Hg
  isplitl [Ht1 Ht2]
  · iapply (pointsTo_split_subset (Finset.subset_univ (tileS r).view.set)).2
    isplitl [Ht1]; · iexact Ht1
    iexact Ht2
  · iexists _; iexact HW

/-- The two waits of a tile, and the bounds of its expert read again. -/
theorem wait26_spec (k0_t10 : Fin k0_t10_loop.trips) (arg16 arg17 arg15 v58 v61 : BitVec 32) (k0_hw30 : k0_chk30 arg16 arg17 v58 v61) (k0_h16 : k0_cond16 v58 v61 = 1#1) (k0_t11 : Fin (k0_t11_loop v58 v61).trips)
    (o : S65.Idx → BitVec 32) (h64 : k0_t10.1 < 64) (hlo : o (i65 k0_t10.1 (by omega)) = v58) (hhi : o (i65 (k0_t10.1 + 1) (by omega)) = v61)
    (b : Fin 8) (r : Fin 32513) (e4 : k0_off96 arg17 v58 v61 k0_t11 = ![b.val]) (e5 : k0_off97 arg17 v58 v61 k0_t11 = ![b.val, 0, 0]) (e6 : k0_off98 arg17 v58 v61 k0_t11 = ![b.val, 0, 0])
    (Q : (Σ' (arg18 : BitVec 32) (v193 : BitVec 32) (v210 : Elt F .i32) (v213 : Elt F .i32) (c128_i32_123 : BitVec 32) (v214 : BitVec 32) (v216 : BitVec 32), BitVec 1) → sProp 𝕄) :
    iprop((M0.view.loc (c : Thread nD τ) ↦{fullShare} o) ∗ (flyC c X b r ∗ flyS c Y b r) ∗ OW c
        ∗ ((M0.view.loc (c : Thread nD τ) ↦{fullShare} o)
          -∗ iprop(semVal ((c : Thread nD τ), SemLoc.dma (semC b)) 0 ∗ (∃ f, gotC c X b r f) ∗ tokC c X b Finset.univ)
          -∗ iprop(semVal ((c : Thread nD τ), SemLoc.dma (semS b)) 0 ∗ (∃ f, gotS c Y b r f) ∗ tokS c Y b Finset.univ) -∗ OW c
          -∗ Q ⟨Scf.iv 0#32 1#32 k0_t11.1, modW (Scalar.addi arg17 (Scf.iv 0#32 1#32 k0_t11.1)) 8#32, v58, v61, 128#32, Scalar.divsi v58 128#32, Scalar.extui (Scalar.cmpi .sgt v58 0#32), Scalar.cmpi .slt v58 0#32⟩))
      ⊢ wp frame (wpE (defs₀ (F := F)) Variants.none (c : Thread nD τ) none) Set.univ (wait26 (F := F) k0_t10 arg16 arg17 arg15 v58 v61 k0_hw30 k0_h16 0#32 1#32 k0_t11) Q := by
  iintro ⟨H0, ⟨HC, HS⟩, HW, HK⟩
  unfold wait26
  sl_exec
  iapply (wait_codes c X b r e5 e4) $$ [HC HW]
  · isplitl [HC]; · iexact HC
    iexact HW
  iintro ⟨HvC, HgC, HtC, HW⟩
  try iapply wp_rb c
  sl_exec
  iapply (wait_scales c Y b r e6 e4) $$ [HS HW]
  · isplitl [HS]; · iexact HS
    iexact HW
  iintro ⟨HvS, HgS, HtS, HW⟩
  try iapply wp_rb c
  sl_exec
  have er : wait26_spec.sl.r (F := F) k0_t10 o = v58 := (read0 (F := F) o _ _ _ k0_t10.1 (congrFun (off99_eq k0_t10) 0) (by omega)).trans hlo
  have er1 : wait26_spec.sl.r_1 (F := F) k0_t10 o = v61 := (read0 (F := F) o _ _ _ (k0_t10.1 + 1) (congrFun (off100_eq k0_t10) 0) (by omega)).trans hhi
  ihave HK := HK $$ H0
  ihave HK := HK $$ [HvC HgC HtC]
  · isplitl [HvC]; · iexact HvC
    isplitl [HgC]; · iexact HgC
    iexact HtC
  ihave HK := HK $$ [HvS HgS HtS]
  · isplitl [HvS]; · iexact HvS
    isplitl [HgS]; · iexact HgS
    iexact HtS
  ihave HK := HK $$ HW
  sl_step
  have e1 : wait26_spec.sl.v214 (F := F) k0_t10 o = Scalar.divsi (wait26_spec.sl.r (F := F) k0_t10 o) 128#32 := rfl
  have e2 : wait26_spec.sl.v216 (F := F) k0_t10 o = Scalar.extui (Scalar.cmpi .sgt (wait26_spec.sl.r (F := F) k0_t10 o) 0#32) := rfl
  have e3 : wait26_spec.sl.v217 (F := F) k0_t10 o = Scalar.cmpi .slt (wait26_spec.sl.r (F := F) k0_t10 o) 0#32 := rfl
  have eQ : Q ⟨Scf.iv 0#32 1#32 k0_t11.1, modW (Scalar.addi arg17 (Scf.iv 0#32 1#32 k0_t11.1)) 8#32, v58, v61, 128#32, Scalar.divsi v58 128#32, Scalar.extui (Scalar.cmpi .sgt v58 0#32), Scalar.cmpi .slt v58 0#32⟩
      = Q ⟨wait26_spec.sl.arg18 v58 v61 k0_t11, wait26_spec.sl.v193 arg17 v58 v61 k0_t11, wait26_spec.sl.r (F := F) k0_t10 o, wait26_spec.sl.r_1 (F := F) k0_t10 o, 128#32, wait26_spec.sl.v214 (F := F) k0_t10 o, wait26_spec.sl.v216 (F := F) k0_t10 o, wait26_spec.sl.v217 (F := F) k0_t10 o⟩ := by
    rw [e1, e2, e3, er, er1]; rfl
  ihave HK := (Entails.of_eq eQ) $$ HK
  iexact HK

end Cert.KernelIdeal.Hand
-- ==== Proof.Ideal.Unit5.lean ====
module
public import proofs.«01_k».proof.Proof.Ideal.Unit4

/-! One tile of an expert from end to end, and the loop over the tiles. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
variable (c : Dev nD) (X : Buf (Elt F) (M1.view.loc (c : Thread nD τ))) (Y : Buf (Elt F) (M2.view.loc (c : Thread nD τ)))
/-- `A` is tile `u` of scaled codes of an expert with rows `lo` to `hi`, its codes and scales read from row `r`. -/
def ATile (lo hi : BitVec 32) (r : Fin 32513) (u : ℕ) (A : S1024x256.Idx → F .bf16) : Prop :=
  ∃ (b : Fin 8) (f5 : Buf (Elt F) ((slotC b).view.loc (c : Thread nD τ))) (f6 : Buf (Elt F) ((slotS b).view.loc (c : Thread nD τ))),
    A = aA lo hi (nomW lo (Scf.iv 0#32 1#32 u)) (stW lo (Scf.iv 0#32 1#32 u))
      (rdS c b ((slotS b).view.write (Elt F) f6 (ReadAs.same.apply ((tileS r).view.read (Elt F) Y)) Finset.univ))
      (rdC c b ((slotC b).view.write (Elt F) f5 (ReadAs.same.apply ((tileC r).view.read (Elt F) X)) Finset.univ))

/-- `f` is what slot `s` holds after the first `k` tiles of the expert: the first stored, the rest added. -/
inductive UAcc (s : Fin 11) (lo hi : BitVec 32) (rw : ℕ → Fin 32513) : ℕ → BufO F c → Prop
  | first (k A f) : k = 0 → ATile c X Y lo hi (rw k) k A → UAcc s lo hi rw (k + 1) (dots0 c s A f)
  | next (k A f) : 0 < k → ATile c X Y lo hi (rw k) k A → UAcc s lo hi rw k f → UAcc s lo hi rw (k + 1) (dotsS c s A f)

/-- What holds before tile `k` of expert `e`. -/
def UInv (o : S65.Idx → BitVec 32) (e : ℕ) (lo hi : BitVec 32) (s : Fin 11) (k : ℕ) (_acc : BitVec 32) : sProp 𝕄 :=
  iprop((M0.view.loc (c : Thread nD τ) ↦{fullShare} o) ∗ CurAt c o (min (base (offN o) e + k + 7) (base (offN o) 64))
    ∗ Ring c X Y (offN o) (base (offN o) e + k) (min (base (offN o) e + k + 7) (base (offN o) 64)) ∗ OW c
    ∗ (∃ f7, M7.view.loc (c : Thread nD τ) ↦{fullShare} f7)
    ∗ (∃ f, ⌜k = 0 ∨ UAcc c X Y s lo hi (fun u => row (offN o) (base (offN o) e + u)) k f⌝ ∗ ownO c s f))

theorem cell8 {n m : ℕ} (h : n = m) : (![n % 8] : Fin 1 → ℕ) = ![(cellOf8 m).val] := by subst h; rfl
theorem cell8' {n m : ℕ} (h : n = m) : (![n % 8, 0, 0] : Fin 3 → ℕ) = ![(cellOf8 m).val, 0, 0] := by subst h; rfl

theorem dots_step (k0_t10 : Fin k0_t10_loop.trips) (arg16 arg17 arg15 v58 v61 : BitVec 32) (k0_hw30 : k0_chk30 arg16 arg17 v58 v61) (v101 v111 : BitVec 32) (k0_h16 : k0_cond16 v58 v61 = 1#1) (k0_t11 : Fin (k0_t11_loop v58 v61).trips) (arg18 : BitVec 32)
    (A : S1024x256.Idx → F .bf16) (s : Fin 11) (f : BufO F c) (hs : arg16.toNat % 11 = s.val) (hp : arg16.toNat < 2 ^ 31)
    (hl : v58.toNat ≤ 32768) (hh : v61.toNat ≤ 32768) (rw : ℕ → Fin 32513) (hA : ATile c X Y v58 v61 (rw k0_t11.1) k0_t11.1 A)
    (hf : k0_t11.1 = 0 ∨ UAcc c X Y s v58 v61 rw k0_t11.1 f) (Q : BitVec 32 → sProp 𝕄) :
    iprop((M7.view.loc (c : Thread nD τ) ↦{fullShare} A) ∗ ownO c s f ∗ ((∃ f7, M7.view.loc (c : Thread nD τ) ↦{fullShare} f7) -∗ (∃ f', ⌜k0_t11.1 + 1 = 0 ∨ UAcc c X Y s v58 v61 rw (k0_t11.1 + 1) f'⌝ ∗ ownO c s f') -∗ Q 0#32))
      ⊢ wp frame (wpE (defs₀ (F := F)) Variants.none (c : Thread nD τ) none) Set.univ (dotsK (F := F) k0_t10 arg16 arg17 arg15 v58 v61 k0_hw30 v101 v111 k0_h16 k0_t11 arg18 (ldA A r256) (ldA A r256)) Q := by
  iintro ⟨H7, HO, HK⟩
  by_cases hk : k0_t11.1 = 0
  · iapply (dots_first c k0_t10 arg16 arg17 arg15 v58 v61 k0_hw30 v101 v111 k0_h16 k0_t11 arg18 A s f hs hp hl hh hk)
    isplitl [H7]; · iexact H7
    isplitl [HO]; · iexact HO
    iintro H7 HO
    ihave HK := HK $$ [H7]
    · iexists _; iexact H7
    iapply HK
    iexists _
    isplitr [HO]
    · ipureintro
      exact .inr (UAcc.first _ A f hk hA)
    · iexact HO
  · iapply (dots_next c k0_t10 arg16 arg17 arg15 v58 v61 k0_hw30 v101 v111 k0_h16 k0_t11 arg18 A s f hs hp hl hh (Nat.pos_of_ne_zero hk))
    isplitl [H7]; · iexact H7
    isplitl [HO]; · iexact HO
    iintro H7 HO
    ihave HK := HK $$ [H7]
    · iexists _; iexact H7
    iapply HK
    iexists _
    isplitr [HO]
    · ipureintro
      exact .inr (UAcc.next _ A f (Nat.pos_of_ne_zero hk) hA (hf.resolve_left hk))
    · iexact HO

theorem unit_trip (o : S65.Idx → BitVec 32) (hO : Ok (offN o)) (k0_t10 : Fin k0_t10_loop.trips) (arg16 arg17 arg15 v58 v61 : BitVec 32) (k0_hw30 : k0_chk30 arg16 arg17 v58 v61) (v101 v111 : BitVec 32) (k0_h16 : k0_cond16 v58 v61 = 1#1) (k0_t11 : Fin (k0_t11_loop v58 v61).trips) (acc : BitVec 32)
    (h64 : k0_t10.1 < 64) (hlo : o (i65 k0_t10.1 (by omega)) = v58) (hhi : o (i65 (k0_t10.1 + 1) (by omega)) = v61) (s : Fin 11)
    (hs : arg16.toNat % 11 = s.val) (hp : arg16.toNat < 2 ^ 31) (hg : arg17.toNat = base (offN o) k0_t10.1) :
    UInv c X Y o k0_t10.1 v58 v61 s k0_t11.1 acc ⊢ wp frame (wpE (defs₀ (F := F)) Variants.none (c : Thread nD τ) none) Set.univ (k0_t11_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k0_t10 arg16 arg17 arg15 v58 v61 k0_hw30 v101 v111 k0_h16 k0_t11 acc) (fun r => UInv c X Y o k0_t10.1 v58 v61 s (k0_t11.1 + 1) r) := by
  have hl : v58.toNat ≤ 32768 := by rw [← hlo, ← offN_of]; exact hO.bound (by omega)
  have hh : v61.toNat ≤ 32768 := by rw [← hhi, ← offN_of]; exact hO.bound (by omega)
  have hb := base_le hO (show k0_t10.1 ≤ 64 by omega)
  have hg' : arg17.toNat < 2 ^ 30 := by omega
  have hnu : k0_t11.1 < nu (offN o) k0_t10.1 := by
    have h1 := lt_of_lt_of_eq k0_t11.isLt (t11_trips hl hh)
    rw [nuW_toNat hl hh] at h1
    unfold nu
    rw [offN_of (show k0_t10.1 < 65 by omega), offN_of (show k0_t10.1 + 1 < 65 by omega), hlo, hhi]
    exact h1
  have htot : base (offN o) k0_t10.1 + k0_t11.1 < base (offN o) 64 := by
    have h1 := base_mono (o := offN o) (show k0_t10.1 + 1 ≤ 64 by omega)
    rw [base_succ] at h1; omega
  unfold UInv
  iintro ⟨H0, HC, HR, HW, ⟨%f7, H7⟩, ⟨%f, %hf, HO⟩⟩
  rw [t11_body_eq, part26_eq]
  iapply (Entails.of_eq (wp_bind _ _ _ _ _ _).symm)
  iapply (fetchU_spec k0_t10 arg16 arg17 arg15 v58 v61 k0_hw30 k0_h16 k0_t11 c X Y o hO (base (offN o) k0_t10.1 + k0_t11.1) (min (base (offN o) k0_t10.1 + k0_t11.1 + 7) (base (offN o) 64)) (by omega) (by omega))
  isplitl [H0]; · iexact H0
  isplitl [HC]; · iexact HC
  isplitl [HR]; · iexact HR
  iintro H0 HC HR
  have eg : min (min (base (offN o) k0_t10.1 + k0_t11.1 + 7) (base (offN o) 64) + 1) (base (offN o) 64) = min (base (offN o) k0_t10.1 + (k0_t11.1 + 1) + 7) (base (offN o) 64) := by omega
  rw [eg]
  unfold Ring
  ihave HR := (ring_pop _ _ (gc := base (offN o) k0_t10.1 + k0_t11.1) (by omega) (by omega)) $$ HR
  icases HR with ⟨HF, HR⟩
  iapply (wait26_spec c X Y k0_t10 arg16 arg17 arg15 v58 v61 k0_hw30 k0_h16 k0_t11 o h64 hlo hhi (cellOf8 (base (offN o) k0_t10.1 + k0_t11.1)) (row (offN o) (base (offN o) k0_t10.1 + k0_t11.1))
    ((off96_eq' hg' hl hh k0_t11).trans (cell8 (by rw [hg]))) ((off97_eq' hg' hl hh k0_t11).trans (cell8' (by rw [hg]))) ((off98_eq' hg' hl hh k0_t11).trans (cell8' (by rw [hg]))))
  isplitl [H0]; · iexact H0
  isplitl [HF]; · iexact HF
  isplitl [HW]; · iexact HW
  iintro H0 ⟨HvC, ⟨%f5, HgC⟩, HtC⟩ ⟨HvS, ⟨%f6, HgS⟩, HtS⟩ HW
  iapply (deq_spec c k0_t10 arg16 arg17 arg15 v58 v61 k0_hw30 v101 v111 k0_h16 k0_t11 _ _ _ _ o (by omega) hlo (cellOf8 (base (offN o) k0_t10.1 + k0_t11.1))
    ((off101_eq' hg' hl hh k0_t11).trans (cell8' (by rw [hg]))) ((off102_eq' hg' hl hh k0_t11).trans (cell8' (by rw [hg]))))
  isplitl [H0]; · iexact H0
  isplitl [HgC]; · iexact HgC
  isplitl [HgS]; · iexact HgS
  isplitl [H7]; · iexact H7
  iintro H0 HgC HgS H7
  have hA : ATile c X Y v58 v61 (row (offN o) (base (offN o) k0_t10.1 + k0_t11.1)) k0_t11.1 _ := ⟨cellOf8 (base (offN o) k0_t10.1 + k0_t11.1), f5, f6, rfl⟩
  iapply (dots_step c X Y k0_t10 arg16 arg17 arg15 v58 v61 k0_hw30 v101 v111 k0_h16 k0_t11 _ _ s f hs hp hl hh (fun u => row (offN o) (base (offN o) k0_t10.1 + u)) hA hf)
  isplitl [H7]; · iexact H7
  isplitl [HO]; · iexact HO
  iintro H7 HO
  isplitl [H0]; · iexact H0
  isplitl [HC]; · iexact HC
  isplitl [HR HvC HgC HtC HvS HgS HtS]
  · ihave HR := HR $$ [HvC HgC HtC HvS HgS HtS]
    · unfold freeC freeS
      isplitl [HvC HgC HtC]
      · isplitl [HvC]; · iexact HvC
        isplitl [HgC]
        · iexists _; iexact HgC
        · iexact HtC
      · isplitl [HvS]; · iexact HvS
        isplitl [HgS]
        · iexists _; iexact HgS
        · iexact HtS
    iexact HR
  isplitl [HW]; · iexact HW
  isplitl [H7]; · iexact H7
  iexact HO

end Cert.KernelIdeal.Hand
-- ==== Proof.Ideal.Fam.lean ====
module
public import proofs.«01_k».proof.Proof.Ideal.Base
public import proofs.«01_k».proof.Proof.Gen.KernelIdeal.Loops

/-! Families of resources over a finite index, one member of which changes; and a ring of eleven slots. -/

@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-- One member taken out of a family, and any other put back in its place. -/
theorem fam_swap {F : FTy → Type} {n : ℕ} (k : Fin n) (Φ Ψ : Fin n → sProp (MT nD τ sig Unit (Elt F) ℕ (Pipeline.UD sig nD τ) ℕ)) (h : ∀ b, b ≠ k → Φ b = Ψ b) :
    BI.bigSep Finset.univ Φ ⊢ iprop(Φ k ∗ (Ψ k -∗ BI.bigSep Finset.univ Ψ)) := by
  have h1 : BI.bigSep Finset.univ Φ = iprop(Φ k ∗ BI.bigSep (Finset.univ.erase k) Φ) := BI.bigSep_erase (Finset.mem_univ _)
  have h2 : BI.bigSep Finset.univ Ψ = iprop(Ψ k ∗ BI.bigSep (Finset.univ.erase k) Ψ) := BI.bigSep_erase (Finset.mem_univ _)
  have h3 : BI.bigSep (Finset.univ.erase k) Φ = BI.bigSep (Finset.univ.erase k) Ψ := BI.bigSep_congr fun b hb => h b (Finset.mem_erase.mp hb).1
  rw [h1, h2, h3]
  iintro ⟨H1, H2⟩
  isplitl [H1]; · iexact H1
  iintro H
  isplitl [H]; · iexact H
  iexact H2

/-- The number in `[lo, lo + 11)` that slot `b` holds. -/
def at11 (lo : ℕ) (b : Fin 11) : ℕ := lo + (b.val + 11 - lo % 11) % 11
def cell11 (g : ℕ) : Fin 11 := ⟨g % 11, Nat.mod_lt _ (by decide)⟩

/-- Eleven slots: those of the numbers in `[lo, hi)` in flight, the others free. -/
def Ring11 {F : FTy → Type} (fly : Fin 11 → ℕ → sProp (MT nD τ sig Unit (Elt F) ℕ (Pipeline.UD sig nD τ) ℕ)) (free : Fin 11 → sProp (MT nD τ sig Unit (Elt F) ℕ (Pipeline.UD sig nD τ) ℕ)) (lo hi : ℕ) : sProp (MT nD τ sig Unit (Elt F) ℕ (Pipeline.UD sig nD τ) ℕ) :=
  BI.bigSep (Finset.univ : Finset (Fin 11)) fun b : Fin 11 => if at11 lo b < hi then fly b (at11 lo b) else free b

theorem ring11_put {F : FTy → Type} (fly : Fin 11 → ℕ → sProp (MT nD τ sig Unit (Elt F) ℕ (Pipeline.UD sig nD τ) ℕ)) (free : Fin 11 → sProp (MT nD τ sig Unit (Elt F) ℕ (Pipeline.UD sig nD τ) ℕ)) {lo hi : ℕ} (h1 : lo ≤ hi) (h2 : hi < lo + 11) :
    Ring11 fly free lo hi ⊢ iprop(free (cell11 hi) ∗ (fly (cell11 hi) hi -∗ Ring11 fly free lo (hi + 1))) := by
  have e1 : at11 lo (cell11 hi) = hi := by unfold at11 cell11; simp only; omega
  have h := fam_swap (cell11 hi) (fun b : Fin 11 => if at11 lo b < hi then fly b (at11 lo b) else free b) (fun b : Fin 11 => if at11 lo b < hi + 1 then fly b (at11 lo b) else free b) ?_
  · rw [e1, if_neg (lt_irrefl _), if_pos (Nat.lt_succ_self _)] at h; exact h
  · intro b hb
    have hne : b.val ≠ hi % 11 := fun h => hb (Fin.ext h)
    have : at11 lo b ≠ hi := by unfold at11; intro h; have := b.isLt; omega
    by_cases hlt : at11 lo b < hi
    · rw [if_pos hlt, if_pos (by omega)]
    · rw [if_neg hlt, if_neg (by omega)]

theorem ring11_pop {F : FTy → Type} (fly : Fin 11 → ℕ → sProp (MT nD τ sig Unit (Elt F) ℕ (Pipeline.UD sig nD τ) ℕ)) (free : Fin 11 → sProp (MT nD τ sig Unit (Elt F) ℕ (Pipeline.UD sig nD τ) ℕ)) {lo hi : ℕ} (h1 : lo < hi) (h2 : hi ≤ lo + 11) :
    Ring11 fly free lo hi ⊢ iprop(fly (cell11 lo) lo ∗ (free (cell11 lo) -∗ Ring11 fly free (lo + 1) hi)) := by
  have e1 : at11 lo (cell11 lo) = lo := by unfold at11 cell11; simp only; omega
  have e2 : at11 (lo + 1) (cell11 lo) = lo + 11 := by unfold at11 cell11; simp only; omega
  have h := fam_swap (cell11 lo) (fun b : Fin 11 => if at11 lo b < hi then fly b (at11 lo b) else free b) (fun b : Fin 11 => if at11 (lo + 1) b < hi then fly b (at11 (lo + 1) b) else free b) ?_
  · rw [e1, e2, if_pos h1, if_neg (by omega)] at h; exact h
  · intro b hb
    have hne : b.val ≠ lo % 11 := fun h => hb (Fin.ext h)
    have : at11 lo b = at11 (lo + 1) b := by unfold at11; have := b.isLt; omega
    rw [this]

theorem ring11_popTop {F : FTy → Type} (fly : Fin 11 → ℕ → sProp (MT nD τ sig Unit (Elt F) ℕ (Pipeline.UD sig nD τ) ℕ)) (free : Fin 11 → sProp (MT nD τ sig Unit (Elt F) ℕ (Pipeline.UD sig nD τ) ℕ)) {lo hi : ℕ} (h1 : lo ≤ hi) (h2 : hi < lo + 11) :
    Ring11 fly free lo (hi + 1) ⊢ iprop(fly (cell11 hi) hi ∗ (free (cell11 hi) -∗ Ring11 fly free lo hi)) := by
  have e1 : at11 lo (cell11 hi) = hi := by unfold at11 cell11; simp only; omega
  have h := fam_swap (cell11 hi) (fun b : Fin 11 => if at11 lo b < hi + 1 then fly b (at11 lo b) else free b) (fun b : Fin 11 => if at11 lo b < hi then fly b (at11 lo b) else free b) ?_
  · rw [e1, if_neg (lt_irrefl _), if_pos (Nat.lt_succ_self _)] at h; exact h
  · intro b hb
    have hne : b.val ≠ hi % 11 := fun h => hb (Fin.ext h)
    have : at11 lo b ≠ hi := by unfold at11; intro h; have := b.isLt; omega
    by_cases hlt : at11 lo b < hi
    · rw [if_pos hlt, if_pos (by omega)]
    · rw [if_neg hlt, if_neg (by omega)]

theorem ring11_none {F : FTy → Type} (fly : Fin 11 → ℕ → sProp (MT nD τ sig Unit (Elt F) ℕ (Pipeline.UD sig nD τ) ℕ)) (free : Fin 11 → sProp (MT nD τ sig Unit (Elt F) ℕ (Pipeline.UD sig nD τ) ℕ)) {lo hi : ℕ} (h : hi ≤ lo) : Ring11 fly free lo hi = BI.bigSep Finset.univ free := by
  unfold Ring11
  refine BI.bigSep_congr fun b _ => ?_
  rw [if_neg (by unfold at11; omega)]

/-- The lower end of an empty or short ring does not matter below. -/
theorem ring11_shift {F : FTy → Type} (fly : Fin 11 → ℕ → sProp (MT nD τ sig Unit (Elt F) ℕ (Pipeline.UD sig nD τ) ℕ)) (free : Fin 11 → sProp (MT nD τ sig Unit (Elt F) ℕ (Pipeline.UD sig nD τ) ℕ)) (lo lo' : ℕ) : Ring11 fly free lo lo = Ring11 fly free lo' lo' := by
  rw [ring11_none fly free le_rfl, ring11_none fly free le_rfl]

/-! ## The members of a decidable set of numbers, in order -/

/-- How many numbers below `e` have `p`. -/
def cnt (p : ℕ → Bool) (e : ℕ) : ℕ := ∑ i ∈ Finset.range e, if p i = true then 1 else 0
/-- The `i`-th number below 64 that has `p`. -/
def sel (p : ℕ → Bool) (i : ℕ) : ℕ := ((Finset.range 64).filter fun e => cnt p (e + 1) ≤ i).card

theorem cnt_succ (p : ℕ → Bool) (e : ℕ) : cnt p (e + 1) = cnt p e + if p e = true then 1 else 0 := Finset.sum_range_succ ..
theorem cnt_mono (p : ℕ → Bool) {a b : ℕ} (h : a ≤ b) : cnt p a ≤ cnt p b := Finset.sum_le_sum_of_subset (Finset.range_mono h)
theorem cnt_le (p : ℕ → Bool) (e : ℕ) : cnt p e ≤ e := by
  induction e with
  | zero => exact le_refl _
  | succ e ih => rw [cnt_succ]; split <;> omega
theorem sel_cnt {p : ℕ → Bool} {e : ℕ} (he : e < 64) (hp : p e = true) : sel p (cnt p e) = e := by
  unfold sel
  have : ((Finset.range 64).filter fun i => cnt p (i + 1) ≤ cnt p e) = Finset.range e := by
    ext i
    simp only [Finset.mem_filter, Finset.mem_range]
    constructor
    · rintro ⟨_, h⟩
      by_contra hc
      have := cnt_mono p (a := e + 1) (b := i + 1) (by omega)
      rw [cnt_succ, if_pos hp] at this; omega
    · intro h
      exact ⟨by omega, cnt_mono p (by omega)⟩
  rw [this, Finset.card_range]
theorem cnt_lt {p : ℕ → Bool} {e : ℕ} (he : e < 64) (hp : p e = true) : cnt p e < cnt p 64 := by
  have := cnt_mono p (a := e + 1) (b := 64) (by omega)
  rw [cnt_succ, if_pos hp] at this; omega
/-- The numbers with `p` are counted up to their total. -/
theorem sel_lt (p : ℕ → Bool) {i : ℕ} (h : i < cnt p 64) : sel p i < 64 ∧ p (sel p i) = true ∧ cnt p (sel p i) = i := by
  have : ∀ n, n ≤ 64 → i < cnt p n → ∃ e, e < 64 ∧ p e = true ∧ cnt p e = i := by
    intro n
    induction n with
    | zero => intro _ h; exact absurd h (Nat.not_lt_zero _)
    | succ n ih =>
      intro hn hi
      by_cases hlt : i < cnt p n
      · exact ih (by omega) hlt
      · rw [cnt_succ] at hi
        by_cases hp : p n = true
        · rw [if_pos hp] at hi; exact ⟨n, by omega, hp, by omega⟩
        · rw [if_neg hp] at hi; omega
  obtain ⟨e, he, hp, rfl⟩ := this 64 le_rfl h
  rw [sel_cnt he hp]; exact ⟨he, hp, rfl⟩

end Cert.KernelIdeal.Hand
end
-- ==== Proof.Ideal.Zero.lean ====
module
public import proofs.«01_k».proof.Proof.Ideal.Fam
public import proofs.«01_k».proof.Proof.Ideal.FetchSpec

/-! The zero blocks of the experts without rows: four copies each, all on one cell. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

theorem inbR (e : Fin 64) : ∀ a, (![e.val, 0, 0] : Fin 3 → ℕ) a + S1x1024x1024.size a ≤ S64x1024x1024.size a := by
  intro a; have := e.isLt; fin_cases a
  · show e.val + 1 ≤ 64; omega
  · show 0 + 1024 ≤ 1024; omega
  · show 0 + 1024 ≤ 1024; omega
theorem inbP (e : Fin 64) (q : Fin 4) : ∀ a, (![e.val, 256 * q.val, 0] : Fin 3 → ℕ) a + S1x256x1024.size a ≤ S64x1024x1024.size a := by
  intro a; have := e.isLt; have := q.isLt; fin_cases a
  · show e.val + 1 ≤ 64; omega
  · show 256 * q.val + 256 ≤ 1024; omega
  · show 0 + 1024 ≤ 1024; omega

/-- The matrix of expert `e`, and a quarter of its rows. -/
abbrev rowH (e : Fin 64) : Memref sig .tc .hbm S1024x1024 .f32 :=
  (M3.slice (Rect.unit (s := S64x1024x1024) ![e.val, 0, 0] S1x1024x1024.size (inbR e)) (fun _ => rfl)).squeeze S1024x1024 squeezes_S1x1024x1024_S1024x1024
abbrev pieceH (e : Fin 64) (q : Fin 4) : Memref sig .tc .hbm S256x1024 .f32 :=
  (M3.slice (Rect.unit (s := S64x1024x1024) ![e.val, 256 * q.val, 0] S1x256x1024.size (inbP e q)) (fun _ => rfl)).squeeze S256x1024 squeezes_S1x256x1024_S256x1024

abbrev NZ : ℕ := (pieceH 0 0).view.dmaCredit
theorem NZ_pos : 0 < NZ := View.dmaCredit_pos _ (by decide)
abbrev semZ : DmaSem sig := cc0_scratch8.sem

theorem rowH_set (e : Fin 64) : (rowH e).view.set = (Rect.unit (s := S64x1024x1024) ![e.val, 0, 0] S1x1024x1024.size (inbR e)).set :=
  (View.set_reshape _ _).trans (View.set_slice_whole _ _)
theorem pieceH_set (e : Fin 64) (q : Fin 4) : (pieceH e q).view.set = (Rect.unit (s := S64x1024x1024) ![e.val, 256 * q.val, 0] S1x256x1024.size (inbP e q)).set :=
  (View.set_reshape _ _).trans (View.set_slice_whole _ _)
theorem mem_rowH {e : Fin 64} {i : S64x1024x1024.Idx} : i ∈ (rowH e).view.set ↔ (i 0).val = e.val := by
  rw [rowH_set, Rect.mem_set_unit, Fin.forall_fin_succ, Fin.forall_fin_succ, Fin.forall_fin_one]
  have h1 : (i 1).val < 1024 := (i 1).isLt
  have h2 : (i 2).val < 1024 := (i 2).isLt
  show (e.val ≤ (i 0).val ∧ (i 0).val < e.val + 1) ∧ (0 ≤ (i 1).val ∧ (i 1).val < 0 + 1024) ∧ (0 ≤ (i 2).val ∧ (i 2).val < 0 + 1024) ↔ _
  omega
theorem mem_pieceH {e : Fin 64} {q : Fin 4} {i : S64x1024x1024.Idx} : i ∈ (pieceH e q).view.set ↔ (i 0).val = e.val ∧ (i 1).val / 256 = q.val := by
  rw [pieceH_set, Rect.mem_set_unit, Fin.forall_fin_succ, Fin.forall_fin_succ, Fin.forall_fin_one]
  have h1 : (i 1).val < 1024 := (i 1).isLt
  have h2 : (i 2).val < 1024 := (i 2).isLt
  show (e.val ≤ (i 0).val ∧ (i 0).val < e.val + 1) ∧ (256 * q.val ≤ (i 1).val ∧ (i 1).val < 256 * q.val + 256) ∧ (0 ≤ (i 2).val ∧ (i 2).val < 0 + 1024) ↔ _
  omega

theorem pieces_disjoint (e : Fin 64) (q q' : Fin 4) (h : q ≠ q') : Disjoint (pieceH e q).view.set (pieceH e q').view.set := by
  rw [Finset.disjoint_left]
  intro i hi hi'
  exact h (Fin.ext ((mem_pieceH.mp hi).2.symm.trans (mem_pieceH.mp hi').2))
theorem pieces_cover (e : Fin 64) : Finset.univ.biUnion (fun q => (pieceH e q).view.set) = (rowH e).view.set := by
  ext i
  have h1 : (i 1).val < 1024 := (i 1).isLt
  refine Finset.mem_biUnion.trans ?_
  constructor
  · rintro ⟨q, -, hq⟩; exact mem_rowH.mpr (mem_pieceH.mp hq).1
  · intro h
    obtain ⟨q, hq⟩ := (show ∀ n : ℕ, n < 4 → ∃ q : Fin 4, n = q.val from fun n h => ⟨⟨n, h⟩, rfl⟩) ((i 1).val / 256) (by omega)
    exact ⟨q, Finset.mem_univ _, mem_pieceH.mpr ⟨mem_rowH.mp h, hq⟩⟩
theorem rows_disjoint (e e' : Fin 64) (h : e ≠ e') : Disjoint (rowH e).view.set (rowH e').view.set := by
  rw [Finset.disjoint_left]
  intro i hi hi'
  exact h (Fin.ext ((mem_rowH.mp hi).symm.trans (mem_rowH.mp hi')))
theorem rows_cover : Finset.univ.biUnion (fun e => (rowH e).view.set) = (Finset.univ : Finset S64x1024x1024.Idx) := by
  ext i
  refine Finset.mem_biUnion.trans ?_
  simp only [Finset.mem_univ, true_and, iff_true]
  exact ⟨⟨(i 0).val, (i 0).isLt⟩, mem_rowH.mpr rfl⟩

variable (c : Dev nD) (f0 : Buf (Elt F) (M3.view.loc (c : Thread nD τ))) (z : Buf (Elt F) (M9.view.loc (c : Thread nD τ)))

/-- The experts without rows. -/
def mt (o : ℕ → ℕ) (e : ℕ) : Bool := decide (¬ o e < o (e + 1))
/-- The number of zero copies. -/
abbrev nZ (o : ℕ → ℕ) : ℕ := 4 * cnt (mt o) 64
def f64 (e : ℕ) : Fin 64 := ⟨e % 64, Nat.mod_lt _ (by decide)⟩
theorem f64_of {e : ℕ} (h : e < 64) : f64 e = ⟨e, h⟩ := Fin.ext (Nat.mod_eq_of_lt h)
def f4 (q : ℕ) : Fin 4 := ⟨q % 4, Nat.mod_lt _ (by decide)⟩

/-- Quarter `q` of expert `e`'s matrix, with zeros written over what it held. -/
abbrev gotZ (e : Fin 64) (q : Fin 4) : sProp 𝕄 :=
  M3.view.loc (c : Thread nD τ) ↦[(pieceH e q).view.set]{fullShare} ((pieceH e q).view.write (Elt F) f0 (ReadAs.same.apply (M9.view.read (Elt F) z)) Finset.univ)
abbrev rawP (e : Fin 64) (q : Fin 4) : sProp 𝕄 := M3.view.loc (c : Thread nD τ) ↦[(pieceH e q).view.set]{fullShare} f0
abbrev rawH (e : Fin 64) : sProp 𝕄 := M3.view.loc (c : Thread nD τ) ↦[(rowH e).view.set]{fullShare} f0
abbrev tokZ (t : ℕ) : sProp 𝕄 := M9.view.loc (c : Thread nD τ) ↦[M9.view.set]{Transfers.shareTokN fullShare t} z
/-- What zero copy `t` delivers. -/
def DZ (o : ℕ → ℕ) (t : Fin (nZ o)) : sProp 𝕄 := iprop(gotZ c f0 z (f64 (sel (mt o) (t.val / 4))) (f4 t.val) ∗ tokZ c z t.val)
instance DZ_storable (o : ℕ → ℕ) (t : Fin (nZ o)) : BI.Storable (upEmb : UEmb _ 𝕄) (DZ c f0 z o t) := by
  unfold DZ; infer_instance

/-- The tokens of the zero copies from `j` on. -/
def ZToks (n j : ℕ) : sProp 𝕄 := BI.bigSep (Finset.univ : Finset (Fin n)) fun t => if j ≤ t.val then tokZ c z t.val else iprop(emp)
theorem ztoks_take {n j : ℕ} (h : j < n) : ZToks c z n j ⊢ iprop(tokZ c z j ∗ ZToks c z n (j + 1)) := by
  have hs := fam_swap (F := F) ⟨j, h⟩ (fun t : Fin n => if j ≤ t.val then tokZ c z t.val else iprop(emp)) (fun t : Fin n => if j + 1 ≤ t.val then tokZ c z t.val else iprop(emp)) ?_
  · rw [if_pos le_rfl, if_neg (Nat.not_succ_le_self _)] at hs
    unfold ZToks
    refine hs.trans ?_
    iintro ⟨H, HK⟩
    isplitl [H]; · iexact H
    iapply HK
    iempintro
  · intro b hb
    have : b.val ≠ j := fun h => hb (Fin.ext h)
    by_cases hl : j ≤ b.val
    · rw [if_pos hl, if_pos (by omega)]
    · rw [if_neg hl, if_neg (by omega)]

abbrev ZBatch (o : ℕ → ℕ) (k u : ℕ) : sProp 𝕄 := Transfers.Batch (countersEmb (U := Pipeline.UD sig nD τ)) (c : Thread nD τ) (.dma semZ) () NZ (DZ c f0 z o) k u

/-- Starting zero copy `j`, quarter `q` of expert `e`. -/
theorem enq_zero (o : ℕ → ℕ) (e : ℕ) (he : e < 64) (hm : mt o e = true) (q : ℕ) (hq : q < 4) {off : Fin 3 → ℕ} (e5 : off = ![e, 256 * q, 0])
    {h5 : ∀ a, off a + S1x256x1024.size a ≤ S64x1024x1024.size a} {hs5} {hsrc hdst hsem}
    {α : Type} {k : PUnit → Prog (TpuEff nD τ sig (Elt F) Λ₀ .tc) α} {Q : α → sProp 𝕄} :
    iprop(tokZ c z (4 * cnt (mt o) e + q) ∗ rawP c f0 ⟨e, he⟩ ⟨q, hq⟩ ∗ ZBatch c f0 z o (4 * cnt (mt o) e + q) 0)
      ⊢ iprop((ZBatch c f0 z o (4 * cnt (mt o) e + (q + 1)) 0 -∗ wp frame (wpE (defs₀ (F := F)) Variants.none (c : Thread nD τ) none) Set.univ (k ⟨⟩) Q) -∗
      wp frame (wpE (defs₀ (F := F)) Variants.none (c : Thread nD τ) none) Set.univ (.op (.enqueueDma M9 (.here ((M3.slice (Rect.unit (s := S64x1024x1024) off S1x256x1024.size h5) hs5).squeeze S256x1024 squeezes_S1x256x1024_S256x1024))
        (.dma semZ) hsrc hdst hsem) k) Q) := by
  subst e5
  have hlt := cnt_lt he hm
  rw [← Nat.add_assoc]
  iintro ⟨Ht, Hp, HB⟩ HK
  have hj : 4 * cnt (mt o) e + q < nZ o := by show _ < 4 * _; omega
  iapply (Transfers.wp_dmaBatch (countersEmb (U := Pipeline.UD sig nD τ)) Variants.none (c : Thread nD τ) none (n := nZ o) (dst := pieceH ⟨e, he⟩ ⟨q, hq⟩) (D := DZ c f0 z o) () NZ rfl (Finset.Subset.refl _) hj (Nat.zero_le _) ?hD) $$ [Ht Hp HB]
  case hD =>
    unfold DZ
    have h1 : f64 (sel (mt o) ((4 * cnt (mt o) e + q) / 4)) = ⟨e, he⟩ := by
      rw [show (4 * cnt (mt o) e + q) / 4 = cnt (mt o) e by omega, sel_cnt he hm, f64_of he]
    have h2 : f4 (4 * cnt (mt o) e + q) = ⟨q, hq⟩ := Fin.ext (by show (4 * _ + q) % 4 = q; omega)
    simp only [h1, h2]
    exact Entails.rfl
  · isplitl [Ht]; · iexact Ht
    isplitl [Hp]; · iexact Hp
    iexact HB
  iintro HB
  iapply HK
  iexact HB

end Cert.KernelIdeal.Hand
end
-- ==== Proof.Ideal.Tail.lean ====
module
public import proofs.«01_k».proof.Proof.Ideal.Base
public import proofs.«01_k».proof.Proof.Ideal.FetchSpec
public import proofs.«01_k».proof.Proof.Gen.KernelIdeal.Loops

/-! The second half of the kernel: two fetches and a half, then the counts, the experts and the drains. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-- The kernel after its seventh fetch, down to the last drain but one. -/
def tail48 : Prog (TpuEff nD τ sig (Elt F) Λ₀ .tc) (Σ' (v38 : BitVec 32) (k0_hw40 : k0_chk40 v38), BitVec 32) := do
  have cst : F .f32 := Scalar.ofBits .f32 0x00000000#32
  have v33 : FVec F S256x1024 .f32 := broadcast S256x1024 cst
  let c0_24 : Index := 0#32
  let c0_25 : Index := 0#32
  let v34 : Vec F S256x1024 .f32 ← Prog.lift (.load M9 (Rect.unit (s := S256x1024) ![0, 0] S256x1024.size inb_S256x1024_S256x1024_0_0).toLoadRect (View.loadsAt_vmem h_S256x1024))
  have v35 : FVec F S256x1024 .f32 := shapeCast S256x1024 v34 shapeCasts_S256x1024_S256x1024
  have v36 : FVec F S256x1024 .f32 := shapeCast S256x1024 v33 shapeCasts_S256x1024_S256x1024
  Prog.lift (.store M9 (Rect.unit (s := S256x1024) ![0, 0] S256x1024.size inb_S256x1024_S256x1024_0_0) v36 Finset.univ (View.stores_vmem_bits_univ h_S256x1024 rfl) (.inl rfl))
  let c0_i32_26 : BitVec 32 := 0#32
  let c0_i32_27 : BitVec 32 := 0#32
  let c64_i32_28 : BitVec 32 := 64#32
  let v37 : BitVec 32 := Scalar.addi c0_i32_27 c64_i32_28
  let c1_i32_29 : BitVec 32 := 1#32
  let v38 : BitVec 32 ← Scf.Loop.for k0_t9_loop k0_t9_ok c0_i32_26 fun k0_t9 arg16 => do
    let arg15 : BitVec 32 := Scf.iv c0_i32_27 c1_i32_29 k0_t9
    let v57 : Index := Scalar.indexCast arg15
    let v58 : Elt F .i32 ← smemLoad M0 (Rect.unit (s := S65) (k0_off73 k0_t9) S1.size (k0_off73_inb k0_t9)) numel1_S1 rfl
    let c1_i32_47 : BitVec 32 := 1#32
    let v59 : BitVec 32 := Scalar.addi arg15 c1_i32_47
    let v60 : Index := Scalar.indexCast v59
    let v61 : Elt F .i32 ← smemLoad M0 (Rect.unit (s := S65) (k0_off74 k0_t9) S1.size (k0_off74_inb k0_t9)) numel1_S1 rfl
    let v62 : BitVec 32 := Scalar.subi v61 v58
    let v63 : Index := Scalar.indexCast arg15
    let v64 : Elt F .i32 ← smemLoad M4 (Rect.unit (s := S64) (k0_off75 k0_t9) S1.size (k0_off75_inb k0_t9)) numel1_S1 rfl
    Prog.lift (.store M4 (Rect.unit (s := S64) (k0_off75 k0_t9) S1.size (k0_off75_inb k0_t9)) (fun _ => v62) Finset.univ (View.stores_smem_one rfl numel1_S1) (.inl rfl))
    let v65 : BitVec 1 := Scalar.cmpi .eq v61 v58
    let v66 : BitVec 32 := Scalar.extui v65
    let c0_i32_48 : BitVec 32 := 0#32
    let v67 : BitVec 1 := Scalar.cmpi .ne v66 c0_i32_48
    if v67 = 1#1 then do
      let c0_i32_51 : BitVec 32 := 0#32
      let c0_i32_52 : BitVec 32 := 0#32
      let v71 : Memref sig .tc .hbm S1x256x1024 .f32 := M3.slice (Rect.unit (s := S64x1024x1024) (k0_off76 k0_t9) S1x256x1024.size (k0_off76_inb k0_t9)) (fun _ => rfl)
      let v72 : Memref sig .tc .hbm S256x1024 .f32 := v71.squeeze S256x1024 squeezes_S1x256x1024_S256x1024
      Prog.lift (.enqueueDma M9 (.here v72) (.dma cc0_scratch8.sem) (Memref.isWhole_whole _).wordExact ((View.wordExact_bits rfl).reshape _ _) ⟨Or.inl rfl, trivial⟩)
      let c256_i32 : BitVec 32 := 256#32
      let c0_i32_53 : BitVec 32 := 0#32
      let v73 : Memref sig .tc .hbm S1x256x1024 .f32 := M3.slice (Rect.unit (s := S64x1024x1024) (k0_off77 k0_t9) S1x256x1024.size (k0_off77_inb k0_t9)) (fun _ => rfl)
      let v74 : Memref sig .tc .hbm S256x1024 .f32 := v73.squeeze S256x1024 squeezes_S1x256x1024_S256x1024
      Prog.lift (.enqueueDma M9 (.here v74) (.dma cc0_scratch8.sem) (Memref.isWhole_whole _).wordExact ((View.wordExact_bits rfl).reshape _ _) ⟨Or.inl rfl, trivial⟩)
      let c512_i32 : BitVec 32 := 512#32
      let c0_i32_54 : BitVec 32 := 0#32
      let v75 : Memref sig .tc .hbm S1x256x1024 .f32 := M3.slice (Rect.unit (s := S64x1024x1024) (k0_off78 k0_t9) S1x256x1024.size (k0_off78_inb k0_t9)) (fun _ => rfl)
      let v76 : Memref sig .tc .hbm S256x1024 .f32 := v75.squeeze S256x1024 squeezes_S1x256x1024_S256x1024
      Prog.lift (.enqueueDma M9 (.here v76) (.dma cc0_scratch8.sem) (Memref.isWhole_whole _).wordExact ((View.wordExact_bits rfl).reshape _ _) ⟨Or.inl rfl, trivial⟩)
      let c768_i32 : BitVec 32 := 768#32
      let c0_i32_55 : BitVec 32 := 0#32
      let v77 : Memref sig .tc .hbm S1x256x1024 .f32 := M3.slice (Rect.unit (s := S64x1024x1024) (k0_off79 k0_t9) S1x256x1024.size (k0_off79_inb k0_t9)) (fun _ => rfl)
      let v78 : Memref sig .tc .hbm S256x1024 .f32 := v77.squeeze S256x1024 squeezes_S1x256x1024_S256x1024
      Prog.lift (.enqueueDma M9 (.here v78) (.dma cc0_scratch8.sem) (Memref.isWhole_whole _).wordExact ((View.wordExact_bits rfl).reshape _ _) ⟨Or.inl rfl, trivial⟩)
      pure ⟨⟩
    else do
      pure ⟨⟩
    let v68 : BitVec 1 := Scalar.cmpi .eq v61 v58
    let c1_i32_49 : BitVec 32 := 1#32
    let c0_i32_50 : BitVec 32 := 0#32
    let v69 : BitVec 32 := Scalar.select v68 c1_i32_49 c0_i32_50
    let v70 : BitVec 32 := Scalar.addi arg16 v69
    pure v70
  have k0_hw40 : k0_chk40 v38 := (← Prog.lift (TpuEff.assume (k0_chk40 v38) (k0_chk40.dec v38))).down
  let c64_i32_30 : BitVec 32 := 64#32
  let c0_i32_31 : BitVec 32 := 0#32
  let c0_i32_32 : BitVec 32 := 0#32
  let c0_i32_33 : BitVec 32 := 0#32
  let c64_i32_34 : BitVec 32 := 64#32
  let v39 : BitVec 32 := Scalar.addi c0_i32_33 c64_i32_34
  let c1_i32_35 : BitVec 32 := 1#32
  let (v40_0, v40_1) ← Scf.Loop.for k0_t10_loop k0_t10_ok (c0_i32_31, c0_i32_32) fun k0_t10 (arg16, arg17) => do
    let ⟨arg15, v58, v61, k0_hw30, v80, v84, v95, v97⟩ : Σ' (arg15 : BitVec 32) (v58 : Elt F .i32) (v61 : Elt F .i32) (k0_hw30 : k0_chk30 arg16 arg17 v58 v61) (v80 : BitVec 1) (v84 : BitVec 32) (v95 : BitVec 1), BitVec 1 ← k0_part46 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) c0_i32_33 c1_i32_35 k0_t10 arg16 arg17
    let v98 : BitVec 1 := Scalar.andi v95 v97
    let c1_i32_62 : BitVec 32 := 1#32
    let v99 : BitVec 32 := Scalar.subi v84 c1_i32_62
    let v100 : BitVec 32 := Scalar.select v98 v99 v84
    let c0_i32_63 : BitVec 32 := 0#32
    let v101 : BitVec 32 := Scalar.select v80 v100 c0_i32_63
    let c11_i32_64 : BitVec 32 := 11#32
    let c0_i32_65 : BitVec 32 := 0#32
    let v102 : BitVec 1 := Scalar.cmpi .eq c11_i32_64 c0_i32_65
    let c1_i32_66 : BitVec 32 := 1#32
    let v103 : BitVec 32 := Scalar.select v102 c1_i32_66 c11_i32_64
    let v104 : BitVec 32 := Scalar.remsi arg16 v103
    let c0_i32_67 : BitVec 32 := 0#32
    let v105 : BitVec 1 := Scalar.cmpi .ne v104 c0_i32_67
    let c0_i32_68 : BitVec 32 := 0#32
    let v106 : BitVec 1 := Scalar.cmpi .slt v104 c0_i32_68
    let c0_i32_69 : BitVec 32 := 0#32
    let v107 : BitVec 1 := Scalar.cmpi .slt v103 c0_i32_69
    let v108 : BitVec 1 := Scalar.xori v106 v107
    let v109 : BitVec 1 := Scalar.andi v108 v105
    let v110 : BitVec 32 := Scalar.addi v104 v103
    let v111 : BitVec 32 := Scalar.select v109 v110 v104
    let c0_i32_70 : BitVec 32 := 0#32
    let v112 : BitVec 1 := Scalar.cmpi .sgt v101 c0_i32_70
    let v113 : BitVec 32 := Scalar.extui v112
    let c0_i32_71 : BitVec 32 := 0#32
    let v114 : BitVec 1 := Scalar.cmpi .ne v113 c0_i32_71
    if k0_h16 : k0_cond16 v58 v61 = 1#1 then do
      k0_part45 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k0_t10 arg16 arg17 arg15 v58 v61 k0_hw30 v101 v111 k0_h16
      let v154 : Vec F S1x256x256 .f32 ← Prog.lift (.load M8 (Rect.unit (s := S11x1024x1024) (k0_off143 arg16) S1x256x256.size (k0_off143_inb arg16 arg17 v58 v61 k0_hw30 k0_h16)).toLoadRect (View.loadsAt_vmem h_S1x256x256))
      have v155 : FVec F S256x256 .f32 := shapeCast S256x256 v154 shapeCasts_S1x256x256_S256x256
      have v156 : FVec F S256x256 .f32 := transpose S256x256 [1, 0] v155 transposes_S256x256_p1_0_S256x256
      let v157 : Index := Scalar.indexCast v111
      let c512_93 : Index := 512#32
      let c256_94 : Index := 256#32
      let v158 : Vec F S1x256x256 .f32 ← Prog.lift (.load M8 (Rect.unit (s := S11x1024x1024) (k0_off144 arg16) S1x256x256.size (k0_off144_inb arg16 arg17 v58 v61 k0_hw30 k0_h16)).toLoadRect (View.loadsAt_vmem h_S1x256x256))
      have v159 : FVec F S256x256 .f32 := shapeCast S256x256 v158 shapeCasts_S1x256x256_S256x256
      have v160 : FVec F S1x256x256 .f32 := shapeCast S1x256x256 v156 shapeCasts_S256x256_S1x256x256
      Prog.lift (.store M8 (Rect.unit (s := S11x1024x1024) (k0_off144 arg16) S1x256x256.size (k0_off144_inb arg16 arg17 v58 v61 k0_hw30 k0_h16)) v160 Finset.univ (View.stores_vmem_bits_univ h_S1x256x256 rfl) (.inl rfl))
      let v161 : Index := Scalar.indexCast v111
      let c256_95 : Index := 256#32
      let c768_96 : Index := 768#32
      let v162 : Vec F S1x256x256 .f32 ← Prog.lift (.load M8 (Rect.unit (s := S11x1024x1024) (k0_off145 arg16) S1x256x256.size (k0_off145_inb arg16 arg17 v58 v61 k0_hw30 k0_h16)).toLoadRect (View.loadsAt_vmem h_S1x256x256))
      have v163 : FVec F S256x256 .f32 := shapeCast S256x256 v162 shapeCasts_S1x256x256_S256x256
      have v164 : FVec F S256x256 .f32 := transpose S256x256 [1, 0] v163 transposes_S256x256_p1_0_S256x256
      let v165 : Index := Scalar.indexCast v111
      let c768_97 : Index := 768#32
      let c256_98 : Index := 256#32
      let v166 : Vec F S1x256x256 .f32 ← Prog.lift (.load M8 (Rect.unit (s := S11x1024x1024) (k0_off146 arg16) S1x256x256.size (k0_off146_inb arg16 arg17 v58 v61 k0_hw30 k0_h16)).toLoadRect (View.loadsAt_vmem h_S1x256x256))
      have v167 : FVec F S256x256 .f32 := shapeCast S256x256 v166 shapeCasts_S1x256x256_S256x256
      have v168 : FVec F S1x256x256 .f32 := shapeCast S1x256x256 v164 shapeCasts_S256x256_S1x256x256
      Prog.lift (.store M8 (Rect.unit (s := S11x1024x1024) (k0_off146 arg16) S1x256x256.size (k0_off146_inb arg16 arg17 v58 v61 k0_hw30 k0_h16)) v168 Finset.univ (View.stores_vmem_bits_univ h_S1x256x256 rfl) (.inl rfl))
      let v169 : Index := Scalar.indexCast v111
      let c512_99 : Index := 512#32
      let c768_100 : Index := 768#32
      let v170 : Vec F S1x256x256 .f32 ← Prog.lift (.load M8 (Rect.unit (s := S11x1024x1024) (k0_off147 arg16) S1x256x256.size (k0_off147_inb arg16 arg17 v58 v61 k0_hw30 k0_h16)).toLoadRect (View.loadsAt_vmem h_S1x256x256))
      have v171 : FVec F S256x256 .f32 := shapeCast S256x256 v170 shapeCasts_S1x256x256_S256x256
      have v172 : FVec F S256x256 .f32 := transpose S256x256 [1, 0] v171 transposes_S256x256_p1_0_S256x256
      let v173 : Index := Scalar.indexCast v111
      let c768_101 : Index := 768#32
      let c512_102 : Index := 512#32
      let v174 : Vec F S1x256x256 .f32 ← Prog.lift (.load M8 (Rect.unit (s := S11x1024x1024) (k0_off148 arg16) S1x256x256.size (k0_off148_inb arg16 arg17 v58 v61 k0_hw30 k0_h16)).toLoadRect (View.loadsAt_vmem h_S1x256x256))
      have v175 : FVec F S256x256 .f32 := shapeCast S256x256 v174 shapeCasts_S1x256x256_S256x256
      have v176 : FVec F S1x256x256 .f32 := shapeCast S1x256x256 v172 shapeCasts_S256x256_S1x256x256
      Prog.lift (.store M8 (Rect.unit (s := S11x1024x1024) (k0_off148 arg16) S1x256x256.size (k0_off148_inb arg16 arg17 v58 v61 k0_hw30 k0_h16)) v176 Finset.univ (View.stores_vmem_bits_univ h_S1x256x256 rfl) (.inl rfl))
      let v177 : DmaSems sig S1 := cc0_scratch7.slice (Rect.unit (s := S11) (k0_off149 arg16) S1.size (k0_off149_inb arg16 arg17 v58 v61 k0_hw30 k0_h16))
      let v178 : DmaSems sig S_ := v177.squeeze S_ squeezes_S1_S_
      let c0_i32_103 : BitVec 32 := 0#32
      let c0_i32_104 : BitVec 32 := 0#32
      let v179 : Memref sig .tc .hbm S1x1024x1024 .f32 := M3.slice (Rect.unit (s := S64x1024x1024) (k0_off150 k0_t10) S1x1024x1024.size (k0_off150_inb k0_t10)) (fun _ => rfl)
      let v180 : Memref sig .tc .hbm S1024x1024 .f32 := v179.squeeze S1024x1024 squeezes_S1x1024x1024_S1024x1024
      let c0_i32_105 : BitVec 32 := 0#32
      let c0_i32_106 : BitVec 32 := 0#32
      let v181 : Memref sig .tc .vmem S1x1024x1024 .f32 := M8.slice (Rect.unit (s := S11x1024x1024) (k0_off151 arg16) S1x1024x1024.size (k0_off151_inb arg16 arg17 v58 v61 k0_hw30 k0_h16)) (fun _ => rfl)
      let v182 : Memref sig .tc .vmem S1024x1024 .f32 := v181.squeeze S1024x1024 squeezes_S1x1024x1024_S1024x1024
      Prog.lift (.enqueueDma v182 (.here v180) (.dma v178.sem) ((View.wordExact_bits rfl).reshape _ _) ((View.wordExact_bits rfl).reshape _ _) ⟨Or.inl rfl, trivial⟩)
      pure ⟨⟩
    else do
      pure ⟨⟩
    let c0_i32_72 : BitVec 32 := 0#32
    let v115 : BitVec 1 := Scalar.cmpi .sgt v101 c0_i32_72
    let c1_i32_73 : BitVec 32 := 1#32
    let c0_i32_74 : BitVec 32 := 0#32
    let v116 : BitVec 32 := Scalar.select v115 c1_i32_73 c0_i32_74
    let v117 : BitVec 32 := Scalar.addi arg16 v116
    let v118 : BitVec 32 := Scalar.addi arg17 v101
    pure (v117, v118)
  have k0_hw39 : k0_chk39 v40_0 := (← Prog.lift (TpuEff.assume (k0_chk39 v40_0) (k0_chk39.dec v40_0))).down
  let c64_i32_36 : BitVec 32 := 64#32
  let c11_i32 : BitVec 32 := 11#32
  let v41 : BitVec 32 := Scalar.minsi v40_0 c11_i32
  let c0_i32_37 : BitVec 32 := 0#32
  let c0_i32_38 : BitVec 32 := 0#32
  let v42 : BitVec 32 := Scalar.subi v41 c0_i32_37
  let v43 : BitVec 32 := Scalar.addi c0_i32_37 v42
  let c1_i32_39 : BitVec 32 := 1#32
  let v44 : BitVec 32 := Scalar.divsi v42 c1_i32_39
  let v45 : BitVec 32 := Scalar.muli v44 c1_i32_39
  let v46 : BitVec 32 := Scalar.addi c0_i32_37 v45
  let c1_i32_40 : BitVec 32 := 1#32
  let v47 : BitVec 32 ← Scf.Loop.for (k0_t15_loop v40_0) (k0_t15_ok v40_0 k0_hw39) c0_i32_38 fun k0_t15 arg16 => do
    let arg15 : BitVec 32 := Scf.iv c0_i32_37 c1_i32_40 k0_t15
    let c1_i32_47 : BitVec 32 := 1#32
    let v57 : BitVec 32 := Scalar.subi v40_0 c1_i32_47
    let v58 : BitVec 32 := Scalar.subi v57 arg15
    let c11_i32_48 : BitVec 32 := 11#32
    let c0_i32_49 : BitVec 32 := 0#32
    let v59 : BitVec 1 := Scalar.cmpi .eq c11_i32_48 c0_i32_49
    let c1_i32_50 : BitVec 32 := 1#32
    let v60 : BitVec 32 := Scalar.select v59 c1_i32_50 c11_i32_48
    let v61 : BitVec 32 := Scalar.remsi v58 v60
    let c0_i32_51 : BitVec 32 := 0#32
    let v62 : BitVec 1 := Scalar.cmpi .ne v61 c0_i32_51
    let c0_i32_52 : BitVec 32 := 0#32
    let v63 : BitVec 1 := Scalar.cmpi .slt v61 c0_i32_52
    let c0_i32_53 : BitVec 32 := 0#32
    let v64 : BitVec 1 := Scalar.cmpi .slt v60 c0_i32_53
    let v65 : BitVec 1 := Scalar.xori v63 v64
    let v66 : BitVec 1 := Scalar.andi v65 v62
    let v67 : BitVec 32 := Scalar.addi v61 v60
    let v68 : BitVec 32 := Scalar.select v66 v67 v61
    let c0_i32_54 : BitVec 32 := 0#32
    let v69 : DmaSems sig S1 := cc0_scratch7.slice (Rect.unit (s := S11) (k0_off152 v40_0 k0_t15) S1.size (k0_off152_inb v40_0 k0_hw39 k0_t15))
    let v70 : DmaSems sig S_ := v69.squeeze S_ squeezes_S1_S_
    let c0_i32_55 : BitVec 32 := 0#32
    let c0_i32_56 : BitVec 32 := 0#32
    let v71 : Memref sig .tc .hbm S1x1024x1024 .f32 := M3.slice (Rect.unit (s := S64x1024x1024) ![0, 0, 0] S1x1024x1024.size inb_S64x1024x1024_S1x1024x1024_0_0_0) (fun _ => rfl)
    let v72 : Memref sig .tc .hbm S1024x1024 .f32 := v71.squeeze S1024x1024 squeezes_S1x1024x1024_S1024x1024
    let c0_i32_57 : BitVec 32 := 0#32
    let c0_i32_58 : BitVec 32 := 0#32
    let v73 : Memref sig .tc .vmem S1x1024x1024 .f32 := M8.slice (Rect.unit (s := S11x1024x1024) (k0_off153 v40_0 k0_t15) S1x1024x1024.size (k0_off153_inb v40_0 k0_hw39 k0_t15)) (fun _ => rfl)
    let v74 : Memref sig .tc .vmem S1024x1024 .f32 := v73.squeeze S1024x1024 squeezes_S1x1024x1024_S1024x1024
    Prog.lift (.waitDma2 v70.sem v74 v72 ((View.wordExact_bits rfl).reshape _ _) ((View.wordExact_bits rfl).reshape _ _))
    let c0_i32_59 : BitVec 32 := 0#32
    pure c0_i32_59
  let c1_i32_41 : BitVec 32 := 1#32
  let v48 : BitVec 32 ← Scf.Loop.for (k0_t16_loop v40_0) (k0_t16_ok v40_0 k0_hw39) v47 fun k0_t16 arg16 => do
    let arg15 : BitVec 32 := Scf.iv v46 c1_i32_41 k0_t16
    let c1_i32_47 : BitVec 32 := 1#32
    let v57 : BitVec 32 := Scalar.subi v40_0 c1_i32_47
    let v58 : BitVec 32 := Scalar.subi v57 arg15
    let c11_i32_48 : BitVec 32 := 11#32
    let c0_i32_49 : BitVec 32 := 0#32
    let v59 : BitVec 1 := Scalar.cmpi .eq c11_i32_48 c0_i32_49
    let c1_i32_50 : BitVec 32 := 1#32
    let v60 : BitVec 32 := Scalar.select v59 c1_i32_50 c11_i32_48
    let v61 : BitVec 32 := Scalar.remsi v58 v60
    let c0_i32_51 : BitVec 32 := 0#32
    let v62 : BitVec 1 := Scalar.cmpi .ne v61 c0_i32_51
    let c0_i32_52 : BitVec 32 := 0#32
    let v63 : BitVec 1 := Scalar.cmpi .slt v61 c0_i32_52
    let c0_i32_53 : BitVec 32 := 0#32
    let v64 : BitVec 1 := Scalar.cmpi .slt v60 c0_i32_53
    let v65 : BitVec 1 := Scalar.xori v63 v64
    let v66 : BitVec 1 := Scalar.andi v65 v62
    let v67 : BitVec 32 := Scalar.addi v61 v60
    let v68 : BitVec 32 := Scalar.select v66 v67 v61
    let c0_i32_54 : BitVec 32 := 0#32
    let v69 : DmaSems sig S1 := cc0_scratch7.slice (Rect.unit (s := S11) (k0_off154 v40_0 k0_t16) S1.size (k0_off154_inb v40_0 k0_hw39 k0_t16))
    let v70 : DmaSems sig S_ := v69.squeeze S_ squeezes_S1_S_
    let c0_i32_55 : BitVec 32 := 0#32
    let c0_i32_56 : BitVec 32 := 0#32
    let v71 : Memref sig .tc .hbm S1x1024x1024 .f32 := M3.slice (Rect.unit (s := S64x1024x1024) ![0, 0, 0] S1x1024x1024.size inb_S64x1024x1024_S1x1024x1024_0_0_0) (fun _ => rfl)
    let v72 : Memref sig .tc .hbm S1024x1024 .f32 := v71.squeeze S1024x1024 squeezes_S1x1024x1024_S1024x1024
    let c0_i32_57 : BitVec 32 := 0#32
    let c0_i32_58 : BitVec 32 := 0#32
    let v73 : Memref sig .tc .vmem S1x1024x1024 .f32 := M8.slice (Rect.unit (s := S11x1024x1024) (k0_off155 v40_0 k0_t16) S1x1024x1024.size (k0_off155_inb v40_0 k0_hw39 k0_t16)) (fun _ => rfl)
    let v74 : Memref sig .tc .vmem S1024x1024 .f32 := v73.squeeze S1024x1024 squeezes_S1x1024x1024_S1024x1024
    Prog.lift (.waitDma2 v70.sem v74 v72 ((View.wordExact_bits rfl).reshape _ _) ((View.wordExact_bits rfl).reshape _ _))
    let c0_i32_59 : BitVec 32 := 0#32
    pure c0_i32_59
  let c4_i32 : BitVec 32 := 4#32
  pure ⟨v38, k0_hw40, c4_i32⟩

set_option maxHeartbeats 4000000 in
theorem part48_eq (v21 : BitVec 32) (hw : k0_chk18 v21) (v23 w : BitVec 32) : k0_part48 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v21 hw v23 w =
    fetchGoK v21 hw (fetchK (fetchK tail48)) := rfl

end Cert.KernelIdeal.Hand
end
-- ==== Proof.Ideal.HeadSpec.lean ====
module
public import proofs.«01_k».proof.Proof.Ideal.Tail

/-! The start of the kernel: the first search, the cursor's start and the first five fetches. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

variable (c : Dev nD) (X : Buf (Elt F) (M1.view.loc (c : Thread nD τ))) (Y : Buf (Elt F) (M2.view.loc (c : Thread nD τ)))

theorem head_spec (o : S65.Idx → BitVec 32) (hO : Ok (offN o)) (cu : S3.Idx → BitVec 32) {α : Type} (k : Prog (TpuEff nD τ sig (Elt F) Λ₀ .tc) α) (Q : α → sProp 𝕄) :
    iprop((M0.view.loc (c : Thread nD τ) ↦{fullShare} o) ∗ (M14.view.loc (c : Thread nD τ) ↦{fullShare} cu)
        ∗ ((M0.view.loc (c : Thread nD τ) ↦{fullShare} o) -∗ CurAt c o 0 -∗ wp frame (wpE (defs₀ (F := F)) Variants.none (c : Thread nD τ) none) Set.univ k Q))
      ⊢ wp frame (wpE (defs₀ (F := F)) Variants.none (c : Thread nD τ) none) Set.univ (headK k) Q := by
  iintro ⟨H0, H14, HK⟩
  unfold headK
  have li := @loopInv_k0_t1 F _ c o hO
  have hs : Skip (offN o) (0#32 : BitVec 32).toNat 0 (0#32 : BitVec 32).toNat := Skip.zero (Nat.zero_le _)
  sl_exec
  iapply HK $$ H0
  unfold CurAt
  iexists _
  isplitl [H14]
  · iexact H14
  · ipureintro
    have hd := Skip.done (o := offN o) (e₀ := 0) hL1
    rw [base_zero] at hd
    refine ⟨?_, ?_⟩
    · rw [w14, if_neg (by decide), w14, if_neg (by decide), w14, if_pos (by decide), w14, if_neg (by decide), w14, if_pos (by decide)]
      exact hd
    · rw [w14, if_pos (by decide)]; rfl

/-- One fetch of the prologue. -/
theorem fetchP_spec (o : S65.Idx → BitVec 32) (hO : Ok (offN o)) (j : ℕ) (hj : j < 8) {α : Type} (k : Prog (TpuEff nD τ sig (Elt F) Λ₀ .tc) α) (Q : α → sProp 𝕄) :
    iprop((M0.view.loc (c : Thread nD τ) ↦{fullShare} o) ∗ CurAt c o (min j (base (offN o) 64)) ∗ Ring c X Y (offN o) 0 (min j (base (offN o) 64))
        ∗ ((M0.view.loc (c : Thread nD τ) ↦{fullShare} o) -∗ CurAt c o (min (j + 1) (base (offN o) 64)) -∗ Ring c X Y (offN o) 0 (min (j + 1) (base (offN o) 64)) -∗ wp frame (wpE (defs₀ (F := F)) Variants.none (c : Thread nD τ) none) Set.univ k Q))
      ⊢ wp frame (wpE (defs₀ (F := F)) Variants.none (c : Thread nD τ) none) Set.univ (fetchK k) Q := by
  have h := fetch_spec c X Y o hO 0 (min j (base (offN o) 64)) (Nat.zero_le _) (by omega) k Q
  rwa [show min (min j (base (offN o) 64) + 1) (base (offN o) 64) = min (j + 1) (base (offN o) 64) by omega] at h

/-- The first part of the kernel. -/
theorem part47_spec (o : S65.Idx → BitVec 32) (hO : Ok (offN o)) (cu : S3.Idx → BitVec 32) (Q : _ → sProp 𝕄) :
    iprop((M0.view.loc (c : Thread nD τ) ↦{fullShare} o) ∗ (M14.view.loc (c : Thread nD τ) ↦{fullShare} cu) ∗ Ring c X Y (offN o) 0 0
        ∗ (∀ cu v, ⌜cu (i3 0) = v.1 ∧ CurW (offN o) cu (min 4 (base (offN o) 64))⌝ -∗ (M0.view.loc (c : Thread nD τ) ↦{fullShare} o) -∗ (M14.view.loc (c : Thread nD τ) ↦{fullShare} cu) -∗ Ring c X Y (offN o) 0 (min 4 (base (offN o) 64)) -∗ Q v))
      ⊢ wp frame (wpE (defs₀ (F := F)) Variants.none (c : Thread nD τ) none) Set.univ (k0_part47 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _)) Q := by
  rw [part47_eq]
  iintro ⟨H0, H14, HR, HK⟩
  iapply (head_spec c o hO cu)
  isplitl [H0]; · iexact H0
  isplitl [H14]; · iexact H14
  iintro H0 HC
  iapply (fetchP_spec c X Y o hO 0 (by omega))
  rw [Nat.zero_min]
  isplitl [H0]; · iexact H0
  isplitl [HC]; · iexact HC
  isplitl [HR]; · iexact HR
  iintro H0 HC HR
  iapply (fetchP_spec c X Y o hO 1 (by omega))
  isplitl [H0]; · iexact H0
  isplitl [HC]; · iexact HC
  isplitl [HR]; · iexact HR
  iintro H0 HC HR
  iapply (fetchP_spec c X Y o hO 2 (by omega))
  isplitl [H0]; · iexact H0
  isplitl [HC]; · iexact HC
  isplitl [HR]; · iexact HR
  iintro H0 HC HR
  iapply (fetchP_spec c X Y o hO 3 (by omega))
  isplitl [H0]; · iexact H0
  isplitl [HC]; · iexact HC
  isplitl [HR]; · iexact HR
  iintro H0 HC HR
  unfold CurAt
  icases HC with ⟨%cu, H14, %hcu⟩
  sl_exec
  have e : part47_spec.sl.r (F := F) cu = cu (i3 0) := read14 (F := F) cu 0 _ _ _ rfl
  have hw : k0_chk18 (part47_spec.sl.r (F := F) cu) := by rw [e]; exact chk2_of (Cur.fe_le hcu.1)
  sl_exec
  sl_step
  iapply HK $$ %cu %_ %⟨e.symm, hcu⟩ H0 H14 HR

/-- The start of the second part of the kernel. -/
theorem part48_spec (o : S65.Idx → BitVec 32) (hO : Ok (offN o)) (cu : S3.Idx → BitVec 32) (v21 : BitVec 32) (hw : k0_chk18 v21) (v23 w : BitVec 32)
    (hv : cu (i3 0) = v21) (hcu : CurW (offN o) cu (min 4 (base (offN o) 64))) (Q : _ → sProp 𝕄) :
    iprop((M0.view.loc (c : Thread nD τ) ↦{fullShare} o) ∗ (M14.view.loc (c : Thread nD τ) ↦{fullShare} cu) ∗ Ring c X Y (offN o) 0 (min 4 (base (offN o) 64))
        ∗ ((M0.view.loc (c : Thread nD τ) ↦{fullShare} o) -∗ CurAt c o (min 7 (base (offN o) 64)) -∗ Ring c X Y (offN o) 0 (min 7 (base (offN o) 64)) -∗ wp frame (wpE (defs₀ (F := F)) Variants.none (c : Thread nD τ) none) Set.univ tail48 Q))
      ⊢ wp frame (wpE (defs₀ (F := F)) Variants.none (c : Thread nD τ) none) Set.univ (k0_part48 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v21 hw v23 w) Q := by
  rw [part48_eq]
  iintro ⟨H0, H14, HR, HK⟩
  iapply (fetchGo_spec c X Y o hO v21 hw cu hv 0 _ (Nat.zero_le _) (by omega) hcu)
  isplitl [H0]; · iexact H0
  isplitl [H14]; · iexact H14
  isplitl [HR]; · iexact HR
  rw [show min (min 4 (base (offN o) 64) + 1) (base (offN o) 64) = min 5 (base (offN o) 64) by omega]
  iintro H0 HC HR
  iapply (fetchP_spec c X Y o hO 5 (by omega))
  isplitl [H0]; · iexact H0
  isplitl [HC]; · iexact HC
  isplitl [HR]; · iexact HR
  iintro H0 HC HR
  iapply (fetchP_spec c X Y o hO 6 (by omega))
  isplitl [H0]; · iexact H0
  isplitl [HC]; · iexact HC
  isplitl [HR]; · iexact HR
  iexact HK

end Cert.KernelIdeal.Hand
end
-- ==== Proof.Ideal.ZeroLoop.lean ====
module
public import proofs.«01_k».proof.Proof.Ideal.Zero
public import proofs.«01_k».proof.Proof.Ideal.HeadSpec

/-! The loop over the experts that writes the counts and starts the zero copies. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

theorem off73_eq (k : Fin k0_t9_loop.trips) : k0_off73 k = ![k.val] := by revert k; decide
theorem off74_eq (k : Fin k0_t9_loop.trips) : k0_off74 k = ![k.val + 1] := by revert k; decide
theorem off75_eq (k : Fin k0_t9_loop.trips) : k0_off75 k = ![k.val] := by revert k; decide
theorem off76_eq (k : Fin k0_t9_loop.trips) : k0_off76 k = ![k.val, 256 * 0, 0] := by revert k; decide
theorem off77_eq (k : Fin k0_t9_loop.trips) : k0_off77 k = ![k.val, 256 * 1, 0] := by revert k; decide
theorem off78_eq (k : Fin k0_t9_loop.trips) : k0_off78 k = ![k.val, 256 * 2, 0] := by revert k; decide
theorem off79_eq (k : Fin k0_t9_loop.trips) : k0_off79 k = ![k.val, 256 * 3, 0] := by revert k; decide
theorem trips9 : k0_t9_loop.trips = 64 := by decide

variable (c : Dev nD) (f0 : Buf (Elt F) (M3.view.loc (c : Thread nD τ))) (z : Buf (Elt F) (M9.view.loc (c : Thread nD τ)))

/-- Word `e` of the counts. -/
def i64 (e : ℕ) (h : e < 64) : S64.Idx := fun a => ⟨e, by fin_cases a; exact h⟩
/-- The counts of the first `k` experts. -/
def CntOK (o : S65.Idx → BitVec 32) (k : ℕ) (ct : S64.Idx → BitVec 32) : Prop :=
  ∀ e (h : e < 64), e < k → ct (i64 e h) = Scalar.subi (o (i65 (e + 1) (by omega))) (o (i65 e (by omega)))

/-- The matrices' blocks when the zero copies of the first `k` experts have been started. -/
def ZRows (o : ℕ → ℕ) (k : ℕ) : sProp 𝕄 := BI.bigSep Finset.univ fun e : Fin 64 => if e.val < k ∧ mt o e.val = true then iprop(emp) else rawH c f0 e
theorem zrows_skip {o : ℕ → ℕ} {k : ℕ} (hm : ¬ mt o k = true) : ZRows c f0 o k = ZRows c f0 o (k + 1) := by
  unfold ZRows
  refine BI.bigSep_congr fun e _ => ?_
  by_cases he : e.val = k
  · rw [he, if_neg (fun h => hm h.2), if_neg (fun h => hm h.2)]
  · exact if_congr (by constructor <;> rintro ⟨h1, h2⟩ <;> exact ⟨by omega, h2⟩) rfl rfl
theorem zrows_take {o : ℕ → ℕ} {k : ℕ} (hk : k < 64) (hm : mt o k = true) : ZRows c f0 o k ⊢ iprop(rawH c f0 ⟨k, hk⟩ ∗ ZRows c f0 o (k + 1)) := by
  have hs := fam_swap (F := F) ⟨k, hk⟩ (fun e : Fin 64 => if e.val < k ∧ mt o e.val = true then iprop(emp) else rawH c f0 e) (fun e : Fin 64 => if e.val < k + 1 ∧ mt o e.val = true then iprop(emp) else rawH c f0 e) ?_
  · rw [if_neg (fun h => absurd h.1 (lt_irrefl _)), if_pos ⟨Nat.lt_succ_self _, hm⟩] at hs
    unfold ZRows
    refine hs.trans ?_
    iintro ⟨H, HK⟩
    isplitl [H]; · iexact H
    iapply HK
    iempintro
  · intro b hb
    have : b.val ≠ k := fun h => hb (Fin.ext h)
    exact if_congr (by show (b.val < k ∧ _) ↔ (b.val < k + 1 ∧ _); constructor <;> rintro ⟨h1, h2⟩ <;> exact ⟨by omega, h2⟩) rfl rfl

theorem rawH_pieces (e : Fin 64) : rawH c f0 e ⊢ iprop(rawP c f0 e 0 ∗ rawP c f0 e 1 ∗ rawP c f0 e 2 ∗ rawP c f0 e 3) := by
  have h := Ring.pointsTo_sub_blocks (Ix := Unit) (Val := Elt F) (Name := ℕ) (U := Pipeline.UD sig nD τ) (Lvl := ℕ) (ℓ := M3.view.loc (c : Thread nD τ)) (fun q => (pieceH e q).view.set) (pieces_disjoint e) _ (pieces_cover e) (q := fullShare) f0
  refine (show rawH c f0 e ⊢ _ from (BIBase.Entails.of_eq h)).trans ?_
  rw [BI.bigSep_eq_bigSepL_of_eq [0, 1, 2, 3] (by decide) (by decide)]
  simp only [BI.bigSepL_cons, BI.bigSepL_nil]
  show iprop(rawP c f0 e 0 ∗ rawP c f0 e 1 ∗ rawP c f0 e 2 ∗ rawP c f0 e 3 ∗ emp) ⊢ _
  iintro ⟨H0, H1, H2, H3, H4⟩
  isplitl [H0]; · iexact H0
  isplitl [H1]; · iexact H1
  isplitl [H2]; · iexact H2
  iexact H3

/-- What holds after `k` experts of the loop. -/
def ZInv (o : S65.Idx → BitVec 32) (k : ℕ) (acc : BitVec 32) : sProp 𝕄 :=
  iprop((M0.view.loc (c : Thread nD τ) ↦{fullShare} o) ∗ (∃ ct : S64.Idx → BitVec 32, (M4.view.loc (c : Thread nD τ) ↦{fullShare} ct) ∗ ⌜CntOK o k ct⌝)
    ∗ ZRows c f0 (offN o) k ∗ ZToks c z (nZ (offN o)) (4 * cnt (mt (offN o)) k) ∗ ZBatch c f0 z (offN o) (4 * cnt (mt (offN o)) k) 0
    ∗ ⌜acc.toNat = cnt (mt (offN o)) k⌝)

theorem cntOK_step {o : S65.Idx → BitVec 32} {k : ℕ} (hk : k < 64) {ct : S64.Idx → BitVec 32} (h : CntOK o k ct) {off : Fin 1 → ℕ} (e : off = ![k])
    (inb : ∀ a, off a + S1.size a ≤ S64.size a) (x : BitVec 32) (hx : x = Scalar.subi (o (i65 (k + 1) (by omega))) (o (i65 k (by omega)))) :
    CntOK o (k + 1) (M4.view.writes (Elt F) ct [⟨Rect.unit (s := S64) off S1.size inb, fun _ => x⟩]) := by
  subst e
  intro e he hlt
  have := View.read_writes_cons_cell (Val := Elt F) M4.view ct inb x [] (i64 e he)
  refine (show _ = _ from this).trans ?_
  show (if e = k then x else ct (i64 e he)) = _
  by_cases hek : e = k
  · subst hek; rw [if_pos rfl]; exact hx
  · rw [if_neg hek]; exact h e he (by omega)

set_option maxHeartbeats 1000000 in
theorem zero_trip (o : S65.Idx → BitVec 32) (hO : Ok (offN o)) (k : Fin k0_t9_loop.trips) (acc : BitVec 32) (v21 : BitVec 32) (hw : k0_chk18 v21) (v23 w : BitVec 32) :
    ZInv c f0 z o k.val acc ⊢ wp frame (wpE (defs₀ (F := F)) Variants.none (c : Thread nD τ) none) Set.univ (k0_t9_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v21 hw v23 w k acc) (fun r => ZInv c f0 z o (k.val + 1) r) := by
  have hk : k.val < 64 := lt_of_lt_of_eq k.isLt trips9
  have hct' := fun (ct : S64.Idx → BitVec 32) (h : CntOK o k.val ct) x hx => cntOK_step (F := F) hk h (off75_eq k) (by rw [off75_eq]; intro a; fin_cases a; show k.val + 1 ≤ 64; omega) x hx
  unfold ZInv
  iintro ⟨H0, ⟨%ct, H4, %hct⟩, HR, HT, HB, %hacc⟩
  unfold k0_t9_body
  sl_exec
  have ea : zero_trip.sl.r (F := F) o k = o (i65 k.val (by omega)) := read0 o _ _ _ _ (by rw [off73_eq]; rfl) _
  have eb : zero_trip.sl.r_1 (F := F) o k = o (i65 (k.val + 1) (by omega)) := read0 o _ _ _ _ (by rw [off74_eq]; rfl) _
  have hmt : mt (offN o) k.val = true ↔ o (i65 k.val (by omega)) = o (i65 (k.val + 1) (by omega)) := by
    unfold mt
    have := hO.le (show k.val ≤ k.val + 1 by omega) (show k.val + 1 ≤ 64 by omega)
    rw [offN_of (show k.val < 65 by omega), offN_of (show k.val + 1 < 65 by omega)] at *
    rw [decide_eq_true_eq, ← BitVec.toNat_inj]
    omega
  have hct2 := hct' ct hct (zero_trip.sl.v62 (F := F) o k) (by
    show Scalar.subi (zero_trip.sl.r_1 (F := F) o k) (zero_trip.sl.r (F := F) o k) = _
    rw [ea, eb])
  have hc7 : zero_trip.sl.v67 (F := F) o k = Scalar.cmpi .ne (Scalar.extui (Scalar.cmpi .eq (zero_trip.sl.r_1 (F := F) o k) (zero_trip.sl.r (F := F) o k))) 0#32 := rfl
  have hle := cnt_le (mt (offN o)) k.val
  by_cases hm : mt (offN o) k.val = true
  · have e1 := hmt.1 hm
    have hc : zero_trip.sl.v67 (F := F) o k = 1#1 := by
      rw [hc7, ea, eb, e1, Cert.Words.cmpi_eq, if_pos rfl]; rfl
    have hr : (Scalar.addi acc (Scalar.select (Scalar.cmpi .eq (zero_trip.sl.r_1 (F := F) o k) (zero_trip.sl.r (F := F) o k)) 1#32 0#32)).toNat = cnt (mt (offN o)) (k.val + 1) := by
      rw [ea, eb, e1, Cert.Words.cmpi_eq, if_pos rfl, cnt_succ, if_pos hm]
      show (acc + 1#32).toNat = _
      rw [BitVec.toNat_add, hacc]
      show (cnt (mt (offN o)) k.val + 1) % 2 ^ 32 = _
      omega
    have hlt := cnt_lt hk hm
    have hj : ∀ q, q < 4 → 4 * cnt (mt (offN o)) k.val + q < nZ (offN o) := fun q hq => by show _ < 4 * _; omega
    rw [if_pos hc]
    ihave HR := (zrows_take c f0 hk hm) $$ HR
    icases HR with ⟨Hrow, HR⟩
    ihave Hrow := (rawH_pieces c f0 ⟨k.val, hk⟩) $$ Hrow
    icases Hrow with ⟨P0, P1, P2, P3⟩
    ihave HT := (ztoks_take c z (hj 0 (by decide))) $$ HT
    icases HT with ⟨T0, HT⟩
    sl_exec
    iapply (enq_zero c f0 z (offN o) k.val hk hm 0 (by decide) (off76_eq k)) $$ [T0 P0 HB]
    · isplitl [T0]; · iexact T0
      isplitl [P0]; · iexact P0
      iexact HB
    iintro HB
    ihave HT := (ztoks_take c z (hj 1 (by decide))) $$ HT
    icases HT with ⟨T0, HT⟩
    sl_exec
    iapply (enq_zero c f0 z (offN o) k.val hk hm 1 (by decide) (off77_eq k)) $$ [T0 P1 HB]
    · isplitl [T0]; · iexact T0
      isplitl [P1]; · iexact P1
      iexact HB
    iintro HB
    ihave HT := (ztoks_take c z (hj 2 (by decide))) $$ HT
    icases HT with ⟨T0, HT⟩
    sl_exec
    iapply (enq_zero c f0 z (offN o) k.val hk hm 2 (by decide) (off78_eq k)) $$ [T0 P2 HB]
    · isplitl [T0]; · iexact T0
      isplitl [P2]; · iexact P2
      iexact HB
    iintro HB
    ihave HT := (ztoks_take c z (hj 3 (by decide))) $$ HT
    icases HT with ⟨T0, HT⟩
    sl_exec
    iapply (enq_zero c f0 z (offN o) k.val hk hm 3 (by decide) (off79_eq k)) $$ [T0 P3 HB]
    · isplitl [T0]; · iexact T0
      isplitl [P3]; · iexact P3
      iexact HB
    iintro HB
    sl_exec
    sl_step
    have e4 : 4 * cnt (mt (offN o)) (k.val + 1) = 4 * cnt (mt (offN o)) k.val + (3 + 1) := by rw [cnt_succ, if_pos hm]; omega
    rw [e4]
    isplitl [H0]; · iexact H0
    isplitl [H4]
    · iexists _
      isplitl [H4]; · iexact H4
      ipureintro; exact hct2
    isplitl [HR]; · iexact HR
    isplitl [HT]; · iexact HT
    isplitl [HB]; · iexact HB
    ipureintro; exact hr
  · have hne : ¬ (o (i65 (k.val + 1) (by omega))).toNat = (o (i65 k.val (by omega))).toNat := fun h => hm (hmt.2 (BitVec.toNat_inj.1 h.symm))
    have hc : ¬ zero_trip.sl.v67 (F := F) o k = 1#1 := by
      rw [hc7, ea, eb, Cert.Words.cmpi_eq, if_neg hne]; decide
    have hr : (Scalar.addi acc (Scalar.select (Scalar.cmpi .eq (zero_trip.sl.r_1 (F := F) o k) (zero_trip.sl.r (F := F) o k)) 1#32 0#32)).toNat = cnt (mt (offN o)) (k.val + 1) := by
      rw [ea, eb, Cert.Words.cmpi_eq, if_neg hne, cnt_succ, if_neg hm]
      show (acc + 0#32).toNat = _
      rw [BitVec.add_zero, hacc]; rfl
    rw [if_neg hc]
    ihave HR := (Entails.of_eq (zrows_skip c f0 hm)) $$ HR
    have e4 : 4 * cnt (mt (offN o)) (k.val + 1) = 4 * cnt (mt (offN o)) k.val := by rw [cnt_succ, if_neg hm]; rfl
    sl_exec
    sl_step
    rw [e4]
    isplitl [H0]; · iexact H0
    isplitl [H4]
    · iexists _
      isplitl [H4]; · iexact H4
      ipureintro; exact hct2
    isplitl [HR]; · iexact HR
    isplitl [HT]; · iexact HT
    isplitl [HB]; · iexact HB
    ipureintro; exact hr

@[instance_reducible, sl_loop] def loopInv_k0_t9 (o : S65.Idx → BitVec 32) (hO : Ok (offN o)) (v21 : BitVec 32) (hw : k0_chk18 v21) (v23 w init : BitVec 32) :
    LoopInvTy_k0_t9 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v21 hw v23 w init where
  inv k acc := ZInv c f0 z o k acc
  step k acc := zero_trip c f0 z o hO k acc v21 hw v23 w

end Cert.KernelIdeal.Hand
end
-- ==== Proof.Ideal.Unit6.lean ====
module
public import proofs.«01_k».proof.Proof.Ideal.Unit5
public import proofs.«01_k».proof.Proof.Ideal.ZeroLoop
public import proofs.«01_k».proof.Proof.Ideal.Fam
public import Idealize.ShloMosaic.Lib.LoopRemainder

/-! An expert in its slot: waiting for the slot, the tiles, the mirrored blocks. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
variable (c : Dev nD) (X : Buf (Elt F) (M1.view.loc (c : Thread nD τ))) (Y : Buf (Elt F) (M2.view.loc (c : Thread nD τ)))
/-- A block transposed. -/
def mirP (v : Vec F S1x256x256 .f32) : FVec F S1x256x256 .f32 :=
  shapeCast S1x256x256 (transpose S256x256 [1, 0] (shapeCast S256x256 v shapeCasts_S1x256x256_S256x256) transposes_S256x256_p1_0_S256x256) shapeCasts_S256x256_S1x256x256
/-- Slot `s` after block `(x, y)` is stored, transposed, at `(y, x)`. -/
def mir (s : Fin 11) (x y : ℕ) (hx : x + 256 ≤ 1024) (hy : y + 256 ≤ 1024) (f : BufO F c) : BufO F c :=
  stO256 c s y x (inbB' s.isLt hy hx) f (mirP (rdO256 c s x y (inbB' s.isLt hx hy) f))
def mirA (s : Fin 11) (f : BufO F c) : BufO F c :=
  mir c s 0 768 (by decide) (by decide) (mir c s 0 512 (by decide) (by decide) (mir c s 0 256 (by decide) (by decide) f))
def mirB (s : Fin 11) (f : BufO F c) : BufO F c :=
  mir c s 512 768 (by decide) (by decide) (mir c s 256 768 (by decide) (by decide) (mir c s 256 512 (by decide) (by decide) f))
/-- `f` is what slot `s` holds when expert `e` is finished. -/
def EDone (o : S65.Idx → BitVec 32) (e : Fin 64) (s : Fin 11) (f : BufO F c) : Prop :=
  ∃ f', UAcc c X Y s (o (i65 e.1 (by omega))) (o (i65 (e.1 + 1) (by omega))) (fun u => row (offN o) (base (offN o) e.1 + u)) (nu (offN o) e.1) f' ∧ f = mirB c s (mirA c s f')

theorem inbS11 (b : Fin 11) : ∀ a, (![b.val] : Fin 1 → ℕ) a + S1.size a ≤ S11.size a := inbS11' b.isLt
abbrev semO (b : Fin 11) : DmaSem sig := ((SemArray.slice cc0_scratch7 (Rect.unit (s := S11) ![b.val] S1.size (inbS11 b))).squeeze S_ squeezes_S1_S_).sem
abbrev NO : ℕ := (rowH 0).view.dmaCredit
theorem NO_pos : 0 < NO := View.dmaCredit_pos _ (by decide)
/-- Expert `e`'s matrix in `H`, copied from a slot holding `fS`. -/
abbrev gotO (s : Fin 11) (e : Fin 64) (fH : Buf (Elt F) (M3.view.loc (c : Thread nD τ))) (fS : BufO F c) : sProp 𝕄 :=
  M3.view.loc (c : Thread nD τ) ↦[(rowH e).view.set]{fullShare} ((rowH e).view.write (Elt F) fH (ReadAs.same.apply ((slotO s).view.read (Elt F) fS)) Finset.univ)
def HDone (o : S65.Idx → BitVec 32) (e : Fin 64) : sProp 𝕄 := iprop(∃ s, ∃ fH, ∃ fS, ⌜EDone c X Y o e s fS⌝ ∗ gotO c s e fH fS)
def flyO (o : S65.Idx → BitVec 32) (s : Fin 11) (e : Fin 64) : sProp 𝕄 :=
  iprop(∃ fH, ∃ fS, ⌜EDone c X Y o e s fS⌝ ∗ Transfers.Flight (countersEmb (U := Pipeline.UD sig nD τ)) (c : Thread nD τ) (.dma (semO s)) () NO iprop(gotO c s e fH fS ∗ ownO c s fS))
def freeO (s : Fin 11) : sProp 𝕄 := iprop(semVal ((c : Thread nD τ), SemLoc.dma (semO s)) 0 ∗ (∃ f, ownO c s f))

/-- Starting the copy of a finished slot. -/
theorem enq_out (o : S65.Idx → BitVec 32) (s : Fin 11) (e : Fin 64) (f0 : Buf (Elt F) (M3.view.loc (c : Thread nD τ))) (fS : BufO F c) (hE : EDone c X Y o e s fS)
    {offS : Fin 3 → ℕ} {off4 : Fin 1 → ℕ} {offR : Fin 3 → ℕ} (e5 : offS = ![s.val, 0, 0]) (e4 : off4 = ![s.val]) (e6 : offR = ![e.val, 0, 0])
    {h5 : ∀ a, offS a + S1x1024x1024.size a ≤ S11x1024x1024.size a} {h4 : ∀ a, off4 a + S1.size a ≤ S11.size a}
    {h6 : ∀ a, offR a + S1x1024x1024.size a ≤ S64x1024x1024.size a} {hs5 hs6} {hsrc hdst hsem}
    {α : Type} {k : PUnit → Prog (TpuEff nD τ sig (Elt F) Λ₀ .tc) α} {Q : α → sProp 𝕄} :
    iprop(semVal ((c : Thread nD τ), SemLoc.dma (semO s)) 0 ∗ ownO c s fS ∗ rawH c f0 e) ⊢ iprop((flyO c X Y o s e -∗ wp frame (wpE (defs₀ (F := F)) Variants.none (c : Thread nD τ) none) Set.univ (k ⟨⟩) Q) -∗
      wp frame (wpE (defs₀ (F := F)) Variants.none (c : Thread nD τ) none) Set.univ (.op (.enqueueDma ((M8.slice (Rect.unit (s := S11x1024x1024) offS S1x1024x1024.size h5) hs5).squeeze S1024x1024 squeezes_S1x1024x1024_S1024x1024)
        (.here ((M3.slice (Rect.unit (s := S64x1024x1024) offR S1x1024x1024.size h6) hs6).squeeze S1024x1024 squeezes_S1x1024x1024_S1024x1024))
        (.dma ((SemArray.slice cc0_scratch7 (Rect.unit (s := S11) off4 S1.size h4)).squeeze S_ squeezes_S1_S_).sem) hsrc hdst hsem) k) Q) := by
  subst e5 e4 e6
  iintro ⟨Hv, HO, HH⟩ HK
  iapply (Transfers.wp_dmaLocal (countersEmb (U := Pipeline.UD sig nD τ)) Variants.none (c : Thread nD τ) none () NO rfl NO_pos (Finset.Subset.refl _)) $$ [HO HH Hv]
  · isplitl [HO]; · iexact HO
    isplitl [HH]; · iexact HH
    iexact Hv
  iintro HF
  iapply HK
  unfold flyO
  iexists f0
  iexists fS
  isplitr [HF]
  · ipureintro; exact hE
  · iexact HF

/-- Waiting for the copy of a slot. -/
theorem wait_out (o : S65.Idx → BitVec 32) (s : Fin 11) (e : Fin 64) {off4 : Fin 1 → ℕ} {offR : Fin 3 → ℕ} (e4 : off4 = ![s.val])
    {h4 : ∀ a, off4 a + S1.size a ≤ S11.size a} {h6 : ∀ a, offR a + S1x1024x1024.size a ≤ S64x1024x1024.size a}
    {hs6} {srcw : Memref sig .tc .vmem S1024x1024 .f32} {hsrc hdst}
    {α : Type} {k : PUnit → Prog (TpuEff nD τ sig (Elt F) Λ₀ .tc) α} {Q : α → sProp 𝕄} :
    iprop(flyO c X Y o s e ∗ OW c) ⊢ iprop((iprop(semVal ((c : Thread nD τ), SemLoc.dma (semO s)) 0 ∗ (∃ f, ownO c s f) ∗ HDone c X Y o e ∗ OW c) -∗ wp frame (wpE (defs₀ (F := F)) Variants.none (c : Thread nD τ) none) Set.univ (k ⟨⟩) Q) -∗
      wp frame (wpE (defs₀ (F := F)) Variants.none (c : Thread nD τ) none) Set.univ (.op (.waitDma2 ((SemArray.slice cc0_scratch7 (Rect.unit (s := S11) off4 S1.size h4)).squeeze S_ squeezes_S1_S_).sem srcw
        ((M3.slice (Rect.unit (s := S64x1024x1024) offR S1x1024x1024.size h6) hs6).squeeze S1024x1024 squeezes_S1x1024x1024_S1024x1024) hsrc hdst) k) Q) := by
  subst e4
  unfold flyO OW
  iintro ⟨⟨%fH, %fS, %hE, HF⟩, ⟨%W, HW⟩⟩ HK
  iapply (Transfers.wp_waitLocal (countersEmb (U := Pipeline.UD sig nD τ)) Variants.none (c : Thread nD τ) none (hsrc := hsrc) (hdst := hdst) () (N := NO) rfl) $$ [HF HW]
  · isplitl [HF]; · iexact HF
    iexact HW
  iintro ⟨⟨Hg, HO⟩, Hv, HW⟩
  iapply HK
  isplitl [Hv]; · iexact Hv
  isplitl [HO]
  · iexists fS; iexact HO
  isplitl [Hg]
  · unfold HDone
    iexists s
    iexists fH
    iexists fS
    isplitr [Hg]
    · ipureintro; exact hE
    · iexact Hg
  · iexists _; iexact HW

attribute [local irreducible] UInv in
@[instance_reducible, sl_loop] def loopInv_k0_t11 (o : S65.Idx → BitVec 32) (hO : Ok (offN o)) (k0_t10 : Fin k0_t10_loop.trips) (arg16 arg17 arg15 v58 v61 : BitVec 32) (k0_hw30 : k0_chk30 arg16 arg17 v58 v61) (v101 v111 : BitVec 32) (k0_h16 : k0_cond16 v58 v61 = 1#1)
    (h64 : k0_t10.1 < 64) (hlo : o (i65 k0_t10.1 (by omega)) = v58) (hhi : o (i65 (k0_t10.1 + 1) (by omega)) = v61) (s : Fin 11)
    (hs : arg16.toNat % 11 = s.val) (hp : arg16.toNat < 2 ^ 31) (hg : arg17.toNat = base (offN o) k0_t10.1) (init : BitVec 32) :
    LoopInvTy_k0_t11 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k0_t10 arg16 arg17 arg15 v58 v61 k0_hw30 v101 v111 k0_h16 init where
  inv k acc := UInv c X Y o k0_t10.1 v58 v61 s k acc
  step k acc := unit_trip c X Y o hO k0_t10 arg16 arg17 arg15 v58 v61 k0_hw30 v101 v111 k0_h16 k acc h64 hlo hhi s hs hp hg

theorem uinv_out (o : S65.Idx → BitVec 32) (e : ℕ) (lo hi : BitVec 32) (s : Fin 11) (n : ℕ) (hn : n = nu (offN o) e) (h0 : n ≠ 0) (acc : BitVec 32) :
    UInv c X Y o e lo hi s n acc ⊢ iprop((M0.view.loc (c : Thread nD τ) ↦{fullShare} o) ∗ CurAt c o (min (base (offN o) (e + 1) + 7) (base (offN o) 64))
      ∗ Ring c X Y (offN o) (base (offN o) (e + 1)) (min (base (offN o) (e + 1) + 7) (base (offN o) 64)) ∗ OW c
      ∗ (∃ f7, M7.view.loc (c : Thread nD τ) ↦{fullShare} f7)
      ∗ (∃ f, ⌜UAcc c X Y s lo hi (fun u => row (offN o) (base (offN o) e + u)) (nu (offN o) e) f⌝ ∗ ownO c s f)) := by
  subst hn
  unfold UInv
  rw [base_succ e]
  iintro ⟨H0, HC, HR, HW, H7, ⟨%f, %hf, HO⟩⟩
  isplitl [H0]; · iexact H0
  isplitl [HC]; · iexact HC
  isplitl [HR]; · iexact HR
  isplitl [HW]; · iexact HW
  isplitl [H7]; · iexact H7
  iexists f
  isplitr [HO]
  · ipureintro; exact hf.resolve_left h0
  · iexact HO

attribute [local irreducible] UInv in
theorem part45_spec (o : S65.Idx → BitVec 32) (hO : Ok (offN o)) (k0_t10 : Fin k0_t10_loop.trips) (arg16 arg17 arg15 v58 v61 : BitVec 32) (k0_hw30 : k0_chk30 arg16 arg17 v58 v61) (v101 v111 : BitVec 32) (k0_h16 : k0_cond16 v58 v61 = 1#1)
    (h64 : k0_t10.1 < 64) (hlo : o (i65 k0_t10.1 (by omega)) = v58) (hhi : o (i65 (k0_t10.1 + 1) (by omega)) = v61) (s : Fin 11)
    (hs : arg16.toNat % 11 = s.val) (hp : arg16.toNat < 2 ^ 31) (hg : arg17.toNat = base (offN o) k0_t10.1) (e' : Fin 64)
    (Q : PUnit → sProp 𝕄) :
    iprop((M0.view.loc (c : Thread nD τ) ↦{fullShare} o) ∗ CurAt c o (min (base (offN o) k0_t10.1 + 7) (base (offN o) 64))
      ∗ Ring c X Y (offN o) (base (offN o) k0_t10.1) (min (base (offN o) k0_t10.1 + 7) (base (offN o) 64)) ∗ OW c
      ∗ (∃ f7, M7.view.loc (c : Thread nD τ) ↦{fullShare} f7) ∗ (if 11 ≤ arg16.toNat then flyO c X Y o s e' else freeO c s)
      ∗ ((M0.view.loc (c : Thread nD τ) ↦{fullShare} o) -∗ CurAt c o (min (base (offN o) (k0_t10.1 + 1) + 7) (base (offN o) 64))
        -∗ Ring c X Y (offN o) (base (offN o) (k0_t10.1 + 1)) (min (base (offN o) (k0_t10.1 + 1) + 7) (base (offN o) 64)) -∗ OW c
        -∗ (∃ f7, M7.view.loc (c : Thread nD τ) ↦{fullShare} f7)
        -∗ semVal ((c : Thread nD τ), SemLoc.dma (semO s)) 0
        -∗ (∃ f', ⌜UAcc c X Y s v58 v61 (fun u => row (offN o) (base (offN o) k0_t10.1 + u)) (nu (offN o) k0_t10.1) f'⌝ ∗ ownO c s (mirA c s f'))
        -∗ (if 11 ≤ arg16.toNat then HDone c X Y o e' else iprop(emp)) -∗ Q ⟨⟩))
      ⊢ wp frame (wpE (defs₀ (F := F)) Variants.none (c : Thread nD τ) none) Set.univ (k0_part45 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) k0_t10 arg16 arg17 arg15 v58 v61 k0_hw30 v101 v111 k0_h16) Q := by
  have hl : v58.toNat ≤ 32768 := by rw [← hlo, ← offN_of]; exact hO.bound (by omega)
  have hh : v61.toNat ≤ 32768 := by rw [← hhi, ← offN_of]; exact hO.bound (by omega)
  have hnu : Scf.trips (k0_t11_loop v58 v61).lb (k0_t11_loop v58 v61).ub (k0_t11_loop v58 v61).st = nu (offN o) k0_t10.1 := by
    refine (t11_trips hl hh).trans ?_
    rw [nuW_toNat hl hh]
    unfold nu
    rw [offN_of (show k0_t10.1 < 65 by omega), offN_of (show k0_t10.1 + 1 < 65 by omega), hlo, hhi]
  have hn0 : Scf.trips (k0_t11_loop v58 v61).lb (k0_t11_loop v58 v61).ub (k0_t11_loop v58 v61).st ≠ 0 := by
    have := (pos_of hl hh).1 k0_h16
    rw [hnu]
    refine Nat.pos_iff_ne_zero.mp (nu_pos.2 ?_)
    rw [offN_of (show k0_t10.1 < 65 by omega), offN_of (show k0_t10.1 + 1 < 65 by omega), hlo, hhi]
    exact this
  have h17 := cond17_iff hp
  let li := @loopInv_k0_t11 F _ c X Y o hO k0_t10 arg16 arg17 arg15 v58 v61 k0_hw30 v101 v111 k0_h16 h64 hlo hhi s hs hp hg 0#32
  by_cases hc : 11 ≤ arg16.toNat
  · rw [if_pos hc, if_pos hc]
    have h17' := h17.2 hc
    unfold k0_part45
    iintro ⟨H0, HC, HR, HW, H7, HS, HK⟩
    sl_exec
    iapply (wait_out c X Y o s e' ((off82_eq hp).trans (by rw [hs]))) $$ [HS HW]
    · isplitl [HS]; · iexact HS
      iexact HW
    iintro ⟨Hv, ⟨%f, HO⟩, HD, HW⟩
    ihave HI : UInv c X Y o k0_t10.1 v58 v61 s 0 0#32 $$ [H0 HC HR HW H7 HO]
    · unfold UInv
      isplitl [H0]; · iexact H0
      isplitl [HC]; · iexact HC
      isplitl [HR]; · iexact HR
      isplitl [HW]; · iexact HW
      isplitl [H7]; · iexact H7
      iexists f
      isplitr [HO]
      · ipureintro; exact .inl rfl
      · iexact HO
    sl_exec
    rename_i acc
    ihave HI := (uinv_out c X Y o k0_t10.1 v58 v61 s _ hnu hn0 acc) $$ HI
    icases HI with ⟨H0, HC, HR, HW, H7, ⟨%f', %hf', HO⟩⟩
    iapply ld8_256 c s 0 256 (inbB' s.isLt (by decide) (by decide)) ((off137_eq hp).trans (by rw [hs])) $$ HO
    iintro HO
    sl_exec
    iapply ld8_256 c s 256 0 (inbB' s.isLt (by decide) (by decide)) ((off138_eq hp).trans (by rw [hs])) $$ HO
    iintro HO
    iapply st8_256 c s 256 0 (inbB' s.isLt (by decide) (by decide)) ((off138_eq hp).trans (by rw [hs])) $$ HO
    iintro HO
    iapply wp_rb c
    sl_exec
    iapply ld8_256 c s 0 512 (inbB' s.isLt (by decide) (by decide)) ((off139_eq hp).trans (by rw [hs])) $$ HO
    iintro HO
    sl_exec
    iapply ld8_256 c s 512 0 (inbB' s.isLt (by decide) (by decide)) ((off140_eq hp).trans (by rw [hs])) $$ HO
    iintro HO
    iapply st8_256 c s 512 0 (inbB' s.isLt (by decide) (by decide)) ((off140_eq hp).trans (by rw [hs])) $$ HO
    iintro HO
    iapply wp_rb c
    sl_exec
    iapply ld8_256 c s 0 768 (inbB' s.isLt (by decide) (by decide)) ((off141_eq hp).trans (by rw [hs])) $$ HO
    iintro HO
    sl_exec
    iapply ld8_256 c s 768 0 (inbB' s.isLt (by decide) (by decide)) ((off142_eq hp).trans (by rw [hs])) $$ HO
    iintro HO
    iapply st8_256 c s 768 0 (inbB' s.isLt (by decide) (by decide)) ((off142_eq hp).trans (by rw [hs])) $$ HO
    iintro HO
    iapply wp_rb c
    sl_exec
    sl_step
    ihave HK := HK $$ H0
    ihave HK := HK $$ HC
    ihave HK := HK $$ HR
    ihave HK := HK $$ HW
    ihave HK := HK $$ H7
    ihave HK := HK $$ Hv
    ihave HK := HK $$ [HO]
    · iexists f'
      isplitr [HO]
      · ipureintro; exact hf'
      · iexact HO
    iapply HK
    iexact HD
  · rw [if_neg hc, if_neg hc]
    have h17' : ¬ k0_cond17 arg16 = 1#1 := fun h => hc (h17.1 h)
    unfold k0_part45 freeO
    iintro ⟨H0, HC, HR, HW, H7, ⟨Hv, ⟨%f, HO⟩⟩, HK⟩
    ihave HI : UInv c X Y o k0_t10.1 v58 v61 s 0 0#32 $$ [H0 HC HR HW H7 HO]
    · unfold UInv
      isplitl [H0]; · iexact H0
      isplitl [HC]; · iexact HC
      isplitl [HR]; · iexact HR
      isplitl [HW]; · iexact HW
      isplitl [H7]; · iexact H7
      iexists f
      isplitr [HO]
      · ipureintro; exact .inl rfl
      · iexact HO
    sl_exec
    rename_i acc
    ihave HI := (uinv_out c X Y o k0_t10.1 v58 v61 s _ hnu hn0 acc) $$ HI
    icases HI with ⟨H0, HC, HR, HW, H7, ⟨%f', %hf', HO⟩⟩
    iapply ld8_256 c s 0 256 (inbB' s.isLt (by decide) (by decide)) ((off137_eq hp).trans (by rw [hs])) $$ HO
    iintro HO
    sl_exec
    iapply ld8_256 c s 256 0 (inbB' s.isLt (by decide) (by decide)) ((off138_eq hp).trans (by rw [hs])) $$ HO
    iintro HO
    iapply st8_256 c s 256 0 (inbB' s.isLt (by decide) (by decide)) ((off138_eq hp).trans (by rw [hs])) $$ HO
    iintro HO
    iapply wp_rb c
    sl_exec
    iapply ld8_256 c s 0 512 (inbB' s.isLt (by decide) (by decide)) ((off139_eq hp).trans (by rw [hs])) $$ HO
    iintro HO
    sl_exec
    iapply ld8_256 c s 512 0 (inbB' s.isLt (by decide) (by decide)) ((off140_eq hp).trans (by rw [hs])) $$ HO
    iintro HO
    iapply st8_256 c s 512 0 (inbB' s.isLt (by decide) (by decide)) ((off140_eq hp).trans (by rw [hs])) $$ HO
    iintro HO
    iapply wp_rb c
    sl_exec
    iapply ld8_256 c s 0 768 (inbB' s.isLt (by decide) (by decide)) ((off141_eq hp).trans (by rw [hs])) $$ HO
    iintro HO
    sl_exec
    iapply ld8_256 c s 768 0 (inbB' s.isLt (by decide) (by decide)) ((off142_eq hp).trans (by rw [hs])) $$ HO
    iintro HO
    iapply st8_256 c s 768 0 (inbB' s.isLt (by decide) (by decide)) ((off142_eq hp).trans (by rw [hs])) $$ HO
    iintro HO
    iapply wp_rb c
    sl_exec
    sl_step
    ihave HK := HK $$ H0
    ihave HK := HK $$ HC
    ihave HK := HK $$ HR
    ihave HK := HK $$ HW
    ihave HK := HK $$ H7
    ihave HK := HK $$ Hv
    ihave HK := HK $$ [HO]
    · iexists f'
      isplitr [HO]
      · ipureintro; exact hf'
      · iexact HO
    iapply HK
    iempintro

end Cert.KernelIdeal.Hand
-- ==== Proof.Ideal.Rows.lean ====
module
public import proofs.«01_k».proof.Proof.Ideal.Unit6

/-! The matrices of the experts while the expert loop runs, and the turning of the eleven slots. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
/-- Expert `e` has rows. -/
def ne (o : ℕ → ℕ) (e : ℕ) : Bool := decide (o e < o (e + 1))
theorem ne_mt (o : ℕ → ℕ) (e : ℕ) : ne o e = true ↔ ¬ mt o e = true := by
  unfold ne mt; rw [decide_eq_true_eq, decide_eq_true_eq, not_not]
theorem cnt_ne (o : ℕ → ℕ) (e : ℕ) : cnt (ne o) e = full o e := by
  unfold cnt full ne
  exact Finset.sum_congr rfl fun i _ => if_congr decide_eq_true_iff rfl rfl
theorem full_inj {o : ℕ → ℕ} {a b : ℕ} (ha : a < 64) (hb : b < 64) (na : ne o a = true) (nb : ne o b = true) (h : full o a = full o b) : a = b := by
  rw [← sel_cnt ha na, ← sel_cnt hb nb, cnt_ne, cnt_ne, h]
theorem full_mono {o : ℕ → ℕ} {a b : ℕ} (h : a ≤ b) : full o a ≤ full o b := by
  rw [← cnt_ne, ← cnt_ne]; exact cnt_mono _ h
theorem full_lt {o : ℕ → ℕ} {a b : ℕ} (h : a < b) (na : ne o a = true) : full o a < full o b := by
  have h1 := full_mono (o := o) (show a + 1 ≤ b by omega)
  have h2 := full_succ (o := o) a
  rw [if_pos (of_decide_eq_true na)] at h2
  omega

/-- The eleven slots one place on: the oldest number leaves, if the slots are full, and its slot takes the next. -/
theorem ring11_turn {F : FTy → Type} (fly : Fin 11 → ℕ → sProp (MT nD τ sig Unit (Elt F) ℕ (Pipeline.UD sig nD τ) ℕ)) (free : Fin 11 → sProp (MT nD τ sig Unit (Elt F) ℕ (Pipeline.UD sig nD τ) ℕ)) (p : ℕ) :
    Ring11 fly free (p - 11) p ⊢ iprop((if 11 ≤ p then fly (cell11 p) (p - 11) else free (cell11 p)) ∗ (fly (cell11 p) p -∗ Ring11 fly free (p + 1 - 11) (p + 1))) := by
  by_cases hp : 11 ≤ p
  · have e0 : at11 (p - 11) (cell11 p) = p - 11 := by unfold at11 cell11; simp only; omega
    have e1 : at11 (p + 1 - 11) (cell11 p) = p := by unfold at11 cell11; simp only; omega
    have h := fam_swap (cell11 p) (fun b : Fin 11 => if at11 (p - 11) b < p then fly b (at11 (p - 11) b) else free b) (fun b : Fin 11 => if at11 (p + 1 - 11) b < p + 1 then fly b (at11 (p + 1 - 11) b) else free b) ?_
    · rw [e0, e1, if_pos (by omega), if_pos (by omega)] at h
      rw [if_pos hp]; exact h
    · intro b hb
      have hne : b.val ≠ p % 11 := fun h => hb (Fin.ext h)
      have : at11 (p - 11) b = at11 (p + 1 - 11) b := by unfold at11; have := b.isLt; omega
      have h2 : at11 (p - 11) b < p := by unfold at11; omega
      rw [← this, if_pos h2, if_pos (by omega)]
  · rw [if_neg hp, show p - 11 = 0 by omega, show p + 1 - 11 = 0 by omega]
    exact ring11_put fly free (Nat.zero_le _) (by omega)

variable (c : Dev nD) (X : Buf (Elt F) (M1.view.loc (c : Thread nD τ))) (Y : Buf (Elt F) (M2.view.loc (c : Thread nD τ))) (f0 : Buf (Elt F) (M3.view.loc (c : Thread nD τ)))

/-- The matrix of one expert while the slots hold the numbers in `[lo, hi)` and experts below `k` have been begun: the
    matrix of an empty expert is elsewhere, as is one being copied; one not begun is as it was; any other is finished. -/
def ERow (o : S65.Idx → BitVec 32) (k lo hi : ℕ) (e : Fin 64) : sProp 𝕄 :=
  if mt (offN o) e.val = true then iprop(emp) else if k ≤ e.val then rawH c f0 e
    else if lo ≤ full (offN o) e.val ∧ full (offN o) e.val < hi then iprop(emp) else HDone c X Y o e
def ERows (o : S65.Idx → BitVec 32) (k lo hi : ℕ) : sProp 𝕄 := BI.bigSep (Finset.univ : Finset (Fin 64)) (ERow c X Y f0 o k lo hi)

theorem erows_start (o : S65.Idx → BitVec 32) (lo hi : ℕ) : ZRows c f0 (offN o) 64 = ERows c X Y f0 o 0 lo hi := by
  unfold ZRows ERows
  refine BI.bigSep_congr fun e _ => ?_
  unfold ERow
  by_cases h : mt (offN o) e.val = true
  · rw [if_pos ⟨e.isLt, h⟩, if_pos h]
  · rw [if_neg (fun hh => h hh.2), if_neg h, if_pos (Nat.zero_le _)]

theorem erows_skip (o : S65.Idx → BitVec 32) (k lo hi : ℕ) (hm : mt (offN o) k = true) : ERows c X Y f0 o k lo hi = ERows c X Y f0 o (k + 1) lo hi := by
  unfold ERows
  refine BI.bigSep_congr fun e _ => ?_
  unfold ERow
  by_cases h : mt (offN o) e.val = true
  · rw [if_pos h, if_pos h]
  · rw [if_neg h, if_neg h]
    have hne : e.val ≠ k := fun hh => h (by rw [hh]; exact hm)
    exact if_congr (by constructor <;> intro _ <;> omega) rfl rfl

/-- An expert with rows is begun. -/
theorem erows_take (o : S65.Idx → BitVec 32) (k : ℕ) (hk : k < 64) (hm : ¬ mt (offN o) k = true) (lo : ℕ) (hlo : lo ≤ full (offN o) k) :
    ERows c X Y f0 o k lo (full (offN o) k) ⊢ iprop(rawH c f0 ⟨k, hk⟩ ∗ ERows c X Y f0 o (k + 1) lo (full (offN o) k + 1)) := by
  have h := fam_swap (F := F) ⟨k, hk⟩ (ERow c X Y f0 o k lo (full (offN o) k)) (ERow c X Y f0 o (k + 1) lo (full (offN o) k + 1)) ?_
  · have e1 : ERow c X Y f0 o k lo (full (offN o) k) ⟨k, hk⟩ = rawH c f0 ⟨k, hk⟩ := by unfold ERow; rw [if_neg hm, if_pos le_rfl]
    have e2 : ERow c X Y f0 o (k + 1) lo (full (offN o) k + 1) ⟨k, hk⟩ = iprop(emp) := by
      unfold ERow; rw [if_neg hm, if_neg (Nat.not_succ_le_self _), if_pos ⟨hlo, Nat.lt_succ_self _⟩]
    rw [e1, e2] at h
    unfold ERows
    refine h.trans ?_
    iintro ⟨H, HK⟩
    isplitl [H]; · iexact H
    iapply HK
    iempintro
  · intro e he
    have hne : e.val ≠ k := fun hh => he (Fin.ext hh)
    unfold ERow
    by_cases h : mt (offN o) e.val = true
    · rw [if_pos h, if_pos h]
    rw [if_neg h, if_neg h]
    by_cases hk' : k ≤ e.val
    · rw [if_pos hk', if_pos (show k + 1 ≤ e.val by omega)]
    · rw [if_neg hk', if_neg (show ¬ k + 1 ≤ e.val by omega)]
      have := full_lt (o := offN o) (show e.val < k by omega) ((ne_mt _ _).2 h)
      exact if_congr ⟨fun h => ⟨h.1, by omega⟩, fun h => ⟨h.1, by omega⟩⟩ rfl rfl

/-- The expert of number `n`. -/
def eOf (o : S65.Idx → BitVec 32) (n : ℕ) : Fin 64 := f64 (sel (ne (offN o)) n)
theorem eOf_full (o : S65.Idx → BitVec 32) (k : ℕ) (hk : k < 64) (hm : ¬ mt (offN o) k = true) : eOf o (full (offN o) k) = ⟨k, hk⟩ := by
  unfold eOf; rw [← cnt_ne, sel_cnt hk ((ne_mt _ _).2 hm), f64_of hk]
theorem eOf_spec (o : S65.Idx → BitVec 32) {n : ℕ} (hn : n < full (offN o) 64) : ¬ mt (offN o) (eOf o n).val = true ∧ full (offN o) (eOf o n).val = n := by
  rw [← cnt_ne] at hn
  have h := sel_lt (ne (offN o)) hn
  unfold eOf
  rw [f64_of h.1]
  exact ⟨(ne_mt _ _).1 h.2.1, (cnt_ne _ _).symm.trans h.2.2⟩

/-- A finished matrix put back when its number leaves the slots, at either end. -/
theorem erows_put (o : S65.Idx → BitVec 32) (k n lo hi lo' hi' : ℕ) (hn : n < full (offN o) 64) (hnk : n < full (offN o) k) (h1 : lo ≤ n ∧ n < hi) (h2 : ¬ (lo' ≤ n ∧ n < hi'))
    (h3 : ∀ m, m ≠ n → ((lo ≤ m ∧ m < hi) ↔ (lo' ≤ m ∧ m < hi'))) :
    iprop(HDone c X Y o (eOf o n) ∗ ERows c X Y f0 o k lo hi) ⊢ ERows c X Y f0 o k lo' hi' := by
  have hs := eOf_spec o hn
  have hk : ¬ k ≤ (eOf o n).val := fun hh => by have := full_mono (o := offN o) hh; omega
  have h := fam_swap (F := F) (eOf o n) (ERow c X Y f0 o k lo hi) (ERow c X Y f0 o k lo' hi') ?_
  · have e1 : ERow c X Y f0 o k lo hi (eOf o n) = iprop(emp) := by unfold ERow; rw [if_neg hs.1, if_neg hk, if_pos (by rw [hs.2]; exact h1)]
    have e2 : ERow c X Y f0 o k lo' hi' (eOf o n) = HDone c X Y o (eOf o n) := by unfold ERow; rw [if_neg hs.1, if_neg hk, if_neg (by rw [hs.2]; exact h2)]
    rw [e1, e2] at h
    unfold ERows
    iintro ⟨HD, HE⟩
    ihave HE := h $$ HE
    icases HE with ⟨_, HK⟩
    iapply HK
    iexact HD
  · intro e he
    unfold ERow
    by_cases hm : mt (offN o) e.val = true
    · rw [if_pos hm, if_pos hm]
    rw [if_neg hm, if_neg hm]
    have hne : full (offN o) e.val ≠ n := fun hh => he (by
      have := eOf_full o e.val e.isLt hm
      rw [hh] at this; exact this.symm)
    exact if_congr Iff.rfl rfl (if_congr (h3 _ hne) rfl rfl)

end Cert.KernelIdeal.Hand
-- ==== Proof.Ideal.Unit7.lean ====
module
public import proofs.«01_k».proof.Proof.Ideal.Rows

/-! One trip of the expert loop. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
variable (c : Dev nD) (X : Buf (Elt F) (M1.view.loc (c : Thread nD τ))) (Y : Buf (Elt F) (M2.view.loc (c : Thread nD τ))) (f0 : Buf (Elt F) (M3.view.loc (c : Thread nD τ)))

/-- The slot whose number left the ring gives its matrix back. -/
theorem erows_back (o : S65.Idx → BitVec 32) (k p : ℕ) (hk : full (offN o) (k + 1) = p + 1) (hk1 : k < 64) :
    iprop((if 11 ≤ p then HDone c X Y o (eOf o (p - 11)) else iprop(emp)) ∗ ERows c X Y f0 o (k + 1) (p - 11) (p + 1)) ⊢ ERows c X Y f0 o (k + 1) (p + 1 - 11) (p + 1) := by
  have hm := full_mono (o := offN o) (show k + 1 ≤ 64 by omega)
  by_cases h : 11 ≤ p
  · rw [if_pos h]
    exact erows_put c X Y f0 o (k + 1) (p - 11) (p - 11) (p + 1) (p + 1 - 11) (p + 1) (by omega) (by omega) (by omega) (by omega) (fun m hm => by omega)
  · rw [if_neg h, show p - 11 = p + 1 - 11 by omega]
    iintro ⟨_, H⟩
    iexact H

theorem off80_0 (k : Fin k0_t10_loop.trips) : k0_off80 k 0 = k.val := by revert k; decide
theorem off81_0 (k : Fin k0_t10_loop.trips) : k0_off81 k 0 = k.val + 1 := by revert k; decide
/-- The place and the unit after expert `k`. -/
theorem carry_next {o : ℕ → ℕ} {k : ℕ} {p g v : BitVec 32} (hp : p.toNat = full o k) (hg : g.toNat = base o k) (hv : v.toNat = nu o k) (hpb : full o k ≤ 64) (hgb : base o k + nu o k < 2 ^ 30) :
    (Scalar.addi p (Scalar.select (Scalar.cmpi .sgt v 0#32) 1#32 0#32)).toNat = full o (k + 1) ∧ (Scalar.addi g v).toNat = base o (k + 1) := by
  have hb : v.toNat < 2 ^ 31 := by omega
  rw [base_succ k, full_succ k]
  constructor
  · rw [Cert.Words.cmpi_sgt hb (by decide)]
    by_cases h : o k < o (k + 1)
    · have : 0 < nu o k := nu_pos.2 h
      rw [if_pos (show (0#32).toNat < v.toNat by rw [hv]; exact this), if_pos h]
      show (p + 1#32).toNat = _
      rw [BitVec.toNat_add, hp]
      show (full o k + 1) % 2 ^ 32 = _
      omega
    · have : ¬ 0 < nu o k := fun hh => h (nu_pos.1 hh)
      rw [if_neg (show ¬ (0#32).toNat < v.toNat by rw [hv]; exact this), if_neg h]
      show (p + 0#32).toNat = _
      rw [BitVec.add_zero, hp]; rfl
  · show (g + v).toNat = _
    rw [BitVec.toNat_add, hg, hv]
    omega
/-- Before expert `k`. -/
def EInv (o : S65.Idx → BitVec 32) (k : ℕ) (acc : BitVec 32 × BitVec 32) : sProp 𝕄 :=
  iprop((M0.view.loc (c : Thread nD τ) ↦{fullShare} o) ∗ CurAt c o (min (base (offN o) k + 7) (base (offN o) 64))
    ∗ Ring c X Y (offN o) (base (offN o) k) (min (base (offN o) k + 7) (base (offN o) 64)) ∗ OW c
    ∗ (∃ f7, M7.view.loc (c : Thread nD τ) ↦{fullShare} f7)
    ∗ Ring11 (fun s q => flyO c X Y o s (eOf o q)) (freeO c) (full (offN o) k - 11) (full (offN o) k)
    ∗ ERows c X Y f0 o k (full (offN o) k - 11) (full (offN o) k)
    ∗ ⌜acc.1.toNat = full (offN o) k ∧ acc.2.toNat = base (offN o) k⌝)

theorem wp_dite {α : Type} {p : Prop} [Decidable p] (h : p) (t : p → Prog (TpuEff nD τ sig (Elt F) Λ₀ .tc) α) (e : ¬ p → Prog (TpuEff nD τ sig (Elt F) Λ₀ .tc) α) (Q : α → sProp 𝕄) :
    wp frame (wpE (defs₀ (F := F)) Variants.none (c : Thread nD τ) none) Set.univ (t h) Q ⊢ wp frame (wpE (defs₀ (F := F)) Variants.none (c : Thread nD τ) none) Set.univ (dite p t e) Q := by rw [dif_pos h]

attribute [local irreducible] k0_part45 in
theorem expert_trip (o : S65.Idx → BitVec 32) (hO : Ok (offN o)) (k : Fin k0_t10_loop.trips) (acc : BitVec 32 × BitVec 32) (v21 : BitVec 32) (hw : k0_chk18 v21) (v23 w : BitVec 32) :
    EInv c X Y f0 o k.val acc ⊢ wp frame (wpE (defs₀ (F := F)) Variants.none (c : Thread nD τ) none) Set.univ (k0_t10_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v21 hw v23 w k acc) (fun acc' => EInv c X Y f0 o (k.val + 1) acc') := by
  have hk : k.val < 64 := lt_of_lt_of_eq k.isLt trips10
  obtain ⟨arg16, arg17⟩ := acc
  unfold EInv
  iintro ⟨H0, HC, HR, HW, H7, H11, HE, %hpg⟩
  obtain ⟨hp, hg⟩ := hpg
  replace hp : arg16.toNat = full (offN o) k.val := hp
  replace hg : arg17.toNat = base (offN o) k.val := hg
  have hfl : full (offN o) k.val ≤ 64 := by have := full_le (o := offN o) k.val; omega
  have hbl : base (offN o) k.val ≤ 128 * k.val := base_le hO (by omega)
  unfold k0_t10_body
  sl_exec
  have hlt := hO.le (show k.val ≤ k.val + 1 by omega) (show k.val + 1 ≤ 64 by omega)
  have er : expert_trip.sl.r (F := F) o k = o (i65 k.val (by omega)) := read0 o _ _ _ _ (off80_0 k) _
  have er1 : expert_trip.sl.r_1 (F := F) o k = o (i65 (k.val + 1) (by omega)) := read0 o _ _ _ _ (off81_0 k) _
  have hl : (expert_trip.sl.r (F := F) o k).toNat ≤ 32768 := by rw [er, ← offN_of]; exact hO.bound (by omega)
  have hh : (expert_trip.sl.r_1 (F := F) o k).toNat ≤ 32768 := by rw [er1, ← offN_of]; exact hO.bound (by omega)
  have hw30 : k0_chk30 arg16 arg17 (expert_trip.sl.r (F := F) o k) (expert_trip.sl.r_1 (F := F) o k) := chk30_of (by omega) (by omega) hl hh
  sl_exec
  have hpb : arg16.toNat < 2 ^ 31 := by omega
  have hv : (expert_trip.sl.v101 (F := F) o k).toNat = nu (offN o) k.val := by
    refine (nuW_toNat hl hh).trans ?_
    unfold nu
    rw [offN_of (show k.val < 65 by omega), offN_of (show k.val + 1 < 65 by omega), er, er1]
  have hbl2 : base (offN o) (k.val + 1) ≤ 128 * (k.val + 1) := base_le hO (by omega)
  have hcn := carry_next hp hg hv hfl (by rw [← base_succ k.val]; omega)
  by_cases h16 : k0_cond16 (expert_trip.sl.r (F := F) o k) (expert_trip.sl.r_1 (F := F) o k) = 1#1
  · have hlh : offN o k.val < offN o (k.val + 1) := by
      rw [offN_of (show k.val < 65 by omega), offN_of (show k.val + 1 < 65 by omega), ← er, ← er1]; exact (pos_of hl hh).1 h16
    have hm : ¬ mt (offN o) k.val = true := (ne_mt _ _).1 (decide_eq_true hlh)
    have hfs : full (offN o) (k.val + 1) = arg16.toNat + 1 := by rw [full_succ k.val, if_pos hlh, hp]
    have hfe : eOf o arg16.toNat = ⟨k.val, hk⟩ := by rw [hp]; exact eOf_full o k.val hk hm
    ihave HE := (erows_take c X Y f0 o k.val hk hm (full (offN o) k.val - 11) (Nat.sub_le _ _)) $$ HE
    icases HE with ⟨Hrow, HE⟩
    ihave H11 := (ring11_turn _ _ (full (offN o) k.val)) $$ H11
    icases H11 with ⟨HS, H11⟩
    rw [← hp, ← hg]
    iapply (wp_dite c h16)
    iapply (Entails.of_eq (wp_bind _ _ _ _ _ _).symm)
    rw [hg]
    iapply (part45_spec c X Y o hO k arg16 arg17 _ _ _ hw30 _ _ h16 hk er.symm er1.symm (cell11 arg16.toNat) rfl hpb hg (eOf o (arg16.toNat - 11)))
    isplitl [H0]; · iexact H0
    isplitl [HC]; · iexact HC
    isplitl [HR]; · iexact HR
    isplitl [HW]; · iexact HW
    isplitl [H7]; · iexact H7
    isplitl [HS]; · iexact HS
    iintro H0 HC HR HW H7 Hv ⟨%f', %hU, HO⟩ HD
    try iapply wp_rb c
    try sl_exec
    iapply ld8_256 c (cell11 arg16.toNat) 256 512 (inbB' (cell11 arg16.toNat).isLt (by decide) (by decide)) (off143_eq hpb) $$ HO
    iintro HO
    try iapply wp_rb c
    try sl_exec
    iapply ld8_256 c (cell11 arg16.toNat) 512 256 (inbB' (cell11 arg16.toNat).isLt (by decide) (by decide)) (off144_eq hpb) $$ HO
    iintro HO
    try iapply wp_rb c
    try sl_exec
    iapply st8_256 c (cell11 arg16.toNat) 512 256 (inbB' (cell11 arg16.toNat).isLt (by decide) (by decide)) (off144_eq hpb) $$ HO
    iintro HO
    try iapply wp_rb c
    try sl_exec
    iapply ld8_256 c (cell11 arg16.toNat) 256 768 (inbB' (cell11 arg16.toNat).isLt (by decide) (by decide)) (off145_eq hpb) $$ HO
    iintro HO
    try iapply wp_rb c
    try sl_exec
    iapply ld8_256 c (cell11 arg16.toNat) 768 256 (inbB' (cell11 arg16.toNat).isLt (by decide) (by decide)) (off146_eq hpb) $$ HO
    iintro HO
    try iapply wp_rb c
    try sl_exec
    iapply st8_256 c (cell11 arg16.toNat) 768 256 (inbB' (cell11 arg16.toNat).isLt (by decide) (by decide)) (off146_eq hpb) $$ HO
    iintro HO
    try iapply wp_rb c
    try sl_exec
    iapply ld8_256 c (cell11 arg16.toNat) 512 768 (inbB' (cell11 arg16.toNat).isLt (by decide) (by decide)) (off147_eq hpb) $$ HO
    iintro HO
    try iapply wp_rb c
    try sl_exec
    iapply ld8_256 c (cell11 arg16.toNat) 768 512 (inbB' (cell11 arg16.toNat).isLt (by decide) (by decide)) (off148_eq hpb) $$ HO
    iintro HO
    try iapply wp_rb c
    try sl_exec
    iapply st8_256 c (cell11 arg16.toNat) 768 512 (inbB' (cell11 arg16.toNat).isLt (by decide) (by decide)) (off148_eq hpb) $$ HO
    iintro HO
    try iapply wp_rb c
    try sl_exec
    iapply (enq_out c X Y o (cell11 arg16.toNat) ⟨k.val, hk⟩ f0 _ ⟨f', by rw [← er, ← er1]; exact hU, rfl⟩ (off151_eq hpb) (off149_eq hpb) (off150_eq k)) $$ [Hv HO Hrow]
    · isplitl [Hv]; · iexact Hv
      isplitl [HO]; · iexact HO
      iexact Hrow
    iintro HF
    try sl_exec
    sl_step
    isplitl [H0]; · iexact H0
    isplitl [HC]; · iexact HC
    isplitl [HR]; · iexact HR
    isplitl [HW]; · iexact HW
    isplitl [H7]; · iexact H7
    rw [hfs]
    isplitl [H11 HF]
    · iapply H11
      rw [hfe]
      iexact HF
    isplitl [HE HD]
    · iapply (erows_back c X Y f0 o k.val arg16.toNat hfs hk)
      isplitl [HD]; · iexact HD
      iexact HE
    ipureintro
    rw [← hfs]
    exact hcn
  · have hlh : ¬ offN o k.val < offN o (k.val + 1) := by
      rw [offN_of (show k.val < 65 by omega), offN_of (show k.val + 1 < 65 by omega), ← er, ← er1]; exact fun h => h16 ((pos_of hl hh).2 h)
    have hm : mt (offN o) k.val = true := by unfold mt; exact decide_eq_true hlh
    have hfs : full (offN o) (k.val + 1) = full (offN o) k.val := by rw [full_succ k.val, if_neg hlh]; rfl
    have hbs : base (offN o) (k.val + 1) = base (offN o) k.val := by
      have : ¬ 0 < nu (offN o) k.val := fun h => hlh (nu_pos.1 h)
      rw [base_succ k.val]; omega
    ihave HE := (Entails.of_eq (erows_skip c X Y f0 o k.val _ _ hm)) $$ HE
    sl_exec
    sl_step
    rw [hfs, hbs] at hcn ⊢
    isplitl [H0]; · iexact H0
    isplitl [HC]; · iexact HC
    isplitl [HR]; · iexact HR
    isplitl [HW]; · iexact HW
    isplitl [H7]; · iexact H7
    isplitl [H11]; · iexact H11
    isplitl [HE]; · iexact HE
    ipureintro
    exact hcn

@[instance_reducible, sl_loop] def loopInv_k0_t10 (o : S65.Idx → BitVec 32) (hO : Ok (offN o)) (v21 : BitVec 32) (hw : k0_chk18 v21) (v23 w : BitVec 32) (init : BitVec 32 × BitVec 32) :
    LoopInvTy_k0_t10 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v21 hw v23 w init where
  inv k acc := EInv c X Y f0 o k acc
  step k acc := expert_trip c X Y f0 o hO k acc v21 hw v23 w

end Cert.KernelIdeal.Hand
-- ==== Proof.Ideal.Drain.lean ====
module
public import proofs.«01_k».proof.Proof.Ideal.Unit7

/-! The waits at the end: for the matrices still being copied and for the zero blocks. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
/-- A counted loop from 0 to a word by 1, with the bound as the compiler writes it. -/
abbrev loop01 (v : BitVec 32) : Scf.Loop 32 := ⟨0#32, Scalar.addi 0#32 (Scalar.muli (Scalar.divsi (Scalar.subi v 0#32) 1#32) 1#32), 1#32⟩
theorem loop01_ub (v : BitVec 32) : (loop01 v).ub = v := by
  show Scalar.addi 0#32 (Scalar.muli (Scalar.divsi (Scalar.subi v 0#32) 1#32) 1#32) = v
  rw [Scalar.muli_divsi_one]
  unfold Scalar.addi Scalar.subi IntOp.addi IntOp.subi
  simp
theorem loop01_trips {v : BitVec 32} (hb : v.toNat < 2 ^ 31) : (loop01 v).trips = v.toNat := by
  show Scf.trips (loop01 v).lb (loop01 v).ub (loop01 v).st = _
  rw [loop01_ub]
  have e : Scf.trips (loop01 v).lb v (loop01 v).st = Scf.trips 0#32 v 1#32 := rfl
  rw [e]; unfold Scf.trips
  rw [BitVec.toInt_eq_toNat_of_lt (x := v) (by omega)]
  have h0 : (0#32 : BitVec 32).toInt = 0 := by decide
  have h1 : (1#32 : BitVec 32).toInt = 1 := by decide
  rw [h0, h1]; omega
theorem loop01_OK {v : BitVec 32} (hb : v.toNat < 2 ^ 30) : (loop01 v).OK := by
  have ht := loop01_trips (v := v) (by omega)
  have h0 : (loop01 v).lb.toInt = 0 := by show (0#32 : BitVec 32).toInt = 0; decide
  have h1 : (loop01 v).st.toInt = 1 := by show (1#32 : BitVec 32).toInt = 1; decide
  refine ⟨by rw [h1]; decide, ?_⟩
  have e : Scf.trips (loop01 v).lb (loop01 v).ub (loop01 v).st = v.toNat := ht
  rw [h0, h1, e]; norm_num; omega

theorem min11_toNat {p : BitVec 32} (hp : p.toNat ≤ 64) : (Scalar.minsi p 11#32).toNat = min p.toNat 11 := by
  rw [minsi_toNat (by omega) (by decide)]; rfl
/-- As many waits for matrices as there are matrices still being copied. -/
theorem t15_trips {p : BitVec 32} (hp : p.toNat ≤ 64) : (k0_t15_loop p).trips = min p.toNat 11 :=
  (loop01_trips (v := Scalar.minsi p 11#32) (by rw [min11_toNat hp]; omega)).trans (min11_toNat hp)
theorem t15_slot {p : BitVec 32} (hp : p.toNat ≤ 64) (k : Fin (k0_t15_loop p).trips) :
    (modW (Scalar.subi (Scalar.subi p 1#32) (Scf.iv 0#32 1#32 k.1)) 11#32).toNat = (p.toNat - 1 - k.1) % 11 := by
  have hk := lt_of_lt_of_eq k.isLt (t15_trips hp)
  have hi' : (Scf.iv 0#32 1#32 k.1).toNat = k.1 := iv01 (by omega)
  have h1 : (Scalar.subi p 1#32).toNat = p.toNat - 1 := subi_toNat (by show 1 ≤ _; omega)
  have h2 : (Scalar.subi (Scalar.subi p 1#32) (Scf.iv 0#32 1#32 k.1)).toNat = p.toNat - 1 - k.1 := by
    rw [subi_toNat (by rw [h1, hi']; omega), h1, hi']
  rw [modW_toNat (by omega) (by decide) (by decide), h2]; rfl
theorem off152_eq {p : BitVec 32} (hp : p.toNat ≤ 64) (k : Fin (k0_t15_loop p).trips) : k0_off152 p k = ![(p.toNat - 1 - k.1) % 11] := by
  rw [← t15_slot hp k]; rfl
theorem off153_eq {p : BitVec 32} (hp : p.toNat ≤ 64) (k : Fin (k0_t15_loop p).trips) : k0_off153 p k = ![(p.toNat - 1 - k.1) % 11, 0, 0] := by
  rw [← t15_slot hp k]; rfl
theorem t16_no {p : BitVec 32} (k : Fin (k0_t16_loop p).trips) : False :=
  Scf.rem_no_trip 0#32 (Scalar.subi (Scalar.minsi p 11#32) 0#32) k
theorem chk39_of {p : BitVec 32} (hp : p.toNat ≤ 64) : k0_chk39 p := by
  refine ⟨loop01_OK (v := Scalar.minsi p 11#32) (by rw [min11_toNat hp]; omega), fun k => ?_, fun k => ?_, Scf.rem_ok 0#32 (Scalar.subi (Scalar.minsi p 11#32) 0#32), fun k => (t16_no k).elim, fun k => (t16_no k).elim⟩
  · rw [off152_eq hp]; exact inbS11' (Nat.mod_lt _ (by decide))
  · rw [off153_eq hp]; exact inbF' (Nat.mod_lt _ (by decide))

theorem mul4_toNat {v : BitVec 32} (hv : v.toNat ≤ 64) : (Scalar.muli v 4#32).toNat = 4 * v.toNat := by
  have h4 : (4#32 : BitVec 32).toNat = 4 := rfl
  rw [muli_toNat (by rw [h4]; omega), h4, Nat.mul_comm]
/-- As many waits for zero blocks as there are zero blocks. -/
theorem t17_trips {v : BitVec 32} (hv : v.toNat ≤ 64) : (k0_t17_loop v).trips = 4 * v.toNat :=
  (loop01_trips (v := Scalar.muli v 4#32) (by rw [mul4_toNat hv]; omega)).trans (mul4_toNat hv)
theorem chk40_of {v : BitVec 32} (hv : v.toNat ≤ 64) : k0_chk40 v :=
  ⟨loop01_OK (v := Scalar.muli v 4#32) (by rw [mul4_toNat hv]; omega), Scf.rem_ok 0#32 (Scalar.subi (Scalar.muli v 4#32) 0#32)⟩

variable (c : Dev nD) (X : Buf (Elt F) (M1.view.loc (c : Thread nD τ))) (Y : Buf (Elt F) (M2.view.loc (c : Thread nD τ))) (f0 : Buf (Elt F) (M3.view.loc (c : Thread nD τ))) (z : Buf (Elt F) (M9.view.loc (c : Thread nD τ)))

/-- After `k` waits of the drain over matrices, of `n` in all. -/
def DInv (o : S65.Idx → BitVec 32) (n k : ℕ) (acc : BitVec 32) : sProp 𝕄 :=
  iprop(OW c ∗ Ring11 (fun s q => flyO c X Y o s (eOf o q)) (freeO c) (n - 11) (n - k) ∗ ERows c X Y f0 o 64 (n - 11) (n - k))

theorem drain_trip (o : S65.Idx → BitVec 32) (p : BitVec 32) (hp : p.toNat = full (offN o) 64) (hw : k0_chk39 p) (v21 : BitVec 32) (hw18 : k0_chk18 v21) (v23 w : BitVec 32) (k : Fin (k0_t15_loop p).trips) (acc : BitVec 32) :
    DInv c X Y f0 o (full (offN o) 64) k.val acc ⊢ wp frame (wpE (defs₀ (F := F)) Variants.none (c : Thread nD τ) none) Set.univ (k0_t15_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v21 hw18 v23 w p hw k acc) (fun acc' => DInv c X Y f0 o (full (offN o) 64) (k.val + 1) acc') := by
  have hfl : full (offN o) 64 ≤ 64 := full_le (o := offN o) 64
  have hp64 : p.toNat ≤ 64 := by omega
  have hk := lt_of_lt_of_eq k.isLt (t15_trips hp64)
  have e152 := off152_eq hp64 k
  rw [hp] at hk e152
  obtain ⟨hi, hhi⟩ : ∃ hi, full (offN o) 64 - k.val = hi + 1 := ⟨full (offN o) 64 - k.val - 1, by omega⟩
  have hhi' : full (offN o) 64 - (k.val + 1) = hi := by omega
  unfold DInv
  rw [hhi, hhi']
  rw [show full (offN o) 64 - 1 - k.val = hi by omega] at e152
  iintro ⟨HW, H11, HE⟩
  ihave H11 := (ring11_popTop _ _ (show full (offN o) 64 - 11 ≤ hi by omega) (show hi < full (offN o) 64 - 11 + 11 by omega)) $$ H11
  icases H11 with ⟨HF, H11⟩
  unfold k0_t15_body
  sl_exec
  iapply (wait_out c X Y o (cell11 hi) (eOf o hi) e152) $$ [HF HW]
  · isplitl [HF]; · iexact HF
    iexact HW
  iintro ⟨Hv, HO, HD, HW⟩
  try sl_exec
  sl_step
  isplitl [HW]; · iexact HW
  isplitl [H11 Hv HO]
  · iapply H11
    unfold freeO
    isplitl [Hv]; · iexact Hv
    iexact HO
  iapply (erows_put c X Y f0 o 64 hi (full (offN o) 64 - 11) (hi + 1) (full (offN o) 64 - 11) hi (by omega) (by omega) (by omega) (by omega) (fun m hm => by omega))
  isplitl [HD]; · iexact HD
  iexact HE

/-- After `k` waits of the drain over zero blocks. -/
def ZDInv (o : ℕ → ℕ) (k : ℕ) (acc : BitVec 32) : sProp 𝕄 := iprop(OW c ∗ ZBatch c f0 z o (nZ o) (k * NZ))

theorem zdrain_trip (o : ℕ → ℕ) (v38 : BitVec 32) (hv : v38.toNat = cnt (mt o) 64) (hw : k0_chk40 v38) (k : Fin (k0_t17_loop v38).trips) (acc : BitVec 32) :
    ZDInv c f0 z o k.val acc ⊢ wp frame (wpE (defs₀ (F := F)) Variants.none (c : Thread nD τ) none) Set.univ (k0_t17_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v38 hw k acc) (fun acc' => ZDInv c f0 z o (k.val + 1) acc') := by
  have hle := cnt_le (mt o) 64
  have hk := lt_of_lt_of_eq k.isLt (t17_trips (v := v38) (by omega))
  have hu : k.val * NZ + 1 * NZ ≤ NZ * nZ o := by
    rw [← Nat.add_mul, Nat.mul_comm NZ]
    exact Nat.mul_le_mul_right _ (by show _ ≤ 4 * _; omega)
  unfold ZDInv OW
  iintro ⟨⟨%W, HW⟩, HB⟩
  unfold k0_t17_body
  sl_exec
  iapply (Transfers.wp_waitBatchMul (countersEmb (U := Pipeline.UD sig nD τ)) Variants.none (c : Thread nD τ) none () 1 (Nat.one_mul NZ).symm hu) $$ [HB HW]
  · isplitl [HB]; · iexact HB
    iexact HW
  iintro ⟨HB, HW⟩
  try sl_exec
  sl_step
  isplitl [HW]
  · iexists _; iexact HW
  rw [Nat.add_mul]
  iexact HB

@[instance_reducible, sl_loop] def loopInv_k0_t15 (o : S65.Idx → BitVec 32) (p : BitVec 32) (hp : p.toNat = full (offN o) 64) (hw : k0_chk39 p) (v21 : BitVec 32) (hw18 : k0_chk18 v21) (v23 w : BitVec 32) (init : BitVec 32) :
    LoopInvTy_k0_t15 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v21 hw18 v23 w p hw init where
  inv k acc := DInv c X Y f0 o (full (offN o) 64) k acc
  step k acc := drain_trip c X Y f0 o p hp hw v21 hw18 v23 w k acc
@[instance_reducible, sl_loop] def loopInv_k0_t17 (o : ℕ → ℕ) (v38 : BitVec 32) (hv : v38.toNat = cnt (mt o) 64) (hw : k0_chk40 v38) (init : BitVec 32) :
    LoopInvTy_k0_t17 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _) v38 hw init where
  inv k acc := ZDInv c f0 z o k acc
  step k acc := zdrain_trip c f0 z o v38 hv hw k acc

end Cert.KernelIdeal.Hand
-- ==== Proof.Ideal.Whole.lean ====
module
public import proofs.«01_k».proof.Proof.Ideal.Drain
public import proofs.«01_k».proof.Proof.Ideal.HeadSpec
public import Idealize.ShloMosaic.Lib.VecWindow

/-! The kernel's second half, and the kernel. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
variable (c : Dev nD) (X : Buf (Elt F) (M1.view.loc (c : Thread nD τ))) (Y : Buf (Elt F) (M2.view.loc (c : Thread nD τ))) (f0 : Buf (Elt F) (M3.view.loc (c : Thread nD τ)))

/-- The block of zeros the kernel copies out for an expert without rows. -/
abbrev zB : Buf (Elt F) (M9.view.loc (c : Thread nD τ)) := fun _ => Scalar.ofBits .f32 0x00000000#32

theorem zB_eq (z0 : Buf (Elt F) (M9.view.loc (c : Thread nD τ))) (w : S256x1024.Idx → F .f32) (hw : w = fun _ => Scalar.ofBits .f32 0x00000000#32) :
    M9.view.writes (Elt F) z0 [⟨Rect.unit (s := S256x1024) ![0, 0] S256x1024.size inb_S256x1024_S256x1024_0_0, w⟩] = zB c := by
  have h := View.read_writes_full (Val := Elt F) M9.view z0 inb_S256x1024_S256x1024_0_0 w []
  exact (View.read_whole _ _).symm.trans (h.trans hw)

theorem zinv_out (z : Buf (Elt F) (M9.view.loc (c : Thread nD τ))) (o : S65.Idx → BitVec 32) (n : ℕ) (hn : n = 64) (acc : BitVec 32) :
    ZInv c f0 z o n acc ⊢ iprop((M0.view.loc (c : Thread nD τ) ↦{fullShare} o) ∗ (∃ ct : S64.Idx → BitVec 32, (M4.view.loc (c : Thread nD τ) ↦{fullShare} ct) ∗ ⌜CntOK o 64 ct⌝)
      ∗ ERows c X Y f0 o 0 0 0 ∗ ZBatch c f0 z (offN o) (nZ (offN o)) 0 ∗ ⌜acc.toNat = cnt (mt (offN o)) 64⌝) := by
  subst hn
  unfold ZInv
  rw [erows_start c X Y f0 o 0 0]
  iintro ⟨H0, H4, HR, _, HB, %ha⟩
  isplitl [H0]; · iexact H0
  isplitl [H4]; · iexact H4
  isplitl [HR]; · iexact HR
  isplitl [HB]; · iexact HB
  ipureintro; exact ha

theorem einv_out (o : S65.Idx → BitVec 32) (n : ℕ) (hn : n = 64) (acc : BitVec 32 × BitVec 32) :
    EInv c X Y f0 o n acc ⊢ iprop((M0.view.loc (c : Thread nD τ) ↦{fullShare} o) ∗ CurAt c o (base (offN o) 64)
    ∗ Ring c X Y (offN o) (base (offN o) 64) (base (offN o) 64)
    ∗ (∃ f7, M7.view.loc (c : Thread nD τ) ↦{fullShare} f7)
    ∗ DInv c X Y f0 o (full (offN o) 64) 0 0#32 ∗ ⌜acc.1.toNat = full (offN o) 64⌝) := by
  subst hn
  unfold EInv DInv
  rw [show min (base (offN o) 64 + 7) (base (offN o) 64) = base (offN o) 64 by omega]
  iintro ⟨H0, HC, HR, HW, H7, H11, HE, %ha⟩
  isplitl [H0]; · iexact H0
  isplitl [HC]; · iexact HC
  isplitl [HR]; · iexact HR
  isplitl [H7]; · iexact H7
  isplitl
  · isplitl [HW]; · iexact HW
    isplitl [H11]; · iexact H11
    iexact HE
  ipureintro; exact ha.1

/-- Every matrix of an expert with rows is finished. -/
def HAll (o : S65.Idx → BitVec 32) : sProp 𝕄 :=
  BI.bigSep (Finset.univ : Finset (Fin 64)) fun e => if mt (offN o) e.val = true then iprop(emp) else HDone c X Y o e

theorem dinv_out (o : S65.Idx → BitVec 32) (n : ℕ) (hn : n = min (full (offN o) 64) 11) (acc : BitVec 32) :
    DInv c X Y f0 o (full (offN o) 64) n acc ⊢ iprop(OW c ∗ BI.bigSep Finset.univ (freeO c) ∗ HAll c X Y o) := by
  rw [hn]
  unfold DInv
  rw [show full (offN o) 64 - min (full (offN o) 64) 11 = full (offN o) 64 - 11 by omega, ring11_none _ _ le_rfl]
  have : ERows c X Y f0 o 64 (full (offN o) 64 - 11) (full (offN o) 64 - 11) = HAll c X Y o := by
    unfold ERows HAll
    refine BI.bigSep_congr fun e _ => ?_
    unfold ERow
    rw [if_neg (show ¬ 64 ≤ e.val by have := e.isLt; omega), if_neg (show ¬ (full (offN o) 64 - 11 ≤ full (offN o) e.val ∧ full (offN o) e.val < full (offN o) 64 - 11) by omega)]
  rw [this]

theorem zrows_start (o : ℕ → ℕ) : BI.bigSep Finset.univ (rawH c f0) = ZRows c f0 o 0 := by
  unfold ZRows
  refine BI.bigSep_congr fun e _ => ?_
  rw [if_neg (fun h => absurd h.1 (Nat.not_lt_zero _))]
theorem ztoks_start (z : Buf (Elt F) (M9.view.loc (c : Thread nD τ))) (n : ℕ) :
    (M9.view.loc (c : Thread nD τ) ↦{fullShare} z) ⊢ iprop((M9.view.loc (c : Thread nD τ) ↦[M9.view.set]{Transfers.shareDrop fullShare n} z) ∗ ZToks c z n 0) := by
  have h := Transfers.pointsTo_toks_split (Ix := Unit) (Name := ℕ) (U := Pipeline.UD sig nD τ) (Lvl := ℕ) (ℓ := M9.view.loc (c : Thread nD τ)) (S := Finset.univ) (f := z) fullShare n
  have hset : M9.view.set = Finset.univ := View.set_whole _
  have hb : ZToks c z n 0 = BI.bigSep Finset.univ (fun i : Fin n => (M9.view.loc (c : Thread nD τ) ↦[Finset.univ]{Transfers.shareTok fullShare n i} z : sProp 𝕄)) := by
    unfold ZToks
    refine BI.bigSep_congr fun t _ => ?_
    rw [if_pos (Nat.zero_le _)]
    unfold tokZ
    rw [hset]
  rw [hb, hset]
  exact h
theorem ring11_start (n : ℕ) (fly : Fin 11 → ℕ → sProp (MT nD τ sig Unit (Elt F) ℕ (Pipeline.UD sig nD τ) ℕ)) (free : Fin 11 → sProp (MT nD τ sig Unit (Elt F) ℕ (Pipeline.UD sig nD τ) ℕ)) :
    BI.bigSep Finset.univ free = Ring11 fly free 0 0 := (ring11_none _ _ le_rfl).symm

attribute [local irreducible] ZInv EInv DInv in
/-- The second half of the kernel. -/
theorem tail48_spec (v21 : BitVec 32) (hw18 : k0_chk18 v21) (v23 w : BitVec 32) (o : S65.Idx → BitVec 32) (hO : Ok (offN o)) (Q : (Σ' (v38 : BitVec 32) (k0_hw40 : k0_chk40 v38), BitVec 32) → sProp 𝕄) :
    iprop((M0.view.loc (c : Thread nD τ) ↦{fullShare} o) ∗ CurAt c o (min 7 (base (offN o) 64)) ∗ Ring c X Y (offN o) 0 (min 7 (base (offN o) 64)) ∗ OW c
      ∗ (∃ f7, M7.view.loc (c : Thread nD τ) ↦{fullShare} f7) ∗ (∃ ct : S64.Idx → BitVec 32, M4.view.loc (c : Thread nD τ) ↦{fullShare} ct)
      ∗ (∃ z0 : Buf (Elt F) (M9.view.loc (c : Thread nD τ)), M9.view.loc (c : Thread nD τ) ↦{fullShare} z0)
      ∗ semVal ((c : Thread nD τ), SemLoc.dma semZ) 0 ∗ BI.bigSep Finset.univ (freeO c) ∗ BI.bigSep Finset.univ (rawH c f0)
      ∗ (∀ v38, ∀ hw40, ⌜v38.toNat = cnt (mt (offN o)) 64⌝ -∗ (M0.view.loc (c : Thread nD τ) ↦{fullShare} o) -∗ CurAt c o (base (offN o) 64)
        -∗ Ring c X Y (offN o) (base (offN o) 64) (base (offN o) 64) -∗ OW c -∗ (∃ f7, M7.view.loc (c : Thread nD τ) ↦{fullShare} f7)
        -∗ (∃ ct : S64.Idx → BitVec 32, (M4.view.loc (c : Thread nD τ) ↦{fullShare} ct) ∗ ⌜CntOK o 64 ct⌝)
        -∗ (M9.view.loc (c : Thread nD τ) ↦[M9.view.set]{Transfers.shareDrop fullShare (nZ (offN o))} zB c)
        -∗ ZBatch c f0 (zB c) (offN o) (nZ (offN o)) 0 -∗ BI.bigSep Finset.univ (freeO c) -∗ HAll c X Y o -∗ Q ⟨v38, hw40, 4#32⟩))
      ⊢ wp frame (wpE (defs₀ (F := F)) Variants.none (c : Thread nD τ) none) Set.univ (tail48 (F := F)) Q := by
  have hfl : full (offN o) 64 ≤ 64 := full_le (o := offN o) 64
  have hcl := cnt_le (mt (offN o)) 64
  iintro ⟨H0, HC, HR, HW, H7, ⟨%ct, H4⟩, ⟨%z0, H9⟩, HZ, HF, HH, HK⟩
  unfold tail48
  sl_exec
  have h9 : M9.view.writes (Elt F) M9.view.junk (tail48_spec.sl.H9_1 (F := F)) = zB c := zB_eq c _ _ rfl
  ihave H9 := (Entails.of_eq (congrArg (fun q => iprop(M9.view.loc (c : Thread nD τ) ↦{fullShare} q)) h9)) $$ H9
  ihave H9 := (ztoks_start c (zB c) (nZ (offN o))) $$ H9
  icases H9 with ⟨H9, HT⟩
  imod (Transfers.batch_alloc' (countersEmb (U := Pipeline.UD sig nD τ)) (c := (c : Thread nD τ)) () NZ (DZ c f0 (zB c) (offN o)) (E := Set.univ)) $$ HZ with HB
  ihave HI : ZInv c f0 (zB c) o 0 0#32 $$ [H0 H4 HH HT HB]
  · iapply (Entails.of_eq (show ZInv c f0 (zB c) o 0 0#32 = _ from by unfold ZInv; rfl).symm)
    isplitl [H0]; · iexact H0
    isplitl [H4]
    · iexists ct
      isplitl [H4]; · iexact H4
      ipureintro; exact fun e h hlt => absurd hlt (Nat.not_lt_zero _)
    isplitl [HH]
    · iapply (Entails.of_eq (zrows_start c f0 (offN o)))
      iexact HH
    isplitl [HT]; · iexact HT
    isplitl [HB]; · iexact HB
    ipureintro; rfl
  let li := @loopInv_k0_t9 F _ c f0 (zB c) o hO v21 hw18 v23 w 0#32
  sl_exec
  rename_i acc9
  ihave HI := (zinv_out c X Y f0 (zB c) o _ trips9 acc9) $$ HI
  icases HI with ⟨H0, H4, HE, HB, %h38⟩
  have hw40 : k0_chk40 acc9 := chk40_of (by omega)
  ihave HI : EInv c X Y f0 o 0 (0#32, 0#32) $$ [H0 HC HR HW H7 HF HE]
  · iapply (Entails.of_eq (show EInv c X Y f0 o 0 (0#32, 0#32) = _ from by unfold EInv; rw [base_zero, full_zero, Nat.zero_add]).symm)
    isplitl [H0]; · iexact H0
    isplitl [HC]; · iexact HC
    isplitl [HR]; · iexact HR
    isplitl [HW]; · iexact HW
    isplitl [H7]; · iexact H7
    isplitl [HF]
    · iapply (Entails.of_eq (ring11_start 0 (fun s q => flyO c X Y o s (eOf o q)) (freeO c)))
      iexact HF
    isplitl [HE]; · iexact HE
    ipureintro; exact ⟨rfl, rfl⟩
  let li10 := @loopInv_k0_t10 F _ c X Y f0 o hO v21 hw18 v23 w (0#32, 0#32)
  sl_exec
  rename_i pg
  ihave HI := (einv_out c X Y f0 o _ trips10 pg) $$ HI
  icases HI with ⟨H0, HC, HR, H7, HD, %hp⟩
  have hp64 : pg.1.toNat ≤ 64 := by omega
  have hw39 := chk39_of hp64
  let li15 := @loopInv_k0_t15 F _ c X Y f0 o pg.1 hp hw39 v21 hw18 v23 w 0#32
  sl_exec
  rename_i acc15
  ihave HD := (dinv_out c X Y f0 o _ ((t15_trips hp64).trans (by rw [hp])) acc15) $$ HD
  icases HD with ⟨HW, HF, HA⟩
  sl_step
  iapply HK $$ %acc9 %hw40 [] H0 HC HR HW H7 H4 H9 HB HF HA
  ipureintro; exact h38

end Cert.KernelIdeal.Hand
-- ==== Proof.Ideal.Kern.lean ====
module
public import proofs.«01_k».proof.Proof.Ideal.Whole

/-! The kernel from one end to the other. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

variable (c : Dev nD) (X : Buf (Elt F) (M1.view.loc (c : Thread nD τ))) (Y : Buf (Elt F) (M2.view.loc (c : Thread nD τ)))
variable (f0 : Buf (Elt F) (M3.view.loc (c : Thread nD τ)))

/-- The zero copies, all waited for, give back what they carried. -/
theorem zd_out (o : ℕ → ℕ) (n : ℕ) (hn : n = nZ o) (acc : BitVec 32) :
    ZDInv c f0 (zB c) o n acc ⊢ iprop(OW c ∗ ZBatch c f0 (zB c) o (nZ o) (NZ * nZ o)) := by
  unfold ZDInv
  rw [hn, Nat.mul_comm]

attribute [local irreducible] k0_part47 k0_part48 ZDInv in
/-- The kernel, from the buffers it is given: it hands back the offsets, the counts and every row. -/
theorem hess_spec (o : S65.Idx → BitVec 32) (hO : Ok (offN o)) (cu : S3.Idx → BitVec 32) (Q : PUnit → sProp 𝕄) :
    iprop((M0.view.loc (c : Thread nD τ) ↦{fullShare} o) ∗ (M14.view.loc (c : Thread nD τ) ↦{fullShare} cu) ∗ Ring c X Y (offN o) 0 0 ∗ OW c
      ∗ (∃ f7, M7.view.loc (c : Thread nD τ) ↦{fullShare} f7) ∗ (∃ ct : S64.Idx → BitVec 32, M4.view.loc (c : Thread nD τ) ↦{fullShare} ct)
      ∗ (∃ z0 : Buf (Elt F) (M9.view.loc (c : Thread nD τ)), M9.view.loc (c : Thread nD τ) ↦{fullShare} z0)
      ∗ semVal ((c : Thread nD τ), SemLoc.dma semZ) 0 ∗ BI.bigSep Finset.univ (freeO c) ∗ BI.bigSep Finset.univ (rawH c f0)
      ∗ ((M0.view.loc (c : Thread nD τ) ↦{fullShare} o) -∗ CurAt c o (base (offN o) 64)
        -∗ Ring c X Y (offN o) (base (offN o) 64) (base (offN o) 64) -∗ OW c -∗ (∃ f7, M7.view.loc (c : Thread nD τ) ↦{fullShare} f7)
        -∗ (∃ ct : S64.Idx → BitVec 32, (M4.view.loc (c : Thread nD τ) ↦{fullShare} ct) ∗ ⌜CntOK o 64 ct⌝)
        -∗ (M9.view.loc (c : Thread nD τ) ↦[M9.view.set]{Transfers.shareDrop fullShare (nZ (offN o))} zB c)
        -∗ BI.bigSep Finset.univ (DZ c f0 (zB c) (offN o)) -∗ semVal ((c : Thread nD τ), SemLoc.dma semZ) 0
        -∗ BI.bigSep Finset.univ (freeO c) -∗ HAll c X Y o -∗ Q ⟨⟩))
      ⊢ wp frame (wpE (defs₀ (F := F)) Variants.none (c : Thread nD τ) none) Set.univ (cc0_hess (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _)) Q := by
  have hcl := cnt_le (mt (offN o)) 64
  iintro ⟨H0, H14, HR, HW, H7, H4, H9, HZ, HF, HH, HK⟩
  unfold cc0_hess
  iapply (Entails.of_eq (wp_bind _ _ _ _ _ _).symm)
  iapply (part47_spec c X Y o hO cu)
  isplitl [H0]; · iexact H0
  isplitl [H14]; · iexact H14
  isplitl [HR]; · iexact HR
  iintro %cu1 %v %hcv H0 H14 HR
  obtain ⟨v21, hw18, v23, w⟩ := v
  iapply (Entails.of_eq (wp_bind _ _ _ _ _ _).symm)
  iapply (part48_spec c X Y o hO cu1 v21 hw18 v23 w hcv.1 hcv.2)
  isplitl [H0]; · iexact H0
  isplitl [H14]; · iexact H14
  isplitl [HR]; · iexact HR
  iintro H0 HC HR
  iapply (tail48_spec c X Y f0 v21 hw18 v23 w o hO)
  isplitl [H0]; · iexact H0
  isplitl [HC]; · iexact HC
  isplitl [HR]; · iexact HR
  isplitl [HW]; · iexact HW
  isplitl [H7]; · iexact H7
  isplitl [H4]; · iexact H4
  isplitl [H9]; · iexact H9
  isplitl [HZ]; · iexact HZ
  isplitl [HF]; · iexact HF
  isplitl [HH]; · iexact HH
  iintro %v38 %hw40 %h38 H0 HC HR HW H7 H4 H9 HB HF HA
  let li := @loopInv_k0_t17 F _ c f0 (zB c) (offN o) v38 h38 hw40 0#32
  ihave HI : ZDInv c f0 (zB c) (offN o) 0 0#32 $$ [HW HB]
  · iapply (Entails.of_eq (show ZDInv c f0 (zB c) (offN o) 0 0#32 = _ from by unfold ZDInv; rw [Nat.zero_mul]).symm)
    isplitl [HW]; · iexact HW
    iexact HB
  sl_exec
  rename_i acc
  ihave HI := (zd_out c f0 (offN o) _ ((t17_trips (by omega)).trans (by rw [h38])) acc) $$ HI
  icases HI with ⟨HW, HB⟩
  imod (Transfers.batch_collect' (countersEmb (U := Pipeline.UD sig nD τ)) (c := (c : Thread nD τ)) (by decide : 0 < NZ)) $$ HB with ⟨HD, HZ⟩
  sl_step
  iapply HK $$ H0 HC HR HW H7 H4 H9 HD HZ HF HA

end Cert.KernelIdeal.Hand
-- ==== Proof.Ideal.Ends.lean ====
module
public import proofs.«01_k».proof.Proof.Ideal.Kern
public import Idealize.ShloMosaic.Lib.Ring

/-! What the kernel is handed, split up, and what it hands back, joined. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

variable (c : Dev nD) (X : Buf (Elt F) (M1.view.loc (c : Thread nD τ))) (Y : Buf (Elt F) (M2.view.loc (c : Thread nD τ)))
variable (f0 : Buf (Elt F) (M3.view.loc (c : Thread nD τ)))

theorem mem_slotC (s : Fin 8) (i : S8x256x1024.Idx) : i ∈ (slotC s).view.set ↔ (i 0).val = s.val := by
  rw [show (slotC s).view.set = (Rect.unit (s := S8x256x1024) ![s.val, 0, 0] S1x256x1024.size (inb5 s)).set from (View.set_reshape _ _).trans (View.set_slice_whole _ _)]
  rw [Rect.mem_set_unit, Fin.forall_fin_succ, Fin.forall_fin_succ, Fin.forall_fin_one]
  have h1 : (i 1).val < 256 := (i 1).isLt
  have h2 : (i 2).val < 1024 := (i 2).isLt
  show (s.val ≤ (i 0).val ∧ (i 0).val < s.val + 1) ∧ (0 ≤ (i 1).val ∧ (i 1).val < 0 + 256) ∧ (0 ≤ (i 2).val ∧ (i 2).val < 0 + 1024) ↔ _
  omega
theorem mem_slotS (s : Fin 8) (i : S8x16x256.Idx) : i ∈ (slotS s).view.set ↔ (i 0).val = s.val := by
  rw [show (slotS s).view.set = (Rect.unit (s := S8x16x256) ![s.val, 0, 0] S1x16x256.size (inb6 s)).set from (View.set_reshape _ _).trans (View.set_slice_whole _ _)]
  rw [Rect.mem_set_unit, Fin.forall_fin_succ, Fin.forall_fin_succ, Fin.forall_fin_one]
  have h1 : (i 1).val < 16 := (i 1).isLt
  have h2 : (i 2).val < 256 := (i 2).isLt
  show (s.val ≤ (i 0).val ∧ (i 0).val < s.val + 1) ∧ (0 ≤ (i 1).val ∧ (i 1).val < 0 + 16) ∧ (0 ≤ (i 2).val ∧ (i 2).val < 0 + 256) ↔ _
  omega

/-- Sets told apart by a coordinate are disjoint, and cover when each coordinate has its set. -/
theorem slots_disj {n : ℕ} {I : Type} [DecidableEq I] (K : Fin n → Finset I) (k : I → ℕ) (h : ∀ s i, i ∈ K s ↔ k i = s.val) :
    ∀ b b', b ≠ b' → Disjoint (K b) (K b') := by
  intro b b' hb
  rw [Finset.disjoint_left]
  intro i hi hi'
  exact hb (Fin.ext (((h _ _).1 hi).symm.trans ((h _ _).1 hi')))
theorem slots_cover {n : ℕ} {I : Type} [DecidableEq I] [Fintype I] (K : Fin n → Finset I) (k : I → ℕ) (h : ∀ s i, i ∈ K s ↔ k i = s.val) (hk : ∀ i, k i < n) :
    Finset.univ.biUnion K = Finset.univ := by
  ext i
  refine Finset.mem_biUnion.trans ?_
  simp only [Finset.mem_univ, true_and, iff_true]
  exact ⟨⟨k i, hk i⟩, (h _ _).2 rfl⟩

theorem slots_some {n : ℕ} {ℓ : Loc nD τ sig} (I : Fin n → Finset (Idx ℓ)) (f : Buf (Elt F) ℓ) :
    (BI.bigSep Finset.univ (fun b => ℓ ↦[I b]{fullShare} f) : sProp 𝕄) ⊢ BI.bigSep Finset.univ (fun b => iprop(∃ f, ℓ ↦[I b]{fullShare} f)) :=
  BI.bigSep_mono fun b _ => show (ℓ ↦[I b]{fullShare} f : sProp 𝕄) ⊢ iprop(∃ f, ℓ ↦[I b]{fullShare} f) from by iintro H; iexists f; iexact H
theorem slotsC_split : iprop(∃ f, M5.view.loc (c : Thread nD τ) ↦{fullShare} f) ⊢ (BI.bigSep Finset.univ (fun b : Fin 8 => iprop(∃ f, (slotC b).view.loc (c : Thread nD τ) ↦[(slotC b).view.set]{fullShare} f)) : sProp 𝕄) := by
  iintro ⟨%f, H⟩
  ihave H := (Entails.of_eq (Ring.pointsTo_blocks (ℓ := M5.view.loc (c : Thread nD τ)) (q := fullShare) (fun b : Fin 8 => (slotC b).view.set) (slots_disj _ (fun i : S8x256x1024.Idx => (i 0).val) mem_slotC) (slots_cover _ (fun i : S8x256x1024.Idx => (i 0).val) mem_slotC (fun i => (i 0).isLt)) f)) $$ H
  iapply (slots_some (ℓ := M5.view.loc (c : Thread nD τ)) (fun b => (slotC b).view.set) f)
  iexact H
theorem slotsC_join (g : Buf (Elt F) (M5.view.loc (c : Thread nD τ))) : (BI.bigSep Finset.univ (fun b : Fin 8 => iprop(∃ f, (slotC b).view.loc (c : Thread nD τ) ↦[(slotC b).view.set]{fullShare} f)) : sProp 𝕄) ⊢ iprop(∃ f, M5.view.loc (c : Thread nD τ) ↦{fullShare} f) :=
  Ring.pointsTo_blocks_join_exists (ℓ := M5.view.loc (c : Thread nD τ)) (q := fullShare) (fun b : Fin 8 => (slotC b).view.set) (slots_disj _ (fun i : S8x256x1024.Idx => (i 0).val) mem_slotC) (slots_cover _ (fun i : S8x256x1024.Idx => (i 0).val) mem_slotC (fun i => (i 0).isLt)) g
theorem slotsS_split : iprop(∃ f, M6.view.loc (c : Thread nD τ) ↦{fullShare} f) ⊢ (BI.bigSep Finset.univ (fun b : Fin 8 => iprop(∃ f, (slotS b).view.loc (c : Thread nD τ) ↦[(slotS b).view.set]{fullShare} f)) : sProp 𝕄) := by
  iintro ⟨%f, H⟩
  ihave H := (Entails.of_eq (Ring.pointsTo_blocks (ℓ := M6.view.loc (c : Thread nD τ)) (q := fullShare) (fun b : Fin 8 => (slotS b).view.set) (slots_disj _ (fun i : S8x16x256.Idx => (i 0).val) mem_slotS) (slots_cover _ (fun i : S8x16x256.Idx => (i 0).val) mem_slotS (fun i => (i 0).isLt)) f)) $$ H
  iapply (slots_some (ℓ := M6.view.loc (c : Thread nD τ)) (fun b => (slotS b).view.set) f)
  iexact H
theorem slotsS_join (g : Buf (Elt F) (M6.view.loc (c : Thread nD τ))) : (BI.bigSep Finset.univ (fun b : Fin 8 => iprop(∃ f, (slotS b).view.loc (c : Thread nD τ) ↦[(slotS b).view.set]{fullShare} f)) : sProp 𝕄) ⊢ iprop(∃ f, M6.view.loc (c : Thread nD τ) ↦{fullShare} f) :=
  Ring.pointsTo_blocks_join_exists (ℓ := M6.view.loc (c : Thread nD τ)) (q := fullShare) (fun b : Fin 8 => (slotS b).view.set) (slots_disj _ (fun i : S8x16x256.Idx => (i 0).val) mem_slotS) (slots_cover _ (fun i : S8x16x256.Idx => (i 0).val) mem_slotS (fun i => (i 0).isLt)) g
theorem slotsO_split : iprop(∃ f, M8.view.loc (c : Thread nD τ) ↦{fullShare} f) ⊢ (BI.bigSep Finset.univ (fun b : Fin 11 => iprop(∃ f, ownO c b f)) : sProp 𝕄) := by
  iintro ⟨%f, H⟩
  ihave H := (Entails.of_eq (Ring.pointsTo_blocks (ℓ := M8.view.loc (c : Thread nD τ)) (q := fullShare) (fun b : Fin 11 => (slotO b).view.set) (slots_disj _ (fun i : S11x1024x1024.Idx => (i 0).val) mem_slotO) (slots_cover _ (fun i : S11x1024x1024.Idx => (i 0).val) mem_slotO (fun i => (i 0).isLt)) f)) $$ H
  iapply (slots_some (ℓ := M8.view.loc (c : Thread nD τ)) (fun b => (slotO b).view.set) f)
  iexact H
theorem slotsO_join (g : Buf (Elt F) (M8.view.loc (c : Thread nD τ))) : (BI.bigSep Finset.univ (fun b : Fin 11 => iprop(∃ f, ownO c b f)) : sProp 𝕄) ⊢ iprop(∃ f, M8.view.loc (c : Thread nD τ) ↦{fullShare} f) :=
  Ring.pointsTo_blocks_join_exists (ℓ := M8.view.loc (c : Thread nD τ)) (q := fullShare) (fun b : Fin 11 => (slotO b).view.set) (slots_disj _ (fun i : S11x1024x1024.Idx => (i 0).val) mem_slotO) (slots_cover _ (fun i : S11x1024x1024.Idx => (i 0).val) mem_slotO (fun i => (i 0).isLt)) g

/-! ## The cells -/
theorem semsC_eq (c : Dev nD) : BI.bigSep Finset.univ (fun b : Fin 8 => (semVal ((c : Thread nD τ), SemLoc.dma (semC b)) 0 : sProp 𝕄)) = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [bigSep_univ_eq_bigSepL [0, 1, 2, 3, 4, 5, 6, 7] (by decide) (by decide)]; rfl
theorem semsS_eq (c : Dev nD) : BI.bigSep Finset.univ (fun b : Fin 8 => (semVal ((c : Thread nD τ), SemLoc.dma (semS b)) 0 : sProp 𝕄)) = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [bigSep_univ_eq_bigSepL [0, 1, 2, 3, 4, 5, 6, 7] (by decide) (by decide)]; rfl
theorem semsO_eq (c : Dev nD) : BI.bigSep Finset.univ (fun b : Fin 11 => (semVal ((c : Thread nD τ), SemLoc.dma (semO b)) 0 : sProp 𝕄)) = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) := by
  rw [bigSep_univ_eq_bigSepL [0, 1, 2, 3, 4, 5, 6, 7, 8, 9, 10] (by decide) (by decide)]; rfl
abbrev allSems (c : Dev nD) : sProp 𝕄 := iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0)
abbrev famSems (c : Dev nD) : sProp 𝕄 := iprop(BI.bigSep Finset.univ (fun b : Fin 8 => (semVal ((c : Thread nD τ), SemLoc.dma (semC b)) 0 : sProp 𝕄)) ∗ BI.bigSep Finset.univ (fun b : Fin 8 => (semVal ((c : Thread nD τ), SemLoc.dma (semS b)) 0 : sProp 𝕄)) ∗ BI.bigSep Finset.univ (fun b : Fin 11 => (semVal ((c : Thread nD τ), SemLoc.dma (semO b)) 0 : sProp 𝕄)) ∗ semVal ((c : Thread nD τ), SemLoc.dma semZ) 0)
theorem sems_split : allSems (F := F) c ⊢ famSems c := by
  unfold famSems
  rw [semsC_eq, semsS_eq, semsO_eq]
  iintro ⟨HC0, HC1, HC2, HC3, HC4, HC5, HC6, HC7, HS0, HS1, HS2, HS3, HS4, HS5, HS6, HS7, HO0, HO1, HO2, HO3, HO4, HO5, HO6, HO7, HO8, HO9, HO10, HZ⟩
  isplitl [HC0 HC1 HC2 HC3 HC4 HC5 HC6 HC7]
  · skip
    isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    iexact HC7
  isplitl [HS0 HS1 HS2 HS3 HS4 HS5 HS6 HS7]
  · skip
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  isplitl [HO0 HO1 HO2 HO3 HO4 HO5 HO6 HO7 HO8 HO9 HO10]
  · skip
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    iexact HO10
  iexact HZ
theorem sems_join : famSems (F := F) c ⊢ allSems c := by
  unfold famSems
  rw [semsC_eq, semsS_eq, semsO_eq]
  iintro ⟨⟨HC0, HC1, HC2, HC3, HC4, HC5, HC6, HC7⟩, ⟨HS0, HS1, HS2, HS3, HS4, HS5, HS6, HS7⟩, ⟨HO0, HO1, HO2, HO3, HO4, HO5, HO6, HO7, HO8, HO9, HO10⟩, HZ⟩
  isplitl [HC0]; · iexact HC0
  isplitl [HC1]; · iexact HC1
  isplitl [HC2]; · iexact HC2
  isplitl [HC3]; · iexact HC3
  isplitl [HC4]; · iexact HC4
  isplitl [HC5]; · iexact HC5
  isplitl [HC6]; · iexact HC6
  isplitl [HC7]; · iexact HC7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HO0]; · iexact HO0
  isplitl [HO1]; · iexact HO1
  isplitl [HO2]; · iexact HO2
  isplitl [HO3]; · iexact HO3
  isplitl [HO4]; · iexact HO4
  isplitl [HO5]; · iexact HO5
  isplitl [HO6]; · iexact HO6
  isplitl [HO7]; · iexact HO7
  isplitl [HO8]; · iexact HO8
  isplitl [HO9]; · iexact HO9
  isplitl [HO10]; · iexact HO10
  iexact HZ

/-! ## The ring -/

theorem ring_start (o : ℕ → ℕ) (n : ℕ) : Ring c X Y o n n
    = iprop((BI.bigSep Finset.univ (fun b : Fin 8 => (semVal ((c : Thread nD τ), SemLoc.dma (semC b)) 0 : sProp 𝕄)) ∗ (BI.bigSep Finset.univ (fun b : Fin 8 => iprop(∃ f, (slotC b).view.loc (c : Thread nD τ) ↦[(slotC b).view.set]{fullShare} f)) ∗ BI.bigSep Finset.univ (fun b => tokC c X b Finset.univ)))
      ∗ (BI.bigSep Finset.univ (fun b : Fin 8 => (semVal ((c : Thread nD τ), SemLoc.dma (semS b)) 0 : sProp 𝕄)) ∗ (BI.bigSep Finset.univ (fun b : Fin 8 => iprop(∃ f, (slotS b).view.loc (c : Thread nD τ) ↦[(slotS b).view.set]{fullShare} f)) ∗ BI.bigSep Finset.univ (fun b => tokS c Y b Finset.univ)))) := by
  unfold Ring
  rw [ring_none _ _ (Nat.le_refl n)]
  refine (BI.bigSep_sep Finset.univ (fun b => freeC c X b) (fun b => freeS c Y b)).trans (congrArg₂ (fun A B : sProp 𝕄 => iprop(A ∗ B)) ?_ ?_)
  · refine (BI.bigSep_sep Finset.univ (fun b : Fin 8 => (semVal ((c : Thread nD τ), SemLoc.dma (semC b)) 0 : sProp 𝕄)) (fun b => iprop((∃ f, (slotC b).view.loc (c : Thread nD τ) ↦[(slotC b).view.set]{fullShare} f) ∗ tokC c X b Finset.univ))).trans (congrArg (fun B : sProp 𝕄 => iprop(BI.bigSep Finset.univ (fun b : Fin 8 => (semVal ((c : Thread nD τ), SemLoc.dma (semC b)) 0 : sProp 𝕄)) ∗ B)) ?_)
    exact BI.bigSep_sep Finset.univ _ _
  · refine (BI.bigSep_sep Finset.univ (fun b : Fin 8 => (semVal ((c : Thread nD τ), SemLoc.dma (semS b)) 0 : sProp 𝕄)) (fun b => iprop((∃ f, (slotS b).view.loc (c : Thread nD τ) ↦[(slotS b).view.set]{fullShare} f) ∗ tokS c Y b Finset.univ))).trans (congrArg (fun B : sProp 𝕄 => iprop(BI.bigSep Finset.univ (fun b : Fin 8 => (semVal ((c : Thread nD τ), SemLoc.dma (semS b)) 0 : sProp 𝕄)) ∗ B)) ?_)
    exact BI.bigSep_sep Finset.univ _ _

theorem freeO_eq : BI.bigSep Finset.univ (freeO c) = (iprop(BI.bigSep Finset.univ (fun b : Fin 11 => (semVal ((c : Thread nD τ), SemLoc.dma (semO b)) 0 : sProp 𝕄)) ∗ BI.bigSep Finset.univ (fun b : Fin 11 => iprop(∃ f, ownO c b f))) : sProp 𝕄) := by
  unfold freeO
  exact BI.bigSep_sep Finset.univ _ _

theorem rawH_eq : (M3.view.loc (c : Thread nD τ) ↦{fullShare} f0 : sProp 𝕄) = BI.bigSep Finset.univ (rawH c f0) :=
  Ring.pointsTo_blocks (ℓ := M3.view.loc (c : Thread nD τ)) (q := fullShare) (fun e : Fin 64 => (rowH e).view.set) rows_disjoint rows_cover f0

/-! ## The matrices, joined -/

/-- Pieces each held at contents with a property that only looks at the piece join to contents with every property. -/
theorem join_exists {T : Type} (S : Finset T) {ℓ : Loc nD τ sig} (K : T → Finset (Idx ℓ)) (P : T → Buf (Elt F) ℓ → Prop)
    (hP : ∀ t f g, (∀ i ∈ K t, g i = f i) → P t f → P t g) (f₀ : Buf (Elt F) ℓ)
    (h : ∀ t ∈ S, ∀ t' ∈ S, t ≠ t' → Disjoint (K t) (K t')) :
    BI.bigSep S (fun t => iprop(∃ f, ⌜P t f⌝ ∗ ℓ ↦[K t]{fullShare} f))
      ⊢ (iprop(∃ g, ⌜∀ t ∈ S, P t g⌝ ∗ ℓ ↦[S.biUnion K]{fullShare} g) : sProp 𝕄) := by
  classical
  induction S using Finset.induction_on with
  | empty =>
    iintro -
    iexists f₀
    isplitr
    · ipureintro; intro t ht; exact absurd ht (Finset.notMem_empty _)
    · rw [Finset.biUnion_empty, pointsTo_empty]; iempintro
  | insert t S ht ih =>
    rw [BI.bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f, ⌜P t f⌝ ∗ ℓ ↦[K t]{fullShare} f) ∗ BI.bigSep S (fun t => iprop(∃ f, ⌜P t f⌝ ∗ ℓ ↦[K t]{fullShare} f))) ⊢ _ from ?_)
    iintro ⟨⟨%f, %hf, Ht⟩, HS⟩
    ihave H := (ih fun t₁ h₁ t₂ h₂ => h t₁ (Finset.mem_insert_of_mem h₁) t₂ (Finset.mem_insert_of_mem h₂)) $$ HS
    icases H with ⟨%g, %hg, HS⟩
    iexists (S.biUnion K).piecewise g f
    isplitr
    · ipureintro
      intro t' ht'
      rcases Finset.mem_insert.mp ht' with rfl | ht'
      · exact hP _ _ _ (fun i hi => Finset.piecewise_eq_of_notMem _ _ _ (Finset.disjoint_left.mp hd hi)) hf
      · exact hP _ _ _ (fun i hi => Finset.piecewise_eq_of_mem _ _ _ (Finset.mem_biUnion.mpr ⟨t', ht', hi⟩)) (hg t' ht')
    · iapply (pointsTo_join hd)
      isplitl [Ht]; · iexact Ht
      iexact HS

/-- What the matrices hold on expert `e`'s row when it has rows of its own. -/
def RowFull (o : S65.Idx → BitVec 32) (e : Fin 64) (g : Buf (Elt F) (M3.view.loc (c : Thread nD τ))) : Prop :=
  ¬ mt (offN o) e = true → ∃ s fH fS, EDone c X Y o e s fS ∧ ∀ i ∈ (rowH e).view.set, g i = (rowH e).view.write (Elt F) fH (ReadAs.same.apply ((slotO s).view.read (Elt F) fS)) Finset.univ i
/-- and on a quarter of it when it has none. -/
def PieceZero (e : Fin 64) (q : Fin 4) (g : Buf (Elt F) (M3.view.loc (c : Thread nD τ))) : Prop :=
  ∀ i ∈ (pieceH e q).view.set, g i = (pieceH e q).view.write (Elt F) f0 (ReadAs.same.apply (M9.view.read (Elt F) (zB c))) Finset.univ i
def HOK (o : S65.Idx → BitVec 32) (g : Buf (Elt F) (M3.view.loc (c : Thread nD τ))) : Prop :=
  ∀ e : Fin 64, RowFull c X Y o e g ∧ (mt (offN o) e = true → ∀ q, PieceZero c f0 e q g)

def setF (o : ℕ → ℕ) (e : Fin 64) : Finset (Idx (M3.view.loc (c : Thread nD τ))) := if mt o e = true then ∅ else (rowH e).view.set

include f0 in
theorem hall_join (o : S65.Idx → BitVec 32) : HAll c X Y o ⊢ (iprop(∃ g, ⌜∀ e ∈ Finset.univ, RowFull c X Y o e g⌝ ∗ M3.view.loc (c : Thread nD τ) ↦[Finset.univ.biUnion (setF c (offN o))]{fullShare} g) : sProp 𝕄) := by
  refine BIBase.Entails.trans ?_ (join_exists Finset.univ (setF c (offN o)) (RowFull c X Y o) ?_ f0 ?_)
  · unfold HAll
    refine BI.bigSep_mono fun e _ => ?_
    by_cases hm : mt (offN o) e = true
    · rw [if_pos hm]
      show (_ : sProp 𝕄) ⊢ (_ : sProp 𝕄)
      iintro -
      iexists f0
      isplitr
      · ipureintro; exact fun h => absurd hm h
      · unfold setF; rw [if_pos hm, pointsTo_empty]; iempintro
    · rw [if_neg hm]
      unfold HDone
      show (_ : sProp 𝕄) ⊢ (_ : sProp 𝕄)
      iintro ⟨%s, %fH, %fS, %hd, H⟩
      iexists ((rowH e).view.write (Elt F) fH (ReadAs.same.apply ((slotO s).view.read (Elt F) fS)) Finset.univ)
      isplitr
      · ipureintro; exact fun _ => ⟨s, fH, fS, hd, fun i _ => rfl⟩
      · unfold setF; rw [if_neg hm]; iexact H
  · intro e f g hfg hf hm
    obtain ⟨s, fH, fS, hd, hr⟩ := hf hm
    exact ⟨s, fH, fS, hd, fun i hi => (hfg i (by unfold setF; rw [if_neg hm]; exact hi)).trans (hr i hi)⟩
  · intro e _ e' _ hne
    unfold setF
    split
    · exact Finset.disjoint_empty_left _
    split
    · exact Finset.disjoint_empty_right _
    exact rows_disjoint e e' hne

abbrev zE (o : ℕ → ℕ) (t : Fin (nZ o)) : Fin 64 := f64 (sel (mt o) (t.val / 4))
theorem zE_spec (o : ℕ → ℕ) (t : Fin (nZ o)) : mt o (zE o t) = true ∧ cnt (mt o) (zE o t) = t.val / 4 := by
  have h := sel_lt (mt o) (i := t.val / 4) (by have h : t.val < 4 * cnt (mt o) 64 := t.isLt; omega)
  unfold zE
  rw [f64_of h.1]
  exact h.2
theorem zE_of (o : ℕ → ℕ) (e : Fin 64) (hm : mt o e = true) (q : Fin 4) : ∃ t : Fin (nZ o), zE o t = e ∧ f4 t.val = q := by
  have h1 := cnt_succ (mt o) e.val
  rw [if_pos hm] at h1
  have h2 := cnt_mono (mt o) (a := e.val + 1) (b := 64) (by omega)
  have hq := q.isLt
  refine ⟨⟨4 * cnt (mt o) e + q, (show 4 * cnt (mt o) e.val + q.val < 4 * cnt (mt o) 64 by omega)⟩, ?_, ?_⟩
  · unfold zE
    show f64 (sel (mt o) ((4 * cnt (mt o) e + q) / 4)) = e
    rw [show (4 * cnt (mt o) e + q.val) / 4 = cnt (mt o) e by omega, sel_cnt e.isLt hm, f64_of e.isLt]
  · refine Fin.ext ?_
    show (4 * cnt (mt o) e + q) % 4 = q
    omega

theorem zE_inj (o : ℕ → ℕ) (t t' : Fin (nZ o)) (h : zE o t = zE o t') (hq : f4 t.val = f4 t'.val) : t = t' := by
  have h1 := (zE_spec o t).2
  have h2 : t.val % 4 = t'.val % 4 := congrArg Fin.val hq
  rw [h, (zE_spec o t').2] at h1
  exact Fin.ext (by omega)
def setZ {n : ℕ} (E : Fin n → Fin 64) (Q : Fin n → Fin 4) (t : Fin n) : Finset (Idx (M3.view.loc (c : Thread nD τ))) := (pieceH (E t) (Q t)).view.set
theorem mem_setZ {n : ℕ} {E : Fin n → Fin 64} {Q : Fin n → Fin 4} {t : Fin n} {i : S64x1024x1024.Idx} : i ∈ setZ c E Q t ↔ (i 0).val = (E t).val ∧ (i 1).val / 256 = (Q t).val := mem_pieceH
theorem zeros_join {n : ℕ} (E : Fin n → Fin 64) (Q : Fin n → Fin 4) (hinj : ∀ t t', E t = E t' → Q t = Q t' → t = t') : (BI.bigSep Finset.univ (fun t : Fin n => gotZ c f0 (zB c) (E t) (Q t)) : sProp 𝕄)
    ⊢ iprop(∃ g, ⌜∀ t ∈ (Finset.univ : Finset (Fin n)), PieceZero c f0 (E t) (Q t) g⌝
      ∗ M3.view.loc (c : Thread nD τ) ↦[(Finset.univ : Finset (Fin n)).biUnion (setZ c E Q)]{fullShare} g) := by
  refine BIBase.Entails.trans ?_ (join_exists Finset.univ (setZ c E Q) (fun t => PieceZero c f0 (E t) (Q t)) ?_ f0 ?_)
  · refine BI.bigSep_mono fun t _ => ?_
    show (_ : sProp 𝕄) ⊢ (_ : sProp 𝕄)
    iintro H
    iexists ((pieceH (E t) (Q t)).view.write (Elt F) f0 (ReadAs.same.apply (M9.view.read (Elt F) (zB c))) Finset.univ)
    isplitr
    · ipureintro; exact fun i _ => rfl
    · iexact H
  · intro t f g hfg hf i hi
    exact (hfg i hi).trans (hf i hi)
  · intro t _ t' _ hne
    rw [Finset.disjoint_left]
    intro i hi hi'
    have a := (mem_setZ c).mp hi
    have b := (mem_setZ c).mp hi'
    have e1 : E t = E t' := Fin.ext (a.1.symm.trans b.1)
    exact hne (hinj t t' e1 (Fin.ext (a.2.symm.trans b.2)))

theorem mats_join_gen (o : S65.Idx → BitVec 32) {n : ℕ} (E : Fin n → Fin 64) (Q : Fin n → Fin 4) (hinj : ∀ t t', E t = E t' → Q t = Q t' → t = t')
    (hE : ∀ t, mt (offN o) (E t) = true) (hsurj : ∀ e : Fin 64, mt (offN o) e = true → ∀ q, ∃ t, E t = e ∧ Q t = q) :
    iprop(HAll c X Y o ∗ BI.bigSep Finset.univ (fun t : Fin n => gotZ c f0 (zB c) (E t) (Q t)))
      ⊢ (iprop(∃ g, ⌜HOK c X Y f0 o g⌝ ∗ M3.view.loc (c : Thread nD τ) ↦{fullShare} g) : sProp 𝕄) := by
  iintro ⟨HA, HZ⟩
  ihave HA := (hall_join c X Y f0 o) $$ HA
  ihave HZ := (zeros_join c f0 E Q hinj) $$ HZ
  icases HA with ⟨%g1, %h1, HA⟩
  icases HZ with ⟨%g2, %h2, HZ⟩
  have hd : Disjoint (Finset.univ.biUnion (setF c (offN o))) ((Finset.univ : Finset (Fin n)).biUnion (setZ c E Q)) := by
    rw [Finset.disjoint_left]
    intro i hi hi'
    obtain ⟨e, -, he⟩ := Finset.mem_biUnion.mp hi
    obtain ⟨t, -, ht⟩ := Finset.mem_biUnion.mp hi'
    unfold setF at he
    split at he
    · exact absurd he (Finset.notMem_empty _)
    · rename_i hm
      have a := (mem_rowH.mp he).symm.trans ((mem_setZ c).mp ht).1
      exact hm ((congrArg (mt (offN o)) a).trans (hE t))
  have hu : (Finset.univ.biUnion (setF c (offN o))) ∪ ((Finset.univ : Finset (Fin n)).biUnion (setZ c E Q)) = Finset.univ := by
    ext i
    simp only [Finset.mem_univ, iff_true]
    let e : Fin 64 := ⟨((show S64x1024x1024.Idx from i) 0).val, ((show S64x1024x1024.Idx from i) 0).isLt⟩
    by_cases hm : mt (offN o) e = true
    · have hi1 : ((show S64x1024x1024.Idx from i) 1).val < 1024 := ((show S64x1024x1024.Idx from i) 1).isLt
      obtain ⟨t, h3, h4⟩ := hsurj e hm ⟨((show S64x1024x1024.Idx from i) 1).val / 256, by omega⟩
      refine Finset.mem_union_right _ (Finset.mem_biUnion.mpr ⟨t, Finset.mem_univ _, ?_⟩)
      refine (mem_setZ c).mpr ⟨?_, ?_⟩
      · rw [h3]
      · exact (congrArg Fin.val h4).symm
    · refine Finset.mem_union_left _ (Finset.mem_biUnion.mpr ⟨e, Finset.mem_univ _, ?_⟩)
      unfold setF
      rw [if_neg hm]
      exact mem_rowH.mpr rfl
  iexists _
  isplitr
  swap
  · iapply (Entails.of_eq (congrArg (fun S => (M3.view.loc (c : Thread nD τ) ↦[S]{fullShare} _ : sProp 𝕄)) hu))
    iapply (pointsTo_join hd)
    isplitl [HA]; · iexact HA
    iexact HZ
  ipureintro
  intro e
  refine ⟨fun hm => ?_, fun hm q i hi => ?_⟩
  · obtain ⟨s, fH, fS, hx, hr⟩ := h1 e (Finset.mem_univ _) hm
    refine ⟨s, fH, fS, hx, fun i hi => (Finset.piecewise_eq_of_notMem _ _ _ (Finset.disjoint_left.mp hd (Finset.mem_biUnion.mpr ⟨e, Finset.mem_univ _, ?_⟩))).trans (hr i hi)⟩
    unfold setF
    rw [if_neg hm]
    exact hi
  · obtain ⟨t, h3, h4⟩ := hsurj e hm q
    have h5 := h2 t (Finset.mem_univ _)
    rw [h3, h4] at h5
    refine (Finset.piecewise_eq_of_mem _ _ _ (Finset.mem_biUnion.mpr ⟨t, Finset.mem_univ _, ?_⟩)).trans (h5 i hi)
    refine (mem_setZ c).mpr ⟨?_, ?_⟩
    · rw [h3]; exact (mem_pieceH.mp hi).1
    · exact (mem_pieceH.mp hi).2.trans (congrArg Fin.val h4).symm

theorem mats_join (o : S65.Idx → BitVec 32) :
    iprop(HAll c X Y o ∗ BI.bigSep Finset.univ (fun t : Fin (nZ (offN o)) => gotZ c f0 (zB c) (zE (offN o) t) (f4 t.val)))
      ⊢ (iprop(∃ g, ⌜HOK c X Y f0 o g⌝ ∗ M3.view.loc (c : Thread nD τ) ↦{fullShare} g) : sProp 𝕄) :=
  mats_join_gen c X Y f0 o (zE (offN o)) (fun t => f4 t.val) (zE_inj (offN o)) (fun t => (zE_spec (offN o) t).1) (zE_of (offN o))

/-- The zeros, whole again. -/
theorem zeros_back (o : ℕ → ℕ) : iprop((M9.view.loc (c : Thread nD τ) ↦[M9.view.set]{Transfers.shareDrop fullShare (nZ o)} zB c)
      ∗ BI.bigSep Finset.univ (fun t : Fin (nZ o) => tokZ c (zB c) t.val))
    ⊢ (iprop(∃ f, M9.view.loc (c : Thread nD τ) ↦{fullShare} f) : sProp 𝕄) := by
  have h := Transfers.pointsTo_toks_join (Lvl := ℕ) (Ix := Unit) (Name := ℕ) (U := Pipeline.UD sig nD τ) (Val := Elt F) (ℓ := M9.view.loc (c : Thread nD τ)) (S := M9.view.set) (f := zB (F := F) c) fullShare (nZ o)
  iintro ⟨H, HT⟩
  iexists zB c
  iapply (Entails.of_eq (congrArg (fun S => (M9.view.loc (c : Thread nD τ) ↦[S]{fullShare} zB (F := F) c : sProp 𝕄)) (show M9.view.set = Finset.univ from View.set_whole _)))
  iapply h
  isplitl [H]; · iexact H
  iexact HT
theorem dz_eq (o : ℕ → ℕ) : BI.bigSep Finset.univ (DZ c f0 (zB c) o) = (iprop(BI.bigSep Finset.univ (fun t : Fin (nZ o) => gotZ c f0 (zB c) (zE o t) (f4 t.val)) ∗ BI.bigSep Finset.univ (fun t : Fin (nZ o) => tokZ c (zB c) t.val)) : sProp 𝕄) := by
  unfold DZ
  exact BI.bigSep_sep Finset.univ _ _

end Cert.KernelIdeal.Hand
-- ==== Proof.Ideal.Run.lean ====
module
public import proofs.«01_k».proof.Proof.Ideal.Ends

/-! The kernel from its whole buffers and back to them. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

open Idealize.ShloMosaic.Pipeline (Dat Cfg Window BodyObligation cellOf)

section
variable (c : Dev nD) (X : Buf (Elt F) (M1.view.loc (c : Thread nD τ))) (Y : Buf (Elt F) (M2.view.loc (c : Thread nD τ)))
variable (f0 : Buf (Elt F) (M3.view.loc (c : Thread nD τ)))

/-- The buffers the kernel takes for its own use, at whatever they hold. -/
def ownBufs (c : Dev nD) : sProp 𝕄 := iprop((∃ f, M5.view.loc (c : Thread nD τ) ↦{fullShare} f) ∗ (∃ f, M6.view.loc (c : Thread nD τ) ↦{fullShare} f) ∗ (∃ f, M7.view.loc (c : Thread nD τ) ↦{fullShare} f) ∗ (∃ f, M8.view.loc (c : Thread nD τ) ↦{fullShare} f) ∗ (∃ f, M9.view.loc (c : Thread nD τ) ↦{fullShare} f) ∗ (∃ f, M14.view.loc (c : Thread nD τ) ↦{fullShare} f))

/-- The kernel, from its whole buffers and back to them. -/
theorem whole_spec (o : S65.Idx → BitVec 32) (hO : Ok (offN o)) (Q : PUnit → sProp 𝕄) :
    iprop(ownBufs c ∗ allSems c ∗ (M1.view.loc (c : Thread nD τ) ↦{fullShare} X) ∗ (M2.view.loc (c : Thread nD τ) ↦{fullShare} Y)
      ∗ (M3.view.loc (c : Thread nD τ) ↦{fullShare} f0) ∗ (M0.view.loc (c : Thread nD τ) ↦{fullShare} o) ∗ (∃ ct : S64.Idx → BitVec 32, M4.view.loc (c : Thread nD τ) ↦{fullShare} ct)
      ∗ OW c
      ∗ (ownBufs c -∗ allSems c -∗ (M1.view.loc (c : Thread nD τ) ↦{fullShare} X) -∗ (M2.view.loc (c : Thread nD τ) ↦{fullShare} Y)
        -∗ (∃ g, ⌜HOK c X Y f0 o g⌝ ∗ M3.view.loc (c : Thread nD τ) ↦{fullShare} g) -∗ (M0.view.loc (c : Thread nD τ) ↦{fullShare} o)
        -∗ (∃ ct : S64.Idx → BitVec 32, (M4.view.loc (c : Thread nD τ) ↦{fullShare} ct) ∗ ⌜CntOK o 64 ct⌝) -∗ OW c -∗ Q ⟨⟩))
      ⊢ wp frame (wpE (defs₀ (F := F)) Variants.none (c : Thread nD τ) none) Set.univ (cc0_hess (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch5 cc0_scratch6 cc0_scratch7 cc0_scratch8 M14 (Memref.isWhole_whole _)) Q := by
  iintro ⟨HS, HQ, H1, H2, H3, H0, H4, HW, HK⟩
  ihave HS := (Entails.of_eq (show ownBufs (F := F) c = _ from by unfold ownBufs; rfl)) $$ HS
  icases HS with ⟨⟨%f5, H5⟩, ⟨%f6, H6⟩, H7, ⟨%f8, H8⟩, H9, ⟨%f14, H14⟩⟩
  ihave HQ := (sems_split c) $$ HQ
  icases HQ with ⟨QC, QS, QO, QZ⟩
  ihave H1 := (Transfers.pointsTo_toks_split (Ix := Unit) (Name := ℕ) (U := Pipeline.UD sig nD τ) (Lvl := ℕ) (ℓ := M1.view.loc (c : Thread nD τ)) (S := Finset.univ) (f := X) fullShare 8) $$ H1
  icases H1 with ⟨H1, T1⟩
  ihave H2 := (Transfers.pointsTo_toks_split (Ix := Unit) (Name := ℕ) (U := Pipeline.UD sig nD τ) (Lvl := ℕ) (ℓ := M2.view.loc (c : Thread nD τ)) (S := Finset.univ) (f := Y) fullShare 8) $$ H2
  icases H2 with ⟨H2, T2⟩
  ihave H5 := (slotsC_split (F := F) c) $$ [H5]
  · iexists f5; iexact H5
  ihave H6 := (slotsS_split (F := F) c) $$ [H6]
  · iexists f6; iexact H6
  ihave H8 := (slotsO_split (F := F) c) $$ [H8]
  · iexists f8; iexact H8
  iapply (hess_spec c X Y f0 o hO f14)
  isplitl [H0]; · iexact H0
  isplitl [H14]; · iexact H14
  isplitl [QC QS T1 T2 H5 H6]
  · iapply (Entails.of_eq (ring_start c X Y (offN o) 0).symm)
    isplitl [QC T1 H5]
    · isplitl [QC]; · iexact QC
      isplitl [H5]; · iexact H5
      iexact T1
    · isplitl [QS]; · iexact QS
      isplitl [H6]; · iexact H6
      iexact T2
  isplitl [HW]; · iexact HW
  isplitl [H7]; · iexact H7
  isplitl [H4]; · iexact H4
  isplitl [H9]; · iexact H9
  isplitl [QZ]; · iexact QZ
  isplitl [QO H8]
  · iapply (Entails.of_eq (freeO_eq c).symm)
    isplitl [QO]; · iexact QO
    iexact H8
  isplitl [H3]
  · iapply (Entails.of_eq (rawH_eq c f0))
    iexact H3
  iintro H0 HC HR HW H7 H4 H9 HD QZ HF HA
  ihave HR := (Entails.of_eq (ring_start c X Y (offN o) _)) $$ HR
  icases HR with ⟨⟨QC, H5, T1⟩, QS, H6, T2⟩
  ihave HF := (Entails.of_eq (freeO_eq c)) $$ HF
  icases HF with ⟨QO, H8⟩
  ihave HD := (Entails.of_eq (dz_eq c f0 (offN o))) $$ HD
  icases HD with ⟨HG, HT⟩
  ihave H9 := (zeros_back c (offN o)) $$ [H9 HT]
  · isplitl [H9]; · iexact H9
    iexact HT
  ihave H3 := (mats_join c X Y f0 o) $$ [HA HG]
  · isplitl [HA]; · iexact HA
    iexact HG
  ihave H1 := (Transfers.pointsTo_toks_join (Ix := Unit) (Name := ℕ) (U := Pipeline.UD sig nD τ) (Lvl := ℕ) (ℓ := M1.view.loc (c : Thread nD τ)) (S := Finset.univ) (f := X) fullShare 8) $$ [H1 T1]
  · isplitl [H1]; · iexact H1
    iexact T1
  ihave H2 := (Transfers.pointsTo_toks_join (Ix := Unit) (Name := ℕ) (U := Pipeline.UD sig nD τ) (Lvl := ℕ) (ℓ := M2.view.loc (c : Thread nD τ)) (S := Finset.univ) (f := Y) fullShare 8) $$ [H2 T2]
  · isplitl [H2]; · iexact H2
    iexact T2
  ihave H5 := (slotsC_join c f5) $$ H5
  ihave H6 := (slotsS_join c f6) $$ H6
  ihave H8 := (slotsO_join c f8) $$ H8
  ihave HC := (Entails.of_eq (show CurAt (F := F) c o (base (offN o) 64) = iprop(∃ cu : S3.Idx → BitVec 32, (M14.view.loc (c : Thread nD τ) ↦{fullShare} cu) ∗ ⌜CurW (offN o) cu (base (offN o) 64)⌝) from by unfold CurAt; rfl)) $$ HC
  icases HC with ⟨%cu', H14, -⟩
  iapply HK $$ [H5 H6 H7 H8 H9 H14] [QC QS QO QZ] H1 H2 H3 H0 H4 HW
  · iapply (Entails.of_eq (show ownBufs (F := F) c = _ from by unfold ownBufs; rfl).symm)
    isplitl [H5]; · iexact H5
    isplitl [H6]; · iexact H6
    isplitl [H7]; · iexact H7
    isplitl [H8]; · iexact H8
    isplitl [H9]; · iexact H9
    iexists cu'; iexact H14
  · iapply (sems_join c)
    isplitl [QC]; · iexact QC
    isplitl [QS]; · iexact QS
    isplitl [QO]; · iexact QO
    iexact QZ
end

end Cert.KernelIdeal.Hand
-- ==== Proof.Ideal.Launch.lean ====
module
public import proofs.«01_k».proof.Proof.Ideal.Run
public import proofs.«01_k».proof.Proof.Gen.KernelIdeal.Frame
public import Idealize.ShloMosaic.Lib.Pipeline.FrameValue
public import Idealize.ShloMosaic.Lib.Pipeline.FrameBody

/-! The program's run around the kernel: nothing is lost, and the arguments stay. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrices, the one array the kernel writes by its own copies; the codes and the scales, which it reads by them. -/
def R0 : Finset (Ref sig .tc) := {main_v1_0}
def H0 : Finset (Ref sig .tc) := {main_arg0, main_v0}
theorem H0_sub : H0 ⊆ Pipeline.restRefs sig spec0 := by decide
theorem R0_sub : R0 ⊆ Pipeline.restRefs sig spec0 \ H0 := by decide
/-- The kernel's own cells. -/
abbrev osem0 : Fin 28 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29] : Fin 28 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = allSems c := by
  rw [Pipeline.ownSems0_eq_of_list c osem0 [0, 1, 2, 3, 4, 5, 6, 7, 8, 9, 10, 11, 12, 13, 14, 15, 16, 17, 18, 19, 20, 21, 22, 23, 24, 25, 26, 27] (by decide) (by decide)]; rfl
theorem hbmPts0_eq (c : Dev nD) :
    (BI.bigSep H0 (fun b => ((c : Thread nD τ).loc b) ↦{fullShare} V m c b) : sProp 𝕄)
      = iprop((M1.view.loc (c : Thread nD τ) ↦{fullShare} V m c main_arg0) ∗ (M2.view.loc (c : Thread nD τ) ↦{fullShare} V m c main_v0)) := by
  rw [BI.bigSep_eq_bigSepL_of_eq [main_arg0, main_v0] (by decide) (by decide)]; rfl
theorem ownedPts0_eq (c : Dev nD) :
    (Pipeline.owned R0 c : sProp 𝕄) = iprop(∃ f, M3.view.loc (c : Thread nD τ) ↦{fullShare} f) := by
  unfold Pipeline.owned; rw [BI.bigSep_eq_bigSepL_of_eq [main_v1_0] (by decide) (by decide)]; rfl
theorem ownBufs_eq (c : Dev nD) :
    (Pipeline.scopedRest (Ix := Unit) (Name := ℕ) (U := Pipeline.UD sig nD τ) (Lvl := ℕ) (Val := Elt F) spec0 c : sProp 𝕄) = ownBufs c := by
  rw [scopedRest0_eq]; rfl
theorem PhiDR0_eq (c : Dev nD) :
    (Pipeline.ΦDR osem0 spec0 H0 R0 (V m) c : sProp 𝕄)
      = iprop(ownBufs c ∗ (∃ r, prngReg c r) ∗ allSems c
          ∗ iprop((M1.view.loc (c : Thread nD τ) ↦{fullShare} V m c main_arg0) ∗ (M2.view.loc (c : Thread nD τ) ↦{fullShare} V m c main_v0))
          ∗ (∃ f, M3.view.loc (c : Thread nD τ) ↦{fullShare} f)) := by
  rw [Pipeline.ΦDR_eq, ownBufs_eq, ownSems00_eq, hbmPts0_eq, ownedPts0_eq]

/-! ## The body's run at the one point -/

/-- The counts as the offsets have them. -/
def cntV (o : S65.Idx → BitVec 32) : S64.Idx → BitVec 32 := fun i =>
  Scalar.subi (o (i65 ((i 0).val + 1) (by have := (i 0).isLt; exact Nat.succ_lt_succ this))) (o (i65 (i 0).val (Nat.lt_succ_of_lt (i 0).isLt)))
theorem cntV_of {o : S65.Idx → BitVec 32} {ct : S64.Idx → BitVec 32} (h : CntOK o 64 ct) : ct = cntV o := by
  funext i
  have h1 := h (i 0).val (i 0).isLt (i 0).isLt
  have h2 : i64 (i 0).val (i 0).isLt = i := by
    funext a; refine Fin.ext ?_
    fin_cases a; rfl
  rw [h2] at h1
  exact h1

abbrev ms0 (t : Fin cfg0.N) : Memref sig .tc .smem S65 .i32 := win0_0.stage (cfg0.slots t 0)
abbrev ms1 (t : Fin cfg0.N) : Memref sig .tc .smem S64 .i32 := win0_1.stage (cfg0.slots t 1)
/-- The offsets the kernel finds. -/
abbrev offs (c : Dev nD) (t : Fin cfg0.N) : S65.Idx → BitVec 32 := iblk m c 0 t

/-- What the body is handed beside the matrices, and hands back. -/
def rest (c : Dev nD) : sProp 𝕄 := iprop(ownBufs c ∗ (∃ r, prngReg c r) ∗ allSems c
          ∗ iprop((M1.view.loc (c : Thread nD τ) ↦{fullShare} V m c main_arg0) ∗ (M2.view.loc (c : Thread nD τ) ↦{fullShare} V m c main_v0)))

theorem body_run (c : Dev nD) (t : Fin cfg0.N) (hO : Ok (offN (offs m c t))) (f0 : Buf (Elt F) (M3.view.loc (c : Thread nD τ))) (Q : PUnit → sProp 𝕄) :
    iprop(rest m c ∗ (M3.view.loc (c : Thread nD τ) ↦{fullShare} f0) ∗ OW c ∗ owns (c : Thread nD τ) (ms0 t) fullShare (offs m c t) ∗ (∃ d, owns (c : Thread nD τ) (ms1 t) fullShare d)
      ∗ (rest m c -∗ (∃ g, ⌜HOK c (V m c main_arg0) (V m c main_v0) f0 (offs m c t) g⌝ ∗ M3.view.loc (c : Thread nD τ) ↦{fullShare} g) -∗ OW c
        -∗ owns (c : Thread nD τ) (ms0 t) fullShare (offs m c t) -∗ owns (c : Thread nD τ) (ms1 t) fullShare (cntV (offs m c t)) -∗ Q ⟨⟩))
      ⊢ wp frame (wpE (defs₀ (F := F)) Variants.none (c : Thread nD τ) none) Set.univ (bodyAt0 t) Q := by
  obtain rfl := fin_N0 t
  unfold rest
  rw [show ms0 t0_0 = M0 from rfl, show ms1 t0_0 = M4 from rfl]
  rw [owns_whole, owns_whole]
  iintro ⟨⟨HS, HP, HQ, H1, H2⟩, H3, HW, H0, ⟨%d, H4⟩, HK⟩
  ihave H4 := (Entails.of_eq (owns_whole _ _ _ _)) $$ H4
  iapply (whole_spec c (V m c main_arg0) (V m c main_v0) f0 (offs m c t0_0) hO)
  isplitl [HS]; · iexact HS
  isplitl [HQ]; · iexact HQ
  isplitl [H1]; · iexact H1
  isplitl [H2]; · iexact H2
  isplitl [H3]; · iexact H3
  isplitl [H0]; · iexact H0
  isplitl [H4]; · iexists d; iexact H4
  isplitl [HW]; · iexact HW
  iintro HS HQ H1 H2 H3 H0 ⟨%ct, H4, %hct⟩ HW
  rw [cntV_of hct]
  iapply HK $$ [HS HP HQ H1 H2] H3 HW H0 H4
  isplitl [HS]; · iexact HS
  isplitl [HP]; · iexact HP
  isplitl [HQ]; · iexact HQ
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

/-! ## The frame -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => cntV (offs m c t)
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = cntV (offs m c t) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

theorem sound_body (c : Dev nD) (t : Fin cfg0.N) (hO : Ok (offN (offs m c t))) :
    bodyPre m c t ⊢ wp frame (wpE (defs₀ (F := F)) Variants.none c none) Set.univ (bodyAt0 t) (fun _ => bodyPost m c t) := by
  unfold bodyPre bodyPost
  simp only [before0_0 m (dats m 0 c) (A_eq m c 0) (after0 m c)]
  rw [show (dats m 0 c).Φ t.succ = (dats m 0 c).Φ t.castSucc from rfl, after0, after1]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  iintro ⟨⟨HS, HP, HQ, ⟨H1, H2⟩, ⟨%f0, H3⟩⟩, ⟨%W, -, HW⟩, ⟨%d0, H0⟩, ⟨%d1, H4⟩⟩
  iapply (body_run m c t hO f0)
  isplitl [HS HP HQ H1 H2]
  · iapply (Entails.of_eq (show rest m c = _ from by unfold rest; rfl).symm)
    isplitl [HS]; · iexact HS
    isplitl [HP]; · iexact HP
    isplitl [HQ]; · iexact HQ
    isplitl [H1]; · iexact H1
    iexact H2
  isplitl [H3]; · iexact H3
  isplitl [HW]
  · unfold OW; iexists W; iexact HW
  isplitl [H0]; · iexact H0
  isplitl [H4]; · iexists _; iexact H4
  iintro HR ⟨%g, -, H3⟩ HW H0 H4
  ihave HR := (Entails.of_eq (show rest m c = _ from by unfold rest; rfl)) $$ HR
  icases HR with ⟨HS, HP, HQ, H1, H2⟩
  isplitl [HS HP HQ H1 H2 H3]
  · isplitl [HS]; · iexact HS
    isplitl [HP]; · iexact HP
    isplitl [HQ]; · iexact HQ
    isplitl [H1 H2]
    · isplitl [H1]; · iexact H1
      iexact H2
    iexists g; iexact H3
  isplitl [HW]
  · ihave HW := (Entails.of_eq (show OW (F := F) c = _ from by unfold OW; rfl)) $$ HW
    icases HW with ⟨%W', HW'⟩
    iexists W'; isplitr; · ipureintro; exact fun _ _ => Or.inl trivial
    iexact HW'
  isplitl [H0]; · iexact H0
  iexact H4

theorem body_obligation (hO : ∀ c t, Ok (offN (offs m c t))) (c : Dev nD) : BodyObligation (dats (F := F) m 0 c) (defs₀ (F := F)) Variants.none () Set.univ := fun t => by
  rw [bigSep_W0, bigSep_W0, defs₀_row]
  exact triple_restated (sound_body m c t (hO c t)) rfl .rfl fun _ => .rfl

set_option backward.isDefEq.respectTransparency.types false in
theorem run_main (hO : ∀ c t, Ok (offN (offs m c t))) : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m hO c).loose) (hshare := fun c => (dats m 0 c).share_full fun _ => rfl)
    (howed := fun _ _ => rfl) (V := V m) (hmain := hmain m Variants.none) (hA := A_eq m)
    (hin := fun _ => .rfl) (hout := fun _ => .rfl)

/-- The kernel ends with its arguments as they were and every semaphore at zero. -/
theorem frame_of_ok (hO : ∀ c t, Ok (offN (offs m c t))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).1 0).trans (((dats m 0 c).arrAt_in 0 rfl _).trans ((A_eq m c 0).trans (V_main_arg2 m c)))⟩, h.2⟩) (run_main m ρ hO)

end Cert.KernelIdeal.Hand
-- ==== Proof.Offsets.lean ====
/-
  What the precondition says of the offsets: as natural numbers they do not fall, and the last is at most 32768.
-/
module

public import Idealize.ShloMosaic.PureOps
public import Idealize.ShloMosaic.Lib.Affine
public import Idealize.ShloMosaic.Lib.Pipeline.Value
public import Idealize.ShloMosaic.Lib.ReduceAll
public import proofs.«01_k».proof.Pre_sorted_offsets
public import proofs.«01_k».proof.Proof.Sched

@[expose] public section
namespace Cert.Offsets
open Idealize.ShloMosaic Cert.Pre_sorted_offsets Cert.Pre_sorted_offsets.Facts

variable {F : FTy → Type} [FloatOps F]

/-- The index of offset `e`. -/
def ix (e : ℕ) (h : e < 65) : S65.Idx := fun a => ⟨e, by fin_cases a; exact h⟩
def ix64 (e : ℕ) (h : e < 64) : S64.Idx := fun a => ⟨e, by fin_cases a; exact h⟩

theorem sge_toNat {a b : BitVec 32} (h : b.toInt ≤ a.toInt) (hb : 0 ≤ b.toInt) : b.toNat ≤ a.toNat ∧ 0 ≤ a.toInt ∧ a.toInt = a.toNat ∧ b.toInt = b.toNat := by
  have h1 := BitVec.toInt_eq_toNat_cond a
  have h2 := BitVec.toInt_eq_toNat_cond b
  have := a.isLt; have := b.isLt
  split at h1 <;> split at h2 <;> omega

theorem one_cell [Facts] (off : Fin 1 → ℕ) (o : IVec S65 32) (h : S65.Slices off S1) (k : ℕ) (hk : k < 65) (e : off 0 = k) (j : S_.Idx) :
    shapeCast S_ (extractStridedSlice S1 off o h) shapeCasts_S1_S_ j = o (ix k hk) := by
  unfold shapeCast
  refine extractStridedSlice_apply off o h _ _ fun a => ?_
  obtain rfl : a = 0 := Fin.fin_one_eq_zero a
  have h1 := (Shape.reshapeEquiv (shapeCasts_S1_S_) j (Fin.cast h.1.symm 0)).isLt
  have h2 : (Shape.reshapeEquiv (shapeCasts_S1_S_) j (Fin.cast h.1.symm 0)).val < 1 := h1
  show k = _
  omega

theorem of_pre [Facts] (x : FVec F S32768x1024 .fp8e4m3) (y : FVec F S32768x16 .f32) (o : IVec S65 32)
    (h : fn (F := F) x y o = fun _ => 1#1) :
    (0 ≤ (o (ix 0 (by decide))).toInt) ∧ (∀ e (h : e < 64), (o (ix e (Nat.lt_succ_of_lt h))).toInt ≤ (o (ix (e + 1) (Nat.succ_lt_succ h))).toInt)
      ∧ (o (ix 64 (by decide))).toInt ≤ 32768 := by
  have h0 := congrFun h (fun a => a.elim0)
  unfold fn at h0
  obtain ⟨h1, h2⟩ := IntOp.andi_eq_one.1 h0
  obtain ⟨h3, h4⟩ := IntOp.andi_eq_one.1 h1
  haveI : Subsingleton S_.Idx := ⟨fun a b => funext fun i => i.elim0⟩
  refine ⟨?_, fun e he => ?_, ?_⟩
  · have := IntOp.cmpi_sge.1 h3
    rw [one_cell _ _ _ 0 (by decide) rfl] at this
    exact this
  · have := IntOp.cmpi_sge.1 (Host.reduce_andi_all _ _ _ _ _ h4 (ix64 e he))
    dsimp only at this
    have e1 := extractStridedSlice_apply ![1] o slices_S65_S64_1 (ix64 e he) (ix (e + 1) (Nat.succ_lt_succ he)) (fun a => by fin_cases a; exact Nat.add_comm e 1)
    have e0 := extractStridedSlice_apply ![0] o slices_S65_S64_0 (ix64 e he) (ix e (Nat.lt_succ_of_lt he)) (fun a => by fin_cases a; exact (Nat.zero_add e).symm)
    rw [e1, e0] at this
    exact this
  · have := IntOp.cmpi_sle.1 h2
    rw [one_cell _ _ _ 64 (by decide) rfl] at this
    exact this

/-- The offsets as numbers. -/
def num (o : S65.Idx → BitVec 32) (e : ℕ) : ℕ := if h : e < 65 then (o (ix e h)).toNat else 0

theorem ok_of_pre [Facts] (x : FVec F S32768x1024 .fp8e4m3) (y : FVec F S32768x16 .f32) (o : IVec S65 32)
    (h : fn (F := F) x y o = fun _ => 1#1) : Cert.Sched.Ok (num o) := by
  obtain ⟨h0, hm, ht⟩ := of_pre x y o h
  have hn : ∀ e (he : e < 65), 0 ≤ (o (ix e he)).toInt := by
    intro e
    induction e with
    | zero => exact fun _ => h0
    | succ e ih => exact fun he => le_trans (ih (by omega)) (hm e (by omega))
  refine ⟨fun e he => ?_, ?_⟩
  · unfold num; rw [dif_pos (by omega), dif_pos (by omega)]
    exact (sge_toNat (hm e he) (hn e _)).1
  · unfold num; rw [dif_pos (by omega)]
    have h1 := (sge_toNat (le_refl _) (hn 64 (by omega))).2.2.1
    omega
end Cert.Offsets
end
-- ==== Proof.Ideal.KernelFrame.lean ====
/-
  The kernel's frame: sorted offsets make the launch's run safe, and it leaves the arguments as they were.
-/
module
public import proofs.«01_k».proof.Defs
public import proofs.«01_k».proof.Proof.Ideal.Launch
public import proofs.«01_k».proof.Proof.Offsets
public import Idealize.ShloMosaic.Lib.Pipeline.ValueKit

@[expose] public section
noncomputable section
namespace Cert.KernelIdeal.Hand
open Cert.KernelIdeal Cert.KernelIdeal.Gen Cert.Sched
open Idealize.ShloMosaic Idealize.ShloMosaic.TcCoe Idealize.ShloMosaic.Pipeline
variable {F : FTy → Type} [FloatOps F]

/-- The window of the offsets shows the argument. -/
theorem offs_eq (m : (ℓ : Loc nD τ sig) → Buf (Elt F) ℓ) (c : Dev nD) (t : Fin cfg0.N) :
    offs m c t = m ((c.tc : Thread nD τ).loc main_arg2) := by
  unfold offs iblk
  obtain rfl := fin_N0 t
  show View.read (Elt F) ((cfg0.win 0).blk t0_0).view (V m c main_arg2) = _
  rw [V_main_arg2]
  funext i
  refine congrArg (m ((c.tc : Thread nD τ).loc main_arg2)) (funext fun a => Fin.ext ?_)
  obtain rfl : a = 0 := Fin.fin_one_eq_zero a
  have e : ∀ t : Fin cfg0.N, win0_0.index t = ![0] := by decide +kernel
  have hb := Window.rect_emb_val win0_0 t0_0 i 0
  rw [e] at hb
  exact hb.trans (by show 0 * _ + _ = _; omega)

theorem ok_offs [Cert.Pre_sorted_offsets.Facts] (m : (ℓ : Loc nD τ sig) → Buf (Elt F) ℓ)
    (h : ∀ c : Dev nD, Cert.Pre_sorted_offsets.fn (F := F) (m ((c.tc : Thread nD τ).loc main_arg0)) (m ((c.tc : Thread nD τ).loc main_arg1)) (m ((c.tc : Thread nD τ).loc main_arg2)) = fun _ => 1#1)
    (c : Dev nD) (t : Fin cfg0.N) : Ok (offN (offs m c t)) := by
  rw [offs_eq]
  exact Cert.Offsets.ok_of_pre _ _ _ (h c)

variable [Cert.Pre_sorted_offsets.Facts]
theorem frame_pre (m : (ℓ : Loc nD τ sig) → Buf (Elt F) ℓ) (ρ : Dev nD → PrngReg)
    (h : ∀ c : Dev nD, Cert.Pre_sorted_offsets.fn (F := F) (m ((c.tc : Thread nD τ).loc main_arg0)) (m ((c.tc : Thread nD τ).loc main_arg1)) (m ((c.tc : Thread nD τ).loc main_arg2)) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := frame_of_ok m ρ (ok_offs m h)

end Cert.KernelIdeal.Hand
end
-- ==== Proof.Same.lean ====
/-
  The printed kernel and its ideal form are one program, whatever the floats are, so the frame of the one is the frame of the other.
-/
module
public import proofs.«01_k».proof.Proof.SameBody
public import proofs.«01_k».proof.Proof.Gen.Kernel
public import proofs.«01_k».proof.Proof.Ideal.KernelFrame

@[expose] public section
noncomputable section
namespace Cert.Same
open Idealize.ShloMosaic Idealize.SL.Sem

section
variable {F : FTy → Type} [FloatOps F] [Cert.Kernel.Facts] [Cert.KernelIdeal.Facts]
theorem defs0_eq : Cert.Kernel.defs₀ (F := F) = Cert.KernelIdeal.defs₀ (F := F) := by
  refine congrArg Defs.onTc (funext fun l => ?_)
  obtain rfl : l = 0 := Fin.fin_one_eq_zero l
  funext ⟨t, s⟩
  dsimp only
  rw [hess_eq]
theorem defs_eq : Cert.Kernel.defs (F := F) = Cert.KernelIdeal.defs (F := F) := by
  unfold Cert.Kernel.defs Cert.KernelIdeal.defs
  rw [defs0_eq]
  rfl
end

theorem frame [Cert.Pre_sorted_offsets.Facts] (m : (ℓ : Loc Cert.Kernel.nD Cert.Kernel.τ Cert.Kernel.sig) → Buf (Elt Bits) ℓ)
    (ρ : Dev Cert.Kernel.nD → PrngReg) (h : Cert.Pre_Kernel m) :
    θ_run (@Cert.Kernel.defs Bits _ Cert.Kernel.Gen.facts) (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [@defs_eq Bits _ Cert.Kernel.Gen.facts Cert.KernelIdeal.Gen.facts, main_eq]
  exact Cert.KernelIdeal.Hand.frame_pre (F := Bits) m ρ h

end Cert.Same
end
-- ==== Proof.Ideal.Tile.lean ====
module
public import proofs.«01_k».proof.Proof.Ideal.Unit3
public import Idealize.ShloMosaic.Lib.Pointwise
public import Idealize.ShloMosaic.Lib.ValueIdx
public import Idealize.ShloMosaic.Lib.Pipeline.Value

/-! One tile's scaled codes, entry by entry. -/

@[expose] public section
noncomputable section
namespace Cert.KernelIdeal.Hand
open Cert.KernelIdeal Cert.KernelIdeal.Gen Cert.Sched Cert.Words
open Idealize.ShloMosaic Idealize.ShloMosaic.TcCoe
/-- The block of 64 columns from row `a` of the codes, each row times the row `b` of the scales. -/
def blk (a b : ℕ) (hC : S1024x256.Slices ![a, 0] S64x256) (hM : S16x256.Slices ![b, 0] S1x256) (M : FVec Ideal S16x256 .f32) (C : FVec Ideal S1024x256 .fp8e4m3) : FVec Ideal S64x256 .bf16 :=
  shapeCast S64x256 (shapeCast S64x256 (mulf (shapeCast S4x16x256 (extf .bf16 (extractStridedSlice S64x256 ![a, 0] C hC) bitsLt_fp8e4m3_bf16) shapeCasts_S64x256_S4x16x256)
    (broadcastTo S4x16x256 (shapeCast S1x16x256 (truncf .bf16 (broadcastTo S16x256 (shapeCast S1x256 (extractStridedSlice S1x256 ![b, 0] M hM) shapeCasts_S1x256_S1x256) broadcasts_S1x256_S16x256) bitsLt_bf16_f32) shapeCasts_S16x256_S1x16x256) broadcasts_S1x16x256_S4x16x256)) shapeCasts_S4x16x256_S64x256) shapeCasts_S64x256_S64x256
theorem blk_apply (a b : ℕ) (hC) (hM) (ha : a + 64 ≤ 1024) (hb : b < 16) (M : FVec Ideal S16x256 .f32) (C : FVec Ideal S1024x256 .fp8e4m3) (i : Fin 64) (k : Fin 256) :
    blk a b hC hM M C (ix2 i k) = (C (ix2 ⟨a + i, by omega⟩ k) : EReal) * M (ix2 ⟨b, hb⟩ k) := by
  unfold blk
  pointwise
/-- Entry `k` of a tile that starts at `s` is one of the rows `max lo n` to `hi`. -/
def inT (lo hi n s : BitVec 32) (k : Fin 256) : Prop :=
  (Scalar.maxsi lo n).toInt ≤ (s + BitVec.ofNat 32 k).toInt ∧ (s + BitVec.ofNat 32 k).toInt < hi.toInt
instance (lo hi n s : BitVec 32) (k : Fin 256) : Decidable (inT lo hi n s k) := by unfold inT; infer_instance
theorem mk_apply (lo hi n s : BitVec 32) (S : S1x16x256.Idx → Ideal .f32) (b : Fin 16) (k : Fin 256) :
    (k0_pay1 (F := Ideal) lo hi n s (iota .tc S16x256 32 [1] iota_S16x256_d1_w32) S (ix2 b k) : EReal)
      = if inT lo hi n s k then S (ix3 0 b k) else 0 := by
  unfold k0_pay1 inT
  pointwise
  have e : IntOp.andi (IntOp.cmpi CmpIPredicate.sge (IntOp.addi s (BitVec.ofNat 32 k.val)) (Scalar.maxsi lo n))
        (IntOp.cmpi CmpIPredicate.slt (IntOp.addi s (BitVec.ofNat 32 k.val)) hi) = 1#1 ↔ (Scalar.maxsi lo n).toInt ≤ (s + BitVec.ofNat 32 k.val).toInt ∧ (s + BitVec.ofNat 32 k.val).toInt < hi.toInt := by
    rw [IntOp.andi_eq_one, IntOp.cmpi_sge, IntOp.cmpi_slt]; rfl
  by_cases hp : inT lo hi n s k
  · rw [e.mpr hp]; exact (if_pos hp).symm
  · exact (if_neg fun h => hp (e.mp h)).trans (if_neg hp).symm
theorem ct_apply (C : S1x256x1024.Idx → Ideal .fp8e4m3) (d : Fin 1024) (k : Fin 256) :
    (k0_pay2 (F := Ideal) C (ix2 d k)) = C (ix3 0 k d) := by
  unfold k0_pay2
  pointwise
def tG (M : S16x256.Idx → EReal) (C : S1x256x1024.Idx → EReal) (y : S1024x256.Idx) : EReal :=
  C (ix3 0 (y 1) (y 0)) * M (ix2 ⟨(y 0).val / 64, by have := (y 0).isLt; change (y 0).val < 1024 at this; omega⟩ (y 1))
theorem piece_ok (a b : ℕ) (hC) (hM) (inb) (hab : a = 64 * b) (hb : b < 16) (M : FVec Ideal S16x256 .f32) (C : S1x256x1024.Idx → Ideal .fp8e4m3) (x : S64x256.Idx) :
    blk a b hC hM M (k0_pay2 C) x = tG M C ((Rect.unit (s := S1024x256) ![a, 0] S64x256.size inb).emb x) := by
  obtain ⟨i, k, rfl⟩ : ∃ (i : Fin 64) (k : Fin 256), x = ix2 i k := ⟨x 0, x 1, by funext a; fin_cases a <;> rfl⟩
  rw [blk_apply a b hC hM (by omega) hb, ct_apply]
  have e : (Rect.unit (s := S1024x256) ![a, 0] S64x256.size inb).emb (ix2 i k) = ix2 (⟨a + i, by omega⟩ : Fin 1024) k := by
    funext t; refine Fin.ext ?_; fin_cases t
    · show a + 1 * i.val = a + i.val; omega
    · show 0 + 1 * k.val = k.val; omega
  rw [e]; unfold tG
  have e2 : (⟨b, hb⟩ : Fin 16) = ⟨(a + i.val) / 64, by omega⟩ := Fin.ext (by show b = (a + i.val) / 64; omega)
  rw [e2]; rfl
theorem aA_apply (lo hi n s : BitVec 32) (S : S1x16x256.Idx → Ideal .f32) (C : S1x256x1024.Idx → Ideal .fp8e4m3) (d : Fin 1024) (k : Fin 256) :
    (aA (F := Ideal) lo hi n s S C (ix2 d k) : EReal) = if inT lo hi n s k then (C (ix3 0 k d) : EReal) * S (ix3 0 ⟨d.val / 64, by omega⟩ k) else 0 := by
  have h := View.canon_apply_of_pieces (Val := Elt Ideal) (e := .bf16) (tG (k0_pay1 (F := Ideal) lo hi n s (iota .tc S16x256 32 [1] iota_S16x256_d1_w32) S) C) (aL (F := Ideal) lo hi n s S C) ?_ (ix2 d k) (aL_cover lo hi n s S C _)
  · refine (show aA (F := Ideal) lo hi n s S C (ix2 d k) = _ from h).trans ?_
    unfold tG
    show (C (ix3 0 k d) : EReal) * k0_pay1 (F := Ideal) lo hi n s (iota .tc S16x256 32 [1] iota_S16x256_d1_w32) S (ix2 ⟨d.val / 64, _⟩ k) = _
    rw [mk_apply]
    split
    · rfl
    · exact mul_zero _
  · intro p hp x
    simp only [aL, List.mem_cons, List.not_mem_nil, or_false] at hp
    rcases hp with rfl | rfl | rfl | rfl | rfl | rfl | rfl | rfl | rfl | rfl | rfl | rfl | rfl | rfl | rfl | rfl
    · exact piece_ok 960 15 slices_S1024x256_o960_0_S64x256 slices_S16x256_o15_0_S1x256 inb_S1024x256_S64x256_960_0 (by decide) (by decide) _ C x
    · exact piece_ok 896 14 slices_S1024x256_o896_0_S64x256 slices_S16x256_o14_0_S1x256 inb_S1024x256_S64x256_896_0 (by decide) (by decide) _ C x
    · exact piece_ok 832 13 slices_S1024x256_o832_0_S64x256 slices_S16x256_o13_0_S1x256 inb_S1024x256_S64x256_832_0 (by decide) (by decide) _ C x
    · exact piece_ok 768 12 slices_S1024x256_o768_0_S64x256 slices_S16x256_o12_0_S1x256 inb_S1024x256_S64x256_768_0 (by decide) (by decide) _ C x
    · exact piece_ok 704 11 slices_S1024x256_o704_0_S64x256 slices_S16x256_o11_0_S1x256 inb_S1024x256_S64x256_704_0 (by decide) (by decide) _ C x
    · exact piece_ok 640 10 slices_S1024x256_o640_0_S64x256 slices_S16x256_o10_0_S1x256 inb_S1024x256_S64x256_640_0 (by decide) (by decide) _ C x
    · exact piece_ok 576 9 slices_S1024x256_o576_0_S64x256 slices_S16x256_o9_0_S1x256 inb_S1024x256_S64x256_576_0 (by decide) (by decide) _ C x
    · exact piece_ok 512 8 slices_S1024x256_o512_0_S64x256 slices_S16x256_o8_0_S1x256 inb_S1024x256_S64x256_512_0 (by decide) (by decide) _ C x
    · exact piece_ok 448 7 slices_S1024x256_o448_0_S64x256 slices_S16x256_o7_0_S1x256 inb_S1024x256_S64x256_448_0 (by decide) (by decide) _ C x
    · exact piece_ok 384 6 slices_S1024x256_o384_0_S64x256 slices_S16x256_o6_0_S1x256 inb_S1024x256_S64x256_384_0 (by decide) (by decide) _ C x
    · exact piece_ok 320 5 slices_S1024x256_o320_0_S64x256 slices_S16x256_o5_0_S1x256 inb_S1024x256_S64x256_320_0 (by decide) (by decide) _ C x
    · exact piece_ok 256 4 slices_S1024x256_o256_0_S64x256 slices_S16x256_o4_0_S1x256 inb_S1024x256_S64x256_256_0 (by decide) (by decide) _ C x
    · exact piece_ok 192 3 slices_S1024x256_o192_0_S64x256 slices_S16x256_o3_0_S1x256 inb_S1024x256_S64x256_192_0 (by decide) (by decide) _ C x
    · exact piece_ok 128 2 slices_S1024x256_o128_0_S64x256 slices_S16x256_o2_0_S1x256 inb_S1024x256_S64x256_128_0 (by decide) (by decide) _ C x
    · exact piece_ok 64 1 slices_S1024x256_o64_0_S64x256 slices_S16x256_o1_0_S1x256 inb_S1024x256_S64x256_64_0 (by decide) (by decide) _ C x
    · exact piece_ok 0 0 slices_S1024x256_o0_0_S64x256 slices_S16x256_o0_0_S1x256 inb_S1024x256_S64x256_0_0 (by decide) (by decide) _ C x

end Cert.KernelIdeal.Hand
end
-- ==== Proof.Ideal.SlotV.lean ====
module
public import proofs.«01_k».proof.Proof.Ideal.Unit6
public import Idealize.ShloMosaic.Lib.Pointwise
public import Idealize.ShloMosaic.Lib.ValueIdx
public import Idealize.ShloMosaic.Lib.Pipeline.Value

/-! Products of blocks, and stores into an output slot, entry by entry. -/

@[expose] public section
noncomputable section
namespace Cert.KernelIdeal.Hand
open Cert.KernelIdeal Cert.KernelIdeal.Gen Cert.Sched Cert.Words
open Idealize.ShloMosaic Idealize.ShloMosaic.TcCoe

variable (c : Dev nD)
theorem m25 (l r : FVec Ideal S256x256 .bf16) (i j : Fin 256) :
    (k0_pay25 (F := Ideal) l r (ix3 0 i j) : EReal) = ∑ k : Fin 256, (l (ix2 i k) : EReal) * r (ix2 j k) := by
  unfold k0_pay25 k0_pay24; pointwise
theorem m28 (l : FVec Ideal S512x256 .bf16) (r : FVec Ideal S256x256 .bf16) (i : Fin 512) (j : Fin 256) :
    (k0_pay28 (F := Ideal) l r (ix3 0 i j) : EReal) = ∑ k : Fin 256, (l (ix2 i k) : EReal) * r (ix2 j k) := by
  unfold k0_pay28 k0_pay27; pointwise
theorem m31 (l : FVec Ideal S768x256 .bf16) (r : FVec Ideal S256x256 .bf16) (i : Fin 768) (j : Fin 256) :
    (k0_pay31 (F := Ideal) l r (ix3 0 i j) : EReal) = ∑ k : Fin 256, (l (ix2 i k) : EReal) * r (ix2 j k) := by
  unfold k0_pay31 k0_pay30; pointwise
theorem m3s (l : FVec Ideal S1024x256 .bf16) (r : FVec Ideal S256x256 .bf16) (i : Fin 1024) (j : Fin 256) :
    (pay3s (F := Ideal) l r (ix3 0 i j) : EReal) = ∑ k : Fin 256, (l (ix2 i k) : EReal) * r (ix2 j k) := by
  unfold pay3s dot3; pointwise
theorem m26 (l r : FVec Ideal S256x256 .bf16) (v : Vec Ideal S1x256x256 .f32) (i j : Fin 256) :
    (k0_pay26 (F := Ideal) l r v (ix3 0 i j) : EReal) = v (ix3 0 i j) + ∑ k : Fin 256, (l (ix2 i k) : EReal) * r (ix2 j k) := by
  unfold k0_pay26 k0_pay24; pointwise
theorem m29 (l : FVec Ideal S512x256 .bf16) (r : FVec Ideal S256x256 .bf16) (v : Vec Ideal S1x512x256 .f32) (i : Fin 512) (j : Fin 256) :
    (k0_pay29 (F := Ideal) l r v (ix3 0 i j) : EReal) = v (ix3 0 i j) + ∑ k : Fin 256, (l (ix2 i k) : EReal) * r (ix2 j k) := by
  unfold k0_pay29 k0_pay27; pointwise
theorem m32 (l : FVec Ideal S768x256 .bf16) (r : FVec Ideal S256x256 .bf16) (v : Vec Ideal S1x768x256 .f32) (i : Fin 768) (j : Fin 256) :
    (k0_pay32 (F := Ideal) l r v (ix3 0 i j) : EReal) = v (ix3 0 i j) + ∑ k : Fin 256, (l (ix2 i k) : EReal) * r (ix2 j k) := by
  unfold k0_pay32 k0_pay30; pointwise
theorem m3a (l : FVec Ideal S1024x256 .bf16) (r : FVec Ideal S256x256 .bf16) (v : Vec Ideal S1x1024x256 .f32) (i : Fin 1024) (j : Fin 256) :
    (pay3a (F := Ideal) l r v (ix3 0 i j) : EReal) = v (ix3 0 i j) + ∑ k : Fin 256, (l (ix2 i k) : EReal) * r (ix2 j k) := by
  unfold pay3a dot3; pointwise
theorem mirP_apply (v : Vec Ideal S1x256x256 .f32) (i j : Fin 256) : mirP (F := Ideal) v (ix3 0 i j) = v (ix3 0 j i) := by
  unfold mirP; pointwise

/-- Rows of the scaled codes, read. -/
theorem ld_rows {h : ℕ} (A : S1024x256.Idx → Ideal .bf16) (a : ℕ) (inb : ∀ t, (![a, 0] : Fin 2 → ℕ) t + (⟨2, ![h, 256]⟩ : Shape).size t ≤ S1024x256.size t) (i : Fin h) (k : Fin 256) (ha : a + i.val < 1024) :
    ldA (F := Ideal) A (Rect.unit (s := S1024x256) ![a, 0] (⟨2, ![h, 256]⟩ : Shape).size inb) (ix2 i k) = A (ix2 ⟨a + i, ha⟩ k) := by
  refine congrArg A (funext fun t => Fin.ext ?_)
  fin_cases t
  · show a + 1 * i.val = a + i.val; omega
  · show 0 + 1 * k.val = k.val; omega
theorem rd_rows {h : ℕ} (A : S1024x256.Idx → Ideal .bf16) (a : ℕ) (inb : ∀ t, (![a, 0] : Fin 2 → ℕ) t + (⟨2, ![h, 256]⟩ : Shape).size t ≤ S1024x256.size t) (i : Fin h) (k : Fin 256) (ha : a + i.val < 1024) :
    rd7 (F := Ideal) A (Rect.unit (s := S1024x256) ![a, 0] (⟨2, ![h, 256]⟩ : Shape).size inb) (ix2 i k) = A (ix2 ⟨a + i, ha⟩ k) := by
  refine congrArg A (funext fun t => Fin.ext ?_)
  fin_cases t
  · show a + 1 * i.val = a + i.val; omega
  · show 0 + 1 * k.val = k.val; omega

/-! ## Stores into a slot -/
variable {h : ℕ}
abbrev rc (s : Fin 11) (x y : ℕ) (hh : ∀ a, (![s.val, x, y] : Fin 3 → ℕ) a + (⟨3, ![1, h, 256]⟩ : Shape).size a ≤ S11x1024x1024.size a) : Rect S11x1024x1024 :=
  Rect.unit (s := S11x1024x1024) ![s.val, x, y] (⟨3, ![1, h, 256]⟩ : Shape).size hh
theorem emb_rc (s : Fin 11) (x y : ℕ) (hh) (i : Fin h) (j : Fin 256) (a b : Fin 1024) (ha : a.val = x + i.val) (hb : b.val = y + j.val) :
    (M8.access (rc (h := h) s x y hh)).emb (ix3 0 i j) = (ix3 s a b : S11x1024x1024.Idx) := by
  funext t; refine Fin.ext ?_; fin_cases t
  · show s.val + 1 * 0 = s.val; omega
  · show x + 1 * i.val = a.val; omega
  · show y + 1 * j.val = b.val; omega
theorem st_hit (s : Fin 11) (x y : ℕ) (hh) (f : BufO Ideal c) (w : (⟨3, ![1, h, 256]⟩ : Shape).Idx → Ideal .f32) (a b : Fin 1024) (i : Fin h) (j : Fin 256) (ha : a.val = x + i.val) (hb : b.val = y + j.val) :
    (M8.access (rc (h := h) s x y hh)).write (Elt Ideal) f w Finset.univ (ix3 s a b : S11x1024x1024.Idx) = w (ix3 0 i j) := by
  rw [← emb_rc s x y hh i j a b ha hb, View.write_emb_of_mem _ _ (Finset.mem_univ _)]; rfl
theorem st_miss (s : Fin 11) (x y : ℕ) (hh) (f : BufO Ideal c) (w : (⟨3, ![1, h, 256]⟩ : Shape).Idx → Ideal .f32) (a b : Fin 1024) (hm : ¬ (x ≤ a.val ∧ a.val < x + h ∧ y ≤ b.val ∧ b.val < y + 256)) :
    (M8.access (rc (h := h) s x y hh)).write (Elt Ideal) f w Finset.univ (ix3 s a b : S11x1024x1024.Idx) = f (ix3 s a b : S11x1024x1024.Idx) := by
  refine View.write_of_not_mem _ _ _ fun hmem => hm ?_
  obtain ⟨z, -, hz⟩ := Finset.mem_map.mp hmem
  have h1 : x + 1 * (z 1).val = a.val := congrArg (fun g : S11x1024x1024.Idx => (g 1).val) hz
  have h2 : y + 1 * (z 2).val = b.val := congrArg (fun g : S11x1024x1024.Idx => (g 2).val) hz
  have h3 : (z 1).val < h := (z 1).isLt
  have h4 : (z 2).val < 256 := (z 2).isLt
  omega
theorem rd_hit (s : Fin 11) (x y : ℕ) (hh) (f : BufO Ideal c) (a b : Fin 1024) (i : Fin h) (j : Fin 256) (ha : a.val = x + i.val) (hb : b.val = y + j.val) :
    (M8.access (rc (h := h) s x y hh)).read (Elt Ideal) f (ix3 0 i j) = f (ix3 s a b : S11x1024x1024.Idx) := by
  rw [← emb_rc s x y hh i j a b ha hb]; rfl

end Cert.KernelIdeal.Hand
end
-- ==== Proof.Ideal.SlotAcc.lean ====
module
public import proofs.«01_k».proof.Proof.Ideal.SlotV
public import Idealize.ShloMosaic.Lib.ValueIdx

/-! What a finished slot holds, entry by entry. -/

@[expose] public section
noncomputable section
namespace Cert.KernelIdeal.Hand
open Cert.KernelIdeal Cert.KernelIdeal.Gen Cert.Sched Cert.Words
open Idealize.ShloMosaic Idealize.ShloMosaic.TcCoe

variable (c : Dev nD)
theorem rd_at {h : ℕ} (A : S1024x256.Idx → Ideal .bf16) (a : ℕ) (inb : ∀ t, (![a, 0] : Fin 2 → ℕ) t + (⟨2, ![h, 256]⟩ : Shape).size t ≤ S1024x256.size t) (i : Fin h) (k : Fin 256) (x : Fin 1024) (hx : x.val = a + i.val) :
    rd7 (F := Ideal) A (Rect.unit (s := S1024x256) ![a, 0] (⟨2, ![h, 256]⟩ : Shape).size inb) (ix2 i k) = A (ix2 x k) := by
  rw [rd_rows A a inb i k (hx ▸ x.isLt)]
  exact congrArg (fun z => A (ix2 z k)) (Fin.ext hx.symm)
theorem ld_at {h : ℕ} (A : S1024x256.Idx → Ideal .bf16) (a : ℕ) (inb : ∀ t, (![a, 0] : Fin 2 → ℕ) t + (⟨2, ![h, 256]⟩ : Shape).size t ≤ S1024x256.size t) (i : Fin h) (k : Fin 256) (x : Fin 1024) (hx : x.val = a + i.val) :
    ldA (F := Ideal) A (Rect.unit (s := S1024x256) ![a, 0] (⟨2, ![h, 256]⟩ : Shape).size inb) (ix2 i k) = A (ix2 x k) := by
  rw [ld_rows A a inb i k (hx ▸ x.isLt)]
  exact congrArg (fun z => A (ix2 z k)) (Fin.ext hx.symm)
/-- An entry as a number. -/
abbrev vE (x : EReal) : EReal := x
/-- Entry `(a, b)` of the product of a tile with itself. -/
def TT (A : S1024x256.Idx → Ideal .bf16) (a b : Fin 1024) : EReal := ∑ k : Fin 256, (A (ix2 a k) : EReal) * A (ix2 b k)
theorem s0_hit (s : Fin 11) (A : S1024x256.Idx → Ideal .bf16) (f : BufO Ideal c) (a b : Fin 1024) (ha : a.val < 256) (hb : b.val / 256 = 0) :
    vE (stO256 (F := Ideal) c s 0 0 (inb256s s) f (k0_pay25 (ldA A r256) (ldA A r256)) (ix3 s a b : S11x1024x1024.Idx)) = TT A a b := by
  refine (st_hit (h := 256) c s 0 0 _ _ _ a b (⟨a.val, ha⟩ : Fin 256) (⟨b.val - 0, by omega⟩ : Fin 256) (by show a.val = 0 + a.val; omega) (by show b.val = 0 + (b.val - 0); omega)).trans ?_
  refine (m25 _ _ _ _).trans ?_
  exact Finset.sum_congr rfl fun k _ => congrArg₂ (fun p q : EReal => p * q) (ld_at A 0 _ _ k a (by show a.val = 0 + a.val; omega)) (ld_at A 0 _ _ k b (by show b.val = 0 + (b.val - 0); omega))
theorem s0_miss (s : Fin 11) (f : BufO Ideal c) (w) (a b : Fin 1024) (hb : b.val / 256 ≠ 0) :
    stO256 (F := Ideal) c s 0 0 (inb256s s) f w (ix3 s a b : S11x1024x1024.Idx) = f (ix3 s a b : S11x1024x1024.Idx) :=
  st_miss (h := 256) c s 0 0 _ _ _ a b (by omega)
theorem a0_hit (s : Fin 11) (A : S1024x256.Idx → Ideal .bf16) (f : BufO Ideal c) (a b : Fin 1024) (ha : a.val < 256) (hb : b.val / 256 = 0) :
    vE (acc0 (F := Ideal) c s A f (ix3 s a b : S11x1024x1024.Idx)) = vE (f (ix3 s a b : S11x1024x1024.Idx)) + TT A a b := by
  unfold acc0
  refine (st_hit (h := 256) c s 0 0 _ _ _ a b (⟨a.val, ha⟩ : Fin 256) (⟨b.val - 0, by omega⟩ : Fin 256) (by show a.val = 0 + a.val; omega) (by show b.val = 0 + (b.val - 0); omega)).trans ?_
  refine (m26 _ _ _ _ _).trans ?_
  refine congrArg₂ (fun p q : EReal => p + q) (rd_hit (h := 256) c s 0 0 _ f a b (⟨a.val, ha⟩ : Fin 256) (⟨b.val - 0, by omega⟩ : Fin 256) (by show a.val = 0 + a.val; omega) (by show b.val = 0 + (b.val - 0); omega)) ?_
  exact Finset.sum_congr rfl fun k _ => congrArg₂ (fun p q : EReal => p * q) (ld_at A 0 _ _ k a (by show a.val = 0 + a.val; omega)) (ld_at A 0 _ _ k b (by show b.val = 0 + (b.val - 0); omega))
theorem a0_miss (s : Fin 11) (A : S1024x256.Idx → Ideal .bf16) (f : BufO Ideal c) (a b : Fin 1024) (hb : b.val / 256 ≠ 0) :
    acc0 (F := Ideal) c s A f (ix3 s a b : S11x1024x1024.Idx) = f (ix3 s a b : S11x1024x1024.Idx) := by
  unfold acc0
  exact st_miss (h := 256) c s 0 0 _ _ _ a b (by omega)
theorem s1_hit (s : Fin 11) (A : S1024x256.Idx → Ideal .bf16) (f : BufO Ideal c) (a b : Fin 1024) (ha : a.val < 512) (hb : b.val / 256 = 1) :
    vE (stO512 (F := Ideal) c s 0 256 (inb512s s) f (k0_pay28 (rd7 A q512) (rd7 A b256)) (ix3 s a b : S11x1024x1024.Idx)) = TT A a b := by
  refine (st_hit (h := 512) c s 0 256 _ _ _ a b (⟨a.val, ha⟩ : Fin 512) (⟨b.val - 256, by omega⟩ : Fin 256) (by show a.val = 0 + a.val; omega) (by show b.val = 256 + (b.val - 256); omega)).trans ?_
  refine (m28 _ _ _ _).trans ?_
  exact Finset.sum_congr rfl fun k _ => congrArg₂ (fun p q : EReal => p * q) (rd_at A 0 _ _ k a (by show a.val = 0 + a.val; omega)) (rd_at A 256 _ _ k b (by show b.val = 256 + (b.val - 256); omega))
theorem s1_miss (s : Fin 11) (f : BufO Ideal c) (w) (a b : Fin 1024) (hb : b.val / 256 ≠ 1) :
    stO512 (F := Ideal) c s 0 256 (inb512s s) f w (ix3 s a b : S11x1024x1024.Idx) = f (ix3 s a b : S11x1024x1024.Idx) :=
  st_miss (h := 512) c s 0 256 _ _ _ a b (by omega)
theorem a1_hit (s : Fin 11) (A : S1024x256.Idx → Ideal .bf16) (f : BufO Ideal c) (a b : Fin 1024) (ha : a.val < 512) (hb : b.val / 256 = 1) :
    vE (acc1 (F := Ideal) c s A f (ix3 s a b : S11x1024x1024.Idx)) = vE (f (ix3 s a b : S11x1024x1024.Idx)) + TT A a b := by
  unfold acc1
  refine (st_hit (h := 512) c s 0 256 _ _ _ a b (⟨a.val, ha⟩ : Fin 512) (⟨b.val - 256, by omega⟩ : Fin 256) (by show a.val = 0 + a.val; omega) (by show b.val = 256 + (b.val - 256); omega)).trans ?_
  refine (m29 _ _ _ _ _).trans ?_
  refine congrArg₂ (fun p q : EReal => p + q) (rd_hit (h := 512) c s 0 256 _ f a b (⟨a.val, ha⟩ : Fin 512) (⟨b.val - 256, by omega⟩ : Fin 256) (by show a.val = 0 + a.val; omega) (by show b.val = 256 + (b.val - 256); omega)) ?_
  exact Finset.sum_congr rfl fun k _ => congrArg₂ (fun p q : EReal => p * q) (rd_at A 0 _ _ k a (by show a.val = 0 + a.val; omega)) (rd_at A 256 _ _ k b (by show b.val = 256 + (b.val - 256); omega))
theorem a1_miss (s : Fin 11) (A : S1024x256.Idx → Ideal .bf16) (f : BufO Ideal c) (a b : Fin 1024) (hb : b.val / 256 ≠ 1) :
    acc1 (F := Ideal) c s A f (ix3 s a b : S11x1024x1024.Idx) = f (ix3 s a b : S11x1024x1024.Idx) := by
  unfold acc1
  exact st_miss (h := 512) c s 0 256 _ _ _ a b (by omega)
theorem s2_hit (s : Fin 11) (A : S1024x256.Idx → Ideal .bf16) (f : BufO Ideal c) (a b : Fin 1024) (ha : a.val < 768) (hb : b.val / 256 = 2) :
    vE (stO768 (F := Ideal) c s 0 512 (inb768s s) f (k0_pay31 (rd7 A q768) (rd7 A b512)) (ix3 s a b : S11x1024x1024.Idx)) = TT A a b := by
  refine (st_hit (h := 768) c s 0 512 _ _ _ a b (⟨a.val, ha⟩ : Fin 768) (⟨b.val - 512, by omega⟩ : Fin 256) (by show a.val = 0 + a.val; omega) (by show b.val = 512 + (b.val - 512); omega)).trans ?_
  refine (m31 _ _ _ _).trans ?_
  exact Finset.sum_congr rfl fun k _ => congrArg₂ (fun p q : EReal => p * q) (rd_at A 0 _ _ k a (by show a.val = 0 + a.val; omega)) (rd_at A 512 _ _ k b (by show b.val = 512 + (b.val - 512); omega))
theorem s2_miss (s : Fin 11) (f : BufO Ideal c) (w) (a b : Fin 1024) (hb : b.val / 256 ≠ 2) :
    stO768 (F := Ideal) c s 0 512 (inb768s s) f w (ix3 s a b : S11x1024x1024.Idx) = f (ix3 s a b : S11x1024x1024.Idx) :=
  st_miss (h := 768) c s 0 512 _ _ _ a b (by omega)
theorem a2_hit (s : Fin 11) (A : S1024x256.Idx → Ideal .bf16) (f : BufO Ideal c) (a b : Fin 1024) (ha : a.val < 768) (hb : b.val / 256 = 2) :
    vE (acc2 (F := Ideal) c s A f (ix3 s a b : S11x1024x1024.Idx)) = vE (f (ix3 s a b : S11x1024x1024.Idx)) + TT A a b := by
  unfold acc2
  refine (st_hit (h := 768) c s 0 512 _ _ _ a b (⟨a.val, ha⟩ : Fin 768) (⟨b.val - 512, by omega⟩ : Fin 256) (by show a.val = 0 + a.val; omega) (by show b.val = 512 + (b.val - 512); omega)).trans ?_
  refine (m32 _ _ _ _ _).trans ?_
  refine congrArg₂ (fun p q : EReal => p + q) (rd_hit (h := 768) c s 0 512 _ f a b (⟨a.val, ha⟩ : Fin 768) (⟨b.val - 512, by omega⟩ : Fin 256) (by show a.val = 0 + a.val; omega) (by show b.val = 512 + (b.val - 512); omega)) ?_
  exact Finset.sum_congr rfl fun k _ => congrArg₂ (fun p q : EReal => p * q) (rd_at A 0 _ _ k a (by show a.val = 0 + a.val; omega)) (rd_at A 512 _ _ k b (by show b.val = 512 + (b.val - 512); omega))
theorem a2_miss (s : Fin 11) (A : S1024x256.Idx → Ideal .bf16) (f : BufO Ideal c) (a b : Fin 1024) (hb : b.val / 256 ≠ 2) :
    acc2 (F := Ideal) c s A f (ix3 s a b : S11x1024x1024.Idx) = f (ix3 s a b : S11x1024x1024.Idx) := by
  unfold acc2
  exact st_miss (h := 768) c s 0 512 _ _ _ a b (by omega)
theorem s3_hit (s : Fin 11) (A : S1024x256.Idx → Ideal .bf16) (f : BufO Ideal c) (a b : Fin 1024) (ha : a.val < 1024) (hb : b.val / 256 = 3) :
    vE (stO1024 (F := Ideal) c s 0 768 (inb1024s s) f (pay3s (rd7 A q1024) (rd7 A b768)) (ix3 s a b : S11x1024x1024.Idx)) = TT A a b := by
  refine (st_hit (h := 1024) c s 0 768 _ _ _ a b (⟨a.val, ha⟩ : Fin 1024) (⟨b.val - 768, by omega⟩ : Fin 256) (by show a.val = 0 + a.val; omega) (by show b.val = 768 + (b.val - 768); omega)).trans ?_
  refine (m3s _ _ _ _).trans ?_
  exact Finset.sum_congr rfl fun k _ => congrArg₂ (fun p q : EReal => p * q) (rd_at A 0 _ _ k a (by show a.val = 0 + a.val; omega)) (rd_at A 768 _ _ k b (by show b.val = 768 + (b.val - 768); omega))
theorem s3_miss (s : Fin 11) (f : BufO Ideal c) (w) (a b : Fin 1024) (hb : b.val / 256 ≠ 3) :
    stO1024 (F := Ideal) c s 0 768 (inb1024s s) f w (ix3 s a b : S11x1024x1024.Idx) = f (ix3 s a b : S11x1024x1024.Idx) :=
  st_miss (h := 1024) c s 0 768 _ _ _ a b (by omega)
theorem a3_hit (s : Fin 11) (A : S1024x256.Idx → Ideal .bf16) (f : BufO Ideal c) (a b : Fin 1024) (ha : a.val < 1024) (hb : b.val / 256 = 3) :
    vE (acc3 (F := Ideal) c s A f (ix3 s a b : S11x1024x1024.Idx)) = vE (f (ix3 s a b : S11x1024x1024.Idx)) + TT A a b := by
  unfold acc3
  refine (st_hit (h := 1024) c s 0 768 _ _ _ a b (⟨a.val, ha⟩ : Fin 1024) (⟨b.val - 768, by omega⟩ : Fin 256) (by show a.val = 0 + a.val; omega) (by show b.val = 768 + (b.val - 768); omega)).trans ?_
  refine (m3a _ _ _ _ _).trans ?_
  refine congrArg₂ (fun p q : EReal => p + q) (rd_hit (h := 1024) c s 0 768 _ f a b (⟨a.val, ha⟩ : Fin 1024) (⟨b.val - 768, by omega⟩ : Fin 256) (by show a.val = 0 + a.val; omega) (by show b.val = 768 + (b.val - 768); omega)) ?_
  exact Finset.sum_congr rfl fun k _ => congrArg₂ (fun p q : EReal => p * q) (rd_at A 0 _ _ k a (by show a.val = 0 + a.val; omega)) (rd_at A 768 _ _ k b (by show b.val = 768 + (b.val - 768); omega))
theorem a3_miss (s : Fin 11) (A : S1024x256.Idx → Ideal .bf16) (f : BufO Ideal c) (a b : Fin 1024) (hb : b.val / 256 ≠ 3) :
    acc3 (F := Ideal) c s A f (ix3 s a b : S11x1024x1024.Idx) = f (ix3 s a b : S11x1024x1024.Idx) := by
  unfold acc3
  exact st_miss (h := 1024) c s 0 768 _ _ _ a b (by omega)
theorem dots0_apply (s : Fin 11) (A : S1024x256.Idx → Ideal .bf16) (f : BufO Ideal c) (a b : Fin 1024) (hab : a.val / 256 ≤ b.val / 256) :
    vE (dots0 (F := Ideal) c s A f (ix3 s a b : S11x1024x1024.Idx)) = TT A a b := by
  unfold dots0
  obtain hb | hb | hb | hb : b.val / 256 = 0 ∨ b.val / 256 = 1 ∨ b.val / 256 = 2 ∨ b.val / 256 = 3 := by have := b.isLt; omega
  · exact (s3_miss c s _ _ a b (by omega)).trans ((s2_miss c s _ _ a b (by omega)).trans ((s1_miss c s _ _ a b (by omega)).trans (s0_hit c s A _ a b (by omega) hb)))
  · exact (s3_miss c s _ _ a b (by omega)).trans ((s2_miss c s _ _ a b (by omega)).trans (s1_hit c s A _ a b (by omega) hb))
  · exact (s3_miss c s _ _ a b (by omega)).trans (s2_hit c s A _ a b (by omega) hb)
  · exact s3_hit c s A _ a b (by omega) hb
theorem dotsS_apply (s : Fin 11) (A : S1024x256.Idx → Ideal .bf16) (f : BufO Ideal c) (a b : Fin 1024) (hab : a.val / 256 ≤ b.val / 256) :
    vE (dotsS (F := Ideal) c s A f (ix3 s a b : S11x1024x1024.Idx)) = vE (f (ix3 s a b : S11x1024x1024.Idx)) + TT A a b := by
  unfold dotsS
  obtain hb | hb | hb | hb : b.val / 256 = 0 ∨ b.val / 256 = 1 ∨ b.val / 256 = 2 ∨ b.val / 256 = 3 := by have := b.isLt; omega
  · rw [a3_miss c s _ _ a b (by omega)]; rw [a2_miss c s _ _ a b (by omega)]; rw [a1_miss c s _ _ a b (by omega)]; exact a0_hit c s A _ a b (by omega) hb
  · rw [a3_miss c s _ _ a b (by omega)]; rw [a2_miss c s _ _ a b (by omega)]; refine (a1_hit c s A _ a b (by omega) hb).trans ?_; rw [a0_miss c s _ _ a b (by omega)]
  · rw [a3_miss c s _ _ a b (by omega)]; refine (a2_hit c s A _ a b (by omega) hb).trans ?_; rw [a1_miss c s _ _ a b (by omega)]; rw [a0_miss c s _ _ a b (by omega)]
  · refine (a3_hit c s A _ a b (by omega) hb).trans ?_; rw [a2_miss c s _ _ a b (by omega)]; rw [a1_miss c s _ _ a b (by omega)]; rw [a0_miss c s _ _ a b (by omega)]

theorem mir_hit (s : Fin 11) (x y : ℕ) (hx hy) (f : BufO Ideal c) (a b : Fin 1024) (h : y ≤ a.val ∧ a.val < y + 256 ∧ x ≤ b.val ∧ b.val < x + 256) :
    mir (F := Ideal) c s x y hx hy f (ix3 s a b : S11x1024x1024.Idx) = f (ix3 s b a : S11x1024x1024.Idx) := by
  unfold mir
  refine (st_hit (h := 256) c s y x _ _ _ a b (⟨a.val - y, by omega⟩ : Fin 256) (⟨b.val - x, by omega⟩ : Fin 256) (by show a.val = y + (a.val - y); omega) (by show b.val = x + (b.val - x); omega)).trans ?_
  rw [mirP_apply]
  exact rd_hit (h := 256) c s x y _ f b a _ _ (by show b.val = x + (b.val - x); omega) (by show a.val = y + (a.val - y); omega)
theorem mir_miss (s : Fin 11) (x y : ℕ) (hx hy) (f : BufO Ideal c) (a b : Fin 1024) (h : ¬ (y ≤ a.val ∧ a.val < y + 256 ∧ x ≤ b.val ∧ b.val < x + 256)) :
    mir (F := Ideal) c s x y hx hy f (ix3 s a b : S11x1024x1024.Idx) = f (ix3 s a b : S11x1024x1024.Idx) := by
  unfold mir
  exact st_miss (h := 256) c s y x _ _ _ a b h
theorem mir_up (s : Fin 11) (f : BufO Ideal c) (a b : Fin 1024) (hab : a.val / 256 ≤ b.val / 256) :
    mirB (F := Ideal) c s (mirA c s f) (ix3 s a b : S11x1024x1024.Idx) = f (ix3 s a b : S11x1024x1024.Idx) := by
  unfold mirB mirA
  have := a.isLt
  have := b.isLt
  rw [mir_miss _ _ _ _ _ _ _ _ _ (by omega)]; rw [mir_miss _ _ _ _ _ _ _ _ _ (by omega)]; rw [mir_miss _ _ _ _ _ _ _ _ _ (by omega)]; rw [mir_miss _ _ _ _ _ _ _ _ _ (by omega)]; rw [mir_miss _ _ _ _ _ _ _ _ _ (by omega)]; rw [mir_miss _ _ _ _ _ _ _ _ _ (by omega)]
theorem mir_low (s : Fin 11) (f : BufO Ideal c) (a b : Fin 1024) (hab : b.val / 256 < a.val / 256) :
    mirB (F := Ideal) c s (mirA c s f) (ix3 s a b : S11x1024x1024.Idx) = f (ix3 s b a : S11x1024x1024.Idx) := by
  unfold mirB mirA
  have := a.isLt
  have := b.isLt
  obtain h | h | h | h | h | h : (b.val / 256 = 2 ∧ a.val / 256 = 3) ∨ (b.val / 256 = 1 ∧ a.val / 256 = 3) ∨ (b.val / 256 = 1 ∧ a.val / 256 = 2) ∨ (b.val / 256 = 0 ∧ a.val / 256 = 3) ∨ (b.val / 256 = 0 ∧ a.val / 256 = 2) ∨ (b.val / 256 = 0 ∧ a.val / 256 = 1) := by omega
  · rw [mir_hit _ _ _ _ _ _ _ _ _ (by omega)]; rw [mir_miss _ _ _ _ _ _ _ _ _ (by omega)]; rw [mir_miss _ _ _ _ _ _ _ _ _ (by omega)]; rw [mir_miss _ _ _ _ _ _ _ _ _ (by omega)]; rw [mir_miss _ _ _ _ _ _ _ _ _ (by omega)]; rw [mir_miss _ _ _ _ _ _ _ _ _ (by omega)]
  · rw [mir_miss _ _ _ _ _ _ _ _ _ (by omega)]; rw [mir_hit _ _ _ _ _ _ _ _ _ (by omega)]; rw [mir_miss _ _ _ _ _ _ _ _ _ (by omega)]; rw [mir_miss _ _ _ _ _ _ _ _ _ (by omega)]; rw [mir_miss _ _ _ _ _ _ _ _ _ (by omega)]; rw [mir_miss _ _ _ _ _ _ _ _ _ (by omega)]
  · rw [mir_miss _ _ _ _ _ _ _ _ _ (by omega)]; rw [mir_miss _ _ _ _ _ _ _ _ _ (by omega)]; rw [mir_hit _ _ _ _ _ _ _ _ _ (by omega)]; rw [mir_miss _ _ _ _ _ _ _ _ _ (by omega)]; rw [mir_miss _ _ _ _ _ _ _ _ _ (by omega)]; rw [mir_miss _ _ _ _ _ _ _ _ _ (by omega)]
  · rw [mir_miss _ _ _ _ _ _ _ _ _ (by omega)]; rw [mir_miss _ _ _ _ _ _ _ _ _ (by omega)]; rw [mir_miss _ _ _ _ _ _ _ _ _ (by omega)]; rw [mir_hit _ _ _ _ _ _ _ _ _ (by omega)]; rw [mir_miss _ _ _ _ _ _ _ _ _ (by omega)]; rw [mir_miss _ _ _ _ _ _ _ _ _ (by omega)]
  · rw [mir_miss _ _ _ _ _ _ _ _ _ (by omega)]; rw [mir_miss _ _ _ _ _ _ _ _ _ (by omega)]; rw [mir_miss _ _ _ _ _ _ _ _ _ (by omega)]; rw [mir_miss _ _ _ _ _ _ _ _ _ (by omega)]; rw [mir_hit _ _ _ _ _ _ _ _ _ (by omega)]; rw [mir_miss _ _ _ _ _ _ _ _ _ (by omega)]
  · rw [mir_miss _ _ _ _ _ _ _ _ _ (by omega)]; rw [mir_miss _ _ _ _ _ _ _ _ _ (by omega)]; rw [mir_miss _ _ _ _ _ _ _ _ _ (by omega)]; rw [mir_miss _ _ _ _ _ _ _ _ _ (by omega)]; rw [mir_miss _ _ _ _ _ _ _ _ _ (by omega)]; rw [mir_hit _ _ _ _ _ _ _ _ _ (by omega)]

variable (X : Buf (Elt Ideal) (M1.view.loc (c : Thread nD τ))) (Y : Buf (Elt Ideal) (M2.view.loc (c : Thread nD τ)))
theorem uacc_apply (s : Fin 11) (lo hi : BitVec 32) (rw : ℕ → Fin 32513) (n : ℕ) (At : ℕ → Fin 1024 → Fin 256 → EReal)
    (hA : ∀ u A, u < n → ATile c X Y lo hi (rw u) u A → ∀ d k, (A (ix2 d k) : EReal) = At u d k) (k : ℕ) (f : BufO Ideal c)
    (h : UAcc c X Y s lo hi rw k f) (hk : k ≤ n) (a b : Fin 1024) (hab : a.val / 256 ≤ b.val / 256) :
    vE (f (ix3 s a b : S11x1024x1024.Idx)) = ∑ u ∈ Finset.range k, ∑ j : Fin 256, At u a j * At u b j := by
  induction h with
  | first k A f h0 hT =>
    subst h0
    refine (dots0_apply c s A f a b hab).trans ?_
    rw [Finset.sum_range_one]
    exact Finset.sum_congr rfl fun j _ => congrArg₂ (fun p q : EReal => p * q) (hA 0 A (by omega) hT a j) (hA 0 A (by omega) hT b j)
  | next k A f h0 hT _ ih =>
    refine (dotsS_apply c s A f a b hab).trans ?_
    rw [Finset.sum_range_succ]
    exact congrArg₂ (fun p q : EReal => p + q) (ih (by omega)) (Finset.sum_congr rfl fun j _ => congrArg₂ (fun p q : EReal => p * q) (hA k A (by omega) hT a j) (hA k A (by omega) hT b j))
/-- A finished slot, entry by entry: the sum over the tiles, whichever block is larger. -/
theorem edone_apply (o : S65.Idx → BitVec 32) (e : Fin 64) (s : Fin 11) (f : BufO Ideal c) (At : ℕ → Fin 1024 → Fin 256 → EReal)
    (hA : ∀ u A, u < nu (offN o) e.1 → ATile c X Y (o (i65 e.1 (by omega))) (o (i65 (e.1 + 1) (by omega))) (row (offN o) (base (offN o) e.1 + u)) u A → ∀ d k, (A (ix2 d k) : EReal) = At u d k)
    (h : EDone c X Y o e s f) (a b : Fin 1024) :
    vE (f (ix3 s a b : S11x1024x1024.Idx)) = ∑ u ∈ Finset.range (nu (offN o) e.1), ∑ j : Fin 256, At u a j * At u b j := by
  obtain ⟨f', hf, rfl⟩ := h
  by_cases hab : a.val / 256 ≤ b.val / 256
  · rw [mir_up c s f' a b hab]
    exact uacc_apply c X Y s _ _ _ _ At hA _ f' hf le_rfl a b hab
  · rw [mir_low c s f' a b (by omega)]
    refine (uacc_apply c X Y s _ _ _ _ At hA _ f' hf le_rfl b a (by omega)).trans ?_
    exact Finset.sum_congr rfl fun u _ => Finset.sum_congr rfl fun j _ => mul_comm (At u b j) (At u a j)

end Cert.KernelIdeal.Hand
end
-- ==== Proof.Ideal.TileV.lean ====
module
public import proofs.«01_k».proof.Proof.Ideal.Tile
public import proofs.«01_k».proof.Proof.Ideal.SlotAcc
public import Idealize.ShloMosaic.Lib.ValueLayout
public import Idealize.ShloMosaic.Lib.ValueIdx

/-! One tile's scaled codes, as rows of the arguments. -/

@[expose] public section
noncomputable section
namespace Cert.KernelIdeal.Hand
open Cert.KernelIdeal Cert.KernelIdeal.Gen Cert.Sched Cert.Words
open Idealize.ShloMosaic Idealize.ShloMosaic.TcCoe

variable (c : Dev nD)
theorem emb_sq {n a b : ℕ} (s : Fin n) (inb : ∀ t, (![s.val, 0, 0] : Fin 3 → ℕ) t + (⟨3, ![1, a, b]⟩ : Shape).size t ≤ (⟨3, ![n, a, b]⟩ : Shape).size t) (h : (⟨2, ![a, b]⟩ : Shape).numel = (⟨3, ![1, a, b]⟩ : Shape).numel) (i : Fin a) (j : Fin b) :
    (Rect.unit (s := ⟨3, ![n, a, b]⟩) ![s.val, 0, 0] (⟨3, ![1, a, b]⟩ : Shape).size inb).emb (Shape.reshapeEquiv h (ix2 i j)) = (ix3 s i j : (⟨3, ![n, a, b]⟩ : Shape).Idx) := by
  have e : Shape.reshapeEquiv h (ix2 i j) = ix3 0 i j := ValueIdx.reshapeEquiv_ix2_1ab h i j
  rw [e]
  funext t; refine Fin.ext ?_; fin_cases t
  · show s.val + 1 * 0 = s.val; omega
  · show 0 + 1 * i.val = i.val; omega
  · show 0 + 1 * j.val = j.val; omega
theorem emb_un {n a b : ℕ} (s : Fin n) (inb : ∀ t, (![s.val, 0, 0] : Fin 3 → ℕ) t + (⟨3, ![1, a, b]⟩ : Shape).size t ≤ (⟨3, ![n, a, b]⟩ : Shape).size t) (i : Fin a) (j : Fin b) :
    (Rect.unit (s := ⟨3, ![n, a, b]⟩) ![s.val, 0, 0] (⟨3, ![1, a, b]⟩ : Shape).size inb).emb (ix3 0 i j) = (ix3 s i j : (⟨3, ![n, a, b]⟩ : Shape).Idx) := by
  funext t; refine Fin.ext ?_; fin_cases t
  · show s.val + 1 * 0 = s.val; omega
  · show 0 + 1 * i.val = i.val; omega
  · show 0 + 1 * j.val = j.val; omega
theorem embC (b : Fin 8) (k : Fin 256) (d : Fin 1024) : (slotC b).view.emb (ix2 k d) = (ix3 b k d : S8x256x1024.Idx) := emb_sq b _ _ k d
theorem embS (b : Fin 8) (k : Fin 16) (d : Fin 256) : (slotS b).view.emb (ix2 k d) = (ix3 b k d : S8x16x256.Idx) := emb_sq b _ _ k d
theorem embO (b : Fin 11) (k : Fin 1024) (d : Fin 1024) : (slotO b).view.emb (ix2 k d) = (ix3 b k d : S11x1024x1024.Idx) := emb_sq b _ _ k d
theorem embH (b : Fin 64) (k : Fin 1024) (d : Fin 1024) : (rowH b).view.emb (ix2 k d) = (ix3 b k d : S64x1024x1024.Idx) := emb_sq b _ _ k d

variable (X : Buf (Elt Ideal) (M1.view.loc (c : Thread nD τ))) (Y : Buf (Elt Ideal) (M2.view.loc (c : Thread nD τ)))
theorem rdC_at (b : Fin 8) (r : Fin 32513) (f5 : Buf (Elt Ideal) ((slotC b).view.loc (c : Thread nD τ))) (k : Fin 256) (d : Fin 1024) :
    rdC c b ((slotC b).view.write (Elt Ideal) f5 (ReadAs.same.apply ((tileC r).view.read (Elt Ideal) X)) Finset.univ) (ix3 0 k d) = X (ix2 ⟨r.val + k.val, by omega⟩ d : S32768x1024.Idx) := by
  unfold rdC
  have e : (M5.access (slotRC b)).emb (ix3 0 k d) = (slotC b).view.emb (ix2 k d) := (emb_un b _ k d).trans (embC b k d).symm
  show (slotC b).view.write (Elt Ideal) f5 (ReadAs.same.apply ((tileC r).view.read (Elt Ideal) X)) Finset.univ ((M5.access (slotRC b)).emb (ix3 0 k d)) = _
  rw [e, View.write_emb_of_mem _ _ (Finset.mem_univ _)]
  refine congrArg X (funext fun t => Fin.ext ?_)
  fin_cases t
  · show r.val + 1 * k.val = r.val + k.val; omega
  · show 0 + 1 * d.val = d.val; omega
theorem rdS_at (b : Fin 8) (r : Fin 32513) (f6 : Buf (Elt Ideal) ((slotS b).view.loc (c : Thread nD τ))) (q : Fin 16) (k : Fin 256) :
    rdS c b ((slotS b).view.write (Elt Ideal) f6 (ReadAs.same.apply ((tileS r).view.read (Elt Ideal) Y)) Finset.univ) (ix3 0 q k) = Y (ix2 q ⟨r.val + k.val, by omega⟩ : S16x32768.Idx) := by
  unfold rdS
  have e : (M6.access (slotRS b)).emb (ix3 0 q k) = (slotS b).view.emb (ix2 q k) := (emb_un b _ q k).trans (embS b q k).symm
  show (slotS b).view.write (Elt Ideal) f6 (ReadAs.same.apply ((tileS r).view.read (Elt Ideal) Y)) Finset.univ ((M6.access (slotRS b)).emb (ix3 0 q k)) = _
  rw [e, View.write_emb_of_mem _ _ (Finset.mem_univ _)]
  refine congrArg Y (funext fun t => Fin.ext ?_)
  fin_cases t
  · show 0 + 1 * q.val = q.val; omega
  · show r.val + 1 * k.val = r.val + k.val; omega

theorem iv_toNat {u : ℕ} (hu : u ≤ 65536) : (Scf.iv 0#32 1#32 u).toNat = u := by
  unfold Scf.iv
  simp
  omega
theorem nomW_toNat {lo u : BitVec 32} (hl : lo.toNat ≤ 32768) (hu : u.toNat ≤ 65536) : (nomW lo u).toNat = lo.toNat / 128 * 128 + u.toNat * 256 := by
  unfold nomW
  have e1 : (fdivW lo 128#32).toNat = lo.toNat / 128 := fdivW_toNat (by omega) (by decide) (by decide)
  have e2 : (Scalar.muli (fdivW lo 128#32) 128#32).toNat = lo.toNat / 128 * 128 := by
    rw [muli_toNat, e1]; · rfl
    rw [e1]; show lo.toNat / 128 * 128 < _; omega
  have e3 : (Scalar.muli u 256#32).toNat = u.toNat * 256 := by
    rw [muli_toNat]; · rfl
    show _ * 256 < _; omega
  rw [addi_toNat (by rw [e2, e3]; omega), e2, e3]
/-- Which entries of a tile are kept, over the natural numbers. -/
theorem inT_iff {lo hi : BitVec 32} {o : ℕ → ℕ} {e u : ℕ} (hlo : lo.toNat = o e) (hhi : hi.toNat = o (e + 1)) (hl : lo.toNat ≤ 32768) (hh : hi.toNat ≤ 32768) (hu : u ≤ 65536) (k : Fin 256) :
    inT lo hi (nomW lo (Scf.iv 0#32 1#32 u)) (stW lo (Scf.iv 0#32 1#32 u)) k ↔ max (o e) (o e / 128 * 128 + u * 256) ≤ st o e u + k.val ∧ st o e u + k.val < o (e + 1) := by
  have hi' := iv_toNat hu
  have h1 := nomW_toNat (u := Scf.iv 0#32 1#32 u) hl (by omega)
  have h2 := st_of (u := Scf.iv 0#32 1#32 u) hlo hl (by omega)
  have h3 := st_le (o := o) e u
  rw [hi'] at h1 h2
  have hk := k.isLt
  have h4 : (BitVec.ofNat 32 k.val).toNat = k.val := by rw [BitVec.toNat_ofNat]; omega
  have h5 : (stW lo (Scf.iv 0#32 1#32 u) + BitVec.ofNat 32 k.val).toNat = st o e u + k.val := by rw [BitVec.toNat_add, h2, h4]; omega
  have h6 := maxsi_toNat (x := lo) (y := nomW lo (Scf.iv 0#32 1#32 u)) (by omega) (by omega)
  unfold inT
  rw [toInt_of_lt (x := Scalar.maxsi lo (nomW lo (Scf.iv 0#32 1#32 u))) (by omega), toInt_of_lt (x := stW lo (Scf.iv 0#32 1#32 u) + BitVec.ofNat 32 k.val) (by omega), toInt_of_lt (x := hi) (by omega), h5, h6, h1, hhi, hlo]
  omega

/-- A row's scaled code. -/
def sc (r : ℕ) (d : Fin 1024) : EReal := if h : r < 32768 then vE (X (ix2 ⟨r, h⟩ d : S32768x1024.Idx)) * vE (Y (ix2 ⟨d.val / 64, by omega⟩ ⟨r, h⟩ : S16x32768.Idx)) else 0
theorem atile_apply {lo hi : BitVec 32} {o : ℕ → ℕ} {e u : ℕ} (hlo : lo.toNat = o e) (hhi : hi.toNat = o (e + 1)) (hl : lo.toNat ≤ 32768) (hh : hi.toNat ≤ 32768) (hu : u ≤ 65536)
    (r : Fin 32513) (hr : r.val = st o e u) (A) (h : ATile c X Y lo hi r u A) (d : Fin 1024) (k : Fin 256) :
    vE (A (ix2 d k)) = if max (o e) (o e / 128 * 128 + u * 256) ≤ st o e u + k.val ∧ st o e u + k.val < o (e + 1) then sc c X Y (st o e u + k.val) d else 0 := by
  obtain ⟨b, f5, f6, rfl⟩ := h
  refine (aA_apply _ _ _ _ _ _ d k).trans ?_
  refine if_congr (inT_iff hlo hhi hl hh hu k) ?_ rfl
  rw [rdC_at, rdS_at]
  have h3 := st_le (o := o) e u
  have hr2 : (⟨r.val + k.val, by omega⟩ : Fin 32768) = ⟨st o e u + k.val, by omega⟩ := Fin.ext (congrArg (· + k.val) hr)
  unfold sc
  rw [dif_pos (by omega), hr2]

end Cert.KernelIdeal.Hand
end
-- ==== Proof.Ideal.HVal.lean ====
module
public import proofs.«01_k».proof.Proof.Ideal.TileV
public import proofs.«01_k».proof.Proof.Ideal.Ends
public import Idealize.ShloMosaic.Lib.Pointwise

/-! The first result, entry by entry. -/

@[expose] public section
noncomputable section
namespace Cert.KernelIdeal.Hand
open Cert.KernelIdeal Cert.KernelIdeal.Gen Cert.Sched Cert.Words
open Idealize.ShloMosaic Idealize.ShloMosaic.TcCoe

theorem tileSum (G : ℕ → EReal) (s lo hi B u : ℕ) (hs : s = min (B + u * 256) 32512) (hB : B ≤ lo) (hh : hi ≤ 32768) :
    (∑ k ∈ Finset.range 256, if max lo (B + u * 256) ≤ s + k ∧ s + k < hi then G (s + k) else 0)
      = ∑ r ∈ Finset.range 32768, if lo ≤ r ∧ r < hi ∧ (r - B) / 256 = u then G r else 0 := by
  have h1 : (∑ r ∈ Finset.Ico s (s + 256), if max lo (B + u * 256) ≤ r ∧ r < hi then G r else 0)
      = ∑ k ∈ Finset.range 256, if max lo (B + u * 256) ≤ s + k ∧ s + k < hi then G (s + k) else 0 := by
    rw [Finset.sum_Ico_eq_sum_range, Nat.add_sub_cancel_left]
  rw [← h1]
  have h2 : Finset.Ico s (s + 256) ⊆ Finset.range 32768 := fun r hr => by
    rw [Finset.mem_Ico] at hr; rw [Finset.mem_range]; omega
  rw [← Finset.sum_subset h2 (f := fun r => if lo ≤ r ∧ r < hi ∧ (r - B) / 256 = u then G r else 0)]
  · refine Finset.sum_congr rfl fun r hr => ?_
    rw [Finset.mem_Ico] at hr
    refine if_congr ?_ rfl rfl
    omega
  · intro r hr hr'
    rw [Finset.mem_range] at hr
    rw [Finset.mem_Ico] at hr'
    exact if_neg (by omega)
theorem rowsSum (G : ℕ → EReal) (o : ℕ → ℕ) (e : ℕ) (hh : o (e + 1) ≤ 32768) :
    (∑ u ∈ Finset.range (nu o e), ∑ k ∈ Finset.range 256, if max (o e) (o e / 128 * 128 + u * 256) ≤ st o e u + k ∧ st o e u + k < o (e + 1) then G (st o e u + k) else 0)
      = ∑ r ∈ Finset.range 32768, if o e ≤ r ∧ r < o (e + 1) then G r else 0 := by
  have h1 : ∀ u ∈ Finset.range (nu o e), (∑ k ∈ Finset.range 256, if max (o e) (o e / 128 * 128 + u * 256) ≤ st o e u + k ∧ st o e u + k < o (e + 1) then G (st o e u + k) else 0)
      = ∑ r ∈ Finset.range 32768, if o e ≤ r ∧ r < o (e + 1) ∧ (r - o e / 128 * 128) / 256 = u then G r else 0 :=
    fun u _ => tileSum G (st o e u) (o e) (o (e + 1)) (o e / 128 * 128) u rfl (by omega) hh
  rw [Finset.sum_congr rfl h1, Finset.sum_comm]
  refine Finset.sum_congr rfl fun r _ => ?_
  by_cases hr : o e ≤ r ∧ r < o (e + 1)
  · rw [if_pos hr, Finset.sum_eq_single ((r - o e / 128 * 128) / 256)]
    · exact if_pos ⟨hr.1, hr.2, rfl⟩
    · intro u _ hu; exact if_neg fun h => hu h.2.2.symm
    · intro hu
      exfalso; apply hu
      rw [Finset.mem_range]
      unfold nu
      rw [if_pos (by omega)]
      omega
  · rw [if_neg hr]
    exact Finset.sum_eq_zero fun u _ => if_neg fun h => hr ⟨h.1, h.2.1⟩

variable (c : Dev nD) (X : Buf (Elt Ideal) (M1.view.loc (c : Thread nD τ))) (Y : Buf (Elt Ideal) (M2.view.loc (c : Thread nD τ)))
/-- Entry `(a, b)` of expert `e`'s matrix: the sum over the expert's rows of the products of their scaled codes. -/
def HV (o : ℕ → ℕ) (e : ℕ) (a b : Fin 1024) : EReal :=
  ∑ r ∈ Finset.range 32768, if o e ≤ r ∧ r < o (e + 1) then sc c X Y r a * sc c X Y r b else 0
theorem edone_val (o : S65.Idx → BitVec 32) (hO : Ok (offN o)) (e : Fin 64) (s : Fin 11) (f : BufO Ideal c) (h : EDone c X Y o e s f) (a b : Fin 1024) :
    vE (f (ix3 s a b : S11x1024x1024.Idx)) = HV c X Y (offN o) e.val a b := by
  have hl := hO.bound (show e.val ≤ 64 by omega)
  have hh := hO.bound (show e.val + 1 ≤ 64 by omega)
  have hlo := (offN_of (o := o) (show e.val < 65 by omega)).symm
  have hhi := (offN_of (o := o) (show e.val + 1 < 65 by omega)).symm
  have hn : nu (offN o) e.val ≤ 300 := by unfold nu; split <;> omega
  refine (edone_apply c X Y o e s f (fun u d k => if max (offN o e.val) (offN o e.val / 128 * 128 + u * 256) ≤ st (offN o) e.val u + k.val ∧ st (offN o) e.val u + k.val < offN o (e.val + 1) then sc c X Y (st (offN o) e.val u + k.val) d else 0) ?_ h a b).trans ?_
  · intro u A hu hA d k
    exact atile_apply c X Y hlo hhi (by omega) (by omega) (by omega) _ (gst_eq e.isLt hu) A hA d k
  · unfold HV
    rw [← rowsSum (fun r => sc c X Y r a * sc c X Y r b) (offN o) e.val hh]
    refine Finset.sum_congr rfl fun u _ => ?_
    rw [← Fin.sum_univ_eq_sum_range (fun k => if max (offN o e.val) (offN o e.val / 128 * 128 + u * 256) ≤ st (offN o) e.val u + k ∧ st (offN o) e.val u + k < offN o (e.val + 1) then sc c X Y (st (offN o) e.val u + k) a * sc c X Y (st (offN o) e.val u + k) b else 0) 256]
    refine Finset.sum_congr rfl fun k _ => ?_
    split
    · rfl
    · exact mul_zero _
/-- The first result as the kernel leaves it. -/
def Hval (o : ℕ → ℕ) : Buf (Elt Ideal) (M3.view.loc (c : Thread nD τ)) := fun i : S64x1024x1024.Idx => HV c X Y o (i 0).val (i 1) (i 2)
theorem hok_val (o : S65.Idx → BitVec 32) (hO : Ok (offN o)) (f0 g : Buf (Elt Ideal) (M3.view.loc (c : Thread nD τ))) (h : HOK c X Y f0 o g) : g = Hval c X Y (offN o) := by
  funext i
  obtain ⟨e, a, b, rfl⟩ : ∃ (e : Fin 64) (a b : Fin 1024), i = (ix3 e a b : S64x1024x1024.Idx) := ⟨i 0, i 1, i 2, by funext t; fin_cases t <;> rfl⟩
  obtain ⟨h1, h2⟩ := h e
  by_cases hm : mt (offN o) e = true
  · have hmem := (mem_pieceH (e := e) (q := ⟨a.val / 256, by omega⟩) (i := (ix3 e a b : S64x1024x1024.Idx))).mpr ⟨rfl, rfl⟩
    have h3 := h2 hm ⟨a.val / 256, by omega⟩ _ hmem
    obtain ⟨x, -, hx⟩ := Finset.mem_map.mp hmem
    rw [← hx, View.write_emb_of_mem _ _ (Finset.mem_univ _), hx] at h3
    refine h3.trans ?_
    have h4 : HV c X Y (offN o) e.val a b = 0 := by
      have h5 : ¬ offN o e.val < offN o (e.val + 1) := of_decide_eq_true hm
      exact Finset.sum_eq_zero fun r _ => if_neg (by omega)
    refine Eq.trans ?_ h4.symm
    show (Scalar.ofBits (F := Ideal) .f32 0x00000000#32 : EReal) = 0
    pointwise
  · obtain ⟨s, fH, fS, hE, hg⟩ := h1 hm
    have h3 := hg (ix3 e a b : S64x1024x1024.Idx) (mem_rowH.mpr rfl)
    rw [← embH e a b, View.write_emb_of_mem _ _ (Finset.mem_univ _), embH] at h3
    refine h3.trans ?_
    refine Eq.trans ?_ (edone_val c X Y o hO e s fS hE a b)
    exact congrArg fS (embO s a b)

end Cert.KernelIdeal.Hand
end
-- ==== Proof.Ideal.Named.lean ====
module
public import proofs.«01_k».proof.Proof.Ideal.Launch
public import Idealize.ShloMosaic.Lib.Pipeline.ValueKit

/-! The same run with the matrices named. -/

@[expose] public section
noncomputable section
namespace Cert.KernelIdeal.Hand
open Cert.KernelIdeal Cert.KernelIdeal.Gen Cert.Sched Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ
open Idealize.ShloMosaic.Pipeline (Dat Cfg Window BodyObligation cellOf)

variable (m : (ℓ : Loc nD τ sig) → Buf (Elt F) ℓ) (ρ : Dev nD → PrngReg)

/-- The contents the run ends at, as a function of the buffer: the matrices' own, and any other as the region found it. -/
def GG (Gm : (c : Dev nD) → Buf (Elt F) ((c.tc : Thread nD τ).loc main_v1_0)) (c : Dev nD) : (b : Ref sig .tc) → Buf (Elt F) ((c.tc : Thread nD τ).loc b) :=
  Function.update (V m c) main_v1_0 (Gm c)
theorem GG_self (Gm) (c : Dev nD) : GG m Gm c main_v1_0 = Gm c := Function.update_self ..

theorem routed0_eq (c : Dev nD) (W : (b : Ref sig .tc) → Buf (Elt F) ((c.tc : Thread nD τ).loc b)) :
    (Pipeline.routed R0 c W : sProp 𝕄) = iprop(M3.view.loc (c : Thread nD τ) ↦{fullShare} W main_v1_0) := by
  unfold Pipeline.routed; rw [BI.bigSep_eq_bigSepL_of_eq [main_v1_0] (by decide) (by decide)]; rfl
theorem PhiDRG0_eq (c : Dev nD) (W : (c : Dev nD) → (b : Ref sig .tc) → Buf (Elt F) ((c.tc : Thread nD τ).loc b)) :
    (Pipeline.ΦDRG osem0 spec0 H0 R0 (V m) W c : sProp 𝕄)
      = iprop(ownBufs c ∗ (∃ r, prngReg c r) ∗ allSems c
          ∗ iprop((M1.view.loc (c : Thread nD τ) ↦{fullShare} V m c main_arg0) ∗ (M2.view.loc (c : Thread nD τ) ↦{fullShare} V m c main_v0))
          ∗ (M3.view.loc (c : Thread nD τ) ↦{fullShare} W c main_v1_0)) := by
  rw [Pipeline.ΦDRG_eq, ownBufs_eq, ownSems00_eq, hbmPts0_eq, routed0_eq]

variable (Gm : (c : Dev nD) → Buf (Elt F) ((c.tc : Thread nD τ).loc main_v1_0))
/-- The matrices are determined. -/
def Det : Prop := ∀ (c : Dev nD) (t : Fin cfg0.N) (f0 g : Buf (Elt F) (M3.view.loc (c : Thread nD τ))), HOK c (V m c main_arg0) (V m c main_v0) f0 (offs m c t) g → g = Gm c

/-- The region's invariant before and after its one point. -/
def PhiV (c : Dev nD) : ℕ → sProp 𝕄
  | 0 => Pipeline.ΦDRG osem0 spec0 H0 R0 (V m) (V m) c
  | _ + 1 => Pipeline.ΦDRG osem0 spec0 H0 R0 (V m) (GG m Gm) c

def datsV (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => cntV (offs m c t)
  Φ t := PhiV m Gm c t.val
  q _ := fullShare
  owed _ := 0

theorem AV_eq (c : Dev nD) (w : Fin cfg0.W) : (datsV m Gm 0 c).A w = V m c (Pipeline.arrRef spec0 w) := by
  dsimp only [datsV]
theorem afterV0 (c : Dev nD) (t : Fin cfg0.N) : (datsV m Gm 0 c).after 0 t = iblk m c 0 t := by dsimp only [datsV]
theorem afterV1 (c : Dev nD) (t : Fin cfg0.N) : (datsV m Gm 0 c).after 1 t = cntV (offs m c t) := by dsimp only [datsV]

def bodyPreV (c : Dev nD) (t : Fin cfg0.N) : sProp 𝕄 :=
  iprop((datsV m Gm 0 c).Φ t.castSucc ∗ (datsV m Gm 0 c).owesAt () t.castSucc
    ∗ (∃ d, owns (c : Thread nD τ) (ms0 t) fullShare ((datsV m Gm 0 c).before 0 t d))
    ∗ (∃ d, owns (c : Thread nD τ) (ms1 t) fullShare ((datsV m Gm 0 c).before 1 t d)))
def bodyPostV (c : Dev nD) (t : Fin cfg0.N) : sProp 𝕄 :=
  iprop((datsV m Gm 0 c).Φ t.succ ∗ (datsV m Gm 0 c).owesAt () t.succ
    ∗ owns (c : Thread nD τ) (ms0 t) fullShare ((datsV m Gm 0 c).after 0 t)
    ∗ owns (c : Thread nD τ) (ms1 t) fullShare ((datsV m Gm 0 c).after 1 t))

theorem sound_bodyV (hd : Det m Gm) (c : Dev nD) (t : Fin cfg0.N) (hO : Ok (offN (offs m c t))) :
    bodyPreV m Gm c t ⊢ wp frame (wpE (defs₀ (F := F)) Variants.none c none) Set.univ (bodyAt0 t) (fun _ => bodyPostV m Gm c t) := by
  unfold bodyPreV bodyPostV
  simp only [before0_0 m (datsV m Gm 0 c) (AV_eq m Gm c 0) (afterV0 m Gm c)]
  obtain rfl := fin_N0 t
  rw [show (datsV m Gm 0 c).Φ t0_0.succ = Pipeline.ΦDRG osem0 spec0 H0 R0 (V m) (GG m Gm) c from rfl, afterV0, afterV1]
  rw [show (datsV m Gm 0 c).Φ t0_0.castSucc = Pipeline.ΦDRG osem0 spec0 H0 R0 (V m) (V m) c from rfl, PhiDRG0_eq, PhiDRG0_eq]
  unfold Dat.owesAt Pipeline.owesWithin
  rw [show (datsV m Gm 0 c).owed t0_0.castSucc = 0 from rfl, show (datsV m Gm 0 c).owed t0_0.succ = 0 from rfl]
  iintro ⟨⟨HS, HP, HQ, ⟨H1, H2⟩, H3⟩, ⟨%W, -, HW⟩, ⟨%d0, H0⟩, ⟨%d1, H4⟩⟩
  iapply (body_run m c t0_0 hO (V m c main_v1_0))
  isplitl [HS HP HQ H1 H2]
  · iapply (Entails.of_eq (show rest m c = _ from by unfold rest; rfl).symm)
    isplitl [HS]; · iexact HS
    isplitl [HP]; · iexact HP
    isplitl [HQ]; · iexact HQ
    isplitl [H1]; · iexact H1
    iexact H2
  isplitl [H3]; · iexact H3
  isplitl [HW]
  · unfold OW; iexists W; iexact HW
  isplitl [H0]; · iexact H0
  isplitl [H4]; · iexists _; iexact H4
  iintro HR ⟨%g, %hg, H3⟩ HW H0 H4
  ihave HR := (Entails.of_eq (show rest m c = _ from by unfold rest; rfl)) $$ HR
  icases HR with ⟨HS, HP, HQ, H1, H2⟩
  isplitl [HS HP HQ H1 H2 H3]
  · isplitl [HS]; · iexact HS
    isplitl [HP]; · iexact HP
    isplitl [HQ]; · iexact HQ
    isplitl [H1 H2]
    · isplitl [H1]; · iexact H1
      iexact H2
    rw [GG_self, ← hd c t0_0 _ g hg]
    iexact H3
  isplitl [HW]
  · ihave HW := (Entails.of_eq (show OW (F := F) c = _ from by unfold OW; rfl)) $$ HW
    icases HW with ⟨%W', HW'⟩
    iexists W'; isplitr; · ipureintro; exact fun _ _ => Or.inl trivial
    iexact HW'
  isplitl [H0]; · iexact H0
  iexact H4

theorem body_obligationV (hd : Det m Gm) (hO : ∀ c t, Ok (offN (offs m c t))) (c : Dev nD) : BodyObligation (datsV (F := F) m Gm 0 c) (defs₀ (F := F)) Variants.none () Set.univ := fun t => by
  rw [bigSep_W0, bigSep_W0, defs₀_row]
  exact triple_restated (sound_bodyV m Gm hd c t (hO c t)) rfl .rfl fun _ => .rfl

set_option backward.isDefEq.respectTransparency.types false in
theorem run_mainV (hd : Det m Gm) (hO : ∀ c t, Ok (offN (offs m c t))) : θ_run defs (onTc (τ := τ) (main (F := F))) (s₀ m ρ) (fun r => Pipeline.FramePostRG cfgs (datsV m Gm) 0 R0 (V m) (GG m Gm) r ∧ r.2.sem = fun _ => 0) :=
  Pipeline.θ_run_frame_dmaRG (Q' := _) cfgs (datsV m Gm) (0 : Fin 1) launch0 osem0 defs₀ Variants.none ownSemFacts0 H0 R0 H0_sub R0_sub m ρ main
    (hbody := fun c => (body_obligationV m Gm hd hO c).loose) (hshare := fun c => (datsV m Gm 0 c).share_full fun _ => rfl)
    (howed := fun _ _ => rfl) (V := V m) (hmain := hmain m Variants.none) (hA := AV_eq m Gm) (G := GG m Gm)
    (hin := fun _ => .rfl) (hout := fun _ => .rfl)

/-- The counts as the run leaves them. -/
theorem arr_counts (c : Dev nD) : (datsV m Gm 0 c).arrAt 1 cfg0.N = cntV (offs m c t0_0) := by
  refine (datsV m Gm 0 c).arrAt_eq_of_covers 1 _ (by decide +kernel) fun t hf y => ?_
  obtain rfl := fin_N0 t
  have e : ∀ t : Fin cfg0.N, win0_1.index t = ![0] := by decide +kernel
  have hb := Window.rect_emb_val win0_1 t0_0 y 0
  rw [e] at hb
  blk_simp
  rw [afterV1]
  refine congrArg _ (funext fun a => Fin.ext ?_)
  obtain rfl : a = 0 := Fin.fin_one_eq_zero a
  exact (hb.trans (by show 0 * _ + _ = _; omega)).symm

theorem value_of_ok (hd : Det m Gm) (hO : ∀ c t, Ok (offN (offs m c t))) : θ_run defs (onTc (τ := τ) (main (F := F))) ⟨m, fun _ => 0, ρ⟩ (fun r => ∀ c : Dev nD,
      r.2.mem ((c.tc : Thread nD τ).loc main_v1_0) = Gm c
      ∧ r.2.mem ((c.tc : Thread nD τ).loc main_v1_1) = cntV (offs m c t0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.2 c main_v1_0 (by decide)).trans (GG_self m Gm c),
      ((h.1.1 c).1 1).trans (arr_counts m Gm c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).1 0).trans (((datsV m Gm 0 c).arrAt_in 0 rfl _).trans ((AV_eq m Gm c 0).trans (V_main_arg2 m c)))⟩) (run_mainV m ρ Gm hd hO)

end Cert.KernelIdeal.Hand
-- ==== Proof.Ideal.Ref.lean ====
module
public import proofs.«01_k».proof.Defs
public import proofs.«01_k».proof.Proof.Gen.ReferenceIdeal
public import proofs.«01_k».proof.Proof.Gen.ReferenceIdeal.Frame
public import Idealize.ShloMosaic.Lib.Claim
public import Idealize.ShloMosaic.Lib.Pipeline.Value
public import Idealize.ShloMosaic.Lib.Pipeline.ValueKit
public import Idealize.ShloMosaic.Lib.Pointwise

/-! The reference's run, its results as functions of its arguments. -/

@[expose] public section
noncomputable section
namespace Cert.ReferenceIdeal.Hand
open Cert.ReferenceIdeal Cert.ReferenceIdeal.Gen
open Idealize.ShloMosaic Idealize.ShloMosaic.TcCoe Idealize.SL.Sem

/-- The scaled codes. -/
def xsR (C : FVec Ideal S32768x1024 .bf16) (M : FVec Ideal S32768x16 .f32) : FVec Ideal S32768x1024 .bf16 :=
  shapeCast S32768x1024 (mulf (shapeCast S32768x16x64 C shapeCasts_S32768x1024_S32768x16x64)
    (broadcastInDim S32768x16x64 ![0, 1, 2] bcast_S32768x16x1_S32768x16x64_0_1_2
      (broadcastInDim S32768x16x1 ![0, 1] bcast_S32768x16_S32768x16x1_0_1 (truncf FTy.bf16 M bitsLt_bf16_f32)))) shapeCasts_S32768x16x64_S32768x1024
/-- Which rows are an expert's. -/
def mkR (o : S65.Idx → BitVec 32) : IVec S64x32768 1 :=
  andi (cmpi CmpIPredicate.sge
      (broadcastInDim S64x32768 ![0, 1] bcast_S1x32768_S64x32768_0_1 (broadcastInDim S1x32768 ![1] bcast_S32768_S1x32768_1 (iotaInDim S32768 32 0)))
      (broadcastInDim S64x32768 ![0, 1] bcast_S64x1_S64x32768_0_1 (broadcastInDim S64x1 ![0] bcast_S64_S64x1_0 (extractStridedSlice S64 ![0] o slices_S65_S64_0))))
    (cmpi CmpIPredicate.slt
      (broadcastInDim S64x32768 ![0, 1] bcast_S1x32768_S64x32768_0_1 (broadcastInDim S1x32768 ![1] bcast_S32768_S1x32768_1 (iotaInDim S32768 32 0)))
      (broadcastInDim S64x32768 ![0, 1] bcast_S64x1_S64x32768_0_1 (broadcastInDim S64x1 ![0] bcast_S64_S64x1_0 (extractStridedSlice S64 ![1] o slices_S65_S64_1))))
/-- The scaled codes of an expert's rows, zero elsewhere. -/
def mxR (o : S65.Idx → BitVec 32) (xs : FVec Ideal S32768x1024 .bf16) : FVec Ideal S64x32768x1024 .bf16 :=
  select (broadcastInDim S64x32768x1024 ![0, 1, 2] bcast_S64x32768x1_S64x32768x1024_0_1_2 (broadcastInDim S64x32768x1 ![0, 1] bcast_S64x32768_S64x32768x1_0_1 (mkR o)))
    (broadcastInDim S64x32768x1024 ![0, 1, 2] bcast_S1x32768x1024_S64x32768x1024_0_1_2 (broadcastInDim S1x32768x1024 ![1, 2] bcast_S32768x1024_S1x32768x1024_1_2 xs))
    (broadcastInDim S64x32768x1024 ![] bcast_S_S64x32768x1024 (constant S_ FTy.bf16 0#16))
def hR (o : S65.Idx → BitVec 32) (xs : FVec Ideal S32768x1024 .bf16) : FVec Ideal S64x1024x1024 .f32 :=
  Host.dotGeneral dot_S64x32768x1024_S32768x1024_S64x1024x1024_1_0_02_1_n_n none (mxR o xs) xs
theorem tail24 (W : Valuation τ sig (Elt Ideal)) : StableHlo.after (List.flatten [hostOps1 (F := Ideal), hostOps1_1, hostOps1_2]) W (Proc.devRef .tc main_v24)
    = hR (W (Proc.devRef .tc main_arg2)) (xsR (W (Proc.devRef .tc main_v0)) (W (Proc.devRef .tc main_arg1))) := by
  simp only [hostOps1, hostOps1_1, hostOps1_2, List.flatten_cons, List.flatten_nil, List.append_nil, List.cons_append, List.nil_append]
  after_results
  rfl
theorem tail27 (W : Valuation τ sig (Elt Ideal)) : StableHlo.after (List.flatten [hostOps1 (F := Ideal), hostOps1_1, hostOps1_2]) W (Proc.devRef .tc main_v27)
    = subi (extractStridedSlice S64 ![1] (W (Proc.devRef .tc main_arg2)) slices_S65_S64_1) (extractStridedSlice S64 ![0] (W (Proc.devRef .tc main_arg2)) slices_S65_S64_0) := by
  simp only [hostOps1, hostOps1_1, hostOps1_2, List.flatten_cons, List.flatten_nil, List.append_nil, List.cons_append, List.nil_append]
  after_results
theorem xsR_apply (C : FVec Ideal S32768x1024 .bf16) (M : FVec Ideal S32768x16 .f32) (r : Fin 32768) (d : Fin 1024) :
    (xsR C M (ix2 r d) : EReal) = (C (ix2 r d) : EReal) * M (ix2 r ⟨d.val / 64, by omega⟩) := by
  unfold xsR
  pointwise
theorem mxR_apply (o : S65.Idx → BitVec 32) (xs : FVec Ideal S32768x1024 .bf16) (e : Fin 64) (r : Fin 32768) (d : Fin 1024) :
    (mxR o xs (ix3 e r d) : EReal) = if (o (ix1 ⟨e.val, by omega⟩)).toInt ≤ (BitVec.ofNat 32 r.val).toInt ∧ (BitVec.ofNat 32 r.val).toInt < (o (ix1 ⟨e.val + 1, by omega⟩)).toInt then xs (ix2 r d) else 0 := by
  unfold mxR mkR
  pointwise
  have e1 : (⟨1 + e.val, by omega⟩ : Fin 65) = ⟨e.val + 1, by omega⟩ := Fin.ext (Nat.add_comm _ _)
  have h : IntOp.andi (IntOp.cmpi CmpIPredicate.sge (BitVec.ofNat 32 r.val) (o (ix1 ⟨e.val, by omega⟩))) (IntOp.cmpi CmpIPredicate.slt (BitVec.ofNat 32 r.val) (o (ix1 ⟨1 + e.val, by omega⟩))) = 1#1
      ↔ ((o (ix1 ⟨e.val, by omega⟩)).toInt ≤ (BitVec.ofNat 32 r.val).toInt ∧ (BitVec.ofNat 32 r.val).toInt < (o (ix1 ⟨e.val + 1, by omega⟩)).toInt) := by
    rw [IntOp.andi_eq_one, IntOp.cmpi_sge, IntOp.cmpi_slt, e1]
  by_cases hp : ((o (ix1 ⟨e.val, by omega⟩)).toInt ≤ (BitVec.ofNat 32 r.val).toInt ∧ (BitVec.ofNat 32 r.val).toInt < (o (ix1 ⟨e.val + 1, by omega⟩)).toInt)
  · rw [if_pos hp]; exact if_pos (h.mpr hp)
  · rw [if_neg hp]; exact if_neg fun h' => hp (h.mp h')
theorem hR_apply (o : S65.Idx → BitVec 32) (xs : FVec Ideal S32768x1024 .bf16) (e : Fin 64) (a b : Fin 1024) :
    (hR o xs (ix3 e a b) : EReal) = ∑ r : Fin 32768, (mxR o xs (ix3 e r a) : EReal) * xs (ix2 r b) := by
  unfold hR
  pointwise
theorem arr0 (m : (ℓ : Loc nD τ sig) → Buf (Elt Ideal) ℓ) (c : Dev nD) : (dats m 0 c).arrAt 1 cfg0.N = (fun i => m ((c.tc : Thread nD τ).loc main_arg0) i : S32768x1024.Idx → EReal) := by
  refine (dats m 0 c).arrAt_eq_of_covers 1 _ (by decide +kernel) fun t hf y => ?_
  blk_simp
  rw [after0_1]
  frame_out
  obtain rfl := fin_N0 t
  show m ((c.tc : Thread nD τ).loc main_arg0) (((View.whole main_arg0).slice (win0_0.rect t0_0)).emb y) = _
  refine congrArg (m ((c.tc : Thread nD τ).loc main_arg0)) ?_
  rfl
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24) = hR (m ((c.tc : Thread nD τ).loc main_arg2)) (xsR (fun i => m ((c.tc : Thread nD τ).loc main_arg0) i : S32768x1024.Idx → EReal) (m ((c.tc : Thread nD τ).loc main_arg1)))
      ∧ r.2.mem ((c.tc : Thread nD τ).loc main_v27) = subi (extractStridedSlice S64 ![1] (m ((c.tc : Thread nD τ).loc main_arg2)) slices_S65_S64_1) (extractStridedSlice S64 ![0] (m ((c.tc : Thread nD τ).loc main_arg2)) slices_S65_S64_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have inj : Function.Injective (Pipeline.arrRef spec0) := by decide
  run_from (run_main m ρ)
  · unfold Pipeline.afterTail₀
    rw [tail24]
    refine congr (congrArg hR ?_) (congr (congrArg xsR ?_) ?_)
    · exact (Pipeline.withArrays_of_ne _ c (V0 m c) _ main_arg2 (by exact (by decide : ∀ w, Pipeline.arrRef spec0 w ≠ main_arg2))).trans (V_main_arg2 m c)
    · exact (Pipeline.withArrays_arr _ inj c (V0 m c) (fun w => (dats m 0 c).arrAt w (cfgs 0).N) 1).trans (arr0 m c)
    · exact (Pipeline.withArrays_of_ne _ c (V0 m c) _ main_arg1 (by exact (by decide : ∀ w, Pipeline.arrRef spec0 w ≠ main_arg1))).trans (V_main_arg1 m c)
  · unfold Pipeline.afterTail₀
    rw [tail27, Pipeline.withArrays_of_ne _ c (V0 m c) _ main_arg2 (by exact (by decide : ∀ w, Pipeline.arrRef spec0 w ≠ main_arg2))]
    rfl
  · exact W_main_arg1 m (dats m) c
  · exact W_main_arg2 m (dats m) c
end Cert.ReferenceIdeal.Hand
end
-- ==== Proof.Ideal.Alg.lean ====
module
public import proofs.«01_k».proof.Proof.Ideal.HVal
public import proofs.«01_k».proof.Proof.Ideal.Named
public import proofs.«01_k».proof.Proof.Ideal.KernelFrame
public import proofs.«01_k».proof.Proof.Ideal.Ref
public import Idealize.ShloMosaic.Lib.Pointwise

/-! The kernel's results and the reference's are the same. -/

@[expose] public section
noncomputable section
namespace Cert.KernelIdeal.Hand
open Cert.KernelIdeal Cert.KernelIdeal.Gen Cert.Sched Cert.Words
open Idealize.ShloMosaic Idealize.ShloMosaic.TcCoe

variable (c : Dev nD)
theorem hv_eq (X : Buf (Elt Ideal) (M1.view.loc (c : Thread nD τ))) (Y : Buf (Elt Ideal) (M2.view.loc (c : Thread nD τ))) (M : FVec Ideal S32768x16 .f32)
    (hY : ∀ (q : Fin 16) (r : Fin 32768), Y (ix2 q r : S16x32768.Idx) = M (ix2 r q)) (o : S65.Idx → BitVec 32) (hO : Ok (offN o)) (e : Fin 64) (a b : Fin 1024) :
    HV c X Y (offN o) e.val a b = Cert.ReferenceIdeal.Hand.hR o (Cert.ReferenceIdeal.Hand.xsR (fun i : S32768x1024.Idx => X i) M) (ix3 e a b) := by
  rw [Cert.ReferenceIdeal.Hand.hR_apply]
  unfold HV
  rw [Finset.sum_range]
  refine Finset.sum_congr rfl fun r _ => ?_
  have hr := r.isLt
  have hl := hO.bound (show e.val ≤ 64 by omega)
  have hh := hO.bound (show e.val + 1 ≤ 64 by omega)
  have i1 : (ix1 ⟨e.val, by omega⟩ : S65.Idx) = i65 e.val (by omega) := by funext t; fin_cases t; rfl
  have i2 : (ix1 ⟨e.val + 1, by omega⟩ : S65.Idx) = i65 (e.val + 1) (by omega) := by funext t; fin_cases t; rfl
  have hlo := offN_of (o := o) (show e.val < 65 by omega)
  have hhi := offN_of (o := o) (show e.val + 1 < 65 by omega)
  have h4 : (BitVec.ofNat 32 r.val).toNat = r.val := by rw [BitVec.toNat_ofNat]; omega
  have hs : ∀ d : Fin 1024, sc c X Y r.val d = Cert.ReferenceIdeal.Hand.xsR (fun i : S32768x1024.Idx => X i) M (ix2 r d) := fun d => by
    rw [Cert.ReferenceIdeal.Hand.xsR_apply, ← hY]
    unfold sc
    rw [dif_pos hr]
  rw [Cert.ReferenceIdeal.Hand.mxR_apply, i1, i2, toInt_of_lt (x := o (i65 e.val (by omega))) (by omega), toInt_of_lt (x := o (i65 (e.val + 1) (by omega))) (by omega), toInt_of_lt (x := BitVec.ofNat 32 r.val) (by omega), h4, ← hlo, ← hhi]
  by_cases hp : offN o e.val ≤ r.val ∧ r.val < offN o (e.val + 1)
  · rw [if_pos hp, if_pos ⟨by omega, by omega⟩, hs, hs]
  · rw [if_neg hp, if_neg (by omega)]
    exact (zero_mul _).symm
theorem cnt_eq (o : S65.Idx → BitVec 32) : cntV o = subi (extractStridedSlice Cert.ReferenceIdeal.S64 ![1] o Cert.ReferenceIdeal.Facts₀.slices_S65_S64_1) (extractStridedSlice Cert.ReferenceIdeal.S64 ![0] o Cert.ReferenceIdeal.Facts₀.slices_S65_S64_0) := by
  funext i
  obtain ⟨e, rfl⟩ : ∃ e : Fin 64, i = (ix1 e : S64.Idx) := ⟨i 0, by funext t; fin_cases t; rfl⟩
  unfold cntV
  pointwise
  have i1 : (ix1 ⟨1 + e.val, by omega⟩ : S65.Idx) = i65 (e.val + 1) (by omega) := by funext t; fin_cases t; exact Fin.ext (Nat.add_comm _ _)
  have i2 : (ix1 ⟨e.val, by omega⟩ : S65.Idx) = i65 e.val (by omega) := by funext t; fin_cases t; rfl
  rw [i1, i2]
  rfl
theorem v0_apply (m : (ℓ : Loc nD τ sig) → Buf (Elt Ideal) ℓ) (q : Fin 16) (r : Fin 32768) : V m c main_v0 (ix2 q r : S16x32768.Idx) = m ((c.tc : Thread nD τ).loc main_arg1) (ix2 r q : S32768x16.Idx) := by
  have h : V m c main_v0 = transpose S16x32768 [1, 0] (m ((c.tc : Thread nD τ).loc main_arg1)) transposes_S32768x16_S16x32768_1_0 := by
    unfold V
    after_results
  rw [h]
  pointwise
theorem det [Cert.Pre_sorted_offsets.Facts] (m : (ℓ : Loc nD τ sig) → Buf (Elt Ideal) ℓ) (h : Cert.Pre_KernelIdeal m) :
    Det m (fun c => Hval c (V m c main_arg0) (V m c main_v0) (offN (m ((c.tc : Thread nD τ).loc main_arg2)))) := by
  intro c t f0 g hg
  refine (hok_val c _ _ _ (ok_offs m h c t) f0 g hg).trans ?_
  rw [offs_eq]
/-- The two results of both programs. -/
theorem alg [Cert.Pre_sorted_offsets.Facts] : Cert.algebraic_KernelIdeal_ReferenceIdeal := by
  intro m g m' g' h ha
  refine ⟨fun c => Hval c (V m c main_arg0) (V m c main_v0) (offN (m ((c.tc : Thread nD τ).loc main_arg2))), fun c => cntV (offs m c t0_0), value_of_ok m g _ (det m h) (ok_offs m h), ?_⟩
  refine (θ_run _ _ _).mono (fun r hr c => ?_) (Cert.ReferenceIdeal.Hand.run m' g')
  obtain ⟨h1, h2, h3, h4, h5⟩ := hr c
  obtain ⟨a0, a1, a2⟩ := ha c
  refine ⟨h1.trans ?_, h2.trans ?_, h3, h4, h5⟩
  · rw [a0, a1, a2]
    funext i
    obtain ⟨e, a, b, rfl⟩ : ∃ (e : Fin 64) (a b : Fin 1024), i = (ix3 e a b : S64x1024x1024.Idx) := ⟨i 0, i 1, i 2, by funext t; fin_cases t <;> rfl⟩
    have hO := ok_offs m h c t0_0
    rw [offs_eq] at hO
    refine Eq.trans ?_ (hv_eq c (V m c main_arg0) (V m c main_v0) (m ((c.tc : Thread nD τ).loc main_arg1)) (fun q r => v0_apply c m q r) _ hO e a b).symm
    rw [V_main_arg0]
  · rw [a2]; show _ = cntV (offs m c t0_0); rw [offs_eq]
    exact (cnt_eq _).symm

end Cert.KernelIdeal.Hand
end
-- ==== Proof.lean ====
/-
  The proof of `Cert.Claim`: the frames of the three programs from their runs, the printed kernel's from its ideal form's; the programs of `preserves` are one program;
  the kernel's two results and the reference's are the same.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_sorted_offsets
public import proofs.«01_k».proof.Proof.Same
public import proofs.«01_k».proof.Proof.Ideal.KernelFrame
public import proofs.«01_k».proof.Proof.Ideal.Alg

@[expose] public section
noncomputable section

namespace Cert.Proof
open Idealize.ShloMosaic Idealize.SL.Sem

theorem claim : Cert.Claim :=
  ⟨Cert.Kernel.Gen.facts, Cert.KernelIdeal.Gen.facts, Cert.ReferenceIdeal.Gen.facts, Cert.Pre_sorted_offsets.Gen.facts,
    fun m ρ h => Cert.Same.frame m ρ h,
    fun m ρ h => Cert.KernelIdeal.Hand.frame_pre m ρ h,
    fun m ρ _ => Cert.ReferenceIdeal.Gen.frame m ρ,
    trivial,
    Cert.KernelIdeal.Hand.alg⟩

end Cert.Proof
end
